-- ==== Defs.lean ====
def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite_ffn [hPre_finite_ffn : Cert.Pre_finite_ffn.Facts] (m : (ℓ : Loc Cert.FfnIdeal.nD Cert.FfnIdeal.τ Cert.FfnIdeal.sig) → Buf (Elt Ideal) ℓ) : Prop :=
  ∀ c : Dev Cert.FfnIdeal.nD,
    (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.2.2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite_ffn [hPre_finite_ffn : Cert.Pre_finite_ffn.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).2.2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).2.2.2 = (fun _ => 1#1)

def Pre_InAbBwd (m : (ℓ : Loc Cert.InAbBwd.nD Cert.InAbBwd.τ Cert.InAbBwd.sig) → Buf (Elt Bits) ℓ) : Prop :=
  True

def Pre_InAbBwdIdeal (m : (ℓ : Loc Cert.InAbBwdIdeal.nD Cert.InAbBwdIdeal.τ Cert.InAbBwdIdeal.sig) → Buf (Elt Ideal) ℓ) : Prop :=
  True

def Pre_InAbBwdRefIdeal (m : (ℓ : Loc Cert.InAbBwdRefIdeal.nD Cert.InAbBwdRefIdeal.τ Cert.InAbBwdRefIdeal.sig) → Buf (Elt Ideal) ℓ) : Prop :=
  True

def Pre_InCdBwd (m : (ℓ : Loc Cert.InCdBwd.nD Cert.InCdBwd.τ Cert.InCdBwd.sig) → Buf (Elt Bits) ℓ) : Prop :=
  True

def Pre_InCdBwdIdeal (m : (ℓ : Loc Cert.InCdBwdIdeal.nD Cert.InCdBwdIdeal.τ Cert.InCdBwdIdeal.sig) → Buf (Elt Ideal) ℓ) : Prop :=
  True

def Pre_InCdBwdRefIdeal (m : (ℓ : Loc Cert.InCdBwdRefIdeal.nD Cert.InCdBwdRefIdeal.τ Cert.InCdBwdRefIdeal.sig) → Buf (Elt Ideal) ℓ) : Prop :=
  True

def Pre_ScConvBwd (m : (ℓ : Loc Cert.ScConvBwd.nD Cert.ScConvBwd.τ Cert.ScConvBwd.sig) → Buf (Elt Bits) ℓ) : Prop :=
  True

def Pre_ScConvBwdIdeal (m : (ℓ : Loc Cert.ScConvBwdIdeal.nD Cert.ScConvBwdIdeal.τ Cert.ScConvBwdIdeal.sig) → Buf (Elt Ideal) ℓ) : Prop :=
  True

def Pre_ScConvBwdRefIdeal (m : (ℓ : Loc Cert.ScConvBwdRefIdeal.nD Cert.ScConvBwdRefIdeal.τ Cert.ScConvBwdRefIdeal.sig) → Buf (Elt Ideal) ℓ) : Prop :=
  True

def Pre_DnConvBwd (m : (ℓ : Loc Cert.DnConvBwd.nD Cert.DnConvBwd.τ Cert.DnConvBwd.sig) → Buf (Elt Bits) ℓ) : Prop :=
  True

def Pre_DnConvBwdIdeal (m : (ℓ : Loc Cert.DnConvBwdIdeal.nD Cert.DnConvBwdIdeal.τ Cert.DnConvBwdIdeal.sig) → Buf (Elt Ideal) ℓ) : Prop :=
  True

def Pre_DnConvBwdRefIdeal (m : (ℓ : Loc Cert.DnConvBwdRefIdeal.nD Cert.DnConvBwdRefIdeal.τ Cert.DnConvBwdRefIdeal.sig) → Buf (Elt Ideal) ℓ) : Prop :=
  True

def Pre_PoolBwd (m : (ℓ : Loc Cert.PoolBwd.nD Cert.PoolBwd.τ Cert.PoolBwd.sig) → Buf (Elt Bits) ℓ) : Prop :=
  True

def Pre_PoolBwdIdeal (m : (ℓ : Loc Cert.PoolBwdIdeal.nD Cert.PoolBwdIdeal.τ Cert.PoolBwdIdeal.sig) → Buf (Elt Ideal) ℓ) : Prop :=
  True

def Pre_PoolBwdIdeal_finite_pool [hPre_finite_pool : Cert.Pre_finite_pool.Facts] (m : (ℓ : Loc Cert.PoolBwdIdeal.nD Cert.PoolBwdIdeal.τ Cert.PoolBwdIdeal.sig) → Buf (Elt Ideal) ℓ) : Prop :=
  ∀ c : Dev Cert.PoolBwdIdeal.nD,
    (Cert.Pre_finite_pool.fn (F := Ideal) (m ((c.tc : Thread Cert.PoolBwdIdeal.nD Cert.PoolBwdIdeal.τ).loc Cert.PoolBwdIdeal.main_arg0)) (m ((c.tc : Thread Cert.PoolBwdIdeal.nD Cert.PoolBwdIdeal.τ).loc Cert.PoolBwdIdeal.main_arg1)) (m ((c.tc : Thread Cert.PoolBwdIdeal.nD Cert.PoolBwdIdeal.τ).loc Cert.PoolBwdIdeal.main_arg2)) (m ((c.tc : Thread Cert.PoolBwdIdeal.nD Cert.PoolBwdIdeal.τ).loc Cert.PoolBwdIdeal.main_arg3))).1 = (fun _ => 1#1)
    ∧ (Cert.Pre_finite_pool.fn (F := Ideal) (m ((c.tc : Thread Cert.PoolBwdIdeal.nD Cert.PoolBwdIdeal.τ).loc Cert.PoolBwdIdeal.main_arg0)) (m ((c.tc : Thread Cert.PoolBwdIdeal.nD Cert.PoolBwdIdeal.τ).loc Cert.PoolBwdIdeal.main_arg1)) (m ((c.tc : Thread Cert.PoolBwdIdeal.nD Cert.PoolBwdIdeal.τ).loc Cert.PoolBwdIdeal.main_arg2)) (m ((c.tc : Thread Cert.PoolBwdIdeal.nD Cert.PoolBwdIdeal.τ).loc Cert.PoolBwdIdeal.main_arg3))).2.1 = (fun _ => 1#1)
    ∧ (Cert.Pre_finite_pool.fn (F := Ideal) (m ((c.tc : Thread Cert.PoolBwdIdeal.nD Cert.PoolBwdIdeal.τ).loc Cert.PoolBwdIdeal.main_arg0)) (m ((c.tc : Thread Cert.PoolBwdIdeal.nD Cert.PoolBwdIdeal.τ).loc Cert.PoolBwdIdeal.main_arg1)) (m ((c.tc : Thread Cert.PoolBwdIdeal.nD Cert.PoolBwdIdeal.τ).loc Cert.PoolBwdIdeal.main_arg2)) (m ((c.tc : Thread Cert.PoolBwdIdeal.nD Cert.PoolBwdIdeal.τ).loc Cert.PoolBwdIdeal.main_arg3))).2.2.1 = (fun _ => 1#1)
    ∧ (Cert.Pre_finite_pool.fn (F := Ideal) (m ((c.tc : Thread Cert.PoolBwdIdeal.nD Cert.PoolBwdIdeal.τ).loc Cert.PoolBwdIdeal.main_arg0)) (m ((c.tc : Thread Cert.PoolBwdIdeal.nD Cert.PoolBwdIdeal.τ).loc Cert.PoolBwdIdeal.main_arg1)) (m ((c.tc : Thread Cert.PoolBwdIdeal.nD Cert.PoolBwdIdeal.τ).loc Cert.PoolBwdIdeal.main_arg2)) (m ((c.tc : Thread Cert.PoolBwdIdeal.nD Cert.PoolBwdIdeal.τ).loc Cert.PoolBwdIdeal.main_arg3))).2.2.2 = (fun _ => 1#1)

def Pre_PoolBwdRefIdeal (m : (ℓ : Loc Cert.PoolBwdRefIdeal.nD Cert.PoolBwdRefIdeal.τ Cert.PoolBwdRefIdeal.sig) → Buf (Elt Ideal) ℓ) : Prop :=
  True

def Pre_PoolBwdRefIdeal_finite_pool [hPre_finite_pool : Cert.Pre_finite_pool.Facts] (m : (ℓ : Loc Cert.PoolBwdRefIdeal.nD Cert.PoolBwdRefIdeal.τ Cert.PoolBwdRefIdeal.sig) → Buf (Elt Ideal) ℓ) : Prop :=
  ∀ c : Dev Cert.PoolBwdRefIdeal.nD,
    (Cert.Pre_finite_pool.fn (F := Ideal) (m ((c.tc : Thread Cert.PoolBwdRefIdeal.nD Cert.PoolBwdRefIdeal.τ).loc Cert.PoolBwdRefIdeal.main_arg0)) (m ((c.tc : Thread Cert.PoolBwdRefIdeal.nD Cert.PoolBwdRefIdeal.τ).loc Cert.PoolBwdRefIdeal.main_arg1)) (m ((c.tc : Thread Cert.PoolBwdRefIdeal.nD Cert.PoolBwdRefIdeal.τ).loc Cert.PoolBwdRefIdeal.main_arg2)) (m ((c.tc : Thread Cert.PoolBwdRefIdeal.nD Cert.PoolBwdRefIdeal.τ).loc Cert.PoolBwdRefIdeal.main_arg3))).1 = (fun _ => 1#1)
    ∧ (Cert.Pre_finite_pool.fn (F := Ideal) (m ((c.tc : Thread Cert.PoolBwdRefIdeal.nD Cert.PoolBwdRefIdeal.τ).loc Cert.PoolBwdRefIdeal.main_arg0)) (m ((c.tc : Thread Cert.PoolBwdRefIdeal.nD Cert.PoolBwdRefIdeal.τ).loc Cert.PoolBwdRefIdeal.main_arg1)) (m ((c.tc : Thread Cert.PoolBwdRefIdeal.nD Cert.PoolBwdRefIdeal.τ).loc Cert.PoolBwdRefIdeal.main_arg2)) (m ((c.tc : Thread Cert.PoolBwdRefIdeal.nD Cert.PoolBwdRefIdeal.τ).loc Cert.PoolBwdRefIdeal.main_arg3))).2.1 = (fun _ => 1#1)
    ∧ (Cert.Pre_finite_pool.fn (F := Ideal) (m ((c.tc : Thread Cert.PoolBwdRefIdeal.nD Cert.PoolBwdRefIdeal.τ).loc Cert.PoolBwdRefIdeal.main_arg0)) (m ((c.tc : Thread Cert.PoolBwdRefIdeal.nD Cert.PoolBwdRefIdeal.τ).loc Cert.PoolBwdRefIdeal.main_arg1)) (m ((c.tc : Thread Cert.PoolBwdRefIdeal.nD Cert.PoolBwdRefIdeal.τ).loc Cert.PoolBwdRefIdeal.main_arg2)) (m ((c.tc : Thread Cert.PoolBwdRefIdeal.nD Cert.PoolBwdRefIdeal.τ).loc Cert.PoolBwdRefIdeal.main_arg3))).2.2.1 = (fun _ => 1#1)
    ∧ (Cert.Pre_finite_pool.fn (F := Ideal) (m ((c.tc : Thread Cert.PoolBwdRefIdeal.nD Cert.PoolBwdRefIdeal.τ).loc Cert.PoolBwdRefIdeal.main_arg0)) (m ((c.tc : Thread Cert.PoolBwdRefIdeal.nD Cert.PoolBwdRefIdeal.τ).loc Cert.PoolBwdRefIdeal.main_arg1)) (m ((c.tc : Thread Cert.PoolBwdRefIdeal.nD Cert.PoolBwdRefIdeal.τ).loc Cert.PoolBwdRefIdeal.main_arg2)) (m ((c.tc : Thread Cert.PoolBwdRefIdeal.nD Cert.PoolBwdRefIdeal.τ).loc Cert.PoolBwdRefIdeal.main_arg3))).2.2.2 = (fun _ => 1#1)

def Pre_SguBwd (m : (ℓ : Loc Cert.SguBwd.nD Cert.SguBwd.τ Cert.SguBwd.sig) → Buf (Elt Bits) ℓ) : Prop :=
  True

def Pre_SguBwdIdeal (m : (ℓ : Loc Cert.SguBwdIdeal.nD Cert.SguBwdIdeal.τ Cert.SguBwdIdeal.sig) → Buf (Elt Ideal) ℓ) : Prop :=
  True

def Pre_SguBwdRefIdeal (m : (ℓ : Loc Cert.SguBwdRefIdeal.nD Cert.SguBwdRefIdeal.τ Cert.SguBwdRefIdeal.sig) → Buf (Elt Ideal) ℓ) : Prop :=
  True

def Pre_DnRecurFwd (m : (ℓ : Loc Cert.DnRecurFwd.nD Cert.DnRecurFwd.τ Cert.DnRecurFwd.sig) → Buf (Elt Bits) ℓ) : Prop :=
  True

def Pre_DnRecurFwdIdeal (m : (ℓ : Loc Cert.DnRecurFwdIdeal.nD Cert.DnRecurFwdIdeal.τ Cert.DnRecurFwdIdeal.sig) → Buf (Elt Ideal) ℓ) : Prop :=
  True

def Pre_DnRecurFwdRefIdeal (m : (ℓ : Loc Cert.DnRecurFwdRefIdeal.nD Cert.DnRecurFwdRefIdeal.τ Cert.DnRecurFwdRefIdeal.sig) → Buf (Elt Ideal) ℓ) : Prop :=
  True

def Pre_ScConvFwd (m : (ℓ : Loc Cert.ScConvFwd.nD Cert.ScConvFwd.τ Cert.ScConvFwd.sig) → Buf (Elt Bits) ℓ) : Prop :=
  True

def Pre_ScConvFwdIdeal (m : (ℓ : Loc Cert.ScConvFwdIdeal.nD Cert.ScConvFwdIdeal.τ Cert.ScConvFwdIdeal.sig) → Buf (Elt Ideal) ℓ) : Prop :=
  True

def Pre_ScConvFwdRefIdeal (m : (ℓ : Loc Cert.ScConvFwdRefIdeal.nD Cert.ScConvFwdRefIdeal.τ Cert.ScConvFwdRefIdeal.sig) → Buf (Elt Ideal) ℓ) : Prop :=
  True

def Pre_DnConvFwd (m : (ℓ : Loc Cert.DnConvFwd.nD Cert.DnConvFwd.τ Cert.DnConvFwd.sig) → Buf (Elt Bits) ℓ) : Prop :=
  True

def Pre_DnConvFwdIdeal (m : (ℓ : Loc Cert.DnConvFwdIdeal.nD Cert.DnConvFwdIdeal.τ Cert.DnConvFwdIdeal.sig) → Buf (Elt Ideal) ℓ) : Prop :=
  True

def Pre_DnConvFwdRefIdeal (m : (ℓ : Loc Cert.DnConvFwdRefIdeal.nD Cert.DnConvFwdRefIdeal.τ Cert.DnConvFwdRefIdeal.sig) → Buf (Elt Ideal) ℓ) : Prop :=
  True

def Pre_PoolFwd (m : (ℓ : Loc Cert.PoolFwd.nD Cert.PoolFwd.τ Cert.PoolFwd.sig) → Buf (Elt Bits) ℓ) : Prop :=
  True

def Pre_PoolFwdIdeal (m : (ℓ : Loc Cert.PoolFwdIdeal.nD Cert.PoolFwdIdeal.τ Cert.PoolFwdIdeal.sig) → Buf (Elt Ideal) ℓ) : Prop :=
  True

def Pre_PoolFwdIdeal_finite_pool_fwd [hPre_finite_pool_fwd : Cert.Pre_finite_pool_fwd.Facts] (m : (ℓ : Loc Cert.PoolFwdIdeal.nD Cert.PoolFwdIdeal.τ Cert.PoolFwdIdeal.sig) → Buf (Elt Ideal) ℓ) : Prop :=
  ∀ c : Dev Cert.PoolFwdIdeal.nD,
    (Cert.Pre_finite_pool_fwd.fn (F := Ideal) (m ((c.tc : Thread Cert.PoolFwdIdeal.nD Cert.PoolFwdIdeal.τ).loc Cert.PoolFwdIdeal.main_arg0)) (m ((c.tc : Thread Cert.PoolFwdIdeal.nD Cert.PoolFwdIdeal.τ).loc Cert.PoolFwdIdeal.main_arg1)) (m ((c.tc : Thread Cert.PoolFwdIdeal.nD Cert.PoolFwdIdeal.τ).loc Cert.PoolFwdIdeal.main_arg2))) = (fun _ => 1#1)

def Pre_PoolFwdRefIdeal (m : (ℓ : Loc Cert.PoolFwdRefIdeal.nD Cert.PoolFwdRefIdeal.τ Cert.PoolFwdRefIdeal.sig) → Buf (Elt Ideal) ℓ) : Prop :=
  True

def Pre_PoolFwdRefIdeal_finite_pool_fwd [hPre_finite_pool_fwd : Cert.Pre_finite_pool_fwd.Facts] (m : (ℓ : Loc Cert.PoolFwdRefIdeal.nD Cert.PoolFwdRefIdeal.τ Cert.PoolFwdRefIdeal.sig) → Buf (Elt Ideal) ℓ) : Prop :=
  ∀ c : Dev Cert.PoolFwdRefIdeal.nD,
    (Cert.Pre_finite_pool_fwd.fn (F := Ideal) (m ((c.tc : Thread Cert.PoolFwdRefIdeal.nD Cert.PoolFwdRefIdeal.τ).loc Cert.PoolFwdRefIdeal.main_arg0)) (m ((c.tc : Thread Cert.PoolFwdRefIdeal.nD Cert.PoolFwdRefIdeal.τ).loc Cert.PoolFwdRefIdeal.main_arg1)) (m ((c.tc : Thread Cert.PoolFwdRefIdeal.nD Cert.PoolFwdRefIdeal.τ).loc Cert.PoolFwdRefIdeal.main_arg2))) = (fun _ => 1#1)

def Pre_SguFwd (m : (ℓ : Loc Cert.SguFwd.nD Cert.SguFwd.τ Cert.SguFwd.sig) → Buf (Elt Bits) ℓ) : Prop :=
  True

def Pre_SguFwdIdeal (m : (ℓ : Loc Cert.SguFwdIdeal.nD Cert.SguFwdIdeal.τ Cert.SguFwdIdeal.sig) → Buf (Elt Ideal) ℓ) : Prop :=
  True

def Pre_SguFwdRefIdeal (m : (ℓ : Loc Cert.SguFwdRefIdeal.nD Cert.SguFwdRefIdeal.τ Cert.SguFwdRefIdeal.sig) → Buf (Elt Ideal) ℓ) : Prop :=
  True

def Pre_DnPrepFwd (m : (ℓ : Loc Cert.DnPrepFwd.nD Cert.DnPrepFwd.τ Cert.DnPrepFwd.sig) → Buf (Elt Bits) ℓ) : Prop :=
  True

def Pre_DnPrepFwdIdeal (m : (ℓ : Loc Cert.DnPrepFwdIdeal.nD Cert.DnPrepFwdIdeal.τ Cert.DnPrepFwdIdeal.sig) → Buf (Elt Ideal) ℓ) : Prop :=
  True

def Pre_DnPrepFwdIdeal_finite_prep [hPre_finite_prep : Cert.Pre_finite_prep.Facts] (m : (ℓ : Loc Cert.DnPrepFwdIdeal.nD Cert.DnPrepFwdIdeal.τ Cert.DnPrepFwdIdeal.sig) → Buf (Elt Ideal) ℓ) : Prop :=
  ∀ c : Dev Cert.DnPrepFwdIdeal.nD,
    (Cert.Pre_finite_prep.fn (F := Ideal) (m ((c.tc : Thread Cert.DnPrepFwdIdeal.nD Cert.DnPrepFwdIdeal.τ).loc Cert.DnPrepFwdIdeal.main_arg0)) (m ((c.tc : Thread Cert.DnPrepFwdIdeal.nD Cert.DnPrepFwdIdeal.τ).loc Cert.DnPrepFwdIdeal.main_arg1)) (m ((c.tc : Thread Cert.DnPrepFwdIdeal.nD Cert.DnPrepFwdIdeal.τ).loc Cert.DnPrepFwdIdeal.main_arg2)) (m ((c.tc : Thread Cert.DnPrepFwdIdeal.nD Cert.DnPrepFwdIdeal.τ).loc Cert.DnPrepFwdIdeal.main_arg3)) (m ((c.tc : Thread Cert.DnPrepFwdIdeal.nD Cert.DnPrepFwdIdeal.τ).loc Cert.DnPrepFwdIdeal.main_arg4))).1 = (fun _ => 1#1)
    ∧ (Cert.Pre_finite_prep.fn (F := Ideal) (m ((c.tc : Thread Cert.DnPrepFwdIdeal.nD Cert.DnPrepFwdIdeal.τ).loc Cert.DnPrepFwdIdeal.main_arg0)) (m ((c.tc : Thread Cert.DnPrepFwdIdeal.nD Cert.DnPrepFwdIdeal.τ).loc Cert.DnPrepFwdIdeal.main_arg1)) (m ((c.tc : Thread Cert.DnPrepFwdIdeal.nD Cert.DnPrepFwdIdeal.τ).loc Cert.DnPrepFwdIdeal.main_arg2)) (m ((c.tc : Thread Cert.DnPrepFwdIdeal.nD Cert.DnPrepFwdIdeal.τ).loc Cert.DnPrepFwdIdeal.main_arg3)) (m ((c.tc : Thread Cert.DnPrepFwdIdeal.nD Cert.DnPrepFwdIdeal.τ).loc Cert.DnPrepFwdIdeal.main_arg4))).2.1 = (fun _ => 1#1)
    ∧ (Cert.Pre_finite_prep.fn (F := Ideal) (m ((c.tc : Thread Cert.DnPrepFwdIdeal.nD Cert.DnPrepFwdIdeal.τ).loc Cert.DnPrepFwdIdeal.main_arg0)) (m ((c.tc : Thread Cert.DnPrepFwdIdeal.nD Cert.DnPrepFwdIdeal.τ).loc Cert.DnPrepFwdIdeal.main_arg1)) (m ((c.tc : Thread Cert.DnPrepFwdIdeal.nD Cert.DnPrepFwdIdeal.τ).loc Cert.DnPrepFwdIdeal.main_arg2)) (m ((c.tc : Thread Cert.DnPrepFwdIdeal.nD Cert.DnPrepFwdIdeal.τ).loc Cert.DnPrepFwdIdeal.main_arg3)) (m ((c.tc : Thread Cert.DnPrepFwdIdeal.nD Cert.DnPrepFwdIdeal.τ).loc Cert.DnPrepFwdIdeal.main_arg4))).2.2.1 = (fun _ => 1#1)
    ∧ (Cert.Pre_finite_prep.fn (F := Ideal) (m ((c.tc : Thread Cert.DnPrepFwdIdeal.nD Cert.DnPrepFwdIdeal.τ).loc Cert.DnPrepFwdIdeal.main_arg0)) (m ((c.tc : Thread Cert.DnPrepFwdIdeal.nD Cert.DnPrepFwdIdeal.τ).loc Cert.DnPrepFwdIdeal.main_arg1)) (m ((c.tc : Thread Cert.DnPrepFwdIdeal.nD Cert.DnPrepFwdIdeal.τ).loc Cert.DnPrepFwdIdeal.main_arg2)) (m ((c.tc : Thread Cert.DnPrepFwdIdeal.nD Cert.DnPrepFwdIdeal.τ).loc Cert.DnPrepFwdIdeal.main_arg3)) (m ((c.tc : Thread Cert.DnPrepFwdIdeal.nD Cert.DnPrepFwdIdeal.τ).loc Cert.DnPrepFwdIdeal.main_arg4))).2.2.2.1 = (fun _ => 1#1)
    ∧ (Cert.Pre_finite_prep.fn (F := Ideal) (m ((c.tc : Thread Cert.DnPrepFwdIdeal.nD Cert.DnPrepFwdIdeal.τ).loc Cert.DnPrepFwdIdeal.main_arg0)) (m ((c.tc : Thread Cert.DnPrepFwdIdeal.nD Cert.DnPrepFwdIdeal.τ).loc Cert.DnPrepFwdIdeal.main_arg1)) (m ((c.tc : Thread Cert.DnPrepFwdIdeal.nD Cert.DnPrepFwdIdeal.τ).loc Cert.DnPrepFwdIdeal.main_arg2)) (m ((c.tc : Thread Cert.DnPrepFwdIdeal.nD Cert.DnPrepFwdIdeal.τ).loc Cert.DnPrepFwdIdeal.main_arg3)) (m ((c.tc : Thread Cert.DnPrepFwdIdeal.nD Cert.DnPrepFwdIdeal.τ).loc Cert.DnPrepFwdIdeal.main_arg4))).2.2.2.2 = (fun _ => 1#1)

def Pre_DnPrepFwdRefIdeal (m : (ℓ : Loc Cert.DnPrepFwdRefIdeal.nD Cert.DnPrepFwdRefIdeal.τ Cert.DnPrepFwdRefIdeal.sig) → Buf (Elt Ideal) ℓ) : Prop :=
  True

def Pre_DnPrepFwdRefIdeal_finite_prep [hPre_finite_prep : Cert.Pre_finite_prep.Facts] (m : (ℓ : Loc Cert.DnPrepFwdRefIdeal.nD Cert.DnPrepFwdRefIdeal.τ Cert.DnPrepFwdRefIdeal.sig) → Buf (Elt Ideal) ℓ) : Prop :=
  ∀ c : Dev Cert.DnPrepFwdRefIdeal.nD,
    (Cert.Pre_finite_prep.fn (F := Ideal) (m ((c.tc : Thread Cert.DnPrepFwdRefIdeal.nD Cert.DnPrepFwdRefIdeal.τ).loc Cert.DnPrepFwdRefIdeal.main_arg0)) (m ((c.tc : Thread Cert.DnPrepFwdRefIdeal.nD Cert.DnPrepFwdRefIdeal.τ).loc Cert.DnPrepFwdRefIdeal.main_arg1)) (m ((c.tc : Thread Cert.DnPrepFwdRefIdeal.nD Cert.DnPrepFwdRefIdeal.τ).loc Cert.DnPrepFwdRefIdeal.main_arg2)) (m ((c.tc : Thread Cert.DnPrepFwdRefIdeal.nD Cert.DnPrepFwdRefIdeal.τ).loc Cert.DnPrepFwdRefIdeal.main_arg3)) (m ((c.tc : Thread Cert.DnPrepFwdRefIdeal.nD Cert.DnPrepFwdRefIdeal.τ).loc Cert.DnPrepFwdRefIdeal.main_arg4))).1 = (fun _ => 1#1)
    ∧ (Cert.Pre_finite_prep.fn (F := Ideal) (m ((c.tc : Thread Cert.DnPrepFwdRefIdeal.nD Cert.DnPrepFwdRefIdeal.τ).loc Cert.DnPrepFwdRefIdeal.main_arg0)) (m ((c.tc : Thread Cert.DnPrepFwdRefIdeal.nD Cert.DnPrepFwdRefIdeal.τ).loc Cert.DnPrepFwdRefIdeal.main_arg1)) (m ((c.tc : Thread Cert.DnPrepFwdRefIdeal.nD Cert.DnPrepFwdRefIdeal.τ).loc Cert.DnPrepFwdRefIdeal.main_arg2)) (m ((c.tc : Thread Cert.DnPrepFwdRefIdeal.nD Cert.DnPrepFwdRefIdeal.τ).loc Cert.DnPrepFwdRefIdeal.main_arg3)) (m ((c.tc : Thread Cert.DnPrepFwdRefIdeal.nD Cert.DnPrepFwdRefIdeal.τ).loc Cert.DnPrepFwdRefIdeal.main_arg4))).2.1 = (fun _ => 1#1)
    ∧ (Cert.Pre_finite_prep.fn (F := Ideal) (m ((c.tc : Thread Cert.DnPrepFwdRefIdeal.nD Cert.DnPrepFwdRefIdeal.τ).loc Cert.DnPrepFwdRefIdeal.main_arg0)) (m ((c.tc : Thread Cert.DnPrepFwdRefIdeal.nD Cert.DnPrepFwdRefIdeal.τ).loc Cert.DnPrepFwdRefIdeal.main_arg1)) (m ((c.tc : Thread Cert.DnPrepFwdRefIdeal.nD Cert.DnPrepFwdRefIdeal.τ).loc Cert.DnPrepFwdRefIdeal.main_arg2)) (m ((c.tc : Thread Cert.DnPrepFwdRefIdeal.nD Cert.DnPrepFwdRefIdeal.τ).loc Cert.DnPrepFwdRefIdeal.main_arg3)) (m ((c.tc : Thread Cert.DnPrepFwdRefIdeal.nD Cert.DnPrepFwdRefIdeal.τ).loc Cert.DnPrepFwdRefIdeal.main_arg4))).2.2.1 = (fun _ => 1#1)
    ∧ (Cert.Pre_finite_prep.fn (F := Ideal) (m ((c.tc : Thread Cert.DnPrepFwdRefIdeal.nD Cert.DnPrepFwdRefIdeal.τ).loc Cert.DnPrepFwdRefIdeal.main_arg0)) (m ((c.tc : Thread Cert.DnPrepFwdRefIdeal.nD Cert.DnPrepFwdRefIdeal.τ).loc Cert.DnPrepFwdRefIdeal.main_arg1)) (m ((c.tc : Thread Cert.DnPrepFwdRefIdeal.nD Cert.DnPrepFwdRefIdeal.τ).loc Cert.DnPrepFwdRefIdeal.main_arg2)) (m ((c.tc : Thread Cert.DnPrepFwdRefIdeal.nD Cert.DnPrepFwdRefIdeal.τ).loc Cert.DnPrepFwdRefIdeal.main_arg3)) (m ((c.tc : Thread Cert.DnPrepFwdRefIdeal.nD Cert.DnPrepFwdRefIdeal.τ).loc Cert.DnPrepFwdRefIdeal.main_arg4))).2.2.2.1 = (fun _ => 1#1)
    ∧ (Cert.Pre_finite_prep.fn (F := Ideal) (m ((c.tc : Thread Cert.DnPrepFwdRefIdeal.nD Cert.DnPrepFwdRefIdeal.τ).loc Cert.DnPrepFwdRefIdeal.main_arg0)) (m ((c.tc : Thread Cert.DnPrepFwdRefIdeal.nD Cert.DnPrepFwdRefIdeal.τ).loc Cert.DnPrepFwdRefIdeal.main_arg1)) (m ((c.tc : Thread Cert.DnPrepFwdRefIdeal.nD Cert.DnPrepFwdRefIdeal.τ).loc Cert.DnPrepFwdRefIdeal.main_arg2)) (m ((c.tc : Thread Cert.DnPrepFwdRefIdeal.nD Cert.DnPrepFwdRefIdeal.τ).loc Cert.DnPrepFwdRefIdeal.main_arg3)) (m ((c.tc : Thread Cert.DnPrepFwdRefIdeal.nD Cert.DnPrepFwdRefIdeal.τ).loc Cert.DnPrepFwdRefIdeal.main_arg4))).2.2.2.2 = (fun _ => 1#1)

def Pre_InAbFwd (m : (ℓ : Loc Cert.InAbFwd.nD Cert.InAbFwd.τ Cert.InAbFwd.sig) → Buf (Elt Bits) ℓ) : Prop :=
  True

def Pre_InAbFwdIdeal (m : (ℓ : Loc Cert.InAbFwdIdeal.nD Cert.InAbFwdIdeal.τ Cert.InAbFwdIdeal.sig) → Buf (Elt Ideal) ℓ) : Prop :=
  True

def Pre_InAbFwdRefIdeal (m : (ℓ : Loc Cert.InAbFwdRefIdeal.nD Cert.InAbFwdRefIdeal.τ Cert.InAbFwdRefIdeal.sig) → Buf (Elt Ideal) ℓ) : Prop :=
  True

def Pre_InCdFwd (m : (ℓ : Loc Cert.InCdFwd.nD Cert.InCdFwd.τ Cert.InCdFwd.sig) → Buf (Elt Bits) ℓ) : Prop :=
  True

def Pre_InCdFwdIdeal (m : (ℓ : Loc Cert.InCdFwdIdeal.nD Cert.InCdFwdIdeal.τ Cert.InCdFwdIdeal.sig) → Buf (Elt Ideal) ℓ) : Prop :=
  True

def Pre_InCdFwdRefIdeal (m : (ℓ : Loc Cert.InCdFwdRefIdeal.nD Cert.InCdFwdRefIdeal.τ Cert.InCdFwdRefIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdRefIdeal (m : (ℓ : Loc Cert.OutFwdRefIdeal.nD Cert.OutFwdRefIdeal.τ Cert.OutFwdRefIdeal.sig) → Buf (Elt Ideal) ℓ) : Prop :=
  True

def Pre_OutBwd (m : (ℓ : Loc Cert.OutBwd.nD Cert.OutBwd.τ Cert.OutBwd.sig) → Buf (Elt Bits) ℓ) : Prop :=
  True

def Pre_OutBwdIdeal (m : (ℓ : Loc Cert.OutBwdIdeal.nD Cert.OutBwdIdeal.τ Cert.OutBwdIdeal.sig) → Buf (Elt Ideal) ℓ) : Prop :=
  True

def Pre_OutBwdRefIdeal (m : (ℓ : Loc Cert.OutBwdRefIdeal.nD Cert.OutBwdRefIdeal.τ Cert.OutBwdRefIdeal.sig) → Buf (Elt Ideal) ℓ) : Prop :=
  True

def Pre_Wgrad (m : (ℓ : Loc Cert.Wgrad.nD Cert.Wgrad.τ Cert.Wgrad.sig) → Buf (Elt Bits) ℓ) : Prop :=
  True

def Pre_WgradIdeal (m : (ℓ : Loc Cert.WgradIdeal.nD Cert.WgradIdeal.τ Cert.WgradIdeal.sig) → Buf (Elt Ideal) ℓ) : Prop :=
  True

def Pre_WgradRefIdeal (m : (ℓ : Loc Cert.WgradRefIdeal.nD Cert.WgradRefIdeal.τ Cert.WgradRefIdeal.sig) → Buf (Elt Ideal) ℓ) : Prop :=
  True

def Pre_Adamw (m : (ℓ : Loc Cert.Adamw.nD Cert.Adamw.τ Cert.Adamw.sig) → Buf (Elt Bits) ℓ) : Prop :=
  True

def Pre_AdamwIdeal (m : (ℓ : Loc Cert.AdamwIdeal.nD Cert.AdamwIdeal.τ Cert.AdamwIdeal.sig) → Buf (Elt Ideal) ℓ) : Prop :=
  True

def Pre_AdamwRefIdeal (m : (ℓ : Loc Cert.AdamwRefIdeal.nD Cert.AdamwRefIdeal.τ Cert.AdamwRefIdeal.sig) → Buf (Elt Ideal) ℓ) : Prop :=
  True

def Pre_Sum8 (m : (ℓ : Loc Cert.Sum8.nD Cert.Sum8.τ Cert.Sum8.sig) → Buf (Elt Bits) ℓ) : Prop :=
  True

def Pre_Sum8Ideal (m : (ℓ : Loc Cert.Sum8Ideal.nD Cert.Sum8Ideal.τ Cert.Sum8Ideal.sig) → Buf (Elt Ideal) ℓ) : Prop :=
  True

def Pre_Sum8RefIdeal (m : (ℓ : Loc Cert.Sum8RefIdeal.nD Cert.Sum8RefIdeal.τ Cert.Sum8RefIdeal.sig) → Buf (Elt Ideal) ℓ) : Prop :=
  True

def Pre_SumSlots (m : (ℓ : Loc Cert.SumSlots.nD Cert.SumSlots.τ Cert.SumSlots.sig) → Buf (Elt Bits) ℓ) : Prop :=
  True

def Pre_SumSlotsIdeal (m : (ℓ : Loc Cert.SumSlotsIdeal.nD Cert.SumSlotsIdeal.τ Cert.SumSlotsIdeal.sig) → Buf (Elt Ideal) ℓ) : Prop :=
  True

def Pre_SumSlotsRefIdeal (m : (ℓ : Loc Cert.SumSlotsRefIdeal.nD Cert.SumSlotsRefIdeal.τ Cert.SumSlotsRefIdeal.sig) → Buf (Elt Ideal) ℓ) : Prop :=
  True

def Pre_AdamwUp (m : (ℓ : Loc Cert.AdamwUp.nD Cert.AdamwUp.τ Cert.AdamwUp.sig) → Buf (Elt Bits) ℓ) : Prop :=
  True

def Pre_AdamwUpIdeal (m : (ℓ : Loc Cert.AdamwUpIdeal.nD Cert.AdamwUpIdeal.τ Cert.AdamwUpIdeal.sig) → Buf (Elt Ideal) ℓ) : Prop :=
  True

def Pre_AdamwUpRefIdeal (m : (ℓ : Loc Cert.AdamwUpRefIdeal.nD Cert.AdamwUpRefIdeal.τ Cert.AdamwUpRefIdeal.sig) → Buf (Elt Ideal) ℓ) : Prop :=
  True

def Pre_AdamwCd (m : (ℓ : Loc Cert.AdamwCd.nD Cert.AdamwCd.τ Cert.AdamwCd.sig) → Buf (Elt Bits) ℓ) : Prop :=
  True

def Pre_AdamwCdIdeal (m : (ℓ : Loc Cert.AdamwCdIdeal.nD Cert.AdamwCdIdeal.τ Cert.AdamwCdIdeal.sig) → Buf (Elt Ideal) ℓ) : Prop :=
  True

def Pre_AdamwCdRefIdeal (m : (ℓ : Loc Cert.AdamwCdRefIdeal.nD Cert.AdamwCdRefIdeal.τ Cert.AdamwCdRefIdeal.sig) → Buf (Elt Ideal) ℓ) : Prop :=
  True

def Pre_AdamwAb (m : (ℓ : Loc Cert.AdamwAb.nD Cert.AdamwAb.τ Cert.AdamwAb.sig) → Buf (Elt Bits) ℓ) : Prop :=
  True

def Pre_AdamwAbIdeal (m : (ℓ : Loc Cert.AdamwAbIdeal.nD Cert.AdamwAbIdeal.τ Cert.AdamwAbIdeal.sig) → Buf (Elt Ideal) ℓ) : Prop :=
  True

def Pre_AdamwAbRefIdeal (m : (ℓ : Loc Cert.AdamwAbRefIdeal.nD Cert.AdamwAbRefIdeal.τ Cert.AdamwAbRefIdeal.sig) → Buf (Elt Ideal) ℓ) : Prop :=
  True

def Pre_AdamwOut (m : (ℓ : Loc Cert.AdamwOut.nD Cert.AdamwOut.τ Cert.AdamwOut.sig) → Buf (Elt Bits) ℓ) : Prop :=
  True

def Pre_AdamwOutIdeal (m : (ℓ : Loc Cert.AdamwOutIdeal.nD Cert.AdamwOutIdeal.τ Cert.AdamwOutIdeal.sig) → Buf (Elt Ideal) ℓ) : Prop :=
  True

def Pre_AdamwOutRefIdeal (m : (ℓ : Loc Cert.AdamwOutRefIdeal.nD Cert.AdamwOutRefIdeal.τ Cert.AdamwOutRefIdeal.sig) → Buf (Elt Ideal) ℓ) : Prop :=
  True

def Pre_AdamwPack (m : (ℓ : Loc Cert.AdamwPack.nD Cert.AdamwPack.τ Cert.AdamwPack.sig) → Buf (Elt Bits) ℓ) : Prop :=
  True

def Pre_AdamwPackIdeal (m : (ℓ : Loc Cert.AdamwPackIdeal.nD Cert.AdamwPackIdeal.τ Cert.AdamwPackIdeal.sig) → Buf (Elt Ideal) ℓ) : Prop :=
  True

def Pre_AdamwPackRefIdeal (m : (ℓ : Loc Cert.AdamwPackRefIdeal.nD Cert.AdamwPackRefIdeal.τ Cert.AdamwPackRefIdeal.sig) → Buf (Elt Ideal) ℓ) : Prop :=
  True

def Pre_Sum8Cd (m : (ℓ : Loc Cert.Sum8Cd.nD Cert.Sum8Cd.τ Cert.Sum8Cd.sig) → Buf (Elt Bits) ℓ) : Prop :=
  True

def Pre_Sum8CdIdeal (m : (ℓ : Loc Cert.Sum8CdIdeal.nD Cert.Sum8CdIdeal.τ Cert.Sum8CdIdeal.sig) → Buf (Elt Ideal) ℓ) : Prop :=
  True

def Pre_Sum8CdRefIdeal (m : (ℓ : Loc Cert.Sum8CdRefIdeal.nD Cert.Sum8CdRefIdeal.τ Cert.Sum8CdRefIdeal.sig) → Buf (Elt Ideal) ℓ) : Prop :=
  True

def Pre_Sum8Ab (m : (ℓ : Loc Cert.Sum8Ab.nD Cert.Sum8Ab.τ Cert.Sum8Ab.sig) → Buf (Elt Bits) ℓ) : Prop :=
  True

def Pre_Sum8AbIdeal (m : (ℓ : Loc Cert.Sum8AbIdeal.nD Cert.Sum8AbIdeal.τ Cert.Sum8AbIdeal.sig) → Buf (Elt Ideal) ℓ) : Prop :=
  True

def Pre_Sum8AbRefIdeal (m : (ℓ : Loc Cert.Sum8AbRefIdeal.nD Cert.Sum8AbRefIdeal.τ Cert.Sum8AbRefIdeal.sig) → Buf (Elt Ideal) ℓ) : Prop :=
  True

def Pre_Sum8Out (m : (ℓ : Loc Cert.Sum8Out.nD Cert.Sum8Out.τ Cert.Sum8Out.sig) → Buf (Elt Bits) ℓ) : Prop :=
  True

def Pre_Sum8OutIdeal (m : (ℓ : Loc Cert.Sum8OutIdeal.nD Cert.Sum8OutIdeal.τ Cert.Sum8OutIdeal.sig) → Buf (Elt Ideal) ℓ) : Prop :=
  True

def Pre_Sum8OutRefIdeal (m : (ℓ : Loc Cert.Sum8OutRefIdeal.nD Cert.Sum8OutRefIdeal.τ Cert.Sum8OutRefIdeal.sig) → Buf (Elt Ideal) ℓ) : Prop :=
  True

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnIdeal_pre_finite_ffn [hFfnIdeal : Cert.FfnIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite_ffn m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnRefIdeal_pre_finite_ffn [hFfnRefIdeal : Cert.FfnRefIdeal.Facts] [hPre_finite_ffn : Cert.Pre_finite_ffn.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite_ffn m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_InAbBwd [hInAbBwd : Cert.InAbBwd.Facts] : Prop :=
  ∀ (m : (ℓ : Loc Cert.InAbBwd.nD Cert.InAbBwd.τ Cert.InAbBwd.sig) → Buf (Elt Bits) ℓ) (g : Dev Cert.InAbBwd.nD → PrngReg), Pre_InAbBwd m →
    θ_run (Cert.InAbBwd.defs (F := Bits)) (onTc (τ := Cert.InAbBwd.τ) (Cert.InAbBwd.main (F := Bits))) ⟨m, fun _ => 0, g⟩ (fun r => (∀ c : Dev Cert.InAbBwd.nD,
      r.2.mem ((c.tc : Thread Cert.InAbBwd.nD Cert.InAbBwd.τ).loc Cert.InAbBwd.main_arg0) = m ((c.tc : Thread Cert.InAbBwd.nD Cert.InAbBwd.τ).loc Cert.InAbBwd.main_arg0)
      ∧ r.2.mem ((c.tc : Thread Cert.InAbBwd.nD Cert.InAbBwd.τ).loc Cert.InAbBwd.main_arg1) = m ((c.tc : Thread Cert.InAbBwd.nD Cert.InAbBwd.τ).loc Cert.InAbBwd.main_arg1)
      ∧ r.2.mem ((c.tc : Thread Cert.InAbBwd.nD Cert.InAbBwd.τ).loc Cert.InAbBwd.main_arg2) = m ((c.tc : Thread Cert.InAbBwd.nD Cert.InAbBwd.τ).loc Cert.InAbBwd.main_arg2)
      ∧ r.2.mem ((c.tc : Thread Cert.InAbBwd.nD Cert.InAbBwd.τ).loc Cert.InAbBwd.main_arg3) = m ((c.tc : Thread Cert.InAbBwd.nD Cert.InAbBwd.τ).loc Cert.InAbBwd.main_arg3)
      ∧ r.2.mem ((c.tc : Thread Cert.InAbBwd.nD Cert.InAbBwd.τ).loc Cert.InAbBwd.main_arg4) = m ((c.tc : Thread Cert.InAbBwd.nD Cert.InAbBwd.τ).loc Cert.InAbBwd.main_arg4))
      ∧ r.2.sem = fun _ => 0)

def quiescent_InAbBwdIdeal [hInAbBwdIdeal : Cert.InAbBwdIdeal.Facts] : Prop :=
  ∀ (m : (ℓ : Loc Cert.InAbBwdIdeal.nD Cert.InAbBwdIdeal.τ Cert.InAbBwdIdeal.sig) → Buf (Elt Ideal) ℓ) (g : Dev Cert.InAbBwdIdeal.nD → PrngReg), Pre_InAbBwdIdeal m →
    θ_run (Cert.InAbBwdIdeal.defs (F := Ideal)) (onTc (τ := Cert.InAbBwdIdeal.τ) (Cert.InAbBwdIdeal.main (F := Ideal))) ⟨m, fun _ => 0, g⟩ (fun r => (∀ c : Dev Cert.InAbBwdIdeal.nD,
      r.2.mem ((c.tc : Thread Cert.InAbBwdIdeal.nD Cert.InAbBwdIdeal.τ).loc Cert.InAbBwdIdeal.main_arg0) = m ((c.tc : Thread Cert.InAbBwdIdeal.nD Cert.InAbBwdIdeal.τ).loc Cert.InAbBwdIdeal.main_arg0)
      ∧ r.2.mem ((c.tc : Thread Cert.InAbBwdIdeal.nD Cert.InAbBwdIdeal.τ).loc Cert.InAbBwdIdeal.main_arg1) = m ((c.tc : Thread Cert.InAbBwdIdeal.nD Cert.InAbBwdIdeal.τ).loc Cert.InAbBwdIdeal.main_arg1)
      ∧ r.2.mem ((c.tc : Thread Cert.InAbBwdIdeal.nD Cert.InAbBwdIdeal.τ).loc Cert.InAbBwdIdeal.main_arg2) = m ((c.tc : Thread Cert.InAbBwdIdeal.nD Cert.InAbBwdIdeal.τ).loc Cert.InAbBwdIdeal.main_arg2)
      ∧ r.2.mem ((c.tc : Thread Cert.InAbBwdIdeal.nD Cert.InAbBwdIdeal.τ).loc Cert.InAbBwdIdeal.main_arg3) = m ((c.tc : Thread Cert.InAbBwdIdeal.nD Cert.InAbBwdIdeal.τ).loc Cert.InAbBwdIdeal.main_arg3)
      ∧ r.2.mem ((c.tc : Thread Cert.InAbBwdIdeal.nD Cert.InAbBwdIdeal.τ).loc Cert.InAbBwdIdeal.main_arg4) = m ((c.tc : Thread Cert.InAbBwdIdeal.nD Cert.InAbBwdIdeal.τ).loc Cert.InAbBwdIdeal.main_arg4))
      ∧ r.2.sem = fun _ => 0)

def quiescent_InAbBwdRefIdeal [hInAbBwdRefIdeal : Cert.InAbBwdRefIdeal.Facts] : Prop :=
  ∀ (m : (ℓ : Loc Cert.InAbBwdRefIdeal.nD Cert.InAbBwdRefIdeal.τ Cert.InAbBwdRefIdeal.sig) → Buf (Elt Ideal) ℓ) (g : Dev Cert.InAbBwdRefIdeal.nD → PrngReg), Pre_InAbBwdRefIdeal m →
    θ_run (Cert.InAbBwdRefIdeal.defs (F := Ideal)) (onTc (τ := Cert.InAbBwdRefIdeal.τ) (Cert.InAbBwdRefIdeal.main (F := Ideal))) ⟨m, fun _ => 0, g⟩ (fun r => (∀ c : Dev Cert.InAbBwdRefIdeal.nD,
      r.2.mem ((c.tc : Thread Cert.InAbBwdRefIdeal.nD Cert.InAbBwdRefIdeal.τ).loc Cert.InAbBwdRefIdeal.main_arg0) = m ((c.tc : Thread Cert.InAbBwdRefIdeal.nD Cert.InAbBwdRefIdeal.τ).loc Cert.InAbBwdRefIdeal.main_arg0)
      ∧ r.2.mem ((c.tc : Thread Cert.InAbBwdRefIdeal.nD Cert.InAbBwdRefIdeal.τ).loc Cert.InAbBwdRefIdeal.main_arg1) = m ((c.tc : Thread Cert.InAbBwdRefIdeal.nD Cert.InAbBwdRefIdeal.τ).loc Cert.InAbBwdRefIdeal.main_arg1)
      ∧ r.2.mem ((c.tc : Thread Cert.InAbBwdRefIdeal.nD Cert.InAbBwdRefIdeal.τ).loc Cert.InAbBwdRefIdeal.main_arg2) = m ((c.tc : Thread Cert.InAbBwdRefIdeal.nD Cert.InAbBwdRefIdeal.τ).loc Cert.InAbBwdRefIdeal.main_arg2)
      ∧ r.2.mem ((c.tc : Thread Cert.InAbBwdRefIdeal.nD Cert.InAbBwdRefIdeal.τ).loc Cert.InAbBwdRefIdeal.main_arg3) = m ((c.tc : Thread Cert.InAbBwdRefIdeal.nD Cert.InAbBwdRefIdeal.τ).loc Cert.InAbBwdRefIdeal.main_arg3)
      ∧ r.2.mem ((c.tc : Thread Cert.InAbBwdRefIdeal.nD Cert.InAbBwdRefIdeal.τ).loc Cert.InAbBwdRefIdeal.main_arg4) = m ((c.tc : Thread Cert.InAbBwdRefIdeal.nD Cert.InAbBwdRefIdeal.τ).loc Cert.InAbBwdRefIdeal.main_arg4))
      ∧ r.2.sem = fun _ => 0)

def quiescent_InCdBwd [hInCdBwd : Cert.InCdBwd.Facts] : Prop :=
  ∀ (m : (ℓ : Loc Cert.InCdBwd.nD Cert.InCdBwd.τ Cert.InCdBwd.sig) → Buf (Elt Bits) ℓ) (g : Dev Cert.InCdBwd.nD → PrngReg), Pre_InCdBwd m →
    θ_run (Cert.InCdBwd.defs (F := Bits)) (onTc (τ := Cert.InCdBwd.τ) (Cert.InCdBwd.main (F := Bits))) ⟨m, fun _ => 0, g⟩ (fun r => (∀ c : Dev Cert.InCdBwd.nD,
      r.2.mem ((c.tc : Thread Cert.InCdBwd.nD Cert.InCdBwd.τ).loc Cert.InCdBwd.main_arg0) = m ((c.tc : Thread Cert.InCdBwd.nD Cert.InCdBwd.τ).loc Cert.InCdBwd.main_arg0)
      ∧ r.2.mem ((c.tc : Thread Cert.InCdBwd.nD Cert.InCdBwd.τ).loc Cert.InCdBwd.main_arg1) = m ((c.tc : Thread Cert.InCdBwd.nD Cert.InCdBwd.τ).loc Cert.InCdBwd.main_arg1)
      ∧ r.2.mem ((c.tc : Thread Cert.InCdBwd.nD Cert.InCdBwd.τ).loc Cert.InCdBwd.main_arg2) = m ((c.tc : Thread Cert.InCdBwd.nD Cert.InCdBwd.τ).loc Cert.InCdBwd.main_arg2)
      ∧ r.2.mem ((c.tc : Thread Cert.InCdBwd.nD Cert.InCdBwd.τ).loc Cert.InCdBwd.main_arg3) = m ((c.tc : Thread Cert.InCdBwd.nD Cert.InCdBwd.τ).loc Cert.InCdBwd.main_arg3)
      ∧ r.2.mem ((c.tc : Thread Cert.InCdBwd.nD Cert.InCdBwd.τ).loc Cert.InCdBwd.main_arg4) = m ((c.tc : Thread Cert.InCdBwd.nD Cert.InCdBwd.τ).loc Cert.InCdBwd.main_arg4))
      ∧ r.2.sem = fun _ => 0)

def quiescent_InCdBwdIdeal [hInCdBwdIdeal : Cert.InCdBwdIdeal.Facts] : Prop :=
  ∀ (m : (ℓ : Loc Cert.InCdBwdIdeal.nD Cert.InCdBwdIdeal.τ Cert.InCdBwdIdeal.sig) → Buf (Elt Ideal) ℓ) (g : Dev Cert.InCdBwdIdeal.nD → PrngReg), Pre_InCdBwdIdeal m →
    θ_run (Cert.InCdBwdIdeal.defs (F := Ideal)) (onTc (τ := Cert.InCdBwdIdeal.τ) (Cert.InCdBwdIdeal.main (F := Ideal))) ⟨m, fun _ => 0, g⟩ (fun r => (∀ c : Dev Cert.InCdBwdIdeal.nD,
      r.2.mem ((c.tc : Thread Cert.InCdBwdIdeal.nD Cert.InCdBwdIdeal.τ).loc Cert.InCdBwdIdeal.main_arg0) = m ((c.tc : Thread Cert.InCdBwdIdeal.nD Cert.InCdBwdIdeal.τ).loc Cert.InCdBwdIdeal.main_arg0)
      ∧ r.2.mem ((c.tc : Thread Cert.InCdBwdIdeal.nD Cert.InCdBwdIdeal.τ).loc Cert.InCdBwdIdeal.main_arg1) = m ((c.tc : Thread Cert.InCdBwdIdeal.nD Cert.InCdBwdIdeal.τ).loc Cert.InCdBwdIdeal.main_arg1)
      ∧ r.2.mem ((c.tc : Thread Cert.InCdBwdIdeal.nD Cert.InCdBwdIdeal.τ).loc Cert.InCdBwdIdeal.main_arg2) = m ((c.tc : Thread Cert.InCdBwdIdeal.nD Cert.InCdBwdIdeal.τ).loc Cert.InCdBwdIdeal.main_arg2)
      ∧ r.2.mem ((c.tc : Thread Cert.InCdBwdIdeal.nD Cert.InCdBwdIdeal.τ).loc Cert.InCdBwdIdeal.main_arg3) = m ((c.tc : Thread Cert.InCdBwdIdeal.nD Cert.InCdBwdIdeal.τ).loc Cert.InCdBwdIdeal.main_arg3)
      ∧ r.2.mem ((c.tc : Thread Cert.InCdBwdIdeal.nD Cert.InCdBwdIdeal.τ).loc Cert.InCdBwdIdeal.main_arg4) = m ((c.tc : Thread Cert.InCdBwdIdeal.nD Cert.InCdBwdIdeal.τ).loc Cert.InCdBwdIdeal.main_arg4))
      ∧ r.2.sem = fun _ => 0)

def quiescent_InCdBwdRefIdeal [hInCdBwdRefIdeal : Cert.InCdBwdRefIdeal.Facts] : Prop :=
  ∀ (m : (ℓ : Loc Cert.InCdBwdRefIdeal.nD Cert.InCdBwdRefIdeal.τ Cert.InCdBwdRefIdeal.sig) → Buf (Elt Ideal) ℓ) (g : Dev Cert.InCdBwdRefIdeal.nD → PrngReg), Pre_InCdBwdRefIdeal m →
    θ_run (Cert.InCdBwdRefIdeal.defs (F := Ideal)) (onTc (τ := Cert.InCdBwdRefIdeal.τ) (Cert.InCdBwdRefIdeal.main (F := Ideal))) ⟨m, fun _ => 0, g⟩ (fun r => (∀ c : Dev Cert.InCdBwdRefIdeal.nD,
      r.2.mem ((c.tc : Thread Cert.InCdBwdRefIdeal.nD Cert.InCdBwdRefIdeal.τ).loc Cert.InCdBwdRefIdeal.main_arg0) = m ((c.tc : Thread Cert.InCdBwdRefIdeal.nD Cert.InCdBwdRefIdeal.τ).loc Cert.InCdBwdRefIdeal.main_arg0)
      ∧ r.2.mem ((c.tc : Thread Cert.InCdBwdRefIdeal.nD Cert.InCdBwdRefIdeal.τ).loc Cert.InCdBwdRefIdeal.main_arg1) = m ((c.tc : Thread Cert.InCdBwdRefIdeal.nD Cert.InCdBwdRefIdeal.τ).loc Cert.InCdBwdRefIdeal.main_arg1)
      ∧ r.2.mem ((c.tc : Thread Cert.InCdBwdRefIdeal.nD Cert.InCdBwdRefIdeal.τ).loc Cert.InCdBwdRefIdeal.main_arg2) = m ((c.tc : Thread Cert.InCdBwdRefIdeal.nD Cert.InCdBwdRefIdeal.τ).loc Cert.InCdBwdRefIdeal.main_arg2)
      ∧ r.2.mem ((c.tc : Thread Cert.InCdBwdRefIdeal.nD Cert.InCdBwdRefIdeal.τ).loc Cert.InCdBwdRefIdeal.main_arg3) = m ((c.tc : Thread Cert.InCdBwdRefIdeal.nD Cert.InCdBwdRefIdeal.τ).loc Cert.InCdBwdRefIdeal.main_arg3)
      ∧ r.2.mem ((c.tc : Thread Cert.InCdBwdRefIdeal.nD Cert.InCdBwdRefIdeal.τ).loc Cert.InCdBwdRefIdeal.main_arg4) = m ((c.tc : Thread Cert.InCdBwdRefIdeal.nD Cert.InCdBwdRefIdeal.τ).loc Cert.InCdBwdRefIdeal.main_arg4))
      ∧ r.2.sem = fun _ => 0)

def quiescent_ScConvBwd [hScConvBwd : Cert.ScConvBwd.Facts] : Prop :=
  ∀ (m : (ℓ : Loc Cert.ScConvBwd.nD Cert.ScConvBwd.τ Cert.ScConvBwd.sig) → Buf (Elt Bits) ℓ) (g : Dev Cert.ScConvBwd.nD → PrngReg), Pre_ScConvBwd m →
    θ_run (Cert.ScConvBwd.defs (F := Bits)) (onTc (τ := Cert.ScConvBwd.τ) (Cert.ScConvBwd.main (F := Bits))) ⟨m, fun _ => 0, g⟩ (fun r => (∀ c : Dev Cert.ScConvBwd.nD,
      r.2.mem ((c.tc : Thread Cert.ScConvBwd.nD Cert.ScConvBwd.τ).loc Cert.ScConvBwd.main_arg0) = m ((c.tc : Thread Cert.ScConvBwd.nD Cert.ScConvBwd.τ).loc Cert.ScConvBwd.main_arg0)
      ∧ r.2.mem ((c.tc : Thread Cert.ScConvBwd.nD Cert.ScConvBwd.τ).loc Cert.ScConvBwd.main_arg1) = m ((c.tc : Thread Cert.ScConvBwd.nD Cert.ScConvBwd.τ).loc Cert.ScConvBwd.main_arg1)
      ∧ r.2.mem ((c.tc : Thread Cert.ScConvBwd.nD Cert.ScConvBwd.τ).loc Cert.ScConvBwd.main_arg2) = m ((c.tc : Thread Cert.ScConvBwd.nD Cert.ScConvBwd.τ).loc Cert.ScConvBwd.main_arg2)
      ∧ r.2.mem ((c.tc : Thread Cert.ScConvBwd.nD Cert.ScConvBwd.τ).loc Cert.ScConvBwd.main_arg3) = m ((c.tc : Thread Cert.ScConvBwd.nD Cert.ScConvBwd.τ).loc Cert.ScConvBwd.main_arg3)
      ∧ r.2.mem ((c.tc : Thread Cert.ScConvBwd.nD Cert.ScConvBwd.τ).loc Cert.ScConvBwd.main_arg4) = m ((c.tc : Thread Cert.ScConvBwd.nD Cert.ScConvBwd.τ).loc Cert.ScConvBwd.main_arg4))
      ∧ r.2.sem = fun _ => 0)

def quiescent_ScConvBwdIdeal [hScConvBwdIdeal : Cert.ScConvBwdIdeal.Facts] : Prop :=
  ∀ (m : (ℓ : Loc Cert.ScConvBwdIdeal.nD Cert.ScConvBwdIdeal.τ Cert.ScConvBwdIdeal.sig) → Buf (Elt Ideal) ℓ) (g : Dev Cert.ScConvBwdIdeal.nD → PrngReg), Pre_ScConvBwdIdeal m →
    θ_run (Cert.ScConvBwdIdeal.defs (F := Ideal)) (onTc (τ := Cert.ScConvBwdIdeal.τ) (Cert.ScConvBwdIdeal.main (F := Ideal))) ⟨m, fun _ => 0, g⟩ (fun r => (∀ c : Dev Cert.ScConvBwdIdeal.nD,
      r.2.mem ((c.tc : Thread Cert.ScConvBwdIdeal.nD Cert.ScConvBwdIdeal.τ).loc Cert.ScConvBwdIdeal.main_arg0) = m ((c.tc : Thread Cert.ScConvBwdIdeal.nD Cert.ScConvBwdIdeal.τ).loc Cert.ScConvBwdIdeal.main_arg0)
      ∧ r.2.mem ((c.tc : Thread Cert.ScConvBwdIdeal.nD Cert.ScConvBwdIdeal.τ).loc Cert.ScConvBwdIdeal.main_arg1) = m ((c.tc : Thread Cert.ScConvBwdIdeal.nD Cert.ScConvBwdIdeal.τ).loc Cert.ScConvBwdIdeal.main_arg1)
      ∧ r.2.mem ((c.tc : Thread Cert.ScConvBwdIdeal.nD Cert.ScConvBwdIdeal.τ).loc Cert.ScConvBwdIdeal.main_arg2) = m ((c.tc : Thread Cert.ScConvBwdIdeal.nD Cert.ScConvBwdIdeal.τ).loc Cert.ScConvBwdIdeal.main_arg2)
      ∧ r.2.mem ((c.tc : Thread Cert.ScConvBwdIdeal.nD Cert.ScConvBwdIdeal.τ).loc Cert.ScConvBwdIdeal.main_arg3) = m ((c.tc : Thread Cert.ScConvBwdIdeal.nD Cert.ScConvBwdIdeal.τ).loc Cert.ScConvBwdIdeal.main_arg3)
      ∧ r.2.mem ((c.tc : Thread Cert.ScConvBwdIdeal.nD Cert.ScConvBwdIdeal.τ).loc Cert.ScConvBwdIdeal.main_arg4) = m ((c.tc : Thread Cert.ScConvBwdIdeal.nD Cert.ScConvBwdIdeal.τ).loc Cert.ScConvBwdIdeal.main_arg4))
      ∧ r.2.sem = fun _ => 0)

def quiescent_ScConvBwdRefIdeal [hScConvBwdRefIdeal : Cert.ScConvBwdRefIdeal.Facts] : Prop :=
  ∀ (m : (ℓ : Loc Cert.ScConvBwdRefIdeal.nD Cert.ScConvBwdRefIdeal.τ Cert.ScConvBwdRefIdeal.sig) → Buf (Elt Ideal) ℓ) (g : Dev Cert.ScConvBwdRefIdeal.nD → PrngReg), Pre_ScConvBwdRefIdeal m →
    θ_run (Cert.ScConvBwdRefIdeal.defs (F := Ideal)) (onTc (τ := Cert.ScConvBwdRefIdeal.τ) (Cert.ScConvBwdRefIdeal.main (F := Ideal))) ⟨m, fun _ => 0, g⟩ (fun r => (∀ c : Dev Cert.ScConvBwdRefIdeal.nD,
      r.2.mem ((c.tc : Thread Cert.ScConvBwdRefIdeal.nD Cert.ScConvBwdRefIdeal.τ).loc Cert.ScConvBwdRefIdeal.main_arg0) = m ((c.tc : Thread Cert.ScConvBwdRefIdeal.nD Cert.ScConvBwdRefIdeal.τ).loc Cert.ScConvBwdRefIdeal.main_arg0)
      ∧ r.2.mem ((c.tc : Thread Cert.ScConvBwdRefIdeal.nD Cert.ScConvBwdRefIdeal.τ).loc Cert.ScConvBwdRefIdeal.main_arg1) = m ((c.tc : Thread Cert.ScConvBwdRefIdeal.nD Cert.ScConvBwdRefIdeal.τ).loc Cert.ScConvBwdRefIdeal.main_arg1)
      ∧ r.2.mem ((c.tc : Thread Cert.ScConvBwdRefIdeal.nD Cert.ScConvBwdRefIdeal.τ).loc Cert.ScConvBwdRefIdeal.main_arg2) = m ((c.tc : Thread Cert.ScConvBwdRefIdeal.nD Cert.ScConvBwdRefIdeal.τ).loc Cert.ScConvBwdRefIdeal.main_arg2)
      ∧ r.2.mem ((c.tc : Thread Cert.ScConvBwdRefIdeal.nD Cert.ScConvBwdRefIdeal.τ).loc Cert.ScConvBwdRefIdeal.main_arg3) = m ((c.tc : Thread Cert.ScConvBwdRefIdeal.nD Cert.ScConvBwdRefIdeal.τ).loc Cert.ScConvBwdRefIdeal.main_arg3)
      ∧ r.2.mem ((c.tc : Thread Cert.ScConvBwdRefIdeal.nD Cert.ScConvBwdRefIdeal.τ).loc Cert.ScConvBwdRefIdeal.main_arg4) = m ((c.tc : Thread Cert.ScConvBwdRefIdeal.nD Cert.ScConvBwdRefIdeal.τ).loc Cert.ScConvBwdRefIdeal.main_arg4))
      ∧ r.2.sem = fun _ => 0)

def quiescent_DnConvBwd [hDnConvBwd : Cert.DnConvBwd.Facts] : Prop :=
  ∀ (m : (ℓ : Loc Cert.DnConvBwd.nD Cert.DnConvBwd.τ Cert.DnConvBwd.sig) → Buf (Elt Bits) ℓ) (g : Dev Cert.DnConvBwd.nD → PrngReg), Pre_DnConvBwd m →
    θ_run (Cert.DnConvBwd.defs (F := Bits)) (onTc (τ := Cert.DnConvBwd.τ) (Cert.DnConvBwd.main (F := Bits))) ⟨m, fun _ => 0, g⟩ (fun r => (∀ c : Dev Cert.DnConvBwd.nD,
      r.2.mem ((c.tc : Thread Cert.DnConvBwd.nD Cert.DnConvBwd.τ).loc Cert.DnConvBwd.main_arg0) = m ((c.tc : Thread Cert.DnConvBwd.nD Cert.DnConvBwd.τ).loc Cert.DnConvBwd.main_arg0)
      ∧ r.2.mem ((c.tc : Thread Cert.DnConvBwd.nD Cert.DnConvBwd.τ).loc Cert.DnConvBwd.main_arg1) = m ((c.tc : Thread Cert.DnConvBwd.nD Cert.DnConvBwd.τ).loc Cert.DnConvBwd.main_arg1)
      ∧ r.2.mem ((c.tc : Thread Cert.DnConvBwd.nD Cert.DnConvBwd.τ).loc Cert.DnConvBwd.main_arg2) = m ((c.tc : Thread Cert.DnConvBwd.nD Cert.DnConvBwd.τ).loc Cert.DnConvBwd.main_arg2))
      ∧ r.2.sem = fun _ => 0)

def quiescent_DnConvBwdIdeal [hDnConvBwdIdeal : Cert.DnConvBwdIdeal.Facts] : Prop :=
  ∀ (m : (ℓ : Loc Cert.DnConvBwdIdeal.nD Cert.DnConvBwdIdeal.τ Cert.DnConvBwdIdeal.sig) → Buf (Elt Ideal) ℓ) (g : Dev Cert.DnConvBwdIdeal.nD → PrngReg), Pre_DnConvBwdIdeal m →
    θ_run (Cert.DnConvBwdIdeal.defs (F := Ideal)) (onTc (τ := Cert.DnConvBwdIdeal.τ) (Cert.DnConvBwdIdeal.main (F := Ideal))) ⟨m, fun _ => 0, g⟩ (fun r => (∀ c : Dev Cert.DnConvBwdIdeal.nD,
      r.2.mem ((c.tc : Thread Cert.DnConvBwdIdeal.nD Cert.DnConvBwdIdeal.τ).loc Cert.DnConvBwdIdeal.main_arg0) = m ((c.tc : Thread Cert.DnConvBwdIdeal.nD Cert.DnConvBwdIdeal.τ).loc Cert.DnConvBwdIdeal.main_arg0)
      ∧ r.2.mem ((c.tc : Thread Cert.DnConvBwdIdeal.nD Cert.DnConvBwdIdeal.τ).loc Cert.DnConvBwdIdeal.main_arg1) = m ((c.tc : Thread Cert.DnConvBwdIdeal.nD Cert.DnConvBwdIdeal.τ).loc Cert.DnConvBwdIdeal.main_arg1)
      ∧ r.2.mem ((c.tc : Thread Cert.DnConvBwdIdeal.nD Cert.DnConvBwdIdeal.τ).loc Cert.DnConvBwdIdeal.main_arg2) = m ((c.tc : Thread Cert.DnConvBwdIdeal.nD Cert.DnConvBwdIdeal.τ).loc Cert.DnConvBwdIdeal.main_arg2))
      ∧ r.2.sem = fun _ => 0)

def quiescent_DnConvBwdRefIdeal [hDnConvBwdRefIdeal : Cert.DnConvBwdRefIdeal.Facts] : Prop :=
  ∀ (m : (ℓ : Loc Cert.DnConvBwdRefIdeal.nD Cert.DnConvBwdRefIdeal.τ Cert.DnConvBwdRefIdeal.sig) → Buf (Elt Ideal) ℓ) (g : Dev Cert.DnConvBwdRefIdeal.nD → PrngReg), Pre_DnConvBwdRefIdeal m →
    θ_run (Cert.DnConvBwdRefIdeal.defs (F := Ideal)) (onTc (τ := Cert.DnConvBwdRefIdeal.τ) (Cert.DnConvBwdRefIdeal.main (F := Ideal))) ⟨m, fun _ => 0, g⟩ (fun r => (∀ c : Dev Cert.DnConvBwdRefIdeal.nD,
      r.2.mem ((c.tc : Thread Cert.DnConvBwdRefIdeal.nD Cert.DnConvBwdRefIdeal.τ).loc Cert.DnConvBwdRefIdeal.main_arg0) = m ((c.tc : Thread Cert.DnConvBwdRefIdeal.nD Cert.DnConvBwdRefIdeal.τ).loc Cert.DnConvBwdRefIdeal.main_arg0)
      ∧ r.2.mem ((c.tc : Thread Cert.DnConvBwdRefIdeal.nD Cert.DnConvBwdRefIdeal.τ).loc Cert.DnConvBwdRefIdeal.main_arg1) = m ((c.tc : Thread Cert.DnConvBwdRefIdeal.nD Cert.DnConvBwdRefIdeal.τ).loc Cert.DnConvBwdRefIdeal.main_arg1)
      ∧ r.2.mem ((c.tc : Thread Cert.DnConvBwdRefIdeal.nD Cert.DnConvBwdRefIdeal.τ).loc Cert.DnConvBwdRefIdeal.main_arg2) = m ((c.tc : Thread Cert.DnConvBwdRefIdeal.nD Cert.DnConvBwdRefIdeal.τ).loc Cert.DnConvBwdRefIdeal.main_arg2))
      ∧ r.2.sem = fun _ => 0)

def quiescent_PoolBwd [hPoolBwd : Cert.PoolBwd.Facts] : Prop :=
  ∀ (m : (ℓ : Loc Cert.PoolBwd.nD Cert.PoolBwd.τ Cert.PoolBwd.sig) → Buf (Elt Bits) ℓ) (g : Dev Cert.PoolBwd.nD → PrngReg), Pre_PoolBwd m →
    θ_run (Cert.PoolBwd.defs (F := Bits)) (onTc (τ := Cert.PoolBwd.τ) (Cert.PoolBwd.main (F := Bits))) ⟨m, fun _ => 0, g⟩ (fun r => (∀ c : Dev Cert.PoolBwd.nD,
      r.2.mem ((c.tc : Thread Cert.PoolBwd.nD Cert.PoolBwd.τ).loc Cert.PoolBwd.main_arg0) = m ((c.tc : Thread Cert.PoolBwd.nD Cert.PoolBwd.τ).loc Cert.PoolBwd.main_arg0)
      ∧ r.2.mem ((c.tc : Thread Cert.PoolBwd.nD Cert.PoolBwd.τ).loc Cert.PoolBwd.main_arg1) = m ((c.tc : Thread Cert.PoolBwd.nD Cert.PoolBwd.τ).loc Cert.PoolBwd.main_arg1)
      ∧ r.2.mem ((c.tc : Thread Cert.PoolBwd.nD Cert.PoolBwd.τ).loc Cert.PoolBwd.main_arg2) = m ((c.tc : Thread Cert.PoolBwd.nD Cert.PoolBwd.τ).loc Cert.PoolBwd.main_arg2)
      ∧ r.2.mem ((c.tc : Thread Cert.PoolBwd.nD Cert.PoolBwd.τ).loc Cert.PoolBwd.main_arg3) = m ((c.tc : Thread Cert.PoolBwd.nD Cert.PoolBwd.τ).loc Cert.PoolBwd.main_arg3))
      ∧ r.2.sem = fun _ => 0)

def quiescent_PoolBwdIdeal [hPoolBwdIdeal : Cert.PoolBwdIdeal.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg), Pre_PoolBwdIdeal m →
    θ_run (Cert.PoolBwdIdeal.defs (F := Ideal)) (onTc (τ := Cert.PoolBwdIdeal.τ) (Cert.PoolBwdIdeal.main (F := Ideal))) ⟨m, fun _ => 0, g⟩ (fun r => (∀ c : Dev Cert.PoolBwdIdeal.nD,
      r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
      ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
      ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
      ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3))
      ∧ r.2.sem = fun _ => 0)

def quiescent_PoolBwdIdeal_pre_finite_pool [hPoolBwdIdeal : Cert.PoolBwdIdeal.Facts] [hPre_finite_pool : Cert.Pre_finite_pool.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg), Pre_PoolBwdIdeal_finite_pool m →
    θ_run (Cert.PoolBwdIdeal.defs (F := Ideal)) (onTc (τ := Cert.PoolBwdIdeal.τ) (Cert.PoolBwdIdeal.main (F := Ideal))) ⟨m, fun _ => 0, g⟩ (fun r => (∀ c : Dev Cert.PoolBwdIdeal.nD,
      r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
      ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
      ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
      ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3))
      ∧ r.2.sem = fun _ => 0)

def quiescent_PoolBwdRefIdeal [hPoolBwdRefIdeal : Cert.PoolBwdRefIdeal.Facts] : Prop :=
  ∀ (m : (ℓ : Loc Cert.PoolBwdRefIdeal.nD Cert.PoolBwdRefIdeal.τ Cert.PoolBwdRefIdeal.sig) → Buf (Elt Ideal) ℓ) (g : Dev Cert.PoolBwdRefIdeal.nD → PrngReg), Pre_PoolBwdRefIdeal m →
    θ_run (Cert.PoolBwdRefIdeal.defs (F := Ideal)) (onTc (τ := Cert.PoolBwdRefIdeal.τ) (Cert.PoolBwdRefIdeal.main (F := Ideal))) ⟨m, fun _ => 0, g⟩ (fun r => (∀ c : Dev Cert.PoolBwdRefIdeal.nD,
      r.2.mem ((c.tc : Thread Cert.PoolBwdRefIdeal.nD Cert.PoolBwdRefIdeal.τ).loc Cert.PoolBwdRefIdeal.main_arg0) = m ((c.tc : Thread Cert.PoolBwdRefIdeal.nD Cert.PoolBwdRefIdeal.τ).loc Cert.PoolBwdRefIdeal.main_arg0)
      ∧ r.2.mem ((c.tc : Thread Cert.PoolBwdRefIdeal.nD Cert.PoolBwdRefIdeal.τ).loc Cert.PoolBwdRefIdeal.main_arg1) = m ((c.tc : Thread Cert.PoolBwdRefIdeal.nD Cert.PoolBwdRefIdeal.τ).loc Cert.PoolBwdRefIdeal.main_arg1)
      ∧ r.2.mem ((c.tc : Thread Cert.PoolBwdRefIdeal.nD Cert.PoolBwdRefIdeal.τ).loc Cert.PoolBwdRefIdeal.main_arg2) = m ((c.tc : Thread Cert.PoolBwdRefIdeal.nD Cert.PoolBwdRefIdeal.τ).loc Cert.PoolBwdRefIdeal.main_arg2)
      ∧ r.2.mem ((c.tc : Thread Cert.PoolBwdRefIdeal.nD Cert.PoolBwdRefIdeal.τ).loc Cert.PoolBwdRefIdeal.main_arg3) = m ((c.tc : Thread Cert.PoolBwdRefIdeal.nD Cert.PoolBwdRefIdeal.τ).loc Cert.PoolBwdRefIdeal.main_arg3))
      ∧ r.2.sem = fun _ => 0)

def quiescent_PoolBwdRefIdeal_pre_finite_pool [hPoolBwdRefIdeal : Cert.PoolBwdRefIdeal.Facts] [hPre_finite_pool : Cert.Pre_finite_pool.Facts] : Prop :=
  ∀ (m : (ℓ : Loc Cert.PoolBwdRefIdeal.nD Cert.PoolBwdRefIdeal.τ Cert.PoolBwdRefIdeal.sig) → Buf (Elt Ideal) ℓ) (g : Dev Cert.PoolBwdRefIdeal.nD → PrngReg), Pre_PoolBwdRefIdeal_finite_pool m →
    θ_run (Cert.PoolBwdRefIdeal.defs (F := Ideal)) (onTc (τ := Cert.PoolBwdRefIdeal.τ) (Cert.PoolBwdRefIdeal.main (F := Ideal))) ⟨m, fun _ => 0, g⟩ (fun r => (∀ c : Dev Cert.PoolBwdRefIdeal.nD,
      r.2.mem ((c.tc : Thread Cert.PoolBwdRefIdeal.nD Cert.PoolBwdRefIdeal.τ).loc Cert.PoolBwdRefIdeal.main_arg0) = m ((c.tc : Thread Cert.PoolBwdRefIdeal.nD Cert.PoolBwdRefIdeal.τ).loc Cert.PoolBwdRefIdeal.main_arg0)
      ∧ r.2.mem ((c.tc : Thread Cert.PoolBwdRefIdeal.nD Cert.PoolBwdRefIdeal.τ).loc Cert.PoolBwdRefIdeal.main_arg1) = m ((c.tc : Thread Cert.PoolBwdRefIdeal.nD Cert.PoolBwdRefIdeal.τ).loc Cert.PoolBwdRefIdeal.main_arg1)
      ∧ r.2.mem ((c.tc : Thread Cert.PoolBwdRefIdeal.nD Cert.PoolBwdRefIdeal.τ).loc Cert.PoolBwdRefIdeal.main_arg2) = m ((c.tc : Thread Cert.PoolBwdRefIdeal.nD Cert.PoolBwdRefIdeal.τ).loc Cert.PoolBwdRefIdeal.main_arg2)
      ∧ r.2.mem ((c.tc : Thread Cert.PoolBwdRefIdeal.nD Cert.PoolBwdRefIdeal.τ).loc Cert.PoolBwdRefIdeal.main_arg3) = m ((c.tc : Thread Cert.PoolBwdRefIdeal.nD Cert.PoolBwdRefIdeal.τ).loc Cert.PoolBwdRefIdeal.main_arg3))
      ∧ r.2.sem = fun _ => 0)

def quiescent_SguBwd [hSguBwd : Cert.SguBwd.Facts] : Prop :=
  ∀ (m : (ℓ : Loc Cert.SguBwd.nD Cert.SguBwd.τ Cert.SguBwd.sig) → Buf (Elt Bits) ℓ) (g : Dev Cert.SguBwd.nD → PrngReg), Pre_SguBwd m →
    θ_run (Cert.SguBwd.defs (F := Bits)) (onTc (τ := Cert.SguBwd.τ) (Cert.SguBwd.main (F := Bits))) ⟨m, fun _ => 0, g⟩ (fun r => (∀ c : Dev Cert.SguBwd.nD,
      r.2.mem ((c.tc : Thread Cert.SguBwd.nD Cert.SguBwd.τ).loc Cert.SguBwd.main_arg0) = m ((c.tc : Thread Cert.SguBwd.nD Cert.SguBwd.τ).loc Cert.SguBwd.main_arg0)
      ∧ r.2.mem ((c.tc : Thread Cert.SguBwd.nD Cert.SguBwd.τ).loc Cert.SguBwd.main_arg1) = m ((c.tc : Thread Cert.SguBwd.nD Cert.SguBwd.τ).loc Cert.SguBwd.main_arg1)
      ∧ r.2.mem ((c.tc : Thread Cert.SguBwd.nD Cert.SguBwd.τ).loc Cert.SguBwd.main_arg2) = m ((c.tc : Thread Cert.SguBwd.nD Cert.SguBwd.τ).loc Cert.SguBwd.main_arg2)
      ∧ r.2.mem ((c.tc : Thread Cert.SguBwd.nD Cert.SguBwd.τ).loc Cert.SguBwd.main_arg3) = m ((c.tc : Thread Cert.SguBwd.nD Cert.SguBwd.τ).loc Cert.SguBwd.main_arg3)
      ∧ r.2.mem ((c.tc : Thread Cert.SguBwd.nD Cert.SguBwd.τ).loc Cert.SguBwd.main_arg4) = m ((c.tc : Thread Cert.SguBwd.nD Cert.SguBwd.τ).loc Cert.SguBwd.main_arg4)
      ∧ r.2.mem ((c.tc : Thread Cert.SguBwd.nD Cert.SguBwd.τ).loc Cert.SguBwd.main_arg5) = m ((c.tc : Thread Cert.SguBwd.nD Cert.SguBwd.τ).loc Cert.SguBwd.main_arg5)
      ∧ r.2.mem ((c.tc : Thread Cert.SguBwd.nD Cert.SguBwd.τ).loc Cert.SguBwd.main_arg6) = m ((c.tc : Thread Cert.SguBwd.nD Cert.SguBwd.τ).loc Cert.SguBwd.main_arg6))
      ∧ r.2.sem = fun _ => 0)

def quiescent_SguBwdIdeal [hSguBwdIdeal : Cert.SguBwdIdeal.Facts] : Prop :=
  ∀ (m : (ℓ : Loc Cert.SguBwdIdeal.nD Cert.SguBwdIdeal.τ Cert.SguBwdIdeal.sig) → Buf (Elt Ideal) ℓ) (g : Dev Cert.SguBwdIdeal.nD → PrngReg), Pre_SguBwdIdeal m →
    θ_run (Cert.SguBwdIdeal.defs (F := Ideal)) (onTc (τ := Cert.SguBwdIdeal.τ) (Cert.SguBwdIdeal.main (F := Ideal))) ⟨m, fun _ => 0, g⟩ (fun r => (∀ c : Dev Cert.SguBwdIdeal.nD,
      r.2.mem ((c.tc : Thread Cert.SguBwdIdeal.nD Cert.SguBwdIdeal.τ).loc Cert.SguBwdIdeal.main_arg0) = m ((c.tc : Thread Cert.SguBwdIdeal.nD Cert.SguBwdIdeal.τ).loc Cert.SguBwdIdeal.main_arg0)
      ∧ r.2.mem ((c.tc : Thread Cert.SguBwdIdeal.nD Cert.SguBwdIdeal.τ).loc Cert.SguBwdIdeal.main_arg1) = m ((c.tc : Thread Cert.SguBwdIdeal.nD Cert.SguBwdIdeal.τ).loc Cert.SguBwdIdeal.main_arg1)
      ∧ r.2.mem ((c.tc : Thread Cert.SguBwdIdeal.nD Cert.SguBwdIdeal.τ).loc Cert.SguBwdIdeal.main_arg2) = m ((c.tc : Thread Cert.SguBwdIdeal.nD Cert.SguBwdIdeal.τ).loc Cert.SguBwdIdeal.main_arg2)
      ∧ r.2.mem ((c.tc : Thread Cert.SguBwdIdeal.nD Cert.SguBwdIdeal.τ).loc Cert.SguBwdIdeal.main_arg3) = m ((c.tc : Thread Cert.SguBwdIdeal.nD Cert.SguBwdIdeal.τ).loc Cert.SguBwdIdeal.main_arg3)
      ∧ r.2.mem ((c.tc : Thread Cert.SguBwdIdeal.nD Cert.SguBwdIdeal.τ).loc Cert.SguBwdIdeal.main_arg4) = m ((c.tc : Thread Cert.SguBwdIdeal.nD Cert.SguBwdIdeal.τ).loc Cert.SguBwdIdeal.main_arg4)
      ∧ r.2.mem ((c.tc : Thread Cert.SguBwdIdeal.nD Cert.SguBwdIdeal.τ).loc Cert.SguBwdIdeal.main_arg5) = m ((c.tc : Thread Cert.SguBwdIdeal.nD Cert.SguBwdIdeal.τ).loc Cert.SguBwdIdeal.main_arg5)
      ∧ r.2.mem ((c.tc : Thread Cert.SguBwdIdeal.nD Cert.SguBwdIdeal.τ).loc Cert.SguBwdIdeal.main_arg6) = m ((c.tc : Thread Cert.SguBwdIdeal.nD Cert.SguBwdIdeal.τ).loc Cert.SguBwdIdeal.main_arg6))
      ∧ r.2.sem = fun _ => 0)

def quiescent_SguBwdRefIdeal [hSguBwdRefIdeal : Cert.SguBwdRefIdeal.Facts] : Prop :=
  ∀ (m : (ℓ : Loc Cert.SguBwdRefIdeal.nD Cert.SguBwdRefIdeal.τ Cert.SguBwdRefIdeal.sig) → Buf (Elt Ideal) ℓ) (g : Dev Cert.SguBwdRefIdeal.nD → PrngReg), Pre_SguBwdRefIdeal m →
    θ_run (Cert.SguBwdRefIdeal.defs (F := Ideal)) (onTc (τ := Cert.SguBwdRefIdeal.τ) (Cert.SguBwdRefIdeal.main (F := Ideal))) ⟨m, fun _ => 0, g⟩ (fun r => (∀ c : Dev Cert.SguBwdRefIdeal.nD,
      r.2.mem ((c.tc : Thread Cert.SguBwdRefIdeal.nD Cert.SguBwdRefIdeal.τ).loc Cert.SguBwdRefIdeal.main_arg0) = m ((c.tc : Thread Cert.SguBwdRefIdeal.nD Cert.SguBwdRefIdeal.τ).loc Cert.SguBwdRefIdeal.main_arg0)
      ∧ r.2.mem ((c.tc : Thread Cert.SguBwdRefIdeal.nD Cert.SguBwdRefIdeal.τ).loc Cert.SguBwdRefIdeal.main_arg1) = m ((c.tc : Thread Cert.SguBwdRefIdeal.nD Cert.SguBwdRefIdeal.τ).loc Cert.SguBwdRefIdeal.main_arg1)
      ∧ r.2.mem ((c.tc : Thread Cert.SguBwdRefIdeal.nD Cert.SguBwdRefIdeal.τ).loc Cert.SguBwdRefIdeal.main_arg2) = m ((c.tc : Thread Cert.SguBwdRefIdeal.nD Cert.SguBwdRefIdeal.τ).loc Cert.SguBwdRefIdeal.main_arg2)
      ∧ r.2.mem ((c.tc : Thread Cert.SguBwdRefIdeal.nD Cert.SguBwdRefIdeal.τ).loc Cert.SguBwdRefIdeal.main_arg3) = m ((c.tc : Thread Cert.SguBwdRefIdeal.nD Cert.SguBwdRefIdeal.τ).loc Cert.SguBwdRefIdeal.main_arg3)
      ∧ r.2.mem ((c.tc : Thread Cert.SguBwdRefIdeal.nD Cert.SguBwdRefIdeal.τ).loc Cert.SguBwdRefIdeal.main_arg4) = m ((c.tc : Thread Cert.SguBwdRefIdeal.nD Cert.SguBwdRefIdeal.τ).loc Cert.SguBwdRefIdeal.main_arg4)
      ∧ r.2.mem ((c.tc : Thread Cert.SguBwdRefIdeal.nD Cert.SguBwdRefIdeal.τ).loc Cert.SguBwdRefIdeal.main_arg5) = m ((c.tc : Thread Cert.SguBwdRefIdeal.nD Cert.SguBwdRefIdeal.τ).loc Cert.SguBwdRefIdeal.main_arg5)
      ∧ r.2.mem ((c.tc : Thread Cert.SguBwdRefIdeal.nD Cert.SguBwdRefIdeal.τ).loc Cert.SguBwdRefIdeal.main_arg6) = m ((c.tc : Thread Cert.SguBwdRefIdeal.nD Cert.SguBwdRefIdeal.τ).loc Cert.SguBwdRefIdeal.main_arg6))
      ∧ r.2.sem = fun _ => 0)

def quiescent_DnRecurFwd [hDnRecurFwd : Cert.DnRecurFwd.Facts] : Prop :=
  ∀ (m : (ℓ : Loc Cert.DnRecurFwd.nD Cert.DnRecurFwd.τ Cert.DnRecurFwd.sig) → Buf (Elt Bits) ℓ) (g : Dev Cert.DnRecurFwd.nD → PrngReg), Pre_DnRecurFwd m →
    θ_run (Cert.DnRecurFwd.defs (F := Bits)) (onTc (τ := Cert.DnRecurFwd.τ) (Cert.DnRecurFwd.main (F := Bits))) ⟨m, fun _ => 0, g⟩ (fun r => (∀ c : Dev Cert.DnRecurFwd.nD,
      r.2.mem ((c.tc : Thread Cert.DnRecurFwd.nD Cert.DnRecurFwd.τ).loc Cert.DnRecurFwd.main_arg0) = m ((c.tc : Thread Cert.DnRecurFwd.nD Cert.DnRecurFwd.τ).loc Cert.DnRecurFwd.main_arg0)
      ∧ r.2.mem ((c.tc : Thread Cert.DnRecurFwd.nD Cert.DnRecurFwd.τ).loc Cert.DnRecurFwd.main_arg1) = m ((c.tc : Thread Cert.DnRecurFwd.nD Cert.DnRecurFwd.τ).loc Cert.DnRecurFwd.main_arg1)
      ∧ r.2.mem ((c.tc : Thread Cert.DnRecurFwd.nD Cert.DnRecurFwd.τ).loc Cert.DnRecurFwd.main_arg2) = m ((c.tc : Thread Cert.DnRecurFwd.nD Cert.DnRecurFwd.τ).loc Cert.DnRecurFwd.main_arg2)
      ∧ r.2.mem ((c.tc : Thread Cert.DnRecurFwd.nD Cert.DnRecurFwd.τ).loc Cert.DnRecurFwd.main_arg3) = m ((c.tc : Thread Cert.DnRecurFwd.nD Cert.DnRecurFwd.τ).loc Cert.DnRecurFwd.main_arg3)
      ∧ r.2.mem ((c.tc : Thread Cert.DnRecurFwd.nD Cert.DnRecurFwd.τ).loc Cert.DnRecurFwd.main_arg4) = m ((c.tc : Thread Cert.DnRecurFwd.nD Cert.DnRecurFwd.τ).loc Cert.DnRecurFwd.main_arg4)
      ∧ r.2.mem ((c.tc : Thread Cert.DnRecurFwd.nD Cert.DnRecurFwd.τ).loc Cert.DnRecurFwd.main_arg5) = m ((c.tc : Thread Cert.DnRecurFwd.nD Cert.DnRecurFwd.τ).loc Cert.DnRecurFwd.main_arg5)
      ∧ r.2.mem ((c.tc : Thread Cert.DnRecurFwd.nD Cert.DnRecurFwd.τ).loc Cert.DnRecurFwd.main_arg6) = m ((c.tc : Thread Cert.DnRecurFwd.nD Cert.DnRecurFwd.τ).loc Cert.DnRecurFwd.main_arg6)
      ∧ r.2.mem ((c.tc : Thread Cert.DnRecurFwd.nD Cert.DnRecurFwd.τ).loc Cert.DnRecurFwd.main_arg7) = m ((c.tc : Thread Cert.DnRecurFwd.nD Cert.DnRecurFwd.τ).loc Cert.DnRecurFwd.main_arg7))
      ∧ r.2.sem = fun _ => 0)

def quiescent_DnRecurFwdIdeal [hDnRecurFwdIdeal : Cert.DnRecurFwdIdeal.Facts] : Prop :=
  ∀ (m : (ℓ : Loc Cert.DnRecurFwdIdeal.nD Cert.DnRecurFwdIdeal.τ Cert.DnRecurFwdIdeal.sig) → Buf (Elt Ideal) ℓ) (g : Dev Cert.DnRecurFwdIdeal.nD → PrngReg), Pre_DnRecurFwdIdeal m →
    θ_run (Cert.DnRecurFwdIdeal.defs (F := Ideal)) (onTc (τ := Cert.DnRecurFwdIdeal.τ) (Cert.DnRecurFwdIdeal.main (F := Ideal))) ⟨m, fun _ => 0, g⟩ (fun r => (∀ c : Dev Cert.DnRecurFwdIdeal.nD,
      r.2.mem ((c.tc : Thread Cert.DnRecurFwdIdeal.nD Cert.DnRecurFwdIdeal.τ).loc Cert.DnRecurFwdIdeal.main_arg0) = m ((c.tc : Thread Cert.DnRecurFwdIdeal.nD Cert.DnRecurFwdIdeal.τ).loc Cert.DnRecurFwdIdeal.main_arg0)
      ∧ r.2.mem ((c.tc : Thread Cert.DnRecurFwdIdeal.nD Cert.DnRecurFwdIdeal.τ).loc Cert.DnRecurFwdIdeal.main_arg1) = m ((c.tc : Thread Cert.DnRecurFwdIdeal.nD Cert.DnRecurFwdIdeal.τ).loc Cert.DnRecurFwdIdeal.main_arg1)
      ∧ r.2.mem ((c.tc : Thread Cert.DnRecurFwdIdeal.nD Cert.DnRecurFwdIdeal.τ).loc Cert.DnRecurFwdIdeal.main_arg2) = m ((c.tc : Thread Cert.DnRecurFwdIdeal.nD Cert.DnRecurFwdIdeal.τ).loc Cert.DnRecurFwdIdeal.main_arg2)
      ∧ r.2.mem ((c.tc : Thread Cert.DnRecurFwdIdeal.nD Cert.DnRecurFwdIdeal.τ).loc Cert.DnRecurFwdIdeal.main_arg3) = m ((c.tc : Thread Cert.DnRecurFwdIdeal.nD Cert.DnRecurFwdIdeal.τ).loc Cert.DnRecurFwdIdeal.main_arg3)
      ∧ r.2.mem ((c.tc : Thread Cert.DnRecurFwdIdeal.nD Cert.DnRecurFwdIdeal.τ).loc Cert.DnRecurFwdIdeal.main_arg4) = m ((c.tc : Thread Cert.DnRecurFwdIdeal.nD Cert.DnRecurFwdIdeal.τ).loc Cert.DnRecurFwdIdeal.main_arg4)
      ∧ r.2.mem ((c.tc : Thread Cert.DnRecurFwdIdeal.nD Cert.DnRecurFwdIdeal.τ).loc Cert.DnRecurFwdIdeal.main_arg5) = m ((c.tc : Thread Cert.DnRecurFwdIdeal.nD Cert.DnRecurFwdIdeal.τ).loc Cert.DnRecurFwdIdeal.main_arg5)
      ∧ r.2.mem ((c.tc : Thread Cert.DnRecurFwdIdeal.nD Cert.DnRecurFwdIdeal.τ).loc Cert.DnRecurFwdIdeal.main_arg6) = m ((c.tc : Thread Cert.DnRecurFwdIdeal.nD Cert.DnRecurFwdIdeal.τ).loc Cert.DnRecurFwdIdeal.main_arg6)
      ∧ r.2.mem ((c.tc : Thread Cert.DnRecurFwdIdeal.nD Cert.DnRecurFwdIdeal.τ).loc Cert.DnRecurFwdIdeal.main_arg7) = m ((c.tc : Thread Cert.DnRecurFwdIdeal.nD Cert.DnRecurFwdIdeal.τ).loc Cert.DnRecurFwdIdeal.main_arg7))
      ∧ r.2.sem = fun _ => 0)

def quiescent_DnRecurFwdRefIdeal [hDnRecurFwdRefIdeal : Cert.DnRecurFwdRefIdeal.Facts] : Prop :=
  ∀ (m : (ℓ : Loc Cert.DnRecurFwdRefIdeal.nD Cert.DnRecurFwdRefIdeal.τ Cert.DnRecurFwdRefIdeal.sig) → Buf (Elt Ideal) ℓ) (g : Dev Cert.DnRecurFwdRefIdeal.nD → PrngReg), Pre_DnRecurFwdRefIdeal m →
    θ_run (Cert.DnRecurFwdRefIdeal.defs (F := Ideal)) (onTc (τ := Cert.DnRecurFwdRefIdeal.τ) (Cert.DnRecurFwdRefIdeal.main (F := Ideal))) ⟨m, fun _ => 0, g⟩ (fun r => (∀ c : Dev Cert.DnRecurFwdRefIdeal.nD,
      r.2.mem ((c.tc : Thread Cert.DnRecurFwdRefIdeal.nD Cert.DnRecurFwdRefIdeal.τ).loc Cert.DnRecurFwdRefIdeal.main_arg0) = m ((c.tc : Thread Cert.DnRecurFwdRefIdeal.nD Cert.DnRecurFwdRefIdeal.τ).loc Cert.DnRecurFwdRefIdeal.main_arg0)
      ∧ r.2.mem ((c.tc : Thread Cert.DnRecurFwdRefIdeal.nD Cert.DnRecurFwdRefIdeal.τ).loc Cert.DnRecurFwdRefIdeal.main_arg1) = m ((c.tc : Thread Cert.DnRecurFwdRefIdeal.nD Cert.DnRecurFwdRefIdeal.τ).loc Cert.DnRecurFwdRefIdeal.main_arg1)
      ∧ r.2.mem ((c.tc : Thread Cert.DnRecurFwdRefIdeal.nD Cert.DnRecurFwdRefIdeal.τ).loc Cert.DnRecurFwdRefIdeal.main_arg2) = m ((c.tc : Thread Cert.DnRecurFwdRefIdeal.nD Cert.DnRecurFwdRefIdeal.τ).loc Cert.DnRecurFwdRefIdeal.main_arg2)
      ∧ r.2.mem ((c.tc : Thread Cert.DnRecurFwdRefIdeal.nD Cert.DnRecurFwdRefIdeal.τ).loc Cert.DnRecurFwdRefIdeal.main_arg3) = m ((c.tc : Thread Cert.DnRecurFwdRefIdeal.nD Cert.DnRecurFwdRefIdeal.τ).loc Cert.DnRecurFwdRefIdeal.main_arg3)
      ∧ r.2.mem ((c.tc : Thread Cert.DnRecurFwdRefIdeal.nD Cert.DnRecurFwdRefIdeal.τ).loc Cert.DnRecurFwdRefIdeal.main_arg4) = m ((c.tc : Thread Cert.DnRecurFwdRefIdeal.nD Cert.DnRecurFwdRefIdeal.τ).loc Cert.DnRecurFwdRefIdeal.main_arg4)
      ∧ r.2.mem ((c.tc : Thread Cert.DnRecurFwdRefIdeal.nD Cert.DnRecurFwdRefIdeal.τ).loc Cert.DnRecurFwdRefIdeal.main_arg5) = m ((c.tc : Thread Cert.DnRecurFwdRefIdeal.nD Cert.DnRecurFwdRefIdeal.τ).loc Cert.DnRecurFwdRefIdeal.main_arg5)
      ∧ r.2.mem ((c.tc : Thread Cert.DnRecurFwdRefIdeal.nD Cert.DnRecurFwdRefIdeal.τ).loc Cert.DnRecurFwdRefIdeal.main_arg6) = m ((c.tc : Thread Cert.DnRecurFwdRefIdeal.nD Cert.DnRecurFwdRefIdeal.τ).loc Cert.DnRecurFwdRefIdeal.main_arg6)
      ∧ r.2.mem ((c.tc : Thread Cert.DnRecurFwdRefIdeal.nD Cert.DnRecurFwdRefIdeal.τ).loc Cert.DnRecurFwdRefIdeal.main_arg7) = m ((c.tc : Thread Cert.DnRecurFwdRefIdeal.nD Cert.DnRecurFwdRefIdeal.τ).loc Cert.DnRecurFwdRefIdeal.main_arg7))
      ∧ r.2.sem = fun _ => 0)

def quiescent_ScConvFwd [hScConvFwd : Cert.ScConvFwd.Facts] : Prop :=
  ∀ (m : (ℓ : Loc Cert.ScConvFwd.nD Cert.ScConvFwd.τ Cert.ScConvFwd.sig) → Buf (Elt Bits) ℓ) (g : Dev Cert.ScConvFwd.nD → PrngReg), Pre_ScConvFwd m →
    θ_run (Cert.ScConvFwd.defs (F := Bits)) (onTc (τ := Cert.ScConvFwd.τ) (Cert.ScConvFwd.main (F := Bits))) ⟨m, fun _ => 0, g⟩ (fun r => (∀ c : Dev Cert.ScConvFwd.nD,
      r.2.mem ((c.tc : Thread Cert.ScConvFwd.nD Cert.ScConvFwd.τ).loc Cert.ScConvFwd.main_arg0) = m ((c.tc : Thread Cert.ScConvFwd.nD Cert.ScConvFwd.τ).loc Cert.ScConvFwd.main_arg0)
      ∧ r.2.mem ((c.tc : Thread Cert.ScConvFwd.nD Cert.ScConvFwd.τ).loc Cert.ScConvFwd.main_arg1) = m ((c.tc : Thread Cert.ScConvFwd.nD Cert.ScConvFwd.τ).loc Cert.ScConvFwd.main_arg1)
      ∧ r.2.mem ((c.tc : Thread Cert.ScConvFwd.nD Cert.ScConvFwd.τ).loc Cert.ScConvFwd.main_arg2) = m ((c.tc : Thread Cert.ScConvFwd.nD Cert.ScConvFwd.τ).loc Cert.ScConvFwd.main_arg2)
      ∧ r.2.mem ((c.tc : Thread Cert.ScConvFwd.nD Cert.ScConvFwd.τ).loc Cert.ScConvFwd.main_arg3) = m ((c.tc : Thread Cert.ScConvFwd.nD Cert.ScConvFwd.τ).loc Cert.ScConvFwd.main_arg3))
      ∧ r.2.sem = fun _ => 0)

def quiescent_ScConvFwdIdeal [hScConvFwdIdeal : Cert.ScConvFwdIdeal.Facts] : Prop :=
  ∀ (m : (ℓ : Loc Cert.ScConvFwdIdeal.nD Cert.ScConvFwdIdeal.τ Cert.ScConvFwdIdeal.sig) → Buf (Elt Ideal) ℓ) (g : Dev Cert.ScConvFwdIdeal.nD → PrngReg), Pre_ScConvFwdIdeal m →
    θ_run (Cert.ScConvFwdIdeal.defs (F := Ideal)) (onTc (τ := Cert.ScConvFwdIdeal.τ) (Cert.ScConvFwdIdeal.main (F := Ideal))) ⟨m, fun _ => 0, g⟩ (fun r => (∀ c : Dev Cert.ScConvFwdIdeal.nD,
      r.2.mem ((c.tc : Thread Cert.ScConvFwdIdeal.nD Cert.ScConvFwdIdeal.τ).loc Cert.ScConvFwdIdeal.main_arg0) = m ((c.tc : Thread Cert.ScConvFwdIdeal.nD Cert.ScConvFwdIdeal.τ).loc Cert.ScConvFwdIdeal.main_arg0)
      ∧ r.2.mem ((c.tc : Thread Cert.ScConvFwdIdeal.nD Cert.ScConvFwdIdeal.τ).loc Cert.ScConvFwdIdeal.main_arg1) = m ((c.tc : Thread Cert.ScConvFwdIdeal.nD Cert.ScConvFwdIdeal.τ).loc Cert.ScConvFwdIdeal.main_arg1)
      ∧ r.2.mem ((c.tc : Thread Cert.ScConvFwdIdeal.nD Cert.ScConvFwdIdeal.τ).loc Cert.ScConvFwdIdeal.main_arg2) = m ((c.tc : Thread Cert.ScConvFwdIdeal.nD Cert.ScConvFwdIdeal.τ).loc Cert.ScConvFwdIdeal.main_arg2)
      ∧ r.2.mem ((c.tc : Thread Cert.ScConvFwdIdeal.nD Cert.ScConvFwdIdeal.τ).loc Cert.ScConvFwdIdeal.main_arg3) = m ((c.tc : Thread Cert.ScConvFwdIdeal.nD Cert.ScConvFwdIdeal.τ).loc Cert.ScConvFwdIdeal.main_arg3))
      ∧ r.2.sem = fun _ => 0)

def quiescent_ScConvFwdRefIdeal [hScConvFwdRefIdeal : Cert.ScConvFwdRefIdeal.Facts] : Prop :=
  ∀ (m : (ℓ : Loc Cert.ScConvFwdRefIdeal.nD Cert.ScConvFwdRefIdeal.τ Cert.ScConvFwdRefIdeal.sig) → Buf (Elt Ideal) ℓ) (g : Dev Cert.ScConvFwdRefIdeal.nD → PrngReg), Pre_ScConvFwdRefIdeal m →
    θ_run (Cert.ScConvFwdRefIdeal.defs (F := Ideal)) (onTc (τ := Cert.ScConvFwdRefIdeal.τ) (Cert.ScConvFwdRefIdeal.main (F := Ideal))) ⟨m, fun _ => 0, g⟩ (fun r => (∀ c : Dev Cert.ScConvFwdRefIdeal.nD,
      r.2.mem ((c.tc : Thread Cert.ScConvFwdRefIdeal.nD Cert.ScConvFwdRefIdeal.τ).loc Cert.ScConvFwdRefIdeal.main_arg0) = m ((c.tc : Thread Cert.ScConvFwdRefIdeal.nD Cert.ScConvFwdRefIdeal.τ).loc Cert.ScConvFwdRefIdeal.main_arg0)
      ∧ r.2.mem ((c.tc : Thread Cert.ScConvFwdRefIdeal.nD Cert.ScConvFwdRefIdeal.τ).loc Cert.ScConvFwdRefIdeal.main_arg1) = m ((c.tc : Thread Cert.ScConvFwdRefIdeal.nD Cert.ScConvFwdRefIdeal.τ).loc Cert.ScConvFwdRefIdeal.main_arg1)
      ∧ r.2.mem ((c.tc : Thread Cert.ScConvFwdRefIdeal.nD Cert.ScConvFwdRefIdeal.τ).loc Cert.ScConvFwdRefIdeal.main_arg2) = m ((c.tc : Thread Cert.ScConvFwdRefIdeal.nD Cert.ScConvFwdRefIdeal.τ).loc Cert.ScConvFwdRefIdeal.main_arg2)
      ∧ r.2.mem ((c.tc : Thread Cert.ScConvFwdRefIdeal.nD Cert.ScConvFwdRefIdeal.τ).loc Cert.ScConvFwdRefIdeal.main_arg3) = m ((c.tc : Thread Cert.ScConvFwdRefIdeal.nD Cert.ScConvFwdRefIdeal.τ).loc Cert.ScConvFwdRefIdeal.main_arg3))
      ∧ r.2.sem = fun _ => 0)

def quiescent_DnConvFwd [hDnConvFwd : Cert.DnConvFwd.Facts] : Prop :=
  ∀ (m : (ℓ : Loc Cert.DnConvFwd.nD Cert.DnConvFwd.τ Cert.DnConvFwd.sig) → Buf (Elt Bits) ℓ) (g : Dev Cert.DnConvFwd.nD → PrngReg), Pre_DnConvFwd m →
    θ_run (Cert.DnConvFwd.defs (F := Bits)) (onTc (τ := Cert.DnConvFwd.τ) (Cert.DnConvFwd.main (F := Bits))) ⟨m, fun _ => 0, g⟩ (fun r => (∀ c : Dev Cert.DnConvFwd.nD,
      r.2.mem ((c.tc : Thread Cert.DnConvFwd.nD Cert.DnConvFwd.τ).loc Cert.DnConvFwd.main_arg0) = m ((c.tc : Thread Cert.DnConvFwd.nD Cert.DnConvFwd.τ).loc Cert.DnConvFwd.main_arg0)
      ∧ r.2.mem ((c.tc : Thread Cert.DnConvFwd.nD Cert.DnConvFwd.τ).loc Cert.DnConvFwd.main_arg1) = m ((c.tc : Thread Cert.DnConvFwd.nD Cert.DnConvFwd.τ).loc Cert.DnConvFwd.main_arg1))
      ∧ r.2.sem = fun _ => 0)

def quiescent_DnConvFwdIdeal [hDnConvFwdIdeal : Cert.DnConvFwdIdeal.Facts] : Prop :=
  ∀ (m : (ℓ : Loc Cert.DnConvFwdIdeal.nD Cert.DnConvFwdIdeal.τ Cert.DnConvFwdIdeal.sig) → Buf (Elt Ideal) ℓ) (g : Dev Cert.DnConvFwdIdeal.nD → PrngReg), Pre_DnConvFwdIdeal m →
    θ_run (Cert.DnConvFwdIdeal.defs (F := Ideal)) (onTc (τ := Cert.DnConvFwdIdeal.τ) (Cert.DnConvFwdIdeal.main (F := Ideal))) ⟨m, fun _ => 0, g⟩ (fun r => (∀ c : Dev Cert.DnConvFwdIdeal.nD,
      r.2.mem ((c.tc : Thread Cert.DnConvFwdIdeal.nD Cert.DnConvFwdIdeal.τ).loc Cert.DnConvFwdIdeal.main_arg0) = m ((c.tc : Thread Cert.DnConvFwdIdeal.nD Cert.DnConvFwdIdeal.τ).loc Cert.DnConvFwdIdeal.main_arg0)
      ∧ r.2.mem ((c.tc : Thread Cert.DnConvFwdIdeal.nD Cert.DnConvFwdIdeal.τ).loc Cert.DnConvFwdIdeal.main_arg1) = m ((c.tc : Thread Cert.DnConvFwdIdeal.nD Cert.DnConvFwdIdeal.τ).loc Cert.DnConvFwdIdeal.main_arg1))
      ∧ r.2.sem = fun _ => 0)

def quiescent_DnConvFwdRefIdeal [hDnConvFwdRefIdeal : Cert.DnConvFwdRefIdeal.Facts] : Prop :=
  ∀ (m : (ℓ : Loc Cert.DnConvFwdRefIdeal.nD Cert.DnConvFwdRefIdeal.τ Cert.DnConvFwdRefIdeal.sig) → Buf (Elt Ideal) ℓ) (g : Dev Cert.DnConvFwdRefIdeal.nD → PrngReg), Pre_DnConvFwdRefIdeal m →
    θ_run (Cert.DnConvFwdRefIdeal.defs (F := Ideal)) (onTc (τ := Cert.DnConvFwdRefIdeal.τ) (Cert.DnConvFwdRefIdeal.main (F := Ideal))) ⟨m, fun _ => 0, g⟩ (fun r => (∀ c : Dev Cert.DnConvFwdRefIdeal.nD,
      r.2.mem ((c.tc : Thread Cert.DnConvFwdRefIdeal.nD Cert.DnConvFwdRefIdeal.τ).loc Cert.DnConvFwdRefIdeal.main_arg0) = m ((c.tc : Thread Cert.DnConvFwdRefIdeal.nD Cert.DnConvFwdRefIdeal.τ).loc Cert.DnConvFwdRefIdeal.main_arg0)
      ∧ r.2.mem ((c.tc : Thread Cert.DnConvFwdRefIdeal.nD Cert.DnConvFwdRefIdeal.τ).loc Cert.DnConvFwdRefIdeal.main_arg1) = m ((c.tc : Thread Cert.DnConvFwdRefIdeal.nD Cert.DnConvFwdRefIdeal.τ).loc Cert.DnConvFwdRefIdeal.main_arg1))
      ∧ r.2.sem = fun _ => 0)

def quiescent_PoolFwd [hPoolFwd : Cert.PoolFwd.Facts] : Prop :=
  ∀ (m : (ℓ : Loc Cert.PoolFwd.nD Cert.PoolFwd.τ Cert.PoolFwd.sig) → Buf (Elt Bits) ℓ) (g : Dev Cert.PoolFwd.nD → PrngReg), Pre_PoolFwd m →
    θ_run (Cert.PoolFwd.defs (F := Bits)) (onTc (τ := Cert.PoolFwd.τ) (Cert.PoolFwd.main (F := Bits))) ⟨m, fun _ => 0, g⟩ (fun r => (∀ c : Dev Cert.PoolFwd.nD,
      r.2.mem ((c.tc : Thread Cert.PoolFwd.nD Cert.PoolFwd.τ).loc Cert.PoolFwd.main_arg0) = m ((c.tc : Thread Cert.PoolFwd.nD Cert.PoolFwd.τ).loc Cert.PoolFwd.main_arg0)
      ∧ r.2.mem ((c.tc : Thread Cert.PoolFwd.nD Cert.PoolFwd.τ).loc Cert.PoolFwd.main_arg1) = m ((c.tc : Thread Cert.PoolFwd.nD Cert.PoolFwd.τ).loc Cert.PoolFwd.main_arg1)
      ∧ r.2.mem ((c.tc : Thread Cert.PoolFwd.nD Cert.PoolFwd.τ).loc Cert.PoolFwd.main_arg2) = m ((c.tc : Thread Cert.PoolFwd.nD Cert.PoolFwd.τ).loc Cert.PoolFwd.main_arg2))
      ∧ r.2.sem = fun _ => 0)

def quiescent_PoolFwdIdeal [hPoolFwdIdeal : Cert.PoolFwdIdeal.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg), Pre_PoolFwdIdeal m →
    θ_run (Cert.PoolFwdIdeal.defs (F := Ideal)) (onTc (τ := Cert.PoolFwdIdeal.τ) (Cert.PoolFwdIdeal.main (F := Ideal))) ⟨m, fun _ => 0, g⟩ (fun r => (∀ c : Dev Cert.PoolFwdIdeal.nD,
      r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
      ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
      ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2))
      ∧ r.2.sem = fun _ => 0)

def quiescent_PoolFwdIdeal_pre_finite_pool_fwd [hPoolFwdIdeal : Cert.PoolFwdIdeal.Facts] [hPre_finite_pool_fwd : Cert.Pre_finite_pool_fwd.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg), Pre_PoolFwdIdeal_finite_pool_fwd m →
    θ_run (Cert.PoolFwdIdeal.defs (F := Ideal)) (onTc (τ := Cert.PoolFwdIdeal.τ) (Cert.PoolFwdIdeal.main (F := Ideal))) ⟨m, fun _ => 0, g⟩ (fun r => (∀ c : Dev Cert.PoolFwdIdeal.nD,
      r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
      ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
      ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2))
      ∧ r.2.sem = fun _ => 0)

def quiescent_PoolFwdRefIdeal [hPoolFwdRefIdeal : Cert.PoolFwdRefIdeal.Facts] : Prop :=
  ∀ (m : (ℓ : Loc Cert.PoolFwdRefIdeal.nD Cert.PoolFwdRefIdeal.τ Cert.PoolFwdRefIdeal.sig) → Buf (Elt Ideal) ℓ) (g : Dev Cert.PoolFwdRefIdeal.nD → PrngReg), Pre_PoolFwdRefIdeal m →
    θ_run (Cert.PoolFwdRefIdeal.defs (F := Ideal)) (onTc (τ := Cert.PoolFwdRefIdeal.τ) (Cert.PoolFwdRefIdeal.main (F := Ideal))) ⟨m, fun _ => 0, g⟩ (fun r => (∀ c : Dev Cert.PoolFwdRefIdeal.nD,
      r.2.mem ((c.tc : Thread Cert.PoolFwdRefIdeal.nD Cert.PoolFwdRefIdeal.τ).loc Cert.PoolFwdRefIdeal.main_arg0) = m ((c.tc : Thread Cert.PoolFwdRefIdeal.nD Cert.PoolFwdRefIdeal.τ).loc Cert.PoolFwdRefIdeal.main_arg0)
      ∧ r.2.mem ((c.tc : Thread Cert.PoolFwdRefIdeal.nD Cert.PoolFwdRefIdeal.τ).loc Cert.PoolFwdRefIdeal.main_arg1) = m ((c.tc : Thread Cert.PoolFwdRefIdeal.nD Cert.PoolFwdRefIdeal.τ).loc Cert.PoolFwdRefIdeal.main_arg1)
      ∧ r.2.mem ((c.tc : Thread Cert.PoolFwdRefIdeal.nD Cert.PoolFwdRefIdeal.τ).loc Cert.PoolFwdRefIdeal.main_arg2) = m ((c.tc : Thread Cert.PoolFwdRefIdeal.nD Cert.PoolFwdRefIdeal.τ).loc Cert.PoolFwdRefIdeal.main_arg2))
      ∧ r.2.sem = fun _ => 0)

def quiescent_PoolFwdRefIdeal_pre_finite_pool_fwd [hPoolFwdRefIdeal : Cert.PoolFwdRefIdeal.Facts] [hPre_finite_pool_fwd : Cert.Pre_finite_pool_fwd.Facts] : Prop :=
  ∀ (m : (ℓ : Loc Cert.PoolFwdRefIdeal.nD Cert.PoolFwdRefIdeal.τ Cert.PoolFwdRefIdeal.sig) → Buf (Elt Ideal) ℓ) (g : Dev Cert.PoolFwdRefIdeal.nD → PrngReg), Pre_PoolFwdRefIdeal_finite_pool_fwd m →
    θ_run (Cert.PoolFwdRefIdeal.defs (F := Ideal)) (onTc (τ := Cert.PoolFwdRefIdeal.τ) (Cert.PoolFwdRefIdeal.main (F := Ideal))) ⟨m, fun _ => 0, g⟩ (fun r => (∀ c : Dev Cert.PoolFwdRefIdeal.nD,
      r.2.mem ((c.tc : Thread Cert.PoolFwdRefIdeal.nD Cert.PoolFwdRefIdeal.τ).loc Cert.PoolFwdRefIdeal.main_arg0) = m ((c.tc : Thread Cert.PoolFwdRefIdeal.nD Cert.PoolFwdRefIdeal.τ).loc Cert.PoolFwdRefIdeal.main_arg0)
      ∧ r.2.mem ((c.tc : Thread Cert.PoolFwdRefIdeal.nD Cert.PoolFwdRefIdeal.τ).loc Cert.PoolFwdRefIdeal.main_arg1) = m ((c.tc : Thread Cert.PoolFwdRefIdeal.nD Cert.PoolFwdRefIdeal.τ).loc Cert.PoolFwdRefIdeal.main_arg1)
      ∧ r.2.mem ((c.tc : Thread Cert.PoolFwdRefIdeal.nD Cert.PoolFwdRefIdeal.τ).loc Cert.PoolFwdRefIdeal.main_arg2) = m ((c.tc : Thread Cert.PoolFwdRefIdeal.nD Cert.PoolFwdRefIdeal.τ).loc Cert.PoolFwdRefIdeal.main_arg2))
      ∧ r.2.sem = fun _ => 0)

def quiescent_SguFwd [hSguFwd : Cert.SguFwd.Facts] : Prop :=
  ∀ (m : (ℓ : Loc Cert.SguFwd.nD Cert.SguFwd.τ Cert.SguFwd.sig) → Buf (Elt Bits) ℓ) (g : Dev Cert.SguFwd.nD → PrngReg), Pre_SguFwd m →
    θ_run (Cert.SguFwd.defs (F := Bits)) (onTc (τ := Cert.SguFwd.τ) (Cert.SguFwd.main (F := Bits))) ⟨m, fun _ => 0, g⟩ (fun r => (∀ c : Dev Cert.SguFwd.nD,
      r.2.mem ((c.tc : Thread Cert.SguFwd.nD Cert.SguFwd.τ).loc Cert.SguFwd.main_arg0) = m ((c.tc : Thread Cert.SguFwd.nD Cert.SguFwd.τ).loc Cert.SguFwd.main_arg0)
      ∧ r.2.mem ((c.tc : Thread Cert.SguFwd.nD Cert.SguFwd.τ).loc Cert.SguFwd.main_arg1) = m ((c.tc : Thread Cert.SguFwd.nD Cert.SguFwd.τ).loc Cert.SguFwd.main_arg1)
      ∧ r.2.mem ((c.tc : Thread Cert.SguFwd.nD Cert.SguFwd.τ).loc Cert.SguFwd.main_arg2) = m ((c.tc : Thread Cert.SguFwd.nD Cert.SguFwd.τ).loc Cert.SguFwd.main_arg2)
      ∧ r.2.mem ((c.tc : Thread Cert.SguFwd.nD Cert.SguFwd.τ).loc Cert.SguFwd.main_arg3) = m ((c.tc : Thread Cert.SguFwd.nD Cert.SguFwd.τ).loc Cert.SguFwd.main_arg3)
      ∧ r.2.mem ((c.tc : Thread Cert.SguFwd.nD Cert.SguFwd.τ).loc Cert.SguFwd.main_arg4) = m ((c.tc : Thread Cert.SguFwd.nD Cert.SguFwd.τ).loc Cert.SguFwd.main_arg4)
      ∧ r.2.mem ((c.tc : Thread Cert.SguFwd.nD Cert.SguFwd.τ).loc Cert.SguFwd.main_arg5) = m ((c.tc : Thread Cert.SguFwd.nD Cert.SguFwd.τ).loc Cert.SguFwd.main_arg5))
      ∧ r.2.sem = fun _ => 0)

def quiescent_SguFwdIdeal [hSguFwdIdeal : Cert.SguFwdIdeal.Facts] : Prop :=
  ∀ (m : (ℓ : Loc Cert.SguFwdIdeal.nD Cert.SguFwdIdeal.τ Cert.SguFwdIdeal.sig) → Buf (Elt Ideal) ℓ) (g : Dev Cert.SguFwdIdeal.nD → PrngReg), Pre_SguFwdIdeal m →
    θ_run (Cert.SguFwdIdeal.defs (F := Ideal)) (onTc (τ := Cert.SguFwdIdeal.τ) (Cert.SguFwdIdeal.main (F := Ideal))) ⟨m, fun _ => 0, g⟩ (fun r => (∀ c : Dev Cert.SguFwdIdeal.nD,
      r.2.mem ((c.tc : Thread Cert.SguFwdIdeal.nD Cert.SguFwdIdeal.τ).loc Cert.SguFwdIdeal.main_arg0) = m ((c.tc : Thread Cert.SguFwdIdeal.nD Cert.SguFwdIdeal.τ).loc Cert.SguFwdIdeal.main_arg0)
      ∧ r.2.mem ((c.tc : Thread Cert.SguFwdIdeal.nD Cert.SguFwdIdeal.τ).loc Cert.SguFwdIdeal.main_arg1) = m ((c.tc : Thread Cert.SguFwdIdeal.nD Cert.SguFwdIdeal.τ).loc Cert.SguFwdIdeal.main_arg1)
      ∧ r.2.mem ((c.tc : Thread Cert.SguFwdIdeal.nD Cert.SguFwdIdeal.τ).loc Cert.SguFwdIdeal.main_arg2) = m ((c.tc : Thread Cert.SguFwdIdeal.nD Cert.SguFwdIdeal.τ).loc Cert.SguFwdIdeal.main_arg2)
      ∧ r.2.mem ((c.tc : Thread Cert.SguFwdIdeal.nD Cert.SguFwdIdeal.τ).loc Cert.SguFwdIdeal.main_arg3) = m ((c.tc : Thread Cert.SguFwdIdeal.nD Cert.SguFwdIdeal.τ).loc Cert.SguFwdIdeal.main_arg3)
      ∧ r.2.mem ((c.tc : Thread Cert.SguFwdIdeal.nD Cert.SguFwdIdeal.τ).loc Cert.SguFwdIdeal.main_arg4) = m ((c.tc : Thread Cert.SguFwdIdeal.nD Cert.SguFwdIdeal.τ).loc Cert.SguFwdIdeal.main_arg4)
      ∧ r.2.mem ((c.tc : Thread Cert.SguFwdIdeal.nD Cert.SguFwdIdeal.τ).loc Cert.SguFwdIdeal.main_arg5) = m ((c.tc : Thread Cert.SguFwdIdeal.nD Cert.SguFwdIdeal.τ).loc Cert.SguFwdIdeal.main_arg5))
      ∧ r.2.sem = fun _ => 0)

def quiescent_SguFwdRefIdeal [hSguFwdRefIdeal : Cert.SguFwdRefIdeal.Facts] : Prop :=
  ∀ (m : (ℓ : Loc Cert.SguFwdRefIdeal.nD Cert.SguFwdRefIdeal.τ Cert.SguFwdRefIdeal.sig) → Buf (Elt Ideal) ℓ) (g : Dev Cert.SguFwdRefIdeal.nD → PrngReg), Pre_SguFwdRefIdeal m →
    θ_run (Cert.SguFwdRefIdeal.defs (F := Ideal)) (onTc (τ := Cert.SguFwdRefIdeal.τ) (Cert.SguFwdRefIdeal.main (F := Ideal))) ⟨m, fun _ => 0, g⟩ (fun r => (∀ c : Dev Cert.SguFwdRefIdeal.nD,
      r.2.mem ((c.tc : Thread Cert.SguFwdRefIdeal.nD Cert.SguFwdRefIdeal.τ).loc Cert.SguFwdRefIdeal.main_arg0) = m ((c.tc : Thread Cert.SguFwdRefIdeal.nD Cert.SguFwdRefIdeal.τ).loc Cert.SguFwdRefIdeal.main_arg0)
      ∧ r.2.mem ((c.tc : Thread Cert.SguFwdRefIdeal.nD Cert.SguFwdRefIdeal.τ).loc Cert.SguFwdRefIdeal.main_arg1) = m ((c.tc : Thread Cert.SguFwdRefIdeal.nD Cert.SguFwdRefIdeal.τ).loc Cert.SguFwdRefIdeal.main_arg1)
      ∧ r.2.mem ((c.tc : Thread Cert.SguFwdRefIdeal.nD Cert.SguFwdRefIdeal.τ).loc Cert.SguFwdRefIdeal.main_arg2) = m ((c.tc : Thread Cert.SguFwdRefIdeal.nD Cert.SguFwdRefIdeal.τ).loc Cert.SguFwdRefIdeal.main_arg2)
      ∧ r.2.mem ((c.tc : Thread Cert.SguFwdRefIdeal.nD Cert.SguFwdRefIdeal.τ).loc Cert.SguFwdRefIdeal.main_arg3) = m ((c.tc : Thread Cert.SguFwdRefIdeal.nD Cert.SguFwdRefIdeal.τ).loc Cert.SguFwdRefIdeal.main_arg3)
      ∧ r.2.mem ((c.tc : Thread Cert.SguFwdRefIdeal.nD Cert.SguFwdRefIdeal.τ).loc Cert.SguFwdRefIdeal.main_arg4) = m ((c.tc : Thread Cert.SguFwdRefIdeal.nD Cert.SguFwdRefIdeal.τ).loc Cert.SguFwdRefIdeal.main_arg4)
      ∧ r.2.mem ((c.tc : Thread Cert.SguFwdRefIdeal.nD Cert.SguFwdRefIdeal.τ).loc Cert.SguFwdRefIdeal.main_arg5) = m ((c.tc : Thread Cert.SguFwdRefIdeal.nD Cert.SguFwdRefIdeal.τ).loc Cert.SguFwdRefIdeal.main_arg5))
      ∧ r.2.sem = fun _ => 0)

def quiescent_DnPrepFwd [hDnPrepFwd : Cert.DnPrepFwd.Facts] : Prop :=
  ∀ (m : (ℓ : Loc Cert.DnPrepFwd.nD Cert.DnPrepFwd.τ Cert.DnPrepFwd.sig) → Buf (Elt Bits) ℓ) (g : Dev Cert.DnPrepFwd.nD → PrngReg), Pre_DnPrepFwd m →
    θ_run (Cert.DnPrepFwd.defs (F := Bits)) (onTc (τ := Cert.DnPrepFwd.τ) (Cert.DnPrepFwd.main (F := Bits))) ⟨m, fun _ => 0, g⟩ (fun r => (∀ c : Dev Cert.DnPrepFwd.nD,
      r.2.mem ((c.tc : Thread Cert.DnPrepFwd.nD Cert.DnPrepFwd.τ).loc Cert.DnPrepFwd.main_arg0) = m ((c.tc : Thread Cert.DnPrepFwd.nD Cert.DnPrepFwd.τ).loc Cert.DnPrepFwd.main_arg0)
      ∧ r.2.mem ((c.tc : Thread Cert.DnPrepFwd.nD Cert.DnPrepFwd.τ).loc Cert.DnPrepFwd.main_arg1) = m ((c.tc : Thread Cert.DnPrepFwd.nD Cert.DnPrepFwd.τ).loc Cert.DnPrepFwd.main_arg1)
      ∧ r.2.mem ((c.tc : Thread Cert.DnPrepFwd.nD Cert.DnPrepFwd.τ).loc Cert.DnPrepFwd.main_arg2) = m ((c.tc : Thread Cert.DnPrepFwd.nD Cert.DnPrepFwd.τ).loc Cert.DnPrepFwd.main_arg2)
      ∧ r.2.mem ((c.tc : Thread Cert.DnPrepFwd.nD Cert.DnPrepFwd.τ).loc Cert.DnPrepFwd.main_arg3) = m ((c.tc : Thread Cert.DnPrepFwd.nD Cert.DnPrepFwd.τ).loc Cert.DnPrepFwd.main_arg3)
      ∧ r.2.mem ((c.tc : Thread Cert.DnPrepFwd.nD Cert.DnPrepFwd.τ).loc Cert.DnPrepFwd.main_arg4) = m ((c.tc : Thread Cert.DnPrepFwd.nD Cert.DnPrepFwd.τ).loc Cert.DnPrepFwd.main_arg4))
      ∧ r.2.sem = fun _ => 0)

def quiescent_DnPrepFwdIdeal [hDnPrepFwdIdeal : Cert.DnPrepFwdIdeal.Facts] : Prop :=
  ∀ (m : (ℓ : Loc Cert.DnPrepFwdIdeal.nD Cert.DnPrepFwdIdeal.τ Cert.DnPrepFwdIdeal.sig) → Buf (Elt Ideal) ℓ) (g : Dev Cert.DnPrepFwdIdeal.nD → PrngReg), Pre_DnPrepFwdIdeal m →
    θ_run (Cert.DnPrepFwdIdeal.defs (F := Ideal)) (onTc (τ := Cert.DnPrepFwdIdeal.τ) (Cert.DnPrepFwdIdeal.main (F := Ideal))) ⟨m, fun _ => 0, g⟩ (fun r => (∀ c : Dev Cert.DnPrepFwdIdeal.nD,
      r.2.mem ((c.tc : Thread Cert.DnPrepFwdIdeal.nD Cert.DnPrepFwdIdeal.τ).loc Cert.DnPrepFwdIdeal.main_arg0) = m ((c.tc : Thread Cert.DnPrepFwdIdeal.nD Cert.DnPrepFwdIdeal.τ).loc Cert.DnPrepFwdIdeal.main_arg0)
      ∧ r.2.mem ((c.tc : Thread Cert.DnPrepFwdIdeal.nD Cert.DnPrepFwdIdeal.τ).loc Cert.DnPrepFwdIdeal.main_arg1) = m ((c.tc : Thread Cert.DnPrepFwdIdeal.nD Cert.DnPrepFwdIdeal.τ).loc Cert.DnPrepFwdIdeal.main_arg1)
      ∧ r.2.mem ((c.tc : Thread Cert.DnPrepFwdIdeal.nD Cert.DnPrepFwdIdeal.τ).loc Cert.DnPrepFwdIdeal.main_arg2) = m ((c.tc : Thread Cert.DnPrepFwdIdeal.nD Cert.DnPrepFwdIdeal.τ).loc Cert.DnPrepFwdIdeal.main_arg2)
      ∧ r.2.mem ((c.tc : Thread Cert.DnPrepFwdIdeal.nD Cert.DnPrepFwdIdeal.τ).loc Cert.DnPrepFwdIdeal.main_arg3) = m ((c.tc : Thread Cert.DnPrepFwdIdeal.nD Cert.DnPrepFwdIdeal.τ).loc Cert.DnPrepFwdIdeal.main_arg3)
      ∧ r.2.mem ((c.tc : Thread Cert.DnPrepFwdIdeal.nD Cert.DnPrepFwdIdeal.τ).loc Cert.DnPrepFwdIdeal.main_arg4) = m ((c.tc : Thread Cert.DnPrepFwdIdeal.nD Cert.DnPrepFwdIdeal.τ).loc Cert.DnPrepFwdIdeal.main_arg4))
      ∧ r.2.sem = fun _ => 0)

def quiescent_DnPrepFwdIdeal_pre_finite_prep [hDnPrepFwdIdeal : Cert.DnPrepFwdIdeal.Facts] [hPre_finite_prep : Cert.Pre_finite_prep.Facts] : Prop :=
  ∀ (m : (ℓ : Loc Cert.DnPrepFwdIdeal.nD Cert.DnPrepFwdIdeal.τ Cert.DnPrepFwdIdeal.sig) → Buf (Elt Ideal) ℓ) (g : Dev Cert.DnPrepFwdIdeal.nD → PrngReg), Pre_DnPrepFwdIdeal_finite_prep m →
    θ_run (Cert.DnPrepFwdIdeal.defs (F := Ideal)) (onTc (τ := Cert.DnPrepFwdIdeal.τ) (Cert.DnPrepFwdIdeal.main (F := Ideal))) ⟨m, fun _ => 0, g⟩ (fun r => (∀ c : Dev Cert.DnPrepFwdIdeal.nD,
      r.2.mem ((c.tc : Thread Cert.DnPrepFwdIdeal.nD Cert.DnPrepFwdIdeal.τ).loc Cert.DnPrepFwdIdeal.main_arg0) = m ((c.tc : Thread Cert.DnPrepFwdIdeal.nD Cert.DnPrepFwdIdeal.τ).loc Cert.DnPrepFwdIdeal.main_arg0)
      ∧ r.2.mem ((c.tc : Thread Cert.DnPrepFwdIdeal.nD Cert.DnPrepFwdIdeal.τ).loc Cert.DnPrepFwdIdeal.main_arg1) = m ((c.tc : Thread Cert.DnPrepFwdIdeal.nD Cert.DnPrepFwdIdeal.τ).loc Cert.DnPrepFwdIdeal.main_arg1)
      ∧ r.2.mem ((c.tc : Thread Cert.DnPrepFwdIdeal.nD Cert.DnPrepFwdIdeal.τ).loc Cert.DnPrepFwdIdeal.main_arg2) = m ((c.tc : Thread Cert.DnPrepFwdIdeal.nD Cert.DnPrepFwdIdeal.τ).loc Cert.DnPrepFwdIdeal.main_arg2)
      ∧ r.2.mem ((c.tc : Thread Cert.DnPrepFwdIdeal.nD Cert.DnPrepFwdIdeal.τ).loc Cert.DnPrepFwdIdeal.main_arg3) = m ((c.tc : Thread Cert.DnPrepFwdIdeal.nD Cert.DnPrepFwdIdeal.τ).loc Cert.DnPrepFwdIdeal.main_arg3)
      ∧ r.2.mem ((c.tc : Thread Cert.DnPrepFwdIdeal.nD Cert.DnPrepFwdIdeal.τ).loc Cert.DnPrepFwdIdeal.main_arg4) = m ((c.tc : Thread Cert.DnPrepFwdIdeal.nD Cert.DnPrepFwdIdeal.τ).loc Cert.DnPrepFwdIdeal.main_arg4))
      ∧ r.2.sem = fun _ => 0)

def quiescent_DnPrepFwdRefIdeal [hDnPrepFwdRefIdeal : Cert.DnPrepFwdRefIdeal.Facts] : Prop :=
  ∀ (m : (ℓ : Loc Cert.DnPrepFwdRefIdeal.nD Cert.DnPrepFwdRefIdeal.τ Cert.DnPrepFwdRefIdeal.sig) → Buf (Elt Ideal) ℓ) (g : Dev Cert.DnPrepFwdRefIdeal.nD → PrngReg), Pre_DnPrepFwdRefIdeal m →
    θ_run (Cert.DnPrepFwdRefIdeal.defs (F := Ideal)) (onTc (τ := Cert.DnPrepFwdRefIdeal.τ) (Cert.DnPrepFwdRefIdeal.main (F := Ideal))) ⟨m, fun _ => 0, g⟩ (fun r => (∀ c : Dev Cert.DnPrepFwdRefIdeal.nD,
      r.2.mem ((c.tc : Thread Cert.DnPrepFwdRefIdeal.nD Cert.DnPrepFwdRefIdeal.τ).loc Cert.DnPrepFwdRefIdeal.main_arg0) = m ((c.tc : Thread Cert.DnPrepFwdRefIdeal.nD Cert.DnPrepFwdRefIdeal.τ).loc Cert.DnPrepFwdRefIdeal.main_arg0)
      ∧ r.2.mem ((c.tc : Thread Cert.DnPrepFwdRefIdeal.nD Cert.DnPrepFwdRefIdeal.τ).loc Cert.DnPrepFwdRefIdeal.main_arg1) = m ((c.tc : Thread Cert.DnPrepFwdRefIdeal.nD Cert.DnPrepFwdRefIdeal.τ).loc Cert.DnPrepFwdRefIdeal.main_arg1)
      ∧ r.2.mem ((c.tc : Thread Cert.DnPrepFwdRefIdeal.nD Cert.DnPrepFwdRefIdeal.τ).loc Cert.DnPrepFwdRefIdeal.main_arg2) = m ((c.tc : Thread Cert.DnPrepFwdRefIdeal.nD Cert.DnPrepFwdRefIdeal.τ).loc Cert.DnPrepFwdRefIdeal.main_arg2)
      ∧ r.2.mem ((c.tc : Thread Cert.DnPrepFwdRefIdeal.nD Cert.DnPrepFwdRefIdeal.τ).loc Cert.DnPrepFwdRefIdeal.main_arg3) = m ((c.tc : Thread Cert.DnPrepFwdRefIdeal.nD Cert.DnPrepFwdRefIdeal.τ).loc Cert.DnPrepFwdRefIdeal.main_arg3)
      ∧ r.2.mem ((c.tc : Thread Cert.DnPrepFwdRefIdeal.nD Cert.DnPrepFwdRefIdeal.τ).loc Cert.DnPrepFwdRefIdeal.main_arg4) = m ((c.tc : Thread Cert.DnPrepFwdRefIdeal.nD Cert.DnPrepFwdRefIdeal.τ).loc Cert.DnPrepFwdRefIdeal.main_arg4))
      ∧ r.2.sem = fun _ => 0)

def quiescent_DnPrepFwdRefIdeal_pre_finite_prep [hDnPrepFwdRefIdeal : Cert.DnPrepFwdRefIdeal.Facts] [hPre_finite_prep : Cert.Pre_finite_prep.Facts] : Prop :=
  ∀ (m : (ℓ : Loc Cert.DnPrepFwdRefIdeal.nD Cert.DnPrepFwdRefIdeal.τ Cert.DnPrepFwdRefIdeal.sig) → Buf (Elt Ideal) ℓ) (g : Dev Cert.DnPrepFwdRefIdeal.nD → PrngReg), Pre_DnPrepFwdRefIdeal_finite_prep m →
    θ_run (Cert.DnPrepFwdRefIdeal.defs (F := Ideal)) (onTc (τ := Cert.DnPrepFwdRefIdeal.τ) (Cert.DnPrepFwdRefIdeal.main (F := Ideal))) ⟨m, fun _ => 0, g⟩ (fun r => (∀ c : Dev Cert.DnPrepFwdRefIdeal.nD,
      r.2.mem ((c.tc : Thread Cert.DnPrepFwdRefIdeal.nD Cert.DnPrepFwdRefIdeal.τ).loc Cert.DnPrepFwdRefIdeal.main_arg0) = m ((c.tc : Thread Cert.DnPrepFwdRefIdeal.nD Cert.DnPrepFwdRefIdeal.τ).loc Cert.DnPrepFwdRefIdeal.main_arg0)
      ∧ r.2.mem ((c.tc : Thread Cert.DnPrepFwdRefIdeal.nD Cert.DnPrepFwdRefIdeal.τ).loc Cert.DnPrepFwdRefIdeal.main_arg1) = m ((c.tc : Thread Cert.DnPrepFwdRefIdeal.nD Cert.DnPrepFwdRefIdeal.τ).loc Cert.DnPrepFwdRefIdeal.main_arg1)
      ∧ r.2.mem ((c.tc : Thread Cert.DnPrepFwdRefIdeal.nD Cert.DnPrepFwdRefIdeal.τ).loc Cert.DnPrepFwdRefIdeal.main_arg2) = m ((c.tc : Thread Cert.DnPrepFwdRefIdeal.nD Cert.DnPrepFwdRefIdeal.τ).loc Cert.DnPrepFwdRefIdeal.main_arg2)
      ∧ r.2.mem ((c.tc : Thread Cert.DnPrepFwdRefIdeal.nD Cert.DnPrepFwdRefIdeal.τ).loc Cert.DnPrepFwdRefIdeal.main_arg3) = m ((c.tc : Thread Cert.DnPrepFwdRefIdeal.nD Cert.DnPrepFwdRefIdeal.τ).loc Cert.DnPrepFwdRefIdeal.main_arg3)
      ∧ r.2.mem ((c.tc : Thread Cert.DnPrepFwdRefIdeal.nD Cert.DnPrepFwdRefIdeal.τ).loc Cert.DnPrepFwdRefIdeal.main_arg4) = m ((c.tc : Thread Cert.DnPrepFwdRefIdeal.nD Cert.DnPrepFwdRefIdeal.τ).loc Cert.DnPrepFwdRefIdeal.main_arg4))
      ∧ r.2.sem = fun _ => 0)

def quiescent_InAbFwd [hInAbFwd : Cert.InAbFwd.Facts] : Prop :=
  ∀ (m : (ℓ : Loc Cert.InAbFwd.nD Cert.InAbFwd.τ Cert.InAbFwd.sig) → Buf (Elt Bits) ℓ) (g : Dev Cert.InAbFwd.nD → PrngReg), Pre_InAbFwd m →
    θ_run (Cert.InAbFwd.defs (F := Bits)) (onTc (τ := Cert.InAbFwd.τ) (Cert.InAbFwd.main (F := Bits))) ⟨m, fun _ => 0, g⟩ (fun r => (∀ c : Dev Cert.InAbFwd.nD,
      r.2.mem ((c.tc : Thread Cert.InAbFwd.nD Cert.InAbFwd.τ).loc Cert.InAbFwd.main_arg0) = m ((c.tc : Thread Cert.InAbFwd.nD Cert.InAbFwd.τ).loc Cert.InAbFwd.main_arg0)
      ∧ r.2.mem ((c.tc : Thread Cert.InAbFwd.nD Cert.InAbFwd.τ).loc Cert.InAbFwd.main_arg1) = m ((c.tc : Thread Cert.InAbFwd.nD Cert.InAbFwd.τ).loc Cert.InAbFwd.main_arg1)
      ∧ r.2.mem ((c.tc : Thread Cert.InAbFwd.nD Cert.InAbFwd.τ).loc Cert.InAbFwd.main_arg2) = m ((c.tc : Thread Cert.InAbFwd.nD Cert.InAbFwd.τ).loc Cert.InAbFwd.main_arg2))
      ∧ r.2.sem = fun _ => 0)

def quiescent_InAbFwdIdeal [hInAbFwdIdeal : Cert.InAbFwdIdeal.Facts] : Prop :=
  ∀ (m : (ℓ : Loc Cert.InAbFwdIdeal.nD Cert.InAbFwdIdeal.τ Cert.InAbFwdIdeal.sig) → Buf (Elt Ideal) ℓ) (g : Dev Cert.InAbFwdIdeal.nD → PrngReg), Pre_InAbFwdIdeal m →
    θ_run (Cert.InAbFwdIdeal.defs (F := Ideal)) (onTc (τ := Cert.InAbFwdIdeal.τ) (Cert.InAbFwdIdeal.main (F := Ideal))) ⟨m, fun _ => 0, g⟩ (fun r => (∀ c : Dev Cert.InAbFwdIdeal.nD,
      r.2.mem ((c.tc : Thread Cert.InAbFwdIdeal.nD Cert.InAbFwdIdeal.τ).loc Cert.InAbFwdIdeal.main_arg0) = m ((c.tc : Thread Cert.InAbFwdIdeal.nD Cert.InAbFwdIdeal.τ).loc Cert.InAbFwdIdeal.main_arg0)
      ∧ r.2.mem ((c.tc : Thread Cert.InAbFwdIdeal.nD Cert.InAbFwdIdeal.τ).loc Cert.InAbFwdIdeal.main_arg1) = m ((c.tc : Thread Cert.InAbFwdIdeal.nD Cert.InAbFwdIdeal.τ).loc Cert.InAbFwdIdeal.main_arg1)
      ∧ r.2.mem ((c.tc : Thread Cert.InAbFwdIdeal.nD Cert.InAbFwdIdeal.τ).loc Cert.InAbFwdIdeal.main_arg2) = m ((c.tc : Thread Cert.InAbFwdIdeal.nD Cert.InAbFwdIdeal.τ).loc Cert.InAbFwdIdeal.main_arg2))
      ∧ r.2.sem = fun _ => 0)

def quiescent_InAbFwdRefIdeal [hInAbFwdRefIdeal : Cert.InAbFwdRefIdeal.Facts] : Prop :=
  ∀ (m : (ℓ : Loc Cert.InAbFwdRefIdeal.nD Cert.InAbFwdRefIdeal.τ Cert.InAbFwdRefIdeal.sig) → Buf (Elt Ideal) ℓ) (g : Dev Cert.InAbFwdRefIdeal.nD → PrngReg), Pre_InAbFwdRefIdeal m →
    θ_run (Cert.InAbFwdRefIdeal.defs (F := Ideal)) (onTc (τ := Cert.InAbFwdRefIdeal.τ) (Cert.InAbFwdRefIdeal.main (F := Ideal))) ⟨m, fun _ => 0, g⟩ (fun r => (∀ c : Dev Cert.InAbFwdRefIdeal.nD,
      r.2.mem ((c.tc : Thread Cert.InAbFwdRefIdeal.nD Cert.InAbFwdRefIdeal.τ).loc Cert.InAbFwdRefIdeal.main_arg0) = m ((c.tc : Thread Cert.InAbFwdRefIdeal.nD Cert.InAbFwdRefIdeal.τ).loc Cert.InAbFwdRefIdeal.main_arg0)
      ∧ r.2.mem ((c.tc : Thread Cert.InAbFwdRefIdeal.nD Cert.InAbFwdRefIdeal.τ).loc Cert.InAbFwdRefIdeal.main_arg1) = m ((c.tc : Thread Cert.InAbFwdRefIdeal.nD Cert.InAbFwdRefIdeal.τ).loc Cert.InAbFwdRefIdeal.main_arg1)
      ∧ r.2.mem ((c.tc : Thread Cert.InAbFwdRefIdeal.nD Cert.InAbFwdRefIdeal.τ).loc Cert.InAbFwdRefIdeal.main_arg2) = m ((c.tc : Thread Cert.InAbFwdRefIdeal.nD Cert.InAbFwdRefIdeal.τ).loc Cert.InAbFwdRefIdeal.main_arg2))
      ∧ r.2.sem = fun _ => 0)

def quiescent_InCdFwd [hInCdFwd : Cert.InCdFwd.Facts] : Prop :=
  ∀ (m : (ℓ : Loc Cert.InCdFwd.nD Cert.InCdFwd.τ Cert.InCdFwd.sig) → Buf (Elt Bits) ℓ) (g : Dev Cert.InCdFwd.nD → PrngReg), Pre_InCdFwd m →
    θ_run (Cert.InCdFwd.defs (F := Bits)) (onTc (τ := Cert.InCdFwd.τ) (Cert.InCdFwd.main (F := Bits))) ⟨m, fun _ => 0, g⟩ (fun r => (∀ c : Dev Cert.InCdFwd.nD,
      r.2.mem ((c.tc : Thread Cert.InCdFwd.nD Cert.InCdFwd.τ).loc Cert.InCdFwd.main_arg0) = m ((c.tc : Thread Cert.InCdFwd.nD Cert.InCdFwd.τ).loc Cert.InCdFwd.main_arg0)
      ∧ r.2.mem ((c.tc : Thread Cert.InCdFwd.nD Cert.InCdFwd.τ).loc Cert.InCdFwd.main_arg1) = m ((c.tc : Thread Cert.InCdFwd.nD Cert.InCdFwd.τ).loc Cert.InCdFwd.main_arg1)
      ∧ r.2.mem ((c.tc : Thread Cert.InCdFwd.nD Cert.InCdFwd.τ).loc Cert.InCdFwd.main_arg2) = m ((c.tc : Thread Cert.InCdFwd.nD Cert.InCdFwd.τ).loc Cert.InCdFwd.main_arg2))
      ∧ r.2.sem = fun _ => 0)

def quiescent_InCdFwdIdeal [hInCdFwdIdeal : Cert.InCdFwdIdeal.Facts] : Prop :=
  ∀ (m : (ℓ : Loc Cert.InCdFwdIdeal.nD Cert.InCdFwdIdeal.τ Cert.InCdFwdIdeal.sig) → Buf (Elt Ideal) ℓ) (g : Dev Cert.InCdFwdIdeal.nD → PrngReg), Pre_InCdFwdIdeal m →
    θ_run (Cert.InCdFwdIdeal.defs (F := Ideal)) (onTc (τ := Cert.InCdFwdIdeal.τ) (Cert.InCdFwdIdeal.main (F := Ideal))) ⟨m, fun _ => 0, g⟩ (fun r => (∀ c : Dev Cert.InCdFwdIdeal.nD,
      r.2.mem ((c.tc : Thread Cert.InCdFwdIdeal.nD Cert.InCdFwdIdeal.τ).loc Cert.InCdFwdIdeal.main_arg0) = m ((c.tc : Thread Cert.InCdFwdIdeal.nD Cert.InCdFwdIdeal.τ).loc Cert.InCdFwdIdeal.main_arg0)
      ∧ r.2.mem ((c.tc : Thread Cert.InCdFwdIdeal.nD Cert.InCdFwdIdeal.τ).loc Cert.InCdFwdIdeal.main_arg1) = m ((c.tc : Thread Cert.InCdFwdIdeal.nD Cert.InCdFwdIdeal.τ).loc Cert.InCdFwdIdeal.main_arg1)
      ∧ r.2.mem ((c.tc : Thread Cert.InCdFwdIdeal.nD Cert.InCdFwdIdeal.τ).loc Cert.InCdFwdIdeal.main_arg2) = m ((c.tc : Thread Cert.InCdFwdIdeal.nD Cert.InCdFwdIdeal.τ).loc Cert.InCdFwdIdeal.main_arg2))
      ∧ r.2.sem = fun _ => 0)

def quiescent_InCdFwdRefIdeal [hInCdFwdRefIdeal : Cert.InCdFwdRefIdeal.Facts] : Prop :=
  ∀ (m : (ℓ : Loc Cert.InCdFwdRefIdeal.nD Cert.InCdFwdRefIdeal.τ Cert.InCdFwdRefIdeal.sig) → Buf (Elt Ideal) ℓ) (g : Dev Cert.InCdFwdRefIdeal.nD → PrngReg), Pre_InCdFwdRefIdeal m →
    θ_run (Cert.InCdFwdRefIdeal.defs (F := Ideal)) (onTc (τ := Cert.InCdFwdRefIdeal.τ) (Cert.InCdFwdRefIdeal.main (F := Ideal))) ⟨m, fun _ => 0, g⟩ (fun r => (∀ c : Dev Cert.InCdFwdRefIdeal.nD,
      r.2.mem ((c.tc : Thread Cert.InCdFwdRefIdeal.nD Cert.InCdFwdRefIdeal.τ).loc Cert.InCdFwdRefIdeal.main_arg0) = m ((c.tc : Thread Cert.InCdFwdRefIdeal.nD Cert.InCdFwdRefIdeal.τ).loc Cert.InCdFwdRefIdeal.main_arg0)
      ∧ r.2.mem ((c.tc : Thread Cert.InCdFwdRefIdeal.nD Cert.InCdFwdRefIdeal.τ).loc Cert.InCdFwdRefIdeal.main_arg1) = m ((c.tc : Thread Cert.InCdFwdRefIdeal.nD Cert.InCdFwdRefIdeal.τ).loc Cert.InCdFwdRefIdeal.main_arg1)
      ∧ r.2.mem ((c.tc : Thread Cert.InCdFwdRefIdeal.nD Cert.InCdFwdRefIdeal.τ).loc Cert.InCdFwdRefIdeal.main_arg2) = m ((c.tc : Thread Cert.InCdFwdRefIdeal.nD Cert.InCdFwdRefIdeal.τ).loc Cert.InCdFwdRefIdeal.main_arg2))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2)
      ∧ r.2.mem ((c.tc : Thread Cert.OutFwd.nD Cert.OutFwd.τ).loc Cert.OutFwd.main_arg3) = m ((c.tc : Thread Cert.OutFwd.nD Cert.OutFwd.τ).loc Cert.OutFwd.main_arg3))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
      ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3))
      ∧ r.2.sem = fun _ => 0)

def quiescent_OutFwdRefIdeal [hOutFwdRefIdeal : Cert.OutFwdRefIdeal.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1)
      ∧ r.2.mem ((c.tc : Thread Cert.OutFwdRefIdeal.nD Cert.OutFwdRefIdeal.τ).loc Cert.OutFwdRefIdeal.main_arg2) = m ((c.tc : Thread Cert.OutFwdRefIdeal.nD Cert.OutFwdRefIdeal.τ).loc Cert.OutFwdRefIdeal.main_arg2)
      ∧ r.2.mem ((c.tc : Thread Cert.OutFwdRefIdeal.nD Cert.OutFwdRefIdeal.τ).loc Cert.OutFwdRefIdeal.main_arg3) = m ((c.tc : Thread Cert.OutFwdRefIdeal.nD Cert.OutFwdRefIdeal.τ).loc Cert.OutFwdRefIdeal.main_arg3))
      ∧ r.2.sem = fun _ => 0)

def quiescent_OutBwd [hOutBwd : Cert.OutBwd.Facts] : Prop :=
  ∀ (m : (ℓ : Loc Cert.OutBwd.nD Cert.OutBwd.τ Cert.OutBwd.sig) → Buf (Elt Bits) ℓ) (g : Dev Cert.OutBwd.nD → PrngReg), Pre_OutBwd m →
    θ_run (Cert.OutBwd.defs (F := Bits)) (onTc (τ := Cert.OutBwd.τ) (Cert.OutBwd.main (F := Bits))) ⟨m, fun _ => 0, g⟩ (fun r => (∀ c : Dev Cert.OutBwd.nD,
      r.2.mem ((c.tc : Thread Cert.OutBwd.nD Cert.OutBwd.τ).loc Cert.OutBwd.main_arg0) = m ((c.tc : Thread Cert.OutBwd.nD Cert.OutBwd.τ).loc Cert.OutBwd.main_arg0)
      ∧ r.2.mem ((c.tc : Thread Cert.OutBwd.nD Cert.OutBwd.τ).loc Cert.OutBwd.main_arg1) = m ((c.tc : Thread Cert.OutBwd.nD Cert.OutBwd.τ).loc Cert.OutBwd.main_arg1)
      ∧ r.2.mem ((c.tc : Thread Cert.OutBwd.nD Cert.OutBwd.τ).loc Cert.OutBwd.main_arg2) = m ((c.tc : Thread Cert.OutBwd.nD Cert.OutBwd.τ).loc Cert.OutBwd.main_arg2)
      ∧ r.2.mem ((c.tc : Thread Cert.OutBwd.nD Cert.OutBwd.τ).loc Cert.OutBwd.main_arg3) = m ((c.tc : Thread Cert.OutBwd.nD Cert.OutBwd.τ).loc Cert.OutBwd.main_arg3))
      ∧ r.2.sem = fun _ => 0)

def quiescent_OutBwdIdeal [hOutBwdIdeal : Cert.OutBwdIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
      ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
      ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3))
      ∧ r.2.sem = fun _ => 0)

def quiescent_OutBwdRefIdeal [hOutBwdRefIdeal : Cert.OutBwdRefIdeal.Facts] : Prop :=
  ∀ (m : (ℓ : Loc Cert.OutBwdRefIdeal.nD Cert.OutBwdRefIdeal.τ Cert.OutBwdRefIdeal.sig) → Buf (Elt Ideal) ℓ) (g : Dev Cert.OutBwdRefIdeal.nD → PrngReg), Pre_OutBwdRefIdeal m →
    θ_run (Cert.OutBwdRefIdeal.defs (F := Ideal)) (onTc (τ := Cert.OutBwdRefIdeal.τ) (Cert.OutBwdRefIdeal.main (F := Ideal))) ⟨m, fun _ => 0, g⟩ (fun r => (∀ c : Dev Cert.OutBwdRefIdeal.nD,
      r.2.mem ((c.tc : Thread Cert.OutBwdRefIdeal.nD Cert.OutBwdRefIdeal.τ).loc Cert.OutBwdRefIdeal.main_arg0) = m ((c.tc : Thread Cert.OutBwdRefIdeal.nD Cert.OutBwdRefIdeal.τ).loc Cert.OutBwdRefIdeal.main_arg0)
      ∧ r.2.mem ((c.tc : Thread Cert.OutBwdRefIdeal.nD Cert.OutBwdRefIdeal.τ).loc Cert.OutBwdRefIdeal.main_arg1) = m ((c.tc : Thread Cert.OutBwdRefIdeal.nD Cert.OutBwdRefIdeal.τ).loc Cert.OutBwdRefIdeal.main_arg1)
      ∧ r.2.mem ((c.tc : Thread Cert.OutBwdRefIdeal.nD Cert.OutBwdRefIdeal.τ).loc Cert.OutBwdRefIdeal.main_arg2) = m ((c.tc : Thread Cert.OutBwdRefIdeal.nD Cert.OutBwdRefIdeal.τ).loc Cert.OutBwdRefIdeal.main_arg2)
      ∧ r.2.mem ((c.tc : Thread Cert.OutBwdRefIdeal.nD Cert.OutBwdRefIdeal.τ).loc Cert.OutBwdRefIdeal.main_arg3) = m ((c.tc : Thread Cert.OutBwdRefIdeal.nD Cert.OutBwdRefIdeal.τ).loc Cert.OutBwdRefIdeal.main_arg3))
      ∧ r.2.sem = fun _ => 0)

def quiescent_Wgrad [hWgrad : Cert.Wgrad.Facts] : Prop :=
  ∀ (m : (ℓ : Loc Cert.Wgrad.nD Cert.Wgrad.τ Cert.Wgrad.sig) → Buf (Elt Bits) ℓ) (g : Dev Cert.Wgrad.nD → PrngReg), Pre_Wgrad m →
    θ_run (Cert.Wgrad.defs (F := Bits)) (onTc (τ := Cert.Wgrad.τ) (Cert.Wgrad.main (F := Bits))) ⟨m, fun _ => 0, g⟩ (fun r => (∀ c : Dev Cert.Wgrad.nD,
      r.2.mem ((c.tc : Thread Cert.Wgrad.nD Cert.Wgrad.τ).loc Cert.Wgrad.main_arg0) = m ((c.tc : Thread Cert.Wgrad.nD Cert.Wgrad.τ).loc Cert.Wgrad.main_arg0)
      ∧ r.2.mem ((c.tc : Thread Cert.Wgrad.nD Cert.Wgrad.τ).loc Cert.Wgrad.main_arg1) = m ((c.tc : Thread Cert.Wgrad.nD Cert.Wgrad.τ).loc Cert.Wgrad.main_arg1))
      ∧ r.2.sem = fun _ => 0)

def quiescent_WgradIdeal [hWgradIdeal : Cert.WgradIdeal.Facts] : Prop :=
  ∀ (m : (ℓ : Loc Cert.WgradIdeal.nD Cert.WgradIdeal.τ Cert.WgradIdeal.sig) → Buf (Elt Ideal) ℓ) (g : Dev Cert.WgradIdeal.nD → PrngReg), Pre_WgradIdeal m →
    θ_run (Cert.WgradIdeal.defs (F := Ideal)) (onTc (τ := Cert.WgradIdeal.τ) (Cert.WgradIdeal.main (F := Ideal))) ⟨m, fun _ => 0, g⟩ (fun r => (∀ c : Dev Cert.WgradIdeal.nD,
      r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
      ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1))
      ∧ r.2.sem = fun _ => 0)

def quiescent_WgradRefIdeal [hWgradRefIdeal : Cert.WgradRefIdeal.Facts] : Prop :=
  ∀ (m : (ℓ : Loc Cert.WgradRefIdeal.nD Cert.WgradRefIdeal.τ Cert.WgradRefIdeal.sig) → Buf (Elt Ideal) ℓ) (g : Dev Cert.WgradRefIdeal.nD → PrngReg), Pre_WgradRefIdeal m →
    θ_run (Cert.WgradRefIdeal.defs (F := Ideal)) (onTc (τ := Cert.WgradRefIdeal.τ) (Cert.WgradRefIdeal.main (F := Ideal))) ⟨m, fun _ => 0, g⟩ (fun r => (∀ c : Dev Cert.WgradRefIdeal.nD,
      r.2.mem ((c.tc : Thread Cert.WgradRefIdeal.nD Cert.WgradRefIdeal.τ).loc Cert.WgradRefIdeal.main_arg0) = m ((c.tc : Thread Cert.WgradRefIdeal.nD Cert.WgradRefIdeal.τ).loc Cert.WgradRefIdeal.main_arg0)
      ∧ r.2.mem ((c.tc : Thread Cert.WgradRefIdeal.nD Cert.WgradRefIdeal.τ).loc Cert.WgradRefIdeal.main_arg1) = m ((c.tc : Thread Cert.WgradRefIdeal.nD Cert.WgradRefIdeal.τ).loc Cert.WgradRefIdeal.main_arg1))
      ∧ r.2.sem = fun _ => 0)

def quiescent_Adamw [hAdamw : Cert.Adamw.Facts] : Prop :=
  ∀ (m : (ℓ : Loc Cert.Adamw.nD Cert.Adamw.τ Cert.Adamw.sig) → Buf (Elt Bits) ℓ) (g : Dev Cert.Adamw.nD → PrngReg), Pre_Adamw m →
    θ_run (Cert.Adamw.defs (F := Bits)) (onTc (τ := Cert.Adamw.τ) (Cert.Adamw.main (F := Bits))) ⟨m, fun _ => 0, g⟩ (fun r => (∀ c : Dev Cert.Adamw.nD,
      r.2.mem ((c.tc : Thread Cert.Adamw.nD Cert.Adamw.τ).loc Cert.Adamw.main_arg0) = m ((c.tc : Thread Cert.Adamw.nD Cert.Adamw.τ).loc Cert.Adamw.main_arg0)
      ∧ r.2.mem ((c.tc : Thread Cert.Adamw.nD Cert.Adamw.τ).loc Cert.Adamw.main_arg1) = m ((c.tc : Thread Cert.Adamw.nD Cert.Adamw.τ).loc Cert.Adamw.main_arg1)
      ∧ r.2.mem ((c.tc : Thread Cert.Adamw.nD Cert.Adamw.τ).loc Cert.Adamw.main_arg2) = m ((c.tc : Thread Cert.Adamw.nD Cert.Adamw.τ).loc Cert.Adamw.main_arg2)
      ∧ r.2.mem ((c.tc : Thread Cert.Adamw.nD Cert.Adamw.τ).loc Cert.Adamw.main_arg3) = m ((c.tc : Thread Cert.Adamw.nD Cert.Adamw.τ).loc Cert.Adamw.main_arg3))
      ∧ r.2.sem = fun _ => 0)

def quiescent_AdamwIdeal [hAdamwIdeal : Cert.AdamwIdeal.Facts] : Prop :=
  ∀ (m : (ℓ : Loc Cert.AdamwIdeal.nD Cert.AdamwIdeal.τ Cert.AdamwIdeal.sig) → Buf (Elt Ideal) ℓ) (g : Dev Cert.AdamwIdeal.nD → PrngReg), Pre_AdamwIdeal m →
    θ_run (Cert.AdamwIdeal.defs (F := Ideal)) (onTc (τ := Cert.AdamwIdeal.τ) (Cert.AdamwIdeal.main (F := Ideal))) ⟨m, fun _ => 0, g⟩ (fun r => (∀ c : Dev Cert.AdamwIdeal.nD,
      r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
      ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
      ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
      ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ r.2.sem = fun _ => 0)

def quiescent_AdamwRefIdeal [hAdamwRefIdeal : Cert.AdamwRefIdeal.Facts] : Prop :=
  ∀ (m : (ℓ : Loc Cert.AdamwRefIdeal.nD Cert.AdamwRefIdeal.τ Cert.AdamwRefIdeal.sig) → Buf (Elt Ideal) ℓ) (g : Dev Cert.AdamwRefIdeal.nD → PrngReg), Pre_AdamwRefIdeal m →
    θ_run (Cert.AdamwRefIdeal.defs (F := Ideal)) (onTc (τ := Cert.AdamwRefIdeal.τ) (Cert.AdamwRefIdeal.main (F := Ideal))) ⟨m, fun _ => 0, g⟩ (fun r => (∀ c : Dev Cert.AdamwRefIdeal.nD,
      r.2.mem ((c.tc : Thread Cert.AdamwRefIdeal.nD Cert.AdamwRefIdeal.τ).loc Cert.AdamwRefIdeal.main_arg0) = m ((c.tc : Thread Cert.AdamwRefIdeal.nD Cert.AdamwRefIdeal.τ).loc Cert.AdamwRefIdeal.main_arg0)
      ∧ r.2.mem ((c.tc : Thread Cert.AdamwRefIdeal.nD Cert.AdamwRefIdeal.τ).loc Cert.AdamwRefIdeal.main_arg1) = m ((c.tc : Thread Cert.AdamwRefIdeal.nD Cert.AdamwRefIdeal.τ).loc Cert.AdamwRefIdeal.main_arg1)
      ∧ r.2.mem ((c.tc : Thread Cert.AdamwRefIdeal.nD Cert.AdamwRefIdeal.τ).loc Cert.AdamwRefIdeal.main_arg2) = m ((c.tc : Thread Cert.AdamwRefIdeal.nD Cert.AdamwRefIdeal.τ).loc Cert.AdamwRefIdeal.main_arg2)
      ∧ r.2.mem ((c.tc : Thread Cert.AdamwRefIdeal.nD Cert.AdamwRefIdeal.τ).loc Cert.AdamwRefIdeal.main_arg3) = m ((c.tc : Thread Cert.AdamwRefIdeal.nD Cert.AdamwRefIdeal.τ).loc Cert.AdamwRefIdeal.main_arg3))
      ∧ r.2.sem = fun _ => 0)

def quiescent_Sum8 [hSum8 : Cert.Sum8.Facts] : Prop :=
  ∀ (m : (ℓ : Loc Cert.Sum8.nD Cert.Sum8.τ Cert.Sum8.sig) → Buf (Elt Bits) ℓ) (g : Dev Cert.Sum8.nD → PrngReg), Pre_Sum8 m →
    θ_run (Cert.Sum8.defs (F := Bits)) (onTc (τ := Cert.Sum8.τ) (Cert.Sum8.main (F := Bits))) ⟨m, fun _ => 0, g⟩ (fun r => (∀ c : Dev Cert.Sum8.nD,
      r.2.mem ((c.tc : Thread Cert.Sum8.nD Cert.Sum8.τ).loc Cert.Sum8.main_arg0) = m ((c.tc : Thread Cert.Sum8.nD Cert.Sum8.τ).loc Cert.Sum8.main_arg0))
      ∧ r.2.sem = fun _ => 0)

def quiescent_Sum8Ideal [hSum8Ideal : Cert.Sum8Ideal.Facts] : Prop :=
  ∀ (m : (ℓ : Loc Cert.Sum8Ideal.nD Cert.Sum8Ideal.τ Cert.Sum8Ideal.sig) → Buf (Elt Ideal) ℓ) (g : Dev Cert.Sum8Ideal.nD → PrngReg), Pre_Sum8Ideal m →
    θ_run (Cert.Sum8Ideal.defs (F := Ideal)) (onTc (τ := Cert.Sum8Ideal.τ) (Cert.Sum8Ideal.main (F := Ideal))) ⟨m, fun _ => 0, g⟩ (fun r => (∀ c : Dev Cert.Sum8Ideal.nD,
      r.2.mem ((c.tc : Thread Cert.Sum8Ideal.nD Cert.Sum8Ideal.τ).loc Cert.Sum8Ideal.main_arg0) = m ((c.tc : Thread Cert.Sum8Ideal.nD Cert.Sum8Ideal.τ).loc Cert.Sum8Ideal.main_arg0))
      ∧ r.2.sem = fun _ => 0)

def quiescent_Sum8RefIdeal [hSum8RefIdeal : Cert.Sum8RefIdeal.Facts] : Prop :=
  ∀ (m : (ℓ : Loc Cert.Sum8RefIdeal.nD Cert.Sum8RefIdeal.τ Cert.Sum8RefIdeal.sig) → Buf (Elt Ideal) ℓ) (g : Dev Cert.Sum8RefIdeal.nD → PrngReg), Pre_Sum8RefIdeal m →
    θ_run (Cert.Sum8RefIdeal.defs (F := Ideal)) (onTc (τ := Cert.Sum8RefIdeal.τ) (Cert.Sum8RefIdeal.main (F := Ideal))) ⟨m, fun _ => 0, g⟩ (fun r => (∀ c : Dev Cert.Sum8RefIdeal.nD,
      r.2.mem ((c.tc : Thread Cert.Sum8RefIdeal.nD Cert.Sum8RefIdeal.τ).loc Cert.Sum8RefIdeal.main_arg0) = m ((c.tc : Thread Cert.Sum8RefIdeal.nD Cert.Sum8RefIdeal.τ).loc Cert.Sum8RefIdeal.main_arg0))
      ∧ r.2.sem = fun _ => 0)

def quiescent_SumSlots [hSumSlots : Cert.SumSlots.Facts] : Prop :=
  ∀ (m : (ℓ : Loc Cert.SumSlots.nD Cert.SumSlots.τ Cert.SumSlots.sig) → Buf (Elt Bits) ℓ) (g : Dev Cert.SumSlots.nD → PrngReg), Pre_SumSlots m →
    θ_run (Cert.SumSlots.defs (F := Bits)) (onTc (τ := Cert.SumSlots.τ) (Cert.SumSlots.main (F := Bits))) ⟨m, fun _ => 0, g⟩ (fun r => (∀ c : Dev Cert.SumSlots.nD,
      r.2.mem ((c.tc : Thread Cert.SumSlots.nD Cert.SumSlots.τ).loc Cert.SumSlots.main_arg0) = m ((c.tc : Thread Cert.SumSlots.nD Cert.SumSlots.τ).loc Cert.SumSlots.main_arg0))
      ∧ r.2.sem = fun _ => 0)

def quiescent_SumSlotsIdeal [hSumSlotsIdeal : Cert.SumSlotsIdeal.Facts] : Prop :=
  ∀ (m : (ℓ : Loc Cert.SumSlotsIdeal.nD Cert.SumSlotsIdeal.τ Cert.SumSlotsIdeal.sig) → Buf (Elt Ideal) ℓ) (g : Dev Cert.SumSlotsIdeal.nD → PrngReg), Pre_SumSlotsIdeal m →
    θ_run (Cert.SumSlotsIdeal.defs (F := Ideal)) (onTc (τ := Cert.SumSlotsIdeal.τ) (Cert.SumSlotsIdeal.main (F := Ideal))) ⟨m, fun _ => 0, g⟩ (fun r => (∀ c : Dev Cert.SumSlotsIdeal.nD,
      r.2.mem ((c.tc : Thread Cert.SumSlotsIdeal.nD Cert.SumSlotsIdeal.τ).loc Cert.SumSlotsIdeal.main_arg0) = m ((c.tc : Thread Cert.SumSlotsIdeal.nD Cert.SumSlotsIdeal.τ).loc Cert.SumSlotsIdeal.main_arg0))
      ∧ r.2.sem = fun _ => 0)

def quiescent_SumSlotsRefIdeal [hSumSlotsRefIdeal : Cert.SumSlotsRefIdeal.Facts] : Prop :=
  ∀ (m : (ℓ : Loc Cert.SumSlotsRefIdeal.nD Cert.SumSlotsRefIdeal.τ Cert.SumSlotsRefIdeal.sig) → Buf (Elt Ideal) ℓ) (g : Dev Cert.SumSlotsRefIdeal.nD → PrngReg), Pre_SumSlotsRefIdeal m →
    θ_run (Cert.SumSlotsRefIdeal.defs (F := Ideal)) (onTc (τ := Cert.SumSlotsRefIdeal.τ) (Cert.SumSlotsRefIdeal.main (F := Ideal))) ⟨m, fun _ => 0, g⟩ (fun r => (∀ c : Dev Cert.SumSlotsRefIdeal.nD,
      r.2.mem ((c.tc : Thread Cert.SumSlotsRefIdeal.nD Cert.SumSlotsRefIdeal.τ).loc Cert.SumSlotsRefIdeal.main_arg0) = m ((c.tc : Thread Cert.SumSlotsRefIdeal.nD Cert.SumSlotsRefIdeal.τ).loc Cert.SumSlotsRefIdeal.main_arg0))
      ∧ r.2.sem = fun _ => 0)

def quiescent_AdamwUp [hAdamwUp : Cert.AdamwUp.Facts] : Prop :=
  ∀ (m : (ℓ : Loc Cert.AdamwUp.nD Cert.AdamwUp.τ Cert.AdamwUp.sig) → Buf (Elt Bits) ℓ) (g : Dev Cert.AdamwUp.nD → PrngReg), Pre_AdamwUp m →
    θ_run (Cert.AdamwUp.defs (F := Bits)) (onTc (τ := Cert.AdamwUp.τ) (Cert.AdamwUp.main (F := Bits))) ⟨m, fun _ => 0, g⟩ (fun r => (∀ c : Dev Cert.AdamwUp.nD,
      r.2.mem ((c.tc : Thread Cert.AdamwUp.nD Cert.AdamwUp.τ).loc Cert.AdamwUp.main_arg0) = m ((c.tc : Thread Cert.AdamwUp.nD Cert.AdamwUp.τ).loc Cert.AdamwUp.main_arg0)
      ∧ r.2.mem ((c.tc : Thread Cert.AdamwUp.nD Cert.AdamwUp.τ).loc Cert.AdamwUp.main_arg1) = m ((c.tc : Thread Cert.AdamwUp.nD Cert.AdamwUp.τ).loc Cert.AdamwUp.main_arg1)
      ∧ r.2.mem ((c.tc : Thread Cert.AdamwUp.nD Cert.AdamwUp.τ).loc Cert.AdamwUp.main_arg2) = m ((c.tc : Thread Cert.AdamwUp.nD Cert.AdamwUp.τ).loc Cert.AdamwUp.main_arg2)
      ∧ r.2.mem ((c.tc : Thread Cert.AdamwUp.nD Cert.AdamwUp.τ).loc Cert.AdamwUp.main_arg3) = m ((c.tc : Thread Cert.AdamwUp.nD Cert.AdamwUp.τ).loc Cert.AdamwUp.main_arg3))
      ∧ r.2.sem = fun _ => 0)

def quiescent_AdamwUpIdeal [hAdamwUpIdeal : Cert.AdamwUpIdeal.Facts] : Prop :=
  ∀ (m : (ℓ : Loc Cert.AdamwUpIdeal.nD Cert.AdamwUpIdeal.τ Cert.AdamwUpIdeal.sig) → Buf (Elt Ideal) ℓ) (g : Dev Cert.AdamwUpIdeal.nD → PrngReg), Pre_AdamwUpIdeal m →
    θ_run (Cert.AdamwUpIdeal.defs (F := Ideal)) (onTc (τ := Cert.AdamwUpIdeal.τ) (Cert.AdamwUpIdeal.main (F := Ideal))) ⟨m, fun _ => 0, g⟩ (fun r => (∀ c : Dev Cert.AdamwUpIdeal.nD,
      r.2.mem ((c.tc : Thread Cert.AdamwUpIdeal.nD Cert.AdamwUpIdeal.τ).loc Cert.AdamwUpIdeal.main_arg0) = m ((c.tc : Thread Cert.AdamwUpIdeal.nD Cert.AdamwUpIdeal.τ).loc Cert.AdamwUpIdeal.main_arg0)
      ∧ r.2.mem ((c.tc : Thread Cert.AdamwUpIdeal.nD Cert.AdamwUpIdeal.τ).loc Cert.AdamwUpIdeal.main_arg1) = m ((c.tc : Thread Cert.AdamwUpIdeal.nD Cert.AdamwUpIdeal.τ).loc Cert.AdamwUpIdeal.main_arg1)
      ∧ r.2.mem ((c.tc : Thread Cert.AdamwUpIdeal.nD Cert.AdamwUpIdeal.τ).loc Cert.AdamwUpIdeal.main_arg2) = m ((c.tc : Thread Cert.AdamwUpIdeal.nD Cert.AdamwUpIdeal.τ).loc Cert.AdamwUpIdeal.main_arg2)
      ∧ r.2.mem ((c.tc : Thread Cert.AdamwUpIdeal.nD Cert.AdamwUpIdeal.τ).loc Cert.AdamwUpIdeal.main_arg3) = m ((c.tc : Thread Cert.AdamwUpIdeal.nD Cert.AdamwUpIdeal.τ).loc Cert.AdamwUpIdeal.main_arg3))
      ∧ r.2.sem = fun _ => 0)

def quiescent_AdamwUpRefIdeal [hAdamwUpRefIdeal : Cert.AdamwUpRefIdeal.Facts] : Prop :=
  ∀ (m : (ℓ : Loc Cert.AdamwUpRefIdeal.nD Cert.AdamwUpRefIdeal.τ Cert.AdamwUpRefIdeal.sig) → Buf (Elt Ideal) ℓ) (g : Dev Cert.AdamwUpRefIdeal.nD → PrngReg), Pre_AdamwUpRefIdeal m →
    θ_run (Cert.AdamwUpRefIdeal.defs (F := Ideal)) (onTc (τ := Cert.AdamwUpRefIdeal.τ) (Cert.AdamwUpRefIdeal.main (F := Ideal))) ⟨m, fun _ => 0, g⟩ (fun r => (∀ c : Dev Cert.AdamwUpRefIdeal.nD,
      r.2.mem ((c.tc : Thread Cert.AdamwUpRefIdeal.nD Cert.AdamwUpRefIdeal.τ).loc Cert.AdamwUpRefIdeal.main_arg0) = m ((c.tc : Thread Cert.AdamwUpRefIdeal.nD Cert.AdamwUpRefIdeal.τ).loc Cert.AdamwUpRefIdeal.main_arg0)
      ∧ r.2.mem ((c.tc : Thread Cert.AdamwUpRefIdeal.nD Cert.AdamwUpRefIdeal.τ).loc Cert.AdamwUpRefIdeal.main_arg1) = m ((c.tc : Thread Cert.AdamwUpRefIdeal.nD Cert.AdamwUpRefIdeal.τ).loc Cert.AdamwUpRefIdeal.main_arg1)
      ∧ r.2.mem ((c.tc : Thread Cert.AdamwUpRefIdeal.nD Cert.AdamwUpRefIdeal.τ).loc Cert.AdamwUpRefIdeal.main_arg2) = m ((c.tc : Thread Cert.AdamwUpRefIdeal.nD Cert.AdamwUpRefIdeal.τ).loc Cert.AdamwUpRefIdeal.main_arg2)
      ∧ r.2.mem ((c.tc : Thread Cert.AdamwUpRefIdeal.nD Cert.AdamwUpRefIdeal.τ).loc Cert.AdamwUpRefIdeal.main_arg3) = m ((c.tc : Thread Cert.AdamwUpRefIdeal.nD Cert.AdamwUpRefIdeal.τ).loc Cert.AdamwUpRefIdeal.main_arg3))
      ∧ r.2.sem = fun _ => 0)

def quiescent_AdamwCd [hAdamwCd : Cert.AdamwCd.Facts] : Prop :=
  ∀ (m : (ℓ : Loc Cert.AdamwCd.nD Cert.AdamwCd.τ Cert.AdamwCd.sig) → Buf (Elt Bits) ℓ) (g : Dev Cert.AdamwCd.nD → PrngReg), Pre_AdamwCd m →
    θ_run (Cert.AdamwCd.defs (F := Bits)) (onTc (τ := Cert.AdamwCd.τ) (Cert.AdamwCd.main (F := Bits))) ⟨m, fun _ => 0, g⟩ (fun r => (∀ c : Dev Cert.AdamwCd.nD,
      r.2.mem ((c.tc : Thread Cert.AdamwCd.nD Cert.AdamwCd.τ).loc Cert.AdamwCd.main_arg0) = m ((c.tc : Thread Cert.AdamwCd.nD Cert.AdamwCd.τ).loc Cert.AdamwCd.main_arg0)
      ∧ r.2.mem ((c.tc : Thread Cert.AdamwCd.nD Cert.AdamwCd.τ).loc Cert.AdamwCd.main_arg1) = m ((c.tc : Thread Cert.AdamwCd.nD Cert.AdamwCd.τ).loc Cert.AdamwCd.main_arg1)
      ∧ r.2.mem ((c.tc : Thread Cert.AdamwCd.nD Cert.AdamwCd.τ).loc Cert.AdamwCd.main_arg2) = m ((c.tc : Thread Cert.AdamwCd.nD Cert.AdamwCd.τ).loc Cert.AdamwCd.main_arg2)
      ∧ r.2.mem ((c.tc : Thread Cert.AdamwCd.nD Cert.AdamwCd.τ).loc Cert.AdamwCd.main_arg3) = m ((c.tc : Thread Cert.AdamwCd.nD Cert.AdamwCd.τ).loc Cert.AdamwCd.main_arg3))
      ∧ r.2.sem = fun _ => 0)

def quiescent_AdamwCdIdeal [hAdamwCdIdeal : Cert.AdamwCdIdeal.Facts] : Prop :=
  ∀ (m : (ℓ : Loc Cert.AdamwCdIdeal.nD Cert.AdamwCdIdeal.τ Cert.AdamwCdIdeal.sig) → Buf (Elt Ideal) ℓ) (g : Dev Cert.AdamwCdIdeal.nD → PrngReg), Pre_AdamwCdIdeal m →
    θ_run (Cert.AdamwCdIdeal.defs (F := Ideal)) (onTc (τ := Cert.AdamwCdIdeal.τ) (Cert.AdamwCdIdeal.main (F := Ideal))) ⟨m, fun _ => 0, g⟩ (fun r => (∀ c : Dev Cert.AdamwCdIdeal.nD,
      r.2.mem ((c.tc : Thread Cert.AdamwCdIdeal.nD Cert.AdamwCdIdeal.τ).loc Cert.AdamwCdIdeal.main_arg0) = m ((c.tc : Thread Cert.AdamwCdIdeal.nD Cert.AdamwCdIdeal.τ).loc Cert.AdamwCdIdeal.main_arg0)
      ∧ r.2.mem ((c.tc : Thread Cert.AdamwCdIdeal.nD Cert.AdamwCdIdeal.τ).loc Cert.AdamwCdIdeal.main_arg1) = m ((c.tc : Thread Cert.AdamwCdIdeal.nD Cert.AdamwCdIdeal.τ).loc Cert.AdamwCdIdeal.main_arg1)
      ∧ r.2.mem ((c.tc : Thread Cert.AdamwCdIdeal.nD Cert.AdamwCdIdeal.τ).loc Cert.AdamwCdIdeal.main_arg2) = m ((c.tc : Thread Cert.AdamwCdIdeal.nD Cert.AdamwCdIdeal.τ).loc Cert.AdamwCdIdeal.main_arg2)
      ∧ r.2.mem ((c.tc : Thread Cert.AdamwCdIdeal.nD Cert.AdamwCdIdeal.τ).loc Cert.AdamwCdIdeal.main_arg3) = m ((c.tc : Thread Cert.AdamwCdIdeal.nD Cert.AdamwCdIdeal.τ).loc Cert.AdamwCdIdeal.main_arg3))
      ∧ r.2.sem = fun _ => 0)

def quiescent_AdamwCdRefIdeal [hAdamwCdRefIdeal : Cert.AdamwCdRefIdeal.Facts] : Prop :=
  ∀ (m : (ℓ : Loc Cert.AdamwCdRefIdeal.nD Cert.AdamwCdRefIdeal.τ Cert.AdamwCdRefIdeal.sig) → Buf (Elt Ideal) ℓ) (g : Dev Cert.AdamwCdRefIdeal.nD → PrngReg), Pre_AdamwCdRefIdeal m →
    θ_run (Cert.AdamwCdRefIdeal.defs (F := Ideal)) (onTc (τ := Cert.AdamwCdRefIdeal.τ) (Cert.AdamwCdRefIdeal.main (F := Ideal))) ⟨m, fun _ => 0, g⟩ (fun r => (∀ c : Dev Cert.AdamwCdRefIdeal.nD,
      r.2.mem ((c.tc : Thread Cert.AdamwCdRefIdeal.nD Cert.AdamwCdRefIdeal.τ).loc Cert.AdamwCdRefIdeal.main_arg0) = m ((c.tc : Thread Cert.AdamwCdRefIdeal.nD Cert.AdamwCdRefIdeal.τ).loc Cert.AdamwCdRefIdeal.main_arg0)
      ∧ r.2.mem ((c.tc : Thread Cert.AdamwCdRefIdeal.nD Cert.AdamwCdRefIdeal.τ).loc Cert.AdamwCdRefIdeal.main_arg1) = m ((c.tc : Thread Cert.AdamwCdRefIdeal.nD Cert.AdamwCdRefIdeal.τ).loc Cert.AdamwCdRefIdeal.main_arg1)
      ∧ r.2.mem ((c.tc : Thread Cert.AdamwCdRefIdeal.nD Cert.AdamwCdRefIdeal.τ).loc Cert.AdamwCdRefIdeal.main_arg2) = m ((c.tc : Thread Cert.AdamwCdRefIdeal.nD Cert.AdamwCdRefIdeal.τ).loc Cert.AdamwCdRefIdeal.main_arg2)
      ∧ r.2.mem ((c.tc : Thread Cert.AdamwCdRefIdeal.nD Cert.AdamwCdRefIdeal.τ).loc Cert.AdamwCdRefIdeal.main_arg3) = m ((c.tc : Thread Cert.AdamwCdRefIdeal.nD Cert.AdamwCdRefIdeal.τ).loc Cert.AdamwCdRefIdeal.main_arg3))
      ∧ r.2.sem = fun _ => 0)

def quiescent_AdamwAb [hAdamwAb : Cert.AdamwAb.Facts] : Prop :=
  ∀ (m : (ℓ : Loc Cert.AdamwAb.nD Cert.AdamwAb.τ Cert.AdamwAb.sig) → Buf (Elt Bits) ℓ) (g : Dev Cert.AdamwAb.nD → PrngReg), Pre_AdamwAb m →
    θ_run (Cert.AdamwAb.defs (F := Bits)) (onTc (τ := Cert.AdamwAb.τ) (Cert.AdamwAb.main (F := Bits))) ⟨m, fun _ => 0, g⟩ (fun r => (∀ c : Dev Cert.AdamwAb.nD,
      r.2.mem ((c.tc : Thread Cert.AdamwAb.nD Cert.AdamwAb.τ).loc Cert.AdamwAb.main_arg0) = m ((c.tc : Thread Cert.AdamwAb.nD Cert.AdamwAb.τ).loc Cert.AdamwAb.main_arg0)
      ∧ r.2.mem ((c.tc : Thread Cert.AdamwAb.nD Cert.AdamwAb.τ).loc Cert.AdamwAb.main_arg1) = m ((c.tc : Thread Cert.AdamwAb.nD Cert.AdamwAb.τ).loc Cert.AdamwAb.main_arg1)
      ∧ r.2.mem ((c.tc : Thread Cert.AdamwAb.nD Cert.AdamwAb.τ).loc Cert.AdamwAb.main_arg2) = m ((c.tc : Thread Cert.AdamwAb.nD Cert.AdamwAb.τ).loc Cert.AdamwAb.main_arg2)
      ∧ r.2.mem ((c.tc : Thread Cert.AdamwAb.nD Cert.AdamwAb.τ).loc Cert.AdamwAb.main_arg3) = m ((c.tc : Thread Cert.AdamwAb.nD Cert.AdamwAb.τ).loc Cert.AdamwAb.main_arg3))
      ∧ r.2.sem = fun _ => 0)

def quiescent_AdamwAbIdeal [hAdamwAbIdeal : Cert.AdamwAbIdeal.Facts] : Prop :=
  ∀ (m : (ℓ : Loc Cert.AdamwAbIdeal.nD Cert.AdamwAbIdeal.τ Cert.AdamwAbIdeal.sig) → Buf (Elt Ideal) ℓ) (g : Dev Cert.AdamwAbIdeal.nD → PrngReg), Pre_AdamwAbIdeal m →
    θ_run (Cert.AdamwAbIdeal.defs (F := Ideal)) (onTc (τ := Cert.AdamwAbIdeal.τ) (Cert.AdamwAbIdeal.main (F := Ideal))) ⟨m, fun _ => 0, g⟩ (fun r => (∀ c : Dev Cert.AdamwAbIdeal.nD,
      r.2.mem ((c.tc : Thread Cert.AdamwAbIdeal.nD Cert.AdamwAbIdeal.τ).loc Cert.AdamwAbIdeal.main_arg0) = m ((c.tc : Thread Cert.AdamwAbIdeal.nD Cert.AdamwAbIdeal.τ).loc Cert.AdamwAbIdeal.main_arg0)
      ∧ r.2.mem ((c.tc : Thread Cert.AdamwAbIdeal.nD Cert.AdamwAbIdeal.τ).loc Cert.AdamwAbIdeal.main_arg1) = m ((c.tc : Thread Cert.AdamwAbIdeal.nD Cert.AdamwAbIdeal.τ).loc Cert.AdamwAbIdeal.main_arg1)
      ∧ r.2.mem ((c.tc : Thread Cert.AdamwAbIdeal.nD Cert.AdamwAbIdeal.τ).loc Cert.AdamwAbIdeal.main_arg2) = m ((c.tc : Thread Cert.AdamwAbIdeal.nD Cert.AdamwAbIdeal.τ).loc Cert.AdamwAbIdeal.main_arg2)
      ∧ r.2.mem ((c.tc : Thread Cert.AdamwAbIdeal.nD Cert.AdamwAbIdeal.τ).loc Cert.AdamwAbIdeal.main_arg3) = m ((c.tc : Thread Cert.AdamwAbIdeal.nD Cert.AdamwAbIdeal.τ).loc Cert.AdamwAbIdeal.main_arg3))
      ∧ r.2.sem = fun _ => 0)

def quiescent_AdamwAbRefIdeal [hAdamwAbRefIdeal : Cert.AdamwAbRefIdeal.Facts] : Prop :=
  ∀ (m : (ℓ : Loc Cert.AdamwAbRefIdeal.nD Cert.AdamwAbRefIdeal.τ Cert.AdamwAbRefIdeal.sig) → Buf (Elt Ideal) ℓ) (g : Dev Cert.AdamwAbRefIdeal.nD → PrngReg), Pre_AdamwAbRefIdeal m →
    θ_run (Cert.AdamwAbRefIdeal.defs (F := Ideal)) (onTc (τ := Cert.AdamwAbRefIdeal.τ) (Cert.AdamwAbRefIdeal.main (F := Ideal))) ⟨m, fun _ => 0, g⟩ (fun r => (∀ c : Dev Cert.AdamwAbRefIdeal.nD,
      r.2.mem ((c.tc : Thread Cert.AdamwAbRefIdeal.nD Cert.AdamwAbRefIdeal.τ).loc Cert.AdamwAbRefIdeal.main_arg0) = m ((c.tc : Thread Cert.AdamwAbRefIdeal.nD Cert.AdamwAbRefIdeal.τ).loc Cert.AdamwAbRefIdeal.main_arg0)
      ∧ r.2.mem ((c.tc : Thread Cert.AdamwAbRefIdeal.nD Cert.AdamwAbRefIdeal.τ).loc Cert.AdamwAbRefIdeal.main_arg1) = m ((c.tc : Thread Cert.AdamwAbRefIdeal.nD Cert.AdamwAbRefIdeal.τ).loc Cert.AdamwAbRefIdeal.main_arg1)
      ∧ r.2.mem ((c.tc : Thread Cert.AdamwAbRefIdeal.nD Cert.AdamwAbRefIdeal.τ).loc Cert.AdamwAbRefIdeal.main_arg2) = m ((c.tc : Thread Cert.AdamwAbRefIdeal.nD Cert.AdamwAbRefIdeal.τ).loc Cert.AdamwAbRefIdeal.main_arg2)
      ∧ r.2.mem ((c.tc : Thread Cert.AdamwAbRefIdeal.nD Cert.AdamwAbRefIdeal.τ).loc Cert.AdamwAbRefIdeal.main_arg3) = m ((c.tc : Thread Cert.AdamwAbRefIdeal.nD Cert.AdamwAbRefIdeal.τ).loc Cert.AdamwAbRefIdeal.main_arg3))
      ∧ r.2.sem = fun _ => 0)

def quiescent_AdamwOut [hAdamwOut : Cert.AdamwOut.Facts] : Prop :=
  ∀ (m : (ℓ : Loc Cert.AdamwOut.nD Cert.AdamwOut.τ Cert.AdamwOut.sig) → Buf (Elt Bits) ℓ) (g : Dev Cert.AdamwOut.nD → PrngReg), Pre_AdamwOut m →
    θ_run (Cert.AdamwOut.defs (F := Bits)) (onTc (τ := Cert.AdamwOut.τ) (Cert.AdamwOut.main (F := Bits))) ⟨m, fun _ => 0, g⟩ (fun r => (∀ c : Dev Cert.AdamwOut.nD,
      r.2.mem ((c.tc : Thread Cert.AdamwOut.nD Cert.AdamwOut.τ).loc Cert.AdamwOut.main_arg0) = m ((c.tc : Thread Cert.AdamwOut.nD Cert.AdamwOut.τ).loc Cert.AdamwOut.main_arg0)
      ∧ r.2.mem ((c.tc : Thread Cert.AdamwOut.nD Cert.AdamwOut.τ).loc Cert.AdamwOut.main_arg1) = m ((c.tc : Thread Cert.AdamwOut.nD Cert.AdamwOut.τ).loc Cert.AdamwOut.main_arg1)
      ∧ r.2.mem ((c.tc : Thread Cert.AdamwOut.nD Cert.AdamwOut.τ).loc Cert.AdamwOut.main_arg2) = m ((c.tc : Thread Cert.AdamwOut.nD Cert.AdamwOut.τ).loc Cert.AdamwOut.main_arg2)
      ∧ r.2.mem ((c.tc : Thread Cert.AdamwOut.nD Cert.AdamwOut.τ).loc Cert.AdamwOut.main_arg3) = m ((c.tc : Thread Cert.AdamwOut.nD Cert.AdamwOut.τ).loc Cert.AdamwOut.main_arg3))
      ∧ r.2.sem = fun _ => 0)

def quiescent_AdamwOutIdeal [hAdamwOutIdeal : Cert.AdamwOutIdeal.Facts] : Prop :=
  ∀ (m : (ℓ : Loc Cert.AdamwOutIdeal.nD Cert.AdamwOutIdeal.τ Cert.AdamwOutIdeal.sig) → Buf (Elt Ideal) ℓ) (g : Dev Cert.AdamwOutIdeal.nD → PrngReg), Pre_AdamwOutIdeal m →
    θ_run (Cert.AdamwOutIdeal.defs (F := Ideal)) (onTc (τ := Cert.AdamwOutIdeal.τ) (Cert.AdamwOutIdeal.main (F := Ideal))) ⟨m, fun _ => 0, g⟩ (fun r => (∀ c : Dev Cert.AdamwOutIdeal.nD,
      r.2.mem ((c.tc : Thread Cert.AdamwOutIdeal.nD Cert.AdamwOutIdeal.τ).loc Cert.AdamwOutIdeal.main_arg0) = m ((c.tc : Thread Cert.AdamwOutIdeal.nD Cert.AdamwOutIdeal.τ).loc Cert.AdamwOutIdeal.main_arg0)
      ∧ r.2.mem ((c.tc : Thread Cert.AdamwOutIdeal.nD Cert.AdamwOutIdeal.τ).loc Cert.AdamwOutIdeal.main_arg1) = m ((c.tc : Thread Cert.AdamwOutIdeal.nD Cert.AdamwOutIdeal.τ).loc Cert.AdamwOutIdeal.main_arg1)
      ∧ r.2.mem ((c.tc : Thread Cert.AdamwOutIdeal.nD Cert.AdamwOutIdeal.τ).loc Cert.AdamwOutIdeal.main_arg2) = m ((c.tc : Thread Cert.AdamwOutIdeal.nD Cert.AdamwOutIdeal.τ).loc Cert.AdamwOutIdeal.main_arg2)
      ∧ r.2.mem ((c.tc : Thread Cert.AdamwOutIdeal.nD Cert.AdamwOutIdeal.τ).loc Cert.AdamwOutIdeal.main_arg3) = m ((c.tc : Thread Cert.AdamwOutIdeal.nD Cert.AdamwOutIdeal.τ).loc Cert.AdamwOutIdeal.main_arg3))
      ∧ r.2.sem = fun _ => 0)

def quiescent_AdamwOutRefIdeal [hAdamwOutRefIdeal : Cert.AdamwOutRefIdeal.Facts] : Prop :=
  ∀ (m : (ℓ : Loc Cert.AdamwOutRefIdeal.nD Cert.AdamwOutRefIdeal.τ Cert.AdamwOutRefIdeal.sig) → Buf (Elt Ideal) ℓ) (g : Dev Cert.AdamwOutRefIdeal.nD → PrngReg), Pre_AdamwOutRefIdeal m →
    θ_run (Cert.AdamwOutRefIdeal.defs (F := Ideal)) (onTc (τ := Cert.AdamwOutRefIdeal.τ) (Cert.AdamwOutRefIdeal.main (F := Ideal))) ⟨m, fun _ => 0, g⟩ (fun r => (∀ c : Dev Cert.AdamwOutRefIdeal.nD,
      r.2.mem ((c.tc : Thread Cert.AdamwOutRefIdeal.nD Cert.AdamwOutRefIdeal.τ).loc Cert.AdamwOutRefIdeal.main_arg0) = m ((c.tc : Thread Cert.AdamwOutRefIdeal.nD Cert.AdamwOutRefIdeal.τ).loc Cert.AdamwOutRefIdeal.main_arg0)
      ∧ r.2.mem ((c.tc : Thread Cert.AdamwOutRefIdeal.nD Cert.AdamwOutRefIdeal.τ).loc Cert.AdamwOutRefIdeal.main_arg1) = m ((c.tc : Thread Cert.AdamwOutRefIdeal.nD Cert.AdamwOutRefIdeal.τ).loc Cert.AdamwOutRefIdeal.main_arg1)
      ∧ r.2.mem ((c.tc : Thread Cert.AdamwOutRefIdeal.nD Cert.AdamwOutRefIdeal.τ).loc Cert.AdamwOutRefIdeal.main_arg2) = m ((c.tc : Thread Cert.AdamwOutRefIdeal.nD Cert.AdamwOutRefIdeal.τ).loc Cert.AdamwOutRefIdeal.main_arg2)
      ∧ r.2.mem ((c.tc : Thread Cert.AdamwOutRefIdeal.nD Cert.AdamwOutRefIdeal.τ).loc Cert.AdamwOutRefIdeal.main_arg3) = m ((c.tc : Thread Cert.AdamwOutRefIdeal.nD Cert.AdamwOutRefIdeal.τ).loc Cert.AdamwOutRefIdeal.main_arg3))
      ∧ r.2.sem = fun _ => 0)

def quiescent_AdamwPack [hAdamwPack : Cert.AdamwPack.Facts] : Prop :=
  ∀ (m : (ℓ : Loc Cert.AdamwPack.nD Cert.AdamwPack.τ Cert.AdamwPack.sig) → Buf (Elt Bits) ℓ) (g : Dev Cert.AdamwPack.nD → PrngReg), Pre_AdamwPack m →
    θ_run (Cert.AdamwPack.defs (F := Bits)) (onTc (τ := Cert.AdamwPack.τ) (Cert.AdamwPack.main (F := Bits))) ⟨m, fun _ => 0, g⟩ (fun r => (∀ c : Dev Cert.AdamwPack.nD,
      r.2.mem ((c.tc : Thread Cert.AdamwPack.nD Cert.AdamwPack.τ).loc Cert.AdamwPack.main_arg0) = m ((c.tc : Thread Cert.AdamwPack.nD Cert.AdamwPack.τ).loc Cert.AdamwPack.main_arg0)
      ∧ r.2.mem ((c.tc : Thread Cert.AdamwPack.nD Cert.AdamwPack.τ).loc Cert.AdamwPack.main_arg1) = m ((c.tc : Thread Cert.AdamwPack.nD Cert.AdamwPack.τ).loc Cert.AdamwPack.main_arg1)
      ∧ r.2.mem ((c.tc : Thread Cert.AdamwPack.nD Cert.AdamwPack.τ).loc Cert.AdamwPack.main_arg2) = m ((c.tc : Thread Cert.AdamwPack.nD Cert.AdamwPack.τ).loc Cert.AdamwPack.main_arg2)
      ∧ r.2.mem ((c.tc : Thread Cert.AdamwPack.nD Cert.AdamwPack.τ).loc Cert.AdamwPack.main_arg3) = m ((c.tc : Thread Cert.AdamwPack.nD Cert.AdamwPack.τ).loc Cert.AdamwPack.main_arg3))
      ∧ r.2.sem = fun _ => 0)

def quiescent_AdamwPackIdeal [hAdamwPackIdeal : Cert.AdamwPackIdeal.Facts] : Prop :=
  ∀ (m : (ℓ : Loc Cert.AdamwPackIdeal.nD Cert.AdamwPackIdeal.τ Cert.AdamwPackIdeal.sig) → Buf (Elt Ideal) ℓ) (g : Dev Cert.AdamwPackIdeal.nD → PrngReg), Pre_AdamwPackIdeal m →
    θ_run (Cert.AdamwPackIdeal.defs (F := Ideal)) (onTc (τ := Cert.AdamwPackIdeal.τ) (Cert.AdamwPackIdeal.main (F := Ideal))) ⟨m, fun _ => 0, g⟩ (fun r => (∀ c : Dev Cert.AdamwPackIdeal.nD,
      r.2.mem ((c.tc : Thread Cert.AdamwPackIdeal.nD Cert.AdamwPackIdeal.τ).loc Cert.AdamwPackIdeal.main_arg0) = m ((c.tc : Thread Cert.AdamwPackIdeal.nD Cert.AdamwPackIdeal.τ).loc Cert.AdamwPackIdeal.main_arg0)
      ∧ r.2.mem ((c.tc : Thread Cert.AdamwPackIdeal.nD Cert.AdamwPackIdeal.τ).loc Cert.AdamwPackIdeal.main_arg1) = m ((c.tc : Thread Cert.AdamwPackIdeal.nD Cert.AdamwPackIdeal.τ).loc Cert.AdamwPackIdeal.main_arg1)
      ∧ r.2.mem ((c.tc : Thread Cert.AdamwPackIdeal.nD Cert.AdamwPackIdeal.τ).loc Cert.AdamwPackIdeal.main_arg2) = m ((c.tc : Thread Cert.AdamwPackIdeal.nD Cert.AdamwPackIdeal.τ).loc Cert.AdamwPackIdeal.main_arg2)
      ∧ r.2.mem ((c.tc : Thread Cert.AdamwPackIdeal.nD Cert.AdamwPackIdeal.τ).loc Cert.AdamwPackIdeal.main_arg3) = m ((c.tc : Thread Cert.AdamwPackIdeal.nD Cert.AdamwPackIdeal.τ).loc Cert.AdamwPackIdeal.main_arg3))
      ∧ r.2.sem = fun _ => 0)

def quiescent_AdamwPackRefIdeal [hAdamwPackRefIdeal : Cert.AdamwPackRefIdeal.Facts] : Prop :=
  ∀ (m : (ℓ : Loc Cert.AdamwPackRefIdeal.nD Cert.AdamwPackRefIdeal.τ Cert.AdamwPackRefIdeal.sig) → Buf (Elt Ideal) ℓ) (g : Dev Cert.AdamwPackRefIdeal.nD → PrngReg), Pre_AdamwPackRefIdeal m →
    θ_run (Cert.AdamwPackRefIdeal.defs (F := Ideal)) (onTc (τ := Cert.AdamwPackRefIdeal.τ) (Cert.AdamwPackRefIdeal.main (F := Ideal))) ⟨m, fun _ => 0, g⟩ (fun r => (∀ c : Dev Cert.AdamwPackRefIdeal.nD,
      r.2.mem ((c.tc : Thread Cert.AdamwPackRefIdeal.nD Cert.AdamwPackRefIdeal.τ).loc Cert.AdamwPackRefIdeal.main_arg0) = m ((c.tc : Thread Cert.AdamwPackRefIdeal.nD Cert.AdamwPackRefIdeal.τ).loc Cert.AdamwPackRefIdeal.main_arg0)
      ∧ r.2.mem ((c.tc : Thread Cert.AdamwPackRefIdeal.nD Cert.AdamwPackRefIdeal.τ).loc Cert.AdamwPackRefIdeal.main_arg1) = m ((c.tc : Thread Cert.AdamwPackRefIdeal.nD Cert.AdamwPackRefIdeal.τ).loc Cert.AdamwPackRefIdeal.main_arg1)
      ∧ r.2.mem ((c.tc : Thread Cert.AdamwPackRefIdeal.nD Cert.AdamwPackRefIdeal.τ).loc Cert.AdamwPackRefIdeal.main_arg2) = m ((c.tc : Thread Cert.AdamwPackRefIdeal.nD Cert.AdamwPackRefIdeal.τ).loc Cert.AdamwPackRefIdeal.main_arg2)
      ∧ r.2.mem ((c.tc : Thread Cert.AdamwPackRefIdeal.nD Cert.AdamwPackRefIdeal.τ).loc Cert.AdamwPackRefIdeal.main_arg3) = m ((c.tc : Thread Cert.AdamwPackRefIdeal.nD Cert.AdamwPackRefIdeal.τ).loc Cert.AdamwPackRefIdeal.main_arg3))
      ∧ r.2.sem = fun _ => 0)

def quiescent_Sum8Cd [hSum8Cd : Cert.Sum8Cd.Facts] : Prop :=
  ∀ (m : (ℓ : Loc Cert.Sum8Cd.nD Cert.Sum8Cd.τ Cert.Sum8Cd.sig) → Buf (Elt Bits) ℓ) (g : Dev Cert.Sum8Cd.nD → PrngReg), Pre_Sum8Cd m →
    θ_run (Cert.Sum8Cd.defs (F := Bits)) (onTc (τ := Cert.Sum8Cd.τ) (Cert.Sum8Cd.main (F := Bits))) ⟨m, fun _ => 0, g⟩ (fun r => (∀ c : Dev Cert.Sum8Cd.nD,
      r.2.mem ((c.tc : Thread Cert.Sum8Cd.nD Cert.Sum8Cd.τ).loc Cert.Sum8Cd.main_arg0) = m ((c.tc : Thread Cert.Sum8Cd.nD Cert.Sum8Cd.τ).loc Cert.Sum8Cd.main_arg0))
      ∧ r.2.sem = fun _ => 0)

def quiescent_Sum8CdIdeal [hSum8CdIdeal : Cert.Sum8CdIdeal.Facts] : Prop :=
  ∀ (m : (ℓ : Loc Cert.Sum8CdIdeal.nD Cert.Sum8CdIdeal.τ Cert.Sum8CdIdeal.sig) → Buf (Elt Ideal) ℓ) (g : Dev Cert.Sum8CdIdeal.nD → PrngReg), Pre_Sum8CdIdeal m →
    θ_run (Cert.Sum8CdIdeal.defs (F := Ideal)) (onTc (τ := Cert.Sum8CdIdeal.τ) (Cert.Sum8CdIdeal.main (F := Ideal))) ⟨m, fun _ => 0, g⟩ (fun r => (∀ c : Dev Cert.Sum8CdIdeal.nD,
      r.2.mem ((c.tc : Thread Cert.Sum8CdIdeal.nD Cert.Sum8CdIdeal.τ).loc Cert.Sum8CdIdeal.main_arg0) = m ((c.tc : Thread Cert.Sum8CdIdeal.nD Cert.Sum8CdIdeal.τ).loc Cert.Sum8CdIdeal.main_arg0))
      ∧ r.2.sem = fun _ => 0)

def quiescent_Sum8CdRefIdeal [hSum8CdRefIdeal : Cert.Sum8CdRefIdeal.Facts] : Prop :=
  ∀ (m : (ℓ : Loc Cert.Sum8CdRefIdeal.nD Cert.Sum8CdRefIdeal.τ Cert.Sum8CdRefIdeal.sig) → Buf (Elt Ideal) ℓ) (g : Dev Cert.Sum8CdRefIdeal.nD → PrngReg), Pre_Sum8CdRefIdeal m →
    θ_run (Cert.Sum8CdRefIdeal.defs (F := Ideal)) (onTc (τ := Cert.Sum8CdRefIdeal.τ) (Cert.Sum8CdRefIdeal.main (F := Ideal))) ⟨m, fun _ => 0, g⟩ (fun r => (∀ c : Dev Cert.Sum8CdRefIdeal.nD,
      r.2.mem ((c.tc : Thread Cert.Sum8CdRefIdeal.nD Cert.Sum8CdRefIdeal.τ).loc Cert.Sum8CdRefIdeal.main_arg0) = m ((c.tc : Thread Cert.Sum8CdRefIdeal.nD Cert.Sum8CdRefIdeal.τ).loc Cert.Sum8CdRefIdeal.main_arg0))
      ∧ r.2.sem = fun _ => 0)

def quiescent_Sum8Ab [hSum8Ab : Cert.Sum8Ab.Facts] : Prop :=
  ∀ (m : (ℓ : Loc Cert.Sum8Ab.nD Cert.Sum8Ab.τ Cert.Sum8Ab.sig) → Buf (Elt Bits) ℓ) (g : Dev Cert.Sum8Ab.nD → PrngReg), Pre_Sum8Ab m →
    θ_run (Cert.Sum8Ab.defs (F := Bits)) (onTc (τ := Cert.Sum8Ab.τ) (Cert.Sum8Ab.main (F := Bits))) ⟨m, fun _ => 0, g⟩ (fun r => (∀ c : Dev Cert.Sum8Ab.nD,
      r.2.mem ((c.tc : Thread Cert.Sum8Ab.nD Cert.Sum8Ab.τ).loc Cert.Sum8Ab.main_arg0) = m ((c.tc : Thread Cert.Sum8Ab.nD Cert.Sum8Ab.τ).loc Cert.Sum8Ab.main_arg0))
      ∧ r.2.sem = fun _ => 0)

def quiescent_Sum8AbIdeal [hSum8AbIdeal : Cert.Sum8AbIdeal.Facts] : Prop :=
  ∀ (m : (ℓ : Loc Cert.Sum8AbIdeal.nD Cert.Sum8AbIdeal.τ Cert.Sum8AbIdeal.sig) → Buf (Elt Ideal) ℓ) (g : Dev Cert.Sum8AbIdeal.nD → PrngReg), Pre_Sum8AbIdeal m →
    θ_run (Cert.Sum8AbIdeal.defs (F := Ideal)) (onTc (τ := Cert.Sum8AbIdeal.τ) (Cert.Sum8AbIdeal.main (F := Ideal))) ⟨m, fun _ => 0, g⟩ (fun r => (∀ c : Dev Cert.Sum8AbIdeal.nD,
      r.2.mem ((c.tc : Thread Cert.Sum8AbIdeal.nD Cert.Sum8AbIdeal.τ).loc Cert.Sum8AbIdeal.main_arg0) = m ((c.tc : Thread Cert.Sum8AbIdeal.nD Cert.Sum8AbIdeal.τ).loc Cert.Sum8AbIdeal.main_arg0))
      ∧ r.2.sem = fun _ => 0)

def quiescent_Sum8AbRefIdeal [hSum8AbRefIdeal : Cert.Sum8AbRefIdeal.Facts] : Prop :=
  ∀ (m : (ℓ : Loc Cert.Sum8AbRefIdeal.nD Cert.Sum8AbRefIdeal.τ Cert.Sum8AbRefIdeal.sig) → Buf (Elt Ideal) ℓ) (g : Dev Cert.Sum8AbRefIdeal.nD → PrngReg), Pre_Sum8AbRefIdeal m →
    θ_run (Cert.Sum8AbRefIdeal.defs (F := Ideal)) (onTc (τ := Cert.Sum8AbRefIdeal.τ) (Cert.Sum8AbRefIdeal.main (F := Ideal))) ⟨m, fun _ => 0, g⟩ (fun r => (∀ c : Dev Cert.Sum8AbRefIdeal.nD,
      r.2.mem ((c.tc : Thread Cert.Sum8AbRefIdeal.nD Cert.Sum8AbRefIdeal.τ).loc Cert.Sum8AbRefIdeal.main_arg0) = m ((c.tc : Thread Cert.Sum8AbRefIdeal.nD Cert.Sum8AbRefIdeal.τ).loc Cert.Sum8AbRefIdeal.main_arg0))
      ∧ r.2.sem = fun _ => 0)

def quiescent_Sum8Out [hSum8Out : Cert.Sum8Out.Facts] : Prop :=
  ∀ (m : (ℓ : Loc Cert.Sum8Out.nD Cert.Sum8Out.τ Cert.Sum8Out.sig) → Buf (Elt Bits) ℓ) (g : Dev Cert.Sum8Out.nD → PrngReg), Pre_Sum8Out m →
    θ_run (Cert.Sum8Out.defs (F := Bits)) (onTc (τ := Cert.Sum8Out.τ) (Cert.Sum8Out.main (F := Bits))) ⟨m, fun _ => 0, g⟩ (fun r => (∀ c : Dev Cert.Sum8Out.nD,
      r.2.mem ((c.tc : Thread Cert.Sum8Out.nD Cert.Sum8Out.τ).loc Cert.Sum8Out.main_arg0) = m ((c.tc : Thread Cert.Sum8Out.nD Cert.Sum8Out.τ).loc Cert.Sum8Out.main_arg0))
      ∧ r.2.sem = fun _ => 0)

def quiescent_Sum8OutIdeal [hSum8OutIdeal : Cert.Sum8OutIdeal.Facts] : Prop :=
  ∀ (m : (ℓ : Loc Cert.Sum8OutIdeal.nD Cert.Sum8OutIdeal.τ Cert.Sum8OutIdeal.sig) → Buf (Elt Ideal) ℓ) (g : Dev Cert.Sum8OutIdeal.nD → PrngReg), Pre_Sum8OutIdeal m →
    θ_run (Cert.Sum8OutIdeal.defs (F := Ideal)) (onTc (τ := Cert.Sum8OutIdeal.τ) (Cert.Sum8OutIdeal.main (F := Ideal))) ⟨m, fun _ => 0, g⟩ (fun r => (∀ c : Dev Cert.Sum8OutIdeal.nD,
      r.2.mem ((c.tc : Thread Cert.Sum8OutIdeal.nD Cert.Sum8OutIdeal.τ).loc Cert.Sum8OutIdeal.main_arg0) = m ((c.tc : Thread Cert.Sum8OutIdeal.nD Cert.Sum8OutIdeal.τ).loc Cert.Sum8OutIdeal.main_arg0))
      ∧ r.2.sem = fun _ => 0)

def quiescent_Sum8OutRefIdeal [hSum8OutRefIdeal : Cert.Sum8OutRefIdeal.Facts] : Prop :=
  ∀ (m : (ℓ : Loc Cert.Sum8OutRefIdeal.nD Cert.Sum8OutRefIdeal.τ Cert.Sum8OutRefIdeal.sig) → Buf (Elt Ideal) ℓ) (g : Dev Cert.Sum8OutRefIdeal.nD → PrngReg), Pre_Sum8OutRefIdeal m →
    θ_run (Cert.Sum8OutRefIdeal.defs (F := Ideal)) (onTc (τ := Cert.Sum8OutRefIdeal.τ) (Cert.Sum8OutRefIdeal.main (F := Ideal))) ⟨m, fun _ => 0, g⟩ (fun r => (∀ c : Dev Cert.Sum8OutRefIdeal.nD,
      r.2.mem ((c.tc : Thread Cert.Sum8OutRefIdeal.nD Cert.Sum8OutRefIdeal.τ).loc Cert.Sum8OutRefIdeal.main_arg0) = m ((c.tc : Thread Cert.Sum8OutRefIdeal.nD Cert.Sum8OutRefIdeal.τ).loc Cert.Sum8OutRefIdeal.main_arg0))
      ∧ r.2.sem = fun _ => 0)

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v3_0)) (v1 : (c : Dev Cert.LossIdeal.nD) → Buf (Elt Ideal) ((c.tc : Thread Cert.LossIdeal.nD Cert.LossIdeal.τ).loc Cert.LossIdeal.main_v3_1)) (v2 : (c : Dev Cert.LossIdeal.nD) → Buf (Elt Ideal) ((c.tc : Thread Cert.LossIdeal.nD Cert.LossIdeal.τ).loc Cert.LossIdeal.main_v3_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v3_0) = v0 c
          ∧ r.2.mem ((c.tc : Thread Cert.LossIdeal.nD Cert.LossIdeal.τ).loc Cert.LossIdeal.main_v3_1) = v1 c
          ∧ r.2.mem ((c.tc : Thread Cert.LossIdeal.nD Cert.LossIdeal.τ).loc Cert.LossIdeal.main_v3_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v51) = v0 c
          ∧ r.2.mem ((c.tc : Thread Cert.LossRefIdeal.nD Cert.LossRefIdeal.τ).loc Cert.LossRefIdeal.main_v52) = v1 c
          ∧ r.2.mem ((c.tc : Thread Cert.LossRefIdeal.nD Cert.LossRefIdeal.τ).loc Cert.LossRefIdeal.main_v54) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_Ffn_FfnIdeal : Prop :=
  True

def algebraic_FfnIdeal_FfnRefIdeal_pre_finite_ffn [hFfnIdeal : Cert.FfnIdeal.Facts] [hFfnRefIdeal : Cert.FfnRefIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_finite_ffn m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v10_0)) (v1 : (c : Dev Cert.FfnIdeal.nD) → Buf (Elt Ideal) ((c.tc : Thread Cert.FfnIdeal.nD Cert.FfnIdeal.τ).loc Cert.FfnIdeal.main_v10_1)) (v2 : (c : Dev Cert.FfnIdeal.nD) → Buf (Elt Ideal) ((c.tc : Thread Cert.FfnIdeal.nD Cert.FfnIdeal.τ).loc Cert.FfnIdeal.main_v10_2)) (v3 : (c : Dev Cert.FfnIdeal.nD) → Buf (Elt Ideal) ((c.tc : Thread Cert.FfnIdeal.nD Cert.FfnIdeal.τ).loc Cert.FfnIdeal.main_v13_0)) (v4 : (c : Dev Cert.FfnIdeal.nD) → Buf (Elt Ideal) ((c.tc : Thread Cert.FfnIdeal.nD Cert.FfnIdeal.τ).loc Cert.FfnIdeal.main_v13_1)) (v5 : (c : Dev Cert.FfnIdeal.nD) → Buf (Elt Ideal) ((c.tc : Thread Cert.FfnIdeal.nD Cert.FfnIdeal.τ).loc Cert.FfnIdeal.main_v13_2)) (v6 : (c : Dev Cert.FfnIdeal.nD) → Buf (Elt Ideal) ((c.tc : Thread Cert.FfnIdeal.nD Cert.FfnIdeal.τ).loc Cert.FfnIdeal.main_v13_3)) (v7 : (c : Dev Cert.FfnIdeal.nD) → Buf (Elt Ideal) ((c.tc : Thread Cert.FfnIdeal.nD Cert.FfnIdeal.τ).loc Cert.FfnIdeal.main_v13_4)) (v8 : (c : Dev Cert.FfnIdeal.nD) → Buf (Elt Ideal) ((c.tc : Thread Cert.FfnIdeal.nD Cert.FfnIdeal.τ).loc Cert.FfnIdeal.main_v13_5)) (v9 : (c : Dev Cert.FfnIdeal.nD) → Buf (Elt Ideal) ((c.tc : Thread Cert.FfnIdeal.nD Cert.FfnIdeal.τ).loc Cert.FfnIdeal.main_v13_6)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v10_0) = v0 c
          ∧ r.2.mem ((c.tc : Thread Cert.FfnIdeal.nD Cert.FfnIdeal.τ).loc Cert.FfnIdeal.main_v10_1) = v1 c
          ∧ r.2.mem ((c.tc : Thread Cert.FfnIdeal.nD Cert.FfnIdeal.τ).loc Cert.FfnIdeal.main_v10_2) = v2 c
          ∧ r.2.mem ((c.tc : Thread Cert.FfnIdeal.nD Cert.FfnIdeal.τ).loc Cert.FfnIdeal.main_v13_0) = v3 c
          ∧ r.2.mem ((c.tc : Thread Cert.FfnIdeal.nD Cert.FfnIdeal.τ).loc Cert.FfnIdeal.main_v13_1) = v4 c
          ∧ r.2.mem ((c.tc : Thread Cert.FfnIdeal.nD Cert.FfnIdeal.τ).loc Cert.FfnIdeal.main_v13_2) = v5 c
          ∧ r.2.mem ((c.tc : Thread Cert.FfnIdeal.nD Cert.FfnIdeal.τ).loc Cert.FfnIdeal.main_v13_3) = v6 c
          ∧ r.2.mem ((c.tc : Thread Cert.FfnIdeal.nD Cert.FfnIdeal.τ).loc Cert.FfnIdeal.main_v13_4) = v7 c
          ∧ r.2.mem ((c.tc : Thread Cert.FfnIdeal.nD Cert.FfnIdeal.τ).loc Cert.FfnIdeal.main_v13_5) = v8 c
          ∧ r.2.mem ((c.tc : Thread Cert.FfnIdeal.nD Cert.FfnIdeal.τ).loc Cert.FfnIdeal.main_v13_6) = v9 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v54) = v0 c
          ∧ r.2.mem ((c.tc : Thread Cert.FfnRefIdeal.nD Cert.FfnRefIdeal.τ).loc Cert.FfnRefIdeal.main_v56) = v1 c
          ∧ r.2.mem ((c.tc : Thread Cert.FfnRefIdeal.nD Cert.FfnRefIdeal.τ).loc Cert.FfnRefIdeal.main_v58) = v2 c
          ∧ r.2.mem ((c.tc : Thread Cert.FfnRefIdeal.nD Cert.FfnRefIdeal.τ).loc Cert.FfnRefIdeal.main_v60) = v3 c
          ∧ r.2.mem ((c.tc : Thread Cert.FfnRefIdeal.nD Cert.FfnRefIdeal.τ).loc Cert.FfnRefIdeal.main_v62) = v4 c
          ∧ r.2.mem ((c.tc : Thread Cert.FfnRefIdeal.nD Cert.FfnRefIdeal.τ).loc Cert.FfnRefIdeal.main_v64) = v5 c
          ∧ r.2.mem ((c.tc : Thread Cert.FfnRefIdeal.nD Cert.FfnRefIdeal.τ).loc Cert.FfnRefIdeal.main_v66) = v6 c
          ∧ r.2.mem ((c.tc : Thread Cert.FfnRefIdeal.nD Cert.FfnRefIdeal.τ).loc Cert.FfnRefIdeal.main_v68) = v7 c
          ∧ r.2.mem ((c.tc : Thread Cert.FfnRefIdeal.nD Cert.FfnRefIdeal.τ).loc Cert.FfnRefIdeal.main_v70) = v8 c
          ∧ r.2.mem ((c.tc : Thread Cert.FfnRefIdeal.nD Cert.FfnRefIdeal.τ).loc Cert.FfnRefIdeal.main_v72) = v9 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_InAbBwd_InAbBwdIdeal : Prop :=
  True

def algebraic_InAbBwdIdeal_InAbBwdRefIdeal [hInAbBwdIdeal : Cert.InAbBwdIdeal.Facts] [hInAbBwdRefIdeal : Cert.InAbBwdRefIdeal.Facts] : Prop :=
  ∀ (m : (ℓ : Loc Cert.InAbBwdIdeal.nD Cert.InAbBwdIdeal.τ Cert.InAbBwdIdeal.sig) → Buf (Elt Ideal) ℓ) (g : Dev Cert.InAbBwdIdeal.nD → PrngReg)
    (m' : (ℓ : Loc Cert.InAbBwdRefIdeal.nD Cert.InAbBwdRefIdeal.τ Cert.InAbBwdRefIdeal.sig) → Buf (Elt Ideal) ℓ) (g' : Dev Cert.InAbBwdRefIdeal.nD → PrngReg), Pre_InAbBwdIdeal m →
    (∀ c : Dev Cert.InAbBwdIdeal.nD,
      m' ((c.tc : Thread Cert.InAbBwdRefIdeal.nD Cert.InAbBwdRefIdeal.τ).loc Cert.InAbBwdRefIdeal.main_arg0) = m ((c.tc : Thread Cert.InAbBwdIdeal.nD Cert.InAbBwdIdeal.τ).loc Cert.InAbBwdIdeal.main_arg0)
      ∧ m' ((c.tc : Thread Cert.InAbBwdRefIdeal.nD Cert.InAbBwdRefIdeal.τ).loc Cert.InAbBwdRefIdeal.main_arg1) = m ((c.tc : Thread Cert.InAbBwdIdeal.nD Cert.InAbBwdIdeal.τ).loc Cert.InAbBwdIdeal.main_arg1)
      ∧ m' ((c.tc : Thread Cert.InAbBwdRefIdeal.nD Cert.InAbBwdRefIdeal.τ).loc Cert.InAbBwdRefIdeal.main_arg2) = m ((c.tc : Thread Cert.InAbBwdIdeal.nD Cert.InAbBwdIdeal.τ).loc Cert.InAbBwdIdeal.main_arg2)
      ∧ m' ((c.tc : Thread Cert.InAbBwdRefIdeal.nD Cert.InAbBwdRefIdeal.τ).loc Cert.InAbBwdRefIdeal.main_arg3) = m ((c.tc : Thread Cert.InAbBwdIdeal.nD Cert.InAbBwdIdeal.τ).loc Cert.InAbBwdIdeal.main_arg3)
      ∧ m' ((c.tc : Thread Cert.InAbBwdRefIdeal.nD Cert.InAbBwdRefIdeal.τ).loc Cert.InAbBwdRefIdeal.main_arg4) = m ((c.tc : Thread Cert.InAbBwdIdeal.nD Cert.InAbBwdIdeal.τ).loc Cert.InAbBwdIdeal.main_arg4)) →
    ∃ (v0 : (c : Dev Cert.InAbBwdIdeal.nD) → Buf (Elt Ideal) ((c.tc : Thread Cert.InAbBwdIdeal.nD Cert.InAbBwdIdeal.τ).loc Cert.InAbBwdIdeal.main_v16_0)) (v1 : (c : Dev Cert.InAbBwdIdeal.nD) → Buf (Elt Ideal) ((c.tc : Thread Cert.InAbBwdIdeal.nD Cert.InAbBwdIdeal.τ).loc Cert.InAbBwdIdeal.main_v16_1)) (v2 : (c : Dev Cert.InAbBwdIdeal.nD) → Buf (Elt Ideal) ((c.tc : Thread Cert.InAbBwdIdeal.nD Cert.InAbBwdIdeal.τ).loc Cert.InAbBwdIdeal.main_v16_2)),
      θ_run (Cert.InAbBwdIdeal.defs (F := Ideal)) (onTc (τ := Cert.InAbBwdIdeal.τ) (Cert.InAbBwdIdeal.main (F := Ideal))) ⟨m, fun _ => 0, g⟩ (fun r => ∀ c : Dev Cert.InAbBwdIdeal.nD,
          r.2.mem ((c.tc : Thread Cert.InAbBwdIdeal.nD Cert.InAbBwdIdeal.τ).loc Cert.InAbBwdIdeal.main_v16_0) = v0 c
          ∧ r.2.mem ((c.tc : Thread Cert.InAbBwdIdeal.nD Cert.InAbBwdIdeal.τ).loc Cert.InAbBwdIdeal.main_v16_1) = v1 c
          ∧ r.2.mem ((c.tc : Thread Cert.InAbBwdIdeal.nD Cert.InAbBwdIdeal.τ).loc Cert.InAbBwdIdeal.main_v16_2) = v2 c
          ∧ r.2.mem ((c.tc : Thread Cert.InAbBwdIdeal.nD Cert.InAbBwdIdeal.τ).loc Cert.InAbBwdIdeal.main_arg0) = m ((c.tc : Thread Cert.InAbBwdIdeal.nD Cert.InAbBwdIdeal.τ).loc Cert.InAbBwdIdeal.main_arg0)
          ∧ r.2.mem ((c.tc : Thread Cert.InAbBwdIdeal.nD Cert.InAbBwdIdeal.τ).loc Cert.InAbBwdIdeal.main_arg1) = m ((c.tc : Thread Cert.InAbBwdIdeal.nD Cert.InAbBwdIdeal.τ).loc Cert.InAbBwdIdeal.main_arg1)
          ∧ r.2.mem ((c.tc : Thread Cert.InAbBwdIdeal.nD Cert.InAbBwdIdeal.τ).loc Cert.InAbBwdIdeal.main_arg2) = m ((c.tc : Thread Cert.InAbBwdIdeal.nD Cert.InAbBwdIdeal.τ).loc Cert.InAbBwdIdeal.main_arg2)
          ∧ r.2.mem ((c.tc : Thread Cert.InAbBwdIdeal.nD Cert.InAbBwdIdeal.τ).loc Cert.InAbBwdIdeal.main_arg3) = m ((c.tc : Thread Cert.InAbBwdIdeal.nD Cert.InAbBwdIdeal.τ).loc Cert.InAbBwdIdeal.main_arg3)
          ∧ r.2.mem ((c.tc : Thread Cert.InAbBwdIdeal.nD Cert.InAbBwdIdeal.τ).loc Cert.InAbBwdIdeal.main_arg4) = m ((c.tc : Thread Cert.InAbBwdIdeal.nD Cert.InAbBwdIdeal.τ).loc Cert.InAbBwdIdeal.main_arg4))
      ∧ θ_run (Cert.InAbBwdRefIdeal.defs (F := Ideal)) (onTc (τ := Cert.InAbBwdRefIdeal.τ) (Cert.InAbBwdRefIdeal.main (F := Ideal))) ⟨m', fun _ => 0, g'⟩ (fun r => ∀ c : Dev Cert.InAbBwdRefIdeal.nD,
          r.2.mem ((c.tc : Thread Cert.InAbBwdRefIdeal.nD Cert.InAbBwdRefIdeal.τ).loc Cert.InAbBwdRefIdeal.main_v41) = v0 c
          ∧ r.2.mem ((c.tc : Thread Cert.InAbBwdRefIdeal.nD Cert.InAbBwdRefIdeal.τ).loc Cert.InAbBwdRefIdeal.main_v43) = v1 c
          ∧ r.2.mem ((c.tc : Thread Cert.InAbBwdRefIdeal.nD Cert.InAbBwdRefIdeal.τ).loc Cert.InAbBwdRefIdeal.main_v46) = v2 c
          ∧ r.2.mem ((c.tc : Thread Cert.InAbBwdRefIdeal.nD Cert.InAbBwdRefIdeal.τ).loc Cert.InAbBwdRefIdeal.main_arg0) = m' ((c.tc : Thread Cert.InAbBwdRefIdeal.nD Cert.InAbBwdRefIdeal.τ).loc Cert.InAbBwdRefIdeal.main_arg0)
          ∧ r.2.mem ((c.tc : Thread Cert.InAbBwdRefIdeal.nD Cert.InAbBwdRefIdeal.τ).loc Cert.InAbBwdRefIdeal.main_arg1) = m' ((c.tc : Thread Cert.InAbBwdRefIdeal.nD Cert.InAbBwdRefIdeal.τ).loc Cert.InAbBwdRefIdeal.main_arg1)
          ∧ r.2.mem ((c.tc : Thread Cert.InAbBwdRefIdeal.nD Cert.InAbBwdRefIdeal.τ).loc Cert.InAbBwdRefIdeal.main_arg2) = m' ((c.tc : Thread Cert.InAbBwdRefIdeal.nD Cert.InAbBwdRefIdeal.τ).loc Cert.InAbBwdRefIdeal.main_arg2)
          ∧ r.2.mem ((c.tc : Thread Cert.InAbBwdRefIdeal.nD Cert.InAbBwdRefIdeal.τ).loc Cert.InAbBwdRefIdeal.main_arg3) = m' ((c.tc : Thread Cert.InAbBwdRefIdeal.nD Cert.InAbBwdRefIdeal.τ).loc Cert.InAbBwdRefIdeal.main_arg3)
          ∧ r.2.mem ((c.tc : Thread Cert.InAbBwdRefIdeal.nD Cert.InAbBwdRefIdeal.τ).loc Cert.InAbBwdRefIdeal.main_arg4) = m' ((c.tc : Thread Cert.InAbBwdRefIdeal.nD Cert.InAbBwdRefIdeal.τ).loc Cert.InAbBwdRefIdeal.main_arg4))

def preserves_InCdBwd_InCdBwdIdeal : Prop :=
  True

def algebraic_InCdBwdIdeal_InCdBwdRefIdeal [hInCdBwdIdeal : Cert.InCdBwdIdeal.Facts] [hInCdBwdRefIdeal : Cert.InCdBwdRefIdeal.Facts] : Prop :=
  ∀ (m : (ℓ : Loc Cert.InCdBwdIdeal.nD Cert.InCdBwdIdeal.τ Cert.InCdBwdIdeal.sig) → Buf (Elt Ideal) ℓ) (g : Dev Cert.InCdBwdIdeal.nD → PrngReg)
    (m' : (ℓ : Loc Cert.InCdBwdRefIdeal.nD Cert.InCdBwdRefIdeal.τ Cert.InCdBwdRefIdeal.sig) → Buf (Elt Ideal) ℓ) (g' : Dev Cert.InCdBwdRefIdeal.nD → PrngReg), Pre_InCdBwdIdeal m →
    (∀ c : Dev Cert.InCdBwdIdeal.nD,
      m' ((c.tc : Thread Cert.InCdBwdRefIdeal.nD Cert.InCdBwdRefIdeal.τ).loc Cert.InCdBwdRefIdeal.main_arg0) = m ((c.tc : Thread Cert.InCdBwdIdeal.nD Cert.InCdBwdIdeal.τ).loc Cert.InCdBwdIdeal.main_arg0)
      ∧ m' ((c.tc : Thread Cert.InCdBwdRefIdeal.nD Cert.InCdBwdRefIdeal.τ).loc Cert.InCdBwdRefIdeal.main_arg1) = m ((c.tc : Thread Cert.InCdBwdIdeal.nD Cert.InCdBwdIdeal.τ).loc Cert.InCdBwdIdeal.main_arg1)
      ∧ m' ((c.tc : Thread Cert.InCdBwdRefIdeal.nD Cert.InCdBwdRefIdeal.τ).loc Cert.InCdBwdRefIdeal.main_arg2) = m ((c.tc : Thread Cert.InCdBwdIdeal.nD Cert.InCdBwdIdeal.τ).loc Cert.InCdBwdIdeal.main_arg2)
      ∧ m' ((c.tc : Thread Cert.InCdBwdRefIdeal.nD Cert.InCdBwdRefIdeal.τ).loc Cert.InCdBwdRefIdeal.main_arg3) = m ((c.tc : Thread Cert.InCdBwdIdeal.nD Cert.InCdBwdIdeal.τ).loc Cert.InCdBwdIdeal.main_arg3)
      ∧ m' ((c.tc : Thread Cert.InCdBwdRefIdeal.nD Cert.InCdBwdRefIdeal.τ).loc Cert.InCdBwdRefIdeal.main_arg4) = m ((c.tc : Thread Cert.InCdBwdIdeal.nD Cert.InCdBwdIdeal.τ).loc Cert.InCdBwdIdeal.main_arg4)) →
    ∃ (v0 : (c : Dev Cert.InCdBwdIdeal.nD) → Buf (Elt Ideal) ((c.tc : Thread Cert.InCdBwdIdeal.nD Cert.InCdBwdIdeal.τ).loc Cert.InCdBwdIdeal.main_v13_0)) (v1 : (c : Dev Cert.InCdBwdIdeal.nD) → Buf (Elt Ideal) ((c.tc : Thread Cert.InCdBwdIdeal.nD Cert.InCdBwdIdeal.τ).loc Cert.InCdBwdIdeal.main_v13_1)) (v2 : (c : Dev Cert.InCdBwdIdeal.nD) → Buf (Elt Ideal) ((c.tc : Thread Cert.InCdBwdIdeal.nD Cert.InCdBwdIdeal.τ).loc Cert.InCdBwdIdeal.main_v13_2)),
      θ_run (Cert.InCdBwdIdeal.defs (F := Ideal)) (onTc (τ := Cert.InCdBwdIdeal.τ) (Cert.InCdBwdIdeal.main (F := Ideal))) ⟨m, fun _ => 0, g⟩ (fun r => ∀ c : Dev Cert.InCdBwdIdeal.nD,
          r.2.mem ((c.tc : Thread Cert.InCdBwdIdeal.nD Cert.InCdBwdIdeal.τ).loc Cert.InCdBwdIdeal.main_v13_0) = v0 c
          ∧ r.2.mem ((c.tc : Thread Cert.InCdBwdIdeal.nD Cert.InCdBwdIdeal.τ).loc Cert.InCdBwdIdeal.main_v13_1) = v1 c
          ∧ r.2.mem ((c.tc : Thread Cert.InCdBwdIdeal.nD Cert.InCdBwdIdeal.τ).loc Cert.InCdBwdIdeal.main_v13_2) = v2 c
          ∧ r.2.mem ((c.tc : Thread Cert.InCdBwdIdeal.nD Cert.InCdBwdIdeal.τ).loc Cert.InCdBwdIdeal.main_arg0) = m ((c.tc : Thread Cert.InCdBwdIdeal.nD Cert.InCdBwdIdeal.τ).loc Cert.InCdBwdIdeal.main_arg0)
          ∧ r.2.mem ((c.tc : Thread Cert.InCdBwdIdeal.nD Cert.InCdBwdIdeal.τ).loc Cert.InCdBwdIdeal.main_arg1) = m ((c.tc : Thread Cert.InCdBwdIdeal.nD Cert.InCdBwdIdeal.τ).loc Cert.InCdBwdIdeal.main_arg1)
          ∧ r.2.mem ((c.tc : Thread Cert.InCdBwdIdeal.nD Cert.InCdBwdIdeal.τ).loc Cert.InCdBwdIdeal.main_arg2) = m ((c.tc : Thread Cert.InCdBwdIdeal.nD Cert.InCdBwdIdeal.τ).loc Cert.InCdBwdIdeal.main_arg2)
          ∧ r.2.mem ((c.tc : Thread Cert.InCdBwdIdeal.nD Cert.InCdBwdIdeal.τ).loc Cert.InCdBwdIdeal.main_arg3) = m ((c.tc : Thread Cert.InCdBwdIdeal.nD Cert.InCdBwdIdeal.τ).loc Cert.InCdBwdIdeal.main_arg3)
          ∧ r.2.mem ((c.tc : Thread Cert.InCdBwdIdeal.nD Cert.InCdBwdIdeal.τ).loc Cert.InCdBwdIdeal.main_arg4) = m ((c.tc : Thread Cert.InCdBwdIdeal.nD Cert.InCdBwdIdeal.τ).loc Cert.InCdBwdIdeal.main_arg4))
      ∧ θ_run (Cert.InCdBwdRefIdeal.defs (F := Ideal)) (onTc (τ := Cert.InCdBwdRefIdeal.τ) (Cert.InCdBwdRefIdeal.main (F := Ideal))) ⟨m', fun _ => 0, g'⟩ (fun r => ∀ c : Dev Cert.InCdBwdRefIdeal.nD,
          r.2.mem ((c.tc : Thread Cert.InCdBwdRefIdeal.nD Cert.InCdBwdRefIdeal.τ).loc Cert.InCdBwdRefIdeal.main_v41) = v0 c
          ∧ r.2.mem ((c.tc : Thread Cert.InCdBwdRefIdeal.nD Cert.InCdBwdRefIdeal.τ).loc Cert.InCdBwdRefIdeal.main_v43) = v1 c
          ∧ r.2.mem ((c.tc : Thread Cert.InCdBwdRefIdeal.nD Cert.InCdBwdRefIdeal.τ).loc Cert.InCdBwdRefIdeal.main_v45) = v2 c
          ∧ r.2.mem ((c.tc : Thread Cert.InCdBwdRefIdeal.nD Cert.InCdBwdRefIdeal.τ).loc Cert.InCdBwdRefIdeal.main_arg0) = m' ((c.tc : Thread Cert.InCdBwdRefIdeal.nD Cert.InCdBwdRefIdeal.τ).loc Cert.InCdBwdRefIdeal.main_arg0)
          ∧ r.2.mem ((c.tc : Thread Cert.InCdBwdRefIdeal.nD Cert.InCdBwdRefIdeal.τ).loc Cert.InCdBwdRefIdeal.main_arg1) = m' ((c.tc : Thread Cert.InCdBwdRefIdeal.nD Cert.InCdBwdRefIdeal.τ).loc Cert.InCdBwdRefIdeal.main_arg1)
          ∧ r.2.mem ((c.tc : Thread Cert.InCdBwdRefIdeal.nD Cert.InCdBwdRefIdeal.τ).loc Cert.InCdBwdRefIdeal.main_arg2) = m' ((c.tc : Thread Cert.InCdBwdRefIdeal.nD Cert.InCdBwdRefIdeal.τ).loc Cert.InCdBwdRefIdeal.main_arg2)
          ∧ r.2.mem ((c.tc : Thread Cert.InCdBwdRefIdeal.nD Cert.InCdBwdRefIdeal.τ).loc Cert.InCdBwdRefIdeal.main_arg3) = m' ((c.tc : Thread Cert.InCdBwdRefIdeal.nD Cert.InCdBwdRefIdeal.τ).loc Cert.InCdBwdRefIdeal.main_arg3)
          ∧ r.2.mem ((c.tc : Thread Cert.InCdBwdRefIdeal.nD Cert.InCdBwdRefIdeal.τ).loc Cert.InCdBwdRefIdeal.main_arg4) = m' ((c.tc : Thread Cert.InCdBwdRefIdeal.nD Cert.InCdBwdRefIdeal.τ).loc Cert.InCdBwdRefIdeal.main_arg4))

def preserves_ScConvBwd_ScConvBwdIdeal : Prop :=
  True

def algebraic_ScConvBwdIdeal_ScConvBwdRefIdeal [hScConvBwdIdeal : Cert.ScConvBwdIdeal.Facts] [hScConvBwdRefIdeal : Cert.ScConvBwdRefIdeal.Facts] : Prop :=
  ∀ (m : (ℓ : Loc Cert.ScConvBwdIdeal.nD Cert.ScConvBwdIdeal.τ Cert.ScConvBwdIdeal.sig) → Buf (Elt Ideal) ℓ) (g : Dev Cert.ScConvBwdIdeal.nD → PrngReg)
    (m' : (ℓ : Loc Cert.ScConvBwdRefIdeal.nD Cert.ScConvBwdRefIdeal.τ Cert.ScConvBwdRefIdeal.sig) → Buf (Elt Ideal) ℓ) (g' : Dev Cert.ScConvBwdRefIdeal.nD → PrngReg), Pre_ScConvBwdIdeal m →
    (∀ c : Dev Cert.ScConvBwdIdeal.nD,
      m' ((c.tc : Thread Cert.ScConvBwdRefIdeal.nD Cert.ScConvBwdRefIdeal.τ).loc Cert.ScConvBwdRefIdeal.main_arg0) = m ((c.tc : Thread Cert.ScConvBwdIdeal.nD Cert.ScConvBwdIdeal.τ).loc Cert.ScConvBwdIdeal.main_arg0)
      ∧ m' ((c.tc : Thread Cert.ScConvBwdRefIdeal.nD Cert.ScConvBwdRefIdeal.τ).loc Cert.ScConvBwdRefIdeal.main_arg1) = m ((c.tc : Thread Cert.ScConvBwdIdeal.nD Cert.ScConvBwdIdeal.τ).loc Cert.ScConvBwdIdeal.main_arg1)
      ∧ m' ((c.tc : Thread Cert.ScConvBwdRefIdeal.nD Cert.ScConvBwdRefIdeal.τ).loc Cert.ScConvBwdRefIdeal.main_arg2) = m ((c.tc : Thread Cert.ScConvBwdIdeal.nD Cert.ScConvBwdIdeal.τ).loc Cert.ScConvBwdIdeal.main_arg2)
      ∧ m' ((c.tc : Thread Cert.ScConvBwdRefIdeal.nD Cert.ScConvBwdRefIdeal.τ).loc Cert.ScConvBwdRefIdeal.main_arg3) = m ((c.tc : Thread Cert.ScConvBwdIdeal.nD Cert.ScConvBwdIdeal.τ).loc Cert.ScConvBwdIdeal.main_arg3)
      ∧ m' ((c.tc : Thread Cert.ScConvBwdRefIdeal.nD Cert.ScConvBwdRefIdeal.τ).loc Cert.ScConvBwdRefIdeal.main_arg4) = m ((c.tc : Thread Cert.ScConvBwdIdeal.nD Cert.ScConvBwdIdeal.τ).loc Cert.ScConvBwdIdeal.main_arg4)) →
    ∃ (v0 : (c : Dev Cert.ScConvBwdIdeal.nD) → Buf (Elt Ideal) ((c.tc : Thread Cert.ScConvBwdIdeal.nD Cert.ScConvBwdIdeal.τ).loc Cert.ScConvBwdIdeal.main_v4_0)) (v1 : (c : Dev Cert.ScConvBwdIdeal.nD) → Buf (Elt Ideal) ((c.tc : Thread Cert.ScConvBwdIdeal.nD Cert.ScConvBwdIdeal.τ).loc Cert.ScConvBwdIdeal.main_v4_1)) (v2 : (c : Dev Cert.ScConvBwdIdeal.nD) → Buf (Elt Ideal) ((c.tc : Thread Cert.ScConvBwdIdeal.nD Cert.ScConvBwdIdeal.τ).loc Cert.ScConvBwdIdeal.main_v4_2)) (v3 : (c : Dev Cert.ScConvBwdIdeal.nD) → Buf (Elt Ideal) ((c.tc : Thread Cert.ScConvBwdIdeal.nD Cert.ScConvBwdIdeal.τ).loc Cert.ScConvBwdIdeal.main_v4_3)),
      θ_run (Cert.ScConvBwdIdeal.defs (F := Ideal)) (onTc (τ := Cert.ScConvBwdIdeal.τ) (Cert.ScConvBwdIdeal.main (F := Ideal))) ⟨m, fun _ => 0, g⟩ (fun r => ∀ c : Dev Cert.ScConvBwdIdeal.nD,
          r.2.mem ((c.tc : Thread Cert.ScConvBwdIdeal.nD Cert.ScConvBwdIdeal.τ).loc Cert.ScConvBwdIdeal.main_v4_0) = v0 c
          ∧ r.2.mem ((c.tc : Thread Cert.ScConvBwdIdeal.nD Cert.ScConvBwdIdeal.τ).loc Cert.ScConvBwdIdeal.main_v4_1) = v1 c
          ∧ r.2.mem ((c.tc : Thread Cert.ScConvBwdIdeal.nD Cert.ScConvBwdIdeal.τ).loc Cert.ScConvBwdIdeal.main_v4_2) = v2 c
          ∧ r.2.mem ((c.tc : Thread Cert.ScConvBwdIdeal.nD Cert.ScConvBwdIdeal.τ).loc Cert.ScConvBwdIdeal.main_v4_3) = v3 c
          ∧ r.2.mem ((c.tc : Thread Cert.ScConvBwdIdeal.nD Cert.ScConvBwdIdeal.τ).loc Cert.ScConvBwdIdeal.main_arg0) = m ((c.tc : Thread Cert.ScConvBwdIdeal.nD Cert.ScConvBwdIdeal.τ).loc Cert.ScConvBwdIdeal.main_arg0)
          ∧ r.2.mem ((c.tc : Thread Cert.ScConvBwdIdeal.nD Cert.ScConvBwdIdeal.τ).loc Cert.ScConvBwdIdeal.main_arg1) = m ((c.tc : Thread Cert.ScConvBwdIdeal.nD Cert.ScConvBwdIdeal.τ).loc Cert.ScConvBwdIdeal.main_arg1)
          ∧ r.2.mem ((c.tc : Thread Cert.ScConvBwdIdeal.nD Cert.ScConvBwdIdeal.τ).loc Cert.ScConvBwdIdeal.main_arg2) = m ((c.tc : Thread Cert.ScConvBwdIdeal.nD Cert.ScConvBwdIdeal.τ).loc Cert.ScConvBwdIdeal.main_arg2)
          ∧ r.2.mem ((c.tc : Thread Cert.ScConvBwdIdeal.nD Cert.ScConvBwdIdeal.τ).loc Cert.ScConvBwdIdeal.main_arg3) = m ((c.tc : Thread Cert.ScConvBwdIdeal.nD Cert.ScConvBwdIdeal.τ).loc Cert.ScConvBwdIdeal.main_arg3)
          ∧ r.2.mem ((c.tc : Thread Cert.ScConvBwdIdeal.nD Cert.ScConvBwdIdeal.τ).loc Cert.ScConvBwdIdeal.main_arg4) = m ((c.tc : Thread Cert.ScConvBwdIdeal.nD Cert.ScConvBwdIdeal.τ).loc Cert.ScConvBwdIdeal.main_arg4))
      ∧ θ_run (Cert.ScConvBwdRefIdeal.defs (F := Ideal)) (onTc (τ := Cert.ScConvBwdRefIdeal.τ) (Cert.ScConvBwdRefIdeal.main (F := Ideal))) ⟨m', fun _ => 0, g'⟩ (fun r => ∀ c : Dev Cert.ScConvBwdRefIdeal.nD,
          r.2.mem ((c.tc : Thread Cert.ScConvBwdRefIdeal.nD Cert.ScConvBwdRefIdeal.τ).loc Cert.ScConvBwdRefIdeal.main_v65) = v0 c
          ∧ r.2.mem ((c.tc : Thread Cert.ScConvBwdRefIdeal.nD Cert.ScConvBwdRefIdeal.τ).loc Cert.ScConvBwdRefIdeal.main_v67) = v1 c
          ∧ r.2.mem ((c.tc : Thread Cert.ScConvBwdRefIdeal.nD Cert.ScConvBwdRefIdeal.τ).loc Cert.ScConvBwdRefIdeal.main_v69) = v2 c
          ∧ r.2.mem ((c.tc : Thread Cert.ScConvBwdRefIdeal.nD Cert.ScConvBwdRefIdeal.τ).loc Cert.ScConvBwdRefIdeal.main_v57) = v3 c
          ∧ r.2.mem ((c.tc : Thread Cert.ScConvBwdRefIdeal.nD Cert.ScConvBwdRefIdeal.τ).loc Cert.ScConvBwdRefIdeal.main_arg0) = m' ((c.tc : Thread Cert.ScConvBwdRefIdeal.nD Cert.ScConvBwdRefIdeal.τ).loc Cert.ScConvBwdRefIdeal.main_arg0)
          ∧ r.2.mem ((c.tc : Thread Cert.ScConvBwdRefIdeal.nD Cert.ScConvBwdRefIdeal.τ).loc Cert.ScConvBwdRefIdeal.main_arg1) = m' ((c.tc : Thread Cert.ScConvBwdRefIdeal.nD Cert.ScConvBwdRefIdeal.τ).loc Cert.ScConvBwdRefIdeal.main_arg1)
          ∧ r.2.mem ((c.tc : Thread Cert.ScConvBwdRefIdeal.nD Cert.ScConvBwdRefIdeal.τ).loc Cert.ScConvBwdRefIdeal.main_arg2) = m' ((c.tc : Thread Cert.ScConvBwdRefIdeal.nD Cert.ScConvBwdRefIdeal.τ).loc Cert.ScConvBwdRefIdeal.main_arg2)
          ∧ r.2.mem ((c.tc : Thread Cert.ScConvBwdRefIdeal.nD Cert.ScConvBwdRefIdeal.τ).loc Cert.ScConvBwdRefIdeal.main_arg3) = m' ((c.tc : Thread Cert.ScConvBwdRefIdeal.nD Cert.ScConvBwdRefIdeal.τ).loc Cert.ScConvBwdRefIdeal.main_arg3)
          ∧ r.2.mem ((c.tc : Thread Cert.ScConvBwdRefIdeal.nD Cert.ScConvBwdRefIdeal.τ).loc Cert.ScConvBwdRefIdeal.main_arg4) = m' ((c.tc : Thread Cert.ScConvBwdRefIdeal.nD Cert.ScConvBwdRefIdeal.τ).loc Cert.ScConvBwdRefIdeal.main_arg4))

def preserves_DnConvBwd_DnConvBwdIdeal : Prop :=
  True

def algebraic_DnConvBwdIdeal_DnConvBwdRefIdeal [hDnConvBwdIdeal : Cert.DnConvBwdIdeal.Facts] [hDnConvBwdRefIdeal : Cert.DnConvBwdRefIdeal.Facts] : Prop :=
  ∀ (m : (ℓ : Loc Cert.DnConvBwdIdeal.nD Cert.DnConvBwdIdeal.τ Cert.DnConvBwdIdeal.sig) → Buf (Elt Ideal) ℓ) (g : Dev Cert.DnConvBwdIdeal.nD → PrngReg)
    (m' : (ℓ : Loc Cert.DnConvBwdRefIdeal.nD Cert.DnConvBwdRefIdeal.τ Cert.DnConvBwdRefIdeal.sig) → Buf (Elt Ideal) ℓ) (g' : Dev Cert.DnConvBwdRefIdeal.nD → PrngReg), Pre_DnConvBwdIdeal m →
    (∀ c : Dev Cert.DnConvBwdIdeal.nD,
      m' ((c.tc : Thread Cert.DnConvBwdRefIdeal.nD Cert.DnConvBwdRefIdeal.τ).loc Cert.DnConvBwdRefIdeal.main_arg0) = m ((c.tc : Thread Cert.DnConvBwdIdeal.nD Cert.DnConvBwdIdeal.τ).loc Cert.DnConvBwdIdeal.main_arg0)
      ∧ m' ((c.tc : Thread Cert.DnConvBwdRefIdeal.nD Cert.DnConvBwdRefIdeal.τ).loc Cert.DnConvBwdRefIdeal.main_arg1) = m ((c.tc : Thread Cert.DnConvBwdIdeal.nD Cert.DnConvBwdIdeal.τ).loc Cert.DnConvBwdIdeal.main_arg1)
      ∧ m' ((c.tc : Thread Cert.DnConvBwdRefIdeal.nD Cert.DnConvBwdRefIdeal.τ).loc Cert.DnConvBwdRefIdeal.main_arg2) = m ((c.tc : Thread Cert.DnConvBwdIdeal.nD Cert.DnConvBwdIdeal.τ).loc Cert.DnConvBwdIdeal.main_arg2)) →
    ∃ (v0 : (c : Dev Cert.DnConvBwdIdeal.nD) → Buf (Elt Ideal) ((c.tc : Thread Cert.DnConvBwdIdeal.nD Cert.DnConvBwdIdeal.τ).loc Cert.DnConvBwdIdeal.main_v2_0)) (v1 : (c : Dev Cert.DnConvBwdIdeal.nD) → Buf (Elt Ideal) ((c.tc : Thread Cert.DnConvBwdIdeal.nD Cert.DnConvBwdIdeal.τ).loc Cert.DnConvBwdIdeal.main_v2_1)),
      θ_run (Cert.DnConvBwdIdeal.defs (F := Ideal)) (onTc (τ := Cert.DnConvBwdIdeal.τ) (Cert.DnConvBwdIdeal.main (F := Ideal))) ⟨m, fun _ => 0, g⟩ (fun r => ∀ c : Dev Cert.DnConvBwdIdeal.nD,
          r.2.mem ((c.tc : Thread Cert.DnConvBwdIdeal.nD Cert.DnConvBwdIdeal.τ).loc Cert.DnConvBwdIdeal.main_v2_0) = v0 c
          ∧ r.2.mem ((c.tc : Thread Cert.DnConvBwdIdeal.nD Cert.DnConvBwdIdeal.τ).loc Cert.DnConvBwdIdeal.main_v2_1) = v1 c
          ∧ r.2.mem ((c.tc : Thread Cert.DnConvBwdIdeal.nD Cert.DnConvBwdIdeal.τ).loc Cert.DnConvBwdIdeal.main_arg0) = m ((c.tc : Thread Cert.DnConvBwdIdeal.nD Cert.DnConvBwdIdeal.τ).loc Cert.DnConvBwdIdeal.main_arg0)
          ∧ r.2.mem ((c.tc : Thread Cert.DnConvBwdIdeal.nD Cert.DnConvBwdIdeal.τ).loc Cert.DnConvBwdIdeal.main_arg1) = m ((c.tc : Thread Cert.DnConvBwdIdeal.nD Cert.DnConvBwdIdeal.τ).loc Cert.DnConvBwdIdeal.main_arg1)
          ∧ r.2.mem ((c.tc : Thread Cert.DnConvBwdIdeal.nD Cert.DnConvBwdIdeal.τ).loc Cert.DnConvBwdIdeal.main_arg2) = m ((c.tc : Thread Cert.DnConvBwdIdeal.nD Cert.DnConvBwdIdeal.τ).loc Cert.DnConvBwdIdeal.main_arg2))
      ∧ θ_run (Cert.DnConvBwdRefIdeal.defs (F := Ideal)) (onTc (τ := Cert.DnConvBwdRefIdeal.τ) (Cert.DnConvBwdRefIdeal.main (F := Ideal))) ⟨m', fun _ => 0, g'⟩ (fun r => ∀ c : Dev Cert.DnConvBwdRefIdeal.nD,
          r.2.mem ((c.tc : Thread Cert.DnConvBwdRefIdeal.nD Cert.DnConvBwdRefIdeal.τ).loc Cert.DnConvBwdRefIdeal.main_v79) = v0 c
          ∧ r.2.mem ((c.tc : Thread Cert.DnConvBwdRefIdeal.nD Cert.DnConvBwdRefIdeal.τ).loc Cert.DnConvBwdRefIdeal.main_v73) = v1 c
          ∧ r.2.mem ((c.tc : Thread Cert.DnConvBwdRefIdeal.nD Cert.DnConvBwdRefIdeal.τ).loc Cert.DnConvBwdRefIdeal.main_arg0) = m' ((c.tc : Thread Cert.DnConvBwdRefIdeal.nD Cert.DnConvBwdRefIdeal.τ).loc Cert.DnConvBwdRefIdeal.main_arg0)
          ∧ r.2.mem ((c.tc : Thread Cert.DnConvBwdRefIdeal.nD Cert.DnConvBwdRefIdeal.τ).loc Cert.DnConvBwdRefIdeal.main_arg1) = m' ((c.tc : Thread Cert.DnConvBwdRefIdeal.nD Cert.DnConvBwdRefIdeal.τ).loc Cert.DnConvBwdRefIdeal.main_arg1)
          ∧ r.2.mem ((c.tc : Thread Cert.DnConvBwdRefIdeal.nD Cert.DnConvBwdRefIdeal.τ).loc Cert.DnConvBwdRefIdeal.main_arg2) = m' ((c.tc : Thread Cert.DnConvBwdRefIdeal.nD Cert.DnConvBwdRefIdeal.τ).loc Cert.DnConvBwdRefIdeal.main_arg2))

def preserves_PoolBwd_PoolBwdIdeal : Prop :=
  True

def algebraic_PoolBwdIdeal_PoolBwdRefIdeal_pre_finite_pool [hPoolBwdIdeal : Cert.PoolBwdIdeal.Facts] [hPoolBwdRefIdeal : Cert.PoolBwdRefIdeal.Facts] [hPre_finite_pool : Cert.Pre_finite_pool.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg)
    (m' : (ℓ : Loc Cert.PoolBwdRefIdeal.nD Cert.PoolBwdRefIdeal.τ Cert.PoolBwdRefIdeal.sig) → Buf (Elt Ideal) ℓ) (g' : Dev Cert.PoolBwdRefIdeal.nD → PrngReg), Pre_PoolBwdIdeal_finite_pool m →
    (∀ c : Dev Cert.PoolBwdIdeal.nD,
      m' ((c.tc : Thread Cert.PoolBwdRefIdeal.nD Cert.PoolBwdRefIdeal.τ).loc Cert.PoolBwdRefIdeal.main_arg0) = m ((c.tc : Thread Cert.PoolBwdIdeal.nD Cert.PoolBwdIdeal.τ).loc Cert.PoolBwdIdeal.main_arg0)
      ∧ m' ((c.tc : Thread Cert.PoolBwdRefIdeal.nD Cert.PoolBwdRefIdeal.τ).loc Cert.PoolBwdRefIdeal.main_arg1) = m ((c.tc : Thread Cert.PoolBwdIdeal.nD Cert.PoolBwdIdeal.τ).loc Cert.PoolBwdIdeal.main_arg1)
      ∧ m' ((c.tc : Thread Cert.PoolBwdRefIdeal.nD Cert.PoolBwdRefIdeal.τ).loc Cert.PoolBwdRefIdeal.main_arg2) = m ((c.tc : Thread Cert.PoolBwdIdeal.nD Cert.PoolBwdIdeal.τ).loc Cert.PoolBwdIdeal.main_arg2)
      ∧ m' ((c.tc : Thread Cert.PoolBwdRefIdeal.nD Cert.PoolBwdRefIdeal.τ).loc Cert.PoolBwdRefIdeal.main_arg3) = m ((c.tc : Thread Cert.PoolBwdIdeal.nD Cert.PoolBwdIdeal.τ).loc Cert.PoolBwdIdeal.main_arg3)) →
    ∃ (v0 : (c : Dev Cert.PoolBwdIdeal.nD) → Buf (Elt Ideal) ((c.tc : Thread Cert.PoolBwdIdeal.nD Cert.PoolBwdIdeal.τ).loc Cert.PoolBwdIdeal.main_v3_0)) (v1 : (c : Dev Cert.PoolBwdIdeal.nD) → Buf (Elt Ideal) ((c.tc : Thread Cert.PoolBwdIdeal.nD Cert.PoolBwdIdeal.τ).loc Cert.PoolBwdIdeal.main_v3_1)) (v2 : (c : Dev Cert.PoolBwdIdeal.nD) → Buf (Elt Ideal) ((c.tc : Thread Cert.PoolBwdIdeal.nD Cert.PoolBwdIdeal.τ).loc Cert.PoolBwdIdeal.main_v3_2)),
      θ_run (Cert.PoolBwdIdeal.defs (F := Ideal)) (onTc (τ := Cert.PoolBwdIdeal.τ) (Cert.PoolBwdIdeal.main (F := Ideal))) ⟨m, fun _ => 0, g⟩ (fun r => ∀ c : Dev Cert.PoolBwdIdeal.nD,
          r.2.mem ((c.tc : Thread Cert.PoolBwdIdeal.nD Cert.PoolBwdIdeal.τ).loc Cert.PoolBwdIdeal.main_v3_0) = v0 c
          ∧ r.2.mem ((c.tc : Thread Cert.PoolBwdIdeal.nD Cert.PoolBwdIdeal.τ).loc Cert.PoolBwdIdeal.main_v3_1) = v1 c
          ∧ r.2.mem ((c.tc : Thread Cert.PoolBwdIdeal.nD Cert.PoolBwdIdeal.τ).loc Cert.PoolBwdIdeal.main_v3_2) = v2 c
          ∧ r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
          ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
          ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
          ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3))
      ∧ θ_run (Cert.PoolBwdRefIdeal.defs (F := Ideal)) (onTc (τ := Cert.PoolBwdRefIdeal.τ) (Cert.PoolBwdRefIdeal.main (F := Ideal))) ⟨m', fun _ => 0, g'⟩ (fun r => ∀ c : Dev Cert.PoolBwdRefIdeal.nD,
          r.2.mem ((c.tc : Thread Cert.PoolBwdRefIdeal.nD Cert.PoolBwdRefIdeal.τ).loc Cert.PoolBwdRefIdeal.main_v164) = v0 c
          ∧ r.2.mem ((c.tc : Thread Cert.PoolBwdRefIdeal.nD Cert.PoolBwdRefIdeal.τ).loc Cert.PoolBwdRefIdeal.main_v97) = v1 c
          ∧ r.2.mem ((c.tc : Thread Cert.PoolBwdRefIdeal.nD Cert.PoolBwdRefIdeal.τ).loc Cert.PoolBwdRefIdeal.main_v166) = v2 c
          ∧ r.2.mem ((c.tc : Thread Cert.PoolBwdRefIdeal.nD Cert.PoolBwdRefIdeal.τ).loc Cert.PoolBwdRefIdeal.main_arg0) = m' ((c.tc : Thread Cert.PoolBwdRefIdeal.nD Cert.PoolBwdRefIdeal.τ).loc Cert.PoolBwdRefIdeal.main_arg0)
          ∧ r.2.mem ((c.tc : Thread Cert.PoolBwdRefIdeal.nD Cert.PoolBwdRefIdeal.τ).loc Cert.PoolBwdRefIdeal.main_arg1) = m' ((c.tc : Thread Cert.PoolBwdRefIdeal.nD Cert.PoolBwdRefIdeal.τ).loc Cert.PoolBwdRefIdeal.main_arg1)
          ∧ r.2.mem ((c.tc : Thread Cert.PoolBwdRefIdeal.nD Cert.PoolBwdRefIdeal.τ).loc Cert.PoolBwdRefIdeal.main_arg2) = m' ((c.tc : Thread Cert.PoolBwdRefIdeal.nD Cert.PoolBwdRefIdeal.τ).loc Cert.PoolBwdRefIdeal.main_arg2)
          ∧ r.2.mem ((c.tc : Thread Cert.PoolBwdRefIdeal.nD Cert.PoolBwdRefIdeal.τ).loc Cert.PoolBwdRefIdeal.main_arg3) = m' ((c.tc : Thread Cert.PoolBwdRefIdeal.nD Cert.PoolBwdRefIdeal.τ).loc Cert.PoolBwdRefIdeal.main_arg3))

def preserves_SguBwd_SguBwdIdeal : Prop :=
  True

def algebraic_SguBwdIdeal_SguBwdRefIdeal [hSguBwdIdeal : Cert.SguBwdIdeal.Facts] [hSguBwdRefIdeal : Cert.SguBwdRefIdeal.Facts] : Prop :=
  ∀ (m : (ℓ : Loc Cert.SguBwdIdeal.nD Cert.SguBwdIdeal.τ Cert.SguBwdIdeal.sig) → Buf (Elt Ideal) ℓ) (g : Dev Cert.SguBwdIdeal.nD → PrngReg)
    (m' : (ℓ : Loc Cert.SguBwdRefIdeal.nD Cert.SguBwdRefIdeal.τ Cert.SguBwdRefIdeal.sig) → Buf (Elt Ideal) ℓ) (g' : Dev Cert.SguBwdRefIdeal.nD → PrngReg), Pre_SguBwdIdeal m →
    (∀ c : Dev Cert.SguBwdIdeal.nD,
      m' ((c.tc : Thread Cert.SguBwdRefIdeal.nD Cert.SguBwdRefIdeal.τ).loc Cert.SguBwdRefIdeal.main_arg0) = m ((c.tc : Thread Cert.SguBwdIdeal.nD Cert.SguBwdIdeal.τ).loc Cert.SguBwdIdeal.main_arg0)
      ∧ m' ((c.tc : Thread Cert.SguBwdRefIdeal.nD Cert.SguBwdRefIdeal.τ).loc Cert.SguBwdRefIdeal.main_arg1) = m ((c.tc : Thread Cert.SguBwdIdeal.nD Cert.SguBwdIdeal.τ).loc Cert.SguBwdIdeal.main_arg1)
      ∧ m' ((c.tc : Thread Cert.SguBwdRefIdeal.nD Cert.SguBwdRefIdeal.τ).loc Cert.SguBwdRefIdeal.main_arg2) = m ((c.tc : Thread Cert.SguBwdIdeal.nD Cert.SguBwdIdeal.τ).loc Cert.SguBwdIdeal.main_arg2)
      ∧ m' ((c.tc : Thread Cert.SguBwdRefIdeal.nD Cert.SguBwdRefIdeal.τ).loc Cert.SguBwdRefIdeal.main_arg3) = m ((c.tc : Thread Cert.SguBwdIdeal.nD Cert.SguBwdIdeal.τ).loc Cert.SguBwdIdeal.main_arg3)
      ∧ m' ((c.tc : Thread Cert.SguBwdRefIdeal.nD Cert.SguBwdRefIdeal.τ).loc Cert.SguBwdRefIdeal.main_arg4) = m ((c.tc : Thread Cert.SguBwdIdeal.nD Cert.SguBwdIdeal.τ).loc Cert.SguBwdIdeal.main_arg4)
      ∧ m' ((c.tc : Thread Cert.SguBwdRefIdeal.nD Cert.SguBwdRefIdeal.τ).loc Cert.SguBwdRefIdeal.main_arg5) = m ((c.tc : Thread Cert.SguBwdIdeal.nD Cert.SguBwdIdeal.τ).loc Cert.SguBwdIdeal.main_arg5)
      ∧ m' ((c.tc : Thread Cert.SguBwdRefIdeal.nD Cert.SguBwdRefIdeal.τ).loc Cert.SguBwdRefIdeal.main_arg6) = m ((c.tc : Thread Cert.SguBwdIdeal.nD Cert.SguBwdIdeal.τ).loc Cert.SguBwdIdeal.main_arg6)) →
    ∃ (v0 : (c : Dev Cert.SguBwdIdeal.nD) → Buf (Elt Ideal) ((c.tc : Thread Cert.SguBwdIdeal.nD Cert.SguBwdIdeal.τ).loc Cert.SguBwdIdeal.main_v6_0)) (v1 : (c : Dev Cert.SguBwdIdeal.nD) → Buf (Elt Ideal) ((c.tc : Thread Cert.SguBwdIdeal.nD Cert.SguBwdIdeal.τ).loc Cert.SguBwdIdeal.main_v6_1)) (v2 : (c : Dev Cert.SguBwdIdeal.nD) → Buf (Elt Ideal) ((c.tc : Thread Cert.SguBwdIdeal.nD Cert.SguBwdIdeal.τ).loc Cert.SguBwdIdeal.main_v6_2)) (v3 : (c : Dev Cert.SguBwdIdeal.nD) → Buf (Elt Ideal) ((c.tc : Thread Cert.SguBwdIdeal.nD Cert.SguBwdIdeal.τ).loc Cert.SguBwdIdeal.main_v6_3)) (v4 : (c : Dev Cert.SguBwdIdeal.nD) → Buf (Elt Ideal) ((c.tc : Thread Cert.SguBwdIdeal.nD Cert.SguBwdIdeal.τ).loc Cert.SguBwdIdeal.main_v6_4)) (v5 : (c : Dev Cert.SguBwdIdeal.nD) → Buf (Elt Ideal) ((c.tc : Thread Cert.SguBwdIdeal.nD Cert.SguBwdIdeal.τ).loc Cert.SguBwdIdeal.main_v6_5)),
      θ_run (Cert.SguBwdIdeal.defs (F := Ideal)) (onTc (τ := Cert.SguBwdIdeal.τ) (Cert.SguBwdIdeal.main (F := Ideal))) ⟨m, fun _ => 0, g⟩ (fun r => ∀ c : Dev Cert.SguBwdIdeal.nD,
          r.2.mem ((c.tc : Thread Cert.SguBwdIdeal.nD Cert.SguBwdIdeal.τ).loc Cert.SguBwdIdeal.main_v6_0) = v0 c
          ∧ r.2.mem ((c.tc : Thread Cert.SguBwdIdeal.nD Cert.SguBwdIdeal.τ).loc Cert.SguBwdIdeal.main_v6_1) = v1 c
          ∧ r.2.mem ((c.tc : Thread Cert.SguBwdIdeal.nD Cert.SguBwdIdeal.τ).loc Cert.SguBwdIdeal.main_v6_2) = v2 c
          ∧ r.2.mem ((c.tc : Thread Cert.SguBwdIdeal.nD Cert.SguBwdIdeal.τ).loc Cert.SguBwdIdeal.main_v6_3) = v3 c
          ∧ r.2.mem ((c.tc : Thread Cert.SguBwdIdeal.nD Cert.SguBwdIdeal.τ).loc Cert.SguBwdIdeal.main_v6_4) = v4 c
          ∧ r.2.mem ((c.tc : Thread Cert.SguBwdIdeal.nD Cert.SguBwdIdeal.τ).loc Cert.SguBwdIdeal.main_v6_5) = v5 c
          ∧ r.2.mem ((c.tc : Thread Cert.SguBwdIdeal.nD Cert.SguBwdIdeal.τ).loc Cert.SguBwdIdeal.main_arg0) = m ((c.tc : Thread Cert.SguBwdIdeal.nD Cert.SguBwdIdeal.τ).loc Cert.SguBwdIdeal.main_arg0)
          ∧ r.2.mem ((c.tc : Thread Cert.SguBwdIdeal.nD Cert.SguBwdIdeal.τ).loc Cert.SguBwdIdeal.main_arg1) = m ((c.tc : Thread Cert.SguBwdIdeal.nD Cert.SguBwdIdeal.τ).loc Cert.SguBwdIdeal.main_arg1)
          ∧ r.2.mem ((c.tc : Thread Cert.SguBwdIdeal.nD Cert.SguBwdIdeal.τ).loc Cert.SguBwdIdeal.main_arg2) = m ((c.tc : Thread Cert.SguBwdIdeal.nD Cert.SguBwdIdeal.τ).loc Cert.SguBwdIdeal.main_arg2)
          ∧ r.2.mem ((c.tc : Thread Cert.SguBwdIdeal.nD Cert.SguBwdIdeal.τ).loc Cert.SguBwdIdeal.main_arg3) = m ((c.tc : Thread Cert.SguBwdIdeal.nD Cert.SguBwdIdeal.τ).loc Cert.SguBwdIdeal.main_arg3)
          ∧ r.2.mem ((c.tc : Thread Cert.SguBwdIdeal.nD Cert.SguBwdIdeal.τ).loc Cert.SguBwdIdeal.main_arg4) = m ((c.tc : Thread Cert.SguBwdIdeal.nD Cert.SguBwdIdeal.τ).loc Cert.SguBwdIdeal.main_arg4)
          ∧ r.2.mem ((c.tc : Thread Cert.SguBwdIdeal.nD Cert.SguBwdIdeal.τ).loc Cert.SguBwdIdeal.main_arg5) = m ((c.tc : Thread Cert.SguBwdIdeal.nD Cert.SguBwdIdeal.τ).loc Cert.SguBwdIdeal.main_arg5)
          ∧ r.2.mem ((c.tc : Thread Cert.SguBwdIdeal.nD Cert.SguBwdIdeal.τ).loc Cert.SguBwdIdeal.main_arg6) = m ((c.tc : Thread Cert.SguBwdIdeal.nD Cert.SguBwdIdeal.τ).loc Cert.SguBwdIdeal.main_arg6))
      ∧ θ_run (Cert.SguBwdRefIdeal.defs (F := Ideal)) (onTc (τ := Cert.SguBwdRefIdeal.τ) (Cert.SguBwdRefIdeal.main (F := Ideal))) ⟨m', fun _ => 0, g'⟩ (fun r => ∀ c : Dev Cert.SguBwdRefIdeal.nD,
          r.2.mem ((c.tc : Thread Cert.SguBwdRefIdeal.nD Cert.SguBwdRefIdeal.τ).loc Cert.SguBwdRefIdeal.main_v148) = v0 c
          ∧ r.2.mem ((c.tc : Thread Cert.SguBwdRefIdeal.nD Cert.SguBwdRefIdeal.τ).loc Cert.SguBwdRefIdeal.main_v150) = v1 c
          ∧ r.2.mem ((c.tc : Thread Cert.SguBwdRefIdeal.nD Cert.SguBwdRefIdeal.τ).loc Cert.SguBwdRefIdeal.main_v152) = v2 c
          ∧ r.2.mem ((c.tc : Thread Cert.SguBwdRefIdeal.nD Cert.SguBwdRefIdeal.τ).loc Cert.SguBwdRefIdeal.main_v154) = v3 c
          ∧ r.2.mem ((c.tc : Thread Cert.SguBwdRefIdeal.nD Cert.SguBwdRefIdeal.τ).loc Cert.SguBwdRefIdeal.main_v90) = v4 c
          ∧ r.2.mem ((c.tc : Thread Cert.SguBwdRefIdeal.nD Cert.SguBwdRefIdeal.τ).loc Cert.SguBwdRefIdeal.main_v155) = v5 c
          ∧ r.2.mem ((c.tc : Thread Cert.SguBwdRefIdeal.nD Cert.SguBwdRefIdeal.τ).loc Cert.SguBwdRefIdeal.main_arg0) = m' ((c.tc : Thread Cert.SguBwdRefIdeal.nD Cert.SguBwdRefIdeal.τ).loc Cert.SguBwdRefIdeal.main_arg0)
          ∧ r.2.mem ((c.tc : Thread Cert.SguBwdRefIdeal.nD Cert.SguBwdRefIdeal.τ).loc Cert.SguBwdRefIdeal.main_arg1) = m' ((c.tc : Thread Cert.SguBwdRefIdeal.nD Cert.SguBwdRefIdeal.τ).loc Cert.SguBwdRefIdeal.main_arg1)
          ∧ r.2.mem ((c.tc : Thread Cert.SguBwdRefIdeal.nD Cert.SguBwdRefIdeal.τ).loc Cert.SguBwdRefIdeal.main_arg2) = m' ((c.tc : Thread Cert.SguBwdRefIdeal.nD Cert.SguBwdRefIdeal.τ).loc Cert.SguBwdRefIdeal.main_arg2)
          ∧ r.2.mem ((c.tc : Thread Cert.SguBwdRefIdeal.nD Cert.SguBwdRefIdeal.τ).loc Cert.SguBwdRefIdeal.main_arg3) = m' ((c.tc : Thread Cert.SguBwdRefIdeal.nD Cert.SguBwdRefIdeal.τ).loc Cert.SguBwdRefIdeal.main_arg3)
          ∧ r.2.mem ((c.tc : Thread Cert.SguBwdRefIdeal.nD Cert.SguBwdRefIdeal.τ).loc Cert.SguBwdRefIdeal.main_arg4) = m' ((c.tc : Thread Cert.SguBwdRefIdeal.nD Cert.SguBwdRefIdeal.τ).loc Cert.SguBwdRefIdeal.main_arg4)
          ∧ r.2.mem ((c.tc : Thread Cert.SguBwdRefIdeal.nD Cert.SguBwdRefIdeal.τ).loc Cert.SguBwdRefIdeal.main_arg5) = m' ((c.tc : Thread Cert.SguBwdRefIdeal.nD Cert.SguBwdRefIdeal.τ).loc Cert.SguBwdRefIdeal.main_arg5)
          ∧ r.2.mem ((c.tc : Thread Cert.SguBwdRefIdeal.nD Cert.SguBwdRefIdeal.τ).loc Cert.SguBwdRefIdeal.main_arg6) = m' ((c.tc : Thread Cert.SguBwdRefIdeal.nD Cert.SguBwdRefIdeal.τ).loc Cert.SguBwdRefIdeal.main_arg6))

def preserves_DnRecurFwd_DnRecurFwdIdeal : Prop :=
  True

def algebraic_DnRecurFwdIdeal_DnRecurFwdRefIdeal [hDnRecurFwdIdeal : Cert.DnRecurFwdIdeal.Facts] [hDnRecurFwdRefIdeal : Cert.DnRecurFwdRefIdeal.Facts] : Prop :=
  ∀ (m : (ℓ : Loc Cert.DnRecurFwdIdeal.nD Cert.DnRecurFwdIdeal.τ Cert.DnRecurFwdIdeal.sig) → Buf (Elt Ideal) ℓ) (g : Dev Cert.DnRecurFwdIdeal.nD → PrngReg)
    (m' : (ℓ : Loc Cert.DnRecurFwdRefIdeal.nD Cert.DnRecurFwdRefIdeal.τ Cert.DnRecurFwdRefIdeal.sig) → Buf (Elt Ideal) ℓ) (g' : Dev Cert.DnRecurFwdRefIdeal.nD → PrngReg), Pre_DnRecurFwdIdeal m →
    (∀ c : Dev Cert.DnRecurFwdIdeal.nD,
      m' ((c.tc : Thread Cert.DnRecurFwdRefIdeal.nD Cert.DnRecurFwdRefIdeal.τ).loc Cert.DnRecurFwdRefIdeal.main_arg0) = m ((c.tc : Thread Cert.DnRecurFwdIdeal.nD Cert.DnRecurFwdIdeal.τ).loc Cert.DnRecurFwdIdeal.main_arg0)
      ∧ m' ((c.tc : Thread Cert.DnRecurFwdRefIdeal.nD Cert.DnRecurFwdRefIdeal.τ).loc Cert.DnRecurFwdRefIdeal.main_arg1) = m ((c.tc : Thread Cert.DnRecurFwdIdeal.nD Cert.DnRecurFwdIdeal.τ).loc Cert.DnRecurFwdIdeal.main_arg1)
      ∧ m' ((c.tc : Thread Cert.DnRecurFwdRefIdeal.nD Cert.DnRecurFwdRefIdeal.τ).loc Cert.DnRecurFwdRefIdeal.main_arg2) = m ((c.tc : Thread Cert.DnRecurFwdIdeal.nD Cert.DnRecurFwdIdeal.τ).loc Cert.DnRecurFwdIdeal.main_arg2)
      ∧ m' ((c.tc : Thread Cert.DnRecurFwdRefIdeal.nD Cert.DnRecurFwdRefIdeal.τ).loc Cert.DnRecurFwdRefIdeal.main_arg3) = m ((c.tc : Thread Cert.DnRecurFwdIdeal.nD Cert.DnRecurFwdIdeal.τ).loc Cert.DnRecurFwdIdeal.main_arg3)
      ∧ m' ((c.tc : Thread Cert.DnRecurFwdRefIdeal.nD Cert.DnRecurFwdRefIdeal.τ).loc Cert.DnRecurFwdRefIdeal.main_arg4) = m ((c.tc : Thread Cert.DnRecurFwdIdeal.nD Cert.DnRecurFwdIdeal.τ).loc Cert.DnRecurFwdIdeal.main_arg4)
      ∧ m' ((c.tc : Thread Cert.DnRecurFwdRefIdeal.nD Cert.DnRecurFwdRefIdeal.τ).loc Cert.DnRecurFwdRefIdeal.main_arg5) = m ((c.tc : Thread Cert.DnRecurFwdIdeal.nD Cert.DnRecurFwdIdeal.τ).loc Cert.DnRecurFwdIdeal.main_arg5)
      ∧ m' ((c.tc : Thread Cert.DnRecurFwdRefIdeal.nD Cert.DnRecurFwdRefIdeal.τ).loc Cert.DnRecurFwdRefIdeal.main_arg6) = m ((c.tc : Thread Cert.DnRecurFwdIdeal.nD Cert.DnRecurFwdIdeal.τ).loc Cert.DnRecurFwdIdeal.main_arg6)
      ∧ m' ((c.tc : Thread Cert.DnRecurFwdRefIdeal.nD Cert.DnRecurFwdRefIdeal.τ).loc Cert.DnRecurFwdRefIdeal.main_arg7) = m ((c.tc : Thread Cert.DnRecurFwdIdeal.nD Cert.DnRecurFwdIdeal.τ).loc Cert.DnRecurFwdIdeal.main_arg7)) →
    ∃ (v0 : (c : Dev Cert.DnRecurFwdIdeal.nD) → Buf (Elt Ideal) ((c.tc : Thread Cert.DnRecurFwdIdeal.nD Cert.DnRecurFwdIdeal.τ).loc Cert.DnRecurFwdIdeal.main_v19_0)) (v1 : (c : Dev Cert.DnRecurFwdIdeal.nD) → Buf (Elt Ideal) ((c.tc : Thread Cert.DnRecurFwdIdeal.nD Cert.DnRecurFwdIdeal.τ).loc Cert.DnRecurFwdIdeal.main_v19_1)) (v2 : (c : Dev Cert.DnRecurFwdIdeal.nD) → Buf (Elt Ideal) ((c.tc : Thread Cert.DnRecurFwdIdeal.nD Cert.DnRecurFwdIdeal.τ).loc Cert.DnRecurFwdIdeal.main_v19_2)),
      θ_run (Cert.DnRecurFwdIdeal.defs (F := Ideal)) (onTc (τ := Cert.DnRecurFwdIdeal.τ) (Cert.DnRecurFwdIdeal.main (F := Ideal))) ⟨m, fun _ => 0, g⟩ (fun r => ∀ c : Dev Cert.DnRecurFwdIdeal.nD,
          r.2.mem ((c.tc : Thread Cert.DnRecurFwdIdeal.nD Cert.DnRecurFwdIdeal.τ).loc Cert.DnRecurFwdIdeal.main_v19_0) = v0 c
          ∧ r.2.mem ((c.tc : Thread Cert.DnRecurFwdIdeal.nD Cert.DnRecurFwdIdeal.τ).loc Cert.DnRecurFwdIdeal.main_v19_1) = v1 c
          ∧ r.2.mem ((c.tc : Thread Cert.DnRecurFwdIdeal.nD Cert.DnRecurFwdIdeal.τ).loc Cert.DnRecurFwdIdeal.main_v19_2) = v2 c
          ∧ r.2.mem ((c.tc : Thread Cert.DnRecurFwdIdeal.nD Cert.DnRecurFwdIdeal.τ).loc Cert.DnRecurFwdIdeal.main_arg0) = m ((c.tc : Thread Cert.DnRecurFwdIdeal.nD Cert.DnRecurFwdIdeal.τ).loc Cert.DnRecurFwdIdeal.main_arg0)
          ∧ r.2.mem ((c.tc : Thread Cert.DnRecurFwdIdeal.nD Cert.DnRecurFwdIdeal.τ).loc Cert.DnRecurFwdIdeal.main_arg1) = m ((c.tc : Thread Cert.DnRecurFwdIdeal.nD Cert.DnRecurFwdIdeal.τ).loc Cert.DnRecurFwdIdeal.main_arg1)
          ∧ r.2.mem ((c.tc : Thread Cert.DnRecurFwdIdeal.nD Cert.DnRecurFwdIdeal.τ).loc Cert.DnRecurFwdIdeal.main_arg2) = m ((c.tc : Thread Cert.DnRecurFwdIdeal.nD Cert.DnRecurFwdIdeal.τ).loc Cert.DnRecurFwdIdeal.main_arg2)
          ∧ r.2.mem ((c.tc : Thread Cert.DnRecurFwdIdeal.nD Cert.DnRecurFwdIdeal.τ).loc Cert.DnRecurFwdIdeal.main_arg3) = m ((c.tc : Thread Cert.DnRecurFwdIdeal.nD Cert.DnRecurFwdIdeal.τ).loc Cert.DnRecurFwdIdeal.main_arg3)
          ∧ r.2.mem ((c.tc : Thread Cert.DnRecurFwdIdeal.nD Cert.DnRecurFwdIdeal.τ).loc Cert.DnRecurFwdIdeal.main_arg4) = m ((c.tc : Thread Cert.DnRecurFwdIdeal.nD Cert.DnRecurFwdIdeal.τ).loc Cert.DnRecurFwdIdeal.main_arg4)
          ∧ r.2.mem ((c.tc : Thread Cert.DnRecurFwdIdeal.nD Cert.DnRecurFwdIdeal.τ).loc Cert.DnRecurFwdIdeal.main_arg5) = m ((c.tc : Thread Cert.DnRecurFwdIdeal.nD Cert.DnRecurFwdIdeal.τ).loc Cert.DnRecurFwdIdeal.main_arg5)
          ∧ r.2.mem ((c.tc : Thread Cert.DnRecurFwdIdeal.nD Cert.DnRecurFwdIdeal.τ).loc Cert.DnRecurFwdIdeal.main_arg6) = m ((c.tc : Thread Cert.DnRecurFwdIdeal.nD Cert.DnRecurFwdIdeal.τ).loc Cert.DnRecurFwdIdeal.main_arg6)
          ∧ r.2.mem ((c.tc : Thread Cert.DnRecurFwdIdeal.nD Cert.DnRecurFwdIdeal.τ).loc Cert.DnRecurFwdIdeal.main_arg7) = m ((c.tc : Thread Cert.DnRecurFwdIdeal.nD Cert.DnRecurFwdIdeal.τ).loc Cert.DnRecurFwdIdeal.main_arg7))
      ∧ θ_run (Cert.DnRecurFwdRefIdeal.defs (F := Ideal)) (onTc (τ := Cert.DnRecurFwdRefIdeal.τ) (Cert.DnRecurFwdRefIdeal.main (F := Ideal))) ⟨m', fun _ => 0, g'⟩ (fun r => ∀ c : Dev Cert.DnRecurFwdRefIdeal.nD,
          r.2.mem ((c.tc : Thread Cert.DnRecurFwdRefIdeal.nD Cert.DnRecurFwdRefIdeal.τ).loc Cert.DnRecurFwdRefIdeal.main_v30) = v0 c
          ∧ r.2.mem ((c.tc : Thread Cert.DnRecurFwdRefIdeal.nD Cert.DnRecurFwdRefIdeal.τ).loc Cert.DnRecurFwdRefIdeal.main_v33) = v1 c
          ∧ r.2.mem ((c.tc : Thread Cert.DnRecurFwdRefIdeal.nD Cert.DnRecurFwdRefIdeal.τ).loc Cert.DnRecurFwdRefIdeal.main_v35) = v2 c
          ∧ r.2.mem ((c.tc : Thread Cert.DnRecurFwdRefIdeal.nD Cert.DnRecurFwdRefIdeal.τ).loc Cert.DnRecurFwdRefIdeal.main_arg0) = m' ((c.tc : Thread Cert.DnRecurFwdRefIdeal.nD Cert.DnRecurFwdRefIdeal.τ).loc Cert.DnRecurFwdRefIdeal.main_arg0)
          ∧ r.2.mem ((c.tc : Thread Cert.DnRecurFwdRefIdeal.nD Cert.DnRecurFwdRefIdeal.τ).loc Cert.DnRecurFwdRefIdeal.main_arg1) = m' ((c.tc : Thread Cert.DnRecurFwdRefIdeal.nD Cert.DnRecurFwdRefIdeal.τ).loc Cert.DnRecurFwdRefIdeal.main_arg1)
          ∧ r.2.mem ((c.tc : Thread Cert.DnRecurFwdRefIdeal.nD Cert.DnRecurFwdRefIdeal.τ).loc Cert.DnRecurFwdRefIdeal.main_arg2) = m' ((c.tc : Thread Cert.DnRecurFwdRefIdeal.nD Cert.DnRecurFwdRefIdeal.τ).loc Cert.DnRecurFwdRefIdeal.main_arg2)
          ∧ r.2.mem ((c.tc : Thread Cert.DnRecurFwdRefIdeal.nD Cert.DnRecurFwdRefIdeal.τ).loc Cert.DnRecurFwdRefIdeal.main_arg3) = m' ((c.tc : Thread Cert.DnRecurFwdRefIdeal.nD Cert.DnRecurFwdRefIdeal.τ).loc Cert.DnRecurFwdRefIdeal.main_arg3)
          ∧ r.2.mem ((c.tc : Thread Cert.DnRecurFwdRefIdeal.nD Cert.DnRecurFwdRefIdeal.τ).loc Cert.DnRecurFwdRefIdeal.main_arg4) = m' ((c.tc : Thread Cert.DnRecurFwdRefIdeal.nD Cert.DnRecurFwdRefIdeal.τ).loc Cert.DnRecurFwdRefIdeal.main_arg4)
          ∧ r.2.mem ((c.tc : Thread Cert.DnRecurFwdRefIdeal.nD Cert.DnRecurFwdRefIdeal.τ).loc Cert.DnRecurFwdRefIdeal.main_arg5) = m' ((c.tc : Thread Cert.DnRecurFwdRefIdeal.nD Cert.DnRecurFwdRefIdeal.τ).loc Cert.DnRecurFwdRefIdeal.main_arg5)
          ∧ r.2.mem ((c.tc : Thread Cert.DnRecurFwdRefIdeal.nD Cert.DnRecurFwdRefIdeal.τ).loc Cert.DnRecurFwdRefIdeal.main_arg6) = m' ((c.tc : Thread Cert.DnRecurFwdRefIdeal.nD Cert.DnRecurFwdRefIdeal.τ).loc Cert.DnRecurFwdRefIdeal.main_arg6)
          ∧ r.2.mem ((c.tc : Thread Cert.DnRecurFwdRefIdeal.nD Cert.DnRecurFwdRefIdeal.τ).loc Cert.DnRecurFwdRefIdeal.main_arg7) = m' ((c.tc : Thread Cert.DnRecurFwdRefIdeal.nD Cert.DnRecurFwdRefIdeal.τ).loc Cert.DnRecurFwdRefIdeal.main_arg7))

def preserves_ScConvFwd_ScConvFwdIdeal : Prop :=
  True

def algebraic_ScConvFwdIdeal_ScConvFwdRefIdeal [hScConvFwdIdeal : Cert.ScConvFwdIdeal.Facts] [hScConvFwdRefIdeal : Cert.ScConvFwdRefIdeal.Facts] : Prop :=
  ∀ (m : (ℓ : Loc Cert.ScConvFwdIdeal.nD Cert.ScConvFwdIdeal.τ Cert.ScConvFwdIdeal.sig) → Buf (Elt Ideal) ℓ) (g : Dev Cert.ScConvFwdIdeal.nD → PrngReg)
    (m' : (ℓ : Loc Cert.ScConvFwdRefIdeal.nD Cert.ScConvFwdRefIdeal.τ Cert.ScConvFwdRefIdeal.sig) → Buf (Elt Ideal) ℓ) (g' : Dev Cert.ScConvFwdRefIdeal.nD → PrngReg), Pre_ScConvFwdIdeal m →
    (∀ c : Dev Cert.ScConvFwdIdeal.nD,
      m' ((c.tc : Thread Cert.ScConvFwdRefIdeal.nD Cert.ScConvFwdRefIdeal.τ).loc Cert.ScConvFwdRefIdeal.main_arg0) = m ((c.tc : Thread Cert.ScConvFwdIdeal.nD Cert.ScConvFwdIdeal.τ).loc Cert.ScConvFwdIdeal.main_arg0)
      ∧ m' ((c.tc : Thread Cert.ScConvFwdRefIdeal.nD Cert.ScConvFwdRefIdeal.τ).loc Cert.ScConvFwdRefIdeal.main_arg1) = m ((c.tc : Thread Cert.ScConvFwdIdeal.nD Cert.ScConvFwdIdeal.τ).loc Cert.ScConvFwdIdeal.main_arg1)
      ∧ m' ((c.tc : Thread Cert.ScConvFwdRefIdeal.nD Cert.ScConvFwdRefIdeal.τ).loc Cert.ScConvFwdRefIdeal.main_arg2) = m ((c.tc : Thread Cert.ScConvFwdIdeal.nD Cert.ScConvFwdIdeal.τ).loc Cert.ScConvFwdIdeal.main_arg2)
      ∧ m' ((c.tc : Thread Cert.ScConvFwdRefIdeal.nD Cert.ScConvFwdRefIdeal.τ).loc Cert.ScConvFwdRefIdeal.main_arg3) = m ((c.tc : Thread Cert.ScConvFwdIdeal.nD Cert.ScConvFwdIdeal.τ).loc Cert.ScConvFwdIdeal.main_arg3)) →
    ∃ (v0 : (c : Dev Cert.ScConvFwdIdeal.nD) → Buf (Elt Ideal) ((c.tc : Thread Cert.ScConvFwdIdeal.nD Cert.ScConvFwdIdeal.τ).loc Cert.ScConvFwdIdeal.main_v3)),
      θ_run (Cert.ScConvFwdIdeal.defs (F := Ideal)) (onTc (τ := Cert.ScConvFwdIdeal.τ) (Cert.ScConvFwdIdeal.main (F := Ideal))) ⟨m, fun _ => 0, g⟩ (fun r => ∀ c : Dev Cert.ScConvFwdIdeal.nD,
          r.2.mem ((c.tc : Thread Cert.ScConvFwdIdeal.nD Cert.ScConvFwdIdeal.τ).loc Cert.ScConvFwdIdeal.main_v3) = v0 c
          ∧ r.2.mem ((c.tc : Thread Cert.ScConvFwdIdeal.nD Cert.ScConvFwdIdeal.τ).loc Cert.ScConvFwdIdeal.main_arg0) = m ((c.tc : Thread Cert.ScConvFwdIdeal.nD Cert.ScConvFwdIdeal.τ).loc Cert.ScConvFwdIdeal.main_arg0)
          ∧ r.2.mem ((c.tc : Thread Cert.ScConvFwdIdeal.nD Cert.ScConvFwdIdeal.τ).loc Cert.ScConvFwdIdeal.main_arg1) = m ((c.tc : Thread Cert.ScConvFwdIdeal.nD Cert.ScConvFwdIdeal.τ).loc Cert.ScConvFwdIdeal.main_arg1)
          ∧ r.2.mem ((c.tc : Thread Cert.ScConvFwdIdeal.nD Cert.ScConvFwdIdeal.τ).loc Cert.ScConvFwdIdeal.main_arg2) = m ((c.tc : Thread Cert.ScConvFwdIdeal.nD Cert.ScConvFwdIdeal.τ).loc Cert.ScConvFwdIdeal.main_arg2)
          ∧ r.2.mem ((c.tc : Thread Cert.ScConvFwdIdeal.nD Cert.ScConvFwdIdeal.τ).loc Cert.ScConvFwdIdeal.main_arg3) = m ((c.tc : Thread Cert.ScConvFwdIdeal.nD Cert.ScConvFwdIdeal.τ).loc Cert.ScConvFwdIdeal.main_arg3))
      ∧ θ_run (Cert.ScConvFwdRefIdeal.defs (F := Ideal)) (onTc (τ := Cert.ScConvFwdRefIdeal.τ) (Cert.ScConvFwdRefIdeal.main (F := Ideal))) ⟨m', fun _ => 0, g'⟩ (fun r => ∀ c : Dev Cert.ScConvFwdRefIdeal.nD,
          r.2.mem ((c.tc : Thread Cert.ScConvFwdRefIdeal.nD Cert.ScConvFwdRefIdeal.τ).loc Cert.ScConvFwdRefIdeal.main_v27) = v0 c
          ∧ r.2.mem ((c.tc : Thread Cert.ScConvFwdRefIdeal.nD Cert.ScConvFwdRefIdeal.τ).loc Cert.ScConvFwdRefIdeal.main_arg0) = m' ((c.tc : Thread Cert.ScConvFwdRefIdeal.nD Cert.ScConvFwdRefIdeal.τ).loc Cert.ScConvFwdRefIdeal.main_arg0)
          ∧ r.2.mem ((c.tc : Thread Cert.ScConvFwdRefIdeal.nD Cert.ScConvFwdRefIdeal.τ).loc Cert.ScConvFwdRefIdeal.main_arg1) = m' ((c.tc : Thread Cert.ScConvFwdRefIdeal.nD Cert.ScConvFwdRefIdeal.τ).loc Cert.ScConvFwdRefIdeal.main_arg1)
          ∧ r.2.mem ((c.tc : Thread Cert.ScConvFwdRefIdeal.nD Cert.ScConvFwdRefIdeal.τ).loc Cert.ScConvFwdRefIdeal.main_arg2) = m' ((c.tc : Thread Cert.ScConvFwdRefIdeal.nD Cert.ScConvFwdRefIdeal.τ).loc Cert.ScConvFwdRefIdeal.main_arg2)
          ∧ r.2.mem ((c.tc : Thread Cert.ScConvFwdRefIdeal.nD Cert.ScConvFwdRefIdeal.τ).loc Cert.ScConvFwdRefIdeal.main_arg3) = m' ((c.tc : Thread Cert.ScConvFwdRefIdeal.nD Cert.ScConvFwdRefIdeal.τ).loc Cert.ScConvFwdRefIdeal.main_arg3))

def preserves_DnConvFwd_DnConvFwdIdeal : Prop :=
  True

def algebraic_DnConvFwdIdeal_DnConvFwdRefIdeal [hDnConvFwdIdeal : Cert.DnConvFwdIdeal.Facts] [hDnConvFwdRefIdeal : Cert.DnConvFwdRefIdeal.Facts] : Prop :=
  ∀ (m : (ℓ : Loc Cert.DnConvFwdIdeal.nD Cert.DnConvFwdIdeal.τ Cert.DnConvFwdIdeal.sig) → Buf (Elt Ideal) ℓ) (g : Dev Cert.DnConvFwdIdeal.nD → PrngReg)
    (m' : (ℓ : Loc Cert.DnConvFwdRefIdeal.nD Cert.DnConvFwdRefIdeal.τ Cert.DnConvFwdRefIdeal.sig) → Buf (Elt Ideal) ℓ) (g' : Dev Cert.DnConvFwdRefIdeal.nD → PrngReg), Pre_DnConvFwdIdeal m →
    (∀ c : Dev Cert.DnConvFwdIdeal.nD,
      m' ((c.tc : Thread Cert.DnConvFwdRefIdeal.nD Cert.DnConvFwdRefIdeal.τ).loc Cert.DnConvFwdRefIdeal.main_arg0) = m ((c.tc : Thread Cert.DnConvFwdIdeal.nD Cert.DnConvFwdIdeal.τ).loc Cert.DnConvFwdIdeal.main_arg0)
      ∧ m' ((c.tc : Thread Cert.DnConvFwdRefIdeal.nD Cert.DnConvFwdRefIdeal.τ).loc Cert.DnConvFwdRefIdeal.main_arg1) = m ((c.tc : Thread Cert.DnConvFwdIdeal.nD Cert.DnConvFwdIdeal.τ).loc Cert.DnConvFwdIdeal.main_arg1)) →
    ∃ (v0 : (c : Dev Cert.DnConvFwdIdeal.nD) → Buf (Elt Ideal) ((c.tc : Thread Cert.DnConvFwdIdeal.nD Cert.DnConvFwdIdeal.τ).loc Cert.DnConvFwdIdeal.main_v1)),
      θ_run (Cert.DnConvFwdIdeal.defs (F := Ideal)) (onTc (τ := Cert.DnConvFwdIdeal.τ) (Cert.DnConvFwdIdeal.main (F := Ideal))) ⟨m, fun _ => 0, g⟩ (fun r => ∀ c : Dev Cert.DnConvFwdIdeal.nD,
          r.2.mem ((c.tc : Thread Cert.DnConvFwdIdeal.nD Cert.DnConvFwdIdeal.τ).loc Cert.DnConvFwdIdeal.main_v1) = v0 c
          ∧ r.2.mem ((c.tc : Thread Cert.DnConvFwdIdeal.nD Cert.DnConvFwdIdeal.τ).loc Cert.DnConvFwdIdeal.main_arg0) = m ((c.tc : Thread Cert.DnConvFwdIdeal.nD Cert.DnConvFwdIdeal.τ).loc Cert.DnConvFwdIdeal.main_arg0)
          ∧ r.2.mem ((c.tc : Thread Cert.DnConvFwdIdeal.nD Cert.DnConvFwdIdeal.τ).loc Cert.DnConvFwdIdeal.main_arg1) = m ((c.tc : Thread Cert.DnConvFwdIdeal.nD Cert.DnConvFwdIdeal.τ).loc Cert.DnConvFwdIdeal.main_arg1))
      ∧ θ_run (Cert.DnConvFwdRefIdeal.defs (F := Ideal)) (onTc (τ := Cert.DnConvFwdRefIdeal.τ) (Cert.DnConvFwdRefIdeal.main (F := Ideal))) ⟨m', fun _ => 0, g'⟩ (fun r => ∀ c : Dev Cert.DnConvFwdRefIdeal.nD,
          r.2.mem ((c.tc : Thread Cert.DnConvFwdRefIdeal.nD Cert.DnConvFwdRefIdeal.τ).loc Cert.DnConvFwdRefIdeal.main_v32) = v0 c
          ∧ r.2.mem ((c.tc : Thread Cert.DnConvFwdRefIdeal.nD Cert.DnConvFwdRefIdeal.τ).loc Cert.DnConvFwdRefIdeal.main_arg0) = m' ((c.tc : Thread Cert.DnConvFwdRefIdeal.nD Cert.DnConvFwdRefIdeal.τ).loc Cert.DnConvFwdRefIdeal.main_arg0)
          ∧ r.2.mem ((c.tc : Thread Cert.DnConvFwdRefIdeal.nD Cert.DnConvFwdRefIdeal.τ).loc Cert.DnConvFwdRefIdeal.main_arg1) = m' ((c.tc : Thread Cert.DnConvFwdRefIdeal.nD Cert.DnConvFwdRefIdeal.τ).loc Cert.DnConvFwdRefIdeal.main_arg1))

def preserves_PoolFwd_PoolFwdIdeal : Prop :=
  True

def algebraic_PoolFwdIdeal_PoolFwdRefIdeal_pre_finite_pool_fwd [hPoolFwdIdeal : Cert.PoolFwdIdeal.Facts] [hPoolFwdRefIdeal : Cert.PoolFwdRefIdeal.Facts] [hPre_finite_pool_fwd : Cert.Pre_finite_pool_fwd.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg)
    (m' : (ℓ : Loc Cert.PoolFwdRefIdeal.nD Cert.PoolFwdRefIdeal.τ Cert.PoolFwdRefIdeal.sig) → Buf (Elt Ideal) ℓ) (g' : Dev Cert.PoolFwdRefIdeal.nD → PrngReg), Pre_PoolFwdIdeal_finite_pool_fwd m →
    (∀ c : Dev Cert.PoolFwdIdeal.nD,
      m' ((c.tc : Thread Cert.PoolFwdRefIdeal.nD Cert.PoolFwdRefIdeal.τ).loc Cert.PoolFwdRefIdeal.main_arg0) = m ((c.tc : Thread Cert.PoolFwdIdeal.nD Cert.PoolFwdIdeal.τ).loc Cert.PoolFwdIdeal.main_arg0)
      ∧ m' ((c.tc : Thread Cert.PoolFwdRefIdeal.nD Cert.PoolFwdRefIdeal.τ).loc Cert.PoolFwdRefIdeal.main_arg1) = m ((c.tc : Thread Cert.PoolFwdIdeal.nD Cert.PoolFwdIdeal.τ).loc Cert.PoolFwdIdeal.main_arg1)
      ∧ m' ((c.tc : Thread Cert.PoolFwdRefIdeal.nD Cert.PoolFwdRefIdeal.τ).loc Cert.PoolFwdRefIdeal.main_arg2) = m ((c.tc : Thread Cert.PoolFwdIdeal.nD Cert.PoolFwdIdeal.τ).loc Cert.PoolFwdIdeal.main_arg2)) →
    ∃ (v0 : (c : Dev Cert.PoolFwdIdeal.nD) → Buf (Elt Ideal) ((c.tc : Thread Cert.PoolFwdIdeal.nD Cert.PoolFwdIdeal.τ).loc Cert.PoolFwdIdeal.main_v2)),
      θ_run (Cert.PoolFwdIdeal.defs (F := Ideal)) (onTc (τ := Cert.PoolFwdIdeal.τ) (Cert.PoolFwdIdeal.main (F := Ideal))) ⟨m, fun _ => 0, g⟩ (fun r => ∀ c : Dev Cert.PoolFwdIdeal.nD,
          r.2.mem ((c.tc : Thread Cert.PoolFwdIdeal.nD Cert.PoolFwdIdeal.τ).loc Cert.PoolFwdIdeal.main_v2) = v0 c
          ∧ r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
          ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
          ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2))
      ∧ θ_run (Cert.PoolFwdRefIdeal.defs (F := Ideal)) (onTc (τ := Cert.PoolFwdRefIdeal.τ) (Cert.PoolFwdRefIdeal.main (F := Ideal))) ⟨m', fun _ => 0, g'⟩ (fun r => ∀ c : Dev Cert.PoolFwdRefIdeal.nD,
          r.2.mem ((c.tc : Thread Cert.PoolFwdRefIdeal.nD Cert.PoolFwdRefIdeal.τ).loc Cert.PoolFwdRefIdeal.main_v83) = v0 c
          ∧ r.2.mem ((c.tc : Thread Cert.PoolFwdRefIdeal.nD Cert.PoolFwdRefIdeal.τ).loc Cert.PoolFwdRefIdeal.main_arg0) = m' ((c.tc : Thread Cert.PoolFwdRefIdeal.nD Cert.PoolFwdRefIdeal.τ).loc Cert.PoolFwdRefIdeal.main_arg0)
          ∧ r.2.mem ((c.tc : Thread Cert.PoolFwdRefIdeal.nD Cert.PoolFwdRefIdeal.τ).loc Cert.PoolFwdRefIdeal.main_arg1) = m' ((c.tc : Thread Cert.PoolFwdRefIdeal.nD Cert.PoolFwdRefIdeal.τ).loc Cert.PoolFwdRefIdeal.main_arg1)
          ∧ r.2.mem ((c.tc : Thread Cert.PoolFwdRefIdeal.nD Cert.PoolFwdRefIdeal.τ).loc Cert.PoolFwdRefIdeal.main_arg2) = m' ((c.tc : Thread Cert.PoolFwdRefIdeal.nD Cert.PoolFwdRefIdeal.τ).loc Cert.PoolFwdRefIdeal.main_arg2))

def preserves_SguFwd_SguFwdIdeal : Prop :=
  True

def algebraic_SguFwdIdeal_SguFwdRefIdeal [hSguFwdIdeal : Cert.SguFwdIdeal.Facts] [hSguFwdRefIdeal : Cert.SguFwdRefIdeal.Facts] : Prop :=
  ∀ (m : (ℓ : Loc Cert.SguFwdIdeal.nD Cert.SguFwdIdeal.τ Cert.SguFwdIdeal.sig) → Buf (Elt Ideal) ℓ) (g : Dev Cert.SguFwdIdeal.nD → PrngReg)
    (m' : (ℓ : Loc Cert.SguFwdRefIdeal.nD Cert.SguFwdRefIdeal.τ Cert.SguFwdRefIdeal.sig) → Buf (Elt Ideal) ℓ) (g' : Dev Cert.SguFwdRefIdeal.nD → PrngReg), Pre_SguFwdIdeal m →
    (∀ c : Dev Cert.SguFwdIdeal.nD,
      m' ((c.tc : Thread Cert.SguFwdRefIdeal.nD Cert.SguFwdRefIdeal.τ).loc Cert.SguFwdRefIdeal.main_arg0) = m ((c.tc : Thread Cert.SguFwdIdeal.nD Cert.SguFwdIdeal.τ).loc Cert.SguFwdIdeal.main_arg0)
      ∧ m' ((c.tc : Thread Cert.SguFwdRefIdeal.nD Cert.SguFwdRefIdeal.τ).loc Cert.SguFwdRefIdeal.main_arg1) = m ((c.tc : Thread Cert.SguFwdIdeal.nD Cert.SguFwdIdeal.τ).loc Cert.SguFwdIdeal.main_arg1)
      ∧ m' ((c.tc : Thread Cert.SguFwdRefIdeal.nD Cert.SguFwdRefIdeal.τ).loc Cert.SguFwdRefIdeal.main_arg2) = m ((c.tc : Thread Cert.SguFwdIdeal.nD Cert.SguFwdIdeal.τ).loc Cert.SguFwdIdeal.main_arg2)
      ∧ m' ((c.tc : Thread Cert.SguFwdRefIdeal.nD Cert.SguFwdRefIdeal.τ).loc Cert.SguFwdRefIdeal.main_arg3) = m ((c.tc : Thread Cert.SguFwdIdeal.nD Cert.SguFwdIdeal.τ).loc Cert.SguFwdIdeal.main_arg3)
      ∧ m' ((c.tc : Thread Cert.SguFwdRefIdeal.nD Cert.SguFwdRefIdeal.τ).loc Cert.SguFwdRefIdeal.main_arg4) = m ((c.tc : Thread Cert.SguFwdIdeal.nD Cert.SguFwdIdeal.τ).loc Cert.SguFwdIdeal.main_arg4)
      ∧ m' ((c.tc : Thread Cert.SguFwdRefIdeal.nD Cert.SguFwdRefIdeal.τ).loc Cert.SguFwdRefIdeal.main_arg5) = m ((c.tc : Thread Cert.SguFwdIdeal.nD Cert.SguFwdIdeal.τ).loc Cert.SguFwdIdeal.main_arg5)) →
    ∃ (v0 : (c : Dev Cert.SguFwdIdeal.nD) → Buf (Elt Ideal) ((c.tc : Thread Cert.SguFwdIdeal.nD Cert.SguFwdIdeal.τ).loc Cert.SguFwdIdeal.main_v5)),
      θ_run (Cert.SguFwdIdeal.defs (F := Ideal)) (onTc (τ := Cert.SguFwdIdeal.τ) (Cert.SguFwdIdeal.main (F := Ideal))) ⟨m, fun _ => 0, g⟩ (fun r => ∀ c : Dev Cert.SguFwdIdeal.nD,
          r.2.mem ((c.tc : Thread Cert.SguFwdIdeal.nD Cert.SguFwdIdeal.τ).loc Cert.SguFwdIdeal.main_v5) = v0 c
          ∧ r.2.mem ((c.tc : Thread Cert.SguFwdIdeal.nD Cert.SguFwdIdeal.τ).loc Cert.SguFwdIdeal.main_arg0) = m ((c.tc : Thread Cert.SguFwdIdeal.nD Cert.SguFwdIdeal.τ).loc Cert.SguFwdIdeal.main_arg0)
          ∧ r.2.mem ((c.tc : Thread Cert.SguFwdIdeal.nD Cert.SguFwdIdeal.τ).loc Cert.SguFwdIdeal.main_arg1) = m ((c.tc : Thread Cert.SguFwdIdeal.nD Cert.SguFwdIdeal.τ).loc Cert.SguFwdIdeal.main_arg1)
          ∧ r.2.mem ((c.tc : Thread Cert.SguFwdIdeal.nD Cert.SguFwdIdeal.τ).loc Cert.SguFwdIdeal.main_arg2) = m ((c.tc : Thread Cert.SguFwdIdeal.nD Cert.SguFwdIdeal.τ).loc Cert.SguFwdIdeal.main_arg2)
          ∧ r.2.mem ((c.tc : Thread Cert.SguFwdIdeal.nD Cert.SguFwdIdeal.τ).loc Cert.SguFwdIdeal.main_arg3) = m ((c.tc : Thread Cert.SguFwdIdeal.nD Cert.SguFwdIdeal.τ).loc Cert.SguFwdIdeal.main_arg3)
          ∧ r.2.mem ((c.tc : Thread Cert.SguFwdIdeal.nD Cert.SguFwdIdeal.τ).loc Cert.SguFwdIdeal.main_arg4) = m ((c.tc : Thread Cert.SguFwdIdeal.nD Cert.SguFwdIdeal.τ).loc Cert.SguFwdIdeal.main_arg4)
          ∧ r.2.mem ((c.tc : Thread Cert.SguFwdIdeal.nD Cert.SguFwdIdeal.τ).loc Cert.SguFwdIdeal.main_arg5) = m ((c.tc : Thread Cert.SguFwdIdeal.nD Cert.SguFwdIdeal.τ).loc Cert.SguFwdIdeal.main_arg5))
      ∧ θ_run (Cert.SguFwdRefIdeal.defs (F := Ideal)) (onTc (τ := Cert.SguFwdRefIdeal.τ) (Cert.SguFwdRefIdeal.main (F := Ideal))) ⟨m', fun _ => 0, g'⟩ (fun r => ∀ c : Dev Cert.SguFwdRefIdeal.nD,
          r.2.mem ((c.tc : Thread Cert.SguFwdRefIdeal.nD Cert.SguFwdRefIdeal.τ).loc Cert.SguFwdRefIdeal.main_v61) = v0 c
          ∧ r.2.mem ((c.tc : Thread Cert.SguFwdRefIdeal.nD Cert.SguFwdRefIdeal.τ).loc Cert.SguFwdRefIdeal.main_arg0) = m' ((c.tc : Thread Cert.SguFwdRefIdeal.nD Cert.SguFwdRefIdeal.τ).loc Cert.SguFwdRefIdeal.main_arg0)
          ∧ r.2.mem ((c.tc : Thread Cert.SguFwdRefIdeal.nD Cert.SguFwdRefIdeal.τ).loc Cert.SguFwdRefIdeal.main_arg1) = m' ((c.tc : Thread Cert.SguFwdRefIdeal.nD Cert.SguFwdRefIdeal.τ).loc Cert.SguFwdRefIdeal.main_arg1)
          ∧ r.2.mem ((c.tc : Thread Cert.SguFwdRefIdeal.nD Cert.SguFwdRefIdeal.τ).loc Cert.SguFwdRefIdeal.main_arg2) = m' ((c.tc : Thread Cert.SguFwdRefIdeal.nD Cert.SguFwdRefIdeal.τ).loc Cert.SguFwdRefIdeal.main_arg2)
          ∧ r.2.mem ((c.tc : Thread Cert.SguFwdRefIdeal.nD Cert.SguFwdRefIdeal.τ).loc Cert.SguFwdRefIdeal.main_arg3) = m' ((c.tc : Thread Cert.SguFwdRefIdeal.nD Cert.SguFwdRefIdeal.τ).loc Cert.SguFwdRefIdeal.main_arg3)
          ∧ r.2.mem ((c.tc : Thread Cert.SguFwdRefIdeal.nD Cert.SguFwdRefIdeal.τ).loc Cert.SguFwdRefIdeal.main_arg4) = m' ((c.tc : Thread Cert.SguFwdRefIdeal.nD Cert.SguFwdRefIdeal.τ).loc Cert.SguFwdRefIdeal.main_arg4)
          ∧ r.2.mem ((c.tc : Thread Cert.SguFwdRefIdeal.nD Cert.SguFwdRefIdeal.τ).loc Cert.SguFwdRefIdeal.main_arg5) = m' ((c.tc : Thread Cert.SguFwdRefIdeal.nD Cert.SguFwdRefIdeal.τ).loc Cert.SguFwdRefIdeal.main_arg5))

def preserves_DnPrepFwd_DnPrepFwdIdeal : Prop :=
  True

def algebraic_DnPrepFwdIdeal_DnPrepFwdRefIdeal_pre_finite_prep [hDnPrepFwdIdeal : Cert.DnPrepFwdIdeal.Facts] [hDnPrepFwdRefIdeal : Cert.DnPrepFwdRefIdeal.Facts] [hPre_finite_prep : Cert.Pre_finite_prep.Facts] : Prop :=
  ∀ (m : (ℓ : Loc Cert.DnPrepFwdIdeal.nD Cert.DnPrepFwdIdeal.τ Cert.DnPrepFwdIdeal.sig) → Buf (Elt Ideal) ℓ) (g : Dev Cert.DnPrepFwdIdeal.nD → PrngReg)
    (m' : (ℓ : Loc Cert.DnPrepFwdRefIdeal.nD Cert.DnPrepFwdRefIdeal.τ Cert.DnPrepFwdRefIdeal.sig) → Buf (Elt Ideal) ℓ) (g' : Dev Cert.DnPrepFwdRefIdeal.nD → PrngReg), Pre_DnPrepFwdIdeal_finite_prep m →
    (∀ c : Dev Cert.DnPrepFwdIdeal.nD,
      m' ((c.tc : Thread Cert.DnPrepFwdRefIdeal.nD Cert.DnPrepFwdRefIdeal.τ).loc Cert.DnPrepFwdRefIdeal.main_arg0) = m ((c.tc : Thread Cert.DnPrepFwdIdeal.nD Cert.DnPrepFwdIdeal.τ).loc Cert.DnPrepFwdIdeal.main_arg0)
      ∧ m' ((c.tc : Thread Cert.DnPrepFwdRefIdeal.nD Cert.DnPrepFwdRefIdeal.τ).loc Cert.DnPrepFwdRefIdeal.main_arg1) = m ((c.tc : Thread Cert.DnPrepFwdIdeal.nD Cert.DnPrepFwdIdeal.τ).loc Cert.DnPrepFwdIdeal.main_arg1)
      ∧ m' ((c.tc : Thread Cert.DnPrepFwdRefIdeal.nD Cert.DnPrepFwdRefIdeal.τ).loc Cert.DnPrepFwdRefIdeal.main_arg2) = m ((c.tc : Thread Cert.DnPrepFwdIdeal.nD Cert.DnPrepFwdIdeal.τ).loc Cert.DnPrepFwdIdeal.main_arg2)
      ∧ m' ((c.tc : Thread Cert.DnPrepFwdRefIdeal.nD Cert.DnPrepFwdRefIdeal.τ).loc Cert.DnPrepFwdRefIdeal.main_arg3) = m ((c.tc : Thread Cert.DnPrepFwdIdeal.nD Cert.DnPrepFwdIdeal.τ).loc Cert.DnPrepFwdIdeal.main_arg3)
      ∧ m' ((c.tc : Thread Cert.DnPrepFwdRefIdeal.nD Cert.DnPrepFwdRefIdeal.τ).loc Cert.DnPrepFwdRefIdeal.main_arg4) = m ((c.tc : Thread Cert.DnPrepFwdIdeal.nD Cert.DnPrepFwdIdeal.τ).loc Cert.DnPrepFwdIdeal.main_arg4)) →
    ∃ (v0 : (c : Dev Cert.DnPrepFwdIdeal.nD) → Buf (Elt Ideal) ((c.tc : Thread Cert.DnPrepFwdIdeal.nD Cert.DnPrepFwdIdeal.τ).loc Cert.DnPrepFwdIdeal.main_v8_0)) (v1 : (c : Dev Cert.DnPrepFwdIdeal.nD) → Buf (Elt Ideal) ((c.tc : Thread Cert.DnPrepFwdIdeal.nD Cert.DnPrepFwdIdeal.τ).loc Cert.DnPrepFwdIdeal.main_v8_1)) (v2 : (c : Dev Cert.DnPrepFwdIdeal.nD) → Buf (Elt Ideal) ((c.tc : Thread Cert.DnPrepFwdIdeal.nD Cert.DnPrepFwdIdeal.τ).loc Cert.DnPrepFwdIdeal.main_v8_2)) (v3 : (c : Dev Cert.DnPrepFwdIdeal.nD) → Buf (Elt Ideal) ((c.tc : Thread Cert.DnPrepFwdIdeal.nD Cert.DnPrepFwdIdeal.τ).loc Cert.DnPrepFwdIdeal.main_v8_3)) (v4 : (c : Dev Cert.DnPrepFwdIdeal.nD) → Buf (Elt Ideal) ((c.tc : Thread Cert.DnPrepFwdIdeal.nD Cert.DnPrepFwdIdeal.τ).loc Cert.DnPrepFwdIdeal.main_v8_4)) (v5 : (c : Dev Cert.DnPrepFwdIdeal.nD) → Buf (Elt Ideal) ((c.tc : Thread Cert.DnPrepFwdIdeal.nD Cert.DnPrepFwdIdeal.τ).loc Cert.DnPrepFwdIdeal.main_v8_5)),
      θ_run (Cert.DnPrepFwdIdeal.defs (F := Ideal)) (onTc (τ := Cert.DnPrepFwdIdeal.τ) (Cert.DnPrepFwdIdeal.main (F := Ideal))) ⟨m, fun _ => 0, g⟩ (fun r => ∀ c : Dev Cert.DnPrepFwdIdeal.nD,
          r.2.mem ((c.tc : Thread Cert.DnPrepFwdIdeal.nD Cert.DnPrepFwdIdeal.τ).loc Cert.DnPrepFwdIdeal.main_v8_0) = v0 c
          ∧ r.2.mem ((c.tc : Thread Cert.DnPrepFwdIdeal.nD Cert.DnPrepFwdIdeal.τ).loc Cert.DnPrepFwdIdeal.main_v8_1) = v1 c
          ∧ r.2.mem ((c.tc : Thread Cert.DnPrepFwdIdeal.nD Cert.DnPrepFwdIdeal.τ).loc Cert.DnPrepFwdIdeal.main_v8_2) = v2 c
          ∧ r.2.mem ((c.tc : Thread Cert.DnPrepFwdIdeal.nD Cert.DnPrepFwdIdeal.τ).loc Cert.DnPrepFwdIdeal.main_v8_3) = v3 c
          ∧ r.2.mem ((c.tc : Thread Cert.DnPrepFwdIdeal.nD Cert.DnPrepFwdIdeal.τ).loc Cert.DnPrepFwdIdeal.main_v8_4) = v4 c
          ∧ r.2.mem ((c.tc : Thread Cert.DnPrepFwdIdeal.nD Cert.DnPrepFwdIdeal.τ).loc Cert.DnPrepFwdIdeal.main_v8_5) = v5 c
          ∧ r.2.mem ((c.tc : Thread Cert.DnPrepFwdIdeal.nD Cert.DnPrepFwdIdeal.τ).loc Cert.DnPrepFwdIdeal.main_arg0) = m ((c.tc : Thread Cert.DnPrepFwdIdeal.nD Cert.DnPrepFwdIdeal.τ).loc Cert.DnPrepFwdIdeal.main_arg0)
          ∧ r.2.mem ((c.tc : Thread Cert.DnPrepFwdIdeal.nD Cert.DnPrepFwdIdeal.τ).loc Cert.DnPrepFwdIdeal.main_arg1) = m ((c.tc : Thread Cert.DnPrepFwdIdeal.nD Cert.DnPrepFwdIdeal.τ).loc Cert.DnPrepFwdIdeal.main_arg1)
          ∧ r.2.mem ((c.tc : Thread Cert.DnPrepFwdIdeal.nD Cert.DnPrepFwdIdeal.τ).loc Cert.DnPrepFwdIdeal.main_arg2) = m ((c.tc : Thread Cert.DnPrepFwdIdeal.nD Cert.DnPrepFwdIdeal.τ).loc Cert.DnPrepFwdIdeal.main_arg2)
          ∧ r.2.mem ((c.tc : Thread Cert.DnPrepFwdIdeal.nD Cert.DnPrepFwdIdeal.τ).loc Cert.DnPrepFwdIdeal.main_arg3) = m ((c.tc : Thread Cert.DnPrepFwdIdeal.nD Cert.DnPrepFwdIdeal.τ).loc Cert.DnPrepFwdIdeal.main_arg3)
          ∧ r.2.mem ((c.tc : Thread Cert.DnPrepFwdIdeal.nD Cert.DnPrepFwdIdeal.τ).loc Cert.DnPrepFwdIdeal.main_arg4) = m ((c.tc : Thread Cert.DnPrepFwdIdeal.nD Cert.DnPrepFwdIdeal.τ).loc Cert.DnPrepFwdIdeal.main_arg4))
      ∧ θ_run (Cert.DnPrepFwdRefIdeal.defs (F := Ideal)) (onTc (τ := Cert.DnPrepFwdRefIdeal.τ) (Cert.DnPrepFwdRefIdeal.main (F := Ideal))) ⟨m', fun _ => 0, g'⟩ (fun r => ∀ c : Dev Cert.DnPrepFwdRefIdeal.nD,
          r.2.mem ((c.tc : Thread Cert.DnPrepFwdRefIdeal.nD Cert.DnPrepFwdRefIdeal.τ).loc Cert.DnPrepFwdRefIdeal.main_v98) = v0 c
          ∧ r.2.mem ((c.tc : Thread Cert.DnPrepFwdRefIdeal.nD Cert.DnPrepFwdRefIdeal.τ).loc Cert.DnPrepFwdRefIdeal.main_v101) = v1 c
          ∧ r.2.mem ((c.tc : Thread Cert.DnPrepFwdRefIdeal.nD Cert.DnPrepFwdRefIdeal.τ).loc Cert.DnPrepFwdRefIdeal.main_v104) = v2 c
          ∧ r.2.mem ((c.tc : Thread Cert.DnPrepFwdRefIdeal.nD Cert.DnPrepFwdRefIdeal.τ).loc Cert.DnPrepFwdRefIdeal.main_v107) = v3 c
          ∧ r.2.mem ((c.tc : Thread Cert.DnPrepFwdRefIdeal.nD Cert.DnPrepFwdRefIdeal.τ).loc Cert.DnPrepFwdRefIdeal.main_v110) = v4 c
          ∧ r.2.mem ((c.tc : Thread Cert.DnPrepFwdRefIdeal.nD Cert.DnPrepFwdRefIdeal.τ).loc Cert.DnPrepFwdRefIdeal.main_v112) = v5 c
          ∧ r.2.mem ((c.tc : Thread Cert.DnPrepFwdRefIdeal.nD Cert.DnPrepFwdRefIdeal.τ).loc Cert.DnPrepFwdRefIdeal.main_arg0) = m' ((c.tc : Thread Cert.DnPrepFwdRefIdeal.nD Cert.DnPrepFwdRefIdeal.τ).loc Cert.DnPrepFwdRefIdeal.main_arg0)
          ∧ r.2.mem ((c.tc : Thread Cert.DnPrepFwdRefIdeal.nD Cert.DnPrepFwdRefIdeal.τ).loc Cert.DnPrepFwdRefIdeal.main_arg1) = m' ((c.tc : Thread Cert.DnPrepFwdRefIdeal.nD Cert.DnPrepFwdRefIdeal.τ).loc Cert.DnPrepFwdRefIdeal.main_arg1)
          ∧ r.2.mem ((c.tc : Thread Cert.DnPrepFwdRefIdeal.nD Cert.DnPrepFwdRefIdeal.τ).loc Cert.DnPrepFwdRefIdeal.main_arg2) = m' ((c.tc : Thread Cert.DnPrepFwdRefIdeal.nD Cert.DnPrepFwdRefIdeal.τ).loc Cert.DnPrepFwdRefIdeal.main_arg2)
          ∧ r.2.mem ((c.tc : Thread Cert.DnPrepFwdRefIdeal.nD Cert.DnPrepFwdRefIdeal.τ).loc Cert.DnPrepFwdRefIdeal.main_arg3) = m' ((c.tc : Thread Cert.DnPrepFwdRefIdeal.nD Cert.DnPrepFwdRefIdeal.τ).loc Cert.DnPrepFwdRefIdeal.main_arg3)
          ∧ r.2.mem ((c.tc : Thread Cert.DnPrepFwdRefIdeal.nD Cert.DnPrepFwdRefIdeal.τ).loc Cert.DnPrepFwdRefIdeal.main_arg4) = m' ((c.tc : Thread Cert.DnPrepFwdRefIdeal.nD Cert.DnPrepFwdRefIdeal.τ).loc Cert.DnPrepFwdRefIdeal.main_arg4))

def preserves_InAbFwd_InAbFwdIdeal : Prop :=
  True

def algebraic_InAbFwdIdeal_InAbFwdRefIdeal [hInAbFwdIdeal : Cert.InAbFwdIdeal.Facts] [hInAbFwdRefIdeal : Cert.InAbFwdRefIdeal.Facts] : Prop :=
  ∀ (m : (ℓ : Loc Cert.InAbFwdIdeal.nD Cert.InAbFwdIdeal.τ Cert.InAbFwdIdeal.sig) → Buf (Elt Ideal) ℓ) (g : Dev Cert.InAbFwdIdeal.nD → PrngReg)
    (m' : (ℓ : Loc Cert.InAbFwdRefIdeal.nD Cert.InAbFwdRefIdeal.τ Cert.InAbFwdRefIdeal.sig) → Buf (Elt Ideal) ℓ) (g' : Dev Cert.InAbFwdRefIdeal.nD → PrngReg), Pre_InAbFwdIdeal m →
    (∀ c : Dev Cert.InAbFwdIdeal.nD,
      m' ((c.tc : Thread Cert.InAbFwdRefIdeal.nD Cert.InAbFwdRefIdeal.τ).loc Cert.InAbFwdRefIdeal.main_arg0) = m ((c.tc : Thread Cert.InAbFwdIdeal.nD Cert.InAbFwdIdeal.τ).loc Cert.InAbFwdIdeal.main_arg0)
      ∧ m' ((c.tc : Thread Cert.InAbFwdRefIdeal.nD Cert.InAbFwdRefIdeal.τ).loc Cert.InAbFwdRefIdeal.main_arg1) = m ((c.tc : Thread Cert.InAbFwdIdeal.nD Cert.InAbFwdIdeal.τ).loc Cert.InAbFwdIdeal.main_arg1)
      ∧ m' ((c.tc : Thread Cert.InAbFwdRefIdeal.nD Cert.InAbFwdRefIdeal.τ).loc Cert.InAbFwdRefIdeal.main_arg2) = m ((c.tc : Thread Cert.InAbFwdIdeal.nD Cert.InAbFwdIdeal.τ).loc Cert.InAbFwdIdeal.main_arg2)) →
    ∃ (v0 : (c : Dev Cert.InAbFwdIdeal.nD) → Buf (Elt Ideal) ((c.tc : Thread Cert.InAbFwdIdeal.nD Cert.InAbFwdIdeal.τ).loc Cert.InAbFwdIdeal.main_v5_0)) (v1 : (c : Dev Cert.InAbFwdIdeal.nD) → Buf (Elt Ideal) ((c.tc : Thread Cert.InAbFwdIdeal.nD Cert.InAbFwdIdeal.τ).loc Cert.InAbFwdIdeal.main_v5_1)) (v2 : (c : Dev Cert.InAbFwdIdeal.nD) → Buf (Elt Ideal) ((c.tc : Thread Cert.InAbFwdIdeal.nD Cert.InAbFwdIdeal.τ).loc Cert.InAbFwdIdeal.main_v5_2)) (v3 : (c : Dev Cert.InAbFwdIdeal.nD) → Buf (Elt Ideal) ((c.tc : Thread Cert.InAbFwdIdeal.nD Cert.InAbFwdIdeal.τ).loc Cert.InAbFwdIdeal.main_v5_3)),
      θ_run (Cert.InAbFwdIdeal.defs (F := Ideal)) (onTc (τ := Cert.InAbFwdIdeal.τ) (Cert.InAbFwdIdeal.main (F := Ideal))) ⟨m, fun _ => 0, g⟩ (fun r => ∀ c : Dev Cert.InAbFwdIdeal.nD,
          r.2.mem ((c.tc : Thread Cert.InAbFwdIdeal.nD Cert.InAbFwdIdeal.τ).loc Cert.InAbFwdIdeal.main_v5_0) = v0 c
          ∧ r.2.mem ((c.tc : Thread Cert.InAbFwdIdeal.nD Cert.InAbFwdIdeal.τ).loc Cert.InAbFwdIdeal.main_v5_1) = v1 c
          ∧ r.2.mem ((c.tc : Thread Cert.InAbFwdIdeal.nD Cert.InAbFwdIdeal.τ).loc Cert.InAbFwdIdeal.main_v5_2) = v2 c
          ∧ r.2.mem ((c.tc : Thread Cert.InAbFwdIdeal.nD Cert.InAbFwdIdeal.τ).loc Cert.InAbFwdIdeal.main_v5_3) = v3 c
          ∧ r.2.mem ((c.tc : Thread Cert.InAbFwdIdeal.nD Cert.InAbFwdIdeal.τ).loc Cert.InAbFwdIdeal.main_arg0) = m ((c.tc : Thread Cert.InAbFwdIdeal.nD Cert.InAbFwdIdeal.τ).loc Cert.InAbFwdIdeal.main_arg0)
          ∧ r.2.mem ((c.tc : Thread Cert.InAbFwdIdeal.nD Cert.InAbFwdIdeal.τ).loc Cert.InAbFwdIdeal.main_arg1) = m ((c.tc : Thread Cert.InAbFwdIdeal.nD Cert.InAbFwdIdeal.τ).loc Cert.InAbFwdIdeal.main_arg1)
          ∧ r.2.mem ((c.tc : Thread Cert.InAbFwdIdeal.nD Cert.InAbFwdIdeal.τ).loc Cert.InAbFwdIdeal.main_arg2) = m ((c.tc : Thread Cert.InAbFwdIdeal.nD Cert.InAbFwdIdeal.τ).loc Cert.InAbFwdIdeal.main_arg2))
      ∧ θ_run (Cert.InAbFwdRefIdeal.defs (F := Ideal)) (onTc (τ := Cert.InAbFwdRefIdeal.τ) (Cert.InAbFwdRefIdeal.main (F := Ideal))) ⟨m', fun _ => 0, g'⟩ (fun r => ∀ c : Dev Cert.InAbFwdRefIdeal.nD,
          r.2.mem ((c.tc : Thread Cert.InAbFwdRefIdeal.nD Cert.InAbFwdRefIdeal.τ).loc Cert.InAbFwdRefIdeal.main_v15) = v0 c
          ∧ r.2.mem ((c.tc : Thread Cert.InAbFwdRefIdeal.nD Cert.InAbFwdRefIdeal.τ).loc Cert.InAbFwdRefIdeal.main_v16) = v1 c
          ∧ r.2.mem ((c.tc : Thread Cert.InAbFwdRefIdeal.nD Cert.InAbFwdRefIdeal.τ).loc Cert.InAbFwdRefIdeal.main_v17) = v2 c
          ∧ r.2.mem ((c.tc : Thread Cert.InAbFwdRefIdeal.nD Cert.InAbFwdRefIdeal.τ).loc Cert.InAbFwdRefIdeal.main_v19) = v3 c
          ∧ r.2.mem ((c.tc : Thread Cert.InAbFwdRefIdeal.nD Cert.InAbFwdRefIdeal.τ).loc Cert.InAbFwdRefIdeal.main_arg0) = m' ((c.tc : Thread Cert.InAbFwdRefIdeal.nD Cert.InAbFwdRefIdeal.τ).loc Cert.InAbFwdRefIdeal.main_arg0)
          ∧ r.2.mem ((c.tc : Thread Cert.InAbFwdRefIdeal.nD Cert.InAbFwdRefIdeal.τ).loc Cert.InAbFwdRefIdeal.main_arg1) = m' ((c.tc : Thread Cert.InAbFwdRefIdeal.nD Cert.InAbFwdRefIdeal.τ).loc Cert.InAbFwdRefIdeal.main_arg1)
          ∧ r.2.mem ((c.tc : Thread Cert.InAbFwdRefIdeal.nD Cert.InAbFwdRefIdeal.τ).loc Cert.InAbFwdRefIdeal.main_arg2) = m' ((c.tc : Thread Cert.InAbFwdRefIdeal.nD Cert.InAbFwdRefIdeal.τ).loc Cert.InAbFwdRefIdeal.main_arg2))

def preserves_InCdFwd_InCdFwdIdeal : Prop :=
  True

def algebraic_InCdFwdIdeal_InCdFwdRefIdeal [hInCdFwdIdeal : Cert.InCdFwdIdeal.Facts] [hInCdFwdRefIdeal : Cert.InCdFwdRefIdeal.Facts] : Prop :=
  ∀ (m : (ℓ : Loc Cert.InCdFwdIdeal.nD Cert.InCdFwdIdeal.τ Cert.InCdFwdIdeal.sig) → Buf (Elt Ideal) ℓ) (g : Dev Cert.InCdFwdIdeal.nD → PrngReg)
    (m' : (ℓ : Loc Cert.InCdFwdRefIdeal.nD Cert.InCdFwdRefIdeal.τ Cert.InCdFwdRefIdeal.sig) → Buf (Elt Ideal) ℓ) (g' : Dev Cert.InCdFwdRefIdeal.nD → PrngReg), Pre_InCdFwdIdeal m →
    (∀ c : Dev Cert.InCdFwdIdeal.nD,
      m' ((c.tc : Thread Cert.InCdFwdRefIdeal.nD Cert.InCdFwdRefIdeal.τ).loc Cert.InCdFwdRefIdeal.main_arg0) = m ((c.tc : Thread Cert.InCdFwdIdeal.nD Cert.InCdFwdIdeal.τ).loc Cert.InCdFwdIdeal.main_arg0)
      ∧ m' ((c.tc : Thread Cert.InCdFwdRefIdeal.nD Cert.InCdFwdRefIdeal.τ).loc Cert.InCdFwdRefIdeal.main_arg1) = m ((c.tc : Thread Cert.InCdFwdIdeal.nD Cert.InCdFwdIdeal.τ).loc Cert.InCdFwdIdeal.main_arg1)
      ∧ m' ((c.tc : Thread Cert.InCdFwdRefIdeal.nD Cert.InCdFwdRefIdeal.τ).loc Cert.InCdFwdRefIdeal.main_arg2) = m ((c.tc : Thread Cert.InCdFwdIdeal.nD Cert.InCdFwdIdeal.τ).loc Cert.InCdFwdIdeal.main_arg2)) →
    ∃ (v0 : (c : Dev Cert.InCdFwdIdeal.nD) → Buf (Elt Ideal) ((c.tc : Thread Cert.InCdFwdIdeal.nD Cert.InCdFwdIdeal.τ).loc Cert.InCdFwdIdeal.main_v5_0)) (v1 : (c : Dev Cert.InCdFwdIdeal.nD) → Buf (Elt Ideal) ((c.tc : Thread Cert.InCdFwdIdeal.nD Cert.InCdFwdIdeal.τ).loc Cert.InCdFwdIdeal.main_v5_1)) (v2 : (c : Dev Cert.InCdFwdIdeal.nD) → Buf (Elt Ideal) ((c.tc : Thread Cert.InCdFwdIdeal.nD Cert.InCdFwdIdeal.τ).loc Cert.InCdFwdIdeal.main_v5_2)) (v3 : (c : Dev Cert.InCdFwdIdeal.nD) → Buf (Elt Ideal) ((c.tc : Thread Cert.InCdFwdIdeal.nD Cert.InCdFwdIdeal.τ).loc Cert.InCdFwdIdeal.main_v5_3)) (v4 : (c : Dev Cert.InCdFwdIdeal.nD) → Buf (Elt Ideal) ((c.tc : Thread Cert.InCdFwdIdeal.nD Cert.InCdFwdIdeal.τ).loc Cert.InCdFwdIdeal.main_v5_4)),
      θ_run (Cert.InCdFwdIdeal.defs (F := Ideal)) (onTc (τ := Cert.InCdFwdIdeal.τ) (Cert.InCdFwdIdeal.main (F := Ideal))) ⟨m, fun _ => 0, g⟩ (fun r => ∀ c : Dev Cert.InCdFwdIdeal.nD,
          r.2.mem ((c.tc : Thread Cert.InCdFwdIdeal.nD Cert.InCdFwdIdeal.τ).loc Cert.InCdFwdIdeal.main_v5_0) = v0 c
          ∧ r.2.mem ((c.tc : Thread Cert.InCdFwdIdeal.nD Cert.InCdFwdIdeal.τ).loc Cert.InCdFwdIdeal.main_v5_1) = v1 c
          ∧ r.2.mem ((c.tc : Thread Cert.InCdFwdIdeal.nD Cert.InCdFwdIdeal.τ).loc Cert.InCdFwdIdeal.main_v5_2) = v2 c
          ∧ r.2.mem ((c.tc : Thread Cert.InCdFwdIdeal.nD Cert.InCdFwdIdeal.τ).loc Cert.InCdFwdIdeal.main_v5_3) = v3 c
          ∧ r.2.mem ((c.tc : Thread Cert.InCdFwdIdeal.nD Cert.InCdFwdIdeal.τ).loc Cert.InCdFwdIdeal.main_v5_4) = v4 c
          ∧ r.2.mem ((c.tc : Thread Cert.InCdFwdIdeal.nD Cert.InCdFwdIdeal.τ).loc Cert.InCdFwdIdeal.main_arg0) = m ((c.tc : Thread Cert.InCdFwdIdeal.nD Cert.InCdFwdIdeal.τ).loc Cert.InCdFwdIdeal.main_arg0)
          ∧ r.2.mem ((c.tc : Thread Cert.InCdFwdIdeal.nD Cert.InCdFwdIdeal.τ).loc Cert.InCdFwdIdeal.main_arg1) = m ((c.tc : Thread Cert.InCdFwdIdeal.nD Cert.InCdFwdIdeal.τ).loc Cert.InCdFwdIdeal.main_arg1)
          ∧ r.2.mem ((c.tc : Thread Cert.InCdFwdIdeal.nD Cert.InCdFwdIdeal.τ).loc Cert.InCdFwdIdeal.main_arg2) = m ((c.tc : Thread Cert.InCdFwdIdeal.nD Cert.InCdFwdIdeal.τ).loc Cert.InCdFwdIdeal.main_arg2))
      ∧ θ_run (Cert.InCdFwdRefIdeal.defs (F := Ideal)) (onTc (τ := Cert.InCdFwdRefIdeal.τ) (Cert.InCdFwdRefIdeal.main (F := Ideal))) ⟨m', fun _ => 0, g'⟩ (fun r => ∀ c : Dev Cert.InCdFwdRefIdeal.nD,
          r.2.mem ((c.tc : Thread Cert.InCdFwdRefIdeal.nD Cert.InCdFwdRefIdeal.τ).loc Cert.InCdFwdRefIdeal.main_v15) = v0 c
          ∧ r.2.mem ((c.tc : Thread Cert.InCdFwdRefIdeal.nD Cert.InCdFwdRefIdeal.τ).loc Cert.InCdFwdRefIdeal.main_v16) = v1 c
          ∧ r.2.mem ((c.tc : Thread Cert.InCdFwdRefIdeal.nD Cert.InCdFwdRefIdeal.τ).loc Cert.InCdFwdRefIdeal.main_v17) = v2 c
          ∧ r.2.mem ((c.tc : Thread Cert.InCdFwdRefIdeal.nD Cert.InCdFwdRefIdeal.τ).loc Cert.InCdFwdRefIdeal.main_v18) = v3 c
          ∧ r.2.mem ((c.tc : Thread Cert.InCdFwdRefIdeal.nD Cert.InCdFwdRefIdeal.τ).loc Cert.InCdFwdRefIdeal.main_v19) = v4 c
          ∧ r.2.mem ((c.tc : Thread Cert.InCdFwdRefIdeal.nD Cert.InCdFwdRefIdeal.τ).loc Cert.InCdFwdRefIdeal.main_arg0) = m' ((c.tc : Thread Cert.InCdFwdRefIdeal.nD Cert.InCdFwdRefIdeal.τ).loc Cert.InCdFwdRefIdeal.main_arg0)
          ∧ r.2.mem ((c.tc : Thread Cert.InCdFwdRefIdeal.nD Cert.InCdFwdRefIdeal.τ).loc Cert.InCdFwdRefIdeal.main_arg1) = m' ((c.tc : Thread Cert.InCdFwdRefIdeal.nD Cert.InCdFwdRefIdeal.τ).loc Cert.InCdFwdRefIdeal.main_arg1)
          ∧ r.2.mem ((c.tc : Thread Cert.InCdFwdRefIdeal.nD Cert.InCdFwdRefIdeal.τ).loc Cert.InCdFwdRefIdeal.main_arg2) = m' ((c.tc : Thread Cert.InCdFwdRefIdeal.nD Cert.InCdFwdRefIdeal.τ).loc Cert.InCdFwdRefIdeal.main_arg2))

def preserves_OutFwd_OutFwdIdeal : Prop :=
  True

def algebraic_OutFwdIdeal_OutFwdRefIdeal [hOutFwdIdeal : Cert.OutFwdIdeal.Facts] [hOutFwdRefIdeal : Cert.OutFwdRefIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdRefIdeal.nD Cert.OutFwdRefIdeal.τ Cert.OutFwdRefIdeal.sig) → Buf (Elt Ideal) ℓ) (g' : Dev Cert.OutFwdRefIdeal.nD → PrngReg), Pre_OutFwdIdeal m →
    (∀ c : Dev Cert.OutFwdIdeal.nD,
      m' ((c.tc : Thread Cert.OutFwdRefIdeal.nD Cert.OutFwdRefIdeal.τ).loc Cert.OutFwdRefIdeal.main_arg0) = m ((c.tc : Thread Cert.OutFwdIdeal.nD Cert.OutFwdIdeal.τ).loc Cert.OutFwdIdeal.main_arg0)
      ∧ m' ((c.tc : Thread Cert.OutFwdRefIdeal.nD Cert.OutFwdRefIdeal.τ).loc Cert.OutFwdRefIdeal.main_arg1) = m ((c.tc : Thread Cert.OutFwdIdeal.nD Cert.OutFwdIdeal.τ).loc Cert.OutFwdIdeal.main_arg1)
      ∧ m' ((c.tc : Thread Cert.OutFwdRefIdeal.nD Cert.OutFwdRefIdeal.τ).loc Cert.OutFwdRefIdeal.main_arg2) = m ((c.tc : Thread Cert.OutFwdIdeal.nD Cert.OutFwdIdeal.τ).loc Cert.OutFwdIdeal.main_arg2)
      ∧ m' ((c.tc : Thread Cert.OutFwdRefIdeal.nD Cert.OutFwdRefIdeal.τ).loc Cert.OutFwdRefIdeal.main_arg3) = m ((c.tc : Thread Cert.OutFwdIdeal.nD Cert.OutFwdIdeal.τ).loc Cert.OutFwdIdeal.main_arg3)) →
    ∃ (v0 : (c : Dev Cert.OutFwdIdeal.nD) → Buf (Elt Ideal) ((c.tc : Thread Cert.OutFwdIdeal.nD Cert.OutFwdIdeal.τ).loc Cert.OutFwdIdeal.main_v7)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v7) = v0 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
          ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3))
      ∧ θ_run (Cert.OutFwdRefIdeal.defs (F := Ideal)) (onTc (τ := Cert.OutFwdRefIdeal.τ) (Cert.OutFwdRefIdeal.main (F := Ideal))) ⟨m', fun _ => 0, g'⟩ (fun r => ∀ c : Dev Cert.OutFwdRefIdeal.nD,
          r.2.mem ((c.tc : Thread Cert.OutFwdRefIdeal.nD Cert.OutFwdRefIdeal.τ).loc Cert.OutFwdRefIdeal.main_v3) = v0 c
          ∧ r.2.mem ((c.tc : Thread Cert.OutFwdRefIdeal.nD Cert.OutFwdRefIdeal.τ).loc Cert.OutFwdRefIdeal.main_arg0) = m' ((c.tc : Thread Cert.OutFwdRefIdeal.nD Cert.OutFwdRefIdeal.τ).loc Cert.OutFwdRefIdeal.main_arg0)
          ∧ r.2.mem ((c.tc : Thread Cert.OutFwdRefIdeal.nD Cert.OutFwdRefIdeal.τ).loc Cert.OutFwdRefIdeal.main_arg1) = m' ((c.tc : Thread Cert.OutFwdRefIdeal.nD Cert.OutFwdRefIdeal.τ).loc Cert.OutFwdRefIdeal.main_arg1)
          ∧ r.2.mem ((c.tc : Thread Cert.OutFwdRefIdeal.nD Cert.OutFwdRefIdeal.τ).loc Cert.OutFwdRefIdeal.main_arg2) = m' ((c.tc : Thread Cert.OutFwdRefIdeal.nD Cert.OutFwdRefIdeal.τ).loc Cert.OutFwdRefIdeal.main_arg2)
          ∧ r.2.mem ((c.tc : Thread Cert.OutFwdRefIdeal.nD Cert.OutFwdRefIdeal.τ).loc Cert.OutFwdRefIdeal.main_arg3) = m' ((c.tc : Thread Cert.OutFwdRefIdeal.nD Cert.OutFwdRefIdeal.τ).loc Cert.OutFwdRefIdeal.main_arg3))

def preserves_OutBwd_OutBwdIdeal : Prop :=
  True

def algebraic_OutBwdIdeal_OutBwdRefIdeal [hOutBwdIdeal : Cert.OutBwdIdeal.Facts] [hOutBwdRefIdeal : Cert.OutBwdRefIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg)
    (m' : (ℓ : Loc Cert.OutBwdRefIdeal.nD Cert.OutBwdRefIdeal.τ Cert.OutBwdRefIdeal.sig) → Buf (Elt Ideal) ℓ) (g' : Dev Cert.OutBwdRefIdeal.nD → PrngReg), Pre_OutBwdIdeal m →
    (∀ c : Dev Cert.OutBwdIdeal.nD,
      m' ((c.tc : Thread Cert.OutBwdRefIdeal.nD Cert.OutBwdRefIdeal.τ).loc Cert.OutBwdRefIdeal.main_arg0) = m ((c.tc : Thread Cert.OutBwdIdeal.nD Cert.OutBwdIdeal.τ).loc Cert.OutBwdIdeal.main_arg0)
      ∧ m' ((c.tc : Thread Cert.OutBwdRefIdeal.nD Cert.OutBwdRefIdeal.τ).loc Cert.OutBwdRefIdeal.main_arg1) = m ((c.tc : Thread Cert.OutBwdIdeal.nD Cert.OutBwdIdeal.τ).loc Cert.OutBwdIdeal.main_arg1)
      ∧ m' ((c.tc : Thread Cert.OutBwdRefIdeal.nD Cert.OutBwdRefIdeal.τ).loc Cert.OutBwdRefIdeal.main_arg2) = m ((c.tc : Thread Cert.OutBwdIdeal.nD Cert.OutBwdIdeal.τ).loc Cert.OutBwdIdeal.main_arg2)
      ∧ m' ((c.tc : Thread Cert.OutBwdRefIdeal.nD Cert.OutBwdRefIdeal.τ).loc Cert.OutBwdRefIdeal.main_arg3) = m ((c.tc : Thread Cert.OutBwdIdeal.nD Cert.OutBwdIdeal.τ).loc Cert.OutBwdIdeal.main_arg3)) →
    ∃ (v0 : (c : Dev Cert.OutBwdIdeal.nD) → Buf (Elt Ideal) ((c.tc : Thread Cert.OutBwdIdeal.nD Cert.OutBwdIdeal.τ).loc Cert.OutBwdIdeal.main_v7_0)) (v1 : (c : Dev Cert.OutBwdIdeal.nD) → Buf (Elt Ideal) ((c.tc : Thread Cert.OutBwdIdeal.nD Cert.OutBwdIdeal.τ).loc Cert.OutBwdIdeal.main_v7_1)) (v2 : (c : Dev Cert.OutBwdIdeal.nD) → Buf (Elt Ideal) ((c.tc : Thread Cert.OutBwdIdeal.nD Cert.OutBwdIdeal.τ).loc Cert.OutBwdIdeal.main_v7_2)),
      θ_run (Cert.OutBwdIdeal.defs (F := Ideal)) (onTc (τ := Cert.OutBwdIdeal.τ) (Cert.OutBwdIdeal.main (F := Ideal))) ⟨m, fun _ => 0, g⟩ (fun r => ∀ c : Dev Cert.OutBwdIdeal.nD,
          r.2.mem ((c.tc : Thread Cert.OutBwdIdeal.nD Cert.OutBwdIdeal.τ).loc Cert.OutBwdIdeal.main_v7_0) = v0 c
          ∧ r.2.mem ((c.tc : Thread Cert.OutBwdIdeal.nD Cert.OutBwdIdeal.τ).loc Cert.OutBwdIdeal.main_v7_1) = v1 c
          ∧ r.2.mem ((c.tc : Thread Cert.OutBwdIdeal.nD Cert.OutBwdIdeal.τ).loc Cert.OutBwdIdeal.main_v7_2) = v2 c
          ∧ r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
          ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
          ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
          ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3))
      ∧ θ_run (Cert.OutBwdRefIdeal.defs (F := Ideal)) (onTc (τ := Cert.OutBwdRefIdeal.τ) (Cert.OutBwdRefIdeal.main (F := Ideal))) ⟨m', fun _ => 0, g'⟩ (fun r => ∀ c : Dev Cert.OutBwdRefIdeal.nD,
          r.2.mem ((c.tc : Thread Cert.OutBwdRefIdeal.nD Cert.OutBwdRefIdeal.τ).loc Cert.OutBwdRefIdeal.main_v7) = v0 c
          ∧ r.2.mem ((c.tc : Thread Cert.OutBwdRefIdeal.nD Cert.OutBwdRefIdeal.τ).loc Cert.OutBwdRefIdeal.main_v8) = v1 c
          ∧ r.2.mem ((c.tc : Thread Cert.OutBwdRefIdeal.nD Cert.OutBwdRefIdeal.τ).loc Cert.OutBwdRefIdeal.main_v9) = v2 c
          ∧ r.2.mem ((c.tc : Thread Cert.OutBwdRefIdeal.nD Cert.OutBwdRefIdeal.τ).loc Cert.OutBwdRefIdeal.main_arg0) = m' ((c.tc : Thread Cert.OutBwdRefIdeal.nD Cert.OutBwdRefIdeal.τ).loc Cert.OutBwdRefIdeal.main_arg0)
          ∧ r.2.mem ((c.tc : Thread Cert.OutBwdRefIdeal.nD Cert.OutBwdRefIdeal.τ).loc Cert.OutBwdRefIdeal.main_arg1) = m' ((c.tc : Thread Cert.OutBwdRefIdeal.nD Cert.OutBwdRefIdeal.τ).loc Cert.OutBwdRefIdeal.main_arg1)
          ∧ r.2.mem ((c.tc : Thread Cert.OutBwdRefIdeal.nD Cert.OutBwdRefIdeal.τ).loc Cert.OutBwdRefIdeal.main_arg2) = m' ((c.tc : Thread Cert.OutBwdRefIdeal.nD Cert.OutBwdRefIdeal.τ).loc Cert.OutBwdRefIdeal.main_arg2)
          ∧ r.2.mem ((c.tc : Thread Cert.OutBwdRefIdeal.nD Cert.OutBwdRefIdeal.τ).loc Cert.OutBwdRefIdeal.main_arg3) = m' ((c.tc : Thread Cert.OutBwdRefIdeal.nD Cert.OutBwdRefIdeal.τ).loc Cert.OutBwdRefIdeal.main_arg3))

def preserves_Wgrad_WgradIdeal : Prop :=
  True

def algebraic_WgradIdeal_WgradRefIdeal [hWgradIdeal : Cert.WgradIdeal.Facts] [hWgradRefIdeal : Cert.WgradRefIdeal.Facts] : Prop :=
  ∀ (m : (ℓ : Loc Cert.WgradIdeal.nD Cert.WgradIdeal.τ Cert.WgradIdeal.sig) → Buf (Elt Ideal) ℓ) (g : Dev Cert.WgradIdeal.nD → PrngReg)
    (m' : (ℓ : Loc Cert.WgradRefIdeal.nD Cert.WgradRefIdeal.τ Cert.WgradRefIdeal.sig) → Buf (Elt Ideal) ℓ) (g' : Dev Cert.WgradRefIdeal.nD → PrngReg), Pre_WgradIdeal m →
    (∀ c : Dev Cert.WgradIdeal.nD,
      m' ((c.tc : Thread Cert.WgradRefIdeal.nD Cert.WgradRefIdeal.τ).loc Cert.WgradRefIdeal.main_arg0) = m ((c.tc : Thread Cert.WgradIdeal.nD Cert.WgradIdeal.τ).loc Cert.WgradIdeal.main_arg0)
      ∧ m' ((c.tc : Thread Cert.WgradRefIdeal.nD Cert.WgradRefIdeal.τ).loc Cert.WgradRefIdeal.main_arg1) = m ((c.tc : Thread Cert.WgradIdeal.nD Cert.WgradIdeal.τ).loc Cert.WgradIdeal.main_arg1)) →
    ∃ (v0 : (c : Dev Cert.WgradIdeal.nD) → Buf (Elt Ideal) ((c.tc : Thread Cert.WgradIdeal.nD Cert.WgradIdeal.τ).loc Cert.WgradIdeal.main_v5)),
      θ_run (Cert.WgradIdeal.defs (F := Ideal)) (onTc (τ := Cert.WgradIdeal.τ) (Cert.WgradIdeal.main (F := Ideal))) ⟨m, fun _ => 0, g⟩ (fun r => ∀ c : Dev Cert.WgradIdeal.nD,
          r.2.mem ((c.tc : Thread Cert.WgradIdeal.nD Cert.WgradIdeal.τ).loc Cert.WgradIdeal.main_v5) = v0 c
          ∧ r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
          ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1))
      ∧ θ_run (Cert.WgradRefIdeal.defs (F := Ideal)) (onTc (τ := Cert.WgradRefIdeal.τ) (Cert.WgradRefIdeal.main (F := Ideal))) ⟨m', fun _ => 0, g'⟩ (fun r => ∀ c : Dev Cert.WgradRefIdeal.nD,
          r.2.mem ((c.tc : Thread Cert.WgradRefIdeal.nD Cert.WgradRefIdeal.τ).loc Cert.WgradRefIdeal.main_v4) = v0 c
          ∧ r.2.mem ((c.tc : Thread Cert.WgradRefIdeal.nD Cert.WgradRefIdeal.τ).loc Cert.WgradRefIdeal.main_arg0) = m' ((c.tc : Thread Cert.WgradRefIdeal.nD Cert.WgradRefIdeal.τ).loc Cert.WgradRefIdeal.main_arg0)
          ∧ r.2.mem ((c.tc : Thread Cert.WgradRefIdeal.nD Cert.WgradRefIdeal.τ).loc Cert.WgradRefIdeal.main_arg1) = m' ((c.tc : Thread Cert.WgradRefIdeal.nD Cert.WgradRefIdeal.τ).loc Cert.WgradRefIdeal.main_arg1))

def preserves_Adamw_AdamwIdeal : Prop :=
  True

def algebraic_AdamwIdeal_AdamwRefIdeal [hAdamwIdeal : Cert.AdamwIdeal.Facts] [hAdamwRefIdeal : Cert.AdamwRefIdeal.Facts] : Prop :=
  ∀ (m : (ℓ : Loc Cert.AdamwIdeal.nD Cert.AdamwIdeal.τ Cert.AdamwIdeal.sig) → Buf (Elt Ideal) ℓ) (g : Dev Cert.AdamwIdeal.nD → PrngReg)
    (m' : (ℓ : Loc Cert.AdamwRefIdeal.nD Cert.AdamwRefIdeal.τ Cert.AdamwRefIdeal.sig) → Buf (Elt Ideal) ℓ) (g' : Dev Cert.AdamwRefIdeal.nD → PrngReg), Pre_AdamwIdeal m →
    (∀ c : Dev Cert.AdamwIdeal.nD,
      m' ((c.tc : Thread Cert.AdamwRefIdeal.nD Cert.AdamwRefIdeal.τ).loc Cert.AdamwRefIdeal.main_arg0) = m ((c.tc : Thread Cert.AdamwIdeal.nD Cert.AdamwIdeal.τ).loc Cert.AdamwIdeal.main_arg0)
      ∧ m' ((c.tc : Thread Cert.AdamwRefIdeal.nD Cert.AdamwRefIdeal.τ).loc Cert.AdamwRefIdeal.main_arg1) = m ((c.tc : Thread Cert.AdamwIdeal.nD Cert.AdamwIdeal.τ).loc Cert.AdamwIdeal.main_arg1)
      ∧ m' ((c.tc : Thread Cert.AdamwRefIdeal.nD Cert.AdamwRefIdeal.τ).loc Cert.AdamwRefIdeal.main_arg2) = m ((c.tc : Thread Cert.AdamwIdeal.nD Cert.AdamwIdeal.τ).loc Cert.AdamwIdeal.main_arg2)
      ∧ m' ((c.tc : Thread Cert.AdamwRefIdeal.nD Cert.AdamwRefIdeal.τ).loc Cert.AdamwRefIdeal.main_arg3) = m ((c.tc : Thread Cert.AdamwIdeal.nD Cert.AdamwIdeal.τ).loc Cert.AdamwIdeal.main_arg3)) →
    ∃ (v0 : (c : Dev Cert.AdamwIdeal.nD) → Buf (Elt Ideal) ((c.tc : Thread Cert.AdamwIdeal.nD Cert.AdamwIdeal.τ).loc Cert.AdamwIdeal.main_v0_0)) (v1 : (c : Dev Cert.AdamwIdeal.nD) → Buf (Elt Ideal) ((c.tc : Thread Cert.AdamwIdeal.nD Cert.AdamwIdeal.τ).loc Cert.AdamwIdeal.main_v0_1)) (v2 : (c : Dev Cert.AdamwIdeal.nD) → Buf (Elt Ideal) ((c.tc : Thread Cert.AdamwIdeal.nD Cert.AdamwIdeal.τ).loc Cert.AdamwIdeal.main_v0_2)),
      θ_run (Cert.AdamwIdeal.defs (F := Ideal)) (onTc (τ := Cert.AdamwIdeal.τ) (Cert.AdamwIdeal.main (F := Ideal))) ⟨m, fun _ => 0, g⟩ (fun r => ∀ c : Dev Cert.AdamwIdeal.nD,
          r.2.mem ((c.tc : Thread Cert.AdamwIdeal.nD Cert.AdamwIdeal.τ).loc Cert.AdamwIdeal.main_v0_0) = v0 c
          ∧ r.2.mem ((c.tc : Thread Cert.AdamwIdeal.nD Cert.AdamwIdeal.τ).loc Cert.AdamwIdeal.main_v0_1) = v1 c
          ∧ r.2.mem ((c.tc : Thread Cert.AdamwIdeal.nD Cert.AdamwIdeal.τ).loc Cert.AdamwIdeal.main_v0_2) = v2 c
          ∧ r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
          ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
          ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
          ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ θ_run (Cert.AdamwRefIdeal.defs (F := Ideal)) (onTc (τ := Cert.AdamwRefIdeal.τ) (Cert.AdamwRefIdeal.main (F := Ideal))) ⟨m', fun _ => 0, g'⟩ (fun r => ∀ c : Dev Cert.AdamwRefIdeal.nD,
          r.2.mem ((c.tc : Thread Cert.AdamwRefIdeal.nD Cert.AdamwRefIdeal.τ).loc Cert.AdamwRefIdeal.main_v23) = v0 c
          ∧ r.2.mem ((c.tc : Thread Cert.AdamwRefIdeal.nD Cert.AdamwRefIdeal.τ).loc Cert.AdamwRefIdeal.main_v4) = v1 c
          ∧ r.2.mem ((c.tc : Thread Cert.AdamwRefIdeal.nD Cert.AdamwRefIdeal.τ).loc Cert.AdamwRefIdeal.main_v10) = v2 c
          ∧ r.2.mem ((c.tc : Thread Cert.AdamwRefIdeal.nD Cert.AdamwRefIdeal.τ).loc Cert.AdamwRefIdeal.main_arg0) = m' ((c.tc : Thread Cert.AdamwRefIdeal.nD Cert.AdamwRefIdeal.τ).loc Cert.AdamwRefIdeal.main_arg0)
          ∧ r.2.mem ((c.tc : Thread Cert.AdamwRefIdeal.nD Cert.AdamwRefIdeal.τ).loc Cert.AdamwRefIdeal.main_arg1) = m' ((c.tc : Thread Cert.AdamwRefIdeal.nD Cert.AdamwRefIdeal.τ).loc Cert.AdamwRefIdeal.main_arg1)
          ∧ r.2.mem ((c.tc : Thread Cert.AdamwRefIdeal.nD Cert.AdamwRefIdeal.τ).loc Cert.AdamwRefIdeal.main_arg2) = m' ((c.tc : Thread Cert.AdamwRefIdeal.nD Cert.AdamwRefIdeal.τ).loc Cert.AdamwRefIdeal.main_arg2)
          ∧ r.2.mem ((c.tc : Thread Cert.AdamwRefIdeal.nD Cert.AdamwRefIdeal.τ).loc Cert.AdamwRefIdeal.main_arg3) = m' ((c.tc : Thread Cert.AdamwRefIdeal.nD Cert.AdamwRefIdeal.τ).loc Cert.AdamwRefIdeal.main_arg3))

def preserves_Sum8_Sum8Ideal : Prop :=
  True

def algebraic_Sum8Ideal_Sum8RefIdeal [hSum8Ideal : Cert.Sum8Ideal.Facts] [hSum8RefIdeal : Cert.Sum8RefIdeal.Facts] : Prop :=
  ∀ (m : (ℓ : Loc Cert.Sum8Ideal.nD Cert.Sum8Ideal.τ Cert.Sum8Ideal.sig) → Buf (Elt Ideal) ℓ) (g : Dev Cert.Sum8Ideal.nD → PrngReg)
    (m' : (ℓ : Loc Cert.Sum8RefIdeal.nD Cert.Sum8RefIdeal.τ Cert.Sum8RefIdeal.sig) → Buf (Elt Ideal) ℓ) (g' : Dev Cert.Sum8RefIdeal.nD → PrngReg), Pre_Sum8Ideal m →
    (∀ c : Dev Cert.Sum8Ideal.nD,
      m' ((c.tc : Thread Cert.Sum8RefIdeal.nD Cert.Sum8RefIdeal.τ).loc Cert.Sum8RefIdeal.main_arg0) = m ((c.tc : Thread Cert.Sum8Ideal.nD Cert.Sum8Ideal.τ).loc Cert.Sum8Ideal.main_arg0)) →
    ∃ (v0 : (c : Dev Cert.Sum8Ideal.nD) → Buf (Elt Ideal) ((c.tc : Thread Cert.Sum8Ideal.nD Cert.Sum8Ideal.τ).loc Cert.Sum8Ideal.main_v0)),
      θ_run (Cert.Sum8Ideal.defs (F := Ideal)) (onTc (τ := Cert.Sum8Ideal.τ) (Cert.Sum8Ideal.main (F := Ideal))) ⟨m, fun _ => 0, g⟩ (fun r => ∀ c : Dev Cert.Sum8Ideal.nD,
          r.2.mem ((c.tc : Thread Cert.Sum8Ideal.nD Cert.Sum8Ideal.τ).loc Cert.Sum8Ideal.main_v0) = v0 c
          ∧ r.2.mem ((c.tc : Thread Cert.Sum8Ideal.nD Cert.Sum8Ideal.τ).loc Cert.Sum8Ideal.main_arg0) = m ((c.tc : Thread Cert.Sum8Ideal.nD Cert.Sum8Ideal.τ).loc Cert.Sum8Ideal.main_arg0))
      ∧ θ_run (Cert.Sum8RefIdeal.defs (F := Ideal)) (onTc (τ := Cert.Sum8RefIdeal.τ) (Cert.Sum8RefIdeal.main (F := Ideal))) ⟨m', fun _ => 0, g'⟩ (fun r => ∀ c : Dev Cert.Sum8RefIdeal.nD,
          r.2.mem ((c.tc : Thread Cert.Sum8RefIdeal.nD Cert.Sum8RefIdeal.τ).loc Cert.Sum8RefIdeal.main_v1) = v0 c
          ∧ r.2.mem ((c.tc : Thread Cert.Sum8RefIdeal.nD Cert.Sum8RefIdeal.τ).loc Cert.Sum8RefIdeal.main_arg0) = m' ((c.tc : Thread Cert.Sum8RefIdeal.nD Cert.Sum8RefIdeal.τ).loc Cert.Sum8RefIdeal.main_arg0))

def preserves_SumSlots_SumSlotsIdeal : Prop :=
  True

def algebraic_SumSlotsIdeal_SumSlotsRefIdeal [hSumSlotsIdeal : Cert.SumSlotsIdeal.Facts] [hSumSlotsRefIdeal : Cert.SumSlotsRefIdeal.Facts] : Prop :=
  ∀ (m : (ℓ : Loc Cert.SumSlotsIdeal.nD Cert.SumSlotsIdeal.τ Cert.SumSlotsIdeal.sig) → Buf (Elt Ideal) ℓ) (g : Dev Cert.SumSlotsIdeal.nD → PrngReg)
    (m' : (ℓ : Loc Cert.SumSlotsRefIdeal.nD Cert.SumSlotsRefIdeal.τ Cert.SumSlotsRefIdeal.sig) → Buf (Elt Ideal) ℓ) (g' : Dev Cert.SumSlotsRefIdeal.nD → PrngReg), Pre_SumSlotsIdeal m →
    (∀ c : Dev Cert.SumSlotsIdeal.nD,
      m' ((c.tc : Thread Cert.SumSlotsRefIdeal.nD Cert.SumSlotsRefIdeal.τ).loc Cert.SumSlotsRefIdeal.main_arg0) = m ((c.tc : Thread Cert.SumSlotsIdeal.nD Cert.SumSlotsIdeal.τ).loc Cert.SumSlotsIdeal.main_arg0)) →
    ∃ (v0 : (c : Dev Cert.SumSlotsIdeal.nD) → Buf (Elt Ideal) ((c.tc : Thread Cert.SumSlotsIdeal.nD Cert.SumSlotsIdeal.τ).loc Cert.SumSlotsIdeal.main_v0)),
      θ_run (Cert.SumSlotsIdeal.defs (F := Ideal)) (onTc (τ := Cert.SumSlotsIdeal.τ) (Cert.SumSlotsIdeal.main (F := Ideal))) ⟨m, fun _ => 0, g⟩ (fun r => ∀ c : Dev Cert.SumSlotsIdeal.nD,
          r.2.mem ((c.tc : Thread Cert.SumSlotsIdeal.nD Cert.SumSlotsIdeal.τ).loc Cert.SumSlotsIdeal.main_v0) = v0 c
          ∧ r.2.mem ((c.tc : Thread Cert.SumSlotsIdeal.nD Cert.SumSlotsIdeal.τ).loc Cert.SumSlotsIdeal.main_arg0) = m ((c.tc : Thread Cert.SumSlotsIdeal.nD Cert.SumSlotsIdeal.τ).loc Cert.SumSlotsIdeal.main_arg0))
      ∧ θ_run (Cert.SumSlotsRefIdeal.defs (F := Ideal)) (onTc (τ := Cert.SumSlotsRefIdeal.τ) (Cert.SumSlotsRefIdeal.main (F := Ideal))) ⟨m', fun _ => 0, g'⟩ (fun r => ∀ c : Dev Cert.SumSlotsRefIdeal.nD,
          r.2.mem ((c.tc : Thread Cert.SumSlotsRefIdeal.nD Cert.SumSlotsRefIdeal.τ).loc Cert.SumSlotsRefIdeal.main_v0) = v0 c
          ∧ r.2.mem ((c.tc : Thread Cert.SumSlotsRefIdeal.nD Cert.SumSlotsRefIdeal.τ).loc Cert.SumSlotsRefIdeal.main_arg0) = m' ((c.tc : Thread Cert.SumSlotsRefIdeal.nD Cert.SumSlotsRefIdeal.τ).loc Cert.SumSlotsRefIdeal.main_arg0))

def preserves_AdamwUp_AdamwUpIdeal : Prop :=
  True

def algebraic_AdamwUpIdeal_AdamwUpRefIdeal [hAdamwUpIdeal : Cert.AdamwUpIdeal.Facts] [hAdamwUpRefIdeal : Cert.AdamwUpRefIdeal.Facts] : Prop :=
  ∀ (m : (ℓ : Loc Cert.AdamwUpIdeal.nD Cert.AdamwUpIdeal.τ Cert.AdamwUpIdeal.sig) → Buf (Elt Ideal) ℓ) (g : Dev Cert.AdamwUpIdeal.nD → PrngReg)
    (m' : (ℓ : Loc Cert.AdamwUpRefIdeal.nD Cert.AdamwUpRefIdeal.τ Cert.AdamwUpRefIdeal.sig) → Buf (Elt Ideal) ℓ) (g' : Dev Cert.AdamwUpRefIdeal.nD → PrngReg), Pre_AdamwUpIdeal m →
    (∀ c : Dev Cert.AdamwUpIdeal.nD,
      m' ((c.tc : Thread Cert.AdamwUpRefIdeal.nD Cert.AdamwUpRefIdeal.τ).loc Cert.AdamwUpRefIdeal.main_arg0) = m ((c.tc : Thread Cert.AdamwUpIdeal.nD Cert.AdamwUpIdeal.τ).loc Cert.AdamwUpIdeal.main_arg0)
      ∧ m' ((c.tc : Thread Cert.AdamwUpRefIdeal.nD Cert.AdamwUpRefIdeal.τ).loc Cert.AdamwUpRefIdeal.main_arg1) = m ((c.tc : Thread Cert.AdamwUpIdeal.nD Cert.AdamwUpIdeal.τ).loc Cert.AdamwUpIdeal.main_arg1)
      ∧ m' ((c.tc : Thread Cert.AdamwUpRefIdeal.nD Cert.AdamwUpRefIdeal.τ).loc Cert.AdamwUpRefIdeal.main_arg2) = m ((c.tc : Thread Cert.AdamwUpIdeal.nD Cert.AdamwUpIdeal.τ).loc Cert.AdamwUpIdeal.main_arg2)
      ∧ m' ((c.tc : Thread Cert.AdamwUpRefIdeal.nD Cert.AdamwUpRefIdeal.τ).loc Cert.AdamwUpRefIdeal.main_arg3) = m ((c.tc : Thread Cert.AdamwUpIdeal.nD Cert.AdamwUpIdeal.τ).loc Cert.AdamwUpIdeal.main_arg3)) →
    ∃ (v0 : (c : Dev Cert.AdamwUpIdeal.nD) → Buf (Elt Ideal) ((c.tc : Thread Cert.AdamwUpIdeal.nD Cert.AdamwUpIdeal.τ).loc Cert.AdamwUpIdeal.main_v3_0)) (v1 : (c : Dev Cert.AdamwUpIdeal.nD) → Buf (Elt Ideal) ((c.tc : Thread Cert.AdamwUpIdeal.nD Cert.AdamwUpIdeal.τ).loc Cert.AdamwUpIdeal.main_v3_1)) (v2 : (c : Dev Cert.AdamwUpIdeal.nD) → Buf (Elt Ideal) ((c.tc : Thread Cert.AdamwUpIdeal.nD Cert.AdamwUpIdeal.τ).loc Cert.AdamwUpIdeal.main_v3_2)),
      θ_run (Cert.AdamwUpIdeal.defs (F := Ideal)) (onTc (τ := Cert.AdamwUpIdeal.τ) (Cert.AdamwUpIdeal.main (F := Ideal))) ⟨m, fun _ => 0, g⟩ (fun r => ∀ c : Dev Cert.AdamwUpIdeal.nD,
          r.2.mem ((c.tc : Thread Cert.AdamwUpIdeal.nD Cert.AdamwUpIdeal.τ).loc Cert.AdamwUpIdeal.main_v3_0) = v0 c
          ∧ r.2.mem ((c.tc : Thread Cert.AdamwUpIdeal.nD Cert.AdamwUpIdeal.τ).loc Cert.AdamwUpIdeal.main_v3_1) = v1 c
          ∧ r.2.mem ((c.tc : Thread Cert.AdamwUpIdeal.nD Cert.AdamwUpIdeal.τ).loc Cert.AdamwUpIdeal.main_v3_2) = v2 c
          ∧ r.2.mem ((c.tc : Thread Cert.AdamwUpIdeal.nD Cert.AdamwUpIdeal.τ).loc Cert.AdamwUpIdeal.main_arg0) = m ((c.tc : Thread Cert.AdamwUpIdeal.nD Cert.AdamwUpIdeal.τ).loc Cert.AdamwUpIdeal.main_arg0)
          ∧ r.2.mem ((c.tc : Thread Cert.AdamwUpIdeal.nD Cert.AdamwUpIdeal.τ).loc Cert.AdamwUpIdeal.main_arg1) = m ((c.tc : Thread Cert.AdamwUpIdeal.nD Cert.AdamwUpIdeal.τ).loc Cert.AdamwUpIdeal.main_arg1)
          ∧ r.2.mem ((c.tc : Thread Cert.AdamwUpIdeal.nD Cert.AdamwUpIdeal.τ).loc Cert.AdamwUpIdeal.main_arg2) = m ((c.tc : Thread Cert.AdamwUpIdeal.nD Cert.AdamwUpIdeal.τ).loc Cert.AdamwUpIdeal.main_arg2)
          ∧ r.2.mem ((c.tc : Thread Cert.AdamwUpIdeal.nD Cert.AdamwUpIdeal.τ).loc Cert.AdamwUpIdeal.main_arg3) = m ((c.tc : Thread Cert.AdamwUpIdeal.nD Cert.AdamwUpIdeal.τ).loc Cert.AdamwUpIdeal.main_arg3))
      ∧ θ_run (Cert.AdamwUpRefIdeal.defs (F := Ideal)) (onTc (τ := Cert.AdamwUpRefIdeal.τ) (Cert.AdamwUpRefIdeal.main (F := Ideal))) ⟨m', fun _ => 0, g'⟩ (fun r => ∀ c : Dev Cert.AdamwUpRefIdeal.nD,
          r.2.mem ((c.tc : Thread Cert.AdamwUpRefIdeal.nD Cert.AdamwUpRefIdeal.τ).loc Cert.AdamwUpRefIdeal.main_v25) = v0 c
          ∧ r.2.mem ((c.tc : Thread Cert.AdamwUpRefIdeal.nD Cert.AdamwUpRefIdeal.τ).loc Cert.AdamwUpRefIdeal.main_v26) = v1 c
          ∧ r.2.mem ((c.tc : Thread Cert.AdamwUpRefIdeal.nD Cert.AdamwUpRefIdeal.τ).loc Cert.AdamwUpRefIdeal.main_v27) = v2 c
          ∧ r.2.mem ((c.tc : Thread Cert.AdamwUpRefIdeal.nD Cert.AdamwUpRefIdeal.τ).loc Cert.AdamwUpRefIdeal.main_arg0) = m' ((c.tc : Thread Cert.AdamwUpRefIdeal.nD Cert.AdamwUpRefIdeal.τ).loc Cert.AdamwUpRefIdeal.main_arg0)
          ∧ r.2.mem ((c.tc : Thread Cert.AdamwUpRefIdeal.nD Cert.AdamwUpRefIdeal.τ).loc Cert.AdamwUpRefIdeal.main_arg1) = m' ((c.tc : Thread Cert.AdamwUpRefIdeal.nD Cert.AdamwUpRefIdeal.τ).loc Cert.AdamwUpRefIdeal.main_arg1)
          ∧ r.2.mem ((c.tc : Thread Cert.AdamwUpRefIdeal.nD Cert.AdamwUpRefIdeal.τ).loc Cert.AdamwUpRefIdeal.main_arg2) = m' ((c.tc : Thread Cert.AdamwUpRefIdeal.nD Cert.AdamwUpRefIdeal.τ).loc Cert.AdamwUpRefIdeal.main_arg2)
          ∧ r.2.mem ((c.tc : Thread Cert.AdamwUpRefIdeal.nD Cert.AdamwUpRefIdeal.τ).loc Cert.AdamwUpRefIdeal.main_arg3) = m' ((c.tc : Thread Cert.AdamwUpRefIdeal.nD Cert.AdamwUpRefIdeal.τ).loc Cert.AdamwUpRefIdeal.main_arg3))

def preserves_AdamwCd_AdamwCdIdeal : Prop :=
  True

def algebraic_AdamwCdIdeal_AdamwCdRefIdeal [hAdamwCdIdeal : Cert.AdamwCdIdeal.Facts] [hAdamwCdRefIdeal : Cert.AdamwCdRefIdeal.Facts] : Prop :=
  ∀ (m : (ℓ : Loc Cert.AdamwCdIdeal.nD Cert.AdamwCdIdeal.τ Cert.AdamwCdIdeal.sig) → Buf (Elt Ideal) ℓ) (g : Dev Cert.AdamwCdIdeal.nD → PrngReg)
    (m' : (ℓ : Loc Cert.AdamwCdRefIdeal.nD Cert.AdamwCdRefIdeal.τ Cert.AdamwCdRefIdeal.sig) → Buf (Elt Ideal) ℓ) (g' : Dev Cert.AdamwCdRefIdeal.nD → PrngReg), Pre_AdamwCdIdeal m →
    (∀ c : Dev Cert.AdamwCdIdeal.nD,
      m' ((c.tc : Thread Cert.AdamwCdRefIdeal.nD Cert.AdamwCdRefIdeal.τ).loc Cert.AdamwCdRefIdeal.main_arg0) = m ((c.tc : Thread Cert.AdamwCdIdeal.nD Cert.AdamwCdIdeal.τ).loc Cert.AdamwCdIdeal.main_arg0)
      ∧ m' ((c.tc : Thread Cert.AdamwCdRefIdeal.nD Cert.AdamwCdRefIdeal.τ).loc Cert.AdamwCdRefIdeal.main_arg1) = m ((c.tc : Thread Cert.AdamwCdIdeal.nD Cert.AdamwCdIdeal.τ).loc Cert.AdamwCdIdeal.main_arg1)
      ∧ m' ((c.tc : Thread Cert.AdamwCdRefIdeal.nD Cert.AdamwCdRefIdeal.τ).loc Cert.AdamwCdRefIdeal.main_arg2) = m ((c.tc : Thread Cert.AdamwCdIdeal.nD Cert.AdamwCdIdeal.τ).loc Cert.AdamwCdIdeal.main_arg2)
      ∧ m' ((c.tc : Thread Cert.AdamwCdRefIdeal.nD Cert.AdamwCdRefIdeal.τ).loc Cert.AdamwCdRefIdeal.main_arg3) = m ((c.tc : Thread Cert.AdamwCdIdeal.nD Cert.AdamwCdIdeal.τ).loc Cert.AdamwCdIdeal.main_arg3)) →
    ∃ (v0 : (c : Dev Cert.AdamwCdIdeal.nD) → Buf (Elt Ideal) ((c.tc : Thread Cert.AdamwCdIdeal.nD Cert.AdamwCdIdeal.τ).loc Cert.AdamwCdIdeal.main_v3_0)) (v1 : (c : Dev Cert.AdamwCdIdeal.nD) → Buf (Elt Ideal) ((c.tc : Thread Cert.AdamwCdIdeal.nD Cert.AdamwCdIdeal.τ).loc Cert.AdamwCdIdeal.main_v3_1)) (v2 : (c : Dev Cert.AdamwCdIdeal.nD) → Buf (Elt Ideal) ((c.tc : Thread Cert.AdamwCdIdeal.nD Cert.AdamwCdIdeal.τ).loc Cert.AdamwCdIdeal.main_v3_2)),
      θ_run (Cert.AdamwCdIdeal.defs (F := Ideal)) (onTc (τ := Cert.AdamwCdIdeal.τ) (Cert.AdamwCdIdeal.main (F := Ideal))) ⟨m, fun _ => 0, g⟩ (fun r => ∀ c : Dev Cert.AdamwCdIdeal.nD,
          r.2.mem ((c.tc : Thread Cert.AdamwCdIdeal.nD Cert.AdamwCdIdeal.τ).loc Cert.AdamwCdIdeal.main_v3_0) = v0 c
          ∧ r.2.mem ((c.tc : Thread Cert.AdamwCdIdeal.nD Cert.AdamwCdIdeal.τ).loc Cert.AdamwCdIdeal.main_v3_1) = v1 c
          ∧ r.2.mem ((c.tc : Thread Cert.AdamwCdIdeal.nD Cert.AdamwCdIdeal.τ).loc Cert.AdamwCdIdeal.main_v3_2) = v2 c
          ∧ r.2.mem ((c.tc : Thread Cert.AdamwCdIdeal.nD Cert.AdamwCdIdeal.τ).loc Cert.AdamwCdIdeal.main_arg0) = m ((c.tc : Thread Cert.AdamwCdIdeal.nD Cert.AdamwCdIdeal.τ).loc Cert.AdamwCdIdeal.main_arg0)
          ∧ r.2.mem ((c.tc : Thread Cert.AdamwCdIdeal.nD Cert.AdamwCdIdeal.τ).loc Cert.AdamwCdIdeal.main_arg1) = m ((c.tc : Thread Cert.AdamwCdIdeal.nD Cert.AdamwCdIdeal.τ).loc Cert.AdamwCdIdeal.main_arg1)
          ∧ r.2.mem ((c.tc : Thread Cert.AdamwCdIdeal.nD Cert.AdamwCdIdeal.τ).loc Cert.AdamwCdIdeal.main_arg2) = m ((c.tc : Thread Cert.AdamwCdIdeal.nD Cert.AdamwCdIdeal.τ).loc Cert.AdamwCdIdeal.main_arg2)
          ∧ r.2.mem ((c.tc : Thread Cert.AdamwCdIdeal.nD Cert.AdamwCdIdeal.τ).loc Cert.AdamwCdIdeal.main_arg3) = m ((c.tc : Thread Cert.AdamwCdIdeal.nD Cert.AdamwCdIdeal.τ).loc Cert.AdamwCdIdeal.main_arg3))
      ∧ θ_run (Cert.AdamwCdRefIdeal.defs (F := Ideal)) (onTc (τ := Cert.AdamwCdRefIdeal.τ) (Cert.AdamwCdRefIdeal.main (F := Ideal))) ⟨m', fun _ => 0, g'⟩ (fun r => ∀ c : Dev Cert.AdamwCdRefIdeal.nD,
          r.2.mem ((c.tc : Thread Cert.AdamwCdRefIdeal.nD Cert.AdamwCdRefIdeal.τ).loc Cert.AdamwCdRefIdeal.main_v25) = v0 c
          ∧ r.2.mem ((c.tc : Thread Cert.AdamwCdRefIdeal.nD Cert.AdamwCdRefIdeal.τ).loc Cert.AdamwCdRefIdeal.main_v26) = v1 c
          ∧ r.2.mem ((c.tc : Thread Cert.AdamwCdRefIdeal.nD Cert.AdamwCdRefIdeal.τ).loc Cert.AdamwCdRefIdeal.main_v27) = v2 c
          ∧ r.2.mem ((c.tc : Thread Cert.AdamwCdRefIdeal.nD Cert.AdamwCdRefIdeal.τ).loc Cert.AdamwCdRefIdeal.main_arg0) = m' ((c.tc : Thread Cert.AdamwCdRefIdeal.nD Cert.AdamwCdRefIdeal.τ).loc Cert.AdamwCdRefIdeal.main_arg0)
          ∧ r.2.mem ((c.tc : Thread Cert.AdamwCdRefIdeal.nD Cert.AdamwCdRefIdeal.τ).loc Cert.AdamwCdRefIdeal.main_arg1) = m' ((c.tc : Thread Cert.AdamwCdRefIdeal.nD Cert.AdamwCdRefIdeal.τ).loc Cert.AdamwCdRefIdeal.main_arg1)
          ∧ r.2.mem ((c.tc : Thread Cert.AdamwCdRefIdeal.nD Cert.AdamwCdRefIdeal.τ).loc Cert.AdamwCdRefIdeal.main_arg2) = m' ((c.tc : Thread Cert.AdamwCdRefIdeal.nD Cert.AdamwCdRefIdeal.τ).loc Cert.AdamwCdRefIdeal.main_arg2)
          ∧ r.2.mem ((c.tc : Thread Cert.AdamwCdRefIdeal.nD Cert.AdamwCdRefIdeal.τ).loc Cert.AdamwCdRefIdeal.main_arg3) = m' ((c.tc : Thread Cert.AdamwCdRefIdeal.nD Cert.AdamwCdRefIdeal.τ).loc Cert.AdamwCdRefIdeal.main_arg3))

def preserves_AdamwAb_AdamwAbIdeal : Prop :=
  True

def algebraic_AdamwAbIdeal_AdamwAbRefIdeal [hAdamwAbIdeal : Cert.AdamwAbIdeal.Facts] [hAdamwAbRefIdeal : Cert.AdamwAbRefIdeal.Facts] : Prop :=
  ∀ (m : (ℓ : Loc Cert.AdamwAbIdeal.nD Cert.AdamwAbIdeal.τ Cert.AdamwAbIdeal.sig) → Buf (Elt Ideal) ℓ) (g : Dev Cert.AdamwAbIdeal.nD → PrngReg)
    (m' : (ℓ : Loc Cert.AdamwAbRefIdeal.nD Cert.AdamwAbRefIdeal.τ Cert.AdamwAbRefIdeal.sig) → Buf (Elt Ideal) ℓ) (g' : Dev Cert.AdamwAbRefIdeal.nD → PrngReg), Pre_AdamwAbIdeal m →
    (∀ c : Dev Cert.AdamwAbIdeal.nD,
      m' ((c.tc : Thread Cert.AdamwAbRefIdeal.nD Cert.AdamwAbRefIdeal.τ).loc Cert.AdamwAbRefIdeal.main_arg0) = m ((c.tc : Thread Cert.AdamwAbIdeal.nD Cert.AdamwAbIdeal.τ).loc Cert.AdamwAbIdeal.main_arg0)
      ∧ m' ((c.tc : Thread Cert.AdamwAbRefIdeal.nD Cert.AdamwAbRefIdeal.τ).loc Cert.AdamwAbRefIdeal.main_arg1) = m ((c.tc : Thread Cert.AdamwAbIdeal.nD Cert.AdamwAbIdeal.τ).loc Cert.AdamwAbIdeal.main_arg1)
      ∧ m' ((c.tc : Thread Cert.AdamwAbRefIdeal.nD Cert.AdamwAbRefIdeal.τ).loc Cert.AdamwAbRefIdeal.main_arg2) = m ((c.tc : Thread Cert.AdamwAbIdeal.nD Cert.AdamwAbIdeal.τ).loc Cert.AdamwAbIdeal.main_arg2)
      ∧ m' ((c.tc : Thread Cert.AdamwAbRefIdeal.nD Cert.AdamwAbRefIdeal.τ).loc Cert.AdamwAbRefIdeal.main_arg3) = m ((c.tc : Thread Cert.AdamwAbIdeal.nD Cert.AdamwAbIdeal.τ).loc Cert.AdamwAbIdeal.main_arg3)) →
    ∃ (v0 : (c : Dev Cert.AdamwAbIdeal.nD) → Buf (Elt Ideal) ((c.tc : Thread Cert.AdamwAbIdeal.nD Cert.AdamwAbIdeal.τ).loc Cert.AdamwAbIdeal.main_v3_0)) (v1 : (c : Dev Cert.AdamwAbIdeal.nD) → Buf (Elt Ideal) ((c.tc : Thread Cert.AdamwAbIdeal.nD Cert.AdamwAbIdeal.τ).loc Cert.AdamwAbIdeal.main_v3_1)) (v2 : (c : Dev Cert.AdamwAbIdeal.nD) → Buf (Elt Ideal) ((c.tc : Thread Cert.AdamwAbIdeal.nD Cert.AdamwAbIdeal.τ).loc Cert.AdamwAbIdeal.main_v3_2)),
      θ_run (Cert.AdamwAbIdeal.defs (F := Ideal)) (onTc (τ := Cert.AdamwAbIdeal.τ) (Cert.AdamwAbIdeal.main (F := Ideal))) ⟨m, fun _ => 0, g⟩ (fun r => ∀ c : Dev Cert.AdamwAbIdeal.nD,
          r.2.mem ((c.tc : Thread Cert.AdamwAbIdeal.nD Cert.AdamwAbIdeal.τ).loc Cert.AdamwAbIdeal.main_v3_0) = v0 c
          ∧ r.2.mem ((c.tc : Thread Cert.AdamwAbIdeal.nD Cert.AdamwAbIdeal.τ).loc Cert.AdamwAbIdeal.main_v3_1) = v1 c
          ∧ r.2.mem ((c.tc : Thread Cert.AdamwAbIdeal.nD Cert.AdamwAbIdeal.τ).loc Cert.AdamwAbIdeal.main_v3_2) = v2 c
          ∧ r.2.mem ((c.tc : Thread Cert.AdamwAbIdeal.nD Cert.AdamwAbIdeal.τ).loc Cert.AdamwAbIdeal.main_arg0) = m ((c.tc : Thread Cert.AdamwAbIdeal.nD Cert.AdamwAbIdeal.τ).loc Cert.AdamwAbIdeal.main_arg0)
          ∧ r.2.mem ((c.tc : Thread Cert.AdamwAbIdeal.nD Cert.AdamwAbIdeal.τ).loc Cert.AdamwAbIdeal.main_arg1) = m ((c.tc : Thread Cert.AdamwAbIdeal.nD Cert.AdamwAbIdeal.τ).loc Cert.AdamwAbIdeal.main_arg1)
          ∧ r.2.mem ((c.tc : Thread Cert.AdamwAbIdeal.nD Cert.AdamwAbIdeal.τ).loc Cert.AdamwAbIdeal.main_arg2) = m ((c.tc : Thread Cert.AdamwAbIdeal.nD Cert.AdamwAbIdeal.τ).loc Cert.AdamwAbIdeal.main_arg2)
          ∧ r.2.mem ((c.tc : Thread Cert.AdamwAbIdeal.nD Cert.AdamwAbIdeal.τ).loc Cert.AdamwAbIdeal.main_arg3) = m ((c.tc : Thread Cert.AdamwAbIdeal.nD Cert.AdamwAbIdeal.τ).loc Cert.AdamwAbIdeal.main_arg3))
      ∧ θ_run (Cert.AdamwAbRefIdeal.defs (F := Ideal)) (onTc (τ := Cert.AdamwAbRefIdeal.τ) (Cert.AdamwAbRefIdeal.main (F := Ideal))) ⟨m', fun _ => 0, g'⟩ (fun r => ∀ c : Dev Cert.AdamwAbRefIdeal.nD,
          r.2.mem ((c.tc : Thread Cert.AdamwAbRefIdeal.nD Cert.AdamwAbRefIdeal.τ).loc Cert.AdamwAbRefIdeal.main_v25) = v0 c
          ∧ r.2.mem ((c.tc : Thread Cert.AdamwAbRefIdeal.nD Cert.AdamwAbRefIdeal.τ).loc Cert.AdamwAbRefIdeal.main_v26) = v1 c
          ∧ r.2.mem ((c.tc : Thread Cert.AdamwAbRefIdeal.nD Cert.AdamwAbRefIdeal.τ).loc Cert.AdamwAbRefIdeal.main_v27) = v2 c
          ∧ r.2.mem ((c.tc : Thread Cert.AdamwAbRefIdeal.nD Cert.AdamwAbRefIdeal.τ).loc Cert.AdamwAbRefIdeal.main_arg0) = m' ((c.tc : Thread Cert.AdamwAbRefIdeal.nD Cert.AdamwAbRefIdeal.τ).loc Cert.AdamwAbRefIdeal.main_arg0)
          ∧ r.2.mem ((c.tc : Thread Cert.AdamwAbRefIdeal.nD Cert.AdamwAbRefIdeal.τ).loc Cert.AdamwAbRefIdeal.main_arg1) = m' ((c.tc : Thread Cert.AdamwAbRefIdeal.nD Cert.AdamwAbRefIdeal.τ).loc Cert.AdamwAbRefIdeal.main_arg1)
          ∧ r.2.mem ((c.tc : Thread Cert.AdamwAbRefIdeal.nD Cert.AdamwAbRefIdeal.τ).loc Cert.AdamwAbRefIdeal.main_arg2) = m' ((c.tc : Thread Cert.AdamwAbRefIdeal.nD Cert.AdamwAbRefIdeal.τ).loc Cert.AdamwAbRefIdeal.main_arg2)
          ∧ r.2.mem ((c.tc : Thread Cert.AdamwAbRefIdeal.nD Cert.AdamwAbRefIdeal.τ).loc Cert.AdamwAbRefIdeal.main_arg3) = m' ((c.tc : Thread Cert.AdamwAbRefIdeal.nD Cert.AdamwAbRefIdeal.τ).loc Cert.AdamwAbRefIdeal.main_arg3))

def preserves_AdamwOut_AdamwOutIdeal : Prop :=
  True

def algebraic_AdamwOutIdeal_AdamwOutRefIdeal [hAdamwOutIdeal : Cert.AdamwOutIdeal.Facts] [hAdamwOutRefIdeal : Cert.AdamwOutRefIdeal.Facts] : Prop :=
  ∀ (m : (ℓ : Loc Cert.AdamwOutIdeal.nD Cert.AdamwOutIdeal.τ Cert.AdamwOutIdeal.sig) → Buf (Elt Ideal) ℓ) (g : Dev Cert.AdamwOutIdeal.nD → PrngReg)
    (m' : (ℓ : Loc Cert.AdamwOutRefIdeal.nD Cert.AdamwOutRefIdeal.τ Cert.AdamwOutRefIdeal.sig) → Buf (Elt Ideal) ℓ) (g' : Dev Cert.AdamwOutRefIdeal.nD → PrngReg), Pre_AdamwOutIdeal m →
    (∀ c : Dev Cert.AdamwOutIdeal.nD,
      m' ((c.tc : Thread Cert.AdamwOutRefIdeal.nD Cert.AdamwOutRefIdeal.τ).loc Cert.AdamwOutRefIdeal.main_arg0) = m ((c.tc : Thread Cert.AdamwOutIdeal.nD Cert.AdamwOutIdeal.τ).loc Cert.AdamwOutIdeal.main_arg0)
      ∧ m' ((c.tc : Thread Cert.AdamwOutRefIdeal.nD Cert.AdamwOutRefIdeal.τ).loc Cert.AdamwOutRefIdeal.main_arg1) = m ((c.tc : Thread Cert.AdamwOutIdeal.nD Cert.AdamwOutIdeal.τ).loc Cert.AdamwOutIdeal.main_arg1)
      ∧ m' ((c.tc : Thread Cert.AdamwOutRefIdeal.nD Cert.AdamwOutRefIdeal.τ).loc Cert.AdamwOutRefIdeal.main_arg2) = m ((c.tc : Thread Cert.AdamwOutIdeal.nD Cert.AdamwOutIdeal.τ).loc Cert.AdamwOutIdeal.main_arg2)
      ∧ m' ((c.tc : Thread Cert.AdamwOutRefIdeal.nD Cert.AdamwOutRefIdeal.τ).loc Cert.AdamwOutRefIdeal.main_arg3) = m ((c.tc : Thread Cert.AdamwOutIdeal.nD Cert.AdamwOutIdeal.τ).loc Cert.AdamwOutIdeal.main_arg3)) →
    ∃ (v0 : (c : Dev Cert.AdamwOutIdeal.nD) → Buf (Elt Ideal) ((c.tc : Thread Cert.AdamwOutIdeal.nD Cert.AdamwOutIdeal.τ).loc Cert.AdamwOutIdeal.main_v0_0)) (v1 : (c : Dev Cert.AdamwOutIdeal.nD) → Buf (Elt Ideal) ((c.tc : Thread Cert.AdamwOutIdeal.nD Cert.AdamwOutIdeal.τ).loc Cert.AdamwOutIdeal.main_v0_1)) (v2 : (c : Dev Cert.AdamwOutIdeal.nD) → Buf (Elt Ideal) ((c.tc : Thread Cert.AdamwOutIdeal.nD Cert.AdamwOutIdeal.τ).loc Cert.AdamwOutIdeal.main_v0_2)),
      θ_run (Cert.AdamwOutIdeal.defs (F := Ideal)) (onTc (τ := Cert.AdamwOutIdeal.τ) (Cert.AdamwOutIdeal.main (F := Ideal))) ⟨m, fun _ => 0, g⟩ (fun r => ∀ c : Dev Cert.AdamwOutIdeal.nD,
          r.2.mem ((c.tc : Thread Cert.AdamwOutIdeal.nD Cert.AdamwOutIdeal.τ).loc Cert.AdamwOutIdeal.main_v0_0) = v0 c
          ∧ r.2.mem ((c.tc : Thread Cert.AdamwOutIdeal.nD Cert.AdamwOutIdeal.τ).loc Cert.AdamwOutIdeal.main_v0_1) = v1 c
          ∧ r.2.mem ((c.tc : Thread Cert.AdamwOutIdeal.nD Cert.AdamwOutIdeal.τ).loc Cert.AdamwOutIdeal.main_v0_2) = v2 c
          ∧ r.2.mem ((c.tc : Thread Cert.AdamwOutIdeal.nD Cert.AdamwOutIdeal.τ).loc Cert.AdamwOutIdeal.main_arg0) = m ((c.tc : Thread Cert.AdamwOutIdeal.nD Cert.AdamwOutIdeal.τ).loc Cert.AdamwOutIdeal.main_arg0)
          ∧ r.2.mem ((c.tc : Thread Cert.AdamwOutIdeal.nD Cert.AdamwOutIdeal.τ).loc Cert.AdamwOutIdeal.main_arg1) = m ((c.tc : Thread Cert.AdamwOutIdeal.nD Cert.AdamwOutIdeal.τ).loc Cert.AdamwOutIdeal.main_arg1)
          ∧ r.2.mem ((c.tc : Thread Cert.AdamwOutIdeal.nD Cert.AdamwOutIdeal.τ).loc Cert.AdamwOutIdeal.main_arg2) = m ((c.tc : Thread Cert.AdamwOutIdeal.nD Cert.AdamwOutIdeal.τ).loc Cert.AdamwOutIdeal.main_arg2)
          ∧ r.2.mem ((c.tc : Thread Cert.AdamwOutIdeal.nD Cert.AdamwOutIdeal.τ).loc Cert.AdamwOutIdeal.main_arg3) = m ((c.tc : Thread Cert.AdamwOutIdeal.nD Cert.AdamwOutIdeal.τ).loc Cert.AdamwOutIdeal.main_arg3))
      ∧ θ_run (Cert.AdamwOutRefIdeal.defs (F := Ideal)) (onTc (τ := Cert.AdamwOutRefIdeal.τ) (Cert.AdamwOutRefIdeal.main (F := Ideal))) ⟨m', fun _ => 0, g'⟩ (fun r => ∀ c : Dev Cert.AdamwOutRefIdeal.nD,
          r.2.mem ((c.tc : Thread Cert.AdamwOutRefIdeal.nD Cert.AdamwOutRefIdeal.τ).loc Cert.AdamwOutRefIdeal.main_v23) = v0 c
          ∧ r.2.mem ((c.tc : Thread Cert.AdamwOutRefIdeal.nD Cert.AdamwOutRefIdeal.τ).loc Cert.AdamwOutRefIdeal.main_v4) = v1 c
          ∧ r.2.mem ((c.tc : Thread Cert.AdamwOutRefIdeal.nD Cert.AdamwOutRefIdeal.τ).loc Cert.AdamwOutRefIdeal.main_v10) = v2 c
          ∧ r.2.mem ((c.tc : Thread Cert.AdamwOutRefIdeal.nD Cert.AdamwOutRefIdeal.τ).loc Cert.AdamwOutRefIdeal.main_arg0) = m' ((c.tc : Thread Cert.AdamwOutRefIdeal.nD Cert.AdamwOutRefIdeal.τ).loc Cert.AdamwOutRefIdeal.main_arg0)
          ∧ r.2.mem ((c.tc : Thread Cert.AdamwOutRefIdeal.nD Cert.AdamwOutRefIdeal.τ).loc Cert.AdamwOutRefIdeal.main_arg1) = m' ((c.tc : Thread Cert.AdamwOutRefIdeal.nD Cert.AdamwOutRefIdeal.τ).loc Cert.AdamwOutRefIdeal.main_arg1)
          ∧ r.2.mem ((c.tc : Thread Cert.AdamwOutRefIdeal.nD Cert.AdamwOutRefIdeal.τ).loc Cert.AdamwOutRefIdeal.main_arg2) = m' ((c.tc : Thread Cert.AdamwOutRefIdeal.nD Cert.AdamwOutRefIdeal.τ).loc Cert.AdamwOutRefIdeal.main_arg2)
          ∧ r.2.mem ((c.tc : Thread Cert.AdamwOutRefIdeal.nD Cert.AdamwOutRefIdeal.τ).loc Cert.AdamwOutRefIdeal.main_arg3) = m' ((c.tc : Thread Cert.AdamwOutRefIdeal.nD Cert.AdamwOutRefIdeal.τ).loc Cert.AdamwOutRefIdeal.main_arg3))

def preserves_AdamwPack_AdamwPackIdeal : Prop :=
  True

def algebraic_AdamwPackIdeal_AdamwPackRefIdeal [hAdamwPackIdeal : Cert.AdamwPackIdeal.Facts] [hAdamwPackRefIdeal : Cert.AdamwPackRefIdeal.Facts] : Prop :=
  ∀ (m : (ℓ : Loc Cert.AdamwPackIdeal.nD Cert.AdamwPackIdeal.τ Cert.AdamwPackIdeal.sig) → Buf (Elt Ideal) ℓ) (g : Dev Cert.AdamwPackIdeal.nD → PrngReg)
    (m' : (ℓ : Loc Cert.AdamwPackRefIdeal.nD Cert.AdamwPackRefIdeal.τ Cert.AdamwPackRefIdeal.sig) → Buf (Elt Ideal) ℓ) (g' : Dev Cert.AdamwPackRefIdeal.nD → PrngReg), Pre_AdamwPackIdeal m →
    (∀ c : Dev Cert.AdamwPackIdeal.nD,
      m' ((c.tc : Thread Cert.AdamwPackRefIdeal.nD Cert.AdamwPackRefIdeal.τ).loc Cert.AdamwPackRefIdeal.main_arg0) = m ((c.tc : Thread Cert.AdamwPackIdeal.nD Cert.AdamwPackIdeal.τ).loc Cert.AdamwPackIdeal.main_arg0)
      ∧ m' ((c.tc : Thread Cert.AdamwPackRefIdeal.nD Cert.AdamwPackRefIdeal.τ).loc Cert.AdamwPackRefIdeal.main_arg1) = m ((c.tc : Thread Cert.AdamwPackIdeal.nD Cert.AdamwPackIdeal.τ).loc Cert.AdamwPackIdeal.main_arg1)
      ∧ m' ((c.tc : Thread Cert.AdamwPackRefIdeal.nD Cert.AdamwPackRefIdeal.τ).loc Cert.AdamwPackRefIdeal.main_arg2) = m ((c.tc : Thread Cert.AdamwPackIdeal.nD Cert.AdamwPackIdeal.τ).loc Cert.AdamwPackIdeal.main_arg2)
      ∧ m' ((c.tc : Thread Cert.AdamwPackRefIdeal.nD Cert.AdamwPackRefIdeal.τ).loc Cert.AdamwPackRefIdeal.main_arg3) = m ((c.tc : Thread Cert.AdamwPackIdeal.nD Cert.AdamwPackIdeal.τ).loc Cert.AdamwPackIdeal.main_arg3)) →
    ∃ (v0 : (c : Dev Cert.AdamwPackIdeal.nD) → Buf (Elt Ideal) ((c.tc : Thread Cert.AdamwPackIdeal.nD Cert.AdamwPackIdeal.τ).loc Cert.AdamwPackIdeal.main_v0_0)) (v1 : (c : Dev Cert.AdamwPackIdeal.nD) → Buf (Elt Ideal) ((c.tc : Thread Cert.AdamwPackIdeal.nD Cert.AdamwPackIdeal.τ).loc Cert.AdamwPackIdeal.main_v0_1)) (v2 : (c : Dev Cert.AdamwPackIdeal.nD) → Buf (Elt Ideal) ((c.tc : Thread Cert.AdamwPackIdeal.nD Cert.AdamwPackIdeal.τ).loc Cert.AdamwPackIdeal.main_v0_2)),
      θ_run (Cert.AdamwPackIdeal.defs (F := Ideal)) (onTc (τ := Cert.AdamwPackIdeal.τ) (Cert.AdamwPackIdeal.main (F := Ideal))) ⟨m, fun _ => 0, g⟩ (fun r => ∀ c : Dev Cert.AdamwPackIdeal.nD,
          r.2.mem ((c.tc : Thread Cert.AdamwPackIdeal.nD Cert.AdamwPackIdeal.τ).loc Cert.AdamwPackIdeal.main_v0_0) = v0 c
          ∧ r.2.mem ((c.tc : Thread Cert.AdamwPackIdeal.nD Cert.AdamwPackIdeal.τ).loc Cert.AdamwPackIdeal.main_v0_1) = v1 c
          ∧ r.2.mem ((c.tc : Thread Cert.AdamwPackIdeal.nD Cert.AdamwPackIdeal.τ).loc Cert.AdamwPackIdeal.main_v0_2) = v2 c
          ∧ r.2.mem ((c.tc : Thread Cert.AdamwPackIdeal.nD Cert.AdamwPackIdeal.τ).loc Cert.AdamwPackIdeal.main_arg0) = m ((c.tc : Thread Cert.AdamwPackIdeal.nD Cert.AdamwPackIdeal.τ).loc Cert.AdamwPackIdeal.main_arg0)
          ∧ r.2.mem ((c.tc : Thread Cert.AdamwPackIdeal.nD Cert.AdamwPackIdeal.τ).loc Cert.AdamwPackIdeal.main_arg1) = m ((c.tc : Thread Cert.AdamwPackIdeal.nD Cert.AdamwPackIdeal.τ).loc Cert.AdamwPackIdeal.main_arg1)
          ∧ r.2.mem ((c.tc : Thread Cert.AdamwPackIdeal.nD Cert.AdamwPackIdeal.τ).loc Cert.AdamwPackIdeal.main_arg2) = m ((c.tc : Thread Cert.AdamwPackIdeal.nD Cert.AdamwPackIdeal.τ).loc Cert.AdamwPackIdeal.main_arg2)
          ∧ r.2.mem ((c.tc : Thread Cert.AdamwPackIdeal.nD Cert.AdamwPackIdeal.τ).loc Cert.AdamwPackIdeal.main_arg3) = m ((c.tc : Thread Cert.AdamwPackIdeal.nD Cert.AdamwPackIdeal.τ).loc Cert.AdamwPackIdeal.main_arg3))
      ∧ θ_run (Cert.AdamwPackRefIdeal.defs (F := Ideal)) (onTc (τ := Cert.AdamwPackRefIdeal.τ) (Cert.AdamwPackRefIdeal.main (F := Ideal))) ⟨m', fun _ => 0, g'⟩ (fun r => ∀ c : Dev Cert.AdamwPackRefIdeal.nD,
          r.2.mem ((c.tc : Thread Cert.AdamwPackRefIdeal.nD Cert.AdamwPackRefIdeal.τ).loc Cert.AdamwPackRefIdeal.main_v23) = v0 c
          ∧ r.2.mem ((c.tc : Thread Cert.AdamwPackRefIdeal.nD Cert.AdamwPackRefIdeal.τ).loc Cert.AdamwPackRefIdeal.main_v4) = v1 c
          ∧ r.2.mem ((c.tc : Thread Cert.AdamwPackRefIdeal.nD Cert.AdamwPackRefIdeal.τ).loc Cert.AdamwPackRefIdeal.main_v10) = v2 c
          ∧ r.2.mem ((c.tc : Thread Cert.AdamwPackRefIdeal.nD Cert.AdamwPackRefIdeal.τ).loc Cert.AdamwPackRefIdeal.main_arg0) = m' ((c.tc : Thread Cert.AdamwPackRefIdeal.nD Cert.AdamwPackRefIdeal.τ).loc Cert.AdamwPackRefIdeal.main_arg0)
          ∧ r.2.mem ((c.tc : Thread Cert.AdamwPackRefIdeal.nD Cert.AdamwPackRefIdeal.τ).loc Cert.AdamwPackRefIdeal.main_arg1) = m' ((c.tc : Thread Cert.AdamwPackRefIdeal.nD Cert.AdamwPackRefIdeal.τ).loc Cert.AdamwPackRefIdeal.main_arg1)
          ∧ r.2.mem ((c.tc : Thread Cert.AdamwPackRefIdeal.nD Cert.AdamwPackRefIdeal.τ).loc Cert.AdamwPackRefIdeal.main_arg2) = m' ((c.tc : Thread Cert.AdamwPackRefIdeal.nD Cert.AdamwPackRefIdeal.τ).loc Cert.AdamwPackRefIdeal.main_arg2)
          ∧ r.2.mem ((c.tc : Thread Cert.AdamwPackRefIdeal.nD Cert.AdamwPackRefIdeal.τ).loc Cert.AdamwPackRefIdeal.main_arg3) = m' ((c.tc : Thread Cert.AdamwPackRefIdeal.nD Cert.AdamwPackRefIdeal.τ).loc Cert.AdamwPackRefIdeal.main_arg3))

def preserves_Sum8Cd_Sum8CdIdeal : Prop :=
  True

def algebraic_Sum8CdIdeal_Sum8CdRefIdeal [hSum8CdIdeal : Cert.Sum8CdIdeal.Facts] [hSum8CdRefIdeal : Cert.Sum8CdRefIdeal.Facts] : Prop :=
  ∀ (m : (ℓ : Loc Cert.Sum8CdIdeal.nD Cert.Sum8CdIdeal.τ Cert.Sum8CdIdeal.sig) → Buf (Elt Ideal) ℓ) (g : Dev Cert.Sum8CdIdeal.nD → PrngReg)
    (m' : (ℓ : Loc Cert.Sum8CdRefIdeal.nD Cert.Sum8CdRefIdeal.τ Cert.Sum8CdRefIdeal.sig) → Buf (Elt Ideal) ℓ) (g' : Dev Cert.Sum8CdRefIdeal.nD → PrngReg), Pre_Sum8CdIdeal m →
    (∀ c : Dev Cert.Sum8CdIdeal.nD,
      m' ((c.tc : Thread Cert.Sum8CdRefIdeal.nD Cert.Sum8CdRefIdeal.τ).loc Cert.Sum8CdRefIdeal.main_arg0) = m ((c.tc : Thread Cert.Sum8CdIdeal.nD Cert.Sum8CdIdeal.τ).loc Cert.Sum8CdIdeal.main_arg0)) →
    ∃ (v0 : (c : Dev Cert.Sum8CdIdeal.nD) → Buf (Elt Ideal) ((c.tc : Thread Cert.Sum8CdIdeal.nD Cert.Sum8CdIdeal.τ).loc Cert.Sum8CdIdeal.main_v0)),
      θ_run (Cert.Sum8CdIdeal.defs (F := Ideal)) (onTc (τ := Cert.Sum8CdIdeal.τ) (Cert.Sum8CdIdeal.main (F := Ideal))) ⟨m, fun _ => 0, g⟩ (fun r => ∀ c : Dev Cert.Sum8CdIdeal.nD,
          r.2.mem ((c.tc : Thread Cert.Sum8CdIdeal.nD Cert.Sum8CdIdeal.τ).loc Cert.Sum8CdIdeal.main_v0) = v0 c
          ∧ r.2.mem ((c.tc : Thread Cert.Sum8CdIdeal.nD Cert.Sum8CdIdeal.τ).loc Cert.Sum8CdIdeal.main_arg0) = m ((c.tc : Thread Cert.Sum8CdIdeal.nD Cert.Sum8CdIdeal.τ).loc Cert.Sum8CdIdeal.main_arg0))
      ∧ θ_run (Cert.Sum8CdRefIdeal.defs (F := Ideal)) (onTc (τ := Cert.Sum8CdRefIdeal.τ) (Cert.Sum8CdRefIdeal.main (F := Ideal))) ⟨m', fun _ => 0, g'⟩ (fun r => ∀ c : Dev Cert.Sum8CdRefIdeal.nD,
          r.2.mem ((c.tc : Thread Cert.Sum8CdRefIdeal.nD Cert.Sum8CdRefIdeal.τ).loc Cert.Sum8CdRefIdeal.main_v1) = v0 c
          ∧ r.2.mem ((c.tc : Thread Cert.Sum8CdRefIdeal.nD Cert.Sum8CdRefIdeal.τ).loc Cert.Sum8CdRefIdeal.main_arg0) = m' ((c.tc : Thread Cert.Sum8CdRefIdeal.nD Cert.Sum8CdRefIdeal.τ).loc Cert.Sum8CdRefIdeal.main_arg0))

def preserves_Sum8Ab_Sum8AbIdeal : Prop :=
  True

def algebraic_Sum8AbIdeal_Sum8AbRefIdeal [hSum8AbIdeal : Cert.Sum8AbIdeal.Facts] [hSum8AbRefIdeal : Cert.Sum8AbRefIdeal.Facts] : Prop :=
  ∀ (m : (ℓ : Loc Cert.Sum8AbIdeal.nD Cert.Sum8AbIdeal.τ Cert.Sum8AbIdeal.sig) → Buf (Elt Ideal) ℓ) (g : Dev Cert.Sum8AbIdeal.nD → PrngReg)
    (m' : (ℓ : Loc Cert.Sum8AbRefIdeal.nD Cert.Sum8AbRefIdeal.τ Cert.Sum8AbRefIdeal.sig) → Buf (Elt Ideal) ℓ) (g' : Dev Cert.Sum8AbRefIdeal.nD → PrngReg), Pre_Sum8AbIdeal m →
    (∀ c : Dev Cert.Sum8AbIdeal.nD,
      m' ((c.tc : Thread Cert.Sum8AbRefIdeal.nD Cert.Sum8AbRefIdeal.τ).loc Cert.Sum8AbRefIdeal.main_arg0) = m ((c.tc : Thread Cert.Sum8AbIdeal.nD Cert.Sum8AbIdeal.τ).loc Cert.Sum8AbIdeal.main_arg0)) →
    ∃ (v0 : (c : Dev Cert.Sum8AbIdeal.nD) → Buf (Elt Ideal) ((c.tc : Thread Cert.Sum8AbIdeal.nD Cert.Sum8AbIdeal.τ).loc Cert.Sum8AbIdeal.main_v0)),
      θ_run (Cert.Sum8AbIdeal.defs (F := Ideal)) (onTc (τ := Cert.Sum8AbIdeal.τ) (Cert.Sum8AbIdeal.main (F := Ideal))) ⟨m, fun _ => 0, g⟩ (fun r => ∀ c : Dev Cert.Sum8AbIdeal.nD,
          r.2.mem ((c.tc : Thread Cert.Sum8AbIdeal.nD Cert.Sum8AbIdeal.τ).loc Cert.Sum8AbIdeal.main_v0) = v0 c
          ∧ r.2.mem ((c.tc : Thread Cert.Sum8AbIdeal.nD Cert.Sum8AbIdeal.τ).loc Cert.Sum8AbIdeal.main_arg0) = m ((c.tc : Thread Cert.Sum8AbIdeal.nD Cert.Sum8AbIdeal.τ).loc Cert.Sum8AbIdeal.main_arg0))
      ∧ θ_run (Cert.Sum8AbRefIdeal.defs (F := Ideal)) (onTc (τ := Cert.Sum8AbRefIdeal.τ) (Cert.Sum8AbRefIdeal.main (F := Ideal))) ⟨m', fun _ => 0, g'⟩ (fun r => ∀ c : Dev Cert.Sum8AbRefIdeal.nD,
          r.2.mem ((c.tc : Thread Cert.Sum8AbRefIdeal.nD Cert.Sum8AbRefIdeal.τ).loc Cert.Sum8AbRefIdeal.main_v1) = v0 c
          ∧ r.2.mem ((c.tc : Thread Cert.Sum8AbRefIdeal.nD Cert.Sum8AbRefIdeal.τ).loc Cert.Sum8AbRefIdeal.main_arg0) = m' ((c.tc : Thread Cert.Sum8AbRefIdeal.nD Cert.Sum8AbRefIdeal.τ).loc Cert.Sum8AbRefIdeal.main_arg0))

def preserves_Sum8Out_Sum8OutIdeal : Prop :=
  True

def algebraic_Sum8OutIdeal_Sum8OutRefIdeal [hSum8OutIdeal : Cert.Sum8OutIdeal.Facts] [hSum8OutRefIdeal : Cert.Sum8OutRefIdeal.Facts] : Prop :=
  ∀ (m : (ℓ : Loc Cert.Sum8OutIdeal.nD Cert.Sum8OutIdeal.τ Cert.Sum8OutIdeal.sig) → Buf (Elt Ideal) ℓ) (g : Dev Cert.Sum8OutIdeal.nD → PrngReg)
    (m' : (ℓ : Loc Cert.Sum8OutRefIdeal.nD Cert.Sum8OutRefIdeal.τ Cert.Sum8OutRefIdeal.sig) → Buf (Elt Ideal) ℓ) (g' : Dev Cert.Sum8OutRefIdeal.nD → PrngReg), Pre_Sum8OutIdeal m →
    (∀ c : Dev Cert.Sum8OutIdeal.nD,
      m' ((c.tc : Thread Cert.Sum8OutRefIdeal.nD Cert.Sum8OutRefIdeal.τ).loc Cert.Sum8OutRefIdeal.main_arg0) = m ((c.tc : Thread Cert.Sum8OutIdeal.nD Cert.Sum8OutIdeal.τ).loc Cert.Sum8OutIdeal.main_arg0)) →
    ∃ (v0 : (c : Dev Cert.Sum8OutIdeal.nD) → Buf (Elt Ideal) ((c.tc : Thread Cert.Sum8OutIdeal.nD Cert.Sum8OutIdeal.τ).loc Cert.Sum8OutIdeal.main_v0)),
      θ_run (Cert.Sum8OutIdeal.defs (F := Ideal)) (onTc (τ := Cert.Sum8OutIdeal.τ) (Cert.Sum8OutIdeal.main (F := Ideal))) ⟨m, fun _ => 0, g⟩ (fun r => ∀ c : Dev Cert.Sum8OutIdeal.nD,
          r.2.mem ((c.tc : Thread Cert.Sum8OutIdeal.nD Cert.Sum8OutIdeal.τ).loc Cert.Sum8OutIdeal.main_v0) = v0 c
          ∧ r.2.mem ((c.tc : Thread Cert.Sum8OutIdeal.nD Cert.Sum8OutIdeal.τ).loc Cert.Sum8OutIdeal.main_arg0) = m ((c.tc : Thread Cert.Sum8OutIdeal.nD Cert.Sum8OutIdeal.τ).loc Cert.Sum8OutIdeal.main_arg0))
      ∧ θ_run (Cert.Sum8OutRefIdeal.defs (F := Ideal)) (onTc (τ := Cert.Sum8OutRefIdeal.τ) (Cert.Sum8OutRefIdeal.main (F := Ideal))) ⟨m', fun _ => 0, g'⟩ (fun r => ∀ c : Dev Cert.Sum8OutRefIdeal.nD,
          r.2.mem ((c.tc : Thread Cert.Sum8OutRefIdeal.nD Cert.Sum8OutRefIdeal.τ).loc Cert.Sum8OutRefIdeal.main_v1) = v0 c
          ∧ r.2.mem ((c.tc : Thread Cert.Sum8OutRefIdeal.nD Cert.Sum8OutRefIdeal.τ).loc Cert.Sum8OutRefIdeal.main_arg0) = m' ((c.tc : Thread Cert.Sum8OutRefIdeal.nD Cert.Sum8OutRefIdeal.τ).loc Cert.Sum8OutRefIdeal.main_arg0))

def Claim : Prop :=
  ∃ (hLoss : Cert.Loss.Facts) (hLossIdeal : Cert.LossIdeal.Facts) (hLossRefIdeal : Cert.LossRefIdeal.Facts) (hFfn : Cert.Ffn.Facts) (hFfnIdeal : Cert.FfnIdeal.Facts) (hFfnRefIdeal : Cert.FfnRefIdeal.Facts) (hInAbBwd : Cert.InAbBwd.Facts) (hInAbBwdIdeal : Cert.InAbBwdIdeal.Facts) (hInAbBwdRefIdeal : Cert.InAbBwdRefIdeal.Facts) (hInCdBwd : Cert.InCdBwd.Facts) (hInCdBwdIdeal : Cert.InCdBwdIdeal.Facts) (hInCdBwdRefIdeal : Cert.InCdBwdRefIdeal.Facts) (hScConvBwd : Cert.ScConvBwd.Facts) (hScConvBwdIdeal : Cert.ScConvBwdIdeal.Facts) (hScConvBwdRefIdeal : Cert.ScConvBwdRefIdeal.Facts) (hDnConvBwd : Cert.DnConvBwd.Facts) (hDnConvBwdIdeal : Cert.DnConvBwdIdeal.Facts) (hDnConvBwdRefIdeal : Cert.DnConvBwdRefIdeal.Facts) (hPoolBwd : Cert.PoolBwd.Facts) (hPoolBwdIdeal : Cert.PoolBwdIdeal.Facts) (hPoolBwdRefIdeal : Cert.PoolBwdRefIdeal.Facts) (hSguBwd : Cert.SguBwd.Facts) (hSguBwdIdeal : Cert.SguBwdIdeal.Facts) (hSguBwdRefIdeal : Cert.SguBwdRefIdeal.Facts) (hDnRecurFwd : Cert.DnRecurFwd.Facts) (hDnRecurFwdIdeal : Cert.DnRecurFwdIdeal.Facts) (hDnRecurFwdRefIdeal : Cert.DnRecurFwdRefIdeal.Facts) (hScConvFwd : Cert.ScConvFwd.Facts) (hScConvFwdIdeal : Cert.ScConvFwdIdeal.Facts) (hScConvFwdRefIdeal : Cert.ScConvFwdRefIdeal.Facts) (hDnConvFwd : Cert.DnConvFwd.Facts) (hDnConvFwdIdeal : Cert.DnConvFwdIdeal.Facts) (hDnConvFwdRefIdeal : Cert.DnConvFwdRefIdeal.Facts) (hPoolFwd : Cert.PoolFwd.Facts) (hPoolFwdIdeal : Cert.PoolFwdIdeal.Facts) (hPoolFwdRefIdeal : Cert.PoolFwdRefIdeal.Facts) (hSguFwd : Cert.SguFwd.Facts) (hSguFwdIdeal : Cert.SguFwdIdeal.Facts) (hSguFwdRefIdeal : Cert.SguFwdRefIdeal.Facts) (hDnPrepFwd : Cert.DnPrepFwd.Facts) (hDnPrepFwdIdeal : Cert.DnPrepFwdIdeal.Facts) (hDnPrepFwdRefIdeal : Cert.DnPrepFwdRefIdeal.Facts) (hInAbFwd : Cert.InAbFwd.Facts) (hInAbFwdIdeal : Cert.InAbFwdIdeal.Facts) (hInAbFwdRefIdeal : Cert.InAbFwdRefIdeal.Facts) (hInCdFwd : Cert.InCdFwd.Facts) (hInCdFwdIdeal : Cert.InCdFwdIdeal.Facts) (hInCdFwdRefIdeal : Cert.InCdFwdRefIdeal.Facts) (hOutFwd : Cert.OutFwd.Facts) (hOutFwdIdeal : Cert.OutFwdIdeal.Facts) (hOutFwdRefIdeal : Cert.OutFwdRefIdeal.Facts) (hOutBwd : Cert.OutBwd.Facts) (hOutBwdIdeal : Cert.OutBwdIdeal.Facts) (hOutBwdRefIdeal : Cert.OutBwdRefIdeal.Facts) (hWgrad : Cert.Wgrad.Facts) (hWgradIdeal : Cert.WgradIdeal.Facts) (hWgradRefIdeal : Cert.WgradRefIdeal.Facts) (hAdamw : Cert.Adamw.Facts) (hAdamwIdeal : Cert.AdamwIdeal.Facts) (hAdamwRefIdeal : Cert.AdamwRefIdeal.Facts) (hSum8 : Cert.Sum8.Facts) (hSum8Ideal : Cert.Sum8Ideal.Facts) (hSum8RefIdeal : Cert.Sum8RefIdeal.Facts) (hSumSlots : Cert.SumSlots.Facts) (hSumSlotsIdeal : Cert.SumSlotsIdeal.Facts) (hSumSlotsRefIdeal : Cert.SumSlotsRefIdeal.Facts) (hAdamwUp : Cert.AdamwUp.Facts) (hAdamwUpIdeal : Cert.AdamwUpIdeal.Facts) (hAdamwUpRefIdeal : Cert.AdamwUpRefIdeal.Facts) (hAdamwCd : Cert.AdamwCd.Facts) (hAdamwCdIdeal : Cert.AdamwCdIdeal.Facts) (hAdamwCdRefIdeal : Cert.AdamwCdRefIdeal.Facts) (hAdamwAb : Cert.AdamwAb.Facts) (hAdamwAbIdeal : Cert.AdamwAbIdeal.Facts) (hAdamwAbRefIdeal : Cert.AdamwAbRefIdeal.Facts) (hAdamwOut : Cert.AdamwOut.Facts) (hAdamwOutIdeal : Cert.AdamwOutIdeal.Facts) (hAdamwOutRefIdeal : Cert.AdamwOutRefIdeal.Facts) (hAdamwPack : Cert.AdamwPack.Facts) (hAdamwPackIdeal : Cert.AdamwPackIdeal.Facts) (hAdamwPackRefIdeal : Cert.AdamwPackRefIdeal.Facts) (hSum8Cd : Cert.Sum8Cd.Facts) (hSum8CdIdeal : Cert.Sum8CdIdeal.Facts) (hSum8CdRefIdeal : Cert.Sum8CdRefIdeal.Facts) (hSum8Ab : Cert.Sum8Ab.Facts) (hSum8AbIdeal : Cert.Sum8AbIdeal.Facts) (hSum8AbRefIdeal : Cert.Sum8AbRefIdeal.Facts) (hSum8Out : Cert.Sum8Out.Facts) (hSum8OutIdeal : Cert.Sum8OutIdeal.Facts) (hSum8OutRefIdeal : Cert.Sum8OutRefIdeal.Facts) (hPre_finite_ffn : Cert.Pre_finite_ffn.Facts) (hPre_finite_pool : Cert.Pre_finite_pool.Facts) (hPre_finite_pool_fwd : Cert.Pre_finite_pool_fwd.Facts) (hPre_finite_prep : Cert.Pre_finite_prep.Facts),
    quiescent_Loss (hLoss := hLoss)
    ∧ quiescent_LossIdeal (hLossIdeal := hLossIdeal)
    ∧ quiescent_LossRefIdeal (hLossRefIdeal := hLossRefIdeal)
    ∧ quiescent_Ffn (hFfn := hFfn)
    ∧ quiescent_FfnIdeal (hFfnIdeal := hFfnIdeal)
    ∧ quiescent_FfnIdeal_pre_finite_ffn (hFfnIdeal := hFfnIdeal) (hPre_finite_ffn := hPre_finite_ffn)
    ∧ quiescent_FfnRefIdeal (hFfnRefIdeal := hFfnRefIdeal)
    ∧ quiescent_FfnRefIdeal_pre_finite_ffn (hFfnRefIdeal := hFfnRefIdeal) (hPre_finite_ffn := hPre_finite_ffn)
    ∧ quiescent_InAbBwd (hInAbBwd := hInAbBwd)
    ∧ quiescent_InAbBwdIdeal (hInAbBwdIdeal := hInAbBwdIdeal)
    ∧ quiescent_InAbBwdRefIdeal (hInAbBwdRefIdeal := hInAbBwdRefIdeal)
    ∧ quiescent_InCdBwd (hInCdBwd := hInCdBwd)
    ∧ quiescent_InCdBwdIdeal (hInCdBwdIdeal := hInCdBwdIdeal)
    ∧ quiescent_InCdBwdRefIdeal (hInCdBwdRefIdeal := hInCdBwdRefIdeal)
    ∧ quiescent_ScConvBwd (hScConvBwd := hScConvBwd)
    ∧ quiescent_ScConvBwdIdeal (hScConvBwdIdeal := hScConvBwdIdeal)
    ∧ quiescent_ScConvBwdRefIdeal (hScConvBwdRefIdeal := hScConvBwdRefIdeal)
    ∧ quiescent_DnConvBwd (hDnConvBwd := hDnConvBwd)
    ∧ quiescent_DnConvBwdIdeal (hDnConvBwdIdeal := hDnConvBwdIdeal)
    ∧ quiescent_DnConvBwdRefIdeal (hDnConvBwdRefIdeal := hDnConvBwdRefIdeal)
    ∧ quiescent_PoolBwd (hPoolBwd := hPoolBwd)
    ∧ quiescent_PoolBwdIdeal (hPoolBwdIdeal := hPoolBwdIdeal)
    ∧ quiescent_PoolBwdIdeal_pre_finite_pool (hPoolBwdIdeal := hPoolBwdIdeal) (hPre_finite_pool := hPre_finite_pool)
    ∧ quiescent_PoolBwdRefIdeal (hPoolBwdRefIdeal := hPoolBwdRefIdeal)
    ∧ quiescent_PoolBwdRefIdeal_pre_finite_pool (hPoolBwdRefIdeal := hPoolBwdRefIdeal) (hPre_finite_pool := hPre_finite_pool)
    ∧ quiescent_SguBwd (hSguBwd := hSguBwd)
    ∧ quiescent_SguBwdIdeal (hSguBwdIdeal := hSguBwdIdeal)
    ∧ quiescent_SguBwdRefIdeal (hSguBwdRefIdeal := hSguBwdRefIdeal)
    ∧ quiescent_DnRecurFwd (hDnRecurFwd := hDnRecurFwd)
    ∧ quiescent_DnRecurFwdIdeal (hDnRecurFwdIdeal := hDnRecurFwdIdeal)
    ∧ quiescent_DnRecurFwdRefIdeal (hDnRecurFwdRefIdeal := hDnRecurFwdRefIdeal)
    ∧ quiescent_ScConvFwd (hScConvFwd := hScConvFwd)
    ∧ quiescent_ScConvFwdIdeal (hScConvFwdIdeal := hScConvFwdIdeal)
    ∧ quiescent_ScConvFwdRefIdeal (hScConvFwdRefIdeal := hScConvFwdRefIdeal)
    ∧ quiescent_DnConvFwd (hDnConvFwd := hDnConvFwd)
    ∧ quiescent_DnConvFwdIdeal (hDnConvFwdIdeal := hDnConvFwdIdeal)
    ∧ quiescent_DnConvFwdRefIdeal (hDnConvFwdRefIdeal := hDnConvFwdRefIdeal)
    ∧ quiescent_PoolFwd (hPoolFwd := hPoolFwd)
    ∧ quiescent_PoolFwdIdeal (hPoolFwdIdeal := hPoolFwdIdeal)
    ∧ quiescent_PoolFwdIdeal_pre_finite_pool_fwd (hPoolFwdIdeal := hPoolFwdIdeal) (hPre_finite_pool_fwd := hPre_finite_pool_fwd)
    ∧ quiescent_PoolFwdRefIdeal (hPoolFwdRefIdeal := hPoolFwdRefIdeal)
    ∧ quiescent_PoolFwdRefIdeal_pre_finite_pool_fwd (hPoolFwdRefIdeal := hPoolFwdRefIdeal) (hPre_finite_pool_fwd := hPre_finite_pool_fwd)
    ∧ quiescent_SguFwd (hSguFwd := hSguFwd)
    ∧ quiescent_SguFwdIdeal (hSguFwdIdeal := hSguFwdIdeal)
    ∧ quiescent_SguFwdRefIdeal (hSguFwdRefIdeal := hSguFwdRefIdeal)
    ∧ quiescent_DnPrepFwd (hDnPrepFwd := hDnPrepFwd)
    ∧ quiescent_DnPrepFwdIdeal (hDnPrepFwdIdeal := hDnPrepFwdIdeal)
    ∧ quiescent_DnPrepFwdIdeal_pre_finite_prep (hDnPrepFwdIdeal := hDnPrepFwdIdeal) (hPre_finite_prep := hPre_finite_prep)
    ∧ quiescent_DnPrepFwdRefIdeal (hDnPrepFwdRefIdeal := hDnPrepFwdRefIdeal)
    ∧ quiescent_DnPrepFwdRefIdeal_pre_finite_prep (hDnPrepFwdRefIdeal := hDnPrepFwdRefIdeal) (hPre_finite_prep := hPre_finite_prep)
    ∧ quiescent_InAbFwd (hInAbFwd := hInAbFwd)
    ∧ quiescent_InAbFwdIdeal (hInAbFwdIdeal := hInAbFwdIdeal)
    ∧ quiescent_InAbFwdRefIdeal (hInAbFwdRefIdeal := hInAbFwdRefIdeal)
    ∧ quiescent_InCdFwd (hInCdFwd := hInCdFwd)
    ∧ quiescent_InCdFwdIdeal (hInCdFwdIdeal := hInCdFwdIdeal)
    ∧ quiescent_InCdFwdRefIdeal (hInCdFwdRefIdeal := hInCdFwdRefIdeal)
    ∧ quiescent_OutFwd (hOutFwd := hOutFwd)
    ∧ quiescent_OutFwdIdeal (hOutFwdIdeal := hOutFwdIdeal)
    ∧ quiescent_OutFwdRefIdeal (hOutFwdRefIdeal := hOutFwdRefIdeal)
    ∧ quiescent_OutBwd (hOutBwd := hOutBwd)
    ∧ quiescent_OutBwdIdeal (hOutBwdIdeal := hOutBwdIdeal)
    ∧ quiescent_OutBwdRefIdeal (hOutBwdRefIdeal := hOutBwdRefIdeal)
    ∧ quiescent_Wgrad (hWgrad := hWgrad)
    ∧ quiescent_WgradIdeal (hWgradIdeal := hWgradIdeal)
    ∧ quiescent_WgradRefIdeal (hWgradRefIdeal := hWgradRefIdeal)
    ∧ quiescent_Adamw (hAdamw := hAdamw)
    ∧ quiescent_AdamwIdeal (hAdamwIdeal := hAdamwIdeal)
    ∧ quiescent_AdamwRefIdeal (hAdamwRefIdeal := hAdamwRefIdeal)
    ∧ quiescent_Sum8 (hSum8 := hSum8)
    ∧ quiescent_Sum8Ideal (hSum8Ideal := hSum8Ideal)
    ∧ quiescent_Sum8RefIdeal (hSum8RefIdeal := hSum8RefIdeal)
    ∧ quiescent_SumSlots (hSumSlots := hSumSlots)
    ∧ quiescent_SumSlotsIdeal (hSumSlotsIdeal := hSumSlotsIdeal)
    ∧ quiescent_SumSlotsRefIdeal (hSumSlotsRefIdeal := hSumSlotsRefIdeal)
    ∧ quiescent_AdamwUp (hAdamwUp := hAdamwUp)
    ∧ quiescent_AdamwUpIdeal (hAdamwUpIdeal := hAdamwUpIdeal)
    ∧ quiescent_AdamwUpRefIdeal (hAdamwUpRefIdeal := hAdamwUpRefIdeal)
    ∧ quiescent_AdamwCd (hAdamwCd := hAdamwCd)
    ∧ quiescent_AdamwCdIdeal (hAdamwCdIdeal := hAdamwCdIdeal)
    ∧ quiescent_AdamwCdRefIdeal (hAdamwCdRefIdeal := hAdamwCdRefIdeal)
    ∧ quiescent_AdamwAb (hAdamwAb := hAdamwAb)
    ∧ quiescent_AdamwAbIdeal (hAdamwAbIdeal := hAdamwAbIdeal)
    ∧ quiescent_AdamwAbRefIdeal (hAdamwAbRefIdeal := hAdamwAbRefIdeal)
    ∧ quiescent_AdamwOut (hAdamwOut := hAdamwOut)
    ∧ quiescent_AdamwOutIdeal (hAdamwOutIdeal := hAdamwOutIdeal)
    ∧ quiescent_AdamwOutRefIdeal (hAdamwOutRefIdeal := hAdamwOutRefIdeal)
    ∧ quiescent_AdamwPack (hAdamwPack := hAdamwPack)
    ∧ quiescent_AdamwPackIdeal (hAdamwPackIdeal := hAdamwPackIdeal)
    ∧ quiescent_AdamwPackRefIdeal (hAdamwPackRefIdeal := hAdamwPackRefIdeal)
    ∧ quiescent_Sum8Cd (hSum8Cd := hSum8Cd)
    ∧ quiescent_Sum8CdIdeal (hSum8CdIdeal := hSum8CdIdeal)
    ∧ quiescent_Sum8CdRefIdeal (hSum8CdRefIdeal := hSum8CdRefIdeal)
    ∧ quiescent_Sum8Ab (hSum8Ab := hSum8Ab)
    ∧ quiescent_Sum8AbIdeal (hSum8AbIdeal := hSum8AbIdeal)
    ∧ quiescent_Sum8AbRefIdeal (hSum8AbRefIdeal := hSum8AbRefIdeal)
    ∧ quiescent_Sum8Out (hSum8Out := hSum8Out)
    ∧ quiescent_Sum8OutIdeal (hSum8OutIdeal := hSum8OutIdeal)
    ∧ quiescent_Sum8OutRefIdeal (hSum8OutRefIdeal := hSum8OutRefIdeal)
    ∧ preserves_Loss_LossIdeal
    ∧ algebraic_LossIdeal_LossRefIdeal (hLossIdeal := hLossIdeal) (hLossRefIdeal := hLossRefIdeal)
    ∧ preserves_Ffn_FfnIdeal
    ∧ algebraic_FfnIdeal_FfnRefIdeal_pre_finite_ffn (hFfnIdeal := hFfnIdeal) (hFfnRefIdeal := hFfnRefIdeal) (hPre_finite_ffn := hPre_finite_ffn)
    ∧ preserves_InAbBwd_InAbBwdIdeal
    ∧ algebraic_InAbBwdIdeal_InAbBwdRefIdeal (hInAbBwdIdeal := hInAbBwdIdeal) (hInAbBwdRefIdeal := hInAbBwdRefIdeal)
    ∧ preserves_InCdBwd_InCdBwdIdeal
    ∧ algebraic_InCdBwdIdeal_InCdBwdRefIdeal (hInCdBwdIdeal := hInCdBwdIdeal) (hInCdBwdRefIdeal := hInCdBwdRefIdeal)
    ∧ preserves_ScConvBwd_ScConvBwdIdeal
    ∧ algebraic_ScConvBwdIdeal_ScConvBwdRefIdeal (hScConvBwdIdeal := hScConvBwdIdeal) (hScConvBwdRefIdeal := hScConvBwdRefIdeal)
    ∧ preserves_DnConvBwd_DnConvBwdIdeal
    ∧ algebraic_DnConvBwdIdeal_DnConvBwdRefIdeal (hDnConvBwdIdeal := hDnConvBwdIdeal) (hDnConvBwdRefIdeal := hDnConvBwdRefIdeal)
    ∧ preserves_PoolBwd_PoolBwdIdeal
    ∧ algebraic_PoolBwdIdeal_PoolBwdRefIdeal_pre_finite_pool (hPoolBwdIdeal := hPoolBwdIdeal) (hPoolBwdRefIdeal := hPoolBwdRefIdeal) (hPre_finite_pool := hPre_finite_pool)
    ∧ preserves_SguBwd_SguBwdIdeal
    ∧ algebraic_SguBwdIdeal_SguBwdRefIdeal (hSguBwdIdeal := hSguBwdIdeal) (hSguBwdRefIdeal := hSguBwdRefIdeal)
    ∧ preserves_DnRecurFwd_DnRecurFwdIdeal
    ∧ algebraic_DnRecurFwdIdeal_DnRecurFwdRefIdeal (hDnRecurFwdIdeal := hDnRecurFwdIdeal) (hDnRecurFwdRefIdeal := hDnRecurFwdRefIdeal)
    ∧ preserves_ScConvFwd_ScConvFwdIdeal
    ∧ algebraic_ScConvFwdIdeal_ScConvFwdRefIdeal (hScConvFwdIdeal := hScConvFwdIdeal) (hScConvFwdRefIdeal := hScConvFwdRefIdeal)
    ∧ preserves_DnConvFwd_DnConvFwdIdeal
    ∧ algebraic_DnConvFwdIdeal_DnConvFwdRefIdeal (hDnConvFwdIdeal := hDnConvFwdIdeal) (hDnConvFwdRefIdeal := hDnConvFwdRefIdeal)
    ∧ preserves_PoolFwd_PoolFwdIdeal
    ∧ algebraic_PoolFwdIdeal_PoolFwdRefIdeal_pre_finite_pool_fwd (hPoolFwdIdeal := hPoolFwdIdeal) (hPoolFwdRefIdeal := hPoolFwdRefIdeal) (hPre_finite_pool_fwd := hPre_finite_pool_fwd)
    ∧ preserves_SguFwd_SguFwdIdeal
    ∧ algebraic_SguFwdIdeal_SguFwdRefIdeal (hSguFwdIdeal := hSguFwdIdeal) (hSguFwdRefIdeal := hSguFwdRefIdeal)
    ∧ preserves_DnPrepFwd_DnPrepFwdIdeal
    ∧ algebraic_DnPrepFwdIdeal_DnPrepFwdRefIdeal_pre_finite_prep (hDnPrepFwdIdeal := hDnPrepFwdIdeal) (hDnPrepFwdRefIdeal := hDnPrepFwdRefIdeal) (hPre_finite_prep := hPre_finite_prep)
    ∧ preserves_InAbFwd_InAbFwdIdeal
    ∧ algebraic_InAbFwdIdeal_InAbFwdRefIdeal (hInAbFwdIdeal := hInAbFwdIdeal) (hInAbFwdRefIdeal := hInAbFwdRefIdeal)
    ∧ preserves_InCdFwd_InCdFwdIdeal
    ∧ algebraic_InCdFwdIdeal_InCdFwdRefIdeal (hInCdFwdIdeal := hInCdFwdIdeal) (hInCdFwdRefIdeal := hInCdFwdRefIdeal)
    ∧ preserves_OutFwd_OutFwdIdeal
    ∧ algebraic_OutFwdIdeal_OutFwdRefIdeal (hOutFwdIdeal := hOutFwdIdeal) (hOutFwdRefIdeal := hOutFwdRefIdeal)
    ∧ preserves_OutBwd_OutBwdIdeal
    ∧ algebraic_OutBwdIdeal_OutBwdRefIdeal (hOutBwdIdeal := hOutBwdIdeal) (hOutBwdRefIdeal := hOutBwdRefIdeal)
    ∧ preserves_Wgrad_WgradIdeal
    ∧ algebraic_WgradIdeal_WgradRefIdeal (hWgradIdeal := hWgradIdeal) (hWgradRefIdeal := hWgradRefIdeal)
    ∧ preserves_Adamw_AdamwIdeal
    ∧ algebraic_AdamwIdeal_AdamwRefIdeal (hAdamwIdeal := hAdamwIdeal) (hAdamwRefIdeal := hAdamwRefIdeal)
    ∧ preserves_Sum8_Sum8Ideal
    ∧ algebraic_Sum8Ideal_Sum8RefIdeal (hSum8Ideal := hSum8Ideal) (hSum8RefIdeal := hSum8RefIdeal)
    ∧ preserves_SumSlots_SumSlotsIdeal
    ∧ algebraic_SumSlotsIdeal_SumSlotsRefIdeal (hSumSlotsIdeal := hSumSlotsIdeal) (hSumSlotsRefIdeal := hSumSlotsRefIdeal)
    ∧ preserves_AdamwUp_AdamwUpIdeal
    ∧ algebraic_AdamwUpIdeal_AdamwUpRefIdeal (hAdamwUpIdeal := hAdamwUpIdeal) (hAdamwUpRefIdeal := hAdamwUpRefIdeal)
    ∧ preserves_AdamwCd_AdamwCdIdeal
    ∧ algebraic_AdamwCdIdeal_AdamwCdRefIdeal (hAdamwCdIdeal := hAdamwCdIdeal) (hAdamwCdRefIdeal := hAdamwCdRefIdeal)
    ∧ preserves_AdamwAb_AdamwAbIdeal
    ∧ algebraic_AdamwAbIdeal_AdamwAbRefIdeal (hAdamwAbIdeal := hAdamwAbIdeal) (hAdamwAbRefIdeal := hAdamwAbRefIdeal)
    ∧ preserves_AdamwOut_AdamwOutIdeal
    ∧ algebraic_AdamwOutIdeal_AdamwOutRefIdeal (hAdamwOutIdeal := hAdamwOutIdeal) (hAdamwOutRefIdeal := hAdamwOutRefIdeal)
    ∧ preserves_AdamwPack_AdamwPackIdeal
    ∧ algebraic_AdamwPackIdeal_AdamwPackRefIdeal (hAdamwPackIdeal := hAdamwPackIdeal) (hAdamwPackRefIdeal := hAdamwPackRefIdeal)
    ∧ preserves_Sum8Cd_Sum8CdIdeal
    ∧ algebraic_Sum8CdIdeal_Sum8CdRefIdeal (hSum8CdIdeal := hSum8CdIdeal) (hSum8CdRefIdeal := hSum8CdRefIdeal)
    ∧ preserves_Sum8Ab_Sum8AbIdeal
    ∧ algebraic_Sum8AbIdeal_Sum8AbRefIdeal (hSum8AbIdeal := hSum8AbIdeal) (hSum8AbRefIdeal := hSum8AbRefIdeal)
    ∧ preserves_Sum8Out_Sum8OutIdeal
    ∧ algebraic_Sum8OutIdeal_Sum8OutRefIdeal (hSum8OutIdeal := hSum8OutIdeal) (hSum8OutRefIdeal := hSum8OutRefIdeal)
-- ==== Pre_finite_ffn.lean ====
abbrev S4x2048x1024 : Shape := ⟨3, ![4, 2048, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S1024 : S_.BroadcastsInDim S1024 (![] : Fin 0 → Fin S1024.rank)
  bcast_S_S1024x2816 : S_.BroadcastsInDim S1024x2816 (![] : Fin 0 → Fin S1024x2816.rank)
  bcast_S_S2816x1024 : S_.BroadcastsInDim S2816x1024 (![] : Fin 0 → Fin S2816x1024.rank)
  bcast_S_S4x2048x1024 : S_.BroadcastsInDim S4x2048x1024 (![] : Fin 0 → Fin S4x2048x1024.rank)

variable [Facts]

def fn {F : FTy → Type} [FloatOps F] (main_arg0 : FVec F S4x2048x1024 .f32) (main_arg1 : FVec F S1024 .f32) (main_arg2 : FVec F S1024x2816 .f32) (main_arg3 : FVec F S1024x2816 .f32) (main_arg4 : FVec F S2816x1024 .f32) (main_arg5 : FVec F S4x2048x1024 .f32) : IVec S1024 1 × IVec S1024x2816 1 × IVec S2816x1024 1 × IVec S4x2048x1024 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x2816 .f32 := Host.absf main_arg3
  let main_cst_0 : FVec F S_ .f32 := constant S_ .f32 0x7F800000#32
  let main_v4 : FVec F S1024x2816 .f32 := broadcastInDim S1024x2816 ![] bcast_S_S1024x2816 main_cst_0
  let main_v5 : IVec S1024x2816 1 := cmpf .olt main_v3 main_v4
  let main_v6 : FVec F S2816x1024 .f32 := Host.absf main_arg4
  let main_cst_1 : FVec F S_ .f32 := constant S_ .f32 0x7F800000#32
  let main_v7 : FVec F S2816x1024 .f32 := broadcastInDim S2816x1024 ![] bcast_S_S2816x1024 main_cst_1
  let main_v8 : IVec S2816x1024 1 := cmpf .olt main_v6 main_v7
  let main_v9 : FVec F S4x2048x1024 .f32 := Host.absf main_arg5
  let main_cst_2 : FVec F S_ .f32 := constant S_ .f32 0x7F800000#32
  let main_v10 : FVec F S4x2048x1024 .f32 := broadcastInDim S4x2048x1024 ![] bcast_S_S4x2048x1024 main_cst_2
  let main_v11 : IVec S4x2048x1024 1 := cmpf .olt main_v9 main_v10
  (main_v2, main_v5, main_v8, main_v11)
-- ==== Pre_finite_pool.lean ====
abbrev S4x2048x512 : Shape := ⟨3, ![4, 2048, 512]⟩
abbrev S4x128x128 : Shape := ⟨3, ![4, 128, 128]⟩
abbrev S512 : Shape := ⟨1, ![512]⟩
abbrev S_ : Shape := ⟨0, ![]⟩

class Facts : Prop where
  bcast_S_S4x2048x512 : S_.BroadcastsInDim S4x2048x512 (![] : Fin 0 → Fin S4x2048x512.rank)
  bcast_S_S4x128x128 : S_.BroadcastsInDim S4x128x128 (![] : Fin 0 → Fin S4x128x128.rank)
  bcast_S_S512 : S_.BroadcastsInDim S512 (![] : Fin 0 → Fin S512.rank)

variable [Facts]

def fn {F : FTy → Type} [FloatOps F] (main_arg0 : FVec F S4x2048x512 .f32) (main_arg1 : FVec F S4x128x128 .f32) (main_arg2 : FVec F S512 .f32) (main_arg3 : FVec F S4x2048x512 .f32) : IVec S4x2048x512 1 × IVec S4x128x128 1 × IVec S512 1 × IVec S4x2048x512 1 :=
  let main_v0 : FVec F S4x2048x512 .f32 := Host.absf main_arg0
  let main_cst : FVec F S_ .f32 := constant S_ .f32 0x7F800000#32
  let main_v1 : FVec F S4x2048x512 .f32 := broadcastInDim S4x2048x512 ![] bcast_S_S4x2048x512 main_cst
  let main_v2 : IVec S4x2048x512 1 := cmpf .olt main_v0 main_v1
  let main_v3 : FVec F S4x128x128 .f32 := Host.absf main_arg1
  let main_cst_0 : FVec F S_ .f32 := constant S_ .f32 0x7F800000#32
  let main_v4 : FVec F S4x128x128 .f32 := broadcastInDim S4x128x128 ![] bcast_S_S4x128x128 main_cst_0
  let main_v5 : IVec S4x128x128 1 := cmpf .olt main_v3 main_v4
  let main_v6 : FVec F S512 .f32 := Host.absf main_arg2
  let main_cst_1 : FVec F S_ .f32 := constant S_ .f32 0x7F800000#32
  let main_v7 : FVec F S512 .f32 := broadcastInDim S512 ![] bcast_S_S512 main_cst_1
  let main_v8 : IVec S512 1 := cmpf .olt main_v6 main_v7
  let main_v9 : FVec F S4x2048x512 .f32 := Host.absf main_arg3
  let main_cst_2 : FVec F S_ .f32 := constant S_ .f32 0x7F800000#32
  let main_v10 : FVec F S4x2048x512 .f32 := broadcastInDim S4x2048x512 ![] bcast_S_S4x2048x512 main_cst_2
  let main_v11 : IVec S4x2048x512 1 := cmpf .olt main_v9 main_v10
  (main_v2, main_v5, main_v8, main_v11)
-- ==== Pre_finite_pool_fwd.lean ====
abbrev S4x2048x512 : Shape := ⟨3, ![4, 2048, 512]⟩
abbrev S4x128x128 : Shape := ⟨3, ![4, 128, 128]⟩
abbrev S512 : Shape := ⟨1, ![512]⟩
abbrev S_ : Shape := ⟨0, ![]⟩

class Facts : Prop where
  bcast_S_S4x2048x512 : S_.BroadcastsInDim S4x2048x512 (![] : Fin 0 → Fin S4x2048x512.rank)

variable [Facts]

def fn {F : FTy → Type} [FloatOps F] (main_arg0 : FVec F S4x2048x512 .f32) (main_arg1 : FVec F S4x128x128 .f32) (main_arg2 : FVec F S512 .f32) : IVec S4x2048x512 1 :=
  let main_v0 : FVec F S4x2048x512 .f32 := Host.absf main_arg0
  let main_cst : FVec F S_ .f32 := constant S_ .f32 0x7F800000#32
  let main_v1 : FVec F S4x2048x512 .f32 := broadcastInDim S4x2048x512 ![] bcast_S_S4x2048x512 main_cst
  let main_v2 : IVec S4x2048x512 1 := cmpf .olt main_v0 main_v1
  main_v2
-- ==== Pre_finite_prep.lean ====
abbrev S4x2048x1536 : Shape := ⟨3, ![4, 2048, 1536]⟩
abbrev S4x2048x4 : Shape := ⟨3, ![4, 2048, 4]⟩
abbrev S4 : Shape := ⟨1, ![4]⟩
abbrev S_ : Shape := ⟨0, ![]⟩

class Facts : Prop where
  bcast_S_S4x2048x1536 : S_.BroadcastsInDim S4x2048x1536 (![] : Fin 0 → Fin S4x2048x1536.rank)
  bcast_S_S4x2048x4 : S_.BroadcastsInDim S4x2048x4 (![] : Fin 0 → Fin S4x2048x4.rank)
  bcast_S_S4 : S_.BroadcastsInDim S4 (![] : Fin 0 → Fin S4.rank)

variable [Facts]

def fn {F : FTy → Type} [FloatOps F] (main_arg0 : FVec F S4x2048x1536 .f32) (main_arg1 : FVec F S4x2048x4 .f32) (main_arg2 : FVec F S4x2048x4 .f32) (main_arg3 : FVec F S4 .f32) (main_arg4 : FVec F S4 .f32) : IVec S4x2048x1536 1 × IVec S4x2048x4 1 × IVec S4x2048x4 1 × IVec S4 1 × IVec S4 1 :=
  let main_v0 : FVec F S4x2048x1536 .f32 := Host.absf main_arg0
  let main_cst : FVec F S_ .f32 := constant S_ .f32 0x7F800000#32
  let main_v1 : FVec F S4x2048x1536 .f32 := broadcastInDim S4x2048x1536 ![] bcast_S_S4x2048x1536 main_cst
  let main_v2 : IVec S4x2048x1536 1 := cmpf .olt main_v0 main_v1
  let main_v3 : FVec F S4x2048x4 .f32 := Host.absf main_arg1
  let main_cst_0 : FVec F S_ .f32 := constant S_ .f32 0x7F800000#32
  let main_v4 : FVec F S4x2048x4 .f32 := broadcastInDim S4x2048x4 ![] bcast_S_S4x2048x4 main_cst_0
  let main_v5 : IVec S4x2048x4 1 := cmpf .olt main_v3 main_v4
  let main_v6 : FVec F S4x2048x4 .f32 := Host.absf main_arg2
  let main_cst_1 : FVec F S_ .f32 := constant S_ .f32 0x7F800000#32
  let main_v7 : FVec F S4x2048x4 .f32 := broadcastInDim S4x2048x4 ![] bcast_S_S4x2048x4 main_cst_1
  let main_v8 : IVec S4x2048x4 1 := cmpf .olt main_v6 main_v7
  let main_v9 : FVec F S4 .f32 := Host.absf main_arg3
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_v12 : FVec F S4 .f32 := Host.absf main_arg4
  let main_cst_3 : FVec F S_ .f32 := constant S_ .f32 0x7F800000#32
  let main_v13 : FVec F S4 .f32 := broadcastInDim S4 ![] bcast_S_S4 main_cst_3
  let main_v14 : IVec S4 1 := cmpf .olt main_v12 main_v13
  (main_v2, main_v5, main_v8, main_v11, main_v14)
-- ==== Loss.lean ====
abbrev S4x2048x1024 : Shape := ⟨3, ![4, 2048, 1024]⟩
abbrev S1024 : Shape := ⟨1, ![1024]⟩
abbrev S8192x1024 : Shape := ⟨2, ![8192, 1024]⟩
abbrev S1x1024 : Shape := ⟨2, ![1, 1024]⟩
abbrev S8x128 : Shape := ⟨2, ![8, 128]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 9
  | .vmem => 9
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S4x2048x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8x128, .f32⟩
  | .hbm, ⟨7, _⟩ => ⟨S8192x1024, .f32⟩
  | .hbm, ⟨8, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S8x128, .f32⟩
  | .local _ .vmem, ⟨6, _⟩ => ⟨S512x1024, .f32⟩
  | .local _ .vmem, ⟨7, _⟩ => ⟨S512x1024, .f32⟩
  | .local _ .vmem, ⟨8, _⟩ => ⟨S8x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossRefIdeal.lean ====
abbrev S4x2048x1024 : Shape := ⟨3, ![4, 2048, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S8x128 : Shape := ⟨2, ![8, 128]⟩
abbrev S8192x1024 : Shape := ⟨2, ![8192, 1024]⟩
abbrev S1x1024 : Shape := ⟨2, ![1, 1024]⟩
abbrev S8x1024 : Shape := ⟨2, ![8, 1024]⟩

abbrev nBuf : Space → Nat
  | .hbm => 76
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S4x2048x1024, .f32⟩
  | .hbm, ⟨3, _⟩ => ⟨S4x2048x1024, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x1, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S4x2048x1024, .f32⟩
  | .hbm, ⟨19, _⟩ => ⟨S4x2048x1024, .f32⟩
  | .hbm, ⟨20, _⟩ => ⟨S1x1x1024, .f32⟩
  | .hbm, ⟨21, _⟩ => ⟨S4x2048x1024, .f32⟩
  | .hbm, ⟨22, _⟩ => ⟨S4x2048x1024, .f32⟩
  | .hbm, ⟨23, _⟩ => ⟨S4x2048x1024, .f32⟩
  | .hbm, ⟨24, _⟩ => ⟨S4x2048x1024, .f32⟩
  | .hbm, ⟨25, _⟩ => ⟨S_, .f32⟩
  | .hbm, ⟨26, _⟩ => ⟨S4x2048, .f32⟩
  | .hbm, ⟨27, _⟩ => ⟨S_, .f32⟩
  | .hbm, ⟨28, _⟩ => ⟨S4x2048, .f32⟩
  | .hbm, ⟨29, _⟩ => ⟨S4x2048, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S4x2048, .f32⟩
  | .hbm, ⟨38, _⟩ => ⟨S_, .f32⟩
  | .hbm, ⟨39, _⟩ => ⟨S4x2048, .f32⟩
  | .hbm, ⟨40, _⟩ => ⟨S4x2048, .f32⟩
  | .hbm, ⟨41, _⟩ => ⟨S4x2048x1024, .f32⟩
  | .hbm, ⟨42, _⟩ => ⟨S4x2048x1024, .f32⟩
  | .hbm, ⟨43, _⟩ => ⟨S4x2048x1024, .f32⟩
  | .hbm, ⟨44, _⟩ => ⟨S4x2048x1024, .f32⟩
  | .hbm, ⟨45, _⟩ => ⟨S4x2048x1024, .f32⟩
  | .hbm, ⟨46, _⟩ => ⟨S_, .f32⟩
  | .hbm, ⟨47, _⟩ => ⟨S1024, .f32⟩
  | .hbm, ⟨48, _⟩ => ⟨S1x1x1024, .f32⟩
  | .hbm, ⟨49, _⟩ => ⟨S4x2048x1024, .f32⟩
  | .hbm, ⟨50, _⟩ => ⟨S4x2048x1024, .f32⟩
  | .hbm, ⟨51, _⟩ => ⟨S_, .f32⟩
  | .hbm, ⟨52, _⟩ => ⟨S1024, .f32⟩
  | .hbm, ⟨53, _⟩ => ⟨S4x2048x1024, .f32⟩
  | .hbm, ⟨54, _⟩ => ⟨S_, .f32⟩
  | .hbm, ⟨55, _⟩ => ⟨S4x2048, .f32⟩
  | .hbm, ⟨56, _⟩ => ⟨S4x2048x1, .f32⟩
  | .hbm, ⟨57, _⟩ => ⟨S4x2048x1024, .f32⟩
  | .hbm, ⟨58, _⟩ => ⟨S4x2048x1024, .f32⟩
  | .hbm, ⟨59, _⟩ => ⟨S4x2048x1, .f32⟩
  | .hbm, ⟨60, _⟩ => ⟨S_, .f32⟩
  | .hbm, ⟨61, _⟩ => ⟨S4x2048x1, .f32⟩
  | .hbm, ⟨62, _⟩ => ⟨S4x2048x1, .f32⟩
  | .hbm, ⟨63, _⟩ => ⟨S_, .f32⟩
  | .hbm, ⟨64, _⟩ => ⟨S4x2048, .f32⟩
  | .hbm, ⟨65, _⟩ => ⟨S4x2048x1024, .f32⟩
  | .hbm, ⟨66, _⟩ => ⟨S4x2048x1024, .f32⟩
  | .hbm, ⟨67, _⟩ => ⟨S4x2048x1024, .f32⟩
  | .hbm, ⟨68, _⟩ => ⟨S4x2048x1024, .f32⟩
  | .hbm, ⟨69, _⟩ => ⟨S4x2048x1024, .f32⟩
  | .hbm, ⟨70, _⟩ => ⟨S8x128, .f32⟩
  | .hbm, ⟨71, _⟩ => ⟨S8192x1024, .f32⟩
  | .hbm, ⟨72, _⟩ => ⟨S1x1024, .f32⟩
  | .hbm, ⟨73, _⟩ => ⟨S_, .i32⟩
  | .hbm, ⟨74, _⟩ => ⟨S_, .f32⟩
  | .hbm, ⟨75, _⟩ => ⟨S8x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_cst_8 : Ref sig .tc := ⟨.hbm, 35, rfl⟩
abbrev main_v23 : Ref sig .tc := ⟨.hbm, 36, rfl⟩
abbrev main_v24 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_10 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_11 : Ref sig .tc := ⟨.hbm, 51, rfl⟩
abbrev main_v36 : Ref sig .tc := ⟨.hbm, 52, rfl⟩
abbrev main_v37 : Ref sig .tc := ⟨.hbm, 53, rfl⟩
abbrev main_cst_12 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_13 : Ref sig .tc := ⟨.hbm, 60, rfl⟩
abbrev main_v43 : Ref sig .tc := ⟨.hbm, 61, rfl⟩
abbrev main_v44 : Ref sig .tc := ⟨.hbm, 62, rfl⟩
abbrev main_cst_14 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_c : Ref sig .tc := ⟨.hbm, 73, rfl⟩
abbrev main_call0_v0 : Ref sig .tc := ⟨.hbm, 74, rfl⟩
abbrev main_v54 : Ref sig .tc := ⟨.hbm, 75, rfl⟩

abbrev nD : Nat := 1
abbrev τ : Topo := Topo.v7x

variable {F : FTy → Type} [FloatOps F]
-- ==== Ffn.lean ====
abbrev S4x2048x1024 : Shape := ⟨3, ![4, 2048, 1024]⟩
abbrev S1024 : Shape := ⟨1, ![1024]⟩
abbrev S1024x2816 : Shape := ⟨2, ![1024, 2816]⟩
abbrev S2816x1024 : Shape := ⟨2, ![2816, 1024]⟩
abbrev S8192x1024 : Shape := ⟨2, ![8192, 1024]⟩
abbrev S8x352x1024 : Shape := ⟨3, ![8, 352, 1024]⟩
abbrev S1x1024 : Shape := ⟨2, ![1, 1024]⟩
abbrev S8192x2816 : Shape := ⟨2, ![8192, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S8x1024 : Shape := ⟨2, ![8, 1024]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩

abbrev nBuf : Space → Nat
  | .hbm => 28
  | .vmem => 37
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4x2048x1024, .f32⟩
  | .hbm, ⟨6, _⟩ => ⟨S8192x1024, .f32⟩
  | .hbm, ⟨7, _⟩ => ⟨S1024x2816, .bf16⟩
  | .hbm, ⟨8, _⟩ => ⟨S2816x1024, .bf16⟩
  | .hbm, ⟨9, _⟩ => ⟨S1024x2816, .bf16⟩
  | .hbm, ⟨10, _⟩ => ⟨S2816x1024, .bf16⟩
  | .hbm, ⟨11, _⟩ => ⟨S2816x1024, .bf16⟩
  | .hbm, ⟨12, _⟩ => ⟨S8x352x1024, .bf16⟩
  | .hbm, ⟨13, _⟩ => ⟨S8x352x1024, .bf16⟩
  | .hbm, ⟨14, _⟩ => ⟨S8x352x1024, .bf16⟩
  | .hbm, ⟨15, _⟩ => ⟨S1x1024, .f32⟩
  | .hbm, ⟨16, _⟩ => ⟨S8192x1024, .f32⟩
  | .hbm, ⟨17, _⟩ => ⟨S8192x2816, .bf16⟩
  | .hbm, ⟨18, _⟩ => ⟨S8192x2816, .bf16⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8x1024, .f32⟩
  | .hbm, ⟨23, _⟩ => ⟨S8192x1024, .bf16⟩
  | .hbm, ⟨24, _⟩ => ⟨S8192x2816, .bf16⟩
  | .hbm, ⟨25, _⟩ => ⟨S8192x2816, .bf16⟩
  | .hbm, ⟨26, _⟩ => ⟨S8192x2816, .bf16⟩
  | .hbm, ⟨27, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S8x352x1024, .bf16⟩
  | .local _ .vmem, ⟨4, _⟩ => ⟨S8x352x1024, .bf16⟩
  | .local _ .vmem, ⟨5, _⟩ => ⟨S8x352x1024, .bf16⟩
  | .local _ .vmem, ⟨6, _⟩ => ⟨S512x1024, .f32⟩
  | .local _ .vmem, ⟨7, _⟩ => ⟨S512x1024, .f32⟩
  | .local _ .vmem, ⟨8, _⟩ => ⟨S512x2816, .bf16⟩
  | .local _ .vmem, ⟨9, _⟩ => ⟨S512x2816, .bf16⟩
  | .local _ .vmem, ⟨10, _⟩ => ⟨S512x2816, .bf16⟩
  | .local _ .vmem, ⟨11, _⟩ => ⟨S512x2816, .bf16⟩
  | .local _ .vmem, ⟨12, _⟩ => ⟨S256x1024, .f32⟩
  | .local _ .vmem, ⟨13, _⟩ => ⟨S256x1024, .f32⟩
  | .local _ .vmem, ⟨14, _⟩ => ⟨S1x1024, .f32⟩
  | .local _ .vmem, ⟨15, _⟩ => ⟨S256x2816, .bf16⟩
  | .local _ .vmem, ⟨16, _⟩ => ⟨S256x2816, .bf16⟩
  | .local _ .vmem, ⟨17, _⟩ => ⟨S256x2816, .bf16⟩
  | .local _ .vmem, ⟨18, _⟩ => ⟨S256x2816, .bf16⟩
  | .local _ .vmem, ⟨19, _⟩ => ⟨S256x1024, .f32⟩
  | .local _ .vmem, ⟨20, _⟩ => ⟨S256x1024, .f32⟩
  | .local _ .vmem, ⟨21, _⟩ => ⟨S8x352x1024, .bf16⟩
  | .local _ .vmem, ⟨22, _⟩ => ⟨S8x352x1024, .bf16⟩
  | .local _ .vmem, ⟨23, _⟩ => ⟨S8x352x1024, .bf16⟩
  | .local _ .vmem, ⟨24, _⟩ => ⟨S256x1024, .f32⟩
  | .local _ .vmem, ⟨25, _⟩ => ⟨S256x1024, .f32⟩
  | .local _ .vmem, ⟨26, _⟩ => ⟨S8x1024, .f32⟩
  | .local _ .vmem, ⟨27, _⟩ => ⟨S256x1024, .bf16⟩
  | .local _ .vmem, ⟨28, _⟩ => ⟨S256x1024, .bf16⟩
  | .local _ .vmem, ⟨29, _⟩ => ⟨S256x2816, .bf16⟩
  | .local _ .vmem, ⟨30, _⟩ => ⟨S256x2816, .bf16⟩
  | .local _ .vmem, ⟨31, _⟩ => ⟨S256x2816, .bf16⟩
  | .local _ .vmem, ⟨32, _⟩ => ⟨S256x2816, .bf16⟩
  | .local _ .vmem, ⟨33, _⟩ => ⟨S256x2816, .bf16⟩
  | .local _ .vmem, ⟨34, _⟩ => ⟨S256x2816, .bf16⟩
  | .local _ .vmem, ⟨35, _⟩ => ⟨S256x1024, .bf16⟩
  | .local _ .vmem, ⟨36, _⟩ => ⟨S256x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev main_v13_2 : Ref sig .tc := ⟨.hbm, 23, rfl⟩
abbrev main_v13_3 : Ref sig .tc := ⟨.hbm, 24, rfl⟩
abbrev main_v13_4 : Ref sig .tc := ⟨.hbm, 25, rfl⟩
abbrev main_v13_5 : Ref sig .tc := ⟨.hbm, 26, rfl⟩
abbrev main_v13_6 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg8_1 : Ref sig .tc := ⟨.vmem, 25, rfl⟩
abbrev cc1_stg9_0 : Ref sig .tc := ⟨.vmem, 26, rfl⟩
abbrev cc1_stg10_0 : Ref sig .tc := ⟨.vmem, 27, rfl⟩
abbrev cc1_stg10_1 : Ref sig .tc := ⟨.vmem, 28, rfl⟩
abbrev cc1_stg11_0 : Ref sig .tc := ⟨.vmem, 29, rfl⟩
abbrev cc1_stg11_1 : Ref sig .tc := ⟨.vmem, 30, rfl⟩
abbrev cc1_stg12_0 : Ref sig .tc := ⟨.vmem, 31, rfl⟩
abbrev cc1_stg12_1 : Ref sig .tc := ⟨.vmem, 32, rfl⟩
abbrev cc1_stg13_0 : Ref sig .tc := ⟨.vmem, 33, rfl⟩
abbrev cc1_stg13_1 : Ref sig .tc := ⟨.vmem, 34, rfl⟩
abbrev cc1_stg14_0 : Ref sig .tc := ⟨.vmem, 35, rfl⟩
abbrev cc1_stg14_1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem8_1 : DmaSem sig := 25
abbrev cc1_sem9_0 : DmaSem sig := 26
abbrev cc1_sem10_0 : DmaSem sig := 27
abbrev cc1_sem10_1 : DmaSem sig := 28
abbrev cc1_sem11_0 : DmaSem sig := 29
abbrev cc1_sem11_1 : DmaSem sig := 30
abbrev cc1_sem12_0 : DmaSem sig := 31
abbrev cc1_sem12_1 : DmaSem sig := 32
abbrev cc1_sem13_0 : DmaSem sig := 33
abbrev cc1_sem13_1 : DmaSem sig := 34
abbrev cc1_sem14_0 : DmaSem sig := 35
abbrev cc1_sem14_1 : DmaSem sig := 36

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x352x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x352x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x352x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x2816 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x2816 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S8x352x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S8x352x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S8x352x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S256x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 1 → Memref sig .tc .vmem S8x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S256x1024 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S256x2816 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S256x2816 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S256x2816 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S256x1024 .bf16 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]
-- ==== FfnRefIdeal.lean ====
abbrev S4x2048x1024 : Shape := ⟨3, ![4, 2048, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x2048x2816 : Shape := ⟨3, ![4, 2048, 2816]⟩
abbrev S8192x1024 : Shape := ⟨2, ![8192, 1024]⟩
abbrev S8192x2816 : Shape := ⟨2, ![8192, 2816]⟩
abbrev S1x1024 : Shape := ⟨2, ![1, 1024]⟩
abbrev S8x1024 : Shape := ⟨2, ![8, 1024]⟩

abbrev nBuf : Space → Nat
  | .hbm => 107
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4x2048x1024, .f32⟩
  | .hbm, ⟨6, _⟩ => ⟨S4x2048x1024, .f32⟩
  | .hbm, ⟨7, _⟩ => ⟨S_, .f32⟩
  | .hbm, ⟨8, _⟩ => ⟨S4x2048, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S4x2048x1, .f32⟩
  | .hbm, ⟨17, _⟩ => ⟨S4x2048x1, .f32⟩
  | .hbm, ⟨18, _⟩ => ⟨S_, .f32⟩
  | .hbm, ⟨19, _⟩ => ⟨S4x2048x1, .f32⟩
  | .hbm, ⟨20, _⟩ => ⟨S4x2048x1, .f32⟩
  | .hbm, ⟨21, _⟩ => ⟨S4x2048x1024, .f32⟩
  | .hbm, ⟨22, _⟩ => ⟨S4x2048x1024, .f32⟩
  | .hbm, ⟨23, _⟩ => ⟨S1x1x1024, .f32⟩
  | .hbm, ⟨24, _⟩ => ⟨S4x2048x1024, .f32⟩
  | .hbm, ⟨25, _⟩ => ⟨S4x2048x1024, .f32⟩
  | .hbm, ⟨26, _⟩ => ⟨S4x2048x2816, .f32⟩
  | .hbm, ⟨27, _⟩ => ⟨S4x2048x2816, .f32⟩
  | .hbm, ⟨28, _⟩ => ⟨S4x2048x2816, .f32⟩
  | .hbm, ⟨29, _⟩ => ⟨S4x2048x2816, .f32⟩
  | .hbm, ⟨30, _⟩ => ⟨S_, .f32⟩
  | .hbm, ⟨31, _⟩ => ⟨S4x2048x2816, .f32⟩
  | .hbm, ⟨32, _⟩ => ⟨S4x2048x2816, .f32⟩
  | .hbm, ⟨33, _⟩ => ⟨S_, .f32⟩
  | .hbm, ⟨34, _⟩ => ⟨S4x2048x2816, .f32⟩
  | .hbm, ⟨35, _⟩ => ⟨S4x2048x2816, .f32⟩
  | .hbm, ⟨36, _⟩ => ⟨S_, .f32⟩
  | .hbm, ⟨37, _⟩ => ⟨S4x2048x2816, .f32⟩
  | .hbm, ⟨38, _⟩ => ⟨S4x2048x2816, .f32⟩
  | .hbm, ⟨39, _⟩ => ⟨S4x2048x2816, .f32⟩
  | .hbm, ⟨40, _⟩ => ⟨S4x2048x2816, .f32⟩
  | .hbm, ⟨41, _⟩ => ⟨S4x2048x2816, .f32⟩
  | .hbm, ⟨42, _⟩ => ⟨S4x2048x1024, .f32⟩
  | .hbm, ⟨43, _⟩ => ⟨S_, .f32⟩
  | .hbm, ⟨44, _⟩ => ⟨S4x2048x1024, .f32⟩
  | .hbm, ⟨45, _⟩ => ⟨S4x2048x1024, .f32⟩
  | .hbm, ⟨46, _⟩ => ⟨S4x2048x1024, .f32⟩
  | .hbm, ⟨47, _⟩ => ⟨S4x2048x1024, .f32⟩
  | .hbm, ⟨48, _⟩ => ⟨S_, .f32⟩
  | .hbm, ⟨49, _⟩ => ⟨S4x2048x1024, .f32⟩
  | .hbm, ⟨50, _⟩ => ⟨S4x2048x1024, .f32⟩
  | .hbm, ⟨51, _⟩ => ⟨S4x2048x2816, .f32⟩
  | .hbm, ⟨52, _⟩ => ⟨S4x2048x2816, .f32⟩
  | .hbm, ⟨53, _⟩ => ⟨S4x2048x2816, .f32⟩
  | .hbm, ⟨54, _⟩ => ⟨S4x2048x2816, .f32⟩
  | .hbm, ⟨55, _⟩ => ⟨S4x2048x2816, .f32⟩
  | .hbm, ⟨56, _⟩ => ⟨S4x2048x2816, .f32⟩
  | .hbm, ⟨57, _⟩ => ⟨S4x2048x2816, .f32⟩
  | .hbm, ⟨58, _⟩ => ⟨S4x2048x1024, .f32⟩
  | .hbm, ⟨59, _⟩ => ⟨S4x2048x1024, .f32⟩
  | .hbm, ⟨60, _⟩ => ⟨S4x2048x1024, .f32⟩
  | .hbm, ⟨61, _⟩ => ⟨S4x2048x1024, .f32⟩
  | .hbm, ⟨62, _⟩ => ⟨S_, .f32⟩
  | .hbm, ⟨63, _⟩ => ⟨S1024, .f32⟩
  | .hbm, ⟨64, _⟩ => ⟨S1x1x1024, .f32⟩
  | .hbm, ⟨65, _⟩ => ⟨S4x2048x1024, .f32⟩
  | .hbm, ⟨66, _⟩ => ⟨S4x2048x1024, .f32⟩
  | .hbm, ⟨67, _⟩ => ⟨S_, .f32⟩
  | .hbm, ⟨68, _⟩ => ⟨S1024, .f32⟩
  | .hbm, ⟨69, _⟩ => ⟨S4x2048x1024, .f32⟩
  | .hbm, ⟨70, _⟩ => ⟨S_, .f32⟩
  | .hbm, ⟨71, _⟩ => ⟨S4x2048, .f32⟩
  | .hbm, ⟨72, _⟩ => ⟨S4x2048x1, .f32⟩
  | .hbm, ⟨73, _⟩ => ⟨S4x2048x1024, .f32⟩
  | .hbm, ⟨74, _⟩ => ⟨S4x2048x1024, .f32⟩
  | .hbm, ⟨75, _⟩ => ⟨S4x2048x1, .f32⟩
  | .hbm, ⟨76, _⟩ => ⟨S_, .f32⟩
  | .hbm, ⟨77, _⟩ => ⟨S4x2048x1, .f32⟩
  | .hbm, ⟨78, _⟩ => ⟨S4x2048x1, .f32⟩
  | .hbm, ⟨79, _⟩ => ⟨S_, .f32⟩
  | .hbm, ⟨80, _⟩ => ⟨S4x2048, .f32⟩
  | .hbm, ⟨81, _⟩ => ⟨S4x2048x1024, .f32⟩
  | .hbm, ⟨82, _⟩ => ⟨S4x2048x1024, .f32⟩
  | .hbm, ⟨83, _⟩ => ⟨S4x2048x1024, .f32⟩
  | .hbm, ⟨84, _⟩ => ⟨S4x2048x1024, .f32⟩
  | .hbm, ⟨85, _⟩ => ⟨S4x2048x1024, .f32⟩
  | .hbm, ⟨86, _⟩ => ⟨S8192x1024, .f32⟩
  | .hbm, ⟨87, _⟩ => ⟨S8192x2816, .f32⟩
  | .hbm, ⟨88, _⟩ => ⟨S8192x2816, .bf16⟩
  | .hbm, ⟨89, _⟩ => ⟨S8192x2816, .f32⟩
  | .hbm, ⟨90, _⟩ => ⟨S8192x2816, .bf16⟩
  | .hbm, ⟨91, _⟩ => ⟨S4x2048x1024, .f32⟩
  | .hbm, ⟨92, _⟩ => ⟨S8192x1024, .f32⟩
  | .hbm, ⟨93, _⟩ => ⟨S1x1024, .f32⟩
  | .hbm, ⟨94, _⟩ => ⟨S_, .i32⟩
  | .hbm, ⟨95, _⟩ => ⟨S_, .f32⟩
  | .hbm, ⟨96, _⟩ => ⟨S8x1024, .f32⟩
  | .hbm, ⟨97, _⟩ => ⟨S8192x1024, .f32⟩
  | .hbm, ⟨98, _⟩ => ⟨S8192x1024, .bf16⟩
  | .hbm, ⟨99, _⟩ => ⟨S8192x2816, .f32⟩
  | .hbm, ⟨100, _⟩ => ⟨S8192x2816, .bf16⟩
  | .hbm, ⟨101, _⟩ => ⟨S8192x2816, .f32⟩
  | .hbm, ⟨102, _⟩ => ⟨S8192x2816, .bf16⟩
  | .hbm, ⟨103, _⟩ => ⟨S8192x2816, .f32⟩
  | .hbm, ⟨104, _⟩ => ⟨S8192x2816, .bf16⟩
  | .hbm, ⟨105, _⟩ => ⟨S8192x1024, .f32⟩
  | .hbm, ⟨106, _⟩ => ⟨S8192x1024, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v18_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v18_1 : Ref sig .tc := ⟨.hbm, 39, rfl⟩
abbrev main_v18_0 : Ref sig .tc := ⟨.hbm, 40, rfl⟩
abbrev main_v19 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_4 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_5 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_6 : Ref sig .tc := ⟨.hbm, 67, rfl⟩
abbrev main_v39 : Ref sig .tc := ⟨.hbm, 68, rfl⟩
abbrev main_v40 : Ref sig .tc := ⟨.hbm, 69, rfl⟩
abbrev main_cst_7 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_8 : Ref sig .tc := ⟨.hbm, 76, rfl⟩
abbrev main_v46 : Ref sig .tc := ⟨.hbm, 77, rfl⟩
abbrev main_v47 : Ref sig .tc := ⟨.hbm, 78, rfl⟩
abbrev main_cst_9 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_c : Ref sig .tc := ⟨.hbm, 94, rfl⟩
abbrev main_call2_v0 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩

abbrev nD : Nat := 1
abbrev τ : Topo := Topo.v7x

variable {F : FTy → Type} [FloatOps F]
-- ==== InAbBwd.lean ====
abbrev S4x2048x1024 : Shape := ⟨3, ![4, 2048, 1024]⟩
abbrev S1024 : Shape := ⟨1, ![1024]⟩
abbrev S1024x2568 : Shape := ⟨2, ![1024, 2568]⟩
abbrev S4x2048x2568 : Shape := ⟨3, ![4, 2048, 2568]⟩
abbrev S2568x1024 : Shape := ⟨2, ![2568, 1024]⟩
abbrev S_ : Shape := ⟨0, ![]⟩
abbrev S2688x1024 : Shape := ⟨2, ![2688, 1024]⟩
abbrev S8192x2568 : Shape := ⟨2, ![8192, 2568]⟩
abbrev S8192x512 : Shape := ⟨2, ![8192, 512]⟩
abbrev S8192x1536 : Shape := ⟨2, ![8192, 1536]⟩
abbrev S8192x8 : Shape := ⟨2, ![8192, 8]⟩
abbrev S8192x128 : Shape := ⟨2, ![8192, 128]⟩
abbrev S8192x1024 : Shape := ⟨2, ![8192, 1024]⟩
abbrev S1x1024 : Shape := ⟨2, ![1, 1024]⟩
abbrev S8x1024 : Shape := ⟨2, ![8, 1024]⟩
abbrev S512x1024 : Shape := ⟨2, ![512, 1024]⟩
abbrev S512x512 : Shape := ⟨2, ![512, 512]⟩
abbrev S512x1536 : Shape := ⟨2, ![512, 1536]⟩
abbrev S512x128 : Shape := ⟨2, ![512, 128]⟩
abbrev S512 : Shape := ⟨1, ![512]⟩
abbrev S512x1 : Shape := ⟨2, ![512, 1]⟩
abbrev S512x2688 : Shape := ⟨2, ![512, 2688]⟩

abbrev nBuf : Space → Nat
  | .hbm => 28
  | .vmem => 19
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024x2568, .f32⟩
  | .hbm, ⟨3, _⟩ => ⟨S4x2048x2568, .f32⟩
  | .hbm, ⟨4, _⟩ => ⟨S4x2048x1024, .f32⟩
  | .hbm, ⟨5, _⟩ => ⟨S1024x2568, .bf16⟩
  | .hbm, ⟨6, _⟩ => ⟨S2568x1024, .bf16⟩
  | .hbm, ⟨7, _⟩ => ⟨S_, .i32⟩
  | .hbm, ⟨8, _⟩ => ⟨S_, .bf16⟩
  | .hbm, ⟨9, _⟩ => ⟨S2688x1024, .bf16⟩
  | .hbm, ⟨10, _⟩ => ⟨S8192x2568, .f32⟩
  | .hbm, ⟨11, _⟩ => ⟨S8192x512, .f32⟩
  | .hbm, ⟨12, _⟩ => ⟨S8192x512, .bf16⟩
  | .hbm, ⟨13, _⟩ => ⟨S8192x1536, .f32⟩
  | .hbm, ⟨14, _⟩ => ⟨S8192x1536, .bf16⟩
  | .hbm, ⟨15, _⟩ => ⟨S8192x512, .f32⟩
  | .hbm, ⟨16, _⟩ => ⟨S8192x512, .bf16⟩
  | .hbm, ⟨17, _⟩ => ⟨S8192x8, .f32⟩
  | .hbm, ⟨18, _⟩ => ⟨S_, .i32⟩
  | .hbm, ⟨19, _⟩ => ⟨S_, .f32⟩
  | .hbm, ⟨20, _⟩ => ⟨S8192x128, .f32⟩
  | .hbm, ⟨21, _⟩ => ⟨S8192x128, .bf16⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8x1024, .f32⟩
  | .hbm, ⟨27, _⟩ => ⟨S2688x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x512, .bf16⟩
  | .local _ .vmem, ⟨4, _⟩ => ⟨S512x512, .bf16⟩
  | .local _ .vmem, ⟨5, _⟩ => ⟨S512x1536, .bf16⟩
  | .local _ .vmem, ⟨6, _⟩ => ⟨S512x1536, .bf16⟩
  | .local _ .vmem, ⟨7, _⟩ => ⟨S512x512, .bf16⟩
  | .local _ .vmem, ⟨8, _⟩ => ⟨S512x512, .bf16⟩
  | .local _ .vmem, ⟨9, _⟩ => ⟨S512x128, .bf16⟩
  | .local _ .vmem, ⟨10, _⟩ => ⟨S512x128, .bf16⟩
  | .local _ .vmem, ⟨11, _⟩ => ⟨S512x1024, .f32⟩
  | .local _ .vmem, ⟨12, _⟩ => ⟨S512x1024, .f32⟩
  | .local _ .vmem, ⟨13, _⟩ => ⟨S2688x1024, .bf16⟩
  | .local _ .vmem, ⟨14, _⟩ => ⟨S512x1024, .f32⟩
  | .local _ .vmem, ⟨15, _⟩ => ⟨S512x1024, .f32⟩
  | .local _ .vmem, ⟨16, _⟩ => ⟨S8x1024, .f32⟩
  | .local _ .vmem, ⟨17, _⟩ => ⟨S2688x1024, .bf16⟩
  | .local _ .vmem, ⟨18, _⟩ => ⟨S2688x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_call1_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev main_v16_2 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![16], ![false]⟩

def k0_cond3 (i : grid0.Coords) : BitVec 1 :=
  let arg0 : BitVec 32 := BitVec.ofNat 32 (i 0).val
  let c15_i32 : BitVec 32 := 15#32
  let v64 : BitVec 1 := Scalar.cmpi .eq arg0 c15_i32
  let v65 : BitVec 32 := Scalar.extui v64
  let c0_i32_35 : BitVec 32 := 0#32
  let v66 : BitVec 1 := Scalar.cmpi .ne v65 c0_i32_35
  v66

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2688x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2688x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== InAbBwdRefIdeal.lean ====
abbrev S4x2048x1024 : Shape := ⟨3, ![4, 2048, 1024]⟩
abbrev S1024 : Shape := ⟨1, ![1024]⟩
abbrev S1024x2568 : Shape := ⟨2, ![1024, 2568]⟩
abbrev S4x2048x2568 : Shape := ⟨3, ![4, 2048, 2568]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S2568x1024 : Shape := ⟨2, ![2568, 1024]⟩
abbrev S8192x1024 : Shape := ⟨2, ![8192, 1024]⟩
abbrev S1x1024 : Shape := ⟨2, ![1, 1024]⟩
abbrev S8x1024 : Shape := ⟨2, ![8, 1024]⟩
abbrev S2688x1024 : Shape := ⟨2, ![2688, 1024]⟩

abbrev nBuf : Space → Nat
  | .hbm => 65
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024x2568, .f32⟩
  | .hbm, ⟨3, _⟩ => ⟨S4x2048x2568, .f32⟩
  | .hbm, ⟨4, _⟩ => ⟨S4x2048x1024, .f32⟩
  | .hbm, ⟨5, _⟩ => ⟨S4x2048x1024, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x1, .f32⟩
  | .hbm, ⟨17, _⟩ => ⟨S_, .f32⟩
  | .hbm, ⟨18, _⟩ => ⟨S4x2048x1, .f32⟩
  | .hbm, ⟨19, _⟩ => ⟨S4x2048x1, .f32⟩
  | .hbm, ⟨20, _⟩ => ⟨S4x2048x1024, .f32⟩
  | .hbm, ⟨21, _⟩ => ⟨S4x2048x1024, .f32⟩
  | .hbm, ⟨22, _⟩ => ⟨S1x1x1024, .f32⟩
  | .hbm, ⟨23, _⟩ => ⟨S4x2048x1024, .f32⟩
  | .hbm, ⟨24, _⟩ => ⟨S4x2048x1024, .f32⟩
  | .hbm, ⟨25, _⟩ => ⟨S4x2048x2568, .f32⟩
  | .hbm, ⟨26, _⟩ => ⟨S2568x1024, .f32⟩
  | .hbm, ⟨27, _⟩ => ⟨S1024x2568, .f32⟩
  | .hbm, ⟨28, _⟩ => ⟨S4x2048x1024, .f32⟩
  | .hbm, ⟨29, _⟩ => ⟨S4x2048x1024, .f32⟩
  | .hbm, ⟨30, _⟩ => ⟨S_, .f32⟩
  | .hbm, ⟨31, _⟩ => ⟨S1024, .f32⟩
  | .hbm, ⟨32, _⟩ => ⟨S1x1x1024, .f32⟩
  | .hbm, ⟨33, _⟩ => ⟨S4x2048x1024, .f32⟩
  | .hbm, ⟨34, _⟩ => ⟨S4x2048x1024, .f32⟩
  | .hbm, ⟨35, _⟩ => ⟨S_, .f32⟩
  | .hbm, ⟨36, _⟩ => ⟨S1024, .f32⟩
  | .hbm, ⟨37, _⟩ => ⟨S4x2048x1024, .f32⟩
  | .hbm, ⟨38, _⟩ => ⟨S_, .f32⟩
  | .hbm, ⟨39, _⟩ => ⟨S4x2048, .f32⟩
  | .hbm, ⟨40, _⟩ => ⟨S4x2048x1, .f32⟩
  | .hbm, ⟨41, _⟩ => ⟨S4x2048x1024, .f32⟩
  | .hbm, ⟨42, _⟩ => ⟨S4x2048x1024, .f32⟩
  | .hbm, ⟨43, _⟩ => ⟨S4x2048x1024, .f32⟩
  | .hbm, ⟨44, _⟩ => ⟨S4x2048x1, .f32⟩
  | .hbm, ⟨45, _⟩ => ⟨S_, .f32⟩
  | .hbm, ⟨46, _⟩ => ⟨S4x2048x1, .f32⟩
  | .hbm, ⟨47, _⟩ => ⟨S4x2048x1, .f32⟩
  | .hbm, ⟨48, _⟩ => ⟨S_, .f32⟩
  | .hbm, ⟨49, _⟩ => ⟨S4x2048, .f32⟩
  | .hbm, ⟨50, _⟩ => ⟨S4x2048x1024, .f32⟩
  | .hbm, ⟨51, _⟩ => ⟨S4x2048x1024, .f32⟩
  | .hbm, ⟨52, _⟩ => ⟨S4x2048x1024, .f32⟩
  | .hbm, ⟨53, _⟩ => ⟨S4x2048x1024, .f32⟩
  | .hbm, ⟨54, _⟩ => ⟨S4x2048x1024, .f32⟩
  | .hbm, ⟨55, _⟩ => ⟨S8192x1024, .f32⟩
  | .hbm, ⟨56, _⟩ => ⟨S1x1024, .f32⟩
  | .hbm, ⟨57, _⟩ => ⟨S_, .i32⟩
  | .hbm, ⟨58, _⟩ => ⟨S_, .f32⟩
  | .hbm, ⟨59, _⟩ => ⟨S8x1024, .f32⟩
  | .hbm, ⟨60, _⟩ => ⟨S2568x1024, .f32⟩
  | .hbm, ⟨61, _⟩ => ⟨S_, .i32⟩
  | .hbm, ⟨62, _⟩ => ⟨S_, .f32⟩
  | .hbm, ⟨63, _⟩ => ⟨S2688x1024, .f32⟩
  | .hbm, ⟨64, _⟩ => ⟨S2688x1024, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_c : Ref sig .tc := ⟨.hbm, 57, rfl⟩
abbrev main_call0_v0 : Ref sig .tc := ⟨.hbm, 58, rfl⟩
abbrev main_v43 : Ref sig .tc := ⟨.hbm, 59, rfl⟩
abbrev main_v44 : Ref sig .tc := ⟨.hbm, 60, rfl⟩
abbrev main_c_8 : Ref sig .tc := ⟨.hbm, 61, rfl⟩
abbrev main_call1_v0 : Ref sig .tc := ⟨.hbm, 62, rfl⟩
abbrev main_v45 : Ref sig .tc := ⟨.hbm, 63, rfl⟩
abbrev main_v46 : Ref sig .tc := ⟨.hbm, 64, rfl⟩

abbrev nD : Nat := 1
abbrev τ : Topo := Topo.v7x

variable {F : FTy → Type} [FloatOps F]
-- ==== InCdBwd.lean ====
abbrev S4x2048x1024 : Shape := ⟨3, ![4, 2048, 1024]⟩
abbrev S1024 : Shape := ⟨1, ![1024]⟩
abbrev S1024x2560 : Shape := ⟨2, ![1024, 2560]⟩
abbrev S4x2048x2560 : Shape := ⟨3, ![4, 2048, 2560]⟩
abbrev S2560x1024 : Shape := ⟨2, ![2560, 1024]⟩
abbrev S8x320x1024 : Shape := ⟨3, ![8, 320, 1024]⟩
abbrev S8192x2560 : Shape := ⟨2, ![8192, 2560]⟩
abbrev S8192x1024 : Shape := ⟨2, ![8192, 1024]⟩
abbrev S1x1024 : Shape := ⟨2, ![1, 1024]⟩
abbrev S8192x512 : Shape := ⟨2, ![8192, 512]⟩
abbrev S8x1024 : Shape := ⟨2, ![8, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S512x2560 : Shape := ⟨2, ![512, 2560]⟩

abbrev nBuf : Space → Nat
  | .hbm => 21
  | .vmem => 21
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024x2560, .f32⟩
  | .hbm, ⟨3, _⟩ => ⟨S4x2048x2560, .f32⟩
  | .hbm, ⟨4, _⟩ => ⟨S4x2048x1024, .f32⟩
  | .hbm, ⟨5, _⟩ => ⟨S1024x2560, .bf16⟩
  | .hbm, ⟨6, _⟩ => ⟨S2560x1024, .bf16⟩
  | .hbm, ⟨7, _⟩ => ⟨S8x320x1024, .bf16⟩
  | .hbm, ⟨8, _⟩ => ⟨S8192x2560, .f32⟩
  | .hbm, ⟨9, _⟩ => ⟨S8192x2560, .bf16⟩
  | .hbm, ⟨10, _⟩ => ⟨S8192x1024, .f32⟩
  | .hbm, ⟨11, _⟩ => ⟨S1x1024, .f32⟩
  | .hbm, ⟨12, _⟩ => ⟨S8192x512, .bf16⟩
  | .hbm, ⟨13, _⟩ => ⟨S8192x512, .bf16⟩
  | .hbm, ⟨14, _⟩ => ⟨S8192x512, .bf16⟩
  | .hbm, ⟨15, _⟩ => ⟨S8192x512, .bf16⟩
  | .hbm, ⟨16, _⟩ => ⟨S8192x512, .bf16⟩
  | .hbm, ⟨17, _⟩ => ⟨S8192x1024, .f32⟩
  | .hbm, ⟨18, _⟩ => ⟨S8192x1024, .f32⟩
  | .hbm, ⟨19, _⟩ => ⟨S8x1024, .f32⟩
  | .hbm, ⟨20, _⟩ => ⟨S2560x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x1024, .f32⟩
  | .local _ .vmem, ⟨14, _⟩ => ⟨S512x1024, .f32⟩
  | .local _ .vmem, ⟨15, _⟩ => ⟨S8x320x1024, .bf16⟩
  | .local _ .vmem, ⟨16, _⟩ => ⟨S512x1024, .f32⟩
  | .local _ .vmem, ⟨17, _⟩ => ⟨S512x1024, .f32⟩
  | .local _ .vmem, ⟨18, _⟩ => ⟨S8x1024, .f32⟩
  | .local _ .vmem, ⟨19, _⟩ => ⟨S2560x1024, .bf16⟩
  | .local _ .vmem, ⟨20, _⟩ => ⟨S2560x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13_0 : Ref sig .tc := ⟨.hbm, 18, rfl⟩
abbrev main_v13_1 : Ref sig .tc := ⟨.hbm, 19, rfl⟩
abbrev main_v13_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem11_0 : DmaSem sig := 19

abbrev nD : Nat := 1
abbrev τ : Topo := Topo.v7x

variable {F : FTy → Type} [FloatOps F]

abbrev grid0 : Pipeline.Grid := ⟨1, ![16], ![false]⟩

def k0_cond3 (i : grid0.Coords) : BitVec 1 :=
  let arg0 : BitVec 32 := BitVec.ofNat 32 (i 0).val
  let c15_i32 : BitVec 32 := 15#32
  let v67 : BitVec 1 := Scalar.cmpi .eq arg0 c15_i32
  let v68 : BitVec 32 := Scalar.extui v67
  let c0_i32_38 : BitVec 32 := 0#32
  let v69 : BitVec 1 := Scalar.cmpi .ne v68 c0_i32_38
  v69

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x320x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2560x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== InCdBwdRefIdeal.lean ====
abbrev S4x2048x1024 : Shape := ⟨3, ![4, 2048, 1024]⟩
abbrev S1024 : Shape := ⟨1, ![1024]⟩
abbrev S1024x2560 : Shape := ⟨2, ![1024, 2560]⟩
abbrev S4x2048x2560 : Shape := ⟨3, ![4, 2048, 2560]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S2560x1024 : Shape := ⟨2, ![2560, 1024]⟩
abbrev S8192x1024 : Shape := ⟨2, ![8192, 1024]⟩
abbrev S1x1024 : Shape := ⟨2, ![1, 1024]⟩
abbrev S8x1024 : Shape := ⟨2, ![8, 1024]⟩

abbrev nBuf : Space → Nat
  | .hbm => 62
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024x2560, .f32⟩
  | .hbm, ⟨3, _⟩ => ⟨S4x2048x2560, .f32⟩
  | .hbm, ⟨4, _⟩ => ⟨S4x2048x1024, .f32⟩
  | .hbm, ⟨5, _⟩ => ⟨S4x2048x1024, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x1, .f32⟩
  | .hbm, ⟨17, _⟩ => ⟨S_, .f32⟩
  | .hbm, ⟨18, _⟩ => ⟨S4x2048x1, .f32⟩
  | .hbm, ⟨19, _⟩ => ⟨S4x2048x1, .f32⟩
  | .hbm, ⟨20, _⟩ => ⟨S4x2048x1024, .f32⟩
  | .hbm, ⟨21, _⟩ => ⟨S4x2048x1024, .f32⟩
  | .hbm, ⟨22, _⟩ => ⟨S1x1x1024, .f32⟩
  | .hbm, ⟨23, _⟩ => ⟨S4x2048x1024, .f32⟩
  | .hbm, ⟨24, _⟩ => ⟨S4x2048x1024, .f32⟩
  | .hbm, ⟨25, _⟩ => ⟨S4x2048x2560, .f32⟩
  | .hbm, ⟨26, _⟩ => ⟨S2560x1024, .f32⟩
  | .hbm, ⟨27, _⟩ => ⟨S1024x2560, .f32⟩
  | .hbm, ⟨28, _⟩ => ⟨S4x2048x1024, .f32⟩
  | .hbm, ⟨29, _⟩ => ⟨S4x2048x1024, .f32⟩
  | .hbm, ⟨30, _⟩ => ⟨S_, .f32⟩
  | .hbm, ⟨31, _⟩ => ⟨S1024, .f32⟩
  | .hbm, ⟨32, _⟩ => ⟨S1x1x1024, .f32⟩
  | .hbm, ⟨33, _⟩ => ⟨S4x2048x1024, .f32⟩
  | .hbm, ⟨34, _⟩ => ⟨S4x2048x1024, .f32⟩
  | .hbm, ⟨35, _⟩ => ⟨S_, .f32⟩
  | .hbm, ⟨36, _⟩ => ⟨S1024, .f32⟩
  | .hbm, ⟨37, _⟩ => ⟨S4x2048x1024, .f32⟩
  | .hbm, ⟨38, _⟩ => ⟨S_, .f32⟩
  | .hbm, ⟨39, _⟩ => ⟨S4x2048, .f32⟩
  | .hbm, ⟨40, _⟩ => ⟨S4x2048x1, .f32⟩
  | .hbm, ⟨41, _⟩ => ⟨S4x2048x1024, .f32⟩
  | .hbm, ⟨42, _⟩ => ⟨S4x2048x1024, .f32⟩
  | .hbm, ⟨43, _⟩ => ⟨S4x2048x1024, .f32⟩
  | .hbm, ⟨44, _⟩ => ⟨S4x2048x1, .f32⟩
  | .hbm, ⟨45, _⟩ => ⟨S_, .f32⟩
  | .hbm, ⟨46, _⟩ => ⟨S4x2048x1, .f32⟩
  | .hbm, ⟨47, _⟩ => ⟨S4x2048x1, .f32⟩
  | .hbm, ⟨48, _⟩ => ⟨S_, .f32⟩
  | .hbm, ⟨49, _⟩ => ⟨S4x2048, .f32⟩
  | .hbm, ⟨50, _⟩ => ⟨S4x2048x1024, .f32⟩
  | .hbm, ⟨51, _⟩ => ⟨S4x2048x1024, .f32⟩
  | .hbm, ⟨52, _⟩ => ⟨S4x2048x1024, .f32⟩
  | .hbm, ⟨53, _⟩ => ⟨S4x2048x1024, .f32⟩
  | .hbm, ⟨54, _⟩ => ⟨S4x2048x1024, .f32⟩
  | .hbm, ⟨55, _⟩ => ⟨S8192x1024, .f32⟩
  | .hbm, ⟨56, _⟩ => ⟨S1x1024, .f32⟩
  | .hbm, ⟨57, _⟩ => ⟨S_, .i32⟩
  | .hbm, ⟨58, _⟩ => ⟨S_, .f32⟩
  | .hbm, ⟨59, _⟩ => ⟨S8x1024, .f32⟩
  | .hbm, ⟨60, _⟩ => ⟨S2560x1024, .f32⟩
  | .hbm, ⟨61, _⟩ => ⟨S2560x1024, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_c : Ref sig .tc := ⟨.hbm, 57, rfl⟩
abbrev main_call0_v0 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩

abbrev nD : Nat := 1
abbrev τ : Topo := Topo.v7x

variable {F : FTy → Type} [FloatOps F]
-- ==== ScConvBwd.lean ====
abbrev S4x2048x512 : Shape := ⟨3, ![4, 2048, 512]⟩
abbrev S3x512 : Shape := ⟨2, ![3, 512]⟩
abbrev S8192x512 : Shape := ⟨2, ![8192, 512]⟩
abbrev S3x128 : Shape := ⟨2, ![3, 128]⟩
abbrev S2048x128 : Shape := ⟨2, ![2048, 128]⟩
abbrev S1x128 : Shape := ⟨2, ![1, 128]⟩
abbrev S128 : Shape := ⟨1, ![128]⟩
abbrev S2x128 : Shape := ⟨2, ![2, 128]⟩

abbrev nBuf : Space → Nat
  | .hbm => 13
  | .vmem => 18
  | .smem => 0
  | _ => 0

abbrev bufTy : (tb : Table) → Fin (tcTables nBuf tb) → BufTy
  | .hbm, ⟨0, _⟩ => ⟨S4x2048x512, .f32⟩
  | .hbm, ⟨1, _⟩ => ⟨S4x2048x512, .f32⟩
  | .hbm, ⟨2, _⟩ => ⟨S4x2048x512, .f32⟩
  | .hbm, ⟨3, _⟩ => ⟨S3x512, .f32⟩
  | .hbm, ⟨4, _⟩ => ⟨S4x2048x512, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S8192x512, .bf16⟩
  | .hbm, ⟨10, _⟩ => ⟨S8192x512, .bf16⟩
  | .hbm, ⟨11, _⟩ => ⟨S8192x512, .bf16⟩
  | .hbm, ⟨12, _⟩ => ⟨S3x512, .f32⟩
  | .local _ .vmem, ⟨0, _⟩ => ⟨S3x128, .f32⟩
  | .local _ .vmem, ⟨1, _⟩ => ⟨S3x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .bf16⟩
  | .local _ .vmem, ⟨11, _⟩ => ⟨S2048x128, .bf16⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S3x128, .f32⟩
  | .local _ .vmem, ⟨17, _⟩ => ⟨S3x128, .f32⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S3x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S3x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ScConvBwdRefIdeal.lean ====
abbrev S4x2048x512 : Shape := ⟨3, ![4, 2048, 512]⟩
abbrev S3x512 : Shape := ⟨2, ![3, 512]⟩
abbrev S_ : Shape := ⟨0, ![]⟩
abbrev S4x2x512 : Shape := ⟨3, ![4, 2, 512]⟩
abbrev S4x2050x512 : Shape := ⟨3, ![4, 2050, 512]⟩
abbrev S1x512 : Shape := ⟨2, ![1, 512]⟩
abbrev S512 : Shape := ⟨1, ![512]⟩
abbrev S1x1x512 : Shape := ⟨3, ![1, 1, 512]⟩
abbrev S8192x512 : Shape := ⟨2, ![8192, 512]⟩

abbrev nBuf : Space → Nat
  | .hbm => 90
  | .vmem => 0
  | .smem => 0
  | _ => 0

abbrev bufTy : (tb : Table) → Fin (tcTables nBuf tb) → BufTy
  | .hbm, ⟨0, _⟩ => ⟨S4x2048x512, .f32⟩
  | .hbm, ⟨1, _⟩ => ⟨S4x2048x512, .f32⟩
  | .hbm, ⟨2, _⟩ => ⟨S4x2048x512, .f32⟩
  | .hbm, ⟨3, _⟩ => ⟨S3x512, .f32⟩
  | .hbm, ⟨4, _⟩ => ⟨S4x2048x512, .f32⟩
  | .hbm, ⟨5, _⟩ => ⟨S4x2048x512, .f32⟩
  | .hbm, ⟨6, _⟩ => ⟨S_, .f32⟩
  | .hbm, ⟨7, _⟩ => ⟨S4x2x512, .f32⟩
  | .hbm, ⟨8, _⟩ => ⟨S4x2050x512, .f32⟩
  | .hbm, ⟨9, _⟩ => ⟨S_, .f32⟩
  | .hbm, ⟨10, _⟩ => ⟨S4x2x512, .f32⟩
  | .hbm, ⟨11, _⟩ => ⟨S4x2048x512, .f32⟩
  | .hbm, ⟨12, _⟩ => ⟨S1x512, .f32⟩
  | .hbm, ⟨13, _⟩ => ⟨S512, .f32⟩
  | .hbm, ⟨14, _⟩ => ⟨S1x1x512, .f32⟩
  | .hbm, ⟨15, _⟩ => ⟨S4x2048x512, .f32⟩
  | .hbm, ⟨16, _⟩ => ⟨S4x2048x512, .f32⟩
  | .hbm, ⟨17, _⟩ => ⟨S_, .f32⟩
  | .hbm, ⟨18, _⟩ => ⟨S4x2048x512, .f32⟩
  | .hbm, ⟨19, _⟩ => ⟨S4x2048x512, .f32⟩
  | .hbm, ⟨20, _⟩ => ⟨S4x2048x512, .f32⟩
  | .hbm, ⟨21, _⟩ => ⟨S1x512, .f32⟩
  | .hbm, ⟨22, _⟩ => ⟨S512, .f32⟩
  | .hbm, ⟨23, _⟩ => ⟨S1x1x512, .f32⟩
  | .hbm, ⟨24, _⟩ => ⟨S4x2048x512, .f32⟩
  | .hbm, ⟨25, _⟩ => ⟨S4x2048x512, .f32⟩
  | .hbm, ⟨26, _⟩ => ⟨S4x2048x512, .f32⟩
  | .hbm, ⟨27, _⟩ => ⟨S4x2048x512, .f32⟩
  | .hbm, ⟨28, _⟩ => ⟨S1x512, .f32⟩
  | .hbm, ⟨29, _⟩ => ⟨S512, .f32⟩
  | .hbm, ⟨30, _⟩ => ⟨S1x1x512, .f32⟩
  | .hbm, ⟨31, _⟩ => ⟨S4x2048x512, .f32⟩
  | .hbm, ⟨32, _⟩ => ⟨S4x2048x512, .f32⟩
  | .hbm, ⟨33, _⟩ => ⟨S4x2048x512, .f32⟩
  | .hbm, ⟨34, _⟩ => ⟨S4x2048x512, .f32⟩
  | .hbm, ⟨35, _⟩ => ⟨S4x2048x512, .f32⟩
  | .hbm, ⟨36, _⟩ => ⟨S4x2048x512, .f32⟩
  | .hbm, ⟨37, _⟩ => ⟨S4x2048x512, .f32⟩
  | .hbm, ⟨38, _⟩ => ⟨S_, .f32⟩
  | .hbm, ⟨39, _⟩ => ⟨S512, .f32⟩
  | .hbm, ⟨40, _⟩ => ⟨S1x1x512, .f32⟩
  | .hbm, ⟨41, _⟩ => ⟨S4x2048x512, .f32⟩
  | .hbm, ⟨42, _⟩ => ⟨S4x2048x512, .f32⟩
  | .hbm, ⟨43, _⟩ => ⟨S_, .f32⟩
  | .hbm, ⟨44, _⟩ => ⟨S512, .f32⟩
  | .hbm, ⟨45, _⟩ => ⟨S1x512, .f32⟩
  | .hbm, ⟨46, _⟩ => ⟨S_, .f32⟩
  | .hbm, ⟨47, _⟩ => ⟨S3x512, .f32⟩
  | .hbm, ⟨48, _⟩ => ⟨S_, .f32⟩
  | .hbm, ⟨49, _⟩ => ⟨S4x2050x512, .f32⟩
  | .hbm, ⟨50, _⟩ => ⟨S4x2048x512, .f32⟩
  | .hbm, ⟨51, _⟩ => ⟨S_, .f32⟩
  | .hbm, ⟨52, _⟩ => ⟨S512, .f32⟩
  | .hbm, ⟨53, _⟩ => ⟨S1x1x512, .f32⟩
  | .hbm, ⟨54, _⟩ => ⟨S4x2048x512, .f32⟩
  | .hbm, ⟨55, _⟩ => ⟨S4x2048x512, .f32⟩
  | .hbm, ⟨56, _⟩ => ⟨S_, .f32⟩
  | .hbm, ⟨57, _⟩ => ⟨S512, .f32⟩
  | .hbm, ⟨58, _⟩ => ⟨S1x512, .f32⟩
  | .hbm, ⟨59, _⟩ => ⟨S_, .f32⟩
  | .hbm, ⟨60, _⟩ => ⟨S3x512, .f32⟩
  | .hbm, ⟨61, _⟩ => ⟨S3x512, .f32⟩
  | .hbm, ⟨62, _⟩ => ⟨S_, .f32⟩
  | .hbm, ⟨63, _⟩ => ⟨S4x2050x512, .f32⟩
  | .hbm, ⟨64, _⟩ => ⟨S4x2050x512, .f32⟩
  | .hbm, ⟨65, _⟩ => ⟨S4x2048x512, .f32⟩
  | .hbm, ⟨66, _⟩ => ⟨S_, .f32⟩
  | .hbm, ⟨67, _⟩ => ⟨S512, .f32⟩
  | .hbm, ⟨68, _⟩ => ⟨S1x1x512, .f32⟩
  | .hbm, ⟨69, _⟩ => ⟨S4x2048x512, .f32⟩
  | .hbm, ⟨70, _⟩ => ⟨S4x2048x512, .f32⟩
  | .hbm, ⟨71, _⟩ => ⟨S_, .f32⟩
  | .hbm, ⟨72, _⟩ => ⟨S512, .f32⟩
  | .hbm, ⟨73, _⟩ => ⟨S1x512, .f32⟩
  | .hbm, ⟨74, _⟩ => ⟨S_, .f32⟩
  | .hbm, ⟨75, _⟩ => ⟨S3x512, .f32⟩
  | .hbm, ⟨76, _⟩ => ⟨S3x512, .f32⟩
  | .hbm, ⟨77, _⟩ => ⟨S_, .f32⟩
  | .hbm, ⟨78, _⟩ => ⟨S4x2050x512, .f32⟩
  | .hbm, ⟨79, _⟩ => ⟨S4x2050x512, .f32⟩
  | .hbm, ⟨80, _⟩ => ⟨S4x2x512, .f32⟩
  | .hbm, ⟨81, _⟩ => ⟨S4x2048x512, .f32⟩
  | .hbm, ⟨82, _⟩ => ⟨S4x2048x512, .f32⟩
  | .hbm, ⟨83, _⟩ => ⟨S4x2048x512, .f32⟩
  | .hbm, ⟨84, _⟩ => ⟨S8192x512, .f32⟩
  | .hbm, ⟨85, _⟩ => ⟨S8192x512, .bf16⟩
  | .hbm, ⟨86, _⟩ => ⟨S8192x512, .f32⟩
  | .hbm, ⟨87, _⟩ => ⟨S8192x512, .bf16⟩
  | .hbm, ⟨88, _⟩ => ⟨S8192x512, .f32⟩
  | .hbm, ⟨89, _⟩ => ⟨S8192x512, .bf16⟩
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_2 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_7 : Ref sig .tc := ⟨.hbm, 56, rfl⟩
abbrev main_v43 : Ref sig .tc := ⟨.hbm, 57, rfl⟩
abbrev main_v44 : Ref sig .tc := ⟨.hbm, 58, rfl⟩
abbrev main_cst_8 : Ref sig .tc := ⟨.hbm, 59, rfl⟩
abbrev main_v45 : Ref sig .tc := ⟨.hbm, 60, rfl⟩
abbrev main_v46 : Ref sig .tc := ⟨.hbm, 61, rfl⟩
abbrev main_cst_9 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_10 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_11 : Ref sig .tc := ⟨.hbm, 71, rfl⟩
abbrev main_v54 : Ref sig .tc := ⟨.hbm, 72, rfl⟩
abbrev main_v55 : Ref sig .tc := ⟨.hbm, 73, rfl⟩
abbrev main_cst_12 : Ref sig .tc := ⟨.hbm, 74, rfl⟩
abbrev main_v56 : Ref sig .tc := ⟨.hbm, 75, rfl⟩
abbrev main_v57 : Ref sig .tc := ⟨.hbm, 76, rfl⟩
abbrev main_cst_13 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩

abbrev nD : Nat := 1
abbrev τ : Topo := Topo.v7x

variable {F : FTy → Type} [FloatOps F]
-- ==== DnConvBwd.lean ====
abbrev S4x2048x1536 : Shape := ⟨3, ![4, 2048, 1536]⟩
abbrev S4x1536 : Shape := ⟨2, ![4, 1536]⟩
abbrev S8192x1536 : Shape := ⟨2, ![8192, 1536]⟩
abbrev S4x128 : Shape := ⟨2, ![4, 128]⟩
abbrev S2048x128 : Shape := ⟨2, ![2048, 128]⟩
abbrev S1x128 : Shape := ⟨2, ![1, 128]⟩
abbrev S128 : Shape := ⟨1, ![128]⟩
abbrev S2x128 : Shape := ⟨2, ![2, 128]⟩
abbrev S3x128 : Shape := ⟨2, ![3, 128]⟩

abbrev nBuf : Space → Nat
  | .hbm => 7
  | .vmem => 10
  | .smem => 0
  | _ => 0

abbrev bufTy : (tb : Table) → Fin (tcTables nBuf tb) → BufTy
  | .hbm, ⟨0, _⟩ => ⟨S4x2048x1536, .f32⟩
  | .hbm, ⟨1, _⟩ => ⟨S4x1536, .f32⟩
  | .hbm, ⟨2, _⟩ => ⟨S4x2048x1536, .f32⟩
  | .hbm, ⟨3, _⟩ => ⟨S8192x1536, .f32⟩
  | .hbm, ⟨4, _⟩ => ⟨S8192x1536, .f32⟩
  | .hbm, ⟨5, _⟩ => ⟨S8192x1536, .bf16⟩
  | .hbm, ⟨6, _⟩ => ⟨S4x1536, .f32⟩
  | .local _ .vmem, ⟨0, _⟩ => ⟨S4x128, .f32⟩
  | .local _ .vmem, ⟨1, _⟩ => ⟨S4x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .bf16⟩
  | .local _ .vmem, ⟨7, _⟩ => ⟨S2048x128, .bf16⟩
  | .local _ .vmem, ⟨8, _⟩ => ⟨S4x128, .f32⟩
  | .local _ .vmem, ⟨9, _⟩ => ⟨S4x128, .f32⟩
  | _, _ => ⟨S4x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![12, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== DnConvBwdRefIdeal.lean ====
abbrev S4x2048x1536 : Shape := ⟨3, ![4, 2048, 1536]⟩
abbrev S4x1536 : Shape := ⟨2, ![4, 1536]⟩
abbrev S_ : Shape := ⟨0, ![]⟩
abbrev S4x3x1536 : Shape := ⟨3, ![4, 3, 1536]⟩
abbrev S4x2051x1536 : Shape := ⟨3, ![4, 2051, 1536]⟩
abbrev S1x1536 : Shape := ⟨2, ![1, 1536]⟩
abbrev S1536 : Shape := ⟨1, ![1536]⟩
abbrev S1x1x1536 : Shape := ⟨3, ![1, 1, 1536]⟩
abbrev S8192x1536 : Shape := ⟨2, ![8192, 1536]⟩

abbrev nBuf : Space → Nat
  | .hbm => 117
  | .vmem => 0
  | .smem => 0
  | _ => 0

abbrev bufTy : (tb : Table) → Fin (tcTables nBuf tb) → BufTy
  | .hbm, ⟨0, _⟩ => ⟨S4x2048x1536, .f32⟩
  | .hbm, ⟨1, _⟩ => ⟨S4x1536, .f32⟩
  | .hbm, ⟨2, _⟩ => ⟨S4x2048x1536, .f32⟩
  | .hbm, ⟨3, _⟩ => ⟨S_, .f32⟩
  | .hbm, ⟨4, _⟩ => ⟨S4x3x1536, .f32⟩
  | .hbm, ⟨5, _⟩ => ⟨S4x2051x1536, .f32⟩
  | .hbm, ⟨6, _⟩ => ⟨S_, .f32⟩
  | .hbm, ⟨7, _⟩ => ⟨S4x3x1536, .f32⟩
  | .hbm, ⟨8, _⟩ => ⟨S4x2048x1536, .f32⟩
  | .hbm, ⟨9, _⟩ => ⟨S1x1536, .f32⟩
  | .hbm, ⟨10, _⟩ => ⟨S1536, .f32⟩
  | .hbm, ⟨11, _⟩ => ⟨S1x1x1536, .f32⟩
  | .hbm, ⟨12, _⟩ => ⟨S4x2048x1536, .f32⟩
  | .hbm, ⟨13, _⟩ => ⟨S4x2048x1536, .f32⟩
  | .hbm, ⟨14, _⟩ => ⟨S_, .f32⟩
  | .hbm, ⟨15, _⟩ => ⟨S4x2048x1536, .f32⟩
  | .hbm, ⟨16, _⟩ => ⟨S4x2048x1536, .f32⟩
  | .hbm, ⟨17, _⟩ => ⟨S4x2048x1536, .f32⟩
  | .hbm, ⟨18, _⟩ => ⟨S1x1536, .f32⟩
  | .hbm, ⟨19, _⟩ => ⟨S1536, .f32⟩
  | .hbm, ⟨20, _⟩ => ⟨S1x1x1536, .f32⟩
  | .hbm, ⟨21, _⟩ => ⟨S4x2048x1536, .f32⟩
  | .hbm, ⟨22, _⟩ => ⟨S4x2048x1536, .f32⟩
  | .hbm, ⟨23, _⟩ => ⟨S4x2048x1536, .f32⟩
  | .hbm, ⟨24, _⟩ => ⟨S4x2048x1536, .f32⟩
  | .hbm, ⟨25, _⟩ => ⟨S1x1536, .f32⟩
  | .hbm, ⟨26, _⟩ => ⟨S1536, .f32⟩
  | .hbm, ⟨27, _⟩ => ⟨S1x1x1536, .f32⟩
  | .hbm, ⟨28, _⟩ => ⟨S4x2048x1536, .f32⟩
  | .hbm, ⟨29, _⟩ => ⟨S4x2048x1536, .f32⟩
  | .hbm, ⟨30, _⟩ => ⟨S4x2048x1536, .f32⟩
  | .hbm, ⟨31, _⟩ => ⟨S4x2048x1536, .f32⟩
  | .hbm, ⟨32, _⟩ => ⟨S1x1536, .f32⟩
  | .hbm, ⟨33, _⟩ => ⟨S1536, .f32⟩
  | .hbm, ⟨34, _⟩ => ⟨S1x1x1536, .f32⟩
  | .hbm, ⟨35, _⟩ => ⟨S4x2048x1536, .f32⟩
  | .hbm, ⟨36, _⟩ => ⟨S4x2048x1536, .f32⟩
  | .hbm, ⟨37, _⟩ => ⟨S4x2048x1536, .f32⟩
  | .hbm, ⟨38, _⟩ => ⟨S4x2048x1536, .f32⟩
  | .hbm, ⟨39, _⟩ => ⟨S4x2048x1536, .f32⟩
  | .hbm, ⟨40, _⟩ => ⟨S_, .f32⟩
  | .hbm, ⟨41, _⟩ => ⟨S4x2048x1536, .f32⟩
  | .hbm, ⟨42, _⟩ => ⟨S4x2048x1536, .f32⟩
  | .hbm, ⟨43, _⟩ => ⟨S_, .f32⟩
  | .hbm, ⟨44, _⟩ => ⟨S4x2048x1536, .f32⟩
  | .hbm, ⟨45, _⟩ => ⟨S4x2048x1536, .f32⟩
  | .hbm, ⟨46, _⟩ => ⟨S_, .f32⟩
  | .hbm, ⟨47, _⟩ => ⟨S4x2048x1536, .f32⟩
  | .hbm, ⟨48, _⟩ => ⟨S4x2048x1536, .f32⟩
  | .hbm, ⟨49, _⟩ => ⟨S4x2048x1536, .f32⟩
  | .hbm, ⟨50, _⟩ => ⟨S4x2048x1536, .f32⟩
  | .hbm, ⟨51, _⟩ => ⟨S4x2048x1536, .f32⟩
  | .hbm, ⟨52, _⟩ => ⟨S4x2048x1536, .f32⟩
  | .hbm, ⟨53, _⟩ => ⟨S4x2048x1536, .f32⟩
  | .hbm, ⟨54, _⟩ => ⟨S4x2048x1536, .f32⟩
  | .hbm, ⟨55, _⟩ => ⟨S4x2048x1536, .f32⟩
  | .hbm, ⟨56, _⟩ => ⟨S_, .f32⟩
  | .hbm, ⟨57, _⟩ => ⟨S1536, .f32⟩
  | .hbm, ⟨58, _⟩ => ⟨S1x1x1536, .f32⟩
  | .hbm, ⟨59, _⟩ => ⟨S4x2048x1536, .f32⟩
  | .hbm, ⟨60, _⟩ => ⟨S4x2048x1536, .f32⟩
  | .hbm, ⟨61, _⟩ => ⟨S_, .f32⟩
  | .hbm, ⟨62, _⟩ => ⟨S1536, .f32⟩
  | .hbm, ⟨63, _⟩ => ⟨S1x1536, .f32⟩
  | .hbm, ⟨64, _⟩ => ⟨S_, .f32⟩
  | .hbm, ⟨65, _⟩ => ⟨S4x1536, .f32⟩
  | .hbm, ⟨66, _⟩ => ⟨S_, .f32⟩
  | .hbm, ⟨67, _⟩ => ⟨S4x2051x1536, .f32⟩
  | .hbm, ⟨68, _⟩ => ⟨S4x2048x1536, .f32⟩
  | .hbm, ⟨69, _⟩ => ⟨S_, .f32⟩
  | .hbm, ⟨70, _⟩ => ⟨S1536, .f32⟩
  | .hbm, ⟨71, _⟩ => ⟨S1x1x1536, .f32⟩
  | .hbm, ⟨72, _⟩ => ⟨S4x2048x1536, .f32⟩
  | .hbm, ⟨73, _⟩ => ⟨S4x2048x1536, .f32⟩
  | .hbm, ⟨74, _⟩ => ⟨S_, .f32⟩
  | .hbm, ⟨75, _⟩ => ⟨S1536, .f32⟩
  | .hbm, ⟨76, _⟩ => ⟨S1x1536, .f32⟩
  | .hbm, ⟨77, _⟩ => ⟨S_, .f32⟩
  | .hbm, ⟨78, _⟩ => ⟨S4x1536, .f32⟩
  | .hbm, ⟨79, _⟩ => ⟨S4x1536, .f32⟩
  | .hbm, ⟨80, _⟩ => ⟨S_, .f32⟩
  | .hbm, ⟨81, _⟩ => ⟨S4x2051x1536, .f32⟩
  | .hbm, ⟨82, _⟩ => ⟨S4x2051x1536, .f32⟩
  | .hbm, ⟨83, _⟩ => ⟨S4x2048x1536, .f32⟩
  | .hbm, ⟨84, _⟩ => ⟨S_, .f32⟩
  | .hbm, ⟨85, _⟩ => ⟨S1536, .f32⟩
  | .hbm, ⟨86, _⟩ => ⟨S1x1x1536, .f32⟩
  | .hbm, ⟨87, _⟩ => ⟨S4x2048x1536, .f32⟩
  | .hbm, ⟨88, _⟩ => ⟨S4x2048x1536, .f32⟩
  | .hbm, ⟨89, _⟩ => ⟨S_, .f32⟩
  | .hbm, ⟨90, _⟩ => ⟨S1536, .f32⟩
  | .hbm, ⟨91, _⟩ => ⟨S1x1536, .f32⟩
  | .hbm, ⟨92, _⟩ => ⟨S_, .f32⟩
  | .hbm, ⟨93, _⟩ => ⟨S4x1536, .f32⟩
  | .hbm, ⟨94, _⟩ => ⟨S4x1536, .f32⟩
  | .hbm, ⟨95, _⟩ => ⟨S_, .f32⟩
  | .hbm, ⟨96, _⟩ => ⟨S4x2051x1536, .f32⟩
  | .hbm, ⟨97, _⟩ => ⟨S4x2051x1536, .f32⟩
  | .hbm, ⟨98, _⟩ => ⟨S4x2048x1536, .f32⟩
  | .hbm, ⟨99, _⟩ => ⟨S_, .f32⟩
  | .hbm, ⟨100, _⟩ => ⟨S1536, .f32⟩
  | .hbm, ⟨101, _⟩ => ⟨S1x1x1536, .f32⟩
  | .hbm, ⟨102, _⟩ => ⟨S4x2048x1536, .f32⟩
  | .hbm, ⟨103, _⟩ => ⟨S4x2048x1536, .f32⟩
  | .hbm, ⟨104, _⟩ => ⟨S_, .f32⟩
  | .hbm, ⟨105, _⟩ => ⟨S1536, .f32⟩
  | .hbm, ⟨106, _⟩ => ⟨S1x1536, .f32⟩
  | .hbm, ⟨107, _⟩ => ⟨S_, .f32⟩
  | .hbm, ⟨108, _⟩ => ⟨S4x1536, .f32⟩
  | .hbm, ⟨109, _⟩ => ⟨S4x1536, .f32⟩
  | .hbm, ⟨110, _⟩ => ⟨S_, .f32⟩
  | .hbm, ⟨111, _⟩ => ⟨S4x2051x1536, .f32⟩
  | .hbm, ⟨112, _⟩ => ⟨S4x2051x1536, .f32⟩
  | .hbm, ⟨113, _⟩ => ⟨S4x3x1536, .f32⟩
  | .hbm, ⟨114, _⟩ => ⟨S4x2048x1536, .f32⟩
  | .hbm, ⟨115, _⟩ => ⟨S8192x1536, .f32⟩
  | .hbm, ⟨116, _⟩ => ⟨S8192x1536, .bf16⟩
  | _, _ => ⟨S4x2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_v32_2 : Ref sig .tc := ⟨.hbm, 45, rfl⟩
abbrev main_call0_cst_1 : Ref sig .tc := ⟨.hbm, 46, rfl⟩
abbrev main_call0_v6 : Ref sig .tc := ⟨.hbm, 47, rfl⟩
abbrev main_call0_v7 : Ref sig .tc := ⟨.hbm, 48, rfl⟩
abbrev main_v32_1 : Ref sig .tc := ⟨.hbm, 49, rfl⟩
abbrev main_v32_0 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v33 : Ref sig .tc := ⟨.hbm, 54, rfl⟩
abbrev main_v34 : Ref sig .tc := ⟨.hbm, 55, rfl⟩
abbrev main_cst_2 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_3 : Ref sig .tc := ⟨.hbm, 61, rfl⟩
abbrev main_v39 : Ref sig .tc := ⟨.hbm, 62, rfl⟩
abbrev main_v40 : Ref sig .tc := ⟨.hbm, 63, rfl⟩
abbrev main_cst_4 : Ref sig .tc := ⟨.hbm, 64, rfl⟩
abbrev main_v41 : Ref sig .tc := ⟨.hbm, 65, rfl⟩
abbrev main_cst_5 : Ref sig .tc := ⟨.hbm, 66, rfl⟩
abbrev main_v42 : Ref sig .tc := ⟨.hbm, 67, rfl⟩
abbrev main_v43 : Ref sig .tc := ⟨.hbm, 68, rfl⟩
abbrev main_cst_6 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_7 : Ref sig .tc := ⟨.hbm, 74, rfl⟩
abbrev main_v48 : Ref sig .tc := ⟨.hbm, 75, rfl⟩
abbrev main_v49 : Ref sig .tc := ⟨.hbm, 76, rfl⟩
abbrev main_cst_8 : Ref sig .tc := ⟨.hbm, 77, rfl⟩
abbrev main_v50 : Ref sig .tc := ⟨.hbm, 78, rfl⟩
abbrev main_v51 : Ref sig .tc := ⟨.hbm, 79, rfl⟩
abbrev main_cst_9 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_10 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_11 : Ref sig .tc := ⟨.hbm, 89, rfl⟩
abbrev main_v59 : Ref sig .tc := ⟨.hbm, 90, rfl⟩
abbrev main_v60 : Ref sig .tc := ⟨.hbm, 91, rfl⟩
abbrev main_cst_12 : Ref sig .tc := ⟨.hbm, 92, rfl⟩
abbrev main_v61 : Ref sig .tc := ⟨.hbm, 93, rfl⟩
abbrev main_v62 : Ref sig .tc := ⟨.hbm, 94, rfl⟩
abbrev main_cst_13 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_14 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_15 : Ref sig .tc := ⟨.hbm, 104, rfl⟩
abbrev main_v70 : Ref sig .tc := ⟨.hbm, 105, rfl⟩
abbrev main_v71 : Ref sig .tc := ⟨.hbm, 106, rfl⟩
abbrev main_cst_16 : Ref sig .tc := ⟨.hbm, 107, rfl⟩
abbrev main_v72 : Ref sig .tc := ⟨.hbm, 108, rfl⟩
abbrev main_v73 : Ref sig .tc := ⟨.hbm, 109, rfl⟩
abbrev main_cst_17 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩

abbrev nD : Nat := 1
abbrev τ : Topo := Topo.v7x

variable {F : FTy → Type} [FloatOps F]
-- ==== PoolBwd.lean ====
abbrev S4x2048x512 : Shape := ⟨3, ![4, 2048, 512]⟩
abbrev S4x128x128 : Shape := ⟨3, ![4, 128, 128]⟩
abbrev S512 : Shape := ⟨1, ![512]⟩
abbrev S8192x512 : Shape := ⟨2, ![8192, 512]⟩
abbrev S1x512 : Shape := ⟨2, ![1, 512]⟩
abbrev S8x512 : Shape := ⟨2, ![8, 512]⟩
abbrev S2048x512 : Shape := ⟨2, ![2048, 512]⟩
abbrev S2048x128 : Shape := ⟨2, ![2048, 128]⟩
abbrev S1x128x128 : Shape := ⟨3, ![1, 128, 128]⟩
abbrev S128x128 : Shape := ⟨2, ![128, 128]⟩
abbrev S1x128 : Shape := ⟨2, ![1, 128]⟩
abbrev S2048x1 : Shape := ⟨2, ![2048, 1]⟩
abbrev S128 : Shape := ⟨1, ![128]⟩

abbrev nBuf : Space → Nat
  | .hbm => 10
  | .vmem => 10
  | .smem => 0
  | _ => 0

abbrev bufTy : (tb : Table) → Fin (tcTables nBuf tb) → BufTy
  | .hbm, ⟨0, _⟩ => ⟨S4x2048x512, .f32⟩
  | .hbm, ⟨1, _⟩ => ⟨S4x128x128, .f32⟩
  | .hbm, ⟨2, _⟩ => ⟨S512, .f32⟩
  | .hbm, ⟨3, _⟩ => ⟨S4x2048x512, .f32⟩
  | .hbm, ⟨4, _⟩ => ⟨S8192x512, .f32⟩
  | .hbm, ⟨5, _⟩ => ⟨S1x512, .f32⟩
  | .hbm, ⟨6, _⟩ => ⟨S8192x512, .f32⟩
  | .hbm, ⟨7, _⟩ => ⟨S8192x512, .bf16⟩
  | .hbm, ⟨8, _⟩ => ⟨S4x128x128, .f32⟩
  | .hbm, ⟨9, _⟩ => ⟨S8x512, .f32⟩
  | .local _ .vmem, ⟨0, _⟩ => ⟨S2048x512, .f32⟩
  | .local _ .vmem, ⟨1, _⟩ => ⟨S2048x512, .f32⟩
  | .local _ .vmem, ⟨2, _⟩ => ⟨S4x128x128, .f32⟩
  | .local _ .vmem, ⟨3, _⟩ => ⟨S1x512, .f32⟩
  | .local _ .vmem, ⟨4, _⟩ => ⟨S2048x512, .f32⟩
  | .local _ .vmem, ⟨5, _⟩ => ⟨S2048x512, .f32⟩
  | .local _ .vmem, ⟨6, _⟩ => ⟨S2048x512, .bf16⟩
  | .local _ .vmem, ⟨7, _⟩ => ⟨S2048x512, .bf16⟩
  | .local _ .vmem, ⟨8, _⟩ => ⟨S4x128x128, .f32⟩
  | .local _ .vmem, ⟨9, _⟩ => ⟨S8x512, .f32⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== PoolBwdRefIdeal.lean ====
abbrev S4x2048x512 : Shape := ⟨3, ![4, 2048, 512]⟩
abbrev S4x128x128 : Shape := ⟨3, ![4, 128, 128]⟩
abbrev S512 : Shape := ⟨1, ![512]⟩
abbrev S4x2048x4x128 : Shape := ⟨4, ![4, 2048, 4, 128]⟩
abbrev S_ : Shape := ⟨0, ![]⟩
abbrev S2048 : Shape := ⟨1, ![2048]⟩
abbrev S4x2048x1x128 : Shape := ⟨4, ![4, 2048, 1, 128]⟩
abbrev S4x2048x128 : Shape := ⟨3, ![4, 2048, 128]⟩
abbrev S4x2x128 : Shape := ⟨3, ![4, 2, 128]⟩
abbrev S4x2046x128 : Shape := ⟨3, ![4, 2046, 128]⟩
abbrev S1x2048x1 : Shape := ⟨3, ![1, 2048, 1]⟩
abbrev S4x4x128 : Shape := ⟨3, ![4, 4, 128]⟩
abbrev S4x2044x128 : Shape := ⟨3, ![4, 2044, 128]⟩
abbrev S4x8x128 : Shape := ⟨3, ![4, 8, 128]⟩
abbrev S4x2040x128 : Shape := ⟨3, ![4, 2040, 128]⟩
abbrev S4x16x128 : Shape := ⟨3, ![4, 16, 128]⟩
abbrev S4x2032x128 : Shape := ⟨3, ![4, 2032, 128]⟩
abbrev S4x128x4x2048 : Shape := ⟨4, ![4, 128, 4, 2048]⟩
abbrev S1x1x512 : Shape := ⟨3, ![1, 1, 512]⟩
abbrev S4x4x2048x128 : Shape := ⟨4, ![4, 4, 2048, 128]⟩
abbrev S8192x512 : Shape := ⟨2, ![8192, 512]⟩
abbrev S1x512 : Shape := ⟨2, ![1, 512]⟩
abbrev S8x512 : Shape := ⟨2, ![8, 512]⟩

abbrev nBuf : Space → Nat
  | .hbm => 207
  | .vmem => 0
  | .smem => 0
  | _ => 0

abbrev hbmTy0_0 (i : Nat) : BufTy := match i % 128 with
  | 0 => ⟨S4x2048x512, .f32⟩
  | 1 => ⟨S4x128x128, .f32⟩
  | 2 => ⟨S512, .f32⟩
  | 3 => ⟨S4x2048x512, .f32⟩
  | 4 => ⟨S4x2048x4x128, .f32⟩
  | 5 => ⟨S_, .f32⟩
  | 6 => ⟨S_, .f32⟩
  | 7 => ⟨S4x2048x4x128, .f32⟩
  | 8 => ⟨S2048, .i32⟩
  | 9 => ⟨S4x2048x1x128, .f32⟩
  | 10 => ⟨S4x2048x128, .f32⟩
  | 11 => ⟨S_, .f32⟩
  | 12 => ⟨S4x2x128, .f32⟩
  | 13 => ⟨S4x2046x128, .f32⟩
  | 14 => ⟨S4x2048x128, .f32⟩
  | 15 => ⟨S_, .f32⟩
  | 16 => ⟨S4x2x128, .f32⟩
  | 17 => ⟨S_, .i32⟩
  | 18 => ⟨S2048, .i32⟩
  | 19 => ⟨S2048, .i32⟩
  | 20 => ⟨S_, .i32⟩
  | 21 => ⟨S2048, .i32⟩
  | 22 => ⟨S2048, .i32⟩
  | 23 => ⟨S2048, .f32⟩
  | 24 => ⟨S1x2048x1, .f32⟩
  | 25 => ⟨S4x2048x128, .f32⟩
  | 26 => ⟨S4x2048x128, .f32⟩
  | 27 => ⟨S4x2048x128, .f32⟩
  | 28 => ⟨S4x2048x1x128, .f32⟩
  | 29 => ⟨S4x2048x128, .f32⟩
  | 30 => ⟨S4x2048x128, .f32⟩
  | 31 => ⟨S4x2048x1x128, .f32⟩
  | 32 => ⟨S4x2048x128, .f32⟩
  | 33 => ⟨S_, .f32⟩
  | 34 => ⟨S4x4x128, .f32⟩
  | 35 => ⟨S4x2044x128, .f32⟩
  | 36 => ⟨S4x2048x128, .f32⟩
  | 37 => ⟨S_, .f32⟩
  | 38 => ⟨S4x4x128, .f32⟩
  | 39 => ⟨S_, .i32⟩
  | 40 => ⟨S2048, .i32⟩
  | 41 => ⟨S2048, .i32⟩
  | 42 => ⟨S_, .i32⟩
  | 43 => ⟨S2048, .i32⟩
  | 44 => ⟨S2048, .i32⟩
  | 45 => ⟨S2048, .f32⟩
  | 46 => ⟨S1x2048x1, .f32⟩
  | 47 => ⟨S4x2048x128, .f32⟩
  | 48 => ⟨S4x2048x128, .f32⟩
  | 49 => ⟨S4x2048x128, .f32⟩
  | 50 => ⟨S4x2048x1x128, .f32⟩
  | 51 => ⟨S4x2048x128, .f32⟩
  | 52 => ⟨S4x2048x128, .f32⟩
  | 53 => ⟨S4x2048x1x128, .f32⟩
  | 54 => ⟨S4x2048x128, .f32⟩
  | 55 => ⟨S_, .f32⟩
  | 56 => ⟨S4x8x128, .f32⟩
  | 57 => ⟨S4x2040x128, .f32⟩
  | 58 => ⟨S4x2048x128, .f32⟩
  | 59 => ⟨S_, .f32⟩
  | 60 => ⟨S4x8x128, .f32⟩
  | 61 => ⟨S_, .i32⟩
  | 62 => ⟨S2048, .i32⟩
  | 63 => ⟨S2048, .i32⟩
  | 64 => ⟨S_, .i32⟩
  | 65 => ⟨S2048, .i32⟩
  | 66 => ⟨S2048, .i32⟩
  | 67 => ⟨S2048, .f32⟩
  | 68 => ⟨S1x2048x1, .f32⟩
  | 69 => ⟨S4x2048x128, .f32⟩
  | 70 => ⟨S4x2048x128, .f32⟩
  | 71 => ⟨S4x2048x128, .f32⟩
  | 72 => ⟨S4x2048x1x128, .f32⟩
  | 73 => ⟨S4x2048x128, .f32⟩
  | 74 => ⟨S4x2048x128, .f32⟩
  | 75 => ⟨S4x2048x1x128, .f32⟩
  | 76 => ⟨S4x2048x128, .f32⟩
  | 77 => ⟨S_, .f32⟩
  | 78 => ⟨S4x16x128, .f32⟩
  | 79 => ⟨S4x2032x128, .f32⟩
  | 80 => ⟨S4x2048x128, .f32⟩
  | 81 => ⟨S_, .f32⟩
  | 82 => ⟨S4x16x128, .f32⟩
  | 83 => ⟨S_, .i32⟩
  | 84 => ⟨S2048, .i32⟩
  | 85 => ⟨S2048, .i32⟩
  | 86 => ⟨S_, .i32⟩
  | 87 => ⟨S2048, .i32⟩
  | 88 => ⟨S2048, .i32⟩
  | 89 => ⟨S2048, .f32⟩
  | 90 => ⟨S1x2048x1, .f32⟩
  | 91 => ⟨S4x2048x128, .f32⟩
  | 92 => ⟨S4x2048x128, .f32⟩
  | 93 => ⟨S4x2048x128, .f32⟩
  | 94 => ⟨S4x2048x1x128, .f32⟩
  | 95 => ⟨S4x2048x128, .f32⟩
  | 96 => ⟨S4x2048x128, .f32⟩
  | 97 => ⟨S4x2048x1x128, .f32⟩
  | 98 => ⟨S4x2048x1x128, .f32⟩
  | 99 => ⟨S4x2048x1x128, .f32⟩
  | 100 => ⟨S4x2048x1x128, .f32⟩
  | 101 => ⟨S4x2048x4x128, .f32⟩
  | 102 => ⟨S4x128x4x2048, .f32⟩
  | 103 => ⟨S4x2048x4x128, .f32⟩
  | 104 => ⟨S4x2048x512, .f32⟩
  | 105 => ⟨S1x1x512, .f32⟩
  | 106 => ⟨S4x2048x512, .f32⟩
  | 107 => ⟨S4x2048x512, .f32⟩
  | 108 => ⟨S4x2048x512, .f32⟩
  | 109 => ⟨S_, .f32⟩
  | 110 => ⟨S512, .f32⟩
  | 111 => ⟨S1x1x512, .f32⟩
  | 112 => ⟨S4x2048x512, .f32⟩
  | 113 => ⟨S4x2048x512, .f32⟩
  | 114 => ⟨S_, .f32⟩
  | 115 => ⟨S512, .f32⟩
  | 116 => ⟨S4x2048x4x128, .f32⟩
  | 117 => ⟨S4x128x4x2048, .f32⟩
  | 118 => ⟨S4x4x2048x128, .f32⟩
  | 119 => ⟨S4x2048x4x128, .f32⟩
  | 120 => ⟨S4x128x128, .f32⟩
  | 121 => ⟨S4x128x128, .f32⟩
  | 122 => ⟨S4x2048x1x128, .f32⟩
  | 123 => ⟨S4x2048x128, .f32⟩
  | 124 => ⟨S4x2048x1x128, .f32⟩
  | 125 => ⟨S4x2048x128, .f32⟩
  | 126 => ⟨S4x2048x1x128, .f32⟩
  | 127 => ⟨S4x2048x128, .f32⟩
  | _ => ⟨S4x2048x512, .f32⟩

abbrev hbmTy0_1 (i : Nat) : BufTy := match i % 128 with
  | 0 => ⟨S4x2048x1x128, .f32⟩
  | 1 => ⟨S4x2048x128, .f32⟩
  | 2 => ⟨S4x2048x128, .f32⟩
  | 3 => ⟨S4x2048x1x128, .f32⟩
  | 4 => ⟨S_, .f32⟩
  | 5 => ⟨S4x2048x4x128, .f32⟩
  | 6 => ⟨S4x2048x128, .f32⟩
  | 7 => ⟨S4x2048x128, .f32⟩
  | 8 => ⟨S4x2048x128, .f32⟩
  | 9 => ⟨S4x16x128, .f32⟩
  | 10 => ⟨S4x2032x128, .f32⟩
  | 11 => ⟨S_, .f32⟩
  | 12 => ⟨S4x2048x128, .f32⟩
  | 13 => ⟨S4x2048x128, .f32⟩
  | 14 => ⟨S4x2048x1x128, .f32⟩
  | 15 => ⟨S_, .f32⟩
  | 16 => ⟨S4x2048x4x128, .f32⟩
  | 17 => ⟨S4x2048x128, .f32⟩
  | 18 => ⟨S4x2048x1x128, .f32⟩
  | 19 => ⟨S_, .f32⟩
  | 20 => ⟨S4x2048x4x128, .f32⟩
  | 21 => ⟨S4x2048x4x128, .f32⟩
  | 22 => ⟨S4x2048x128, .f32⟩
  | 23 => ⟨S4x2048x128, .f32⟩
  | 24 => ⟨S4x2048x128, .f32⟩
  | 25 => ⟨S4x8x128, .f32⟩
  | 26 => ⟨S4x2040x128, .f32⟩
  | 27 => ⟨S_, .f32⟩
  | 28 => ⟨S4x2048x128, .f32⟩
  | 29 => ⟨S4x2048x128, .f32⟩
  | 30 => ⟨S4x2048x1x128, .f32⟩
  | 31 => ⟨S_, .f32⟩
  | 32 => ⟨S4x2048x4x128, .f32⟩
  | 33 => ⟨S4x2048x4x128, .f32⟩
  | 34 => ⟨S4x2048x128, .f32⟩
  | 35 => ⟨S4x2048x1x128, .f32⟩
  | 36 => ⟨S_, .f32⟩
  | 37 => ⟨S4x2048x4x128, .f32⟩
  | 38 => ⟨S4x2048x4x128, .f32⟩
  | 39 => ⟨S4x2048x128, .f32⟩
  | 40 => ⟨S4x2048x128, .f32⟩
  | 41 => ⟨S4x2048x128, .f32⟩
  | 42 => ⟨S4x4x128, .f32⟩
  | 43 => ⟨S4x2044x128, .f32⟩
  | 44 => ⟨S_, .f32⟩
  | 45 => ⟨S4x2048x128, .f32⟩
  | 46 => ⟨S4x2048x128, .f32⟩
  | 47 => ⟨S4x2048x1x128, .f32⟩
  | 48 => ⟨S_, .f32⟩
  | 49 => ⟨S4x2048x4x128, .f32⟩
  | 50 => ⟨S4x2048x4x128, .f32⟩
  | 51 => ⟨S4x2048x128, .f32⟩
  | 52 => ⟨S4x2048x1x128, .f32⟩
  | 53 => ⟨S_, .f32⟩
  | 54 => ⟨S4x2048x4x128, .f32⟩
  | 55 => ⟨S4x2048x4x128, .f32⟩
  | 56 => ⟨S4x2048x128, .f32⟩
  | 57 => ⟨S4x2048x128, .f32⟩
  | 58 => ⟨S4x2048x128, .f32⟩
  | 59 => ⟨S4x2x128, .f32⟩
  | 60 => ⟨S4x2046x128, .f32⟩
  | 61 => ⟨S_, .f32⟩
  | 62 => ⟨S4x2048x128, .f32⟩
  | 63 => ⟨S4x2048x128, .f32⟩
  | 64 => ⟨S4x2048x1x128, .f32⟩
  | 65 => ⟨S_, .f32⟩
  | 66 => ⟨S4x2048x4x128, .f32⟩
  | 67 => ⟨S4x2048x4x128, .f32⟩
  | 68 => ⟨S_, .f32⟩
  | 69 => ⟨S_, .f32⟩
  | 70 => ⟨S4x2048x4x128, .f32⟩
  | 71 => ⟨S4x2048x4x128, .f32⟩
  | 72 => ⟨S4x2048x512, .f32⟩
  | 73 => ⟨S8192x512, .f32⟩
  | 74 => ⟨S8192x512, .bf16⟩
  | 75 => ⟨S1x512, .f32⟩
  | 76 => ⟨S_, .i32⟩
  | 77 => ⟨S_, .f32⟩
  | 78 => ⟨S8x512, .f32⟩
  | _ => ⟨S4x2048x512, .f32⟩

abbrev hbmTy (i : Nat) : BufTy := match i / 128 with
  | 0 => hbmTy0_0 i
  | 1 => hbmTy0_1 i
  | _ => ⟨S4x2048x512, .f32⟩

abbrev bufTy : (tb : Table) → Fin (tcTables nBuf tb) → BufTy
  | .hbm, ⟨i, _⟩ => hbmTy i
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_call0_cst : Ref sig .tc := ⟨.hbm, 5, rfl⟩
abbrev main_call0_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_c_4 : Ref sig .tc := ⟨.hbm, 39, rfl⟩
abbrev main_v27 : Ref sig .tc := ⟨.hbm, 40, rfl⟩
abbrev main_v28 : Ref sig .tc := ⟨.hbm, 41, rfl⟩
abbrev main_c_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_c_8 : Ref sig .tc := ⟨.hbm, 61, rfl⟩
abbrev main_v45 : Ref sig .tc := ⟨.hbm, 62, rfl⟩
abbrev main_v46 : Ref sig .tc := ⟨.hbm, 63, rfl⟩
abbrev main_c_9 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_10 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_11 : Ref sig .tc := ⟨.hbm, 81, rfl⟩
abbrev main_v62 : Ref sig .tc := ⟨.hbm, 82, rfl⟩
abbrev main_c_12 : Ref sig .tc := ⟨.hbm, 83, rfl⟩
abbrev main_v63 : Ref sig .tc := ⟨.hbm, 84, rfl⟩
abbrev main_v64 : Ref sig .tc := ⟨.hbm, 85, rfl⟩
abbrev main_c_13 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_cst_14 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_cst_15 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_cst_16 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_cst_17 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_cst_18 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_cst_19 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_cst_20 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_cst_21 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_cst_22 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_cst_23 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_cst_24 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_cst_25 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_cst_26 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_cst_27 : Ref sig .tc := ⟨.hbm, 193, rfl⟩
abbrev main_v158 : Ref sig .tc := ⟨.hbm, 194, rfl⟩
abbrev main_v159 : Ref sig .tc := ⟨.hbm, 195, rfl⟩
abbrev main_call1_call0_cst : Ref sig .tc := ⟨.hbm, 196, rfl⟩
abbrev main_call1_call0_v0 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_c_28 : Ref sig .tc := ⟨.hbm, 204, rfl⟩
abbrev main_call2_v0 : Ref sig .tc := ⟨.hbm, 205, rfl⟩
abbrev main_v166 : Ref sig .tc := ⟨.hbm, 206, rfl⟩

abbrev nD : Nat := 1
abbrev τ : Topo := Topo.v7x

variable {F : FTy → Type} [FloatOps F]
-- ==== SguBwd.lean ====
abbrev S4x2048x512 : Shape := ⟨3, ![4, 2048, 512]⟩
abbrev S512 : Shape := ⟨1, ![512]⟩
abbrev S4x128x128 : Shape := ⟨3, ![4, 128, 128]⟩
abbrev S4x128 : Shape := ⟨2, ![4, 128]⟩
abbrev S8192x512 : Shape := ⟨2, ![8192, 512]⟩
abbrev S1x512 : Shape := ⟨2, ![1, 512]⟩
abbrev S4x128x1 : Shape := ⟨3, ![4, 128, 1]⟩
abbrev S8x512 : Shape := ⟨2, ![8, 512]⟩
abbrev S512x512 : Shape := ⟨2, ![512, 512]⟩
abbrev S512x1 : Shape := ⟨2, ![512, 1]⟩
abbrev S128x128 : Shape := ⟨2, ![128, 128]⟩
abbrev S512x128 : Shape := ⟨2, ![512, 128]⟩
abbrev S1x128x128 : Shape := ⟨3, ![1, 128, 128]⟩
abbrev S1x128x1 : Shape := ⟨3, ![1, 128, 1]⟩
abbrev S128x1 : Shape := ⟨2, ![128, 1]⟩
abbrev S128 : Shape := ⟨1, ![128]⟩
abbrev S3x128x1 : Shape := ⟨3, ![3, 128, 1]⟩
abbrev S3x128x128 : Shape := ⟨3, ![3, 128, 128]⟩
abbrev S512x384 : Shape := ⟨2, ![512, 384]⟩
abbrev S2x128x1 : Shape := ⟨3, ![2, 128, 1]⟩
abbrev S2x128x128 : Shape := ⟨3, ![2, 128, 128]⟩
abbrev S512x256 : Shape := ⟨2, ![512, 256]⟩

abbrev nBuf : Space → Nat
  | .hbm => 19
  | .vmem => 18
  | .smem => 0
  | _ => 0

abbrev bufTy : (tb : Table) → Fin (tcTables nBuf tb) → BufTy
  | .hbm, ⟨0, _⟩ => ⟨S4x2048x512, .f32⟩
  | .hbm, ⟨1, _⟩ => ⟨S4x2048x512, .f32⟩
  | .hbm, ⟨2, _⟩ => ⟨S512, .f32⟩
  | .hbm, ⟨3, _⟩ => ⟨S512, .f32⟩
  | .hbm, ⟨4, _⟩ => ⟨S4x128x128, .f32⟩
  | .hbm, ⟨5, _⟩ => ⟨S4x128, .f32⟩
  | .hbm, ⟨6, _⟩ => ⟨S4x2048x512, .f32⟩
  | .hbm, ⟨7, _⟩ => ⟨S8192x512, .f32⟩
  | .hbm, ⟨8, _⟩ => ⟨S8192x512, .f32⟩
  | .hbm, ⟨9, _⟩ => ⟨S1x512, .f32⟩
  | .hbm, ⟨10, _⟩ => ⟨S1x512, .f32⟩
  | .hbm, ⟨11, _⟩ => ⟨S4x128x1, .f32⟩
  | .hbm, ⟨12, _⟩ => ⟨S8192x512, .f32⟩
  | .hbm, ⟨13, _⟩ => ⟨S8192x512, .bf16⟩
  | .hbm, ⟨14, _⟩ => ⟨S8192x512, .bf16⟩
  | .hbm, ⟨15, _⟩ => ⟨S8x512, .f32⟩
  | .hbm, ⟨16, _⟩ => ⟨S8x512, .f32⟩
  | .hbm, ⟨17, _⟩ => ⟨S4x128x128, .f32⟩
  | .hbm, ⟨18, _⟩ => ⟨S4x128x1, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S4x128x128, .f32⟩
  | .local _ .vmem, ⟨7, _⟩ => ⟨S4x128x1, .f32⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S8x512, .f32⟩
  | .local _ .vmem, ⟨15, _⟩ => ⟨S8x512, .f32⟩
  | .local _ .vmem, ⟨16, _⟩ => ⟨S4x128x128, .f32⟩
  | .local _ .vmem, ⟨17, _⟩ => ⟨S4x128x1, .f32⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev main_v6_4 : Ref sig .tc := ⟨.hbm, 17, rfl⟩
abbrev main_v6_5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x128x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== SguBwdRefIdeal.lean ====
abbrev S4x2048x512 : Shape := ⟨3, ![4, 2048, 512]⟩
abbrev S512 : Shape := ⟨1, ![512]⟩
abbrev S4x128x128 : Shape := ⟨3, ![4, 128, 128]⟩
abbrev S4x128 : Shape := ⟨2, ![4, 128]⟩
abbrev S_ : Shape := ⟨0, ![]⟩
abbrev S4x2048 : Shape := ⟨2, ![4, 2048]⟩
abbrev S4x2048x1 : Shape := ⟨3, ![4, 2048, 1]⟩
abbrev S1x1x512 : Shape := ⟨3, ![1, 1, 512]⟩
abbrev S4x16x128x4x128 : Shape := ⟨5, ![4, 16, 128, 4, 128]⟩
abbrev S128x128 : Shape := ⟨2, ![128, 128]⟩
abbrev S4x4x16x128x128 : Shape := ⟨5, ![4, 4, 16, 128, 128]⟩
abbrev S128x4 : Shape := ⟨2, ![128, 4]⟩
abbrev S1x1x128x4x1 : Shape := ⟨5, ![1, 1, 128, 4, 1]⟩
abbrev S8192x512 : Shape := ⟨2, ![8192, 512]⟩
abbrev S1x512 : Shape := ⟨2, ![1, 512]⟩
abbrev S8x512 : Shape := ⟨2, ![8, 512]⟩
abbrev S4x128x1 : Shape := ⟨3, ![4, 128, 1]⟩

abbrev nBuf : Space → Nat
  | .hbm => 222
  | .vmem => 0
  | .smem => 0
  | _ => 0

abbrev hbmTy0_0 (i : Nat) : BufTy := match i % 128 with
  | 0 => ⟨S4x2048x512, .f32⟩
  | 1 => ⟨S4x2048x512, .f32⟩
  | 2 => ⟨S512, .f32⟩
  | 3 => ⟨S512, .f32⟩
  | 4 => ⟨S4x128x128, .f32⟩
  | 5 => ⟨S4x128, .f32⟩
  | 6 => ⟨S4x2048x512, .f32⟩
  | 7 => ⟨S4x2048x512, .f32⟩
  | 8 => ⟨S4x2048x512, .f32⟩
  | 9 => ⟨S4x2048x512, .f32⟩
  | 10 => ⟨S_, .f32⟩
  | 11 => ⟨S4x2048x512, .f32⟩
  | 12 => ⟨S4x2048x512, .f32⟩
  | 13 => ⟨S_, .f32⟩
  | 14 => ⟨S4x2048x512, .f32⟩
  | 15 => ⟨S4x2048x512, .f32⟩
  | 16 => ⟨S4x2048x512, .f32⟩
  | 17 => ⟨S_, .f32⟩
  | 18 => ⟨S4x2048x512, .f32⟩
  | 19 => ⟨S4x2048x512, .f32⟩
  | 20 => ⟨S4x2048x512, .f32⟩
  | 21 => ⟨S_, .f32⟩
  | 22 => ⟨S4x2048x512, .f32⟩
  | 23 => ⟨S4x2048x512, .f32⟩
  | 24 => ⟨S_, .f32⟩
  | 25 => ⟨S4x2048x512, .f32⟩
  | 26 => ⟨S4x2048x512, .f32⟩
  | 27 => ⟨S4x2048x512, .f32⟩
  | 28 => ⟨S_, .f32⟩
  | 29 => ⟨S4x2048x512, .f32⟩
  | 30 => ⟨S4x2048x512, .f32⟩
  | 31 => ⟨S_, .f32⟩
  | 32 => ⟨S4x2048x512, .f32⟩
  | 33 => ⟨S4x2048x512, .f32⟩
  | 34 => ⟨S4x2048x512, .f32⟩
  | 35 => ⟨S4x2048x512, .f32⟩
  | 36 => ⟨S4x2048x512, .f32⟩
  | 37 => ⟨S4x2048x512, .f32⟩
  | 38 => ⟨S_, .f32⟩
  | 39 => ⟨S4x2048x512, .f32⟩
  | 40 => ⟨S4x2048x512, .f32⟩
  | 41 => ⟨S_, .f32⟩
  | 42 => ⟨S4x2048x512, .f32⟩
  | 43 => ⟨S4x2048x512, .f32⟩
  | 44 => ⟨S4x2048x512, .f32⟩
  | 45 => ⟨S_, .f32⟩
  | 46 => ⟨S4x2048x512, .f32⟩
  | 47 => ⟨S4x2048x512, .f32⟩
  | 48 => ⟨S4x2048x512, .f32⟩
  | 49 => ⟨S_, .f32⟩
  | 50 => ⟨S4x2048x512, .f32⟩
  | 51 => ⟨S4x2048x512, .f32⟩
  | 52 => ⟨S_, .f32⟩
  | 53 => ⟨S4x2048x512, .f32⟩
  | 54 => ⟨S4x2048x512, .f32⟩
  | 55 => ⟨S4x2048x512, .f32⟩
  | 56 => ⟨S_, .f32⟩
  | 57 => ⟨S4x2048x512, .f32⟩
  | 58 => ⟨S4x2048x512, .f32⟩
  | 59 => ⟨S_, .f32⟩
  | 60 => ⟨S4x2048x512, .f32⟩
  | 61 => ⟨S4x2048x512, .f32⟩
  | 62 => ⟨S4x2048x512, .f32⟩
  | 63 => ⟨S_, .f32⟩
  | 64 => ⟨S4x2048, .f32⟩
  | 65 => ⟨S4x2048x1, .f32⟩
  | 66 => ⟨S_, .f32⟩
  | 67 => ⟨S4x2048x1, .f32⟩
  | 68 => ⟨S4x2048x1, .f32⟩
  | 69 => ⟨S4x2048x512, .f32⟩
  | 70 => ⟨S4x2048x512, .f32⟩
  | 71 => ⟨S4x2048x512, .f32⟩
  | 72 => ⟨S_, .f32⟩
  | 73 => ⟨S4x2048, .f32⟩
  | 74 => ⟨S4x2048x1, .f32⟩
  | 75 => ⟨S_, .f32⟩
  | 76 => ⟨S4x2048x1, .f32⟩
  | 77 => ⟨S4x2048x1, .f32⟩
  | 78 => ⟨S_, .f32⟩
  | 79 => ⟨S4x2048x1, .f32⟩
  | 80 => ⟨S4x2048x1, .f32⟩
  | 81 => ⟨S4x2048x1, .f32⟩
  | 82 => ⟨S4x2048x1, .f32⟩
  | 83 => ⟨S_, .f32⟩
  | 84 => ⟨S4x2048x1, .f32⟩
  | 85 => ⟨S4x2048x1, .f32⟩
  | 86 => ⟨S4x2048x512, .f32⟩
  | 87 => ⟨S4x2048x512, .f32⟩
  | 88 => ⟨S1x1x512, .f32⟩
  | 89 => ⟨S4x2048x512, .f32⟩
  | 90 => ⟨S4x2048x512, .f32⟩
  | 91 => ⟨S1x1x512, .f32⟩
  | 92 => ⟨S4x2048x512, .f32⟩
  | 93 => ⟨S4x2048x512, .f32⟩
  | 94 => ⟨S4x16x128x4x128, .f32⟩
  | 95 => ⟨S_, .i1⟩
  | 96 => ⟨S128x128, .i1⟩
  | 97 => ⟨S128x128, .i32⟩
  | 98 => ⟨S_, .i32⟩
  | 99 => ⟨S128x128, .i32⟩
  | 100 => ⟨S128x128, .i32⟩
  | 101 => ⟨S128x128, .i32⟩
  | 102 => ⟨S128x128, .i1⟩
  | 103 => ⟨S_, .i1⟩
  | 104 => ⟨S128x128, .i1⟩
  | 105 => ⟨S128x128, .i1⟩
  | 106 => ⟨S_, .f32⟩
  | 107 => ⟨S_, .f32⟩
  | 108 => ⟨S4x128x128, .i1⟩
  | 109 => ⟨S4x128x128, .f32⟩
  | 110 => ⟨S4x128x128, .f32⟩
  | 111 => ⟨S_, .f32⟩
  | 112 => ⟨S4x128x128, .f32⟩
  | 113 => ⟨S4x4x16x128x128, .f32⟩
  | 114 => ⟨S4x16x128x4x128, .f32⟩
  | 115 => ⟨S128x4, .f32⟩
  | 116 => ⟨S1x1x128x4x1, .f32⟩
  | 117 => ⟨S4x16x128x4x128, .f32⟩
  | 118 => ⟨S4x16x128x4x128, .f32⟩
  | 119 => ⟨S4x2048x512, .f32⟩
  | 120 => ⟨S4x2048x512, .f32⟩
  | 121 => ⟨S4x2048x512, .f32⟩
  | 122 => ⟨S4x2048x512, .f32⟩
  | 123 => ⟨S4x16x128x4x128, .f32⟩
  | 124 => ⟨S_, .f32⟩
  | 125 => ⟨S128x4, .f32⟩
  | 126 => ⟨S1x1x128x4x1, .f32⟩
  | 127 => ⟨S_, .f32⟩
  | _ => ⟨S4x2048x512, .f32⟩

abbrev hbmTy0_1 (i : Nat) : BufTy := match i % 128 with
  | 0 => ⟨S128x4, .f32⟩
  | 1 => ⟨S4x128, .f32⟩
  | 2 => ⟨S4x4x16x128x128, .f32⟩
  | 3 => ⟨S4x128x128, .f32⟩
  | 4 => ⟨S4x4x16x128x128, .f32⟩
  | 5 => ⟨S4x16x128x4x128, .f32⟩
  | 6 => ⟨S_, .f32⟩
  | 7 => ⟨S4x128x128, .f32⟩
  | 8 => ⟨S4x128x128, .f32⟩
  | 9 => ⟨S4x2048x512, .f32⟩
  | 10 => ⟨S_, .f32⟩
  | 11 => ⟨S512, .f32⟩
  | 12 => ⟨S1x1x512, .f32⟩
  | 13 => ⟨S_, .f32⟩
  | 14 => ⟨S512, .f32⟩
  | 15 => ⟨S4x2048x512, .f32⟩
  | 16 => ⟨S_, .f32⟩
  | 17 => ⟨S512, .f32⟩
  | 18 => ⟨S1x1x512, .f32⟩
  | 19 => ⟨S4x2048x512, .f32⟩
  | 20 => ⟨S4x2048x512, .f32⟩
  | 21 => ⟨S_, .f32⟩
  | 22 => ⟨S512, .f32⟩
  | 23 => ⟨S4x2048x512, .f32⟩
  | 24 => ⟨S_, .f32⟩
  | 25 => ⟨S4x2048, .f32⟩
  | 26 => ⟨S4x2048x1, .f32⟩
  | 27 => ⟨S4x2048x512, .f32⟩
  | 28 => ⟨S4x2048x512, .f32⟩
  | 29 => ⟨S4x2048x1, .f32⟩
  | 30 => ⟨S_, .f32⟩
  | 31 => ⟨S4x2048x1, .f32⟩
  | 32 => ⟨S4x2048x1, .f32⟩
  | 33 => ⟨S_, .f32⟩
  | 34 => ⟨S4x2048, .f32⟩
  | 35 => ⟨S4x2048x512, .f32⟩
  | 36 => ⟨S4x2048x512, .f32⟩
  | 37 => ⟨S4x2048x512, .f32⟩
  | 38 => ⟨S4x2048x512, .f32⟩
  | 39 => ⟨S4x2048x512, .f32⟩
  | 40 => ⟨S4x2048x512, .f32⟩
  | 41 => ⟨S_, .f32⟩
  | 42 => ⟨S4x2048, .f32⟩
  | 43 => ⟨S4x2048x1, .f32⟩
  | 44 => ⟨S_, .f32⟩
  | 45 => ⟨S4x2048x1, .f32⟩
  | 46 => ⟨S4x2048x1, .f32⟩
  | 47 => ⟨S_, .f32⟩
  | 48 => ⟨S4x2048, .f32⟩
  | 49 => ⟨S4x2048x512, .f32⟩
  | 50 => ⟨S4x2048x512, .f32⟩
  | 51 => ⟨S4x2048x512, .f32⟩
  | 52 => ⟨S4x2048x512, .f32⟩
  | 53 => ⟨S_, .f32⟩
  | 54 => ⟨S4x2048x512, .f32⟩
  | 55 => ⟨S4x2048x512, .f32⟩
  | 56 => ⟨S4x2048x512, .f32⟩
  | 57 => ⟨S_, .f32⟩
  | 58 => ⟨S4x2048x512, .f32⟩
  | 59 => ⟨S4x2048x512, .f32⟩
  | 60 => ⟨S4x2048x512, .f32⟩
  | 61 => ⟨S_, .f32⟩
  | 62 => ⟨S4x2048x512, .f32⟩
  | 63 => ⟨S4x2048x512, .f32⟩
  | 64 => ⟨S4x2048x512, .f32⟩
  | 65 => ⟨S4x2048x512, .f32⟩
  | 66 => ⟨S4x2048x512, .f32⟩
  | 67 => ⟨S4x2048x512, .f32⟩
  | 68 => ⟨S_, .f32⟩
  | 69 => ⟨S4x2048x512, .f32⟩
  | 70 => ⟨S4x2048x512, .f32⟩
  | 71 => ⟨S4x2048x512, .f32⟩
  | 72 => ⟨S_, .f32⟩
  | 73 => ⟨S4x2048x512, .f32⟩
  | 74 => ⟨S4x2048x512, .f32⟩
  | 75 => ⟨S4x2048x512, .f32⟩
  | 76 => ⟨S_, .f32⟩
  | 77 => ⟨S4x2048x512, .f32⟩
  | 78 => ⟨S4x2048x512, .f32⟩
  | 79 => ⟨S4x2048x512, .f32⟩
  | 80 => ⟨S4x2048x512, .f32⟩
  | 81 => ⟨S8192x512, .f32⟩
  | 82 => ⟨S8192x512, .bf16⟩
  | 83 => ⟨S8192x512, .f32⟩
  | 84 => ⟨S8192x512, .bf16⟩
  | 85 => ⟨S1x512, .f32⟩
  | 86 => ⟨S_, .i32⟩
  | 87 => ⟨S_, .f32⟩
  | 88 => ⟨S8x512, .f32⟩
  | 89 => ⟨S1x512, .f32⟩
  | 90 => ⟨S_, .i32⟩
  | 91 => ⟨S_, .f32⟩
  | 92 => ⟨S8x512, .f32⟩
  | 93 => ⟨S4x128x1, .f32⟩
  | _ => ⟨S4x2048x512, .f32⟩

abbrev hbmTy (i : Nat) : BufTy := match i / 128 with
  | 0 => hbmTy0_0 i
  | 1 => hbmTy0_1 i
  | _ => ⟨S4x2048x512, .f32⟩

abbrev bufTy : (tb : Table) → Fin (tcTables nBuf tb) → BufTy
  | .hbm, ⟨i, _⟩ => hbmTy i
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_9 : Ref sig .tc := ⟨.hbm, 49, rfl⟩
abbrev main_v32 : Ref sig .tc := ⟨.hbm, 50, rfl⟩
abbrev main_v33 : Ref sig .tc := ⟨.hbm, 51, rfl⟩
abbrev main_cst_10 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_11 : Ref sig .tc := ⟨.hbm, 56, rfl⟩
abbrev main_v37 : Ref sig .tc := ⟨.hbm, 57, rfl⟩
abbrev main_v38 : Ref sig .tc := ⟨.hbm, 58, rfl⟩
abbrev main_cst_12 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_13 : Ref sig .tc := ⟨.hbm, 63, rfl⟩
abbrev main_v42 : Ref sig .tc := ⟨.hbm, 64, rfl⟩
abbrev main_v43 : Ref sig .tc := ⟨.hbm, 65, rfl⟩
abbrev main_cst_14 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_15 : Ref sig .tc := ⟨.hbm, 72, rfl⟩
abbrev main_v49 : Ref sig .tc := ⟨.hbm, 73, rfl⟩
abbrev main_v50 : Ref sig .tc := ⟨.hbm, 74, rfl⟩
abbrev main_cst_16 : Ref sig .tc := ⟨.hbm, 75, rfl⟩
abbrev main_v51 : Ref sig .tc := ⟨.hbm, 76, rfl⟩
abbrev main_v52 : Ref sig .tc := ⟨.hbm, 77, rfl⟩
abbrev main_cst_17 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_18 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_c : Ref sig .tc := ⟨.hbm, 95, rfl⟩
abbrev main_v68 : Ref sig .tc := ⟨.hbm, 96, rfl⟩
abbrev main_call0_v0 : Ref sig .tc := ⟨.hbm, 97, rfl⟩
abbrev main_call0_c : Ref sig .tc := ⟨.hbm, 98, rfl⟩
abbrev main_call0_v1 : Ref sig .tc := ⟨.hbm, 99, rfl⟩
abbrev main_call0_v2 : Ref sig .tc := ⟨.hbm, 100, rfl⟩
abbrev main_call0_v3 : Ref sig .tc := ⟨.hbm, 101, rfl⟩
abbrev main_call0_v4 : Ref sig .tc := ⟨.hbm, 102, rfl⟩
abbrev main_call0_c_0 : Ref sig .tc := ⟨.hbm, 103, rfl⟩
abbrev main_call0_v5 : Ref sig .tc := ⟨.hbm, 104, rfl⟩
abbrev main_v69 : Ref sig .tc := ⟨.hbm, 105, rfl⟩
abbrev main_cst_19 : Ref sig .tc := ⟨.hbm, 106, rfl⟩
abbrev main_call1_v0 : Ref sig .tc := ⟨.hbm, 107, rfl⟩
abbrev main_v70_1 : Ref sig .tc := ⟨.hbm, 108, rfl⟩
abbrev main_call1_v2 : Ref sig .tc := ⟨.hbm, 109, rfl⟩
abbrev main_v70_0 : Ref sig .tc := ⟨.hbm, 110, rfl⟩
abbrev main_call1_cst : Ref sig .tc := ⟨.hbm, 111, rfl⟩
abbrev main_v70_2 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_cst_20 : Ref sig .tc := ⟨.hbm, 124, rfl⟩
abbrev main_v82 : Ref sig .tc := ⟨.hbm, 125, rfl⟩
abbrev main_v83 : Ref sig .tc := ⟨.hbm, 126, rfl⟩
abbrev main_cst_21 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_call2_cst : Ref sig .tc := ⟨.hbm, 134, rfl⟩
abbrev main_call2_v0 : Ref sig .tc := ⟨.hbm, 135, rfl⟩
abbrev main_v90 : Ref sig .tc := ⟨.hbm, 136, rfl⟩
abbrev main_v91 : Ref sig .tc := ⟨.hbm, 137, rfl⟩
abbrev main_cst_22 : Ref sig .tc := ⟨.hbm, 138, rfl⟩
abbrev main_v92 : Ref sig .tc := ⟨.hbm, 139, rfl⟩
abbrev main_v93 : Ref sig .tc := ⟨.hbm, 140, rfl⟩
abbrev main_cst_23 : Ref sig .tc := ⟨.hbm, 141, rfl⟩
abbrev main_v94 : Ref sig .tc := ⟨.hbm, 142, rfl⟩
abbrev main_v95 : Ref sig .tc := ⟨.hbm, 143, rfl⟩
abbrev main_cst_24 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_cst_25 : Ref sig .tc := ⟨.hbm, 149, rfl⟩
abbrev main_v100 : Ref sig .tc := ⟨.hbm, 150, rfl⟩
abbrev main_v101 : Ref sig .tc := ⟨.hbm, 151, rfl⟩
abbrev main_cst_26 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_cst_27 : Ref sig .tc := ⟨.hbm, 158, rfl⟩
abbrev main_v107 : Ref sig .tc := ⟨.hbm, 159, rfl⟩
abbrev main_v108 : Ref sig .tc := ⟨.hbm, 160, rfl⟩
abbrev main_cst_28 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_cst_29 : Ref sig .tc := ⟨.hbm, 169, rfl⟩
abbrev main_v116 : Ref sig .tc := ⟨.hbm, 170, rfl⟩
abbrev main_v117 : Ref sig .tc := ⟨.hbm, 171, rfl⟩
abbrev main_cst_30 : Ref sig .tc := ⟨.hbm, 172, rfl⟩
abbrev main_v118 : Ref sig .tc := ⟨.hbm, 173, rfl⟩
abbrev main_v119 : Ref sig .tc := ⟨.hbm, 174, rfl⟩
abbrev main_cst_31 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_cst_32 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_cst_33 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_cst_34 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_cst_35 : Ref sig .tc := ⟨.hbm, 196, rfl⟩
abbrev main_v137 : Ref sig .tc := ⟨.hbm, 197, rfl⟩
abbrev main_v138 : Ref sig .tc := ⟨.hbm, 198, rfl⟩
abbrev main_v139 : Ref sig .tc := ⟨.hbm, 199, rfl⟩
abbrev main_cst_36 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_cst_37 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_c_38 : Ref sig .tc := ⟨.hbm, 214, rfl⟩
abbrev main_call3_v0 : Ref sig .tc := ⟨.hbm, 215, rfl⟩
abbrev main_v152 : Ref sig .tc := ⟨.hbm, 216, rfl⟩
abbrev main_v153 : Ref sig .tc := ⟨.hbm, 217, rfl⟩
abbrev main_c_39 : Ref sig .tc := ⟨.hbm, 218, rfl⟩
abbrev main_call4_v0 : Ref sig .tc := ⟨.hbm, 219, rfl⟩
abbrev main_v154 : Ref sig .tc := ⟨.hbm, 220, rfl⟩
abbrev main_v155 : Ref sig .tc := ⟨.hbm, 221, rfl⟩

abbrev nD : Nat := 1
abbrev τ : Topo := Topo.v7x

variable {F : FTy → Type} [FloatOps F]
-- ==== DnRecurFwd.lean ====
abbrev S4x4x32x64x128 : Shape := ⟨5, ![4, 4, 32, 64, 128]⟩
abbrev S4x4x32x64x64 : Shape := ⟨5, ![4, 4, 32, 64, 64]⟩
abbrev S4x4x32x128 : Shape := ⟨4, ![4, 4, 32, 128]⟩
abbrev S4x2048x512 : Shape := ⟨3, ![4, 2048, 512]⟩
abbrev S128 : Shape := ⟨1, ![128]⟩
abbrev S4x32x4x64x128 : Shape := ⟨5, ![4, 32, 4, 64, 128]⟩
abbrev S128x4x64x128 : Shape := ⟨4, ![128, 4, 64, 128]⟩
abbrev S4x32x4x64x64 : Shape := ⟨5, ![4, 32, 4, 64, 64]⟩
abbrev S128x4x64x64 : Shape := ⟨4, ![128, 4, 64, 64]⟩
abbrev S4x4x32x1x128 : Shape := ⟨5, ![4, 4, 32, 1, 128]⟩
abbrev S4x32x4x1x128 : Shape := ⟨5, ![4, 32, 4, 1, 128]⟩
abbrev S128x4x1x128 : Shape := ⟨4, ![128, 4, 1, 128]⟩
abbrev S8192x512 : Shape := ⟨2, ![8192, 512]⟩
abbrev S1x128 : Shape := ⟨2, ![1, 128]⟩
abbrev S128x4x128x128 : Shape := ⟨4, ![128, 4, 128, 128]⟩
abbrev S32x4x64x128 : Shape := ⟨4, ![32, 4, 64, 128]⟩
abbrev S32x4x64x64 : Shape := ⟨4, ![32, 4, 64, 64]⟩
abbrev S32x4x1x128 : Shape := ⟨4, ![32, 4, 1, 128]⟩
abbrev S2048x512 : Shape := ⟨2, ![2048, 512]⟩
abbrev S32x4x128x128 : Shape := ⟨4, ![32, 4, 128, 128]⟩
abbrev S4x128x128 : Shape := ⟨3, ![4, 128, 128]⟩
abbrev S1x4x128x128 : Shape := ⟨4, ![1, 4, 128, 128]⟩
abbrev S1x4x64x128 : Shape := ⟨4, ![1, 4, 64, 128]⟩
abbrev S4x64x128 : Shape := ⟨3, ![4, 64, 128]⟩
abbrev S1x4x64x64 : Shape := ⟨4, ![1, 4, 64, 64]⟩
abbrev S4x64x64 : Shape := ⟨3, ![4, 64, 64]⟩
abbrev S1x4x1x128 : Shape := ⟨4, ![1, 4, 1, 128]⟩
abbrev S4x1x128 : Shape := ⟨3, ![4, 1, 128]⟩
abbrev S32x1x64x128 : Shape := ⟨4, ![32, 1, 64, 128]⟩
abbrev S32x64x128 : Shape := ⟨3, ![32, 64, 128]⟩
abbrev S2048x128 : Shape := ⟨2, ![2048, 128]⟩
abbrev S2048 : Shape := ⟨1, ![2048]⟩
abbrev S2048x1 : Shape := ⟨2, ![2048, 1]⟩

abbrev nBuf : Space → Nat
  | .hbm => 30
  | .vmem => 21
  | .smem => 0
  | _ => 0

abbrev bufTy : (tb : Table) → Fin (tcTables nBuf tb) → BufTy
  | .hbm, ⟨0, _⟩ => ⟨S4x4x32x64x128, .f32⟩
  | .hbm, ⟨1, _⟩ => ⟨S4x4x32x64x128, .f32⟩
  | .hbm, ⟨2, _⟩ => ⟨S4x4x32x64x128, .f32⟩
  | .hbm, ⟨3, _⟩ => ⟨S4x4x32x64x64, .f32⟩
  | .hbm, ⟨4, _⟩ => ⟨S4x4x32x64x128, .f32⟩
  | .hbm, ⟨5, _⟩ => ⟨S4x4x32x128, .f32⟩
  | .hbm, ⟨6, _⟩ => ⟨S4x2048x512, .f32⟩
  | .hbm, ⟨7, _⟩ => ⟨S128, .f32⟩
  | .hbm, ⟨8, _⟩ => ⟨S4x32x4x64x128, .f32⟩
  | .hbm, ⟨9, _⟩ => ⟨S128x4x64x128, .f32⟩
  | .hbm, ⟨10, _⟩ => ⟨S4x32x4x64x128, .f32⟩
  | .hbm, ⟨11, _⟩ => ⟨S128x4x64x128, .f32⟩
  | .hbm, ⟨12, _⟩ => ⟨S128x4x64x128, .bf16⟩
  | .hbm, ⟨13, _⟩ => ⟨S4x32x4x64x128, .f32⟩
  | .hbm, ⟨14, _⟩ => ⟨S128x4x64x128, .f32⟩
  | .hbm, ⟨15, _⟩ => ⟨S128x4x64x128, .bf16⟩
  | .hbm, ⟨16, _⟩ => ⟨S4x32x4x64x128, .f32⟩
  | .hbm, ⟨17, _⟩ => ⟨S128x4x64x128, .f32⟩
  | .hbm, ⟨18, _⟩ => ⟨S128x4x64x128, .bf16⟩
  | .hbm, ⟨19, _⟩ => ⟨S4x32x4x64x64, .f32⟩
  | .hbm, ⟨20, _⟩ => ⟨S128x4x64x64, .f32⟩
  | .hbm, ⟨21, _⟩ => ⟨S128x4x64x64, .bf16⟩
  | .hbm, ⟨22, _⟩ => ⟨S4x4x32x1x128, .f32⟩
  | .hbm, ⟨23, _⟩ => ⟨S4x32x4x1x128, .f32⟩
  | .hbm, ⟨24, _⟩ => ⟨S128x4x1x128, .f32⟩
  | .hbm, ⟨25, _⟩ => ⟨S8192x512, .f32⟩
  | .hbm, ⟨26, _⟩ => ⟨S1x128, .f32⟩
  | .hbm, ⟨27, _⟩ => ⟨S8192x512, .bf16⟩
  | .hbm, ⟨28, _⟩ => ⟨S128x4x128x128, .bf16⟩
  | .hbm, ⟨29, _⟩ => ⟨S128x4x64x128, .f32⟩
  | .local _ .vmem, ⟨0, _⟩ => ⟨S32x4x64x128, .f32⟩
  | .local _ .vmem, ⟨1, _⟩ => ⟨S32x4x64x128, .f32⟩
  | .local _ .vmem, ⟨2, _⟩ => ⟨S32x4x64x128, .bf16⟩
  | .local _ .vmem, ⟨3, _⟩ => ⟨S32x4x64x128, .bf16⟩
  | .local _ .vmem, ⟨4, _⟩ => ⟨S32x4x64x128, .bf16⟩
  | .local _ .vmem, ⟨5, _⟩ => ⟨S32x4x64x128, .bf16⟩
  | .local _ .vmem, ⟨6, _⟩ => ⟨S32x4x64x128, .bf16⟩
  | .local _ .vmem, ⟨7, _⟩ => ⟨S32x4x64x128, .bf16⟩
  | .local _ .vmem, ⟨8, _⟩ => ⟨S32x4x64x64, .bf16⟩
  | .local _ .vmem, ⟨9, _⟩ => ⟨S32x4x64x64, .bf16⟩
  | .local _ .vmem, ⟨10, _⟩ => ⟨S32x4x1x128, .f32⟩
  | .local _ .vmem, ⟨11, _⟩ => ⟨S32x4x1x128, .f32⟩
  | .local _ .vmem, ⟨12, _⟩ => ⟨S2048x512, .f32⟩
  | .local _ .vmem, ⟨13, _⟩ => ⟨S2048x512, .f32⟩
  | .local _ .vmem, ⟨14, _⟩ => ⟨S1x128, .f32⟩
  | .local _ .vmem, ⟨15, _⟩ => ⟨S2048x512, .bf16⟩
  | .local _ .vmem, ⟨16, _⟩ => ⟨S2048x512, .bf16⟩
  | .local _ .vmem, ⟨17, _⟩ => ⟨S32x4x128x128, .bf16⟩
  | .local _ .vmem, ⟨18, _⟩ => ⟨S32x4x128x128, .bf16⟩
  | .local _ .vmem, ⟨19, _⟩ => ⟨S32x4x64x128, .f32⟩
  | .local _ .vmem, ⟨20, _⟩ => ⟨S32x4x64x128, .f32⟩
  | _, _ => ⟨S4x4x32x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19_0 : Ref sig .tc := ⟨.hbm, 27, rfl⟩
abbrev main_v19_1 : Ref sig .tc := ⟨.hbm, 28, rfl⟩
abbrev main_v19_2 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![4, 1], ![false, false]⟩

@[reducible] def k0_t1_loop : Scf.Loop 32 :=
  let c0_i32 : BitVec 32 := 0#32
  let c32_i32 : BitVec 32 := 32#32
  let v3 : BitVec 32 := Scalar.addi c0_i32 c32_i32
  let c1_i32 : BitVec 32 := 1#32
  ⟨c0_i32, v3, c1_i32⟩
def k0_off1 (k0_t1 : Fin k0_t1_loop.trips) : Fin 4 → Nat :=
  let c0_i32 : BitVec 32 := 0#32
  let c1_i32 : BitVec 32 := 1#32
  let arg13 : BitVec 32 := Scf.iv c0_i32 c1_i32 k0_t1
  let v102 : Index := Scalar.indexCast arg13
  let c0_51 : Index := 0#32
  let c0_52 : Index := 0#32
  let c0_53 : Index := 0#32
  ![v102.toNat, 0, 0, 0]
def k0_off2 (k0_t1 : Fin k0_t1_loop.trips) : Fin 4 → Nat :=
  let c0_i32 : BitVec 32 := 0#32
  let c1_i32 : BitVec 32 := 1#32
  let arg13 : BitVec 32 := Scf.iv c0_i32 c1_i32 k0_t1
  let v106 : Index := Scalar.indexCast arg13
  let c0_54 : Index := 0#32
  let c0_55 : Index := 0#32
  let c0_56 : Index := 0#32
  ![v106.toNat, 0, 0, 0]
def k0_off3 (k0_t1 : Fin k0_t1_loop.trips) : Fin 4 → Nat :=
  let c0_i32 : BitVec 32 := 0#32
  let c1_i32 : BitVec 32 := 1#32
  let arg13 : BitVec 32 := Scf.iv c0_i32 c1_i32 k0_t1
  let v118 : Index := Scalar.indexCast arg13
  let c0_66 : Index := 0#32
  let c0_67 : Index := 0#32
  let c0_68 : Index := 0#32
  ![v118.toNat, 0, 0, 0]
def k0_off4 (k0_t1 : Fin k0_t1_loop.trips) : Fin 4 → Nat :=
  let c0_i32 : BitVec 32 := 0#32
  let c1_i32 : BitVec 32 := 1#32
  let arg13 : BitVec 32 := Scf.iv c0_i32 c1_i32 k0_t1
  let v121 : Index := Scalar.indexCast arg13
  let c0_69 : Index := 0#32
  let c0_70 : Index := 0#32
  let c0_71 : Index := 0#32
  ![v121.toNat, 0, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S32x4x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x4x64x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x4x64x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x4x64x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x4x64x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x4x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S32x4x128x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S32x4x64x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== DnRecurFwdRefIdeal.lean ====
abbrev S4x4x32x64x128 : Shape := ⟨5, ![4, 4, 32, 64, 128]⟩
abbrev S4x4x32x64x64 : Shape := ⟨5, ![4, 4, 32, 64, 64]⟩
abbrev S4x4x32x128 : Shape := ⟨4, ![4, 4, 32, 128]⟩
abbrev S4x2048x512 : Shape := ⟨3, ![4, 2048, 512]⟩
abbrev S128 : Shape := ⟨1, ![128]⟩
abbrev S32x4x4x64x128 : Shape := ⟨5, ![32, 4, 4, 64, 128]⟩
abbrev S32x4x4x64x64 : Shape := ⟨5, ![32, 4, 4, 64, 64]⟩
abbrev S32x4x4x128 : Shape := ⟨4, ![32, 4, 4, 128]⟩
abbrev S_ : Shape := ⟨0, ![]⟩
abbrev S4x4x128x128 : Shape := ⟨4, ![4, 4, 128, 128]⟩
abbrev S32x4x4x128x128 : Shape := ⟨5, ![32, 4, 4, 128, 128]⟩
abbrev S1x4x4x64x128 : Shape := ⟨5, ![1, 4, 4, 64, 128]⟩
abbrev S4x4x64x128 : Shape := ⟨4, ![4, 4, 64, 128]⟩
abbrev S1x4x4x64x64 : Shape := ⟨5, ![1, 4, 4, 64, 64]⟩
abbrev S4x4x64x64 : Shape := ⟨4, ![4, 4, 64, 64]⟩
abbrev S1x4x4x128 : Shape := ⟨4, ![1, 4, 4, 128]⟩
abbrev S4x4x128 : Shape := ⟨3, ![4, 4, 128]⟩
abbrev S4x4x1x128 : Shape := ⟨4, ![4, 4, 1, 128]⟩
abbrev S1x4x4x128x128 : Shape := ⟨5, ![1, 4, 4, 128, 128]⟩
abbrev S4x32x64x4x128 : Shape := ⟨5, ![4, 32, 64, 4, 128]⟩
abbrev S4x2048x4x128 : Shape := ⟨4, ![4, 2048, 4, 128]⟩
abbrev S4x2048x4 : Shape := ⟨3, ![4, 2048, 4]⟩
abbrev S4x2048x4x1 : Shape := ⟨4, ![4, 2048, 4, 1]⟩
abbrev S1x1x1x128 : Shape := ⟨4, ![1, 1, 1, 128]⟩
abbrev S8192x512 : Shape := ⟨2, ![8192, 512]⟩
abbrev S4x32x4x128x128 : Shape := ⟨5, ![4, 32, 4, 128, 128]⟩
abbrev S128x4x128x128 : Shape := ⟨4, ![128, 4, 128, 128]⟩
abbrev S4x32x4x64x128 : Shape := ⟨5, ![4, 32, 4, 64, 128]⟩
abbrev S128x4x64x128 : Shape := ⟨4, ![128, 4, 64, 128]⟩

abbrev nBuf : Space → Nat
  | .hbm => 129
  | .vmem => 0
  | .smem => 0
  | _ => 0

abbrev hbmTy0_0 (i : Nat) : BufTy := match i % 128 with
  | 0 => ⟨S4x4x32x64x128, .f32⟩
  | 1 => ⟨S4x4x32x64x128, .f32⟩
  | 2 => ⟨S4x4x32x64x128, .f32⟩
  | 3 => ⟨S4x4x32x64x64, .f32⟩
  | 4 => ⟨S4x4x32x64x128, .f32⟩
  | 5 => ⟨S4x4x32x128, .f32⟩
  | 6 => ⟨S4x2048x512, .f32⟩
  | 7 => ⟨S128, .f32⟩
  | 8 => ⟨S32x4x4x64x128, .f32⟩
  | 9 => ⟨S32x4x4x64x128, .f32⟩
  | 10 => ⟨S32x4x4x64x128, .f32⟩
  | 11 => ⟨S32x4x4x64x64, .f32⟩
  | 12 => ⟨S32x4x4x64x128, .f32⟩
  | 13 => ⟨S32x4x4x128, .f32⟩
  | 14 => ⟨S_, .f32⟩
  | 15 => ⟨S4x4x128x128, .f32⟩
  | 16 => ⟨S_, .f32⟩
  | 17 => ⟨S32x4x4x128x128, .f32⟩
  | 18 => ⟨S_, .f32⟩
  | 19 => ⟨S32x4x4x64x128, .f32⟩
  | 20 => ⟨S_, .i32⟩
  | 21 => ⟨S32x4x4x64x128, .f32⟩
  | 22 => ⟨S32x4x4x64x128, .f32⟩
  | 23 => ⟨S32x4x4x64x128, .f32⟩
  | 24 => ⟨S32x4x4x64x64, .f32⟩
  | 25 => ⟨S32x4x4x64x128, .f32⟩
  | 26 => ⟨S32x4x4x128, .f32⟩
  | 27 => ⟨S_, .i32⟩
  | 28 => ⟨S4x4x128x128, .f32⟩
  | 29 => ⟨S32x4x4x128x128, .f32⟩
  | 30 => ⟨S32x4x4x64x128, .f32⟩
  | 31 => ⟨S_, .i32⟩
  | 32 => ⟨S_, .i1⟩
  | 33 => ⟨S_, .i32⟩
  | 34 => ⟨S_, .i32⟩
  | 35 => ⟨S_, .i32⟩
  | 36 => ⟨S_, .i32⟩
  | 37 => ⟨S1x4x4x64x128, .f32⟩
  | 38 => ⟨S4x4x64x128, .f32⟩
  | 39 => ⟨S_, .i32⟩
  | 40 => ⟨S_, .i32⟩
  | 41 => ⟨S_, .i32⟩
  | 42 => ⟨S_, .i32⟩
  | 43 => ⟨S1x4x4x64x128, .f32⟩
  | 44 => ⟨S4x4x64x128, .f32⟩
  | 45 => ⟨S_, .i32⟩
  | 46 => ⟨S_, .i32⟩
  | 47 => ⟨S_, .i32⟩
  | 48 => ⟨S_, .i32⟩
  | 49 => ⟨S1x4x4x64x128, .f32⟩
  | 50 => ⟨S4x4x64x128, .f32⟩
  | 51 => ⟨S_, .i32⟩
  | 52 => ⟨S_, .i32⟩
  | 53 => ⟨S_, .i32⟩
  | 54 => ⟨S_, .i32⟩
  | 55 => ⟨S1x4x4x64x64, .f32⟩
  | 56 => ⟨S4x4x64x64, .f32⟩
  | 57 => ⟨S_, .i32⟩
  | 58 => ⟨S_, .i32⟩
  | 59 => ⟨S_, .i32⟩
  | 60 => ⟨S_, .i32⟩
  | 61 => ⟨S1x4x4x64x128, .f32⟩
  | 62 => ⟨S4x4x64x128, .f32⟩
  | 63 => ⟨S_, .i32⟩
  | 64 => ⟨S_, .i32⟩
  | 65 => ⟨S_, .i32⟩
  | 66 => ⟨S1x4x4x128, .f32⟩
  | 67 => ⟨S4x4x128, .f32⟩
  | 68 => ⟨S4x4x64x128, .f32⟩
  | 69 => ⟨S4x4x64x128, .f32⟩
  | 70 => ⟨S4x4x64x128, .f32⟩
  | 71 => ⟨S4x4x64x128, .f32⟩
  | 72 => ⟨S4x4x64x128, .f32⟩
  | 73 => ⟨S4x4x1x128, .f32⟩
  | 74 => ⟨S4x4x128x128, .f32⟩
  | 75 => ⟨S4x4x128x128, .f32⟩
  | 76 => ⟨S4x4x128x128, .f32⟩
  | 77 => ⟨S4x4x128x128, .f32⟩
  | 78 => ⟨S1x4x4x128x128, .f32⟩
  | 79 => ⟨S_, .i32⟩
  | 80 => ⟨S_, .i32⟩
  | 81 => ⟨S_, .i32⟩
  | 82 => ⟨S_, .i32⟩
  | 83 => ⟨S32x4x4x128x128, .f32⟩
  | 84 => ⟨S1x4x4x64x128, .f32⟩
  | 85 => ⟨S_, .i32⟩
  | 86 => ⟨S_, .i32⟩
  | 87 => ⟨S_, .i32⟩
  | 88 => ⟨S_, .i32⟩
  | 89 => ⟨S32x4x4x64x128, .f32⟩
  | 90 => ⟨S_, .i32⟩
  | 91 => ⟨S_, .i32⟩
  | 92 => ⟨S4x32x64x4x128, .f32⟩
  | 93 => ⟨S4x2048x4x128, .f32⟩
  | 94 => ⟨S4x2048x4x128, .f32⟩
  | 95 => ⟨S_, .f32⟩
  | 96 => ⟨S4x2048x4, .f32⟩
  | 97 => ⟨S4x2048x4x1, .f32⟩
  | 98 => ⟨S_, .f32⟩
  | 99 => ⟨S4x2048x4x1, .f32⟩
  | 100 => ⟨S4x2048x4x1, .f32⟩
  | 101 => ⟨S_, .f32⟩
  | 102 => ⟨S4x2048x4x1, .f32⟩
  | 103 => ⟨S4x2048x4x1, .f32⟩
  | 104 => ⟨S4x2048x4x1, .f32⟩
  | 105 => ⟨S4x2048x4x128, .f32⟩
  | 106 => ⟨S4x2048x4x128, .f32⟩
  | 107 => ⟨S1x1x1x128, .f32⟩
  | 108 => ⟨S4x2048x4x128, .f32⟩
  | 109 => ⟨S4x2048x4x128, .f32⟩
  | 110 => ⟨S4x2048x4x128, .f32⟩
  | 111 => ⟨S4x2048x4x128, .f32⟩
  | 112 => ⟨S4x2048x4x128, .f32⟩
  | 113 => ⟨S_, .f32⟩
  | 114 => ⟨S4x2048x4x128, .f32⟩
  | 115 => ⟨S4x2048x4x128, .f32⟩
  | 116 => ⟨S_, .f32⟩
  | 117 => ⟨S4x2048x4x128, .f32⟩
  | 118 => ⟨S4x2048x4x128, .f32⟩
  | 119 => ⟨S4x2048x4x128, .f32⟩
  | 120 => ⟨S4x2048x4x128, .f32⟩
  | 121 => ⟨S4x2048x512, .f32⟩
  | 122 => ⟨S8192x512, .f32⟩
  | 123 => ⟨S8192x512, .bf16⟩
  | 124 => ⟨S4x32x4x128x128, .f32⟩
  | 125 => ⟨S128x4x128x128, .f32⟩
  | 126 => ⟨S128x4x128x128, .bf16⟩
  | 127 => ⟨S4x32x4x64x128, .f32⟩
  | _ => ⟨S4x4x32x64x128, .f32⟩

abbrev hbmTy0_1 (i : Nat) : BufTy := match i % 128 with
  | 0 => ⟨S128x4x64x128, .f32⟩
  | _ => ⟨S4x4x32x64x128, .f32⟩

abbrev hbmTy (i : Nat) : BufTy := match i / 128 with
  | 0 => hbmTy0_0 i
  | 1 => hbmTy0_1 i
  | _ => ⟨S4x4x32x64x128, .f32⟩

abbrev bufTy : (tb : Table) → Fin (tcTables nBuf tb) → BufTy
  | .hbm, ⟨i, _⟩ => hbmTy i
  | _, _ => ⟨S4x4x32x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_c : Ref sig .tc := ⟨.hbm, 20, rfl⟩
abbrev main_v9_0 : Ref sig .tc := ⟨.hbm, 21, rfl⟩
abbrev main_v9_1 : Ref sig .tc := ⟨.hbm, 22, rfl⟩
abbrev main_v9_2 : Ref sig .tc := ⟨.hbm, 23, rfl⟩
abbrev main_v9_3 : Ref sig .tc := ⟨.hbm, 24, rfl⟩
abbrev main_v9_4 : Ref sig .tc := ⟨.hbm, 25, rfl⟩
abbrev main_v9_5 : Ref sig .tc := ⟨.hbm, 26, rfl⟩
abbrev main_v9_6 : Ref sig .tc := ⟨.hbm, 27, rfl⟩
abbrev main_v9_7 : Ref sig .tc := ⟨.hbm, 28, rfl⟩
abbrev main_v9_8 : Ref sig .tc := ⟨.hbm, 29, rfl⟩
abbrev main_v9_9 : Ref sig .tc := ⟨.hbm, 30, rfl⟩
abbrev main_while0c_c_14 : Ref sig .tc := ⟨.hbm, 31, rfl⟩
abbrev main_while0c_v36 : Ref sig .tc := ⟨.hbm, 32, rfl⟩
abbrev main_while0b_call0_c : Ref sig .tc := ⟨.hbm, 33, rfl⟩
abbrev main_while0b_call0_c_0 : Ref sig .tc := ⟨.hbm, 34, rfl⟩
abbrev main_while0b_call0_c_1 : Ref sig .tc := ⟨.hbm, 35, rfl⟩
abbrev main_while0b_call0_c_2 : Ref sig .tc := ⟨.hbm, 36, rfl⟩
abbrev main_while0b_call0_v0 : Ref sig .tc := ⟨.hbm, 37, rfl⟩
abbrev main_while0b_v36 : Ref sig .tc := ⟨.hbm, 38, rfl⟩
abbrev main_while0b_call1_c : Ref sig .tc := ⟨.hbm, 39, rfl⟩
abbrev main_while0b_call1_c_0 : Ref sig .tc := ⟨.hbm, 40, rfl⟩
abbrev main_while0b_call1_c_1 : Ref sig .tc := ⟨.hbm, 41, rfl⟩
abbrev main_while0b_call1_c_2 : Ref sig .tc := ⟨.hbm, 42, rfl⟩
abbrev main_while0b_call1_v0 : Ref sig .tc := ⟨.hbm, 43, rfl⟩
abbrev main_while0b_v37 : Ref sig .tc := ⟨.hbm, 44, rfl⟩
abbrev main_while0b_call2_c : Ref sig .tc := ⟨.hbm, 45, rfl⟩
abbrev main_while0b_call2_c_0 : Ref sig .tc := ⟨.hbm, 46, rfl⟩
abbrev main_while0b_call2_c_1 : Ref sig .tc := ⟨.hbm, 47, rfl⟩
abbrev main_while0b_call2_c_2 : Ref sig .tc := ⟨.hbm, 48, rfl⟩
abbrev main_while0b_call2_v0 : Ref sig .tc := ⟨.hbm, 49, rfl⟩
abbrev main_while0b_v38 : Ref sig .tc := ⟨.hbm, 50, rfl⟩
abbrev main_while0b_call3_c : Ref sig .tc := ⟨.hbm, 51, rfl⟩
abbrev main_while0b_call3_c_0 : Ref sig .tc := ⟨.hbm, 52, rfl⟩
abbrev main_while0b_call3_c_1 : Ref sig .tc := ⟨.hbm, 53, rfl⟩
abbrev main_while0b_call3_c_2 : Ref sig .tc := ⟨.hbm, 54, rfl⟩
abbrev main_while0b_call3_v0 : Ref sig .tc := ⟨.hbm, 55, rfl⟩
abbrev main_while0b_v39 : Ref sig .tc := ⟨.hbm, 56, rfl⟩
abbrev main_while0b_call4_c : Ref sig .tc := ⟨.hbm, 57, rfl⟩
abbrev main_while0b_call4_c_0 : Ref sig .tc := ⟨.hbm, 58, rfl⟩
abbrev main_while0b_call4_c_1 : Ref sig .tc := ⟨.hbm, 59, rfl⟩
abbrev main_while0b_call4_c_2 : Ref sig .tc := ⟨.hbm, 60, rfl⟩
abbrev main_while0b_call4_v0 : Ref sig .tc := ⟨.hbm, 61, rfl⟩
abbrev main_while0b_v40 : Ref sig .tc := ⟨.hbm, 62, rfl⟩
abbrev main_while0b_call5_c : Ref sig .tc := ⟨.hbm, 63, rfl⟩
abbrev main_while0b_call5_c_0 : Ref sig .tc := ⟨.hbm, 64, rfl⟩
abbrev main_while0b_call5_c_1 : Ref sig .tc := ⟨.hbm, 65, rfl⟩
abbrev main_while0b_call5_v0 : Ref sig .tc := ⟨.hbm, 66, rfl⟩
abbrev main_while0b_v41 : Ref sig .tc := ⟨.hbm, 67, rfl⟩
abbrev main_while0b_v42 : Ref sig .tc := ⟨.hbm, 68, rfl⟩
abbrev main_while0b_v43 : Ref sig .tc := ⟨.hbm, 69, rfl⟩
abbrev main_while0b_v44 : Ref sig .tc := ⟨.hbm, 70, rfl⟩
abbrev main_while0b_v45 : Ref sig .tc := ⟨.hbm, 71, rfl⟩
abbrev main_while0b_v46 : Ref sig .tc := ⟨.hbm, 72, rfl⟩
abbrev main_while0b_v47 : Ref sig .tc := ⟨.hbm, 73, rfl⟩
abbrev main_while0b_v48 : Ref sig .tc := ⟨.hbm, 74, rfl⟩
abbrev main_while0b_v49 : Ref sig .tc := ⟨.hbm, 75, rfl⟩
abbrev main_while0b_v50 : Ref sig .tc := ⟨.hbm, 76, rfl⟩
abbrev main_while0b_v51 : Ref sig .tc := ⟨.hbm, 77, rfl⟩
abbrev main_while0b_call6_v0 : Ref sig .tc := ⟨.hbm, 78, rfl⟩
abbrev main_while0b_call6_c : Ref sig .tc := ⟨.hbm, 79, rfl⟩
abbrev main_while0b_call6_c_0 : Ref sig .tc := ⟨.hbm, 80, rfl⟩
abbrev main_while0b_call6_c_1 : Ref sig .tc := ⟨.hbm, 81, rfl⟩
abbrev main_while0b_call6_c_2 : Ref sig .tc := ⟨.hbm, 82, rfl⟩
abbrev main_while0b_v52 : Ref sig .tc := ⟨.hbm, 83, rfl⟩
abbrev main_while0b_call7_v0 : Ref sig .tc := ⟨.hbm, 84, rfl⟩
abbrev main_while0b_call7_c : Ref sig .tc := ⟨.hbm, 85, rfl⟩
abbrev main_while0b_call7_c_0 : Ref sig .tc := ⟨.hbm, 86, rfl⟩
abbrev main_while0b_call7_c_1 : Ref sig .tc := ⟨.hbm, 87, rfl⟩
abbrev main_while0b_call7_c_2 : Ref sig .tc := ⟨.hbm, 88, rfl⟩
abbrev main_while0b_v53 : Ref sig .tc := ⟨.hbm, 89, rfl⟩
abbrev main_while0b_c_14 : Ref sig .tc := ⟨.hbm, 90, rfl⟩
abbrev main_while0b_v54 : Ref sig .tc := ⟨.hbm, 91, rfl⟩
abbrev main_v10 : Ref sig .tc := ⟨.hbm, 92, rfl⟩
abbrev main_v11 : Ref sig .tc := ⟨.hbm, 93, rfl⟩
abbrev main_v12 : Ref sig .tc := ⟨.hbm, 94, rfl⟩
abbrev main_cst_2 : Ref sig .tc := ⟨.hbm, 95, rfl⟩
abbrev main_v13 : Ref sig .tc := ⟨.hbm, 96, rfl⟩
abbrev main_v14 : Ref sig .tc := ⟨.hbm, 97, rfl⟩
abbrev main_cst_3 : Ref sig .tc := ⟨.hbm, 98, rfl⟩
abbrev main_v15 : Ref sig .tc := ⟨.hbm, 99, rfl⟩
abbrev main_v16 : Ref sig .tc := ⟨.hbm, 100, rfl⟩
abbrev main_cst_4 : Ref sig .tc := ⟨.hbm, 101, rfl⟩
abbrev main_v17 : Ref sig .tc := ⟨.hbm, 102, rfl⟩
abbrev main_v18 : Ref sig .tc := ⟨.hbm, 103, rfl⟩
abbrev main_v19 : Ref sig .tc := ⟨.hbm, 104, rfl⟩
abbrev main_v20 : Ref sig .tc := ⟨.hbm, 105, rfl⟩
abbrev main_v21 : Ref sig .tc := ⟨.hbm, 106, rfl⟩
abbrev main_v22 : Ref sig .tc := ⟨.hbm, 107, rfl⟩
abbrev main_v23 : Ref sig .tc := ⟨.hbm, 108, rfl⟩
abbrev main_v24 : Ref sig .tc := ⟨.hbm, 109, rfl⟩
abbrev main_v25 : Ref sig .tc := ⟨.hbm, 110, rfl⟩
abbrev main_call8_v0 : Ref sig .tc := ⟨.hbm, 111, rfl⟩
abbrev main_call8_v1 : Ref sig .tc := ⟨.hbm, 112, rfl⟩
abbrev main_call8_cst : Ref sig .tc := ⟨.hbm, 113, rfl⟩
abbrev main_call8_v2 : Ref sig .tc := ⟨.hbm, 114, rfl⟩
abbrev main_call8_v3 : Ref sig .tc := ⟨.hbm, 115, rfl⟩
abbrev main_call8_cst_0 : Ref sig .tc := ⟨.hbm, 116, rfl⟩
abbrev main_call8_v4 : Ref sig .tc := ⟨.hbm, 117, rfl⟩
abbrev main_call8_v5 : Ref sig .tc := ⟨.hbm, 118, rfl⟩
abbrev main_v26 : Ref sig .tc := ⟨.hbm, 119, rfl⟩
abbrev main_v27 : Ref sig .tc := ⟨.hbm, 120, rfl⟩
abbrev main_v28 : Ref sig .tc := ⟨.hbm, 121, rfl⟩
abbrev main_v29 : Ref sig .tc := ⟨.hbm, 122, rfl⟩
abbrev main_v30 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_v35 : Ref sig .tc := ⟨.hbm, 128, rfl⟩

abbrev nD : Nat := 1
abbrev τ : Topo := Topo.v7x

variable {F : FTy → Type} [FloatOps F]

abbrev main_while0_count : Scf.Loop 32 := ⟨0#32, 32#32, 1#32⟩
-- ==== ScConvFwd.lean ====
abbrev S4x2048x512 : Shape := ⟨3, ![4, 2048, 512]⟩
abbrev S3x512 : Shape := ⟨2, ![3, 512]⟩
abbrev S8192x512 : Shape := ⟨2, ![8192, 512]⟩
abbrev S3x128 : Shape := ⟨2, ![3, 128]⟩
abbrev S2048x128 : Shape := ⟨2, ![2048, 128]⟩
abbrev S1x128 : Shape := ⟨2, ![1, 128]⟩

abbrev nBuf : Space → Nat
  | .hbm => 8
  | .vmem => 10
  | .smem => 0
  | _ => 0

abbrev bufTy : (tb : Table) → Fin (tcTables nBuf tb) → BufTy
  | .hbm, ⟨0, _⟩ => ⟨S4x2048x512, .f32⟩
  | .hbm, ⟨1, _⟩ => ⟨S4x2048x512, .f32⟩
  | .hbm, ⟨2, _⟩ => ⟨S4x2048x512, .f32⟩
  | .hbm, ⟨3, _⟩ => ⟨S3x512, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S8192x512, .bf16⟩
  | .local _ .vmem, ⟨0, _⟩ => ⟨S3x128, .f32⟩
  | .local _ .vmem, ⟨1, _⟩ => ⟨S3x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .bf16⟩
  | .local _ .vmem, ⟨9, _⟩ => ⟨S2048x128, .bf16⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S3x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ScConvFwdRefIdeal.lean ====
abbrev S4x2048x512 : Shape := ⟨3, ![4, 2048, 512]⟩
abbrev S3x512 : Shape := ⟨2, ![3, 512]⟩
abbrev S_ : Shape := ⟨0, ![]⟩
abbrev S4x2x512 : Shape := ⟨3, ![4, 2, 512]⟩
abbrev S4x2050x512 : Shape := ⟨3, ![4, 2050, 512]⟩
abbrev S1x512 : Shape := ⟨2, ![1, 512]⟩
abbrev S512 : Shape := ⟨1, ![512]⟩
abbrev S1x1x512 : Shape := ⟨3, ![1, 1, 512]⟩
abbrev S8192x512 : Shape := ⟨2, ![8192, 512]⟩

abbrev nBuf : Space → Nat
  | .hbm => 34
  | .vmem => 0
  | .smem => 0
  | _ => 0

abbrev bufTy : (tb : Table) → Fin (tcTables nBuf tb) → BufTy
  | .hbm, ⟨0, _⟩ => ⟨S4x2048x512, .f32⟩
  | .hbm, ⟨1, _⟩ => ⟨S4x2048x512, .f32⟩
  | .hbm, ⟨2, _⟩ => ⟨S4x2048x512, .f32⟩
  | .hbm, ⟨3, _⟩ => ⟨S3x512, .f32⟩
  | .hbm, ⟨4, _⟩ => ⟨S4x2048x512, .f32⟩
  | .hbm, ⟨5, _⟩ => ⟨S_, .f32⟩
  | .hbm, ⟨6, _⟩ => ⟨S4x2x512, .f32⟩
  | .hbm, ⟨7, _⟩ => ⟨S4x2050x512, .f32⟩
  | .hbm, ⟨8, _⟩ => ⟨S4x2048x512, .f32⟩
  | .hbm, ⟨9, _⟩ => ⟨S1x512, .f32⟩
  | .hbm, ⟨10, _⟩ => ⟨S512, .f32⟩
  | .hbm, ⟨11, _⟩ => ⟨S1x1x512, .f32⟩
  | .hbm, ⟨12, _⟩ => ⟨S4x2048x512, .f32⟩
  | .hbm, ⟨13, _⟩ => ⟨S4x2048x512, .f32⟩
  | .hbm, ⟨14, _⟩ => ⟨S_, .f32⟩
  | .hbm, ⟨15, _⟩ => ⟨S4x2048x512, .f32⟩
  | .hbm, ⟨16, _⟩ => ⟨S4x2048x512, .f32⟩
  | .hbm, ⟨17, _⟩ => ⟨S4x2048x512, .f32⟩
  | .hbm, ⟨18, _⟩ => ⟨S1x512, .f32⟩
  | .hbm, ⟨19, _⟩ => ⟨S512, .f32⟩
  | .hbm, ⟨20, _⟩ => ⟨S1x1x512, .f32⟩
  | .hbm, ⟨21, _⟩ => ⟨S4x2048x512, .f32⟩
  | .hbm, ⟨22, _⟩ => ⟨S4x2048x512, .f32⟩
  | .hbm, ⟨23, _⟩ => ⟨S4x2048x512, .f32⟩
  | .hbm, ⟨24, _⟩ => ⟨S4x2048x512, .f32⟩
  | .hbm, ⟨25, _⟩ => ⟨S1x512, .f32⟩
  | .hbm, ⟨26, _⟩ => ⟨S512, .f32⟩
  | .hbm, ⟨27, _⟩ => ⟨S1x1x512, .f32⟩
  | .hbm, ⟨28, _⟩ => ⟨S4x2048x512, .f32⟩
  | .hbm, ⟨29, _⟩ => ⟨S4x2048x512, .f32⟩
  | .hbm, ⟨30, _⟩ => ⟨S4x2048x512, .f32⟩
  | .hbm, ⟨31, _⟩ => ⟨S4x2048x512, .f32⟩
  | .hbm, ⟨32, _⟩ => ⟨S8192x512, .f32⟩
  | .hbm, ⟨33, _⟩ => ⟨S8192x512, .bf16⟩
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩

abbrev nD : Nat := 1
abbrev τ : Topo := Topo.v7x

variable {F : FTy → Type} [FloatOps F]
-- ==== DnConvFwd.lean ====
abbrev S4x2048x1536 : Shape := ⟨3, ![4, 2048, 1536]⟩
abbrev S4x1536 : Shape := ⟨2, ![4, 1536]⟩
abbrev S8192x1536 : Shape := ⟨2, ![8192, 1536]⟩
abbrev S4x128 : Shape := ⟨2, ![4, 128]⟩
abbrev S2048x128 : Shape := ⟨2, ![2048, 128]⟩
abbrev S1x128 : Shape := ⟨2, ![1, 128]⟩

abbrev nBuf : Space → Nat
  | .hbm => 4
  | .vmem => 6
  | .smem => 0
  | _ => 0

abbrev bufTy : (tb : Table) → Fin (tcTables nBuf tb) → BufTy
  | .hbm, ⟨0, _⟩ => ⟨S4x2048x1536, .f32⟩
  | .hbm, ⟨1, _⟩ => ⟨S4x1536, .f32⟩
  | .hbm, ⟨2, _⟩ => ⟨S8192x1536, .f32⟩
  | .hbm, ⟨3, _⟩ => ⟨S8192x1536, .f32⟩
  | .local _ .vmem, ⟨0, _⟩ => ⟨S4x128, .f32⟩
  | .local _ .vmem, ⟨1, _⟩ => ⟨S4x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | _, _ => ⟨S4x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![12, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DnConvFwdRefIdeal.lean ====
abbrev S4x2048x1536 : Shape := ⟨3, ![4, 2048, 1536]⟩
abbrev S4x1536 : Shape := ⟨2, ![4, 1536]⟩
abbrev S_ : Shape := ⟨0, ![]⟩
abbrev S4x3x1536 : Shape := ⟨3, ![4, 3, 1536]⟩
abbrev S4x2051x1536 : Shape := ⟨3, ![4, 2051, 1536]⟩
abbrev S1x1536 : Shape := ⟨2, ![1, 1536]⟩
abbrev S1536 : Shape := ⟨1, ![1536]⟩
abbrev S1x1x1536 : Shape := ⟨3, ![1, 1, 1536]⟩
abbrev S8192x1536 : Shape := ⟨2, ![8192, 1536]⟩

abbrev nBuf : Space → Nat
  | .hbm => 45
  | .vmem => 0
  | .smem => 0
  | _ => 0

abbrev bufTy : (tb : Table) → Fin (tcTables nBuf tb) → BufTy
  | .hbm, ⟨0, _⟩ => ⟨S4x2048x1536, .f32⟩
  | .hbm, ⟨1, _⟩ => ⟨S4x1536, .f32⟩
  | .hbm, ⟨2, _⟩ => ⟨S_, .f32⟩
  | .hbm, ⟨3, _⟩ => ⟨S4x3x1536, .f32⟩
  | .hbm, ⟨4, _⟩ => ⟨S4x2051x1536, .f32⟩
  | .hbm, ⟨5, _⟩ => ⟨S4x2048x1536, .f32⟩
  | .hbm, ⟨6, _⟩ => ⟨S1x1536, .f32⟩
  | .hbm, ⟨7, _⟩ => ⟨S1536, .f32⟩
  | .hbm, ⟨8, _⟩ => ⟨S1x1x1536, .f32⟩
  | .hbm, ⟨9, _⟩ => ⟨S4x2048x1536, .f32⟩
  | .hbm, ⟨10, _⟩ => ⟨S4x2048x1536, .f32⟩
  | .hbm, ⟨11, _⟩ => ⟨S_, .f32⟩
  | .hbm, ⟨12, _⟩ => ⟨S4x2048x1536, .f32⟩
  | .hbm, ⟨13, _⟩ => ⟨S4x2048x1536, .f32⟩
  | .hbm, ⟨14, _⟩ => ⟨S4x2048x1536, .f32⟩
  | .hbm, ⟨15, _⟩ => ⟨S1x1536, .f32⟩
  | .hbm, ⟨16, _⟩ => ⟨S1536, .f32⟩
  | .hbm, ⟨17, _⟩ => ⟨S1x1x1536, .f32⟩
  | .hbm, ⟨18, _⟩ => ⟨S4x2048x1536, .f32⟩
  | .hbm, ⟨19, _⟩ => ⟨S4x2048x1536, .f32⟩
  | .hbm, ⟨20, _⟩ => ⟨S4x2048x1536, .f32⟩
  | .hbm, ⟨21, _⟩ => ⟨S4x2048x1536, .f32⟩
  | .hbm, ⟨22, _⟩ => ⟨S1x1536, .f32⟩
  | .hbm, ⟨23, _⟩ => ⟨S1536, .f32⟩
  | .hbm, ⟨24, _⟩ => ⟨S1x1x1536, .f32⟩
  | .hbm, ⟨25, _⟩ => ⟨S4x2048x1536, .f32⟩
  | .hbm, ⟨26, _⟩ => ⟨S4x2048x1536, .f32⟩
  | .hbm, ⟨27, _⟩ => ⟨S4x2048x1536, .f32⟩
  | .hbm, ⟨28, _⟩ => ⟨S4x2048x1536, .f32⟩
  | .hbm, ⟨29, _⟩ => ⟨S1x1536, .f32⟩
  | .hbm, ⟨30, _⟩ => ⟨S1536, .f32⟩
  | .hbm, ⟨31, _⟩ => ⟨S1x1x1536, .f32⟩
  | .hbm, ⟨32, _⟩ => ⟨S4x2048x1536, .f32⟩
  | .hbm, ⟨33, _⟩ => ⟨S4x2048x1536, .f32⟩
  | .hbm, ⟨34, _⟩ => ⟨S4x2048x1536, .f32⟩
  | .hbm, ⟨35, _⟩ => ⟨S4x2048x1536, .f32⟩
  | .hbm, ⟨36, _⟩ => ⟨S4x2048x1536, .f32⟩
  | .hbm, ⟨37, _⟩ => ⟨S_, .f32⟩
  | .hbm, ⟨38, _⟩ => ⟨S4x2048x1536, .f32⟩
  | .hbm, ⟨39, _⟩ => ⟨S4x2048x1536, .f32⟩
  | .hbm, ⟨40, _⟩ => ⟨S_, .f32⟩
  | .hbm, ⟨41, _⟩ => ⟨S4x2048x1536, .f32⟩
  | .hbm, ⟨42, _⟩ => ⟨S4x2048x1536, .f32⟩
  | .hbm, ⟨43, _⟩ => ⟨S4x2048x1536, .f32⟩
  | .hbm, ⟨44, _⟩ => ⟨S8192x1536, .f32⟩
  | _, _ => ⟨S4x2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== PoolFwd.lean ====
abbrev S4x2048x512 : Shape := ⟨3, ![4, 2048, 512]⟩
abbrev S4x128x128 : Shape := ⟨3, ![4, 128, 128]⟩
abbrev S512 : Shape := ⟨1, ![512]⟩
abbrev S8192x512 : Shape := ⟨2, ![8192, 512]⟩
abbrev S1x512 : Shape := ⟨2, ![1, 512]⟩
abbrev S2048x512 : Shape := ⟨2, ![2048, 512]⟩
abbrev S2048x128 : Shape := ⟨2, ![2048, 128]⟩
abbrev S1x128x128 : Shape := ⟨3, ![1, 128, 128]⟩
abbrev S128x128 : Shape := ⟨2, ![128, 128]⟩
abbrev S1x128 : Shape := ⟨2, ![1, 128]⟩
abbrev S2048x1 : Shape := ⟨2, ![2048, 1]⟩

abbrev nBuf : Space → Nat
  | .hbm => 6
  | .vmem => 6
  | .smem => 0
  | _ => 0

abbrev bufTy : (tb : Table) → Fin (tcTables nBuf tb) → BufTy
  | .hbm, ⟨0, _⟩ => ⟨S4x2048x512, .f32⟩
  | .hbm, ⟨1, _⟩ => ⟨S4x128x128, .f32⟩
  | .hbm, ⟨2, _⟩ => ⟨S512, .f32⟩
  | .hbm, ⟨3, _⟩ => ⟨S8192x512, .f32⟩
  | .hbm, ⟨4, _⟩ => ⟨S1x512, .f32⟩
  | .hbm, ⟨5, _⟩ => ⟨S8192x512, .bf16⟩
  | .local _ .vmem, ⟨0, _⟩ => ⟨S2048x512, .f32⟩
  | .local _ .vmem, ⟨1, _⟩ => ⟨S2048x512, .f32⟩
  | .local _ .vmem, ⟨2, _⟩ => ⟨S4x128x128, .f32⟩
  | .local _ .vmem, ⟨3, _⟩ => ⟨S1x512, .f32⟩
  | .local _ .vmem, ⟨4, _⟩ => ⟨S2048x512, .bf16⟩
  | .local _ .vmem, ⟨5, _⟩ => ⟨S2048x512, .bf16⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PoolFwdRefIdeal.lean ====
abbrev S4x2048x512 : Shape := ⟨3, ![4, 2048, 512]⟩
abbrev S4x128x128 : Shape := ⟨3, ![4, 128, 128]⟩
abbrev S512 : Shape := ⟨1, ![512]⟩
abbrev S4x2048x4x128 : Shape := ⟨4, ![4, 2048, 4, 128]⟩
abbrev S_ : Shape := ⟨0, ![]⟩
abbrev S2048 : Shape := ⟨1, ![2048]⟩
abbrev S4x2048x1x128 : Shape := ⟨4, ![4, 2048, 1, 128]⟩
abbrev S4x2048x128 : Shape := ⟨3, ![4, 2048, 128]⟩
abbrev S4x2x128 : Shape := ⟨3, ![4, 2, 128]⟩
abbrev S4x2046x128 : Shape := ⟨3, ![4, 2046, 128]⟩
abbrev S1x2048x1 : Shape := ⟨3, ![1, 2048, 1]⟩
abbrev S4x4x128 : Shape := ⟨3, ![4, 4, 128]⟩
abbrev S4x2044x128 : Shape := ⟨3, ![4, 2044, 128]⟩
abbrev S4x8x128 : Shape := ⟨3, ![4, 8, 128]⟩
abbrev S4x2040x128 : Shape := ⟨3, ![4, 2040, 128]⟩
abbrev S4x16x128 : Shape := ⟨3, ![4, 16, 128]⟩
abbrev S4x2032x128 : Shape := ⟨3, ![4, 2032, 128]⟩
abbrev S4x128x4x2048 : Shape := ⟨4, ![4, 128, 4, 2048]⟩
abbrev S1x1x512 : Shape := ⟨3, ![1, 1, 512]⟩
abbrev S8192x512 : Shape := ⟨2, ![8192, 512]⟩

abbrev nBuf : Space → Nat
  | .hbm => 101
  | .vmem => 0
  | .smem => 0
  | _ => 0

abbrev bufTy : (tb : Table) → Fin (tcTables nBuf tb) → BufTy
  | .hbm, ⟨0, _⟩ => ⟨S4x2048x512, .f32⟩
  | .hbm, ⟨1, _⟩ => ⟨S4x128x128, .f32⟩
  | .hbm, ⟨2, _⟩ => ⟨S512, .f32⟩
  | .hbm, ⟨3, _⟩ => ⟨S4x2048x4x128, .f32⟩
  | .hbm, ⟨4, _⟩ => ⟨S_, .f32⟩
  | .hbm, ⟨5, _⟩ => ⟨S_, .f32⟩
  | .hbm, ⟨6, _⟩ => ⟨S4x2048x4x128, .f32⟩
  | .hbm, ⟨7, _⟩ => ⟨S2048, .i32⟩
  | .hbm, ⟨8, _⟩ => ⟨S4x2048x1x128, .f32⟩
  | .hbm, ⟨9, _⟩ => ⟨S4x2048x128, .f32⟩
  | .hbm, ⟨10, _⟩ => ⟨S_, .f32⟩
  | .hbm, ⟨11, _⟩ => ⟨S4x2x128, .f32⟩
  | .hbm, ⟨12, _⟩ => ⟨S4x2046x128, .f32⟩
  | .hbm, ⟨13, _⟩ => ⟨S4x2048x128, .f32⟩
  | .hbm, ⟨14, _⟩ => ⟨S_, .i32⟩
  | .hbm, ⟨15, _⟩ => ⟨S2048, .i32⟩
  | .hbm, ⟨16, _⟩ => ⟨S2048, .i32⟩
  | .hbm, ⟨17, _⟩ => ⟨S_, .i32⟩
  | .hbm, ⟨18, _⟩ => ⟨S2048, .i32⟩
  | .hbm, ⟨19, _⟩ => ⟨S2048, .i32⟩
  | .hbm, ⟨20, _⟩ => ⟨S2048, .f32⟩
  | .hbm, ⟨21, _⟩ => ⟨S1x2048x1, .f32⟩
  | .hbm, ⟨22, _⟩ => ⟨S4x2048x128, .f32⟩
  | .hbm, ⟨23, _⟩ => ⟨S4x2048x128, .f32⟩
  | .hbm, ⟨24, _⟩ => ⟨S4x2048x128, .f32⟩
  | .hbm, ⟨25, _⟩ => ⟨S4x2048x1x128, .f32⟩
  | .hbm, ⟨26, _⟩ => ⟨S4x2048x128, .f32⟩
  | .hbm, ⟨27, _⟩ => ⟨S4x2048x128, .f32⟩
  | .hbm, ⟨28, _⟩ => ⟨S4x2048x1x128, .f32⟩
  | .hbm, ⟨29, _⟩ => ⟨S4x2048x128, .f32⟩
  | .hbm, ⟨30, _⟩ => ⟨S_, .f32⟩
  | .hbm, ⟨31, _⟩ => ⟨S4x4x128, .f32⟩
  | .hbm, ⟨32, _⟩ => ⟨S4x2044x128, .f32⟩
  | .hbm, ⟨33, _⟩ => ⟨S4x2048x128, .f32⟩
  | .hbm, ⟨34, _⟩ => ⟨S_, .i32⟩
  | .hbm, ⟨35, _⟩ => ⟨S2048, .i32⟩
  | .hbm, ⟨36, _⟩ => ⟨S2048, .i32⟩
  | .hbm, ⟨37, _⟩ => ⟨S_, .i32⟩
  | .hbm, ⟨38, _⟩ => ⟨S2048, .i32⟩
  | .hbm, ⟨39, _⟩ => ⟨S2048, .i32⟩
  | .hbm, ⟨40, _⟩ => ⟨S2048, .f32⟩
  | .hbm, ⟨41, _⟩ => ⟨S1x2048x1, .f32⟩
  | .hbm, ⟨42, _⟩ => ⟨S4x2048x128, .f32⟩
  | .hbm, ⟨43, _⟩ => ⟨S4x2048x128, .f32⟩
  | .hbm, ⟨44, _⟩ => ⟨S4x2048x128, .f32⟩
  | .hbm, ⟨45, _⟩ => ⟨S4x2048x1x128, .f32⟩
  | .hbm, ⟨46, _⟩ => ⟨S4x2048x128, .f32⟩
  | .hbm, ⟨47, _⟩ => ⟨S4x2048x128, .f32⟩
  | .hbm, ⟨48, _⟩ => ⟨S4x2048x1x128, .f32⟩
  | .hbm, ⟨49, _⟩ => ⟨S4x2048x128, .f32⟩
  | .hbm, ⟨50, _⟩ => ⟨S_, .f32⟩
  | .hbm, ⟨51, _⟩ => ⟨S4x8x128, .f32⟩
  | .hbm, ⟨52, _⟩ => ⟨S4x2040x128, .f32⟩
  | .hbm, ⟨53, _⟩ => ⟨S4x2048x128, .f32⟩
  | .hbm, ⟨54, _⟩ => ⟨S_, .i32⟩
  | .hbm, ⟨55, _⟩ => ⟨S2048, .i32⟩
  | .hbm, ⟨56, _⟩ => ⟨S2048, .i32⟩
  | .hbm, ⟨57, _⟩ => ⟨S_, .i32⟩
  | .hbm, ⟨58, _⟩ => ⟨S2048, .i32⟩
  | .hbm, ⟨59, _⟩ => ⟨S2048, .i32⟩
  | .hbm, ⟨60, _⟩ => ⟨S2048, .f32⟩
  | .hbm, ⟨61, _⟩ => ⟨S1x2048x1, .f32⟩
  | .hbm, ⟨62, _⟩ => ⟨S4x2048x128, .f32⟩
  | .hbm, ⟨63, _⟩ => ⟨S4x2048x128, .f32⟩
  | .hbm, ⟨64, _⟩ => ⟨S4x2048x128, .f32⟩
  | .hbm, ⟨65, _⟩ => ⟨S4x2048x1x128, .f32⟩
  | .hbm, ⟨66, _⟩ => ⟨S4x2048x128, .f32⟩
  | .hbm, ⟨67, _⟩ => ⟨S4x2048x128, .f32⟩
  | .hbm, ⟨68, _⟩ => ⟨S4x2048x1x128, .f32⟩
  | .hbm, ⟨69, _⟩ => ⟨S4x2048x128, .f32⟩
  | .hbm, ⟨70, _⟩ => ⟨S_, .f32⟩
  | .hbm, ⟨71, _⟩ => ⟨S4x16x128, .f32⟩
  | .hbm, ⟨72, _⟩ => ⟨S4x2032x128, .f32⟩
  | .hbm, ⟨73, _⟩ => ⟨S4x2048x128, .f32⟩
  | .hbm, ⟨74, _⟩ => ⟨S_, .i32⟩
  | .hbm, ⟨75, _⟩ => ⟨S2048, .i32⟩
  | .hbm, ⟨76, _⟩ => ⟨S2048, .i32⟩
  | .hbm, ⟨77, _⟩ => ⟨S_, .i32⟩
  | .hbm, ⟨78, _⟩ => ⟨S2048, .i32⟩
  | .hbm, ⟨79, _⟩ => ⟨S2048, .i32⟩
  | .hbm, ⟨80, _⟩ => ⟨S2048, .f32⟩
  | .hbm, ⟨81, _⟩ => ⟨S1x2048x1, .f32⟩
  | .hbm, ⟨82, _⟩ => ⟨S4x2048x128, .f32⟩
  | .hbm, ⟨83, _⟩ => ⟨S4x2048x128, .f32⟩
  | .hbm, ⟨84, _⟩ => ⟨S4x2048x128, .f32⟩
  | .hbm, ⟨85, _⟩ => ⟨S4x2048x1x128, .f32⟩
  | .hbm, ⟨86, _⟩ => ⟨S4x2048x128, .f32⟩
  | .hbm, ⟨87, _⟩ => ⟨S4x2048x128, .f32⟩
  | .hbm, ⟨88, _⟩ => ⟨S4x2048x1x128, .f32⟩
  | .hbm, ⟨89, _⟩ => ⟨S4x2048x1x128, .f32⟩
  | .hbm, ⟨90, _⟩ => ⟨S4x2048x1x128, .f32⟩
  | .hbm, ⟨91, _⟩ => ⟨S4x2048x1x128, .f32⟩
  | .hbm, ⟨92, _⟩ => ⟨S4x2048x4x128, .f32⟩
  | .hbm, ⟨93, _⟩ => ⟨S4x128x4x2048, .f32⟩
  | .hbm, ⟨94, _⟩ => ⟨S4x2048x4x128, .f32⟩
  | .hbm, ⟨95, _⟩ => ⟨S4x2048x512, .f32⟩
  | .hbm, ⟨96, _⟩ => ⟨S1x1x512, .f32⟩
  | .hbm, ⟨97, _⟩ => ⟨S4x2048x512, .f32⟩
  | .hbm, ⟨98, _⟩ => ⟨S4x2048x512, .f32⟩
  | .hbm, ⟨99, _⟩ => ⟨S8192x512, .f32⟩
  | .hbm, ⟨100, _⟩ => ⟨S8192x512, .bf16⟩
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_call0_cst : Ref sig .tc := ⟨.hbm, 4, rfl⟩
abbrev main_call0_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c_2 : Ref sig .tc := ⟨.hbm, 34, rfl⟩
abbrev main_v25 : Ref sig .tc := ⟨.hbm, 35, rfl⟩
abbrev main_v26 : Ref sig .tc := ⟨.hbm, 36, rfl⟩
abbrev main_c_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_4 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_c_5 : Ref sig .tc := ⟨.hbm, 54, rfl⟩
abbrev main_v42 : Ref sig .tc := ⟨.hbm, 55, rfl⟩
abbrev main_v43 : Ref sig .tc := ⟨.hbm, 56, rfl⟩
abbrev main_c_6 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_7 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_c_8 : Ref sig .tc := ⟨.hbm, 74, rfl⟩
abbrev main_v59 : Ref sig .tc := ⟨.hbm, 75, rfl⟩
abbrev main_v60 : Ref sig .tc := ⟨.hbm, 76, rfl⟩
abbrev main_c_9 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩

abbrev nD : Nat := 1
abbrev τ : Topo := Topo.v7x

variable {F : FTy → Type} [FloatOps F]
-- ==== SguFwd.lean ====
abbrev S4x2048x512 : Shape := ⟨3, ![4, 2048, 512]⟩
abbrev S512 : Shape := ⟨1, ![512]⟩
abbrev S4x128x128 : Shape := ⟨3, ![4, 128, 128]⟩
abbrev S4x128 : Shape := ⟨2, ![4, 128]⟩
abbrev S8192x512 : Shape := ⟨2, ![8192, 512]⟩
abbrev S1x512 : Shape := ⟨2, ![1, 512]⟩
abbrev S4x128x1 : Shape := ⟨3, ![4, 128, 1]⟩
abbrev S512x512 : Shape := ⟨2, ![512, 512]⟩
abbrev S512x1 : Shape := ⟨2, ![512, 1]⟩
abbrev S128x128 : Shape := ⟨2, ![128, 128]⟩
abbrev S512x128 : Shape := ⟨2, ![512, 128]⟩
abbrev S1x128x128 : Shape := ⟨3, ![1, 128, 128]⟩
abbrev S1x128x1 : Shape := ⟨3, ![1, 128, 1]⟩
abbrev S128x1 : Shape := ⟨2, ![128, 1]⟩

abbrev nBuf : Space → Nat
  | .hbm => 12
  | .vmem => 10
  | .smem => 0
  | _ => 0

abbrev bufTy : (tb : Table) → Fin (tcTables nBuf tb) → BufTy
  | .hbm, ⟨0, _⟩ => ⟨S4x2048x512, .f32⟩
  | .hbm, ⟨1, _⟩ => ⟨S4x2048x512, .f32⟩
  | .hbm, ⟨2, _⟩ => ⟨S512, .f32⟩
  | .hbm, ⟨3, _⟩ => ⟨S512, .f32⟩
  | .hbm, ⟨4, _⟩ => ⟨S4x128x128, .f32⟩
  | .hbm, ⟨5, _⟩ => ⟨S4x128, .f32⟩
  | .hbm, ⟨6, _⟩ => ⟨S8192x512, .f32⟩
  | .hbm, ⟨7, _⟩ => ⟨S8192x512, .f32⟩
  | .hbm, ⟨8, _⟩ => ⟨S1x512, .f32⟩
  | .hbm, ⟨9, _⟩ => ⟨S1x512, .f32⟩
  | .hbm, ⟨10, _⟩ => ⟨S4x128x1, .f32⟩
  | .hbm, ⟨11, _⟩ => ⟨S8192x512, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S4x128x128, .f32⟩
  | .local _ .vmem, ⟨7, _⟩ => ⟨S4x128x1, .f32⟩
  | .local _ .vmem, ⟨8, _⟩ => ⟨S512x512, .bf16⟩
  | .local _ .vmem, ⟨9, _⟩ => ⟨S512x512, .bf16⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== SguFwdRefIdeal.lean ====
abbrev S4x2048x512 : Shape := ⟨3, ![4, 2048, 512]⟩
abbrev S512 : Shape := ⟨1, ![512]⟩
abbrev S4x128x128 : Shape := ⟨3, ![4, 128, 128]⟩
abbrev S4x128 : Shape := ⟨2, ![4, 128]⟩
abbrev S_ : Shape := ⟨0, ![]⟩
abbrev S4x2048 : Shape := ⟨2, ![4, 2048]⟩
abbrev S4x2048x1 : Shape := ⟨3, ![4, 2048, 1]⟩
abbrev S1x1x512 : Shape := ⟨3, ![1, 1, 512]⟩
abbrev S4x16x128x4x128 : Shape := ⟨5, ![4, 16, 128, 4, 128]⟩
abbrev S128x128 : Shape := ⟨2, ![128, 128]⟩
abbrev S4x4x16x128x128 : Shape := ⟨5, ![4, 4, 16, 128, 128]⟩
abbrev S128x4 : Shape := ⟨2, ![128, 4]⟩
abbrev S1x1x128x4x1 : Shape := ⟨5, ![1, 1, 128, 4, 1]⟩
abbrev S8192x512 : Shape := ⟨2, ![8192, 512]⟩

abbrev nBuf : Space → Nat
  | .hbm => 94
  | .vmem => 0
  | .smem => 0
  | _ => 0

abbrev bufTy : (tb : Table) → Fin (tcTables nBuf tb) → BufTy
  | .hbm, ⟨0, _⟩ => ⟨S4x2048x512, .f32⟩
  | .hbm, ⟨1, _⟩ => ⟨S4x2048x512, .f32⟩
  | .hbm, ⟨2, _⟩ => ⟨S512, .f32⟩
  | .hbm, ⟨3, _⟩ => ⟨S512, .f32⟩
  | .hbm, ⟨4, _⟩ => ⟨S4x128x128, .f32⟩
  | .hbm, ⟨5, _⟩ => ⟨S4x128, .f32⟩
  | .hbm, ⟨6, _⟩ => ⟨S4x2048x512, .f32⟩
  | .hbm, ⟨7, _⟩ => ⟨S4x2048x512, .f32⟩
  | .hbm, ⟨8, _⟩ => ⟨S_, .f32⟩
  | .hbm, ⟨9, _⟩ => ⟨S4x2048x512, .f32⟩
  | .hbm, ⟨10, _⟩ => ⟨S4x2048x512, .f32⟩
  | .hbm, ⟨11, _⟩ => ⟨S4x2048x512, .f32⟩
  | .hbm, ⟨12, _⟩ => ⟨S_, .f32⟩
  | .hbm, ⟨13, _⟩ => ⟨S4x2048x512, .f32⟩
  | .hbm, ⟨14, _⟩ => ⟨S4x2048x512, .f32⟩
  | .hbm, ⟨15, _⟩ => ⟨S4x2048x512, .f32⟩
  | .hbm, ⟨16, _⟩ => ⟨S_, .f32⟩
  | .hbm, ⟨17, _⟩ => ⟨S4x2048x512, .f32⟩
  | .hbm, ⟨18, _⟩ => ⟨S4x2048x512, .f32⟩
  | .hbm, ⟨19, _⟩ => ⟨S_, .f32⟩
  | .hbm, ⟨20, _⟩ => ⟨S4x2048x512, .f32⟩
  | .hbm, ⟨21, _⟩ => ⟨S4x2048x512, .f32⟩
  | .hbm, ⟨22, _⟩ => ⟨S4x2048x512, .f32⟩
  | .hbm, ⟨23, _⟩ => ⟨S4x2048x512, .f32⟩
  | .hbm, ⟨24, _⟩ => ⟨S4x2048x512, .f32⟩
  | .hbm, ⟨25, _⟩ => ⟨S_, .f32⟩
  | .hbm, ⟨26, _⟩ => ⟨S4x2048x512, .f32⟩
  | .hbm, ⟨27, _⟩ => ⟨S4x2048x512, .f32⟩
  | .hbm, ⟨28, _⟩ => ⟨S4x2048x512, .f32⟩
  | .hbm, ⟨29, _⟩ => ⟨S_, .f32⟩
  | .hbm, ⟨30, _⟩ => ⟨S4x2048x512, .f32⟩
  | .hbm, ⟨31, _⟩ => ⟨S4x2048x512, .f32⟩
  | .hbm, ⟨32, _⟩ => ⟨S4x2048x512, .f32⟩
  | .hbm, ⟨33, _⟩ => ⟨S_, .f32⟩
  | .hbm, ⟨34, _⟩ => ⟨S4x2048x512, .f32⟩
  | .hbm, ⟨35, _⟩ => ⟨S4x2048x512, .f32⟩
  | .hbm, ⟨36, _⟩ => ⟨S_, .f32⟩
  | .hbm, ⟨37, _⟩ => ⟨S4x2048x512, .f32⟩
  | .hbm, ⟨38, _⟩ => ⟨S4x2048x512, .f32⟩
  | .hbm, ⟨39, _⟩ => ⟨S4x2048x512, .f32⟩
  | .hbm, ⟨40, _⟩ => ⟨S_, .f32⟩
  | .hbm, ⟨41, _⟩ => ⟨S4x2048, .f32⟩
  | .hbm, ⟨42, _⟩ => ⟨S4x2048x1, .f32⟩
  | .hbm, ⟨43, _⟩ => ⟨S_, .f32⟩
  | .hbm, ⟨44, _⟩ => ⟨S4x2048x1, .f32⟩
  | .hbm, ⟨45, _⟩ => ⟨S4x2048x1, .f32⟩
  | .hbm, ⟨46, _⟩ => ⟨S4x2048x512, .f32⟩
  | .hbm, ⟨47, _⟩ => ⟨S4x2048x512, .f32⟩
  | .hbm, ⟨48, _⟩ => ⟨S4x2048x512, .f32⟩
  | .hbm, ⟨49, _⟩ => ⟨S_, .f32⟩
  | .hbm, ⟨50, _⟩ => ⟨S4x2048, .f32⟩
  | .hbm, ⟨51, _⟩ => ⟨S4x2048x1, .f32⟩
  | .hbm, ⟨52, _⟩ => ⟨S_, .f32⟩
  | .hbm, ⟨53, _⟩ => ⟨S4x2048x1, .f32⟩
  | .hbm, ⟨54, _⟩ => ⟨S4x2048x1, .f32⟩
  | .hbm, ⟨55, _⟩ => ⟨S_, .f32⟩
  | .hbm, ⟨56, _⟩ => ⟨S4x2048x1, .f32⟩
  | .hbm, ⟨57, _⟩ => ⟨S4x2048x1, .f32⟩
  | .hbm, ⟨58, _⟩ => ⟨S4x2048x1, .f32⟩
  | .hbm, ⟨59, _⟩ => ⟨S4x2048x512, .f32⟩
  | .hbm, ⟨60, _⟩ => ⟨S4x2048x512, .f32⟩
  | .hbm, ⟨61, _⟩ => ⟨S1x1x512, .f32⟩
  | .hbm, ⟨62, _⟩ => ⟨S4x2048x512, .f32⟩
  | .hbm, ⟨63, _⟩ => ⟨S4x2048x512, .f32⟩
  | .hbm, ⟨64, _⟩ => ⟨S1x1x512, .f32⟩
  | .hbm, ⟨65, _⟩ => ⟨S4x2048x512, .f32⟩
  | .hbm, ⟨66, _⟩ => ⟨S4x2048x512, .f32⟩
  | .hbm, ⟨67, _⟩ => ⟨S4x16x128x4x128, .f32⟩
  | .hbm, ⟨68, _⟩ => ⟨S_, .i1⟩
  | .hbm, ⟨69, _⟩ => ⟨S128x128, .i1⟩
  | .hbm, ⟨70, _⟩ => ⟨S128x128, .i32⟩
  | .hbm, ⟨71, _⟩ => ⟨S_, .i32⟩
  | .hbm, ⟨72, _⟩ => ⟨S128x128, .i32⟩
  | .hbm, ⟨73, _⟩ => ⟨S128x128, .i32⟩
  | .hbm, ⟨74, _⟩ => ⟨S128x128, .i32⟩
  | .hbm, ⟨75, _⟩ => ⟨S128x128, .i1⟩
  | .hbm, ⟨76, _⟩ => ⟨S_, .i1⟩
  | .hbm, ⟨77, _⟩ => ⟨S128x128, .i1⟩
  | .hbm, ⟨78, _⟩ => ⟨S128x128, .i1⟩
  | .hbm, ⟨79, _⟩ => ⟨S_, .f32⟩
  | .hbm, ⟨80, _⟩ => ⟨S_, .f32⟩
  | .hbm, ⟨81, _⟩ => ⟨S4x128x128, .i1⟩
  | .hbm, ⟨82, _⟩ => ⟨S4x128x128, .f32⟩
  | .hbm, ⟨83, _⟩ => ⟨S4x128x128, .f32⟩
  | .hbm, ⟨84, _⟩ => ⟨S4x4x16x128x128, .f32⟩
  | .hbm, ⟨85, _⟩ => ⟨S4x16x128x4x128, .f32⟩
  | .hbm, ⟨86, _⟩ => ⟨S128x4, .f32⟩
  | .hbm, ⟨87, _⟩ => ⟨S1x1x128x4x1, .f32⟩
  | .hbm, ⟨88, _⟩ => ⟨S4x16x128x4x128, .f32⟩
  | .hbm, ⟨89, _⟩ => ⟨S4x16x128x4x128, .f32⟩
  | .hbm, ⟨90, _⟩ => ⟨S4x2048x512, .f32⟩
  | .hbm, ⟨91, _⟩ => ⟨S4x2048x512, .f32⟩
  | .hbm, ⟨92, _⟩ => ⟨S8192x512, .f32⟩
  | .hbm, ⟨93, _⟩ => ⟨S8192x512, .bf16⟩
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_7 : Ref sig .tc := ⟨.hbm, 40, rfl⟩
abbrev main_v26 : Ref sig .tc := ⟨.hbm, 41, rfl⟩
abbrev main_v27 : Ref sig .tc := ⟨.hbm, 42, rfl⟩
abbrev main_cst_8 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_9 : Ref sig .tc := ⟨.hbm, 49, rfl⟩
abbrev main_v33 : Ref sig .tc := ⟨.hbm, 50, rfl⟩
abbrev main_v34 : Ref sig .tc := ⟨.hbm, 51, rfl⟩
abbrev main_cst_10 : Ref sig .tc := ⟨.hbm, 52, rfl⟩
abbrev main_v35 : Ref sig .tc := ⟨.hbm, 53, rfl⟩
abbrev main_v36 : Ref sig .tc := ⟨.hbm, 54, rfl⟩
abbrev main_cst_11 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_c : Ref sig .tc := ⟨.hbm, 68, rfl⟩
abbrev main_v49 : Ref sig .tc := ⟨.hbm, 69, rfl⟩
abbrev main_call0_v0 : Ref sig .tc := ⟨.hbm, 70, rfl⟩
abbrev main_call0_c : Ref sig .tc := ⟨.hbm, 71, rfl⟩
abbrev main_call0_v1 : Ref sig .tc := ⟨.hbm, 72, rfl⟩
abbrev main_call0_v2 : Ref sig .tc := ⟨.hbm, 73, rfl⟩
abbrev main_call0_v3 : Ref sig .tc := ⟨.hbm, 74, rfl⟩
abbrev main_call0_v4 : Ref sig .tc := ⟨.hbm, 75, rfl⟩
abbrev main_call0_c_0 : Ref sig .tc := ⟨.hbm, 76, rfl⟩
abbrev main_call0_v5 : Ref sig .tc := ⟨.hbm, 77, rfl⟩
abbrev main_v50 : Ref sig .tc := ⟨.hbm, 78, rfl⟩
abbrev main_cst_12 : Ref sig .tc := ⟨.hbm, 79, rfl⟩
abbrev main_call1_v0 : Ref sig .tc := ⟨.hbm, 80, rfl⟩
abbrev main_call1_v1 : Ref sig .tc := ⟨.hbm, 81, rfl⟩
abbrev main_call1_v2 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩

abbrev nD : Nat := 1
abbrev τ : Topo := Topo.v7x

variable {F : FTy → Type} [FloatOps F]
-- ==== DnPrepFwd.lean ====
abbrev S4x2048x1536 : Shape := ⟨3, ![4, 2048, 1536]⟩
abbrev S4x2048x4 : Shape := ⟨3, ![4, 2048, 4]⟩
abbrev S4 : Shape := ⟨1, ![4]⟩
abbrev S4x2048x8 : Shape := ⟨3, ![4, 2048, 8]⟩
abbrev S8192x8 : Shape := ⟨2, ![8192, 8]⟩
abbrev S_ : Shape := ⟨0, ![]⟩
abbrev S8192x128 : Shape := ⟨2, ![8192, 128]⟩
abbrev S8192x1536 : Shape := ⟨2, ![8192, 1536]⟩
abbrev S1x4 : Shape := ⟨2, ![1, 4]⟩
abbrev S1x128 : Shape := ⟨2, ![1, 128]⟩
abbrev S128x4x64x128 : Shape := ⟨4, ![128, 4, 64, 128]⟩
abbrev S128x4x64x64 : Shape := ⟨4, ![128, 4, 64, 64]⟩
abbrev S128x4x1x128 : Shape := ⟨4, ![128, 4, 1, 128]⟩
abbrev S512x1536 : Shape := ⟨2, ![512, 1536]⟩
abbrev S512x128 : Shape := ⟨2, ![512, 128]⟩
abbrev S8x4x64x128 : Shape := ⟨4, ![8, 4, 64, 128]⟩
abbrev S8x4x64x64 : Shape := ⟨4, ![8, 4, 64, 64]⟩
abbrev S8x4x1x128 : Shape := ⟨4, ![8, 4, 1, 128]⟩
abbrev S512 : Shape := ⟨1, ![512]⟩
abbrev S512x1 : Shape := ⟨2, ![512, 1]⟩
abbrev S8x64x128 : Shape := ⟨3, ![8, 64, 128]⟩
abbrev S8x1x64x128 : Shape := ⟨4, ![8, 1, 64, 128]⟩
abbrev S32x64x128 : Shape := ⟨3, ![32, 64, 128]⟩
abbrev S64x64 : Shape := ⟨2, ![64, 64]⟩
abbrev S1x64x64 : Shape := ⟨3, ![1, 64, 64]⟩
abbrev S32x64x64 : Shape := ⟨3, ![32, 64, 64]⟩
abbrev S32x1x128 : Shape := ⟨3, ![32, 1, 128]⟩

abbrev nBuf : Space → Nat
  | .hbm => 25
  | .vmem => 18
  | .smem => 0
  | _ => 0

abbrev bufTy : (tb : Table) → Fin (tcTables nBuf tb) → BufTy
  | .hbm, ⟨0, _⟩ => ⟨S4x2048x1536, .f32⟩
  | .hbm, ⟨1, _⟩ => ⟨S4x2048x4, .f32⟩
  | .hbm, ⟨2, _⟩ => ⟨S4x2048x4, .f32⟩
  | .hbm, ⟨3, _⟩ => ⟨S4, .f32⟩
  | .hbm, ⟨4, _⟩ => ⟨S4, .f32⟩
  | .hbm, ⟨5, _⟩ => ⟨S4x2048x8, .f32⟩
  | .hbm, ⟨6, _⟩ => ⟨S8192x8, .f32⟩
  | .hbm, ⟨7, _⟩ => ⟨S_, .i32⟩
  | .hbm, ⟨8, _⟩ => ⟨S_, .f32⟩
  | .hbm, ⟨9, _⟩ => ⟨S8192x128, .f32⟩
  | .hbm, ⟨10, _⟩ => ⟨S8192x1536, .f32⟩
  | .hbm, ⟨11, _⟩ => ⟨S1x4, .f32⟩
  | .hbm, ⟨12, _⟩ => ⟨S_, .i32⟩
  | .hbm, ⟨13, _⟩ => ⟨S_, .f32⟩
  | .hbm, ⟨14, _⟩ => ⟨S1x128, .f32⟩
  | .hbm, ⟨15, _⟩ => ⟨S1x4, .f32⟩
  | .hbm, ⟨16, _⟩ => ⟨S_, .i32⟩
  | .hbm, ⟨17, _⟩ => ⟨S_, .f32⟩
  | .hbm, ⟨18, _⟩ => ⟨S1x128, .f32⟩
  | .hbm, ⟨19, _⟩ => ⟨S128x4x64x128, .f32⟩
  | .hbm, ⟨20, _⟩ => ⟨S128x4x64x128, .bf16⟩
  | .hbm, ⟨21, _⟩ => ⟨S128x4x64x128, .bf16⟩
  | .hbm, ⟨22, _⟩ => ⟨S128x4x64x128, .bf16⟩
  | .hbm, ⟨23, _⟩ => ⟨S128x4x64x64, .bf16⟩
  | .hbm, ⟨24, _⟩ => ⟨S128x4x1x128, .f32⟩
  | .local _ .vmem, ⟨0, _⟩ => ⟨S512x1536, .f32⟩
  | .local _ .vmem, ⟨1, _⟩ => ⟨S512x1536, .f32⟩
  | .local _ .vmem, ⟨2, _⟩ => ⟨S512x128, .f32⟩
  | .local _ .vmem, ⟨3, _⟩ => ⟨S512x128, .f32⟩
  | .local _ .vmem, ⟨4, _⟩ => ⟨S1x128, .f32⟩
  | .local _ .vmem, ⟨5, _⟩ => ⟨S1x128, .f32⟩
  | .local _ .vmem, ⟨6, _⟩ => ⟨S8x4x64x128, .f32⟩
  | .local _ .vmem, ⟨7, _⟩ => ⟨S8x4x64x128, .f32⟩
  | .local _ .vmem, ⟨8, _⟩ => ⟨S8x4x64x128, .bf16⟩
  | .local _ .vmem, ⟨9, _⟩ => ⟨S8x4x64x128, .bf16⟩
  | .local _ .vmem, ⟨10, _⟩ => ⟨S8x4x64x128, .bf16⟩
  | .local _ .vmem, ⟨11, _⟩ => ⟨S8x4x64x128, .bf16⟩
  | .local _ .vmem, ⟨12, _⟩ => ⟨S8x4x64x128, .bf16⟩
  | .local _ .vmem, ⟨13, _⟩ => ⟨S8x4x64x128, .bf16⟩
  | .local _ .vmem, ⟨14, _⟩ => ⟨S8x4x64x64, .bf16⟩
  | .local _ .vmem, ⟨15, _⟩ => ⟨S8x4x64x64, .bf16⟩
  | .local _ .vmem, ⟨16, _⟩ => ⟨S8x4x1x128, .f32⟩
  | .local _ .vmem, ⟨17, _⟩ => ⟨S8x4x1x128, .f32⟩
  | _, _ => ⟨S4x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_call1_v0 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_call2_v0 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev main_v8_2 : Ref sig .tc := ⟨.hbm, 21, rfl⟩
abbrev main_v8_3 : Ref sig .tc := ⟨.hbm, 22, rfl⟩
abbrev main_v8_4 : Ref sig .tc := ⟨.hbm, 23, rfl⟩
abbrev main_v8_5 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x4x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x4x64x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x4x64x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x4x64x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x4x64x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x4x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== DnPrepFwdRefIdeal.lean ====
abbrev S4x2048x1536 : Shape := ⟨3, ![4, 2048, 1536]⟩
abbrev S4x2048x4 : Shape := ⟨3, ![4, 2048, 4]⟩
abbrev S4 : Shape := ⟨1, ![4]⟩
abbrev S4x2048x512 : Shape := ⟨3, ![4, 2048, 512]⟩
abbrev S4x2048x4x128 : Shape := ⟨4, ![4, 2048, 4, 128]⟩
abbrev S_ : Shape := ⟨0, ![]⟩
abbrev S4x2048x4x1 : Shape := ⟨4, ![4, 2048, 4, 1]⟩
abbrev S1x1x4 : Shape := ⟨3, ![1, 1, 4]⟩
abbrev S4x4x2048x128 : Shape := ⟨4, ![4, 4, 2048, 128]⟩
abbrev S4x4x32x64x128 : Shape := ⟨5, ![4, 4, 32, 64, 128]⟩
abbrev S4x4x2048 : Shape := ⟨3, ![4, 4, 2048]⟩
abbrev S4x4x32x64 : Shape := ⟨4, ![4, 4, 32, 64]⟩
abbrev S64x64 : Shape := ⟨2, ![64, 64]⟩
abbrev S4x4x32x64x1 : Shape := ⟨5, ![4, 4, 32, 64, 1]⟩
abbrev S4x4x32x1x64 : Shape := ⟨5, ![4, 4, 32, 1, 64]⟩
abbrev S4x4x32x64x64 : Shape := ⟨5, ![4, 4, 32, 64, 64]⟩
abbrev S4x4x32x64x256 : Shape := ⟨5, ![4, 4, 32, 64, 256]⟩
abbrev S4x4x32x1x256 : Shape := ⟨5, ![4, 4, 32, 1, 256]⟩
abbrev S4x4x32x1 : Shape := ⟨4, ![4, 4, 32, 1]⟩
abbrev S4x4x32 : Shape := ⟨3, ![4, 4, 32]⟩
abbrev S4x4x32x1x1 : Shape := ⟨5, ![4, 4, 32, 1, 1]⟩
abbrev S4x4x32x1x128 : Shape := ⟨5, ![4, 4, 32, 1, 128]⟩
abbrev S4x32x4x64x128 : Shape := ⟨5, ![4, 32, 4, 64, 128]⟩
abbrev S128x4x64x128 : Shape := ⟨4, ![128, 4, 64, 128]⟩
abbrev S4x32x4x64x64 : Shape := ⟨5, ![4, 32, 4, 64, 64]⟩
abbrev S128x4x64x64 : Shape := ⟨4, ![128, 4, 64, 64]⟩
abbrev S4x32x4x1x128 : Shape := ⟨5, ![4, 32, 4, 1, 128]⟩
abbrev S128x4x1x128 : Shape := ⟨4, ![128, 4, 1, 128]⟩

abbrev nBuf : Space → Nat
  | .hbm => 214
  | .vmem => 0
  | .smem => 0
  | _ => 0

abbrev hbmTy0_0 (i : Nat) : BufTy := match i % 128 with
  | 0 => ⟨S4x2048x1536, .f32⟩
  | 1 => ⟨S4x2048x4, .f32⟩
  | 2 => ⟨S4x2048x4, .f32⟩
  | 3 => ⟨S4, .f32⟩
  | 4 => ⟨S4, .f32⟩
  | 5 => ⟨S4x2048x512, .f32⟩
  | 6 => ⟨S4x2048x512, .f32⟩
  | 7 => ⟨S4x2048x512, .f32⟩
  | 8 => ⟨S4x2048x4x128, .f32⟩
  | 9 => ⟨S4x2048x4x128, .f32⟩
  | 10 => ⟨S4x2048x4x128, .f32⟩
  | 11 => ⟨S4x2048x4x128, .f32⟩
  | 12 => ⟨S_, .f32⟩
  | 13 => ⟨S4x2048x4, .f32⟩
  | 14 => ⟨S4x2048x4x1, .f32⟩
  | 15 => ⟨S_, .f32⟩
  | 16 => ⟨S4x2048x4x1, .f32⟩
  | 17 => ⟨S4x2048x4x1, .f32⟩
  | 18 => ⟨S4x2048x4x1, .f32⟩
  | 19 => ⟨S4x2048x4x128, .f32⟩
  | 20 => ⟨S4x2048x4x128, .f32⟩
  | 21 => ⟨S_, .f32⟩
  | 22 => ⟨S4x2048x4x128, .f32⟩
  | 23 => ⟨S4x2048x4x128, .f32⟩
  | 24 => ⟨S4x2048x4x128, .f32⟩
  | 25 => ⟨S_, .f32⟩
  | 26 => ⟨S4x2048x4, .f32⟩
  | 27 => ⟨S4x2048x4x1, .f32⟩
  | 28 => ⟨S_, .f32⟩
  | 29 => ⟨S4x2048x4x1, .f32⟩
  | 30 => ⟨S4x2048x4x1, .f32⟩
  | 31 => ⟨S4x2048x4x1, .f32⟩
  | 32 => ⟨S4x2048x4x128, .f32⟩
  | 33 => ⟨S4x2048x4x128, .f32⟩
  | 34 => ⟨S4x2048x4, .f32⟩
  | 35 => ⟨S4x2048x4, .f32⟩
  | 36 => ⟨S_, .f32⟩
  | 37 => ⟨S4x2048x4, .f32⟩
  | 38 => ⟨S4x2048x4, .f32⟩
  | 39 => ⟨S_, .f32⟩
  | 40 => ⟨S4x2048x4, .f32⟩
  | 41 => ⟨S4x2048x4, .f32⟩
  | 42 => ⟨S4, .f32⟩
  | 43 => ⟨S4, .f32⟩
  | 44 => ⟨S1x1x4, .f32⟩
  | 45 => ⟨S4x2048x4, .f32⟩
  | 46 => ⟨S4x2048x4, .f32⟩
  | 47 => ⟨S_, .f32⟩
  | 48 => ⟨S4x2048x4, .f32⟩
  | 49 => ⟨S4x2048x4, .f32⟩
  | 50 => ⟨S4x2048x4, .f32⟩
  | 51 => ⟨S4x2048x4, .f32⟩
  | 52 => ⟨S4x2048x4, .i1⟩
  | 53 => ⟨S4x2048x4, .f32⟩
  | 54 => ⟨S4x2048x4, .f32⟩
  | 55 => ⟨S4x2048x4, .f32⟩
  | 56 => ⟨S4x2048x4, .f32⟩
  | 57 => ⟨S4x2048x4, .f32⟩
  | 58 => ⟨S4x2048x4, .f32⟩
  | 59 => ⟨S4x2048x4, .f32⟩
  | 60 => ⟨S4x2048x4, .f32⟩
  | 61 => ⟨S1x1x4, .f32⟩
  | 62 => ⟨S4x2048x4, .f32⟩
  | 63 => ⟨S4x2048x4, .f32⟩
  | 64 => ⟨S4x4x2048x128, .f32⟩
  | 65 => ⟨S4x4x32x64x128, .f32⟩
  | 66 => ⟨S4x4x2048x128, .f32⟩
  | 67 => ⟨S4x4x32x64x128, .f32⟩
  | 68 => ⟨S4x4x2048x128, .f32⟩
  | 69 => ⟨S4x4x32x64x128, .f32⟩
  | 70 => ⟨S4x4x2048, .f32⟩
  | 71 => ⟨S4x4x32x64, .f32⟩
  | 72 => ⟨S4x4x2048, .f32⟩
  | 73 => ⟨S4x4x32x64, .f32⟩
  | 74 => ⟨S_, .f32⟩
  | 75 => ⟨S_, .f32⟩
  | 76 => ⟨S4x4x32x64, .f32⟩
  | 77 => ⟨S_, .i1⟩
  | 78 => ⟨S64x64, .i1⟩
  | 79 => ⟨S64x64, .i32⟩
  | 80 => ⟨S_, .i32⟩
  | 81 => ⟨S64x64, .i32⟩
  | 82 => ⟨S64x64, .i32⟩
  | 83 => ⟨S64x64, .i32⟩
  | 84 => ⟨S64x64, .i1⟩
  | 85 => ⟨S_, .i1⟩
  | 86 => ⟨S64x64, .i1⟩
  | 87 => ⟨S64x64, .i1⟩
  | 88 => ⟨S_, .i1⟩
  | 89 => ⟨S64x64, .i1⟩
  | 90 => ⟨S64x64, .i32⟩
  | 91 => ⟨S_, .i32⟩
  | 92 => ⟨S64x64, .i32⟩
  | 93 => ⟨S64x64, .i32⟩
  | 94 => ⟨S64x64, .i32⟩
  | 95 => ⟨S64x64, .i1⟩
  | 96 => ⟨S_, .i1⟩
  | 97 => ⟨S64x64, .i1⟩
  | 98 => ⟨S64x64, .i1⟩
  | 99 => ⟨S4x4x32x64x1, .f32⟩
  | 100 => ⟨S4x4x32x1x64, .f32⟩
  | 101 => ⟨S4x4x32x64x64, .f32⟩
  | 102 => ⟨S4x4x32x64x64, .f32⟩
  | 103 => ⟨S4x4x32x64x64, .f32⟩
  | 104 => ⟨S_, .f32⟩
  | 105 => ⟨S_, .f32⟩
  | 106 => ⟨S4x4x32x64x64, .i1⟩
  | 107 => ⟨S4x4x32x64x64, .f32⟩
  | 108 => ⟨S4x4x32x64x64, .f32⟩
  | 109 => ⟨S4x4x32x64x64, .f32⟩
  | 110 => ⟨S4x4x32x64x1, .f32⟩
  | 111 => ⟨S4x4x32x64x128, .f32⟩
  | 112 => ⟨S4x4x32x64x128, .f32⟩
  | 113 => ⟨S4x4x32x64x64, .f32⟩
  | 114 => ⟨S4x4x32x64x64, .f32⟩
  | 115 => ⟨S_, .f32⟩
  | 116 => ⟨S_, .f32⟩
  | 117 => ⟨S4x4x32x64x64, .i1⟩
  | 118 => ⟨S4x4x32x64x64, .f32⟩
  | 119 => ⟨S4x4x32x64x64, .f32⟩
  | 120 => ⟨S4x4x32x64x1, .f32⟩
  | 121 => ⟨S4x4x32x64x128, .f32⟩
  | 122 => ⟨S4x4x32x64x128, .f32⟩
  | 123 => ⟨S4x4x32x64, .f32⟩
  | 124 => ⟨S4x4x32x64x1, .f32⟩
  | 125 => ⟨S4x4x32x64x128, .f32⟩
  | 126 => ⟨S4x4x32x64x128, .f32⟩
  | 127 => ⟨S4x4x32x64x256, .f32⟩
  | _ => ⟨S4x2048x1536, .f32⟩

abbrev hbmTy0_1 (i : Nat) : BufTy := match i % 128 with
  | 0 => ⟨S_, .f32⟩
  | 1 => ⟨S4x4x32x64x256, .f32⟩
  | 2 => ⟨S_, .i32⟩
  | 3 => ⟨S_, .i32⟩
  | 4 => ⟨S4x4x32x64x256, .f32⟩
  | 5 => ⟨S4x4x32x64x64, .f32⟩
  | 6 => ⟨S_, .i32⟩
  | 7 => ⟨S_, .i32⟩
  | 8 => ⟨S4x4x32x64x256, .f32⟩
  | 9 => ⟨S_, .i32⟩
  | 10 => ⟨S_, .i1⟩
  | 11 => ⟨S_, .i32⟩
  | 12 => ⟨S_, .i32⟩
  | 13 => ⟨S_, .i32⟩
  | 14 => ⟨S_, .i1⟩
  | 15 => ⟨S_, .i32⟩
  | 16 => ⟨S_, .i32⟩
  | 17 => ⟨S_, .i32⟩
  | 18 => ⟨S_, .i32⟩
  | 19 => ⟨S_, .i32⟩
  | 20 => ⟨S_, .i32⟩
  | 21 => ⟨S_, .i32⟩
  | 22 => ⟨S_, .i32⟩
  | 23 => ⟨S4x4x32x1x256, .f32⟩
  | 24 => ⟨S_, .i32⟩
  | 25 => ⟨S_, .i1⟩
  | 26 => ⟨S_, .i32⟩
  | 27 => ⟨S_, .i32⟩
  | 28 => ⟨S_, .i32⟩
  | 29 => ⟨S_, .i32⟩
  | 30 => ⟨S_, .i32⟩
  | 31 => ⟨S_, .i32⟩
  | 32 => ⟨S_, .i32⟩
  | 33 => ⟨S_, .i32⟩
  | 34 => ⟨S4x4x32x1x64, .f32⟩
  | 35 => ⟨S4x4x32x1x256, .f32⟩
  | 36 => ⟨S4x4x32x1x256, .f32⟩
  | 37 => ⟨S_, .i32⟩
  | 38 => ⟨S_, .i1⟩
  | 39 => ⟨S_, .i32⟩
  | 40 => ⟨S_, .i32⟩
  | 41 => ⟨S_, .i32⟩
  | 42 => ⟨S_, .i32⟩
  | 43 => ⟨S_, .i32⟩
  | 44 => ⟨S_, .i32⟩
  | 45 => ⟨S_, .i32⟩
  | 46 => ⟨S_, .i32⟩
  | 47 => ⟨S4x4x32x64x256, .f32⟩
  | 48 => ⟨S_, .i32⟩
  | 49 => ⟨S_, .i32⟩
  | 50 => ⟨S4x4x32x64x128, .f32⟩
  | 51 => ⟨S4x4x32x64x128, .f32⟩
  | 52 => ⟨S4x4x32x64x64, .f32⟩
  | 53 => ⟨S4x4x32x64x64, .f32⟩
  | 54 => ⟨S4x4x32x64, .f32⟩
  | 55 => ⟨S4x4x32x64x1, .f32⟩
  | 56 => ⟨S4x4x32x64x128, .f32⟩
  | 57 => ⟨S4x4x32x64x128, .f32⟩
  | 58 => ⟨S4x4x32x1, .f32⟩
  | 59 => ⟨S4x4x32x64, .f32⟩
  | 60 => ⟨S4x4x32x64, .f32⟩
  | 61 => ⟨S4x4x32x64, .f32⟩
  | 62 => ⟨S4x4x32x64x1, .f32⟩
  | 63 => ⟨S4x4x32x64x128, .f32⟩
  | 64 => ⟨S4x4x32x64x128, .f32⟩
  | 65 => ⟨S4x4x32x1, .f32⟩
  | 66 => ⟨S4x4x32, .f32⟩
  | 67 => ⟨S4x4x32, .f32⟩
  | 68 => ⟨S4x4x32x1x1, .f32⟩
  | 69 => ⟨S4x4x32x1x128, .f32⟩
  | 70 => ⟨S4x32x4x64x128, .f32⟩
  | 71 => ⟨S128x4x64x128, .f32⟩
  | 72 => ⟨S4x32x4x64x128, .f32⟩
  | 73 => ⟨S128x4x64x128, .f32⟩
  | 74 => ⟨S128x4x64x128, .bf16⟩
  | 75 => ⟨S4x32x4x64x128, .f32⟩
  | 76 => ⟨S128x4x64x128, .f32⟩
  | 77 => ⟨S128x4x64x128, .bf16⟩
  | 78 => ⟨S4x32x4x64x128, .f32⟩
  | 79 => ⟨S128x4x64x128, .f32⟩
  | 80 => ⟨S128x4x64x128, .bf16⟩
  | 81 => ⟨S4x32x4x64x64, .f32⟩
  | 82 => ⟨S128x4x64x64, .f32⟩
  | 83 => ⟨S128x4x64x64, .bf16⟩
  | 84 => ⟨S4x32x4x1x128, .f32⟩
  | 85 => ⟨S128x4x1x128, .f32⟩
  | _ => ⟨S4x2048x1536, .f32⟩

abbrev hbmTy (i : Nat) : BufTy := match i / 128 with
  | 0 => hbmTy0_0 i
  | 1 => hbmTy0_1 i
  | _ => ⟨S4x2048x1536, .f32⟩

abbrev bufTy : (tb : Table) → Fin (tcTables nBuf tb) → BufTy
  | .hbm, ⟨i, _⟩ => hbmTy i
  | _, _ => ⟨S4x2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_call0_cst : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_call0_v5 : Ref sig .tc := ⟨.hbm, 53, rfl⟩
abbrev main_call0_v6 : Ref sig .tc := ⟨.hbm, 54, rfl⟩
abbrev main_call0_v7 : Ref sig .tc := ⟨.hbm, 55, rfl⟩
abbrev main_call0_v8 : Ref sig .tc := ⟨.hbm, 56, rfl⟩
abbrev main_call0_v9 : Ref sig .tc := ⟨.hbm, 57, rfl⟩
abbrev main_call0_v10 : Ref sig .tc := ⟨.hbm, 58, rfl⟩
abbrev main_call0_v11 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call1_call0_cst : Ref sig .tc := ⟨.hbm, 74, rfl⟩
abbrev main_call1_call0_v0 : Ref sig .tc := ⟨.hbm, 75, rfl⟩
abbrev main_v49 : Ref sig .tc := ⟨.hbm, 76, rfl⟩
abbrev main_c : Ref sig .tc := ⟨.hbm, 77, rfl⟩
abbrev main_v50 : Ref sig .tc := ⟨.hbm, 78, rfl⟩
abbrev main_call2_v0 : Ref sig .tc := ⟨.hbm, 79, rfl⟩
abbrev main_call2_c : Ref sig .tc := ⟨.hbm, 80, rfl⟩
abbrev main_call2_v1 : Ref sig .tc := ⟨.hbm, 81, rfl⟩
abbrev main_call2_v2 : Ref sig .tc := ⟨.hbm, 82, rfl⟩
abbrev main_call2_v3 : Ref sig .tc := ⟨.hbm, 83, rfl⟩
abbrev main_call2_v4 : Ref sig .tc := ⟨.hbm, 84, rfl⟩
abbrev main_call2_c_0 : Ref sig .tc := ⟨.hbm, 85, rfl⟩
abbrev main_call2_v5 : Ref sig .tc := ⟨.hbm, 86, rfl⟩
abbrev main_v51 : Ref sig .tc := ⟨.hbm, 87, rfl⟩
abbrev main_c_6 : Ref sig .tc := ⟨.hbm, 88, rfl⟩
abbrev main_v52 : Ref sig .tc := ⟨.hbm, 89, rfl⟩
abbrev main_call3_v0 : Ref sig .tc := ⟨.hbm, 90, rfl⟩
abbrev main_call3_c : Ref sig .tc := ⟨.hbm, 91, rfl⟩
abbrev main_call3_v1 : Ref sig .tc := ⟨.hbm, 92, rfl⟩
abbrev main_call3_v2 : Ref sig .tc := ⟨.hbm, 93, rfl⟩
abbrev main_call3_v3 : Ref sig .tc := ⟨.hbm, 94, rfl⟩
abbrev main_call3_v4 : Ref sig .tc := ⟨.hbm, 95, rfl⟩
abbrev main_call3_c_0 : Ref sig .tc := ⟨.hbm, 96, rfl⟩
abbrev main_call3_v5 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_cst_7 : Ref sig .tc := ⟨.hbm, 104, rfl⟩
abbrev main_call4_v0 : Ref sig .tc := ⟨.hbm, 105, rfl⟩
abbrev main_call4_v1 : Ref sig .tc := ⟨.hbm, 106, rfl⟩
abbrev main_call4_v2 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_cst_8 : Ref sig .tc := ⟨.hbm, 115, rfl⟩
abbrev main_call5_v0 : Ref sig .tc := ⟨.hbm, 116, rfl⟩
abbrev main_call5_v1 : Ref sig .tc := ⟨.hbm, 117, rfl⟩
abbrev main_call5_v2 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_cst_9 : Ref sig .tc := ⟨.hbm, 128, rfl⟩
abbrev main_v75 : Ref sig .tc := ⟨.hbm, 129, rfl⟩
abbrev main_c_10 : Ref sig .tc := ⟨.hbm, 130, rfl⟩
abbrev main_c_11 : Ref sig .tc := ⟨.hbm, 131, rfl⟩
abbrev main_v76_0 : Ref sig .tc := ⟨.hbm, 132, rfl⟩
abbrev main_v76_1 : Ref sig .tc := ⟨.hbm, 133, rfl⟩
abbrev main_v76_2 : Ref sig .tc := ⟨.hbm, 134, rfl⟩
abbrev main_v76_3 : Ref sig .tc := ⟨.hbm, 135, rfl⟩
abbrev main_v76_4 : Ref sig .tc := ⟨.hbm, 136, rfl⟩
abbrev main_while0c_c_16 : Ref sig .tc := ⟨.hbm, 137, rfl⟩
abbrev main_while0c_v113 : Ref sig .tc := ⟨.hbm, 138, rfl⟩
abbrev main_while0b_c_16 : Ref sig .tc := ⟨.hbm, 139, rfl⟩
abbrev main_while0b_v113 : Ref sig .tc := ⟨.hbm, 140, rfl⟩
abbrev main_while0b_c_17 : Ref sig .tc := ⟨.hbm, 141, rfl⟩
abbrev main_while0b_v114 : Ref sig .tc := ⟨.hbm, 142, rfl⟩
abbrev main_while0b_v115 : Ref sig .tc := ⟨.hbm, 143, rfl⟩
abbrev main_while0b_c_18 : Ref sig .tc := ⟨.hbm, 144, rfl⟩
abbrev main_while0b_v116 : Ref sig .tc := ⟨.hbm, 145, rfl⟩
abbrev main_while0b_v117 : Ref sig .tc := ⟨.hbm, 146, rfl⟩
abbrev main_while0b_c_19 : Ref sig .tc := ⟨.hbm, 147, rfl⟩
abbrev main_while0b_c_20 : Ref sig .tc := ⟨.hbm, 148, rfl⟩
abbrev main_while0b_c_21 : Ref sig .tc := ⟨.hbm, 149, rfl⟩
abbrev main_while0b_c_22 : Ref sig .tc := ⟨.hbm, 150, rfl⟩
abbrev main_while0b_v118 : Ref sig .tc := ⟨.hbm, 151, rfl⟩
abbrev main_while0b_c_23 : Ref sig .tc := ⟨.hbm, 152, rfl⟩
abbrev main_while0b_v119 : Ref sig .tc := ⟨.hbm, 153, rfl⟩
abbrev main_while0b_v120 : Ref sig .tc := ⟨.hbm, 154, rfl⟩
abbrev main_while0b_c_24 : Ref sig .tc := ⟨.hbm, 155, rfl⟩
abbrev main_while0b_v121 : Ref sig .tc := ⟨.hbm, 156, rfl⟩
abbrev main_while0b_v122 : Ref sig .tc := ⟨.hbm, 157, rfl⟩
abbrev main_while0b_c_25 : Ref sig .tc := ⟨.hbm, 158, rfl⟩
abbrev main_while0b_c_26 : Ref sig .tc := ⟨.hbm, 159, rfl⟩
abbrev main_while0b_c_27 : Ref sig .tc := ⟨.hbm, 160, rfl⟩
abbrev main_while0b_c_28 : Ref sig .tc := ⟨.hbm, 161, rfl⟩
abbrev main_while0b_v123 : Ref sig .tc := ⟨.hbm, 162, rfl⟩
abbrev main_while0b_v124 : Ref sig .tc := ⟨.hbm, 163, rfl⟩
abbrev main_while0b_v125 : Ref sig .tc := ⟨.hbm, 164, rfl⟩
abbrev main_while0b_c_29 : Ref sig .tc := ⟨.hbm, 165, rfl⟩
abbrev main_while0b_v126 : Ref sig .tc := ⟨.hbm, 166, rfl⟩
abbrev main_while0b_v127 : Ref sig .tc := ⟨.hbm, 167, rfl⟩
abbrev main_while0b_c_30 : Ref sig .tc := ⟨.hbm, 168, rfl⟩
abbrev main_while0b_v128 : Ref sig .tc := ⟨.hbm, 169, rfl⟩
abbrev main_while0b_v129 : Ref sig .tc := ⟨.hbm, 170, rfl⟩
abbrev main_while0b_c_31 : Ref sig .tc := ⟨.hbm, 171, rfl⟩
abbrev main_while0b_c_32 : Ref sig .tc := ⟨.hbm, 172, rfl⟩
abbrev main_while0b_c_33 : Ref sig .tc := ⟨.hbm, 173, rfl⟩
abbrev main_while0b_c_34 : Ref sig .tc := ⟨.hbm, 174, rfl⟩
abbrev main_while0b_v130 : Ref sig .tc := ⟨.hbm, 175, rfl⟩
abbrev main_while0b_c_35 : Ref sig .tc := ⟨.hbm, 176, rfl⟩
abbrev main_while0b_v131 : Ref sig .tc := ⟨.hbm, 177, rfl⟩
abbrev main_v77 : Ref sig .tc := ⟨.hbm, 178, rfl⟩
abbrev main_v78 : Ref sig .tc := ⟨.hbm, 179, rfl⟩
abbrev main_v79 : Ref sig .tc := ⟨.hbm, 180, rfl⟩
abbrev main_v80 : Ref sig .tc := ⟨.hbm, 181, rfl⟩
abbrev main_v81 : Ref sig .tc := ⟨.hbm, 182, rfl⟩
abbrev main_v82 : Ref sig .tc := ⟨.hbm, 183, rfl⟩
abbrev main_v83 : Ref sig .tc := ⟨.hbm, 184, rfl⟩
abbrev main_v84 : Ref sig .tc := ⟨.hbm, 185, rfl⟩
abbrev main_v85 : Ref sig .tc := ⟨.hbm, 186, rfl⟩
abbrev main_v86 : Ref sig .tc := ⟨.hbm, 187, rfl⟩
abbrev main_v87 : Ref sig .tc := ⟨.hbm, 188, rfl⟩
abbrev main_v88 : Ref sig .tc := ⟨.hbm, 189, rfl⟩
abbrev main_v89 : Ref sig .tc := ⟨.hbm, 190, rfl⟩
abbrev main_v90 : Ref sig .tc := ⟨.hbm, 191, rfl⟩
abbrev main_v91 : Ref sig .tc := ⟨.hbm, 192, rfl⟩
abbrev main_v92 : Ref sig .tc := ⟨.hbm, 193, rfl⟩
abbrev main_v93 : Ref sig .tc := ⟨.hbm, 194, rfl⟩
abbrev main_v94 : Ref sig .tc := ⟨.hbm, 195, rfl⟩
abbrev main_v95 : Ref sig .tc := ⟨.hbm, 196, rfl⟩
abbrev main_v96 : Ref sig .tc := ⟨.hbm, 197, rfl⟩
abbrev main_v97 : Ref sig .tc := ⟨.hbm, 198, rfl⟩
abbrev main_v98 : Ref sig .tc := ⟨.hbm, 199, rfl⟩
abbrev main_v99 : Ref sig .tc := ⟨.hbm, 200, rfl⟩
abbrev main_v100 : Ref sig .tc := ⟨.hbm, 201, rfl⟩
abbrev main_v101 : Ref sig .tc := ⟨.hbm, 202, rfl⟩
abbrev main_v102 : Ref sig .tc := ⟨.hbm, 203, rfl⟩
abbrev main_v103 : Ref sig .tc := ⟨.hbm, 204, rfl⟩
abbrev main_v104 : Ref sig .tc := ⟨.hbm, 205, rfl⟩
abbrev main_v105 : Ref sig .tc := ⟨.hbm, 206, rfl⟩
abbrev main_v106 : Ref sig .tc := ⟨.hbm, 207, rfl⟩
abbrev main_v107 : Ref sig .tc := ⟨.hbm, 208, rfl⟩
abbrev main_v108 : Ref sig .tc := ⟨.hbm, 209, rfl⟩
abbrev main_v109 : Ref sig .tc := ⟨.hbm, 210, rfl⟩
abbrev main_v110 : Ref sig .tc := ⟨.hbm, 211, rfl⟩
abbrev main_v111 : Ref sig .tc := ⟨.hbm, 212, rfl⟩
abbrev main_v112 : Ref sig .tc := ⟨.hbm, 213, rfl⟩

abbrev nD : Nat := 1
abbrev τ : Topo := Topo.v7x

variable {F : FTy → Type} [FloatOps F]

abbrev main_while0_count : Scf.Loop 32 := ⟨0#32, 64#32, 1#32⟩
-- ==== InAbFwd.lean ====
abbrev S4x2048x1024 : Shape := ⟨3, ![4, 2048, 1024]⟩
abbrev S1024 : Shape := ⟨1, ![1024]⟩
abbrev S1024x2568 : Shape := ⟨2, ![1024, 2568]⟩
abbrev S2568x1024 : Shape := ⟨2, ![2568, 1024]⟩
abbrev S_ : Shape := ⟨0, ![]⟩
abbrev S2688x1024 : Shape := ⟨2, ![2688, 1024]⟩
abbrev S8192x1024 : Shape := ⟨2, ![8192, 1024]⟩
abbrev S1x1024 : Shape := ⟨2, ![1, 1024]⟩
abbrev S8192x512 : Shape := ⟨2, ![8192, 512]⟩
abbrev S8192x1536 : Shape := ⟨2, ![8192, 1536]⟩
abbrev S8192x128 : Shape := ⟨2, ![8192, 128]⟩
abbrev S512x1024 : Shape := ⟨2, ![512, 1024]⟩
abbrev S512x512 : Shape := ⟨2, ![512, 512]⟩
abbrev S512x1536 : Shape := ⟨2, ![512, 1536]⟩
abbrev S512x128 : Shape := ⟨2, ![512, 128]⟩
abbrev S512 : Shape := ⟨1, ![512]⟩
abbrev S512x1 : Shape := ⟨2, ![512, 1]⟩
abbrev S512x2688 : Shape := ⟨2, ![512, 2688]⟩

abbrev nBuf : Space → Nat
  | .hbm => 14
  | .vmem => 12
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024x2568, .f32⟩
  | .hbm, ⟨3, _⟩ => ⟨S1024x2568, .bf16⟩
  | .hbm, ⟨4, _⟩ => ⟨S2568x1024, .bf16⟩
  | .hbm, ⟨5, _⟩ => ⟨S_, .i32⟩
  | .hbm, ⟨6, _⟩ => ⟨S_, .bf16⟩
  | .hbm, ⟨7, _⟩ => ⟨S2688x1024, .bf16⟩
  | .hbm, ⟨8, _⟩ => ⟨S8192x1024, .f32⟩
  | .hbm, ⟨9, _⟩ => ⟨S1x1024, .f32⟩
  | .hbm, ⟨10, _⟩ => ⟨S8192x512, .f32⟩
  | .hbm, ⟨11, _⟩ => ⟨S8192x1536, .f32⟩
  | .hbm, ⟨12, _⟩ => ⟨S8192x512, .f32⟩
  | .hbm, ⟨13, _⟩ => ⟨S8192x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2688x1024, .bf16⟩
  | .local _ .vmem, ⟨4, _⟩ => ⟨S512x512, .f32⟩
  | .local _ .vmem, ⟨5, _⟩ => ⟨S512x512, .f32⟩
  | .local _ .vmem, ⟨6, _⟩ => ⟨S512x1536, .f32⟩
  | .local _ .vmem, ⟨7, _⟩ => ⟨S512x1536, .f32⟩
  | .local _ .vmem, ⟨8, _⟩ => ⟨S512x512, .f32⟩
  | .local _ .vmem, ⟨9, _⟩ => ⟨S512x512, .f32⟩
  | .local _ .vmem, ⟨10, _⟩ => ⟨S512x128, .f32⟩
  | .local _ .vmem, ⟨11, _⟩ => ⟨S512x128, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2688x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== InAbFwdRefIdeal.lean ====
abbrev S4x2048x1024 : Shape := ⟨3, ![4, 2048, 1024]⟩
abbrev S1024 : Shape := ⟨1, ![1024]⟩
abbrev S1024x2568 : Shape := ⟨2, ![1024, 2568]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x2048x2568 : Shape := ⟨3, ![4, 2048, 2568]⟩
abbrev S8192x2568 : Shape := ⟨2, ![8192, 2568]⟩
abbrev S8192x512 : Shape := ⟨2, ![8192, 512]⟩
abbrev S8192x1536 : Shape := ⟨2, ![8192, 1536]⟩
abbrev S8192x8 : Shape := ⟨2, ![8192, 8]⟩
abbrev S8192x128 : Shape := ⟨2, ![8192, 128]⟩

abbrev nBuf : Space → Nat
  | .hbm => 28
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024x2568, .f32⟩
  | .hbm, ⟨3, _⟩ => ⟨S4x2048x1024, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x1, .f32⟩
  | .hbm, ⟨14, _⟩ => ⟨S4x2048x1024, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S4x2048x2568, .f32⟩
  | .hbm, ⟨20, _⟩ => ⟨S8192x2568, .f32⟩
  | .hbm, ⟨21, _⟩ => ⟨S8192x512, .f32⟩
  | .hbm, ⟨22, _⟩ => ⟨S8192x1536, .f32⟩
  | .hbm, ⟨23, _⟩ => ⟨S8192x512, .f32⟩
  | .hbm, ⟨24, _⟩ => ⟨S8192x8, .f32⟩
  | .hbm, ⟨25, _⟩ => ⟨S_, .i32⟩
  | .hbm, ⟨26, _⟩ => ⟨S_, .f32⟩
  | .hbm, ⟨27, _⟩ => ⟨S8192x128, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_call0_v0 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== InCdFwd.lean ====
abbrev S4x2048x1024 : Shape := ⟨3, ![4, 2048, 1024]⟩
abbrev S1024 : Shape := ⟨1, ![1024]⟩
abbrev S1024x2560 : Shape := ⟨2, ![1024, 2560]⟩
abbrev S8192x1024 : Shape := ⟨2, ![8192, 1024]⟩
abbrev S1x1024 : Shape := ⟨2, ![1, 1024]⟩
abbrev S2560x1024 : Shape := ⟨2, ![2560, 1024]⟩
abbrev S8x320x1024 : Shape := ⟨3, ![8, 320, 1024]⟩
abbrev S8192x512 : Shape := ⟨2, ![8192, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S512x2560 : Shape := ⟨2, ![512, 2560]⟩

abbrev nBuf : Space → Nat
  | .hbm => 13
  | .vmem => 14
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024x2560, .f32⟩
  | .hbm, ⟨3, _⟩ => ⟨S8192x1024, .f32⟩
  | .hbm, ⟨4, _⟩ => ⟨S1x1024, .f32⟩
  | .hbm, ⟨5, _⟩ => ⟨S1024x2560, .bf16⟩
  | .hbm, ⟨6, _⟩ => ⟨S2560x1024, .bf16⟩
  | .hbm, ⟨7, _⟩ => ⟨S8x320x1024, .bf16⟩
  | .hbm, ⟨8, _⟩ => ⟨S8192x512, .f32⟩
  | .hbm, ⟨9, _⟩ => ⟨S8192x512, .f32⟩
  | .hbm, ⟨10, _⟩ => ⟨S8192x512, .f32⟩
  | .hbm, ⟨11, _⟩ => ⟨S8192x512, .f32⟩
  | .hbm, ⟨12, _⟩ => ⟨S8192x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S8x320x1024, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_v5_3 : Ref sig .tc := ⟨.hbm, 11, rfl⟩
abbrev main_v5_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x320x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== InCdFwdRefIdeal.lean ====
abbrev S4x2048x1024 : Shape := ⟨3, ![4, 2048, 1024]⟩
abbrev S1024 : Shape := ⟨1, ![1024]⟩
abbrev S1024x2560 : Shape := ⟨2, ![1024, 2560]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x2048x2560 : Shape := ⟨3, ![4, 2048, 2560]⟩
abbrev S8192x2560 : Shape := ⟨2, ![8192, 2560]⟩
abbrev S8192x512 : Shape := ⟨2, ![8192, 512]⟩

abbrev nBuf : Space → Nat
  | .hbm => 26
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024x2560, .f32⟩
  | .hbm, ⟨3, _⟩ => ⟨S4x2048x1024, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x1, .f32⟩
  | .hbm, ⟨14, _⟩ => ⟨S4x2048x1024, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S4x2048x2560, .f32⟩
  | .hbm, ⟨20, _⟩ => ⟨S8192x2560, .f32⟩
  | .hbm, ⟨21, _⟩ => ⟨S8192x512, .f32⟩
  | .hbm, ⟨22, _⟩ => ⟨S8192x512, .f32⟩
  | .hbm, ⟨23, _⟩ => ⟨S8192x512, .f32⟩
  | .hbm, ⟨24, _⟩ => ⟨S8192x512, .f32⟩
  | .hbm, ⟨25, _⟩ => ⟨S8192x512, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== OutFwd.lean ====
abbrev S4x2048x1024 : Shape := ⟨3, ![4, 2048, 1024]⟩
abbrev S4x2048x512 : Shape := ⟨3, ![4, 2048, 512]⟩
abbrev S1024x1024 : Shape := ⟨2, ![1024, 1024]⟩
abbrev S8192x1024 : Shape := ⟨2, ![8192, 1024]⟩
abbrev S8192x512 : Shape := ⟨2, ![8192, 512]⟩
abbrev S8x128x1024 : Shape := ⟨3, ![8, 128, 1024]⟩
abbrev S512x1024 : Shape := ⟨2, ![512, 1024]⟩
abbrev S512x512 : Shape := ⟨2, ![512, 512]⟩

abbrev nBuf : Space → Nat
  | .hbm => 12
  | .vmem => 9
  | .smem => 0
  | _ => 0

abbrev bufTy : (tb : Table) → Fin (tcTables nBuf tb) → BufTy
  | .hbm, ⟨0, _⟩ => ⟨S4x2048x1024, .f32⟩
  | .hbm, ⟨1, _⟩ => ⟨S4x2048x512, .f32⟩
  | .hbm, ⟨2, _⟩ => ⟨S4x2048x512, .f32⟩
  | .hbm, ⟨3, _⟩ => ⟨S1024x1024, .f32⟩
  | .hbm, ⟨4, _⟩ => ⟨S8192x1024, .f32⟩
  | .hbm, ⟨5, _⟩ => ⟨S8192x512, .f32⟩
  | .hbm, ⟨6, _⟩ => ⟨S8192x512, .bf16⟩
  | .hbm, ⟨7, _⟩ => ⟨S8192x512, .f32⟩
  | .hbm, ⟨8, _⟩ => ⟨S8192x512, .bf16⟩
  | .hbm, ⟨9, _⟩ => ⟨S1024x1024, .bf16⟩
  | .hbm, ⟨10, _⟩ => ⟨S8x128x1024, .bf16⟩
  | .hbm, ⟨11, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S8x128x1024, .bf16⟩
  | .local _ .vmem, ⟨7, _⟩ => ⟨S512x1024, .f32⟩
  | .local _ .vmem, ⟨8, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== OutFwdRefIdeal.lean ====
abbrev S4x2048x1024 : Shape := ⟨3, ![4, 2048, 1024]⟩
abbrev S4x2048x512 : Shape := ⟨3, ![4, 2048, 512]⟩
abbrev S1024x1024 : Shape := ⟨2, ![1024, 1024]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x512, .f32⟩
  | .hbm, ⟨2, _⟩ => ⟨S4x2048x512, .f32⟩
  | .hbm, ⟨3, _⟩ => ⟨S1024x1024, .f32⟩
  | .hbm, ⟨4, _⟩ => ⟨S4x2048x1024, .f32⟩
  | .hbm, ⟨5, _⟩ => ⟨S4x2048x1024, .f32⟩
  | .hbm, ⟨6, _⟩ => ⟨S4x2048x1024, .f32⟩
  | .hbm, ⟨7, _⟩ => ⟨S8192x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== OutBwd.lean ====
abbrev S4x2048x512 : Shape := ⟨3, ![4, 2048, 512]⟩
abbrev S1024x1024 : Shape := ⟨2, ![1024, 1024]⟩
abbrev S4x2048x1024 : Shape := ⟨3, ![4, 2048, 1024]⟩
abbrev S8192x1024 : Shape := ⟨2, ![8192, 1024]⟩
abbrev S8192x512 : Shape := ⟨2, ![8192, 512]⟩
abbrev S8x128x1024 : Shape := ⟨3, ![8, 128, 1024]⟩
abbrev S512x1024 : Shape := ⟨2, ![512, 1024]⟩
abbrev S512x512 : Shape := ⟨2, ![512, 512]⟩

abbrev nBuf : Space → Nat
  | .hbm => 14
  | .vmem => 13
  | .smem => 0
  | _ => 0

abbrev bufTy : (tb : Table) → Fin (tcTables nBuf tb) → BufTy
  | .hbm, ⟨0, _⟩ => ⟨S4x2048x512, .f32⟩
  | .hbm, ⟨1, _⟩ => ⟨S4x2048x512, .f32⟩
  | .hbm, ⟨2, _⟩ => ⟨S1024x1024, .f32⟩
  | .hbm, ⟨3, _⟩ => ⟨S4x2048x1024, .f32⟩
  | .hbm, ⟨4, _⟩ => ⟨S8192x1024, .f32⟩
  | .hbm, ⟨5, _⟩ => ⟨S8192x512, .f32⟩
  | .hbm, ⟨6, _⟩ => ⟨S8192x512, .bf16⟩
  | .hbm, ⟨7, _⟩ => ⟨S8192x512, .f32⟩
  | .hbm, ⟨8, _⟩ => ⟨S8192x512, .bf16⟩
  | .hbm, ⟨9, _⟩ => ⟨S1024x1024, .bf16⟩
  | .hbm, ⟨10, _⟩ => ⟨S8x128x1024, .bf16⟩
  | .hbm, ⟨11, _⟩ => ⟨S8192x512, .f32⟩
  | .hbm, ⟨12, _⟩ => ⟨S8192x512, .f32⟩
  | .hbm, ⟨13, _⟩ => ⟨S1024x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S8x128x1024, .bf16⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S1024x1024, .bf16⟩
  | .local _ .vmem, ⟨12, _⟩ => ⟨S1024x1024, .f32⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v25 : BitVec 1 := Scalar.cmpi .eq arg0 c15_i32
  let v26 : BitVec 32 := Scalar.extui v25
  let c0_i32_18 : BitVec 32 := 0#32
  let v27 : BitVec 1 := Scalar.cmpi .ne v26 c0_i32_18
  v27

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== OutBwdRefIdeal.lean ====
abbrev S4x2048x512 : Shape := ⟨3, ![4, 2048, 512]⟩
abbrev S1024x1024 : Shape := ⟨2, ![1024, 1024]⟩
abbrev S4x2048x1024 : Shape := ⟨3, ![4, 2048, 1024]⟩
abbrev S8192x512 : Shape := ⟨2, ![8192, 512]⟩

abbrev nBuf : Space → Nat
  | .hbm => 14
  | .vmem => 0
  | .smem => 0
  | _ => 0

abbrev bufTy : (tb : Table) → Fin (tcTables nBuf tb) → BufTy
  | .hbm, ⟨0, _⟩ => ⟨S4x2048x512, .f32⟩
  | .hbm, ⟨1, _⟩ => ⟨S4x2048x512, .f32⟩
  | .hbm, ⟨2, _⟩ => ⟨S1024x1024, .f32⟩
  | .hbm, ⟨3, _⟩ => ⟨S4x2048x1024, .f32⟩
  | .hbm, ⟨4, _⟩ => ⟨S4x2048x1024, .f32⟩
  | .hbm, ⟨5, _⟩ => ⟨S4x2048x1024, .f32⟩
  | .hbm, ⟨6, _⟩ => ⟨S1024x1024, .f32⟩
  | .hbm, ⟨7, _⟩ => ⟨S1024x1024, .f32⟩
  | .hbm, ⟨8, _⟩ => ⟨S4x2048x1024, .f32⟩
  | .hbm, ⟨9, _⟩ => ⟨S4x2048x512, .f32⟩
  | .hbm, ⟨10, _⟩ => ⟨S4x2048x512, .f32⟩
  | .hbm, ⟨11, _⟩ => ⟨S8192x512, .f32⟩
  | .hbm, ⟨12, _⟩ => ⟨S8192x512, .f32⟩
  | .hbm, ⟨13, _⟩ => ⟨S1024x1024, .bf16⟩
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Wgrad.lean ====
abbrev S4x2048x2816 : Shape := ⟨3, ![4, 2048, 2816]⟩
abbrev S4x2048x1024 : Shape := ⟨3, ![4, 2048, 1024]⟩
abbrev S8192x2816 : Shape := ⟨2, ![8192, 2816]⟩
abbrev S8192x1024 : Shape := ⟨2, ![8192, 1024]⟩
abbrev S_ : Shape := ⟨0, ![]⟩
abbrev S8x128 : Shape := ⟨2, ![8, 128]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 9
  | .vmem => 7
  | .smem => 0
  | _ => 0

abbrev bufTy : (tb : Table) → Fin (tcTables nBuf tb) → BufTy
  | .hbm, ⟨0, _⟩ => ⟨S4x2048x2816, .f32⟩
  | .hbm, ⟨1, _⟩ => ⟨S4x2048x1024, .f32⟩
  | .hbm, ⟨2, _⟩ => ⟨S8192x2816, .f32⟩
  | .hbm, ⟨3, _⟩ => ⟨S8192x2816, .bf16⟩
  | .hbm, ⟨4, _⟩ => ⟨S8192x1024, .f32⟩
  | .hbm, ⟨5, _⟩ => ⟨S8192x1024, .bf16⟩
  | .hbm, ⟨6, _⟩ => ⟨S_, .f32⟩
  | .hbm, ⟨7, _⟩ => ⟨S8x128, .f32⟩
  | .hbm, ⟨8, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WgradRefIdeal.lean ====
abbrev S4x2048x2816 : Shape := ⟨3, ![4, 2048, 2816]⟩
abbrev S4x2048x1024 : Shape := ⟨3, ![4, 2048, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4x2048x2816, .f32⟩
  | .hbm, ⟨1, _⟩ => ⟨S4x2048x1024, .f32⟩
  | .hbm, ⟨2, _⟩ => ⟨S_, .f32⟩
  | .hbm, ⟨3, _⟩ => ⟨S2816x1024, .f32⟩
  | .hbm, ⟨4, _⟩ => ⟨S4x2048x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | _, _ => ⟨S4x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Adamw.lean ====
abbrev S4x352x1024 : Shape := ⟨3, ![4, 352, 1024]⟩
abbrev S1x352x1024 : Shape := ⟨3, ![1, 352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S4x352x1024, .f32⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S4x352x1024, .f32⟩
  | .hbm, ⟨5, _⟩ => ⟨S4x352x1024, .f32⟩
  | .hbm, ⟨6, _⟩ => ⟨S4x352x1024, .f32⟩
  | .local _ .vmem, ⟨0, _⟩ => ⟨S1x352x1024, .f32⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | _, _ => ⟨S4x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwIdeal.lean ====
abbrev S4x352x1024 : Shape := ⟨3, ![4, 352, 1024]⟩
abbrev S1x352x1024 : Shape := ⟨3, ![1, 352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S4x352x1024, .f32⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S4x352x1024, .f32⟩
  | .hbm, ⟨5, _⟩ => ⟨S4x352x1024, .f32⟩
  | .hbm, ⟨6, _⟩ => ⟨S4x352x1024, .f32⟩
  | .local _ .vmem, ⟨0, _⟩ => ⟨S1x352x1024, .f32⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | _, _ => ⟨S4x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwRefIdeal.lean ====
abbrev S4x352x1024 : Shape := ⟨3, ![4, 352, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x352x1024, .f32⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S_, .f32⟩
  | .hbm, ⟨5, _⟩ => ⟨S4x352x1024, .f32⟩
  | .hbm, ⟨6, _⟩ => ⟨S4x352x1024, .f32⟩
  | .hbm, ⟨7, _⟩ => ⟨S_, .f32⟩
  | .hbm, ⟨8, _⟩ => ⟨S4x352x1024, .f32⟩
  | .hbm, ⟨9, _⟩ => ⟨S4x352x1024, .f32⟩
  | .hbm, ⟨10, _⟩ => ⟨S4x352x1024, .f32⟩
  | .hbm, ⟨11, _⟩ => ⟨S_, .f32⟩
  | .hbm, ⟨12, _⟩ => ⟨S4x352x1024, .f32⟩
  | .hbm, ⟨13, _⟩ => ⟨S4x352x1024, .f32⟩
  | .hbm, ⟨14, _⟩ => ⟨S4x352x1024, .f32⟩
  | .hbm, ⟨15, _⟩ => ⟨S_, .f32⟩
  | .hbm, ⟨16, _⟩ => ⟨S4x352x1024, .f32⟩
  | .hbm, ⟨17, _⟩ => ⟨S4x352x1024, .f32⟩
  | .hbm, ⟨18, _⟩ => ⟨S4x352x1024, .f32⟩
  | .hbm, ⟨19, _⟩ => ⟨S_, .f32⟩
  | .hbm, ⟨20, _⟩ => ⟨S4x352x1024, .f32⟩
  | .hbm, ⟨21, _⟩ => ⟨S4x352x1024, .f32⟩
  | .hbm, ⟨22, _⟩ => ⟨S_, .f32⟩
  | .hbm, ⟨23, _⟩ => ⟨S4x352x1024, .f32⟩
  | .hbm, ⟨24, _⟩ => ⟨S4x352x1024, .f32⟩
  | .hbm, ⟨25, _⟩ => ⟨S4x352x1024, .f32⟩
  | .hbm, ⟨26, _⟩ => ⟨S_, .f32⟩
  | .hbm, ⟨27, _⟩ => ⟨S4x352x1024, .f32⟩
  | .hbm, ⟨28, _⟩ => ⟨S4x352x1024, .f32⟩
  | .hbm, ⟨29, _⟩ => ⟨S4x352x1024, .f32⟩
  | .hbm, ⟨30, _⟩ => ⟨S_, .f32⟩
  | .hbm, ⟨31, _⟩ => ⟨S4x352x1024, .f32⟩
  | .hbm, ⟨32, _⟩ => ⟨S4x352x1024, .f32⟩
  | .hbm, ⟨33, _⟩ => ⟨S4x352x1024, .f32⟩
  | .hbm, ⟨34, _⟩ => ⟨S_, .f32⟩
  | .hbm, ⟨35, _⟩ => ⟨S4x352x1024, .f32⟩
  | .hbm, ⟨36, _⟩ => ⟨S4x352x1024, .f32⟩
  | _, _ => ⟨S4x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Sum8.lean ====
abbrev S8x352x1024 : Shape := ⟨3, ![8, 352, 1024]⟩
abbrev S352x1024 : Shape := ⟨2, ![352, 1024]⟩
abbrev S1x352x1024 : Shape := ⟨3, ![1, 352, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .local _ .vmem, ⟨0, _⟩ => ⟨S8x352x1024, .bf16⟩
  | .local _ .vmem, ⟨1, _⟩ => ⟨S352x1024, .f32⟩
  | _, _ => ⟨S8x352x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Sum8Ideal.lean ====
abbrev S8x352x1024 : Shape := ⟨3, ![8, 352, 1024]⟩
abbrev S352x1024 : Shape := ⟨2, ![352, 1024]⟩
abbrev S1x352x1024 : Shape := ⟨3, ![1, 352, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .local _ .vmem, ⟨0, _⟩ => ⟨S8x352x1024, .bf16⟩
  | .local _ .vmem, ⟨1, _⟩ => ⟨S352x1024, .f32⟩
  | _, _ => ⟨S8x352x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Sum8RefIdeal.lean ====
abbrev S8x352x1024 : Shape := ⟨3, ![8, 352, 1024]⟩
abbrev S_ : Shape := ⟨0, ![]⟩
abbrev S352x1024 : Shape := ⟨2, ![352, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .f32⟩
  | .hbm, ⟨2, _⟩ => ⟨S_, .f32⟩
  | .hbm, ⟨3, _⟩ => ⟨S352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumSlots.lean ====
abbrev S8x2328x128 : Shape := ⟨3, ![8, 2328, 128]⟩
abbrev S2328x128 : Shape := ⟨2, ![2328, 128]⟩
abbrev S1x2328x128 : Shape := ⟨3, ![1, 2328, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x2328x128, .f32⟩
  | .hbm, ⟨1, _⟩ => ⟨S2328x128, .f32⟩
  | .local _ .vmem, ⟨0, _⟩ => ⟨S8x2328x128, .f32⟩
  | .local _ .vmem, ⟨1, _⟩ => ⟨S2328x128, .f32⟩
  | _, _ => ⟨S8x2328x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x2328x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2328x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumSlotsRefIdeal.lean ====
abbrev S8x2328x128 : Shape := ⟨3, ![8, 2328, 128]⟩
abbrev S_ : Shape := ⟨0, ![]⟩
abbrev S2328x128 : Shape := ⟨2, ![2328, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x2328x128, .f32⟩
  | .hbm, ⟨1, _⟩ => ⟨S_, .f32⟩
  | .hbm, ⟨2, _⟩ => ⟨S2328x128, .f32⟩
  | _, _ => ⟨S8x2328x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AdamwUp.lean ====
abbrev S4x1024x352 : Shape := ⟨3, ![4, 1024, 352]⟩
abbrev S4x352x1024 : Shape := ⟨3, ![4, 352, 1024]⟩
abbrev S1x352x1024 : Shape := ⟨3, ![1, 352, 1024]⟩

abbrev nBuf : Space → Nat
  | .hbm => 10
  | .vmem => 14
  | .smem => 0
  | _ => 0

abbrev bufTy : (tb : Table) → Fin (tcTables nBuf tb) → BufTy
  | .hbm, ⟨0, _⟩ => ⟨S4x1024x352, .f32⟩
  | .hbm, ⟨1, _⟩ => ⟨S4x352x1024, .f32⟩
  | .hbm, ⟨2, _⟩ => ⟨S4x1024x352, .f32⟩
  | .hbm, ⟨3, _⟩ => ⟨S4x1024x352, .f32⟩
  | .hbm, ⟨4, _⟩ => ⟨S4x352x1024, .f32⟩
  | .hbm, ⟨5, _⟩ => ⟨S4x352x1024, .f32⟩
  | .hbm, ⟨6, _⟩ => ⟨S4x352x1024, .f32⟩
  | .hbm, ⟨7, _⟩ => ⟨S4x352x1024, .f32⟩
  | .hbm, ⟨8, _⟩ => ⟨S4x352x1024, .f32⟩
  | .hbm, ⟨9, _⟩ => ⟨S4x352x1024, .f32⟩
  | .local _ .vmem, ⟨0, _⟩ => ⟨S1x352x1024, .f32⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | _, _ => ⟨S4x1024x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwUpIdeal.lean ====
abbrev S4x1024x352 : Shape := ⟨3, ![4, 1024, 352]⟩
abbrev S4x352x1024 : Shape := ⟨3, ![4, 352, 1024]⟩
abbrev S1x352x1024 : Shape := ⟨3, ![1, 352, 1024]⟩

abbrev nBuf : Space → Nat
  | .hbm => 10
  | .vmem => 14
  | .smem => 0
  | _ => 0

abbrev bufTy : (tb : Table) → Fin (tcTables nBuf tb) → BufTy
  | .hbm, ⟨0, _⟩ => ⟨S4x1024x352, .f32⟩
  | .hbm, ⟨1, _⟩ => ⟨S4x352x1024, .f32⟩
  | .hbm, ⟨2, _⟩ => ⟨S4x1024x352, .f32⟩
  | .hbm, ⟨3, _⟩ => ⟨S4x1024x352, .f32⟩
  | .hbm, ⟨4, _⟩ => ⟨S4x352x1024, .f32⟩
  | .hbm, ⟨5, _⟩ => ⟨S4x352x1024, .f32⟩
  | .hbm, ⟨6, _⟩ => ⟨S4x352x1024, .f32⟩
  | .hbm, ⟨7, _⟩ => ⟨S4x352x1024, .f32⟩
  | .hbm, ⟨8, _⟩ => ⟨S4x352x1024, .f32⟩
  | .hbm, ⟨9, _⟩ => ⟨S4x352x1024, .f32⟩
  | .local _ .vmem, ⟨0, _⟩ => ⟨S1x352x1024, .f32⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | _, _ => ⟨S4x1024x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwUpRefIdeal.lean ====
abbrev S4x1024x352 : Shape := ⟨3, ![4, 1024, 352]⟩
abbrev S4x352x1024 : Shape := ⟨3, ![4, 352, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S4x1024x352, .f32⟩
  | .hbm, ⟨1, _⟩ => ⟨S4x352x1024, .f32⟩
  | .hbm, ⟨2, _⟩ => ⟨S4x1024x352, .f32⟩
  | .hbm, ⟨3, _⟩ => ⟨S4x1024x352, .f32⟩
  | .hbm, ⟨4, _⟩ => ⟨S4x1024x352, .f32⟩
  | .hbm, ⟨5, _⟩ => ⟨S_, .f32⟩
  | .hbm, ⟨6, _⟩ => ⟨S4x1024x352, .f32⟩
  | .hbm, ⟨7, _⟩ => ⟨S4x1024x352, .f32⟩
  | .hbm, ⟨8, _⟩ => ⟨S_, .f32⟩
  | .hbm, ⟨9, _⟩ => ⟨S4x1024x352, .f32⟩
  | .hbm, ⟨10, _⟩ => ⟨S4x1024x352, .f32⟩
  | .hbm, ⟨11, _⟩ => ⟨S4x1024x352, .f32⟩
  | .hbm, ⟨12, _⟩ => ⟨S_, .f32⟩
  | .hbm, ⟨13, _⟩ => ⟨S4x1024x352, .f32⟩
  | .hbm, ⟨14, _⟩ => ⟨S4x1024x352, .f32⟩
  | .hbm, ⟨15, _⟩ => ⟨S4x1024x352, .f32⟩
  | .hbm, ⟨16, _⟩ => ⟨S_, .f32⟩
  | .hbm, ⟨17, _⟩ => ⟨S4x1024x352, .f32⟩
  | .hbm, ⟨18, _⟩ => ⟨S4x1024x352, .f32⟩
  | .hbm, ⟨19, _⟩ => ⟨S4x1024x352, .f32⟩
  | .hbm, ⟨20, _⟩ => ⟨S_, .f32⟩
  | .hbm, ⟨21, _⟩ => ⟨S4x1024x352, .f32⟩
  | .hbm, ⟨22, _⟩ => ⟨S4x1024x352, .f32⟩
  | .hbm, ⟨23, _⟩ => ⟨S_, .f32⟩
  | .hbm, ⟨24, _⟩ => ⟨S4x1024x352, .f32⟩
  | .hbm, ⟨25, _⟩ => ⟨S4x1024x352, .f32⟩
  | .hbm, ⟨26, _⟩ => ⟨S4x1024x352, .f32⟩
  | .hbm, ⟨27, _⟩ => ⟨S_, .f32⟩
  | .hbm, ⟨28, _⟩ => ⟨S4x1024x352, .f32⟩
  | .hbm, ⟨29, _⟩ => ⟨S4x1024x352, .f32⟩
  | .hbm, ⟨30, _⟩ => ⟨S4x1024x352, .f32⟩
  | .hbm, ⟨31, _⟩ => ⟨S_, .f32⟩
  | .hbm, ⟨32, _⟩ => ⟨S4x1024x352, .f32⟩
  | .hbm, ⟨33, _⟩ => ⟨S4x1024x352, .f32⟩
  | .hbm, ⟨34, _⟩ => ⟨S4x1024x352, .f32⟩
  | .hbm, ⟨35, _⟩ => ⟨S_, .f32⟩
  | .hbm, ⟨36, _⟩ => ⟨S4x1024x352, .f32⟩
  | .hbm, ⟨37, _⟩ => ⟨S4x1024x352, .f32⟩
  | .hbm, ⟨38, _⟩ => ⟨S4x352x1024, .f32⟩
  | .hbm, ⟨39, _⟩ => ⟨S4x352x1024, .f32⟩
  | .hbm, ⟨40, _⟩ => ⟨S4x352x1024, .f32⟩
  | _, _ => ⟨S4x1024x352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== AdamwCd.lean ====
abbrev S2x1024x320 : Shape := ⟨3, ![2, 1024, 320]⟩
abbrev S2x320x1024 : Shape := ⟨3, ![2, 320, 1024]⟩
abbrev S1x320x1024 : Shape := ⟨3, ![1, 320, 1024]⟩

abbrev nBuf : Space → Nat
  | .hbm => 10
  | .vmem => 14
  | .smem => 0
  | _ => 0

abbrev bufTy : (tb : Table) → Fin (tcTables nBuf tb) → BufTy
  | .hbm, ⟨0, _⟩ => ⟨S2x1024x320, .f32⟩
  | .hbm, ⟨1, _⟩ => ⟨S2x320x1024, .f32⟩
  | .hbm, ⟨2, _⟩ => ⟨S2x1024x320, .f32⟩
  | .hbm, ⟨3, _⟩ => ⟨S2x1024x320, .f32⟩
  | .hbm, ⟨4, _⟩ => ⟨S2x320x1024, .f32⟩
  | .hbm, ⟨5, _⟩ => ⟨S2x320x1024, .f32⟩
  | .hbm, ⟨6, _⟩ => ⟨S2x320x1024, .f32⟩
  | .hbm, ⟨7, _⟩ => ⟨S2x320x1024, .f32⟩
  | .hbm, ⟨8, _⟩ => ⟨S2x320x1024, .f32⟩
  | .hbm, ⟨9, _⟩ => ⟨S2x320x1024, .f32⟩
  | .local _ .vmem, ⟨0, _⟩ => ⟨S1x320x1024, .f32⟩
  | .local _ .vmem, ⟨1, _⟩ => ⟨S1x320x1024, .f32⟩
  | .local _ .vmem, ⟨2, _⟩ => ⟨S1x320x1024, .f32⟩
  | .local _ .vmem, ⟨3, _⟩ => ⟨S1x320x1024, .f32⟩
  | .local _ .vmem, ⟨4, _⟩ => ⟨S1x320x1024, .f32⟩
  | .local _ .vmem, ⟨5, _⟩ => ⟨S1x320x1024, .f32⟩
  | .local _ .vmem, ⟨6, _⟩ => ⟨S1x320x1024, .f32⟩
  | .local _ .vmem, ⟨7, _⟩ => ⟨S1x320x1024, .f32⟩
  | .local _ .vmem, ⟨8, _⟩ => ⟨S1x320x1024, .f32⟩
  | .local _ .vmem, ⟨9, _⟩ => ⟨S1x320x1024, .f32⟩
  | .local _ .vmem, ⟨10, _⟩ => ⟨S1x320x1024, .f32⟩
  | .local _ .vmem, ⟨11, _⟩ => ⟨S1x320x1024, .f32⟩
  | .local _ .vmem, ⟨12, _⟩ => ⟨S1x320x1024, .f32⟩
  | .local _ .vmem, ⟨13, _⟩ => ⟨S1x320x1024, .f32⟩
  | _, _ => ⟨S2x1024x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x320x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x320x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x320x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x320x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x320x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x320x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x320x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwCdIdeal.lean ====
abbrev S2x1024x320 : Shape := ⟨3, ![2, 1024, 320]⟩
abbrev S2x320x1024 : Shape := ⟨3, ![2, 320, 1024]⟩
abbrev S1x320x1024 : Shape := ⟨3, ![1, 320, 1024]⟩

abbrev nBuf : Space → Nat
  | .hbm => 10
  | .vmem => 14
  | .smem => 0
  | _ => 0

abbrev bufTy : (tb : Table) → Fin (tcTables nBuf tb) → BufTy
  | .hbm, ⟨0, _⟩ => ⟨S2x1024x320, .f32⟩
  | .hbm, ⟨1, _⟩ => ⟨S2x320x1024, .f32⟩
  | .hbm, ⟨2, _⟩ => ⟨S2x1024x320, .f32⟩
  | .hbm, ⟨3, _⟩ => ⟨S2x1024x320, .f32⟩
  | .hbm, ⟨4, _⟩ => ⟨S2x320x1024, .f32⟩
  | .hbm, ⟨5, _⟩ => ⟨S2x320x1024, .f32⟩
  | .hbm, ⟨6, _⟩ => ⟨S2x320x1024, .f32⟩
  | .hbm, ⟨7, _⟩ => ⟨S2x320x1024, .f32⟩
  | .hbm, ⟨8, _⟩ => ⟨S2x320x1024, .f32⟩
  | .hbm, ⟨9, _⟩ => ⟨S2x320x1024, .f32⟩
  | .local _ .vmem, ⟨0, _⟩ => ⟨S1x320x1024, .f32⟩
  | .local _ .vmem, ⟨1, _⟩ => ⟨S1x320x1024, .f32⟩
  | .local _ .vmem, ⟨2, _⟩ => ⟨S1x320x1024, .f32⟩
  | .local _ .vmem, ⟨3, _⟩ => ⟨S1x320x1024, .f32⟩
  | .local _ .vmem, ⟨4, _⟩ => ⟨S1x320x1024, .f32⟩
  | .local _ .vmem, ⟨5, _⟩ => ⟨S1x320x1024, .f32⟩
  | .local _ .vmem, ⟨6, _⟩ => ⟨S1x320x1024, .f32⟩
  | .local _ .vmem, ⟨7, _⟩ => ⟨S1x320x1024, .f32⟩
  | .local _ .vmem, ⟨8, _⟩ => ⟨S1x320x1024, .f32⟩
  | .local _ .vmem, ⟨9, _⟩ => ⟨S1x320x1024, .f32⟩
  | .local _ .vmem, ⟨10, _⟩ => ⟨S1x320x1024, .f32⟩
  | .local _ .vmem, ⟨11, _⟩ => ⟨S1x320x1024, .f32⟩
  | .local _ .vmem, ⟨12, _⟩ => ⟨S1x320x1024, .f32⟩
  | .local _ .vmem, ⟨13, _⟩ => ⟨S1x320x1024, .f32⟩
  | _, _ => ⟨S2x1024x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x320x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x320x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x320x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x320x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x320x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x320x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x320x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwCdRefIdeal.lean ====
abbrev S2x1024x320 : Shape := ⟨3, ![2, 1024, 320]⟩
abbrev S2x320x1024 : Shape := ⟨3, ![2, 320, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x1024x320, .f32⟩
  | .hbm, ⟨1, _⟩ => ⟨S2x320x1024, .f32⟩
  | .hbm, ⟨2, _⟩ => ⟨S2x1024x320, .f32⟩
  | .hbm, ⟨3, _⟩ => ⟨S2x1024x320, .f32⟩
  | .hbm, ⟨4, _⟩ => ⟨S2x1024x320, .f32⟩
  | .hbm, ⟨5, _⟩ => ⟨S_, .f32⟩
  | .hbm, ⟨6, _⟩ => ⟨S2x1024x320, .f32⟩
  | .hbm, ⟨7, _⟩ => ⟨S2x1024x320, .f32⟩
  | .hbm, ⟨8, _⟩ => ⟨S_, .f32⟩
  | .hbm, ⟨9, _⟩ => ⟨S2x1024x320, .f32⟩
  | .hbm, ⟨10, _⟩ => ⟨S2x1024x320, .f32⟩
  | .hbm, ⟨11, _⟩ => ⟨S2x1024x320, .f32⟩
  | .hbm, ⟨12, _⟩ => ⟨S_, .f32⟩
  | .hbm, ⟨13, _⟩ => ⟨S2x1024x320, .f32⟩
  | .hbm, ⟨14, _⟩ => ⟨S2x1024x320, .f32⟩
  | .hbm, ⟨15, _⟩ => ⟨S2x1024x320, .f32⟩
  | .hbm, ⟨16, _⟩ => ⟨S_, .f32⟩
  | .hbm, ⟨17, _⟩ => ⟨S2x1024x320, .f32⟩
  | .hbm, ⟨18, _⟩ => ⟨S2x1024x320, .f32⟩
  | .hbm, ⟨19, _⟩ => ⟨S2x1024x320, .f32⟩
  | .hbm, ⟨20, _⟩ => ⟨S_, .f32⟩
  | .hbm, ⟨21, _⟩ => ⟨S2x1024x320, .f32⟩
  | .hbm, ⟨22, _⟩ => ⟨S2x1024x320, .f32⟩
  | .hbm, ⟨23, _⟩ => ⟨S_, .f32⟩
  | .hbm, ⟨24, _⟩ => ⟨S2x1024x320, .f32⟩
  | .hbm, ⟨25, _⟩ => ⟨S2x1024x320, .f32⟩
  | .hbm, ⟨26, _⟩ => ⟨S2x1024x320, .f32⟩
  | .hbm, ⟨27, _⟩ => ⟨S_, .f32⟩
  | .hbm, ⟨28, _⟩ => ⟨S2x1024x320, .f32⟩
  | .hbm, ⟨29, _⟩ => ⟨S2x1024x320, .f32⟩
  | .hbm, ⟨30, _⟩ => ⟨S2x1024x320, .f32⟩
  | .hbm, ⟨31, _⟩ => ⟨S_, .f32⟩
  | .hbm, ⟨32, _⟩ => ⟨S2x1024x320, .f32⟩
  | .hbm, ⟨33, _⟩ => ⟨S2x1024x320, .f32⟩
  | .hbm, ⟨34, _⟩ => ⟨S2x1024x320, .f32⟩
  | .hbm, ⟨35, _⟩ => ⟨S_, .f32⟩
  | .hbm, ⟨36, _⟩ => ⟨S2x1024x320, .f32⟩
  | .hbm, ⟨37, _⟩ => ⟨S2x1024x320, .f32⟩
  | .hbm, ⟨38, _⟩ => ⟨S2x320x1024, .f32⟩
  | .hbm, ⟨39, _⟩ => ⟨S2x320x1024, .f32⟩
  | .hbm, ⟨40, _⟩ => ⟨S2x320x1024, .f32⟩
  | _, _ => ⟨S2x1024x320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== AdamwAb.lean ====
abbrev S2x1024x321 : Shape := ⟨3, ![2, 1024, 321]⟩
abbrev S2x321x1024 : Shape := ⟨3, ![2, 321, 1024]⟩
abbrev S1x321x1024 : Shape := ⟨3, ![1, 321, 1024]⟩

abbrev nBuf : Space → Nat
  | .hbm => 10
  | .vmem => 14
  | .smem => 0
  | _ => 0

abbrev bufTy : (tb : Table) → Fin (tcTables nBuf tb) → BufTy
  | .hbm, ⟨0, _⟩ => ⟨S2x1024x321, .f32⟩
  | .hbm, ⟨1, _⟩ => ⟨S2x321x1024, .f32⟩
  | .hbm, ⟨2, _⟩ => ⟨S2x1024x321, .f32⟩
  | .hbm, ⟨3, _⟩ => ⟨S2x1024x321, .f32⟩
  | .hbm, ⟨4, _⟩ => ⟨S2x321x1024, .f32⟩
  | .hbm, ⟨5, _⟩ => ⟨S2x321x1024, .f32⟩
  | .hbm, ⟨6, _⟩ => ⟨S2x321x1024, .f32⟩
  | .hbm, ⟨7, _⟩ => ⟨S2x321x1024, .f32⟩
  | .hbm, ⟨8, _⟩ => ⟨S2x321x1024, .f32⟩
  | .hbm, ⟨9, _⟩ => ⟨S2x321x1024, .f32⟩
  | .local _ .vmem, ⟨0, _⟩ => ⟨S1x321x1024, .f32⟩
  | .local _ .vmem, ⟨1, _⟩ => ⟨S1x321x1024, .f32⟩
  | .local _ .vmem, ⟨2, _⟩ => ⟨S1x321x1024, .f32⟩
  | .local _ .vmem, ⟨3, _⟩ => ⟨S1x321x1024, .f32⟩
  | .local _ .vmem, ⟨4, _⟩ => ⟨S1x321x1024, .f32⟩
  | .local _ .vmem, ⟨5, _⟩ => ⟨S1x321x1024, .f32⟩
  | .local _ .vmem, ⟨6, _⟩ => ⟨S1x321x1024, .f32⟩
  | .local _ .vmem, ⟨7, _⟩ => ⟨S1x321x1024, .f32⟩
  | .local _ .vmem, ⟨8, _⟩ => ⟨S1x321x1024, .f32⟩
  | .local _ .vmem, ⟨9, _⟩ => ⟨S1x321x1024, .f32⟩
  | .local _ .vmem, ⟨10, _⟩ => ⟨S1x321x1024, .f32⟩
  | .local _ .vmem, ⟨11, _⟩ => ⟨S1x321x1024, .f32⟩
  | .local _ .vmem, ⟨12, _⟩ => ⟨S1x321x1024, .f32⟩
  | .local _ .vmem, ⟨13, _⟩ => ⟨S1x321x1024, .f32⟩
  | _, _ => ⟨S2x1024x321, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x321x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x321x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x321x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x321x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x321x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x321x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x321x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwAbRefIdeal.lean ====
abbrev S2x1024x321 : Shape := ⟨3, ![2, 1024, 321]⟩
abbrev S2x321x1024 : Shape := ⟨3, ![2, 321, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x1024x321, .f32⟩
  | .hbm, ⟨1, _⟩ => ⟨S2x321x1024, .f32⟩
  | .hbm, ⟨2, _⟩ => ⟨S2x1024x321, .f32⟩
  | .hbm, ⟨3, _⟩ => ⟨S2x1024x321, .f32⟩
  | .hbm, ⟨4, _⟩ => ⟨S2x1024x321, .f32⟩
  | .hbm, ⟨5, _⟩ => ⟨S_, .f32⟩
  | .hbm, ⟨6, _⟩ => ⟨S2x1024x321, .f32⟩
  | .hbm, ⟨7, _⟩ => ⟨S2x1024x321, .f32⟩
  | .hbm, ⟨8, _⟩ => ⟨S_, .f32⟩
  | .hbm, ⟨9, _⟩ => ⟨S2x1024x321, .f32⟩
  | .hbm, ⟨10, _⟩ => ⟨S2x1024x321, .f32⟩
  | .hbm, ⟨11, _⟩ => ⟨S2x1024x321, .f32⟩
  | .hbm, ⟨12, _⟩ => ⟨S_, .f32⟩
  | .hbm, ⟨13, _⟩ => ⟨S2x1024x321, .f32⟩
  | .hbm, ⟨14, _⟩ => ⟨S2x1024x321, .f32⟩
  | .hbm, ⟨15, _⟩ => ⟨S2x1024x321, .f32⟩
  | .hbm, ⟨16, _⟩ => ⟨S_, .f32⟩
  | .hbm, ⟨17, _⟩ => ⟨S2x1024x321, .f32⟩
  | .hbm, ⟨18, _⟩ => ⟨S2x1024x321, .f32⟩
  | .hbm, ⟨19, _⟩ => ⟨S2x1024x321, .f32⟩
  | .hbm, ⟨20, _⟩ => ⟨S_, .f32⟩
  | .hbm, ⟨21, _⟩ => ⟨S2x1024x321, .f32⟩
  | .hbm, ⟨22, _⟩ => ⟨S2x1024x321, .f32⟩
  | .hbm, ⟨23, _⟩ => ⟨S_, .f32⟩
  | .hbm, ⟨24, _⟩ => ⟨S2x1024x321, .f32⟩
  | .hbm, ⟨25, _⟩ => ⟨S2x1024x321, .f32⟩
  | .hbm, ⟨26, _⟩ => ⟨S2x1024x321, .f32⟩
  | .hbm, ⟨27, _⟩ => ⟨S_, .f32⟩
  | .hbm, ⟨28, _⟩ => ⟨S2x1024x321, .f32⟩
  | .hbm, ⟨29, _⟩ => ⟨S2x1024x321, .f32⟩
  | .hbm, ⟨30, _⟩ => ⟨S2x1024x321, .f32⟩
  | .hbm, ⟨31, _⟩ => ⟨S_, .f32⟩
  | .hbm, ⟨32, _⟩ => ⟨S2x1024x321, .f32⟩
  | .hbm, ⟨33, _⟩ => ⟨S2x1024x321, .f32⟩
  | .hbm, ⟨34, _⟩ => ⟨S2x1024x321, .f32⟩
  | .hbm, ⟨35, _⟩ => ⟨S_, .f32⟩
  | .hbm, ⟨36, _⟩ => ⟨S2x1024x321, .f32⟩
  | .hbm, ⟨37, _⟩ => ⟨S2x1024x321, .f32⟩
  | .hbm, ⟨38, _⟩ => ⟨S2x321x1024, .f32⟩
  | .hbm, ⟨39, _⟩ => ⟨S2x321x1024, .f32⟩
  | .hbm, ⟨40, _⟩ => ⟨S2x321x1024, .f32⟩
  | _, _ => ⟨S2x1024x321, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== AdamwOut.lean ====
abbrev S2x128x1024 : Shape := ⟨3, ![2, 128, 1024]⟩
abbrev S1x128x1024 : Shape := ⟨3, ![1, 128, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2x128x1024, .f32⟩
  | .hbm, ⟨1, _⟩ => ⟨S2x128x1024, .f32⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | _, _ => ⟨S2x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwOutIdeal.lean ====
abbrev S2x128x1024 : Shape := ⟨3, ![2, 128, 1024]⟩
abbrev S1x128x1024 : Shape := ⟨3, ![1, 128, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2x128x1024, .f32⟩
  | .hbm, ⟨1, _⟩ => ⟨S2x128x1024, .f32⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | _, _ => ⟨S2x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwOutRefIdeal.lean ====
abbrev S2x128x1024 : Shape := ⟨3, ![2, 128, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x128x1024, .f32⟩
  | .hbm, ⟨1, _⟩ => ⟨S2x128x1024, .f32⟩
  | .hbm, ⟨2, _⟩ => ⟨S2x128x1024, .f32⟩
  | .hbm, ⟨3, _⟩ => ⟨S2x128x1024, .f32⟩
  | .hbm, ⟨4, _⟩ => ⟨S_, .f32⟩
  | .hbm, ⟨5, _⟩ => ⟨S2x128x1024, .f32⟩
  | .hbm, ⟨6, _⟩ => ⟨S2x128x1024, .f32⟩
  | .hbm, ⟨7, _⟩ => ⟨S_, .f32⟩
  | .hbm, ⟨8, _⟩ => ⟨S2x128x1024, .f32⟩
  | .hbm, ⟨9, _⟩ => ⟨S2x128x1024, .f32⟩
  | .hbm, ⟨10, _⟩ => ⟨S2x128x1024, .f32⟩
  | .hbm, ⟨11, _⟩ => ⟨S_, .f32⟩
  | .hbm, ⟨12, _⟩ => ⟨S2x128x1024, .f32⟩
  | .hbm, ⟨13, _⟩ => ⟨S2x128x1024, .f32⟩
  | .hbm, ⟨14, _⟩ => ⟨S2x128x1024, .f32⟩
  | .hbm, ⟨15, _⟩ => ⟨S_, .f32⟩
  | .hbm, ⟨16, _⟩ => ⟨S2x128x1024, .f32⟩
  | .hbm, ⟨17, _⟩ => ⟨S2x128x1024, .f32⟩
  | .hbm, ⟨18, _⟩ => ⟨S2x128x1024, .f32⟩
  | .hbm, ⟨19, _⟩ => ⟨S_, .f32⟩
  | .hbm, ⟨20, _⟩ => ⟨S2x128x1024, .f32⟩
  | .hbm, ⟨21, _⟩ => ⟨S2x128x1024, .f32⟩
  | .hbm, ⟨22, _⟩ => ⟨S_, .f32⟩
  | .hbm, ⟨23, _⟩ => ⟨S2x128x1024, .f32⟩
  | .hbm, ⟨24, _⟩ => ⟨S2x128x1024, .f32⟩
  | .hbm, ⟨25, _⟩ => ⟨S2x128x1024, .f32⟩
  | .hbm, ⟨26, _⟩ => ⟨S_, .f32⟩
  | .hbm, ⟨27, _⟩ => ⟨S2x128x1024, .f32⟩
  | .hbm, ⟨28, _⟩ => ⟨S2x128x1024, .f32⟩
  | .hbm, ⟨29, _⟩ => ⟨S2x128x1024, .f32⟩
  | .hbm, ⟨30, _⟩ => ⟨S_, .f32⟩
  | .hbm, ⟨31, _⟩ => ⟨S2x128x1024, .f32⟩
  | .hbm, ⟨32, _⟩ => ⟨S2x128x1024, .f32⟩
  | .hbm, ⟨33, _⟩ => ⟨S2x128x1024, .f32⟩
  | .hbm, ⟨34, _⟩ => ⟨S_, .f32⟩
  | .hbm, ⟨35, _⟩ => ⟨S2x128x1024, .f32⟩
  | .hbm, ⟨36, _⟩ => ⟨S2x128x1024, .f32⟩
  | _, _ => ⟨S2x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwPack.lean ====
abbrev S2232x128 : Shape := ⟨2, ![2232, 128]⟩
abbrev S248x128 : Shape := ⟨2, ![248, 128]⟩

abbrev nBuf : Space → Nat
  | .hbm => 7
  | .vmem => 14
  | .smem => 0
  | _ => 0

abbrev bufTy : (tb : Table) → Fin (tcTables nBuf tb) → BufTy
  | .hbm, ⟨0, _⟩ => ⟨S2232x128, .f32⟩
  | .hbm, ⟨1, _⟩ => ⟨S2232x128, .f32⟩
  | .hbm, ⟨2, _⟩ => ⟨S2232x128, .f32⟩
  | .hbm, ⟨3, _⟩ => ⟨S2232x128, .f32⟩
  | .hbm, ⟨4, _⟩ => ⟨S2232x128, .f32⟩
  | .hbm, ⟨5, _⟩ => ⟨S2232x128, .f32⟩
  | .hbm, ⟨6, _⟩ => ⟨S2232x128, .f32⟩
  | .local _ .vmem, ⟨0, _⟩ => ⟨S248x128, .f32⟩
  | .local _ .vmem, ⟨1, _⟩ => ⟨S248x128, .f32⟩
  | .local _ .vmem, ⟨2, _⟩ => ⟨S248x128, .f32⟩
  | .local _ .vmem, ⟨3, _⟩ => ⟨S248x128, .f32⟩
  | .local _ .vmem, ⟨4, _⟩ => ⟨S248x128, .f32⟩
  | .local _ .vmem, ⟨5, _⟩ => ⟨S248x128, .f32⟩
  | .local _ .vmem, ⟨6, _⟩ => ⟨S248x128, .f32⟩
  | .local _ .vmem, ⟨7, _⟩ => ⟨S248x128, .f32⟩
  | .local _ .vmem, ⟨8, _⟩ => ⟨S248x128, .f32⟩
  | .local _ .vmem, ⟨9, _⟩ => ⟨S248x128, .f32⟩
  | .local _ .vmem, ⟨10, _⟩ => ⟨S248x128, .f32⟩
  | .local _ .vmem, ⟨11, _⟩ => ⟨S248x128, .f32⟩
  | .local _ .vmem, ⟨12, _⟩ => ⟨S248x128, .f32⟩
  | .local _ .vmem, ⟨13, _⟩ => ⟨S248x128, .f32⟩
  | _, _ => ⟨S2232x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S248x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S248x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S248x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S248x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S248x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S248x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S248x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwPackRefIdeal.lean ====
abbrev S2232x128 : Shape := ⟨2, ![2232, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2232x128, .f32⟩
  | .hbm, ⟨1, _⟩ => ⟨S2232x128, .f32⟩
  | .hbm, ⟨2, _⟩ => ⟨S2232x128, .f32⟩
  | .hbm, ⟨3, _⟩ => ⟨S2232x128, .f32⟩
  | .hbm, ⟨4, _⟩ => ⟨S_, .f32⟩
  | .hbm, ⟨5, _⟩ => ⟨S2232x128, .f32⟩
  | .hbm, ⟨6, _⟩ => ⟨S2232x128, .f32⟩
  | .hbm, ⟨7, _⟩ => ⟨S_, .f32⟩
  | .hbm, ⟨8, _⟩ => ⟨S2232x128, .f32⟩
  | .hbm, ⟨9, _⟩ => ⟨S2232x128, .f32⟩
  | .hbm, ⟨10, _⟩ => ⟨S2232x128, .f32⟩
  | .hbm, ⟨11, _⟩ => ⟨S_, .f32⟩
  | .hbm, ⟨12, _⟩ => ⟨S2232x128, .f32⟩
  | .hbm, ⟨13, _⟩ => ⟨S2232x128, .f32⟩
  | .hbm, ⟨14, _⟩ => ⟨S2232x128, .f32⟩
  | .hbm, ⟨15, _⟩ => ⟨S_, .f32⟩
  | .hbm, ⟨16, _⟩ => ⟨S2232x128, .f32⟩
  | .hbm, ⟨17, _⟩ => ⟨S2232x128, .f32⟩
  | .hbm, ⟨18, _⟩ => ⟨S2232x128, .f32⟩
  | .hbm, ⟨19, _⟩ => ⟨S_, .f32⟩
  | .hbm, ⟨20, _⟩ => ⟨S2232x128, .f32⟩
  | .hbm, ⟨21, _⟩ => ⟨S2232x128, .f32⟩
  | .hbm, ⟨22, _⟩ => ⟨S_, .f32⟩
  | .hbm, ⟨23, _⟩ => ⟨S2232x128, .f32⟩
  | .hbm, ⟨24, _⟩ => ⟨S2232x128, .f32⟩
  | .hbm, ⟨25, _⟩ => ⟨S2232x128, .f32⟩
  | .hbm, ⟨26, _⟩ => ⟨S_, .f32⟩
  | .hbm, ⟨27, _⟩ => ⟨S2232x128, .f32⟩
  | .hbm, ⟨28, _⟩ => ⟨S2232x128, .f32⟩
  | .hbm, ⟨29, _⟩ => ⟨S2232x128, .f32⟩
  | .hbm, ⟨30, _⟩ => ⟨S_, .f32⟩
  | .hbm, ⟨31, _⟩ => ⟨S2232x128, .f32⟩
  | .hbm, ⟨32, _⟩ => ⟨S2232x128, .f32⟩
  | .hbm, ⟨33, _⟩ => ⟨S2232x128, .f32⟩
  | .hbm, ⟨34, _⟩ => ⟨S_, .f32⟩
  | .hbm, ⟨35, _⟩ => ⟨S2232x128, .f32⟩
  | .hbm, ⟨36, _⟩ => ⟨S2232x128, .f32⟩
  | _, _ => ⟨S2232x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Sum8Cd.lean ====
abbrev S8x320x1024 : Shape := ⟨3, ![8, 320, 1024]⟩
abbrev S320x1024 : Shape := ⟨2, ![320, 1024]⟩
abbrev S1x320x1024 : Shape := ⟨3, ![1, 320, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x320x1024, .bf16⟩
  | .hbm, ⟨1, _⟩ => ⟨S320x1024, .f32⟩
  | .local _ .vmem, ⟨0, _⟩ => ⟨S8x320x1024, .bf16⟩
  | .local _ .vmem, ⟨1, _⟩ => ⟨S320x1024, .f32⟩
  | _, _ => ⟨S8x320x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x320x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S320x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Sum8CdIdeal.lean ====
abbrev S8x320x1024 : Shape := ⟨3, ![8, 320, 1024]⟩
abbrev S320x1024 : Shape := ⟨2, ![320, 1024]⟩
abbrev S1x320x1024 : Shape := ⟨3, ![1, 320, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x320x1024, .bf16⟩
  | .hbm, ⟨1, _⟩ => ⟨S320x1024, .f32⟩
  | .local _ .vmem, ⟨0, _⟩ => ⟨S8x320x1024, .bf16⟩
  | .local _ .vmem, ⟨1, _⟩ => ⟨S320x1024, .f32⟩
  | _, _ => ⟨S8x320x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x320x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S320x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Sum8CdRefIdeal.lean ====
abbrev S8x320x1024 : Shape := ⟨3, ![8, 320, 1024]⟩
abbrev S_ : Shape := ⟨0, ![]⟩
abbrev S320x1024 : Shape := ⟨2, ![320, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x320x1024, .bf16⟩
  | .hbm, ⟨1, _⟩ => ⟨S8x320x1024, .f32⟩
  | .hbm, ⟨2, _⟩ => ⟨S_, .f32⟩
  | .hbm, ⟨3, _⟩ => ⟨S320x1024, .f32⟩
  | _, _ => ⟨S8x320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Sum8Ab.lean ====
abbrev S8x336x1024 : Shape := ⟨3, ![8, 336, 1024]⟩
abbrev S336x1024 : Shape := ⟨2, ![336, 1024]⟩
abbrev S1x336x1024 : Shape := ⟨3, ![1, 336, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x336x1024, .bf16⟩
  | .hbm, ⟨1, _⟩ => ⟨S336x1024, .f32⟩
  | .local _ .vmem, ⟨0, _⟩ => ⟨S8x336x1024, .bf16⟩
  | .local _ .vmem, ⟨1, _⟩ => ⟨S336x1024, .f32⟩
  | _, _ => ⟨S8x336x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x336x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S336x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Sum8AbIdeal.lean ====
abbrev S8x336x1024 : Shape := ⟨3, ![8, 336, 1024]⟩
abbrev S336x1024 : Shape := ⟨2, ![336, 1024]⟩
abbrev S1x336x1024 : Shape := ⟨3, ![1, 336, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x336x1024, .bf16⟩
  | .hbm, ⟨1, _⟩ => ⟨S336x1024, .f32⟩
  | .local _ .vmem, ⟨0, _⟩ => ⟨S8x336x1024, .bf16⟩
  | .local _ .vmem, ⟨1, _⟩ => ⟨S336x1024, .f32⟩
  | _, _ => ⟨S8x336x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x336x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S336x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Sum8AbRefIdeal.lean ====
abbrev S8x336x1024 : Shape := ⟨3, ![8, 336, 1024]⟩
abbrev S_ : Shape := ⟨0, ![]⟩
abbrev S336x1024 : Shape := ⟨2, ![336, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x336x1024, .bf16⟩
  | .hbm, ⟨1, _⟩ => ⟨S8x336x1024, .f32⟩
  | .hbm, ⟨2, _⟩ => ⟨S_, .f32⟩
  | .hbm, ⟨3, _⟩ => ⟨S336x1024, .f32⟩
  | _, _ => ⟨S8x336x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Sum8Out.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .local _ .vmem, ⟨0, _⟩ => ⟨S8x128x1024, .bf16⟩
  | .local _ .vmem, ⟨1, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Sum8OutRefIdeal.lean ====
abbrev S8x128x1024 : Shape := ⟨3, ![8, 128, 1024]⟩
abbrev S_ : Shape := ⟨0, ![]⟩
abbrev S128x1024 : Shape := ⟨2, ![128, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .f32⟩
  | .hbm, ⟨2, _⟩ => ⟨S_, .f32⟩
  | .hbm, ⟨3, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Finite.lean ====
module

public import Idealize.ShloMosaic.Lib.Pipeline.ValueKit

/-! # Reals among the extended reals

The lemmas here move the embedding of the reals out of the exact operations, one operation at a time, say which laws of a
ring hold of extended reals all the same, and name the reals that the literal words of the programs denote. -/

@[expose] public section

noncomputable section

namespace Cert.Grad

open Idealize.ShloMosaic

/-- a sum of reals, embedded, is the sum of the embedded reals -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- division by a real that is not zero -/
theorem coe_div (a b : ℝ) (hb : b ≠ 0) : Ideal.div (a : EReal) (b : EReal) = ((a / b : ℝ) : EReal) := by
  rw [Ideal.div_coe hb, ← EReal.coe_mul]; congr 1; ring

/-- the reciprocal root of a positive real -/
theorem coe_rsqrt (a : ℝ) (ha : 0 < a) : Ideal.rsqrt (a : EReal) = (((Real.sqrt a)⁻¹ : ℝ) : EReal) := by
  rw [Ideal.rsqrt_coe, if_neg (not_lt.2 ha.le), if_neg ha.ne']

theorem n1024 : (1024 : ℝ) ≠ 0 := by norm_num

/-- a real that is not negative goes into a sum of extended reals -/
theorem nonneg_mul_sum {ι : Type*} {r : ℝ} (h : 0 ≤ r) (s : Finset ι) (f : ι → EReal) :
    (r : EReal) * ∑ i ∈ s, f i = ∑ i ∈ s, (r : EReal) * f i := by
  classical
  induction s using Finset.induction_on with
  | empty => simp
  | insert a s ha ih => rw [Finset.sum_insert ha, Finset.sum_insert ha,
      EReal.left_distrib_of_nonneg_of_ne_top (EReal.coe_nonneg.2 h) (EReal.coe_ne_top _), ih]

/-- an extended real taken a real number of times, added to itself -/
theorem twice (x : EReal) (a : ℝ) : x * (a : EReal) + x * (a : EReal) = x * ((2 * a : ℝ) : EReal) := by
  rw [EReal.coe_mul, mul_left_comm]
  generalize x * (a : EReal) = z
  induction z with
  | bot => rw [EReal.coe_mul_bot_of_pos (by norm_num)]; rfl
  | top => rw [EReal.coe_mul_top_of_pos (by norm_num)]; rfl
  | coe z => exact_mod_cast (two_mul z).symm

/-- the word that the programs add under the root of a norm -/
def eps : ℝ := 8796093 / 2 ^ 43

theorem eps_pos : 0 < eps := by unfold eps; positivity

theorem word_eps : Ideal.ofBits .f32 0x358637BD#32 = ((eps : ℝ) : EReal) := by
  simp [Ideal.ofBits, Ideal.ieee, eps, -EReal.coe_mul]; norm_num

theorem word_1024 : Ideal.ofBits .f32 0x44800000#32 = ((1024 : ℝ) : EReal) := by
  simp [Ideal.ofBits, Ideal.ieee, -EReal.coe_mul]; norm_num

theorem word_half : Ideal.ofBits .f32 0x3F000000#32 = ((1 / 2 : ℝ) : EReal) := by
  simp [Ideal.ofBits, Ideal.ieee, -EReal.coe_mul]; norm_num

theorem word_neg_half : Ideal.ofBits .f32 0xBF000000#32 = ((-(1 / 2) : ℝ) : EReal) := by
  simp [Ideal.ofBits, Ideal.ieee, -EReal.coe_mul]; norm_num

theorem word_inv_1024 : Ideal.ofBits .f32 0x3A800000#32 = ((1 / 1024 : ℝ) : EReal) := by
  simp [Ideal.ofBits, Ideal.ieee, -EReal.coe_mul]; norm_num

/-- the integer zero as a float is zero -/
theorem sitofp_zero (φ : FTy) : FloatOps.sitofp (F := Ideal) φ (0#32 : BitVec 32) = 0 := by
  show ((((0#32 : BitVec 32).toInt : ℤ) : ℝ) : EReal) = 0
  simp

end Cert.Grad
-- ==== Proof.RmsGrad.lean ====
module

public import proofs.«01_k».proof.Proof.Finite

/-! # The gradient of the RMS norm

`rs` is the reciprocal root of a row's mean square, an extended real as the programs compute it.  `rowGrad` is the gradient
of a normalised and scaled row in the form the kernels compute it: the upstream gradient times the gain, its part along the
normalised row taken out, scaled by the reciprocal root.  `rowGrad_eq` says that the derivative by the chain rule, which
goes through the reciprocal root and the mean square, is the same, at every row and every upstream gradient, infinite ones
included: a row with an infinite entry has reciprocal root zero and both forms are then zero. -/

@[expose] public section

noncomputable section

namespace Cert.Grad

open Idealize.ShloMosaic

/-- the mean square of a row of 1024 numbers, with the constant that the norm adds -/
def ms (x : Fin 1024 → EReal) : EReal := Ideal.div (∑ k, x k * x k) ((1024 : ℝ) : EReal) + ((eps : ℝ) : EReal)

/-- the reciprocal root of the mean square -/
def rs (x : Fin 1024 → EReal) : EReal := Ideal.rsqrt (ms x)

/-- the reciprocal root is a real that is not negative, over the mean square it is its cube, and it is zero unless every
    entry of the row is real -/
theorem rs_real (x : Fin 1024 → EReal) : ∃ r : ℝ, 0 ≤ r ∧ rs x = (r : EReal)
    ∧ Ideal.div (rs x) (ms x) = ((r * r * r : ℝ) : EReal) ∧ (r = 0 ∨ ∃ y : Fin 1024 → ℝ, ∀ k, x k = (y k : EReal)) := by
  by_cases hx : ∃ k, x k = ⊤ ∨ x k = ⊥
  · obtain ⟨k, hk⟩ := hx
    have h1 : x k * x k = ⊤ := by rcases hk with h | h <;> rw [h] <;> rfl
    have h2 : ∑ k, x k * x k = ⊤ := by
      refine top_le_iff.1 (h1.symm.le.trans (Finset.single_le_sum (f := fun k => x k * x k) (fun i _ => ?_) (Finset.mem_univ k)))
      rcases le_total 0 (x i) with h | h
      · exact EReal.mul_nonneg h h
      · exact EReal.mul_nonneg_iff.2 (.inr ⟨h, h⟩)
    have h3 : ms x = ⊤ := by
      rw [ms, h2, Ideal.div_coe n1024, EReal.top_mul_coe_of_pos (by positivity)]
      exact EReal.top_add_coe _
    have h4 : rs x = 0 := by rw [rs, h3]; rfl
    refine ⟨0, le_rfl, h4, ?_, .inl rfl⟩
    rw [h4, h3, Ideal.div, if_neg (by simp)]
    simp
  · push Not at hx
    have hy : ∀ k, x k = ((x k).toReal : EReal) := fun k => (EReal.coe_toReal (hx k).1 (hx k).2).symm
    have hm : ms x = (((∑ k, (x k).toReal * (x k).toReal) / 1024 + eps : ℝ) : EReal) := by
      rw [ms, EReal.coe_add, ← coe_div _ _ n1024, ← coe_sum]
      simp only [EReal.coe_mul, ← hy]
    have h0 : 0 < (∑ k, (x k).toReal * (x k).toReal) / 1024 + eps :=
      add_pos_of_nonneg_of_pos (div_nonneg (Finset.sum_nonneg fun k _ => mul_self_nonneg _) (by norm_num)) eps_pos
    generalize (∑ k, (x k).toReal * (x k).toReal) / 1024 + eps = a at hm h0
    have hr : rs x = (((Real.sqrt a)⁻¹ : ℝ) : EReal) := by rw [rs, hm, coe_rsqrt _ h0]
    refine ⟨(Real.sqrt a)⁻¹, by positivity, hr, ?_, .inr ⟨_, hy⟩⟩
    rw [hr, hm, coe_div _ _ h0.ne']
    congr 1
    have hs := Real.mul_self_sqrt h0.le
    have h1 := (Real.sqrt_pos.2 h0).ne'
    have h2 := h0.ne'
    field_simp
    nlinarith [hs]

/-- the gradient of the row `x` where `e` is the upstream gradient of `x · rs x`, as the kernels write it -/
def rowGrad (x e : Fin 1024 → EReal) (l : Fin 1024) : EReal :=
  rs x * (e l - x l * rs x * Ideal.div (∑ k, e k * (x k * rs x)) ((1024 : ℝ) : EReal))

/-- the same gradient by the chain rule through the reciprocal root and the mean square -/
theorem rowGrad_eq (x e : Fin 1024 → EReal) (l : Fin 1024) :
    e l * rs x + x l * Ideal.div ((∑ k, x k * e k) * (((-(1 / 2) : ℝ) : EReal) * Ideal.div (rs x) (ms x))) ((1024 : ℝ) : EReal)
      + Ideal.div ((∑ k, x k * e k) * (((-(1 / 2) : ℝ) : EReal) * Ideal.div (rs x) (ms x))) ((1024 : ℝ) : EReal) * x l
      = rowGrad x e l := by
  obtain ⟨r, h0, hr, hd, hx⟩ := rs_real x
  rw [rowGrad, hd, hr, Ideal.div_coe n1024, Ideal.div_coe n1024]
  rcases hx with rfl | ⟨y, hy⟩
  · simp
  · have e1 : ∑ k, e k * (x k * (r : EReal)) = (r : EReal) * ∑ k, x k * e k := by
      rw [nonneg_mul_sum h0]; exact Finset.sum_congr rfl fun k _ => by ac_rfl
    rw [e1, EReal.mul_sub_of_nonneg_of_ne_top (EReal.coe_nonneg.2 h0) (EReal.coe_ne_top _), hy l]
    generalize ∑ k, x k * e k = S
    have e2 : (y l : EReal) * (S * (((-(1 / 2) : ℝ) : EReal) * ((r * r * r : ℝ) : EReal)) * ((1 / 1024 : ℝ) : EReal))
        = S * ((-(y l * r * r * r / 2048) : ℝ) : EReal) := by
      rw [mul_comm, mul_assoc, mul_assoc]; simp only [← EReal.coe_mul]; congr 2; ring
    have e3 : (r : EReal) * ((y l : EReal) * (r : EReal) * ((r : EReal) * S * ((1 / 1024 : ℝ) : EReal)))
        = S * ((y l * r * r * r / 1024 : ℝ) : EReal) := by
      have : (r : EReal) * ((y l : EReal) * (r : EReal) * ((r : EReal) * S * ((1 / 1024 : ℝ) : EReal)))
        = S * ((y l : EReal) * (r : EReal) * (r : EReal) * (r : EReal) * ((1 / 1024 : ℝ) : EReal)) := by ac_rfl
      rw [this]; simp only [← EReal.coe_mul]; congr 2; ring
    rw [mul_comm _ (y l : EReal), e2, e3, add_assoc, twice, sub_eq_add_neg, mul_comm (e l), ← mul_neg, ← EReal.coe_neg]
    congr 3
    ring

end Cert.Grad
-- ==== Proof.LossPoint.lean ====
module

public import proofs.«01_k».proof.Proof.RmsGrad
public import proofs.«01_k».proof.Proof.Gen.LossIdeal.Skeleton

/-! # The loss kernel's block arithmetic

What the body stores, read at an index. -/

@[expose] public section

noncomputable section

open Idealize.ShloMosaic Idealize.ShloMosaic.TcCoe Idealize.SL.Sem

namespace Cert.LossIdeal.Value
open Cert.LossIdeal Cert.LossIdeal.Gen Cert.Grad

/-- the error of a row: the normalised, scaled row less its target -/
def err (x g t : Fin 1024 → EReal) (l : Fin 1024) : EReal := x l * rs x * g l - t l

/-- the upstream gradient of the row: the error over the row's length -/
def derr (x g t : Fin 1024 → EReal) (l : Fin 1024) : EReal := err x g t l * ((1 / 1024 : ℝ) : EReal)

/-- the mean square error of a row -/
def mse (x g t : Fin 1024 → EReal) : EReal := Ideal.div (∑ l, err x g t l * err x g t l) ((1024 : ℝ) : EReal)

variable (g : Vec Ideal S1x1024 .f32) (h t : Vec Ideal S512x1024 .f32)

/-- what the body stores in the block of the hidden state's gradient -/
theorem dh_at (r : Fin 512) (l : Fin 1024) :
    k0_pay12 g h t (ix2 r l) = rowGrad (fun k => h (ix2 r k))
      (fun k => derr (fun k => h (ix2 r k)) (fun k => g (ix2 0 k)) (fun k => t (ix2 r k)) k * g (ix2 0 k)) l := by
  pointwise [k0_pay12, k0_pay11, k0_pay9, k0_pay8, k0_pay7, k0_pay6, k0_pay5]
  simp only [word_1024, word_eps, word_inv_1024]
  rfl

/-- what a point adds to the gain's gradient: its rows' upstream gradients times the normalised rows, summed -/
theorem dgain_at (v : Vec Ideal S1x1024 .f32) (z : Fin 1) (l : Fin 1024) :
    k0_pay2 (k0_pay13 g h t) v (ix2 z l)
      = v (ix2 z l) + ∑ r : Fin 512, derr (fun k => h (ix2 r k)) (fun k => g (ix2 0 k)) (fun k => t (ix2 r k)) l
          * (h (ix2 r l) * rs fun k => h (ix2 r k)) := by
  pointwise [k0_pay2, k0_pay13, k0_pay11, k0_pay9, k0_pay8, k0_pay7, k0_pay6, k0_pay5]
  simp only [word_1024, word_eps, word_inv_1024]
  rfl

/-- what a point adds to every entry of the loss block: half the mean square errors of its rows -/
theorem loss_at (v : Vec Ideal S8x128 .f32) (a : Fin 8) (b : Fin 128) :
    k0_pay4 (k0_pay10 g h t) v (ix2 a b)
      = v (ix2 a b) + ((1 / 2 : ℝ) : EReal) * ∑ r : Fin 512, mse (fun k => h (ix2 r k)) (fun k => g (ix2 0 k)) (fun k => t (ix2 r k)) := by
  pointwise [k0_pay4, k0_pay10, k0_pay9, k0_pay8, k0_pay7, k0_pay6, k0_pay5]
  simp only [word_1024, word_eps, word_half]
  rfl

end Cert.LossIdeal.Value
-- ==== Proof.AccRow.lean ====
module

public import Idealize.ShloMosaic.Lib.Pipeline.ValueKit
public import Idealize.ShloMosaic.Lib.WritesUnit

/-! # Row 0 of an eight-row accumulator

The kernels sum a gain's gradient in row 0 of a block of eight rows: the first point fills the block with zeros and every
point adds into row 0.  The lemmas read that block at an index after the fill and the row's store, and after the row's
store over what the block held. -/

@[expose] public section

noncomputable section

namespace Cert.Grad

open Idealize.ShloMosaic Idealize.SL.Sem

variable {n : ℕ} {Val : EltTy → Type} {e : EltTy}

/-- the accumulator's shape -/
abbrev Rows (n : ℕ) : Shape := ⟨2, ![8, n]⟩

/-- an index of the first `k` rows, seen in the block -/
theorem emb_rows {k : ℕ} (inb) (x : (⟨2, ![k, n]⟩ : Shape).Idx) (y : (Rows n).Idx) (h0 : (x 0).val = (y 0).val)
    (h1 : (x 1).val = (y 1).val) : (Rect.unit (s := Rows n) ![0, 0] ![k, n] inb).emb x = y := by
  funext i
  refine Fin.ext ?_
  show (![0, 0] : Fin 2 → ℕ) i + 1 * (x i).val = (y i).val
  match i with
  | 0 => show 0 + 1 * (x 0).val = _; omega
  | 1 => show 0 + 1 * (x 1).val = _; omega

/-- the store of row 0 over a fill of the whole block, read at an index -/
theorem canon_row [∀ e, Nonempty (Val e)] (inb inb') (w : (⟨2, ![1, n]⟩ : Shape).Idx → Val e) (z : (Rows n).Idx → Val e)
    (a : Fin 8) (b : Fin n) :
    View.canon (s := Rows n) [⟨Rect.unit (s := Rows n) ![0, 0] ![1, n] inb, w⟩,
      ⟨Rect.unit (s := Rows n) ![0, 0] ![8, n] inb', z⟩] (ix2 a b) = if (a : ℕ) = 0 then w (ix2 0 b) else z (ix2 a b) := by
  by_cases h : (a : ℕ) = 0
  · obtain rfl : a = 0 := Fin.ext h
    rw [if_pos h, ← emb_rows inb (ix2 (0 : Fin 1) b) (ix2 (0 : Fin 8) b) rfl rfl]
    exact View.canon_cons_emb (Rect.unit (s := Rows n) ![0, 0] ![1, n] inb) w _ _
  · rw [if_neg h, View.canon_cons_of_not_mem]
    · conv_lhs => rw [← emb_rows inb' (ix2 a b) (ix2 a b) rfl rfl]
      exact View.canon_cons_emb (Rect.unit (s := Rows n) ![0, 0] ![8, n] inb') z _ _
    · rw [Rect.mem_set_unit]
      intro hall
      have h1 : (a : ℕ) < 0 + 1 := (hall 0).2
      omega

/-- row 0 of a filled block, read back -/
theorem readCov_row0 [∀ e, Nonempty (Val e)] {sig : RefSig} {κ : Kind} {sp : Space} (v : View sig κ sp (Rows n) e) (inb inb')
    (z : (Rows n).Idx → Val e) (b : Fin n) :
    v.readCov [⟨Rect.unit (s := Rows n) ![0, 0] ![8, n] inb', z⟩]
      (Rect.unit (s := Rows n) ![0, 0] ![1, n] inb).toLoadRect (ix2 (0 : Fin 1) b) = z (ix2 0 b) := by
  rw [View.readCov_eq_canon']
  refine (congrArg _ ((emb_rows inb (ix2 (0 : Fin 1) b) (ix2 (0 : Fin 8) b) rfl rfl).trans
    (emb_rows inb' (ix2 0 b) (ix2 0 b) rfl rfl).symm)).trans ?_
  exact View.canon_cons_emb (Rect.unit (s := Rows n) ![0, 0] ![8, n] inb') z _ _

/-- the store of row 0 over a block that held `X`, read at an index -/
theorem read_row {sig : RefSig} {κ : Kind} {sp : Space} (M : Memref sig κ sp (Rows n) e) (hM : M.IsWhole) (inb)
    (w : (⟨2, ![1, n]⟩ : Shape).Idx → Val e) (X : (Rows n).Idx → Val e) (a : Fin 8) (b : Fin n) :
    M.view.read Val (M.view.writes Val (hM.unread X) [⟨Rect.unit (s := Rows n) ![0, 0] ![1, n] inb, w⟩]) (ix2 a b)
      = if (a : ℕ) = 0 then w (ix2 0 b) else X (ix2 a b) := by
  by_cases h : (a : ℕ) = 0
  · obtain rfl : a = 0 := Fin.ext h
    rw [if_pos h]
    exact View.read_writes_cons_unit_of_mem M.view _ inb w [] _ (ix2 (0 : Fin 1) b) rfl
      fun i => by fin_cases i <;> simp [ix2]
  · rw [if_neg h, View.read_writes_cons_unit_of_not_mem M.view _ inb w [] _ rfl 0 (.inr ?_), View.writes_nil,
      hM.read_unread]
    show 0 + 1 ≤ (a : ℕ)
    omega

/-- a row over seven rows of zeros -/
def top (f : Fin n → EReal) (a : Fin 8) (b : Fin n) : EReal := if (a : ℕ) = 0 then f b else 0

/-- rows over zeros add up to the sum of the rows over zeros -/
theorem sum_top {ι : Type} [Fintype ι] (f : ι → Fin n → EReal) (a : Fin 8) (b : Fin n) :
    0 + ∑ p : ι, top (f p) a b = top (fun l => ∑ p : ι, f p l) a b := by
  unfold top
  split
  · rw [zero_add]
  · rw [Finset.sum_const_zero, zero_add]

/-- the first point: the block filled with zeros, then its row 0 stored -/
theorem top_first (inb inb') (w : (⟨2, ![1, n]⟩ : Shape).Idx → Elt Ideal .f32) (z : (Rows n).Idx → Elt Ideal .f32)
    (f : Fin n → EReal) (a : Fin 8) (b : Fin n) (hw : w (ix2 0 b) = f b) (hz : z (ix2 a b) = (0 : EReal)) :
    View.canon (s := Rows n) [⟨Rect.unit (s := Rows n) ![0, 0] ![1, n] inb, w⟩,
      ⟨Rect.unit (s := Rows n) ![0, 0] ![8, n] inb', z⟩] (ix2 a b) = (0 + top f a b : EReal) := by
  rw [canon_row]
  unfold top
  rw [zero_add]
  exact ite_congr rfl (fun _ => hw) (fun _ => hz)

/-- a later point: row 0 stored over what the point before left -/
theorem top_next {sig : RefSig} {κ : Kind} {sp : Space} (M : Memref sig κ sp (Rows n) .f32) (hM : M.IsWhole) (inb)
    (w : (⟨2, ![1, n]⟩ : Shape).Idx → Elt Ideal .f32) (X : (Rows n).Idx → Elt Ideal .f32) (f : Fin n → EReal) (a : Fin 8)
    (b : Fin n) (hw : w (ix2 0 b) = (X (ix2 0 b) + f b : EReal)) :
    M.view.read (Elt Ideal) (M.view.writes (Elt Ideal) (hM.unread X) [⟨Rect.unit (s := Rows n) ![0, 0] ![1, n] inb, w⟩]) (ix2 a b)
      = (X (ix2 a b) + top f a b : EReal) := by
  rw [read_row]
  unfold top
  by_cases h : (a : ℕ) = 0
  · obtain rfl : a = 0 := Fin.ext h
    rw [if_pos h, if_pos h]
    exact hw
  · rw [if_neg h, if_neg h, add_zero]

end Cert.Grad
-- ==== Proof.LossArrays.lean ====
module

public import proofs.«01_k».proof.Proof.LossPoint
public import proofs.«01_k».proof.Proof.AccRow
public import proofs.«01_k».proof.Proof.Gen.LossIdeal.Value

/-! # The loss kernel's result arrays

The hidden state's gradient row by row, the gain's gradient and the loss as sums over the sixteen points of 512 rows. -/

@[expose] public section

noncomputable section

open Idealize.ShloMosaic Idealize.ShloMosaic.TcCoe Idealize.SL.Sem

namespace Cert.LossIdeal.Value
open Cert.LossIdeal Cert.LossIdeal.Gen Cert.Grad

/-- every window's block index at every point -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![0, 0] :=
  (by decide +kernel : ∀ t : Fin grid0.N, _)

/-- row `R` of an array of four sequences of 2048 rows, the sequences one after another -/
def row (x : S4x2048x1024.Idx → EReal) (R : ℕ) (hR : R < 8192) (l : Fin 1024) : EReal :=
  x (ix3 ⟨R / 2048, by omega⟩ ⟨R % 2048, by omega⟩ l)

/-- the gain as a row -/
def gain (g : S1024.Idx → EReal) (l : Fin 1024) : EReal := g (ix1 l)

/-- the rows of point `p` are rows of the array -/
theorem pt_lt (p : Fin cfg0.N) (r : Fin 512) : p.val * 512 + r.val < 8192 := by
  have := lt_of_lt_of_eq p.isLt N_0; omega

variable (m : (ℓ : Loc nD τ sig) → Buf (Elt Ideal) ℓ) (c : Dev nD)

/-- the hidden state on device `c` -/
abbrev argH : S4x2048x1024.Idx → EReal := m ((c : Thread nD τ).loc main_arg0)
/-- the gain on device `c` -/
abbrev argG : S1024.Idx → EReal := m ((c : Thread nD τ).loc main_arg1)
/-- the target on device `c` -/
abbrev argT : S4x2048x1024.Idx → EReal := m ((c : Thread nD τ).loc main_arg2)

/-- the block of hidden-state rows at point `p` -/
theorem blk_h (p : Fin cfg0.N) :
    iblk m c 0 p = fun i : S512x1024.Idx => row (argH m c) (p.val * 512 + (i 0).val) (pt_lt p (i 0)) (i 1) := by
  funext i
  blk_simp [iblk]
  entry_read
  show _ = m ((c : Thread nD τ).loc main_arg0) (ix3 ⟨(p.val * 512 + (i 0).val) / 2048, by have := pt_lt p (i 0); omega⟩
    ⟨(p.val * 512 + (i 0).val) % 2048, by omega⟩ (i 1))
  pointwise
  blk_ext [idx p]

/-- the block of targets at point `p` -/
theorem blk_t (p : Fin cfg0.N) :
    iblk m c 2 p = fun i : S512x1024.Idx => row (argT m c) (p.val * 512 + (i 0).val) (pt_lt p (i 0)) (i 1) := by
  funext i
  blk_simp [iblk]
  entry_read
  show _ = m ((c : Thread nD τ).loc main_arg2) (ix3 ⟨(p.val * 512 + (i 0).val) / 2048, by have := pt_lt p (i 0); omega⟩
    ⟨(p.val * 512 + (i 0).val) % 2048, by omega⟩ (i 1))
  pointwise
  blk_ext [idx p]

/-- the gain's block is the gain -/
theorem blk_g (p : Fin cfg0.N) : iblk m c 1 p = fun i : S1x1024.Idx => gain (argG m c) (i 1) := by
  funext i
  blk_simp [iblk]
  entry_read
  show _ = m ((c : Thread nD τ).loc main_arg1) (ix1 (i 1))
  pointwise
  blk_ext [idx p]

variable (h t : S4x2048x1024.Idx → EReal) (g : S1024.Idx → EReal)

/-- the hidden state's gradient at row `R` -/
def dhVal (R : ℕ) (hR : R < 8192) (l : Fin 1024) : EReal :=
  rowGrad (row h R hR) (fun k => derr (row h R hR) (gain g) (row t R hR) k * gain g k) l

/-- what row `R` adds to the gain's gradient -/
def dgVal (R : ℕ) (hR : R < 8192) (l : Fin 1024) : EReal :=
  derr (row h R hR) (gain g) (row t R hR) l * (row h R hR l * rs (row h R hR))

/-- the mean square error of row `R` -/
def seVal (R : ℕ) (hR : R < 8192) : EReal := mse (row h R hR) (gain g) (row t R hR)

/-- the array of the hidden state's gradient -/
def dhOut (i : S8192x1024.Idx) : EReal := dhVal h t g (i 0).val (i 0).isLt (i 1)

/-- what point `p` adds to the block of the gain's gradient: its rows' sum in row 0, nothing elsewhere -/
def dgPart (p : Fin cfg0.N) (a : Fin 8) (b : Fin 1024) : EReal :=
  if (a : ℕ) = 0 then ∑ r : Fin 512, dgVal h t g (p.val * 512 + r.val) (pt_lt p r) b else 0

/-- the block of the gain's gradient: its row 0 is the gradient, the other rows are zero -/
def dgOut (a : Fin 8) (b : Fin 1024) : EReal :=
  if (a : ℕ) = 0 then ∑ p : Fin cfg0.N, ∑ r : Fin 512, dgVal h t g (p.val * 512 + r.val) (pt_lt p r) b else 0

theorem sum_dgPart (a : Fin 8) (b : Fin 1024) : 0 + ∑ p : Fin cfg0.N, dgPart h t g p a b = dgOut h t g a b := by
  unfold dgPart dgOut
  split
  · rw [zero_add]
  · rw [Finset.sum_const_zero, zero_add]

/-- what point `p` adds to the loss -/
def lossPart (p : Fin cfg0.N) : EReal :=
  ((1 / 2 : ℝ) : EReal) * ∑ r : Fin 512, seVal h t g (p.val * 512 + r.val) (pt_lt p r)

/-- the second result: the hidden state's gradient -/
theorem final_dh : (dats m 0 c).arrAt 4 cfg0.N = dhOut (argH m c) (argT m c) (argG m c) := by
  refine (dats m 0 c).arrAt_eq_of_covers 4 _ (by decide +kernel) fun p _ y => ?_
  blk_simp
  rw [after0_4]
  have hc : (outsAt0 m c p.val p.isLt).2.1 = k0_pay12 (iblk m c 1 p) (iblk m c 0 p) (iblk m c 2 p) := by
    by_cases h0 : p.val % 16 = 0
    · rw [outsAt0_A m c p h0 h0]; frame_out
    · rw [outsAt0_B m c p h0 h0]; frame_out
  rw [hc, blk_h, blk_g, blk_t]
  refine ((congrArg _ (eq_ix2 y)).trans (dh_at _ _ _ (y 0) (y 1))).trans
    (congrArg (dhOut (argH m c) (argT m c) (argG m c)) (a₁ := ix2 ⟨p.val * 512 + (y 0).val, pt_lt p (y 0)⟩ (y 1)) ?_)
  blk_ext [idx p]

/-- what point `p` adds to row 0 of the gain's gradient -/
theorem dgain_term (p : Fin cfg0.N) (v : Vec Ideal S1x1024 .f32) (l : Fin 1024) :
    k0_pay2 (k0_pay13 (iblk m c 1 p) (iblk m c 0 p) (iblk m c 2 p)) v (ix2 (0 : Fin 1) l)
      = v (ix2 0 l) + ∑ r : Fin 512, dgVal (argH m c) (argT m c) (argG m c) (p.val * 512 + r.val) (pt_lt p r) l := by
  rw [blk_h, blk_g, blk_t]
  exact dgain_at _ _ _ v 0 l

/-- the third result: row 0 is the gain's gradient, the other rows are zero -/
theorem final_dg :
    (dats m 0 c).arrAt 5 cfg0.N = fun i : S8x1024.Idx => dgOut (argH m c) (argT m c) (argG m c) (i 0) (i 1) := by
  refine (dats m 0 c).arrAt_eq_of_after_last 5 t0_15 (by decide +kernel) _ fun j => ?_
  blk_simp
  rw [after0_5, Pipeline.eq_sum_fin_of_reset_step_apply_last (fun n h => (outsAt0 m c n h).2.2) 16 (fun _ => 0)
    (fun p j => dgPart (argH m c) (argT m c) (argG m c) p (j 0) (j 1)) (fun p h0 j => ?_) (fun p h0 j => ?_) (le_of_eq N_0) t0_15 rfl j]
  · exact sum_dgPart _ _ _ (j 0) (j 1)
  · rw [outsAt0_A m c p h0 h0]
    frame_out
    idx_vars j
    refine (canon_row _ _ _ _ _ _).trans ?_
    show _ = 0 + dgPart (argH m c) (argT m c) (argG m c) p j0 j1
    unfold dgPart
    rw [zero_add]
    refine ite_congr rfl (fun _ => ?_) (fun _ => by pointwise [k0_pay1])
    rw [dgain_term]
    refine (congrArg (· + _) (readCov_row0 _ _ _ _ _)).trans ?_
    pointwise [k0_pay1]
  · rw [outsAt0_B m c p h0 h0]
    frame_out
    idx_vars j
    refine (read_row _ _ _ _ _ _ _).trans ?_
    show _ = _ + dgPart (argH m c) (argT m c) (argG m c) p j0 j1
    unfold dgPart
    by_cases hj : (j0 : ℕ) = 0
    · obtain rfl : j0 = 0 := Fin.ext hj
      rw [if_pos hj, if_pos hj, dgain_term]
      pointwise
    · rw [if_neg hj, if_neg hj, add_zero]

/-- the first result: every entry is the loss -/
theorem final_loss :
    (dats m 0 c).arrAt 3 cfg0.N = fun _ : S8x128.Idx =>
      ∑ p : Fin cfg0.N, lossPart (argH m c) (argT m c) (argG m c) p := by
  refine (dats m 0 c).arrAt_eq_of_after_last 3 t0_15 (by decide +kernel) _ fun j => ?_
  blk_simp
  rw [after0_3, Pipeline.eq_sum_fin_of_reset_step_apply_last (fun n h => (outsAt0 m c n h).1) 16 (fun _ => 0)
    (fun p _ => lossPart (argH m c) (argT m c) (argG m c) p)
    (fun p h0 j => ?_) (fun p h0 j => ?_) (le_of_eq N_0) t0_15 rfl j]
  · exact zero_add (∑ p : Fin cfg0.N, lossPart (argH m c) (argT m c) (argG m c) p)
  · rw [outsAt0_A m c p h0 h0]
    frame_out
    rw [blk_h, blk_g, blk_t]
    idx_vars j
    refine (loss_at _ _ _ _ _ _).trans ?_
    pointwise [k0_pay3]
    rfl
  · rw [outsAt0_B m c p h0 h0]
    frame_out
    rw [blk_h, blk_g, blk_t]
    idx_vars j
    exact loss_at _ _ _ _ _ _

end Cert.LossIdeal.Value
-- ==== Proof.LeadSum.lean ====
module

public import Idealize.ShloMosaic.Lib.Pointwise

/-! # A host sum over the two leading axes of three -/

@[expose] public section

noncomputable section

namespace Cert.Grad

open Idealize.ShloMosaic

variable {a b n : ℕ}

/-- the indices that fall to `j` are the pairs of leading coordinates -/
theorem lead_fiber (h : (⟨3, ![a, b, n]⟩ : Shape).ReducesTo [0, 1] ⟨1, ![n]⟩) (j : Fin n) (i : (⟨3, ![a, b, n]⟩ : Shape).Idx) :
    h.drop i = ix1 j ↔ ∃ k : Fin a × Fin b, ix3 k.1 k.2 j = i := by
  constructor
  · intro e
    refine ⟨(i 0, i 1), ?_⟩
    have e0 := congrArg Fin.val (congrFun e 0)
    funext x
    apply Fin.ext
    match x with
    | ⟨0, _⟩ => rfl
    | ⟨1, _⟩ => rfl
    | ⟨2, _⟩ => exact e0.symm
  · rintro ⟨k, rfl⟩
    funext x
    apply Fin.ext
    match x with
    | ⟨0, _⟩ => rfl

/-- the host's sum over the two leading axes is the double sum -/
theorem hostReduceAdd_lead (h : (⟨3, ![a, b, n]⟩ : Shape).ReducesTo [0, 1] ⟨1, ![n]⟩)
    (v : (⟨3, ![a, b, n]⟩ : Shape).Idx → EReal) (init : EReal) (j : Fin n) :
    Ideal.hostReduceAdd h v init (ix1 j) = init + ∑ x : Fin a, ∑ y : Fin b, v (ix3 x y j) := by
  refine congrArg (init + ·) ((Finset.sum_filter_eq_sum_of_fiber _ (fun k : Fin a × Fin b => ix3 k.1 k.2 j)
    (fun _ _ e => Prod.ext (congrFun e 0) (congrFun e 1)) (lead_fiber h j) v).trans ?_)
  simp only [Fintype.sum_prod_type]

/-- the indices that fall to `j`, where the outer two of three axes are summed -/
theorem ends_fiber (h : (⟨3, ![a, n, b]⟩ : Shape).Reduces [0, 2] ⟨1, ![n]⟩) (j : Fin n) (i : (⟨3, ![a, n, b]⟩ : Shape).Idx) :
    h.drop i = ix1 j ↔ ∃ k : Fin a × Fin b, ix3 k.1 j k.2 = i := by
  constructor
  · intro e
    refine ⟨(i 0, i 2), ?_⟩
    have e0 := congrArg Fin.val (congrFun e 0)
    funext x
    apply Fin.ext
    match x with
    | ⟨0, _⟩ => rfl
    | ⟨1, _⟩ => exact e0.symm
    | ⟨2, _⟩ => rfl
  · rintro ⟨k, rfl⟩
    funext x
    apply Fin.ext
    match x with
    | ⟨0, _⟩ => rfl

/-- a sum over the outer two of three axes -/
theorem reduceAdd_ends (h : (⟨3, ![a, n, b]⟩ : Shape).Reduces [0, 2] ⟨1, ![n]⟩) (v : (⟨3, ![a, n, b]⟩ : Shape).Idx → EReal) (j : Fin n) :
    Ideal.reduceAdd h v (ix1 j) = ∑ x : Fin a, ∑ y : Fin b, v (ix3 x j y) := by
  refine (Finset.sum_filter_eq_sum_of_fiber _ (fun k : Fin a × Fin b => ix3 k.1 j k.2)
    (fun _ _ e => Prod.ext (congrFun e 0) (congrFun e 2)) (ends_fiber h j) v).trans ?_
  simp only [Fintype.sum_prod_type]

/-- the indices that fall to `(j, k)`, where the first two and the last of five axes are summed -/
theorem outer_fiber {d e : ℕ} (h : (⟨5, ![a, b, n, d, e]⟩ : Shape).ReducesTo [0, 1, 4] ⟨2, ![n, d]⟩) (j : Fin n) (k : Fin d)
    (i : (⟨5, ![a, b, n, d, e]⟩ : Shape).Idx) : h.drop i = ix2 j k ↔ ∃ q : Fin a × Fin b × Fin e, ix5 q.1 q.2.1 j k q.2.2 = i := by
  constructor
  · intro w
    refine ⟨(i 0, i 1, i 4), ?_⟩
    have e0 := congrArg Fin.val (congrFun w 0)
    have e1 := congrArg Fin.val (congrFun w 1)
    funext x
    apply Fin.ext
    match x with
    | ⟨0, _⟩ => rfl
    | ⟨1, _⟩ => rfl
    | ⟨2, _⟩ => exact e0.symm
    | ⟨3, _⟩ => exact e1.symm
    | ⟨4, _⟩ => rfl
  · rintro ⟨q, rfl⟩
    funext x
    apply Fin.ext
    match x with
    | ⟨0, _⟩ => rfl
    | ⟨1, _⟩ => rfl

/-- a host's sum over the first two and the last of five axes -/
theorem hostReduceAdd_outer {d e : ℕ} (h : (⟨5, ![a, b, n, d, e]⟩ : Shape).ReducesTo [0, 1, 4] ⟨2, ![n, d]⟩)
    (v : (⟨5, ![a, b, n, d, e]⟩ : Shape).Idx → EReal) (init : EReal) (j : Fin n) (k : Fin d) :
    Ideal.hostReduceAdd h v init (ix2 j k) = init + ∑ x : Fin a, ∑ y : Fin b, ∑ z : Fin e, v (ix5 x y j k z) := by
  refine congrArg (init + ·) ((Finset.sum_filter_eq_sum_of_fiber _ (fun q : Fin a × Fin b × Fin e => ix5 q.1 q.2.1 j k q.2.2)
    (fun _ _ w => Prod.ext (congrFun w 0) (Prod.ext (congrFun w 1) (congrFun w 4))) (outer_fiber h j k) v).trans ?_)
  simp only [Fintype.sum_prod_type]

end Cert.Grad
-- ==== Proof.LossRef.lean ====
module

public import proofs.«01_k».proof.Proof.RmsGrad
public import proofs.«01_k».proof.Proof.LeadSum
public import proofs.«01_k».proof.Proof.Gen.LossRefIdeal.Read

/-! # The loss reference's results -/

@[expose] public section

noncomputable section

open Idealize.ShloMosaic Idealize.ShloMosaic.TcCoe Idealize.SL.Sem

namespace Cert.LossRefIdeal.Value
open Cert.LossRefIdeal Cert.LossRefIdeal.Gen Cert.LossRefIdeal.Read Cert.Grad

variable (h t : S4x2048x1024.Idx → EReal) (g : S1024.Idx → EReal)

/-- a row of the hidden state -/
def rowAt (x : S4x2048x1024.Idx → EReal) (b : Fin 4) (s : Fin 2048) (k : Fin 1024) : EReal := x (ix3 b s k)

/-- the error of a row: the normalised, scaled row less its target -/
def errAt (b : Fin 4) (s : Fin 2048) (l : Fin 1024) : EReal :=
  rowAt h b s l * rs (rowAt h b s) * g (ix1 l) - rowAt t b s l

/-- the upstream gradient: the error over the row's length -/
def derrAt (b : Fin 4) (s : Fin 2048) (l : Fin 1024) : EReal := errAt h t g b s l * ((1 / 1024 : ℝ) : EReal)

theorem v6_eq : val_main_v6 (F := Ideal) h = fun i => ms (rowAt h (i 0) (i 1)) := by
  funext i
  idx_vars i
  pointwise [val_main_v6, val_main_v5, val_main_v4, val_main_v3, val_main_v2, val_main_v1, val_main_v0, val_main_cst, val_main_cst_0, val_main_cst_1]
  simp only [word_1024, word_eps]
  rfl

theorem v7_eq : val_main_v7 (F := Ideal) h = fun i => rs (rowAt h (i 0) (i 1)) := by
  funext i
  idx_vars i
  pointwise [val_main_v7, v6_eq]
  rfl

theorem v16_eq : val_main_v16 (F := Ideal) h g t = fun i => errAt h t g (i 0) (i 1) (i 2) := by
  funext i
  idx_vars i
  pointwise [val_main_v16, val_main_v15, val_main_v14, val_main_v13, val_main_v12, val_main_v11, v7_eq]
  rfl

theorem v30_eq : val_main_v30 (F := Ideal) h g t = fun i => derrAt h t g (i 0) (i 1) (i 2) := by
  funext i
  idx_vars i
  pointwise [val_main_v30, val_main_v29, val_main_v28, val_main_v27, val_main_v26, val_main_v25, val_main_v24, val_main_v23, val_main_cst_7, val_main_cst_8, val_main_cst_9, v16_eq]
  rw [mul_comm (Ideal.div _ _), word_1024, word_half, coe_div _ _ n1024, twice]
  show _ = errAt h t g i0 i1 i2 * ((1 / 1024 : ℝ) : EReal)
  congr 2
  norm_num

/-- the second result: the hidden state's gradient, rows flattened -/
theorem v52_at (i : S8192x1024.Idx) :
    val_main_v52 (F := Ideal) h g t i
      = rowGrad (rowAt h ⟨(i 0).val / 2048, by have h0 : (i 0).val < 8192 := (i 0).isLt; omega⟩ ⟨(i 0).val % 2048, by omega⟩)
          (fun l => derrAt h t g ⟨(i 0).val / 2048, by have h0 : (i 0).val < 8192 := (i 0).isLt; omega⟩ ⟨(i 0).val % 2048, by omega⟩ l
            * g (ix1 l)) (i 1) := by
  idx_vars i
  rw [← rowGrad_eq]
  pointwise [val_main_v52, val_main_v50, val_main_v49, val_main_v48, val_main_v47, val_main_v46, val_main_v45, val_main_v44,
    val_main_v43, val_main_v42, val_main_v41, val_main_v40, val_main_v39, val_main_v38, val_main_v37, val_main_v35,
    val_main_v34, val_main_v13, val_main_v10, val_main_v9, val_main_v8, val_main_cst_2, val_main_cst_11,
    val_main_cst_12, val_main_cst_13, val_main_cst_14, v30_eq, v7_eq, v6_eq]
  simp only [word_1024, word_neg_half, Fin.sum_univ_one]
  rfl

/-- the first result: the loss in every entry -/
theorem v51_at (i : S8x128.Idx) :
    val_main_v51 (F := Ideal) h g t i
      = ((1 / 2 : ℝ) : EReal) * ∑ b : Fin 4, ∑ s : Fin 2048,
          Ideal.div (∑ l, errAt h t g b s l * errAt h t g b s l) ((1024 : ℝ) : EReal) := by
  idx_vars i
  pointwise [val_main_v51, val_main_v22, val_main_v21, val_main_v20, val_main_v19, val_main_v18, val_main_v17, val_main_cst_3,
    val_main_cst_4, val_main_cst_5, val_main_cst_6, v16_eq]
  simp only [word_1024, word_half]

/-- the gain's gradient in row 0, zero in the other rows -/
def gainOut (a : Fin 8) (l : Fin 1024) : EReal :=
  if (a : ℕ) = 0 then ∑ b : Fin 4, ∑ s : Fin 2048, derrAt h t g b s l * (rowAt h b s l * rs (rowAt h b s)) else 0

/-- the third result: the gain's gradient in row 0 -/
theorem v54_at (i : S8x1024.Idx) : val_main_v54 (F := Ideal) h g t i = gainOut h t g (i 0) (i 1) := by
  idx_vars i
  pointwise [val_main_v54, val_main_v53, val_main_v36, val_main_cst_11, val_main_call0_v0, val_main_c]
  show _ = gainOut h t g i0 i1
  unfold gainOut
  by_cases h0 : (i0 : ℕ) = 0
  · rw [dif_pos (by omega), hostReduceAdd_lead]
    pointwise [val_main_v33, val_main_v32, val_main_cst_10]
    rw [hostReduceAdd_lead]
    pointwise [val_main_v31, val_main_v12, val_main_v11, v30_eq, v7_eq]
    rw [if_pos h0]
    simp only [Fin.sum_univ_one]
    refine Finset.sum_congr rfl fun b _ => Finset.sum_congr rfl fun s _ => ?_
    exact mul_comm _ _
  · rw [dif_neg (by omega), if_neg h0]
    show ((((0#32 : BitVec 32).toInt : ℤ) : ℝ) : EReal) = 0
    simp

end Cert.LossRefIdeal.Value
-- ==== Proof.LossEq.lean ====
module

public import proofs.«01_k».proof.Proof.LossArrays
public import proofs.«01_k».proof.Proof.LossRef
public import proofs.«01_k».proof.Defs

/-! # The loss kernel's results are the reference's -/

@[expose] public section

noncomputable section

open Idealize.ShloMosaic Idealize.ShloMosaic.TcCoe Idealize.SL.Sem

namespace Cert.LossIdeal.Value
open Cert.LossIdeal Cert.LossIdeal.Gen Cert.Grad
open Cert.LossRefIdeal.Value (rowAt errAt)

variable {h t : S4x2048x1024.Idx → EReal} {g : S1024.Idx → EReal}

/-- a sum over the points and their rows is a sum over the sequences and their rows -/
theorem sum_rows (F : (R : ℕ) → R < 8192 → EReal) (f : Fin 4 → Fin 2048 → EReal)
    (hf : ∀ R hR, F R hR = f ⟨R / 2048, by omega⟩ ⟨R % 2048, by omega⟩) :
    ∑ p : Fin cfg0.N, ∑ r : Fin 512, F (p.val * 512 + r.val) (pt_lt p r) = ∑ b : Fin 4, ∑ s : Fin 2048, f b s :=
  Fin.sum_points_lanes_congr 4 fun p r ha hl => by
    rw [hf]
    have h1 := pt_lt p r
    exact congrArg₂ f (Fin.ext (by show _ / 2048 = p.val / 4; have := r.isLt; omega))
      (Fin.ext (by show _ % 2048 = p.val % 4 * 512 + r.val; have := r.isLt; omega))

/-- the kernel's gradient of the hidden state is the reference's -/
theorem dh_eq : dhOut h t g = Cert.LossRefIdeal.Read.val_main_v52 (F := Ideal) h g t := by
  funext i
  rw [Cert.LossRefIdeal.Value.v52_at]
  rfl

/-- the kernel's gradient of the gain is the reference's -/
theorem dg_eq : (fun i : S8x1024.Idx => dgOut h t g (i 0) (i 1))
    = Cert.LossRefIdeal.Read.val_main_v54 (F := Ideal) h g t := by
  funext i
  rw [Cert.LossRefIdeal.Value.v54_at]
  idx_vars i
  show dgOut h t g i0 i1 = Cert.LossRefIdeal.Value.gainOut h t g i0 i1
  unfold dgOut Cert.LossRefIdeal.Value.gainOut
  refine ite_congr rfl (fun _ => ?_) (fun _ => rfl)
  exact sum_rows (fun R hR => dgVal h t g R hR i1) _ fun R hR => rfl

/-- the kernel's loss is the reference's -/
theorem loss_eq : (fun _ : S8x128.Idx => ∑ p : Fin cfg0.N, lossPart h t g p) = Cert.LossRefIdeal.Read.val_main_v51 (F := Ideal) h g t := by
  funext i
  rw [Cert.LossRefIdeal.Value.v51_at, ← sum_rows (fun R hR => seVal h t g R hR) _ fun R hR => rfl, nonneg_mul_sum (by norm_num)]
  rfl

end Cert.LossIdeal.Value

namespace Cert.Proof
open Cert.LossIdeal.Value Cert.Grad

/-- the two programs of the loss compute the same three arrays -/
theorem loss : Cert.algebraic_LossIdeal_LossRefIdeal := by
  intro m ρ m' ρ' _ ha
  refine ⟨fun c => (Cert.LossIdeal.Gen.dats m 0 c).arrAt 3 Cert.LossIdeal.cfg0.N, fun c => (Cert.LossIdeal.Gen.dats m 0 c).arrAt 4 Cert.LossIdeal.cfg0.N,
    fun c => (Cert.LossIdeal.Gen.dats m 0 c).arrAt 5 Cert.LossIdeal.cfg0.N, Cert.LossIdeal.Value.run_blocks m ρ, ?_⟩
  refine (θ_run _ _ _).mono (fun r hr c => ?_) (Cert.LossRefIdeal.Value.run m' ρ')
  obtain ⟨r0, r1, r2, k⟩ := hr c
  obtain ⟨a0, a1, a2⟩ := ha c
  open Cert.LossRefIdeal.Read in
  refine ⟨r0.trans ((val_main_v51_eq _ _ _).trans ?_), r1.trans ((val_main_v52_eq _ _).trans ?_),
    r2.trans ((val_main_v54_eq _ _ _).trans ?_), k⟩
  all_goals rw [a0, a1, a2]
  · exact ((final_loss m c).trans loss_eq).symm
  · exact ((final_dh m c).trans dh_eq).symm
  · exact ((final_dg m c).trans dg_eq).symm

end Cert.Proof
-- ==== Proof.Rows.lean ====
module

public import proofs.«01_k».proof.Proof.RmsGrad

/-! # The rows of four sequences, one after another

The kernels see the 4 sequences of 2048 rows as 8192 rows, some hundred to a grid point. -/

@[expose] public section

noncomputable section

namespace Cert.Grad
open Idealize.ShloMosaic

/-- the sequence of row `R` -/
def seq (R : ℕ) (hR : R < 8192) : Fin 4 := ⟨R / 2048, by omega⟩

/-- the place of row `R` in its sequence -/
def pos (R : ℕ) : Fin 2048 := ⟨R % 2048, Nat.mod_lt _ (by omega)⟩

/-- row `s` of sequence `b` -/
def rowAt {n : ℕ} (x : (⟨3, ![4, 2048, n]⟩ : Shape).Idx → EReal) (b : Fin 4) (s : Fin 2048) (k : Fin n) : EReal := x (ix3 b s k)

/-- row `r` of point `p` is a row of the array -/
theorem row_lt {N T : ℕ} (hN : N * T = 8192) (p : Fin N) (r : Fin T) : p.val * T + r.val < 8192 := by
  have h1 : (p.val + 1) * T ≤ N * T := Nat.mul_le_mul_right _ p.isLt
  have h2 := r.isLt
  rw [Nat.add_mul] at h1
  omega

/-- a sum over the points and their rows is a sum over the sequences and their rows -/
theorem sum_rows {N T : ℕ} (S : ℕ) (hN : N * T = 8192) (hS : S * T = 2048) (f : Fin 4 → Fin 2048 → EReal) :
    ∑ p : Fin N, ∑ r : Fin T, f (seq (p.val * T + r.val) (row_lt hN p r)) (pos (p.val * T + r.val))
      = ∑ b : Fin 4, ∑ s : Fin 2048, f b s := by
  have hT : 0 < T := by rcases Nat.eq_zero_or_pos T with h | h; · subst h; omega
                        · exact h
  have hN4 : N = 4 * S := by
    apply Nat.eq_of_mul_eq_mul_right hT
    rw [hN, Nat.mul_assoc, hS]
  have hS0 : 0 < S := by rcases Nat.eq_zero_or_pos S with h | h; · subst h; omega
                         · exact h
  refine Fin.sum_points_lanes_congr S (hN := hN4) (hL := hS.symm) fun p r ha hl => congrArg₂ f (Fin.ext ?_) (Fin.ext ?_)
  · show (p.val * T + r.val) / 2048 = p.val / S
    rw [← hS, Nat.mul_comm S T, ← Nat.div_div_eq_div_mul, Nat.mul_comm p.val T, Nat.mul_add_div hT, Nat.div_eq_of_lt r.isLt, Nat.add_zero]
  · show (p.val * T + r.val) % 2048 = p.val % S * T + r.val
    rw [← hS, Nat.mul_comm S T, Nat.mod_mul, Nat.mul_comm p.val T, Nat.mul_add_mod, Nat.mod_eq_of_lt r.isLt, Nat.mul_add_div hT,
      Nat.div_eq_of_lt r.isLt, Nat.add_zero, Nat.add_comm, Nat.mul_comm]

end Cert.Grad
-- ==== Proof.Swiglu.lean ====
module

public import proofs.«01_k».proof.Proof.Rows

/-! # A gated feed-forward layer and its gradient, row by row

`out = x + (silu(xn @ wg) * (xn @ wu)) @ wd / 2` with `xn = x · rs x · n`, and what the cotangent `d` of `out` gives for the
factors: the definitions both programs are read against, and the one identity between two ways to write the gate's
gradient. -/

@[expose] public section

noncomputable section

namespace Cert.Grad
open Idealize.ShloMosaic

/-- two ways to write the derivative of `g · logistic g` times a real number are one -/
theorem gate_grad (c : ℝ) (g : EReal) :
    (c : EReal) * (Ideal.logistic g * (1 + g * (1 - Ideal.logistic g)))
      = (c : EReal) * Ideal.logistic g + g * (c : EReal) * (Ideal.logistic g * (1 - Ideal.logistic g)) := by
  induction g using EReal.rec with
  | bot => rw [Ideal.logistic_bot]; simp
  | top =>
    have h1 : (1 : EReal) - 1 = 0 := EReal.sub_self (EReal.coe_ne_top 1) (EReal.coe_ne_bot 1)
    rw [Ideal.logistic_top, h1]
    simp
  | coe g =>
    rw [Ideal.logistic_coe]
    generalize (1 + Real.exp (-g))⁻¹ = s
    norm_cast
    ring

variable (h d : (⟨3, ![4, 2048, 1024]⟩ : Shape).Idx → EReal) (n : (⟨1, ![1024]⟩ : Shape).Idx → EReal)
  (wg wu : (⟨2, ![1024, 2816]⟩ : Shape).Idx → EReal) (wd : (⟨2, ![2816, 1024]⟩ : Shape).Idx → EReal)

/-- the normalised, scaled row -/
def xnAt (b : Fin 4) (s : Fin 2048) (l : Fin 1024) : EReal := rowAt h b s l * rs (rowAt h b s) * n (ix1 l)

/-- the row times a matrix: the gate's and the upward product -/
def upAt (w : (⟨2, ![1024, 2816]⟩ : Shape).Idx → EReal) (b : Fin 4) (s : Fin 2048) (j : Fin 2816) : EReal :=
  ∑ k : Fin 1024, xnAt h n b s k * w (ix2 k j)

/-- the gated row -/
def actAt (b : Fin 4) (s : Fin 2048) (j : Fin 2816) : EReal :=
  upAt h n wg b s j * Ideal.logistic (upAt h n wg b s j) * upAt h n wu b s j

/-- the layer's row -/
def ffnAt (b : Fin 4) (s : Fin 2048) (l : Fin 1024) : EReal :=
  rowAt h b s l + ((1 / 2 : ℝ) : EReal) * ∑ j : Fin 2816, actAt h n wg wu b s j * wd (ix2 j l)

/-- the cotangent of the downward product -/
def dyAt (b : Fin 4) (s : Fin 2048) (l : Fin 1024) : EReal := ((1 / 2 : ℝ) : EReal) * rowAt d b s l

/-- the cotangent of the gated row -/
def dactAt (b : Fin 4) (s : Fin 2048) (j : Fin 2816) : EReal := ∑ l : Fin 1024, dyAt d b s l * wd (ix2 j l)

/-- the cotangent of the gate's product -/
def dgAt (b : Fin 4) (s : Fin 2048) (j : Fin 2816) : EReal :=
  dactAt d wd b s j * upAt h n wu b s j
    * (Ideal.logistic (upAt h n wg b s j) * (1 + upAt h n wg b s j * (1 - Ideal.logistic (upAt h n wg b s j))))

/-- the cotangent of the upward product -/
def duAt (b : Fin 4) (s : Fin 2048) (j : Fin 2816) : EReal :=
  dactAt d wd b s j * (upAt h n wg b s j * Ideal.logistic (upAt h n wg b s j))

/-- the cotangent of the normalised, scaled row -/
def dxAt (b : Fin 4) (s : Fin 2048) (l : Fin 1024) : EReal :=
  (∑ j : Fin 2816, dgAt h d n wg wu wd b s j * wg (ix2 l j)) + ∑ j : Fin 2816, duAt h d n wg wd b s j * wu (ix2 l j)

/-- the gradient of the layer's input -/
def dhAt (b : Fin 4) (s : Fin 2048) (l : Fin 1024) : EReal :=
  rowAt d b s l + rowGrad (rowAt h b s) (fun k => dxAt h d n wg wu wd b s k * n (ix1 k)) l

/-- what a row adds to the gain's gradient -/
def dnAt (l : Fin 1024) (b : Fin 4) (s : Fin 2048) : EReal :=
  dxAt h d n wg wu wd b s l * (rowAt h b s l * rs (rowAt h b s))

/-- every entry of an array is real -/
def AllReal {S : Shape} (x : S.Idx → EReal) : Prop := ∀ i, ∃ r : ℝ, x i = (r : EReal)

/-- sums of products of reals are real -/
theorem sum_real {N : ℕ} (f v : Fin N → EReal) (hf : ∀ k, ∃ r : ℝ, f k = (r : EReal)) (hv : ∀ k, ∃ r : ℝ, v k = (r : EReal)) :
    ∃ r : ℝ, ∑ k, f k * v k = (r : EReal) := by
  choose a ha using hf
  choose b hb using hv
  refine ⟨∑ k, a k * b k, ?_⟩
  rw [← coe_sum]
  exact Finset.sum_congr rfl fun k _ => by rw [ha, hb, EReal.coe_mul]

/-- the normalised row is real wherever the gain is -/
theorem xn_real (hn : AllReal n) (b : Fin 4) (s : Fin 2048) (l : Fin 1024) : ∃ r : ℝ, xnAt h n b s l = (r : EReal) := by
  obtain ⟨q, hq⟩ := hn (ix1 l)
  obtain ⟨r, -, hr, -, h0⟩ := rs_real (rowAt h b s)
  unfold xnAt
  rcases h0 with h0 | ⟨y, hy⟩
  · exact ⟨0, by rw [hr, h0, EReal.coe_zero, mul_zero, zero_mul]⟩
  · exact ⟨y l * r * q, by rw [hr, hy, hq, EReal.coe_mul, EReal.coe_mul]⟩

/-- with a real gain, upward matrix, downward matrix and cotangent, the gate's cotangent as the derivative of
    `g · logistic g` is written elsewhere -/
theorem dg_alt (hn : AllReal n) (hu : AllReal wu) (hw : AllReal wd) (hd : AllReal d) (b : Fin 4) (s : Fin 2048) (j : Fin 2816) :
    dactAt d wd b s j * upAt h n wu b s j * Ideal.logistic (upAt h n wg b s j)
      + upAt h n wg b s j * (dactAt d wd b s j * upAt h n wu b s j)
        * (Ideal.logistic (upAt h n wg b s j) * (1 - Ideal.logistic (upAt h n wg b s j))) = dgAt h d n wg wu wd b s j := by
  obtain ⟨u, hu'⟩ : ∃ r : ℝ, upAt h n wu b s j = (r : EReal) := sum_real _ _ (fun k => xn_real h n hn b s k) fun k => hu _
  obtain ⟨a, ha⟩ : ∃ r : ℝ, dactAt d wd b s j = (r : EReal) := by
    refine sum_real _ _ (fun l => ?_) fun l => hw _
    obtain ⟨r, hr⟩ := hd (ix3 b s l)
    exact ⟨1 / 2 * r, by unfold dyAt rowAt; rw [hr, ← EReal.coe_mul]⟩
  unfold dgAt
  rw [hu', ha, ← EReal.coe_mul]
  exact (gate_grad (a * u) _).symm

end Cert.Grad
-- ==== Proof.FfnPoint.lean ====
module

public import proofs.«01_k».proof.Proof.Swiglu
public import proofs.«01_k».proof.Proof.Gen.FfnIdeal.Skeleton

/-! # The block arithmetic of the feed-forward layer and its gradient

What the two bodies store, read at an index. -/

@[expose] public section

noncomputable section

open Idealize.ShloMosaic Idealize.ShloMosaic.TcCoe Idealize.SL.Sem

namespace Cert.FfnIdeal.Value
open Cert.FfnIdeal Cert.FfnIdeal.Gen Cert.Grad

/-- row `k` of a matrix kept as eight blocks of 352 rows -/
def stack (w : Vec Ideal S8x352x1024 .bf16) (k : Fin 2816) (l : Fin 1024) : EReal :=
  w (ix3 ⟨k.val / 352, by omega⟩ ⟨k.val % 352, by omega⟩ l)

section Forward

variable (h : Vec Ideal S512x1024 .f32) (n : Vec Ideal S1x1024 .f32) (wg wu wd : Vec Ideal S8x352x1024 .bf16)

theorem xn_at (r : Fin 512) (l : Fin 1024) :
    k0_pay4 (F := Ideal) h n (ix2 r l) = h (ix2 r l) * rs (fun k => h (ix2 r k)) * n (ix2 0 l) := by
  pointwise [k0_pay4, k0_pay3]
  simp only [word_1024, word_eps]
  rfl

/-- the gate's product -/
theorem g_at (r : Fin 512) (j : Fin 2816) : k0_pay1 (k0_pay5 (F := Ideal) h n wg) (ix2 r j)
    = ∑ k : Fin 1024, h (ix2 r k) * rs (fun k => h (ix2 r k)) * n (ix2 0 k) * stack wg j k := by
  pointwise [k0_pay1, k0_pay5, xn_at]
  rfl

/-- the upward product -/
theorem u_at (r : Fin 512) (j : Fin 2816) : k0_pay2 (k0_pay6 (F := Ideal) h n wu) (ix2 r j)
    = ∑ k : Fin 1024, h (ix2 r k) * rs (fun k => h (ix2 r k)) * n (ix2 0 k) * stack wu j k := by
  pointwise [k0_pay2, k0_pay6, xn_at]
  rfl

/-- the layer's block, from the two products' -/
theorem out_at (g u : Fin 512 → Fin 2816 → EReal) (hg : ∀ r j, k0_pay5 (F := Ideal) h n wg (ix2 r j) = g r j)
    (hu : ∀ r j, k0_pay6 (F := Ideal) h n wu (ix2 r j) = u r j) (r : Fin 512) (l : Fin 1024) :
    k0_pay7 (F := Ideal) h n wg wu wd (ix2 r l)
      = h (ix2 r l) + ((1 / 2 : ℝ) : EReal) * ∑ j : Fin 2816, g r j * Ideal.logistic (g r j) * u r j * stack wd j l := by
  pointwise [k0_pay7, k0_pay3, hg, hu]
  simp only [word_half]
  rfl

end Forward

section Backward

variable (h d : Vec Ideal S256x1024 .f32) (n : Vec Ideal S1x1024 .f32) (g u : Vec Ideal S256x2816 .bf16)
  (wg wu wd : Vec Ideal S8x352x1024 .bf16)

theorem ms_at (r : Fin 256) (z : Fin 1) : k1_pay6 (F := Ideal) h (ix2 r z) = rs fun k => h (ix2 r k) := by
  pointwise [k1_pay6, k1_pay3]
  simp only [word_1024, word_eps]
  rfl

theorem xhat_at (r : Fin 256) (l : Fin 1024) : k1_pay7 (F := Ideal) h (ix2 r l) = h (ix2 r l) * rs fun k => h (ix2 r k) := by
  pointwise [k1_pay7, k1_pay3, ms_at]

/-- the normalised, scaled row -/
theorem xn_back (r : Fin 256) (l : Fin 1024) :
    k1_pay1 (k1_pay8 (F := Ideal) h n) (ix2 r l) = h (ix2 r l) * rs (fun k => h (ix2 r k)) * n (ix2 0 l) := by
  pointwise [k1_pay1, k1_pay8, k1_pay5, xhat_at]

/-- the cotangent of the downward product -/
theorem dy_at (r : Fin 256) (l : Fin 1024) : k1_pay11 (F := Ideal) d (ix2 r l) = ((1 / 2 : ℝ) : EReal) * d (ix2 r l) := by
  pointwise [k1_pay11, k1_pay4]
  simp only [word_half]

/-- the cotangent of the gated row -/
theorem dact_at (r : Fin 256) (j : Fin 2816) : k1_pay12 (F := Ideal) d wd (ix2 r j)
    = ∑ l : Fin 1024, ((1 / 2 : ℝ) : EReal) * d (ix2 r l) * stack wd j l := by
  pointwise [k1_pay12, dy_at]
  rfl

/-- the gated row -/
theorem act_at (r : Fin 256) (j : Fin 2816) : k1_pay2 (k1_pay10 (F := Ideal) u) (k1_pay14 g) (ix2 r j)
    = g (ix2 r j) * Ideal.logistic (g (ix2 r j)) * u (ix2 r j) := by
  pointwise [k1_pay2, k1_pay10, k1_pay14, k1_pay13, k1_pay9]

/-- the cotangent of the gate's product -/
theorem dg_at (r : Fin 256) (j : Fin 2816) :
    k1_pay17 (k1_pay13 (F := Ideal) g) (k1_pay15 d u wd) (k1_pay16 g) (ix2 r j)
      = (∑ l : Fin 1024, ((1 / 2 : ℝ) : EReal) * d (ix2 r l) * stack wd j l) * u (ix2 r j)
        * (Ideal.logistic (g (ix2 r j)) * (1 + g (ix2 r j) * (1 - Ideal.logistic (g (ix2 r j))))) := by
  pointwise [k1_pay17, k1_pay13, k1_pay15, k1_pay16, k1_pay9, k1_pay10, dact_at]

/-- the cotangent of the upward product -/
theorem du_at (r : Fin 256) (j : Fin 2816) : k1_pay18 (k1_pay12 (F := Ideal) d wd) (k1_pay14 g) (ix2 r j)
    = (∑ l : Fin 1024, ((1 / 2 : ℝ) : EReal) * d (ix2 r l) * stack wd j l) * (g (ix2 r j) * Ideal.logistic (g (ix2 r j))) := by
  pointwise [k1_pay18, k1_pay14, k1_pay13, k1_pay9, dact_at]

variable (v30 v31 v32 v33 v38 : FVec Ideal S256x2816 .f32)

/-- the cotangent of the normalised, scaled row, from the two products' -/
theorem dx_at (G U : Fin 256 → Fin 2816 → EReal) (hG : ∀ r j, k1_pay17 v31 v33 v38 (ix2 r j) = G r j)
    (hU : ∀ r j, k1_pay18 v30 v32 (ix2 r j) = U r j) (r : Fin 256) (l : Fin 1024) :
    k1_pay19 v30 v31 v32 v33 v38 wg wu (ix2 r l)
      = (∑ j : Fin 2816, G r j * stack wg j l) + ∑ j : Fin 2816, U r j * stack wu j l := by
  pointwise [k1_pay19, hG, hU]
  rfl

/-- the gradient of the layer's input -/
theorem dh_at (X : Fin 256 → Fin 1024 → EReal) (hX : ∀ r l, k1_pay19 v30 v31 v32 v33 v38 wg wu (ix2 r l) = X r l)
    (r : Fin 256) (l : Fin 1024) :
    k1_pay20 (k1_pay4 d) (k1_pay5 n) (k1_pay6 h) (k1_pay7 h) v30 v31 v32 v33 v38 wg wu (ix2 r l)
      = d (ix2 r l) + rowGrad (fun k => h (ix2 r k)) (fun k => X r k * n (ix2 0 k)) l := by
  pointwise [k1_pay20, k1_pay4, k1_pay5, ms_at, xhat_at, hX]
  simp only [word_1024]
  rfl

/-- what a point adds to the gain's gradient -/
theorem dn_at (X : Fin 256 → Fin 1024 → EReal) (hX : ∀ r l, k1_pay19 v30 v31 v32 v33 v38 wg wu (ix2 r l) = X r l)
    (v : Vec Ideal S1x1024 .f32) (z : Fin 1) (l : Fin 1024) :
    k1_pay22 (k1_pay7 h) v30 v31 v32 v33 v38 wg wu v (ix2 z l)
      = v (ix2 z l) + ∑ r : Fin 256, X r l * (h (ix2 r l) * rs fun k => h (ix2 r k)) := by
  pointwise [k1_pay22, xhat_at, hX]

end Backward

end Cert.FfnIdeal.Value
-- ==== Proof.FfnRun.lean ====
module

public import proofs.«01_k».proof.Proof.Gen.FfnIdeal.Frame

/-! # The feed-forward program's run: what every result holds at the end

The generated segments end at the contents `W4`; read there, a result of the second region is what that region's pipeline
leaves, and a result of the first is what the first region's leaves, since nothing after it writes it. -/

@[expose] public section

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat cellOf)

namespace Cert.FfnIdeal.Value
open Cert.FfnIdeal Cert.FfnIdeal.Gen

variable {F : FTy → Type} [FloatOps F] (m : (ℓ : Loc nD τ sig) → Buf (Elt F) ℓ) (ρ : Dev nD → PrngReg)

local notation "𝕄" => MT nD τ sig Unit (Elt F) ℕ (UR sig nD τ) ℕ

set_option backward.isDefEq.respectTransparency.types false in
/-- every run ends with each unscoped buffer at the contents of the last boundary -/
theorem run_bufs : θ_run defs (onTc (τ := τ) (main (F := F))) ⟨m, fun _ => 0, ρ⟩ (fun r => ∀ c : Dev nD,
    ∀ b ∈ Pipeline.ucRefs τ sig, r.2.mem ((c : Thread nD τ).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]
      · iexact Hh
      isplitl [Hp]
      · iexists _
        iexact Hp
      iexists ∅
      iexact HO)
    (QY := fun c s => ∀ b ∈ Pipeline.ucRefs τ sig, s.mem ((c : Thread nD τ).1, b) = W4 m ρ c b)
    (hfin := fun c s => by
      iintro ⟨⟨Hh, -⟩, HSI⟩
      unfold StableHlo.held
      imodintro
      iapply (pointsTo_read_all (Pipeline.ucRefs τ sig) (fun b => ((c : Thread nD τ).1, b)) (W4 m ρ c) s)
      isplitl [Hh] <;> iassumption)
    (hQ := fun _ h _ => h)

/-- a result of the first region keeps what that region left -/
theorem W4_first (c : Dev nD) (w : Fin cfg0.W) (h : ∀ v : Fin cfg1.W, Pipeline.arrRef spec1 v = Pipeline.arrRef spec0 w → (cfg1.win v).isOut = false)
    (h1 : Pipeline.arrRef spec0 w ∉ hostOps1_W) :
    W4 m ρ c (Proc.devRef .tc (Pipeline.arrRef spec0 w)) = (dat0 (V1 m ρ) c).arrAt w cfg0.N :=
  ((W4_of m ρ c _ h).trans (W3_of m ρ c _ h1)).trans (W2_arr m ρ c w)

/-- every run ends with each result at what its region's pipeline leaves and the arguments unchanged -/
theorem run_arrays : θ_run defs (onTc (τ := τ) (main (F := F))) ⟨m, fun _ => 0, ρ⟩ (fun r => ∀ c : Dev nD,
      r.2.mem ((c.tc : Thread nD τ).loc main_v10_0) = (dat0 (V1 m ρ) c).arrAt 5 cfg0.N
      ∧ r.2.mem ((c.tc : Thread nD τ).loc main_v10_1) = (dat0 (V1 m ρ) c).arrAt 6 cfg0.N
      ∧ r.2.mem ((c.tc : Thread nD τ).loc main_v10_2) = (dat0 (V1 m ρ) c).arrAt 7 cfg0.N
      ∧ r.2.mem ((c.tc : Thread nD τ).loc main_v13_0) = (dat1 (V3 m ρ) c).arrAt 8 cfg1.N
      ∧ r.2.mem ((c.tc : Thread nD τ).loc main_v13_1) = (dat1 (V3 m ρ) c).arrAt 9 cfg1.N
      ∧ r.2.mem ((c.tc : Thread nD τ).loc main_v13_2) = (dat1 (V3 m ρ) c).arrAt 10 cfg1.N
      ∧ r.2.mem ((c.tc : Thread nD τ).loc main_v13_3) = (dat1 (V3 m ρ) c).arrAt 11 cfg1.N
      ∧ r.2.mem ((c.tc : Thread nD τ).loc main_v13_4) = (dat1 (V3 m ρ) c).arrAt 12 cfg1.N
      ∧ r.2.mem ((c.tc : Thread nD τ).loc main_v13_5) = (dat1 (V3 m ρ) c).arrAt 13 cfg1.N
      ∧ r.2.mem ((c.tc : Thread nD τ).loc main_v13_6) = (dat1 (V3 m ρ) c).arrAt 14 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    have k (b : Ref sig .tc) (hb : ¬(Proc.devRef .tc b : DevRef τ sig).isScoped) := h c _ (mem_uc b hb)
    ⟨(k main_v10_0 (by decide)).trans (W4_first m ρ c 5 (by decide +kernel) (by decide +kernel)),
     (k main_v10_1 (by decide)).trans (W4_first m ρ c 6 (by decide +kernel) (by decide +kernel)),
     (k main_v10_2 (by decide)).trans (W4_first m ρ c 7 (by decide +kernel) (by decide +kernel)),
     (k main_v13_0 (by decide)).trans (W4_arr m ρ c 8),
     (k main_v13_1 (by decide)).trans (W4_arr m ρ c 9),
     (k main_v13_2 (by decide)).trans (W4_arr m ρ c 10),
     (k main_v13_3 (by decide)).trans (W4_arr m ρ c 11),
     (k main_v13_4 (by decide)).trans (W4_arr m ρ c 12),
     (k main_v13_5 (by decide)).trans (W4_arr m ρ c 13),
     (k main_v13_6 (by decide)).trans (W4_arr m ρ c 14),
     (k main_arg0 (by decide)).trans (W4_main_arg0 m ρ c), (k main_arg1 (by decide)).trans (W4_main_arg1 m ρ c),
     (k main_arg2 (by decide)).trans (W4_main_arg2 m ρ c), (k main_arg3 (by decide)).trans (W4_main_arg3 m ρ c),
     (k main_arg4 (by decide)).trans (W4_main_arg4 m ρ c), (k main_arg5 (by decide)).trans (W4_main_arg5 m ρ c)⟩) (run_bufs m ρ)

end Cert.FfnIdeal.Value
-- ==== Proof.FfnFwd.lean ====
module

public import proofs.«01_k».proof.Proof.FfnPoint
public import proofs.«01_k».proof.Proof.FfnRun
public import Idealize.ShloMosaic.Lib.StableHlo.ReadAt

/-! # The feed-forward layer's arrays: what the host prepares, and what the forward call leaves -/

@[expose] public section

noncomputable section

open Idealize.ShloMosaic Idealize.ShloMosaic.TcCoe Idealize.SL.Sem

namespace Cert.FfnIdeal.Value
open Cert.FfnIdeal Cert.FfnIdeal.Gen Cert.Grad

/-- every window's block index at every point of the forward call -/
theorem idx0 : ∀ t : Fin cfg0.N, win0_0.index t = ![t.val, 0] ∧ win0_1.index t = ![0, 0] ∧ win0_2.index t = ![0, 0, 0]
    ∧ win0_3.index t = ![0, 0, 0] ∧ win0_4.index t = ![0, 0, 0] ∧ win0_5.index t = ![t.val, 0] ∧ win0_6.index t = ![t.val, 0]
    ∧ win0_7.index t = ![t.val, 0] :=
  (by decide +kernel : ∀ t : Fin grid0.N, _)

/-- sixteen points of 512 rows -/
theorem rows0 : cfg0.N * 512 = 8192 := by rw [show cfg0.N = 16 from N_0]

variable (m : (ℓ : Loc nD τ sig) → Buf (Elt Ideal) ℓ) (ρ : Dev nD → PrngReg) (c : Dev nD)

/-- the hidden state on device `c` -/
abbrev argH : S4x2048x1024.Idx → EReal := m ((c : Thread nD τ).loc main_arg0)
/-- the gain on device `c` -/
abbrev argN : S1024.Idx → EReal := m ((c : Thread nD τ).loc main_arg1)
/-- the gate's matrix on device `c` -/
abbrev argG : S1024x2816.Idx → EReal := m ((c : Thread nD τ).loc main_arg2)
/-- the upward matrix on device `c` -/
abbrev argU : S1024x2816.Idx → EReal := m ((c : Thread nD τ).loc main_arg3)
/-- the downward matrix on device `c` -/
abbrev argW : S2816x1024.Idx → EReal := m ((c : Thread nD τ).loc main_arg4)
/-- the cotangent on device `c` -/
abbrev argD : S4x2048x1024.Idx → EReal := m ((c : Thread nD τ).loc main_arg5)

/-- the rows of a `4×2048` array one below the other -/
def flat {N : ℕ} (f : Fin 4 → Fin 2048 → Fin N → EReal) (i : (⟨2, ![8192, N]⟩ : Shape).Idx) : EReal :=
  f (seq (i 0).val (i 0).isLt) (pos (i 0).val) (i 1)

/-- the rows `w` in eight blocks of 352 -/
def blocks (w : Fin 2816 → Fin 1024 → EReal) (i : S8x352x1024.Idx) : EReal :=
  w ⟨(i 0).val * 352 + (i 1).val, by
    have h0 : (i 0).val < 8 := (i 0).isLt
    have h1 : (i 1).val < 352 := (i 1).isLt
    omega⟩ (i 2)

theorem stack_blocks (w : Fin 2816 → Fin 1024 → EReal) (k : Fin 2816) (l : Fin 1024) : stack (blocks w) k l = w k l := by
  show w ⟨k.val / 352 * 352 + k.val % 352, _⟩ l = _
  exact congrArg (w · l) (Fin.ext (by show k.val / 352 * 352 + k.val % 352 = k.val; omega))

/-- the hidden state's rows before the forward call -/
theorem V1_h : V1 m ρ c main_v0 = flat (rowAt (argH m c)) := by
  funext i
  show StableHlo.after hostOps0 (W0 m ρ c) _ i = _
  simp only [hostOps0]
  after_reads_at
  blk_ext [seq, pos]

/-- the gain before the forward call -/
theorem V1_n : V1 m ρ c main_v9 = fun i : S1x1024.Idx => argN m c (ix1 (i 1)) := by
  funext i
  show StableHlo.after hostOps0 (W0 m ρ c) _ i = _
  simp only [hostOps0]
  after_reads_at
  blk_ext

/-- the gate's matrix before the forward call -/
theorem V1_g : V1 m ρ c main_v6 = blocks fun k l => argG m c (ix2 l k) := by
  funext i
  show StableHlo.after hostOps0 (W0 m ρ c) _ i = _
  simp only [hostOps0]
  after_reads_at
  have h0 : (i 0).val < 8 := (i 0).isLt
  have h1 : (i 1).val < 352 := (i 1).isLt
  show _ = m ((c : Thread nD τ).loc main_arg2) (ix2 (i 2) ⟨(i 0).val * 352 + (i 1).val, by omega⟩)
  blk_ext

/-- the upward matrix before the forward call -/
theorem V1_u : V1 m ρ c main_v7 = blocks fun k l => argU m c (ix2 l k) := by
  funext i
  show StableHlo.after hostOps0 (W0 m ρ c) _ i = _
  simp only [hostOps0]
  after_reads_at
  have h0 : (i 0).val < 8 := (i 0).isLt
  have h1 : (i 1).val < 352 := (i 1).isLt
  show _ = m ((c : Thread nD τ).loc main_arg3) (ix2 (i 2) ⟨(i 0).val * 352 + (i 1).val, by omega⟩)
  blk_ext

/-- the downward matrix before the forward call -/
theorem V1_d : V1 m ρ c main_v8 = blocks fun k l => argW m c (ix2 k l) := by
  funext i
  show StableHlo.after hostOps0 (W0 m ρ c) _ i = _
  simp only [hostOps0]
  after_reads_at
  have h0 : (i 0).val < 8 := (i 0).isLt
  have h1 : (i 1).val < 352 := (i 1).isLt
  show _ = m ((c : Thread nD τ).loc main_arg4) (ix2 ⟨(i 0).val * 352 + (i 1).val, by omega⟩ (i 2))
  blk_ext

/-- the sequence of row `r` of point `p` -/
abbrev bOf (p : Fin cfg0.N) (r : Fin 512) : Fin 4 := seq (p.val * 512 + r.val) (row_lt rows0 p r)
/-- its place there -/
abbrev sOf (p : Fin cfg0.N) (r : Fin 512) : Fin 2048 := pos (p.val * 512 + r.val)

/-- the hidden state's rows at point `p` -/
theorem blk_h (p : Fin cfg0.N) : iblk0 (V1 m ρ) c 0 p = fun i : S512x1024.Idx => rowAt (argH m c) (bOf p (i 0)) (sOf p (i 0)) (i 1) := by
  funext i
  blk_simp [iblk0]
  rw [V1_h]
  show m _ _ = m ((c : Thread nD τ).loc main_arg0) (ix3 (bOf p (i 0)) (sOf p (i 0)) (i 1))
  blk_ext [idx0 p, seq, pos]

theorem blk_n (p : Fin cfg0.N) : iblk0 (V1 m ρ) c 1 p = fun i : S1x1024.Idx => argN m c (ix1 (i 1)) := by
  funext i
  blk_simp [iblk0]
  rw [V1_n]
  blk_ext [idx0 p]

theorem blk_g (p : Fin cfg0.N) : iblk0 (V1 m ρ) c 2 p = blocks fun k l => argG m c (ix2 l k) := by
  funext i
  blk_simp [iblk0]
  rw [V1_g]
  refine congrArg (blocks fun k l => argG m c (ix2 l k)) (a₂ := i) ?_
  blk_ext [idx0 p]

theorem blk_u (p : Fin cfg0.N) : iblk0 (V1 m ρ) c 3 p = blocks fun k l => argU m c (ix2 l k) := by
  funext i
  blk_simp [iblk0]
  rw [V1_u]
  refine congrArg (blocks fun k l => argU m c (ix2 l k)) (a₂ := i) ?_
  blk_ext [idx0 p]

theorem blk_d (p : Fin cfg0.N) : iblk0 (V1 m ρ) c 4 p = blocks fun k l => argW m c (ix2 k l) := by
  funext i
  blk_simp [iblk0]
  rw [V1_d]
  refine congrArg (blocks fun k l => argW m c (ix2 k l)) (a₂ := i) ?_
  blk_ext [idx0 p]

theorem g_term (p : Fin cfg0.N) (r : Fin 512) (j : Fin 2816) :
    k0_pay1 (k0_pay5 (iblk0 (V1 m ρ) c 0 p) (iblk0 (V1 m ρ) c 1 p) (iblk0 (V1 m ρ) c 2 p)) (ix2 r j)
      = upAt (argH m c) (argN m c) (argG m c) (bOf p r) (sOf p r) j := by
  rw [blk_h, blk_n, blk_g]
  exact (g_at _ _ _ r j).trans (Finset.sum_congr rfl fun k _ => congrArg (_ * ·) (stack_blocks _ j k))

theorem u_term (p : Fin cfg0.N) (r : Fin 512) (j : Fin 2816) :
    k0_pay2 (k0_pay6 (iblk0 (V1 m ρ) c 0 p) (iblk0 (V1 m ρ) c 1 p) (iblk0 (V1 m ρ) c 3 p)) (ix2 r j)
      = upAt (argH m c) (argN m c) (argU m c) (bOf p r) (sOf p r) j := by
  rw [blk_h, blk_n, blk_u]
  exact (u_at _ _ _ r j).trans (Finset.sum_congr rfl fun k _ => congrArg (_ * ·) (stack_blocks _ j k))

theorem out_term (p : Fin cfg0.N) (r : Fin 512) (l : Fin 1024) :
    k0_pay7 (iblk0 (V1 m ρ) c 0 p) (iblk0 (V1 m ρ) c 1 p) (iblk0 (V1 m ρ) c 2 p) (iblk0 (V1 m ρ) c 3 p) (iblk0 (V1 m ρ) c 4 p) (ix2 r l)
      = ffnAt (argH m c) (argN m c) (argG m c) (argU m c) (argW m c) (bOf p r) (sOf p r) l := by
  refine (out_at _ _ _ _ _ (fun r j => upAt (argH m c) (argN m c) (argG m c) (bOf p r) (sOf p r) j)
    (fun r j => upAt (argH m c) (argN m c) (argU m c) (bOf p r) (sOf p r) j) (fun r j => ?_) (fun r j => ?_) r l).trans ?_
  · exact g_term m ρ c p r j
  · exact u_term m ρ c p r j
  · rw [blk_h, blk_d]
    unfold ffnAt actAt
    simp only [stack_blocks]
    rfl

/-- the forward call's first result: the layer -/
theorem final_out : (dat0 (V1 m ρ) c).arrAt 5 cfg0.N = flat (ffnAt (argH m c) (argN m c) (argG m c) (argU m c) (argW m c)) := by
  refine (dat0 (V1 m ρ) c).arrAt_eq_of_covers 5 _ (by decide +kernel) fun p _ y => ?_
  blk_simp
  rw [after0_5]
  unfold out0_5
  frame_out
  refine ((congrArg _ (eq_ix2 y)).trans (out_term m ρ c p (y 0) (y 1))).trans
    (congrArg (flat (ffnAt (argH m c) (argN m c) (argG m c) (argU m c) (argW m c))) (a₁ := ix2 ⟨p.val * 512 + (y 0).val, row_lt rows0 p (y 0)⟩ (y 1)) ?_)
  blk_ext [idx0 p]

/-- its second: the gate's product -/
theorem final_g : (dat0 (V1 m ρ) c).arrAt 6 cfg0.N = flat (upAt (argH m c) (argN m c) (argG m c)) := by
  refine (dat0 (V1 m ρ) c).arrAt_eq_of_covers 6 _ (by decide +kernel) fun p _ y => ?_
  blk_simp
  rw [after0_6]
  unfold out0_6
  frame_out
  refine ((congrArg _ (eq_ix2 y)).trans (g_term m ρ c p (y 0) (y 1))).trans
    (congrArg (flat (upAt (argH m c) (argN m c) (argG m c))) (a₁ := ix2 ⟨p.val * 512 + (y 0).val, row_lt rows0 p (y 0)⟩ (y 1)) ?_)
  blk_ext [idx0 p]

/-- its third: the upward product -/
theorem final_u : (dat0 (V1 m ρ) c).arrAt 7 cfg0.N = flat (upAt (argH m c) (argN m c) (argU m c)) := by
  refine (dat0 (V1 m ρ) c).arrAt_eq_of_covers 7 _ (by decide +kernel) fun p _ y => ?_
  blk_simp
  rw [after0_7]
  unfold out0_7
  frame_out
  refine ((congrArg _ (eq_ix2 y)).trans (u_term m ρ c p (y 0) (y 1))).trans
    (congrArg (flat (upAt (argH m c) (argN m c) (argU m c))) (a₁ := ix2 ⟨p.val * 512 + (y 0).val, row_lt rows0 p (y 0)⟩ (y 1)) ?_)
  blk_ext [idx0 p]

end Cert.FfnIdeal.Value
-- ==== Proof.FfnArrays.lean ====
module

public import proofs.«01_k».proof.Proof.FfnFwd
public import proofs.«01_k».proof.Proof.AccRow

/-! # The result arrays of the feed-forward layer's gradient -/

@[expose] public section

noncomputable section

open Idealize.ShloMosaic Idealize.ShloMosaic.TcCoe Idealize.SL.Sem

namespace Cert.FfnIdeal.Value
open Cert.FfnIdeal Cert.FfnIdeal.Gen Cert.Grad

/-- every window's block index at every point of the backward call -/
theorem idx1 : ∀ t : Fin cfg1.N, win1_0.index t = ![t.val, 0] ∧ win1_1.index t = ![0, 0] ∧ win1_2.index t = ![t.val, 0]
    ∧ win1_3.index t = ![t.val, 0] ∧ win1_4.index t = ![t.val, 0] ∧ win1_5.index t = ![0, 0, 0] ∧ win1_6.index t = ![0, 0, 0]
    ∧ win1_7.index t = ![0, 0, 0] ∧ win1_8.index t = ![t.val, 0] ∧ win1_9.index t = ![0, 0] ∧ win1_10.index t = ![t.val, 0]
    ∧ win1_11.index t = ![t.val, 0] ∧ win1_12.index t = ![t.val, 0] ∧ win1_13.index t = ![t.val, 0] ∧ win1_14.index t = ![t.val, 0] :=
  (by decide +kernel : ∀ t : Fin grid1.N, _)

/-- thirty-two points of 256 rows -/
theorem rows1 : cfg1.N * 256 = 8192 := by rw [show cfg1.N = 32 from N_1]

/-- the last point -/
abbrev last1 : Fin cfg1.N := ⟨31, by rw [show cfg1.N = 32 from N_1]; omega⟩

variable (m : (ℓ : Loc nD τ sig) → Buf (Elt Ideal) ℓ) (ρ : Dev nD → PrngReg) (c : Dev nD)

/-- an input of the forward call is as it was before it -/
theorem V3_of (r : Ref sig .tc) (h3 : r ∉ hostOps1_W) (h2 : ∀ w : Fin cfg0.W, Pipeline.arrRef spec0 w = r → (cfg0.win w).isOut = false) :
    V3 m ρ c r = V1 m ρ c r := (W3_of m ρ c r h3).trans (W2_of m ρ c r h2)

/-- the gain before the backward call -/
theorem V3_n : V3 m ρ c main_v11 = fun i : S1x1024.Idx => argN m c (ix1 (i 1)) := by
  funext i
  show StableHlo.after hostOps1 (W2 m ρ c) _ i = _
  simp only [hostOps1]
  after_reads_at
  refine (congrFun (W2_args m ρ c main_arg1 (by decide)) _).trans ?_
  show _ = m ((c : Thread nD τ).loc main_arg1) (ix1 (i 1))
  blk_ext

/-- the cotangent's rows before the backward call -/
theorem V3_d : V3 m ρ c main_v12 = flat (rowAt (argD m c)) := by
  funext i
  show StableHlo.after hostOps1 (W2 m ρ c) _ i = _
  simp only [hostOps1]
  after_reads_at
  refine (congrFun (W2_args m ρ c main_arg5 (by decide)) _).trans ?_
  show _ = m ((c : Thread nD τ).loc main_arg5) (ix3 (seq (i 0).val (i 0).isLt) (pos (i 0).val) (i 1))
  blk_ext [seq, pos]

/-- the gate's product, saved by the forward call -/
theorem V3_g : V3 m ρ c main_v10_1 = flat (upAt (argH m c) (argN m c) (argG m c)) :=
  ((W3_of m ρ c main_v10_1 (by decide)).trans (W2_arr m ρ c 6)).trans (final_g m ρ c)

/-- the upward product, saved by the forward call -/
theorem V3_u : V3 m ρ c main_v10_2 = flat (upAt (argH m c) (argN m c) (argU m c)) :=
  ((W3_of m ρ c main_v10_2 (by decide)).trans (W2_arr m ρ c 7)).trans (final_u m ρ c)

/-- the sequence of row `r` of point `p` -/
abbrev bAt (p : Fin cfg1.N) (r : Fin 256) : Fin 4 := seq (p.val * 256 + r.val) (row_lt rows1 p r)
/-- its place there -/
abbrev sAt (p : Fin cfg1.N) (r : Fin 256) : Fin 2048 := pos (p.val * 256 + r.val)

/-- the rows of point `p` -/
def rowsAt {N : ℕ} (f : Fin 4 → Fin 2048 → Fin N → EReal) (p : Fin cfg1.N) (i : (⟨2, ![256, N]⟩ : Shape).Idx) : EReal :=
  f (bAt p (i 0)) (sAt p (i 0)) (i 1)

/-- the rows of point `p`, read from the whole array -/
theorem flat_at {N : ℕ} (f : Fin 4 → Fin 2048 → Fin N → EReal) (p : Fin cfg1.N) (i : (⟨2, ![256, N]⟩ : Shape).Idx)
    (j : (⟨2, ![8192, N]⟩ : Shape).Idx) (h0 : (j 0).val = p.val * 256 + (i 0).val) (h1 : (j 1).val = (i 1).val) :
    flat f j = rowsAt f p i := by
  have e : j = ix2 ⟨p.val * 256 + (i 0).val, row_lt rows1 p (i 0)⟩ (i 1) :=
    (eq_ix2 j).trans (congrArg₂ ix2 (Fin.ext h0) (Fin.ext h1))
  rw [e]
  rfl

/-- window `w` of the backward call at point `p` -/
abbrev blk1 (w : Fin cfg1.W) (p : Fin cfg1.N) := iblk1 (V3 m ρ) c w p

theorem blk1_h (p : Fin cfg1.N) : blk1 m ρ c 0 p = rowsAt (rowAt (argH m c)) p := by
  funext i
  blk_simp [iblk1]
  rw [V3_of m ρ c main_v0 (by decide) (by decide +kernel), V1_h]
  refine flat_at _ p i _ ?_ ?_ <;> blk_ext [idx1 p]

theorem blk1_n (p : Fin cfg1.N) : blk1 m ρ c 1 p = fun i : S1x1024.Idx => argN m c (ix1 (i 1)) := by
  funext i
  blk_simp [iblk1]
  rw [V3_n]
  blk_ext [idx1 p]

theorem blk1_g (p : Fin cfg1.N) : blk1 m ρ c 2 p = rowsAt (upAt (argH m c) (argN m c) (argG m c)) p := by
  funext i
  blk_simp [iblk1]
  rw [V3_g]
  refine flat_at _ p i _ ?_ ?_ <;> blk_ext [idx1 p]

theorem blk1_u (p : Fin cfg1.N) : blk1 m ρ c 3 p = rowsAt (upAt (argH m c) (argN m c) (argU m c)) p := by
  funext i
  blk_simp [iblk1]
  rw [V3_u]
  refine flat_at _ p i _ ?_ ?_ <;> blk_ext [idx1 p]

theorem blk1_d (p : Fin cfg1.N) : blk1 m ρ c 4 p = rowsAt (rowAt (argD m c)) p := by
  funext i
  blk_simp [iblk1]
  rw [V3_d]
  refine flat_at _ p i _ ?_ ?_ <;> blk_ext [idx1 p]

theorem blk1_wg (p : Fin cfg1.N) : blk1 m ρ c 5 p = blocks fun k l => argG m c (ix2 l k) := by
  funext i
  blk_simp [iblk1]
  rw [V3_of m ρ c main_v6 (by decide) (by decide +kernel), V1_g]
  refine congrArg (blocks fun k l => argG m c (ix2 l k)) (a₂ := i) ?_
  blk_ext [idx1 p]

theorem blk1_wu (p : Fin cfg1.N) : blk1 m ρ c 6 p = blocks fun k l => argU m c (ix2 l k) := by
  funext i
  blk_simp [iblk1]
  rw [V3_of m ρ c main_v7 (by decide) (by decide +kernel), V1_u]
  refine congrArg (blocks fun k l => argU m c (ix2 l k)) (a₂ := i) ?_
  blk_ext [idx1 p]

theorem blk1_wd (p : Fin cfg1.N) : blk1 m ρ c 7 p = blocks fun k l => argW m c (ix2 k l) := by
  funext i
  blk_simp [iblk1]
  rw [V3_of m ρ c main_v8 (by decide) (by decide +kernel), V1_d]
  refine congrArg (blocks fun k l => argW m c (ix2 k l)) (a₂ := i) ?_
  blk_ext [idx1 p]

theorem xn_term (p : Fin cfg1.N) (r : Fin 256) (l : Fin 1024) : k1_pay1 (k1_pay8 (blk1 m ρ c 0 p) (blk1 m ρ c 1 p)) (ix2 r l)
    = xnAt (argH m c) (argN m c) (bAt p r) (sAt p r) l := by
  rw [blk1_h, blk1_n]
  exact xn_back _ _ r l

theorem dy_term (p : Fin cfg1.N) (r : Fin 256) (l : Fin 1024) : k1_pay11 (blk1 m ρ c 4 p) (ix2 r l)
    = dyAt (argD m c) (bAt p r) (sAt p r) l := by
  rw [blk1_d]
  exact dy_at _ r l

theorem act_term (p : Fin cfg1.N) (r : Fin 256) (j : Fin 2816) :
    k1_pay2 (k1_pay10 (blk1 m ρ c 3 p)) (k1_pay14 (blk1 m ρ c 2 p)) (ix2 r j)
      = actAt (argH m c) (argN m c) (argG m c) (argU m c) (bAt p r) (sAt p r) j := by
  rw [blk1_u, blk1_g]
  exact act_at _ _ r j

theorem dact_sum (p : Fin cfg1.N) (r : Fin 256) (j : Fin 2816) :
    (∑ l : Fin 1024, ((1 / 2 : ℝ) : EReal) * rowsAt (rowAt (argD m c)) p (ix2 r l) * stack (blocks fun k l => argW m c (ix2 k l)) j l)
      = dactAt (argD m c) (argW m c) (bAt p r) (sAt p r) j :=
  Finset.sum_congr rfl fun l _ => congrArg (_ * ·) (stack_blocks _ j l)

theorem dg_term (p : Fin cfg1.N) (r : Fin 256) (j : Fin 2816) :
    k1_pay17 (k1_pay13 (blk1 m ρ c 2 p)) (k1_pay15 (blk1 m ρ c 4 p) (blk1 m ρ c 3 p) (blk1 m ρ c 7 p)) (k1_pay16 (blk1 m ρ c 2 p)) (ix2 r j)
      = dgAt (argH m c) (argD m c) (argN m c) (argG m c) (argU m c) (argW m c) (bAt p r) (sAt p r) j := by
  rw [blk1_u, blk1_g, blk1_d, blk1_wd]
  exact (dg_at _ _ _ _ r j).trans (congrArg (· * _ * _) (dact_sum m c p r j))

theorem du_term (p : Fin cfg1.N) (r : Fin 256) (j : Fin 2816) :
    k1_pay18 (k1_pay12 (blk1 m ρ c 4 p) (blk1 m ρ c 7 p)) (k1_pay14 (blk1 m ρ c 2 p)) (ix2 r j)
      = duAt (argH m c) (argD m c) (argN m c) (argG m c) (argW m c) (bAt p r) (sAt p r) j := by
  rw [blk1_g, blk1_d, blk1_wd]
  exact (du_at _ _ _ r j).trans (congrArg (· * _) (dact_sum m c p r j))

theorem dx_term (p : Fin cfg1.N) (r : Fin 256) (l : Fin 1024) :
    k1_pay19 (k1_pay12 (blk1 m ρ c 4 p) (blk1 m ρ c 7 p)) (k1_pay13 (blk1 m ρ c 2 p)) (k1_pay14 (blk1 m ρ c 2 p))
      (k1_pay15 (blk1 m ρ c 4 p) (blk1 m ρ c 3 p) (blk1 m ρ c 7 p)) (k1_pay16 (blk1 m ρ c 2 p)) (blk1 m ρ c 5 p) (blk1 m ρ c 6 p) (ix2 r l)
      = dxAt (argH m c) (argD m c) (argN m c) (argG m c) (argU m c) (argW m c) (bAt p r) (sAt p r) l := by
  refine (dx_at _ _ _ _ _ _ _ _ _ (dg_term m ρ c p) (du_term m ρ c p) r l).trans ?_
  rw [blk1_wg, blk1_wu]
  unfold dxAt
  simp only [stack_blocks]

theorem dh_term (p : Fin cfg1.N) (r : Fin 256) (l : Fin 1024) :
    k1_pay20 (k1_pay4 (blk1 m ρ c 4 p)) (k1_pay5 (blk1 m ρ c 1 p)) (k1_pay6 (blk1 m ρ c 0 p)) (k1_pay7 (blk1 m ρ c 0 p))
      (k1_pay12 (blk1 m ρ c 4 p) (blk1 m ρ c 7 p)) (k1_pay13 (blk1 m ρ c 2 p)) (k1_pay14 (blk1 m ρ c 2 p))
      (k1_pay15 (blk1 m ρ c 4 p) (blk1 m ρ c 3 p) (blk1 m ρ c 7 p)) (k1_pay16 (blk1 m ρ c 2 p)) (blk1 m ρ c 5 p) (blk1 m ρ c 6 p) (ix2 r l)
      = dhAt (argH m c) (argD m c) (argN m c) (argG m c) (argU m c) (argW m c) (bAt p r) (sAt p r) l := by
  refine (dh_at _ _ _ _ _ _ _ _ _ _ _ (dx_term m ρ c p) r l).trans ?_
  rw [blk1_h, blk1_n, blk1_d]
  rfl

/-- what point `p` adds to row 0 of the gain's gradient -/
def dnRow (p : Fin cfg1.N) (l : Fin 1024) : EReal :=
  ∑ r : Fin 256, dnAt (argH m c) (argD m c) (argN m c) (argG m c) (argU m c) (argW m c) l (bAt p r) (sAt p r)

theorem dn_term (p : Fin cfg1.N) (v : Vec Ideal S1x1024 .f32) (l : Fin 1024) :
    k1_pay22 (k1_pay7 (blk1 m ρ c 0 p))
      (k1_pay12 (blk1 m ρ c 4 p) (blk1 m ρ c 7 p)) (k1_pay13 (blk1 m ρ c 2 p)) (k1_pay14 (blk1 m ρ c 2 p))
      (k1_pay15 (blk1 m ρ c 4 p) (blk1 m ρ c 3 p) (blk1 m ρ c 7 p)) (k1_pay16 (blk1 m ρ c 2 p)) (blk1 m ρ c 5 p) (blk1 m ρ c 6 p) v (ix2 (0 : Fin 1) l)
      = v (ix2 0 l) + dnRow m c p l := by
  refine (dn_at _ _ _ _ _ _ _ _ _ (dx_term m ρ c p) v 0 l).trans ?_
  rw [blk1_h]
  rfl

/-- the layer input's gradient -/
theorem final_dh : (dat1 (V3 m ρ) c).arrAt 8 cfg1.N = flat (dhAt (argH m c) (argD m c) (argN m c) (argG m c) (argU m c) (argW m c)) := by
  refine (dat1 (V3 m ρ) c).arrAt_eq_of_covers 8 _ (by decide +kernel) fun p _ y => ?_
  blk_simp
  rw [after1_8]
  refine Eq.trans ?_ (flat_at _ p y _ ?_ ?_).symm
  · by_cases h0 : p.val % 32 = 0
    · rw [outsAt1_A (V3 m ρ) c p h0]
      frame_out
      exact (congrArg _ (eq_ix2 y)).trans (dh_term m ρ c p (y 0) (y 1))
    · rw [outsAt1_B (V3 m ρ) c p h0]
      frame_out
      exact (congrArg _ (eq_ix2 y)).trans (dh_term m ρ c p (y 0) (y 1))
  all_goals blk_ext [idx1 p]

/-- row 0 is the gain's gradient, the other rows are zero -/
theorem final_dn : (dat1 (V3 m ρ) c).arrAt 9 cfg1.N = fun i : S8x1024.Idx => top (fun l => ∑ p : Fin cfg1.N, dnRow m c p l) (i 0) (i 1) := by
  refine (dat1 (V3 m ρ) c).arrAt_eq_of_after_last 9 last1 (by decide +kernel) _ fun j => ?_
  blk_simp
  rw [after1_9, Pipeline.eq_sum_fin_of_reset_step_apply_last (fun n h => (outsAt1 (V3 m ρ) c n h).2.1) 32 (fun _ => 0)
    (fun p j => top (dnRow m c p) (j 0) (j 1)) (fun p h0 j => ?_) (fun p h0 j => ?_) (le_of_eq N_1) last1 rfl j]
  · exact sum_top _ (j 0) (j 1)
  · rw [outsAt1_A (V3 m ρ) c p h0]
    frame_out
    idx_vars j
    refine top_first _ _ _ _ (dnRow m c p) j0 j1 ((dn_term m ρ c p _ j1).trans ((congrArg (· + _) (readCov_row0 _ _ _ _ _)).trans ?_)) ?_
    · pointwise [k1_pay21]
    · pointwise [k1_pay21]
  · rw [outsAt1_B (V3 m ρ) c p h0]
    frame_out
    idx_vars j
    refine top_next _ _ _ _ _ (dnRow m c p) j0 j1 ((dn_term m ρ c p _ j1).trans ?_)
    pointwise

/-- the normalised, scaled rows -/
theorem final_xn : (dat1 (V3 m ρ) c).arrAt 10 cfg1.N = flat (xnAt (argH m c) (argN m c)) := by
  refine (dat1 (V3 m ρ) c).arrAt_eq_of_covers 10 _ (by decide +kernel) fun p _ y => ?_
  blk_simp
  rw [after1_10]
  refine Eq.trans ?_ (flat_at _ p y _ ?_ ?_).symm
  · by_cases h0 : p.val % 32 = 0
    · rw [outsAt1_A (V3 m ρ) c p h0]
      frame_out
      exact (congrArg _ (eq_ix2 y)).trans (xn_term m ρ c p (y 0) (y 1))
    · rw [outsAt1_B (V3 m ρ) c p h0]
      frame_out
      exact (congrArg _ (eq_ix2 y)).trans (xn_term m ρ c p (y 0) (y 1))
  all_goals blk_ext [idx1 p]

/-- the gated rows -/
theorem final_act : (dat1 (V3 m ρ) c).arrAt 11 cfg1.N = flat (actAt (argH m c) (argN m c) (argG m c) (argU m c)) := by
  refine (dat1 (V3 m ρ) c).arrAt_eq_of_covers 11 _ (by decide +kernel) fun p _ y => ?_
  blk_simp
  rw [after1_11]
  refine Eq.trans ?_ (flat_at _ p y _ ?_ ?_).symm
  · by_cases h0 : p.val % 32 = 0
    · rw [outsAt1_A (V3 m ρ) c p h0]
      frame_out
      exact (congrArg _ (eq_ix2 y)).trans (act_term m ρ c p (y 0) (y 1))
    · rw [outsAt1_B (V3 m ρ) c p h0]
      frame_out
      exact (congrArg _ (eq_ix2 y)).trans (act_term m ρ c p (y 0) (y 1))
  all_goals blk_ext [idx1 p]

/-- the cotangent of the gate's product -/
theorem final_dgate : (dat1 (V3 m ρ) c).arrAt 12 cfg1.N
    = flat (dgAt (argH m c) (argD m c) (argN m c) (argG m c) (argU m c) (argW m c)) := by
  refine (dat1 (V3 m ρ) c).arrAt_eq_of_covers 12 _ (by decide +kernel) fun p _ y => ?_
  blk_simp
  rw [after1_12]
  refine Eq.trans ?_ (flat_at _ p y _ ?_ ?_).symm
  · by_cases h0 : p.val % 32 = 0
    · rw [outsAt1_A (V3 m ρ) c p h0]
      frame_out
      exact (congrArg _ (eq_ix2 y)).trans (dg_term m ρ c p (y 0) (y 1))
    · rw [outsAt1_B (V3 m ρ) c p h0]
      frame_out
      exact (congrArg _ (eq_ix2 y)).trans (dg_term m ρ c p (y 0) (y 1))
  all_goals blk_ext [idx1 p]

/-- the cotangent of the upward product -/
theorem final_du : (dat1 (V3 m ρ) c).arrAt 13 cfg1.N
    = flat (duAt (argH m c) (argD m c) (argN m c) (argG m c) (argW m c)) := by
  refine (dat1 (V3 m ρ) c).arrAt_eq_of_covers 13 _ (by decide +kernel) fun p _ y => ?_
  blk_simp
  rw [after1_13]
  refine Eq.trans ?_ (flat_at _ p y _ ?_ ?_).symm
  · by_cases h0 : p.val % 32 = 0
    · rw [outsAt1_A (V3 m ρ) c p h0]
      frame_out
      exact (congrArg _ (eq_ix2 y)).trans (du_term m ρ c p (y 0) (y 1))
    · rw [outsAt1_B (V3 m ρ) c p h0]
      frame_out
      exact (congrArg _ (eq_ix2 y)).trans (du_term m ρ c p (y 0) (y 1))
  all_goals blk_ext [idx1 p]

/-- the cotangent of the downward product -/
theorem final_dy : (dat1 (V3 m ρ) c).arrAt 14 cfg1.N = flat (dyAt (argD m c)) := by
  refine (dat1 (V3 m ρ) c).arrAt_eq_of_covers 14 _ (by decide +kernel) fun p _ y => ?_
  blk_simp
  rw [after1_14]
  refine Eq.trans ?_ (flat_at _ p y _ ?_ ?_).symm
  · by_cases h0 : p.val % 32 = 0
    · rw [outsAt1_A (V3 m ρ) c p h0]
      frame_out
      exact (congrArg _ (eq_ix2 y)).trans (dy_term m ρ c p (y 0) (y 1))
    · rw [outsAt1_B (V3 m ρ) c p h0]
      frame_out
      exact (congrArg _ (eq_ix2 y)).trans (dy_term m ρ c p (y 0) (y 1))
  all_goals blk_ext [idx1 p]

end Cert.FfnIdeal.Value
-- ==== Proof.FfnRef.lean ====
module

public import proofs.«01_k».proof.Proof.Swiglu
public import proofs.«01_k».proof.Proof.LeadSum
public import proofs.«01_k».proof.Proof.Gen.FfnRefIdeal.Read

/-! # The reference's results: the feed-forward layer and its gradient -/

@[expose] public section

noncomputable section

open Idealize.ShloMosaic Idealize.ShloMosaic.TcCoe Idealize.SL.Sem

namespace Cert.FfnRefIdeal.Value
open Cert.FfnRefIdeal Cert.FfnRefIdeal.Gen Cert.FfnRefIdeal.Read Cert.Grad

variable (h d : S4x2048x1024.Idx → EReal) (n : S1024.Idx → EReal) (wg wu : S1024x2816.Idx → EReal) (wd : S2816x1024.Idx → EReal)

theorem v6_eq : val_main_v6 (F := Ideal) h = fun i => ms (rowAt h (i 0) (i 1)) := by
  funext i
  idx_vars i
  pointwise [val_main_v6, val_main_v5, val_main_v4, val_main_v3, val_main_v2, val_main_v1, val_main_v0, val_main_cst, val_main_cst_0, val_main_cst_1]
  simp only [word_1024, word_eps]
  rfl

theorem v7_eq : val_main_v7 (F := Ideal) h = fun i => rs (rowAt h (i 0) (i 1)) := by
  funext i
  idx_vars i
  pointwise [val_main_v7, v6_eq]
  rfl

/-- the normalised rows -/
theorem v12_eq : val_main_v12 (F := Ideal) h = fun i => rowAt h (i 0) (i 1) (i 2) * rs (rowAt h (i 0) (i 1)) := by
  funext i
  idx_vars i
  pointwise [val_main_v12, val_main_v11, v7_eq]
  rfl

/-- the normalised, scaled rows -/
theorem v15_eq : val_main_v15 (F := Ideal) h n = fun i => xnAt h n (i 0) (i 1) (i 2) := by
  funext i
  idx_vars i
  pointwise [val_main_v15, val_main_v14, val_main_v13, v12_eq]
  rfl

/-- the gate's product -/
theorem v16_eq : val_main_v16 (F := Ideal) h n wg = fun i => upAt h n wg (i 0) (i 1) (i 2) := by
  funext i
  idx_vars i
  pointwise [val_main_v16, v15_eq]
  rfl

/-- the upward product -/
theorem v17_eq : val_main_v17 (F := Ideal) h n wu = fun i => upAt h n wu (i 0) (i 1) (i 2) := by
  funext i
  idx_vars i
  pointwise [val_main_v17, v15_eq]
  rfl

/-- the gate -/
theorem v18_2_eq : val_main_v18_2 (F := Ideal) h n wg = fun i => Ideal.logistic (upAt h n wg (i 0) (i 1) (i 2)) := by
  funext i
  idx_vars i
  pointwise [val_main_v18_2, val_main_call0_v4, val_main_call0_v3, val_main_call0_v2, val_main_call0_v1, val_main_call0_v0,
    val_main_call0_cst, val_main_call0_cst_0, v16_eq]
  rfl

theorem v18_1_eq : val_main_v18_1 (F := Ideal) h n wg
    = fun i => Ideal.logistic (upAt h n wg (i 0) (i 1) (i 2)) * (1 - Ideal.logistic (upAt h n wg (i 0) (i 1) (i 2))) := by
  funext i
  idx_vars i
  pointwise [val_main_v18_1, val_main_call0_v7, val_main_call0_v6, val_main_call0_cst_1, v18_2_eq]

theorem v18_0_eq : val_main_v18_0 (F := Ideal) h n wg
    = fun i => upAt h n wg (i 0) (i 1) (i 2) * Ideal.logistic (upAt h n wg (i 0) (i 1) (i 2)) := by
  funext i
  idx_vars i
  pointwise [val_main_v18_0, v16_eq, v18_2_eq]

/-- the gated rows -/
theorem v19_eq : val_main_v19 (F := Ideal) h n wg wu = fun i => actAt h n wg wu (i 0) (i 1) (i 2) := by
  funext i
  idx_vars i
  pointwise [val_main_v19, v18_0_eq, v17_eq]
  rfl

/-- the layer -/
theorem v23_eq : val_main_v23 (F := Ideal) h n wg wu wd = fun i => ffnAt h n wg wu wd (i 0) (i 1) (i 2) := by
  funext i
  idx_vars i
  pointwise [val_main_v23, val_main_v22, val_main_v21, val_main_v20, val_main_cst_3, v19_eq]
  simp only [word_half]
  rfl

/-- the cotangent of the downward product -/
theorem v26_eq : val_main_v26 (F := Ideal) d = fun i => dyAt d (i 0) (i 1) (i 2) := by
  funext i
  idx_vars i
  pointwise [val_main_v26, val_main_v25, val_main_v24, val_main_cst_4]
  simp only [word_half]
  rfl

/-- the cotangent of the gated rows -/
theorem v27_eq : val_main_v27 (F := Ideal) wd d = fun i => dactAt d wd (i 0) (i 1) (i 2) := by
  funext i
  idx_vars i
  pointwise [val_main_v27, v26_eq]
  rfl

/-- the cotangent of the upward product -/
theorem v28_eq : val_main_v28 (F := Ideal) h n wg wd d = fun i => duAt h d n wg wd (i 0) (i 1) (i 2) := by
  funext i
  idx_vars i
  pointwise [val_main_v28, v18_0_eq, v27_eq]
  exact mul_comm _ _

variable (hn : AllReal n) (hu : AllReal wu) (hw : AllReal wd) (hd : AllReal d)

include hn hu hw hd

/-- the cotangent of the gate's product -/
theorem v30_eq : val_main_v30 (F := Ideal) h n wg wu wd d = fun i => dgAt h d n wg wu wd (i 0) (i 1) (i 2) := by
  funext i
  idx_vars i
  show _ = dgAt h d n wg wu wd i0 i1 i2
  rw [← dg_alt h d n wg wu wd hn hu hw hd]
  pointwise [val_main_v30, val_main_call1_v2, val_main_call1_v1, val_main_call1_v0, val_main_v29, v27_eq, v17_eq, v16_eq, v18_2_eq, v18_1_eq]

/-- the cotangent of the normalised, scaled rows -/
theorem v33_eq : val_main_v33 (F := Ideal) h n wg wu wd d = fun i => dxAt h d n wg wu wd (i 0) (i 1) (i 2) := by
  funext i
  idx_vars i
  pointwise [val_main_v33, val_main_v32, val_main_v31, v28_eq, v30_eq h d n wg wu wd hn hu hw hd]
  rfl

/-- the layer input's gradient, rows flattened -/
theorem v60_at (i : S8192x1024.Idx) : val_main_v60 (F := Ideal) h n wg wu wd d i
    = dhAt h d n wg wu wd (seq (i 0).val (i 0).isLt) (pos (i 0).val) (i 1) := by
  idx_vars i
  show _ = dhAt h d n wg wu wd (seq i0.val i0.isLt) (pos i0.val) i1
  unfold dhAt
  rw [← rowGrad_eq]
  pointwise [val_main_v60, val_main_v59, val_main_v53, val_main_v52, val_main_v51, val_main_v50, val_main_v49, val_main_v48,
    val_main_v47, val_main_v46, val_main_v45, val_main_v44, val_main_v43, val_main_v42, val_main_v41, val_main_v40, val_main_v38,
    val_main_v37, val_main_v13, val_main_v10, val_main_v9, val_main_v8, val_main_cst_2, val_main_cst_7, val_main_cst_8,
    val_main_cst_9, v7_eq, v6_eq, v33_eq h d n wg wu wd hn hu hw hd]
  simp only [word_1024, word_neg_half, Fin.sum_univ_one]
  rfl

/-- the gain's gradient in row 0 -/
theorem v62_at (i : S8x1024.Idx) : val_main_v62 (F := Ideal) h n wg wu wd d i
    = if ((i 0).val : ℕ) = 0 then ∑ b : Fin 4, ∑ s : Fin 2048, dnAt h d n wg wu wd (i 1) b s else 0 := by
  idx_vars i
  show _ = if (i0 : ℕ) = 0 then ∑ b : Fin 4, ∑ s : Fin 2048, dnAt h d n wg wu wd i1 b s else 0
  pointwise [val_main_v62, val_main_v61, val_main_v39, val_main_cst_6, val_main_call2_v0, val_main_c]
  by_cases h0 : (i0 : ℕ) = 0
  · rw [dif_pos (by omega), hostReduceAdd_lead]
    pointwise [val_main_v36, val_main_v35, val_main_cst_5]
    rw [hostReduceAdd_lead]
    pointwise [val_main_v34, v12_eq, v33_eq h d n wg wu wd hn hu hw hd]
    rw [if_pos h0]
    simp only [Fin.sum_univ_one]
    exact Finset.sum_congr rfl fun b _ => Finset.sum_congr rfl fun s _ => mul_comm _ _
  · rw [dif_neg (by omega), if_neg h0]
    exact sitofp_zero _

end Cert.FfnRefIdeal.Value
-- ==== Proof.FiniteArg.lean ====
module

public import Idealize.ShloMosaic.Lib.Pointwise
public import Idealize.ShloMosaic.Lib.KernelVsHost

/-! # A finite argument is an array of reals -/

@[expose] public section

noncomputable section

namespace Cert.Grad

open Idealize.ShloMosaic

/-- `|x| < +∞` at an extended real makes it a real -/
theorem real_of_abs_lt (x : Ideal .f32)
    (h : FloatOps.cmpf .olt (FloatOps.hostAbsf x) (FloatOps.ofBits (F := Ideal) .f32 0x7F800000#32) = 1#1) :
    ∃ r : ℝ, x = (r : EReal) := by
  rw [← Ideal.xori_weird_eq_hostAbsf_olt_inf] at h
  have h1 : IntOp.xori (BitVec.ofBool (decide ((x : EReal) = ⊤ ∨ (x : EReal) = ⊥))) 1#1 = 1#1 := h
  by_cases hx : (x : EReal) = ⊤ ∨ (x : EReal) = ⊥
  · simp [hx, IntOp.xori] at h1
  · push Not at hx
    exact ⟨(x : EReal).toReal, (EReal.coe_toReal hx.1 hx.2).symm⟩

/-- an array whose test "absolute value below infinity" holds everywhere is an array of reals -/
theorem real_of_finite {S : Shape} (hb : (⟨0, ![]⟩ : Shape).BroadcastsInDim S (![] : Fin 0 → Fin S.rank)) (x : FVec Ideal S .f32)
    (h : cmpf .olt (Host.absf x) (broadcastInDim S ![] hb (constant ⟨0, ![]⟩ .f32 0x7F800000#32)) = fun _ => 1#1) :
    ∃ r : S.Idx → ℝ, x = fun i => ((r i : ℝ) : EReal) := by
  have hi := fun i => real_of_abs_lt (x i) (congrFun h i)
  choose r hr using hi
  exact ⟨r, funext hr⟩

end Cert.Grad
-- ==== Proof.FfnEq.lean ====
module

public import proofs.«01_k».proof.Proof.FfnArrays
public import proofs.«01_k».proof.Proof.FfnRef
public import proofs.«01_k».proof.Proof.FiniteArg
public import proofs.«01_k».proof.Proof.Gen.Pre_finite_ffn
public import proofs.«01_k».proof.Defs

/-! # The feed-forward layer and its gradient: the kernel's results are the reference's -/

@[expose] public section

noncomputable section

open Idealize.ShloMosaic Idealize.ShloMosaic.TcCoe Idealize.SL.Sem

namespace Cert.FfnIdeal.Value
open Cert.FfnIdeal Cert.FfnIdeal.Gen Cert.Grad Cert.FfnRefIdeal.Value Cert.FfnRefIdeal.Read

variable (m : (ℓ : Loc nD τ sig) → Buf (Elt Ideal) ℓ) (c : Dev nD)

theorem out_eq : flat (ffnAt (argH m c) (argN m c) (argG m c) (argU m c) (argW m c))
    = val_main_v54 (F := Ideal) (argH m c) (argN m c) (argG m c) (argU m c) (argW m c) := by
  funext i
  idx_vars i
  pointwise [val_main_v54, v23_eq]
  rfl

theorem g_eq : flat (upAt (argH m c) (argN m c) (argG m c)) = val_main_v56 (F := Ideal) (argH m c) (argN m c) (argG m c) := by
  funext i
  idx_vars i
  pointwise [val_main_v56, val_main_v55, v16_eq]
  rfl

theorem u_eq : flat (upAt (argH m c) (argN m c) (argU m c)) = val_main_v58 (F := Ideal) (argH m c) (argN m c) (argU m c) := by
  funext i
  idx_vars i
  pointwise [val_main_v58, val_main_v57, v17_eq]
  rfl

theorem xn_eq : flat (xnAt (argH m c) (argN m c)) = val_main_v64 (F := Ideal) (argH m c) (argN m c) := by
  funext i
  idx_vars i
  pointwise [val_main_v64, val_main_v63, v15_eq]
  rfl

theorem act_eq : flat (actAt (argH m c) (argN m c) (argG m c) (argU m c))
    = val_main_v66 (F := Ideal) (argH m c) (argN m c) (argG m c) (argU m c) := by
  funext i
  idx_vars i
  pointwise [val_main_v66, val_main_v65, v19_eq]
  rfl

theorem du_eq : flat (duAt (argH m c) (argD m c) (argN m c) (argG m c) (argW m c))
    = val_main_v70 (F := Ideal) (argH m c) (argN m c) (argG m c) (argW m c) (argD m c) := by
  funext i
  idx_vars i
  pointwise [val_main_v70, val_main_v69, v28_eq]
  rfl

theorem dy_eq : flat (dyAt (argD m c)) = val_main_v72 (F := Ideal) (argD m c) := by
  funext i
  idx_vars i
  pointwise [val_main_v72, val_main_v71, v26_eq]
  rfl

variable (hn : AllReal (argN m c)) (hu : AllReal (argU m c)) (hw : AllReal (argW m c)) (hd : AllReal (argD m c))
include hn hu hw hd

theorem dh_eq : flat (dhAt (argH m c) (argD m c) (argN m c) (argG m c) (argU m c) (argW m c))
    = val_main_v60 (F := Ideal) (argH m c) (argN m c) (argG m c) (argU m c) (argW m c) (argD m c) := by
  funext i
  rw [v60_at _ _ _ _ _ _ hn hu hw hd]
  rfl

theorem dn_eq : (fun i : S8x1024.Idx => top (fun l => ∑ p : Fin cfg1.N, dnRow m c p l) (i 0) (i 1))
    = val_main_v62 (F := Ideal) (argH m c) (argN m c) (argG m c) (argU m c) (argW m c) (argD m c) := by
  funext i
  rw [v62_at _ _ _ _ _ _ hn hu hw hd]
  exact ite_congr rfl (fun _ => sum_rows 8 rows1 rfl (dnAt (argH m c) (argD m c) (argN m c) (argG m c) (argU m c) (argW m c) (i 1))) fun _ => rfl

theorem dg_eq : flat (dgAt (argH m c) (argD m c) (argN m c) (argG m c) (argU m c) (argW m c))
    = val_main_v68 (F := Ideal) (argH m c) (argN m c) (argG m c) (argU m c) (argW m c) (argD m c) := by
  funext i
  idx_vars i
  pointwise [val_main_v68, val_main_v67, v30_eq _ _ _ _ _ _ hn hu hw hd]
  rfl

end Cert.FfnIdeal.Value

namespace Cert.Proof
open Cert.FfnIdeal.Value Cert.Grad

set_option maxHeartbeats 2000000 in
/-- over a finite gain, finite upward and downward matrices and a finite cotangent the two programs compute the same ten arrays -/
theorem ffn : Cert.algebraic_FfnIdeal_FfnRefIdeal_pre_finite_ffn := by
  intro m ρ m' ρ' hp ha
  open Cert.FfnIdeal Cert.FfnIdeal.Gen in
  refine ⟨fun c => (dat0 (V1 m ρ) c).arrAt 5 cfg0.N, fun c => (dat0 (V1 m ρ) c).arrAt 6 cfg0.N, fun c => (dat0 (V1 m ρ) c).arrAt 7 cfg0.N,
    fun c => (dat1 (V3 m ρ) c).arrAt 8 cfg1.N, fun c => (dat1 (V3 m ρ) c).arrAt 9 cfg1.N, fun c => (dat1 (V3 m ρ) c).arrAt 10 cfg1.N,
    fun c => (dat1 (V3 m ρ) c).arrAt 11 cfg1.N, fun c => (dat1 (V3 m ρ) c).arrAt 12 cfg1.N, fun c => (dat1 (V3 m ρ) c).arrAt 13 cfg1.N,
    fun c => (dat1 (V3 m ρ) c).arrAt 14 cfg1.N, Cert.FfnIdeal.Value.run_arrays m ρ, ?_⟩
  refine (θ_run _ _ _).mono (fun r hr c => ?_) (Cert.FfnRefIdeal.Value.run m' ρ')
  obtain ⟨r0, r1, r2, r3, r4, r5, r6, r7, r8, r9, k⟩ := hr c
  obtain ⟨a0, a1, a2, a3, a4, a5⟩ := ha c
  obtain ⟨p1, p3, p4, p5⟩ := hp c
  obtain ⟨n, en⟩ := real_of_finite _ _ p1
  obtain ⟨u, eu⟩ := real_of_finite _ _ p3
  obtain ⟨w, ew⟩ := real_of_finite _ _ p4
  obtain ⟨d, ed⟩ := real_of_finite _ _ p5
  have hn : AllReal (argN m c) := fun i => ⟨n i, congrFun en i⟩
  have hu : AllReal (argU m c) := fun i => ⟨u i, congrFun eu i⟩
  have hw : AllReal (argW m c) := fun i => ⟨w i, congrFun ew i⟩
  have hd : AllReal (argD m c) := fun i => ⟨d i, congrFun ed i⟩
  open Cert.FfnRefIdeal.Read in
  refine ⟨r0.trans ((val_main_v54_eq _ _ _ _ _).trans ?_), r1.trans ((val_main_v56_eq _ _ _).trans ?_),
    r2.trans ((val_main_v58_eq _ _ _).trans ?_), r3.trans ((val_main_v60_eq m' c).trans ?_),
    r4.trans ((val_main_v62_eq m' c).trans ?_), r5.trans ((val_main_v64_eq _ _).trans ?_),
    r6.trans ((val_main_v66_eq _ _ _ _).trans ?_), r7.trans ((val_main_v68_eq m' c).trans ?_),
    r8.trans ((val_main_v70_eq _ _ _ _ _).trans ?_), r9.trans ((val_main_v72_eq _).trans ?_), k⟩
  · rw [a0, a1, a2, a3, a4]; exact ((final_out m ρ c).trans (out_eq m c)).symm
  · rw [a0, a1, a2]; exact ((final_g m ρ c).trans (g_eq m c)).symm
  · rw [a0, a1, a3]; exact ((final_u m ρ c).trans (u_eq m c)).symm
  · rw [a0, a1, a2, a3, a4, a5]; exact ((final_dh m ρ c).trans (dh_eq m c hn hu hw hd)).symm
  · rw [a0, a1, a2, a3, a4, a5]; exact ((final_dn m ρ c).trans (dn_eq m c hn hu hw hd)).symm
  · rw [a0, a1]; exact ((final_xn m ρ c).trans (xn_eq m c)).symm
  · rw [a0, a1, a2, a3]; exact ((final_act m ρ c).trans (act_eq m c)).symm
  · rw [a0, a1, a2, a3, a4, a5]; exact ((final_dgate m ρ c).trans (dg_eq m c hn hu hw hd)).symm
  · rw [a0, a1, a2, a4, a5]; exact ((final_du m ρ c).trans (du_eq m c)).symm
  · rw [a5]; exact ((final_dy m ρ c).trans (dy_eq m c)).symm

end Cert.Proof
-- ==== Proof.InProj.lean ====
module

public import proofs.«01_k».proof.Proof.Rows

/-! # The gradients of a normalised row times a matrix

`y = (x · rs x · g) @ w` row by row, with `x` also going on to the next layer: what its cotangents `d` (of `y`) and `e` (of
`x`) give for `x`, `g` and `w`. -/

@[expose] public section

noncomputable section

namespace Cert.Grad
open Idealize.ShloMosaic

variable {n : ℕ} (h : (⟨3, ![4, 2048, 1024]⟩ : Shape).Idx → EReal) (g : (⟨1, ![1024]⟩ : Shape).Idx → EReal)
  (w : (⟨2, ![1024, n]⟩ : Shape).Idx → EReal) (d : (⟨3, ![4, 2048, n]⟩ : Shape).Idx → EReal)
  (e : (⟨3, ![4, 2048, 1024]⟩ : Shape).Idx → EReal)

/-- the cotangent of the normalised, scaled row: the row of `d` times the transposed matrix -/
def dxnAt (b : Fin 4) (s : Fin 2048) (l : Fin 1024) : EReal := ∑ k : Fin n, rowAt d b s k * w (ix2 l k)

/-- the gradient of the hidden state -/
def inDh (b : Fin 4) (s : Fin 2048) (l : Fin 1024) : EReal :=
  rowAt e b s l + rowGrad (rowAt h b s) (fun k => dxnAt w d b s k * g (ix1 k)) l

/-- what a row adds to the gain's gradient -/
def inDgain (l : Fin 1024) (b : Fin 4) (s : Fin 2048) : EReal := dxnAt w d b s l * (rowAt h b s l * rs (rowAt h b s))

/-- what a row adds to the matrix' gradient, for column `k` of `y` -/
def inDw (k : Fin n) (l : Fin 1024) (b : Fin 4) (s : Fin 2048) : EReal :=
  rowAt d b s k * (rowAt h b s l * rs (rowAt h b s) * g (ix1 l))

/-- a row of width `n` as a row of any greater width: zeros past its end -/
def padRow (f : Fin n → EReal) (k : ℕ) : EReal := if h : k < n then f ⟨k, h⟩ else 0

/-- columns of zeros add nothing to a product of rows -/
theorem sum_padRow {N : ℕ} (hN : n ≤ N) (f v : Fin n → EReal) :
    ∑ k : Fin N, padRow f k.val * padRow v k.val = ∑ k : Fin n, f k * v k := by
  obtain ⟨j, rfl⟩ := Nat.exists_eq_add_of_le hN
  rw [Fin.sum_univ_add]
  refine (congrArg₂ (· + ·) (Finset.sum_congr rfl fun k _ => ?_) (Finset.sum_eq_zero fun k _ => ?_)).trans
    (add_zero (∑ k : Fin n, f k * v k))
  · unfold padRow
    have hk : (Fin.castAdd j k).val < n := k.isLt
    rw [dif_pos hk, dif_pos hk]
    rfl
  · unfold padRow
    rw [dif_neg (show ¬(Fin.natAdd n k).val < n by rw [Fin.val_natAdd]; omega), zero_mul]

end Cert.Grad
-- ==== Proof.InAbPoint.lean ====
module

public import proofs.«01_k».proof.Proof.InProj
public import proofs.«01_k».proof.Proof.Gen.InAbBwdIdeal.Skeleton

/-! # The block arithmetic of the input projection's gradient, even layers

What the body stores, read at an index; the four pieces of the projection's cotangent are one row `q`. -/

@[expose] public section

noncomputable section

open Idealize.ShloMosaic Idealize.ShloMosaic.TcCoe Idealize.SL.Sem

namespace Cert.InAbBwdIdeal.Value
open Cert.InAbBwdIdeal Cert.InAbBwdIdeal.Gen Cert.Grad

variable (q : Fin 512 → ℕ → EReal) (g : Vec Ideal S1x1024 .f32) (h e : Vec Ideal S512x1024 .f32) (w : Vec Ideal S2688x1024 .bf16)

/-- piece of the cotangent of width `n` from column `o` on -/
def piece (n o : ℕ) (i : (⟨2, ![512, n]⟩ : Shape).Idx) : EReal := q (i 0) (o + (i 1).val)

/-- the four pieces side by side are the row -/
theorem pieces_at (r : Fin 512) (k : Fin 2688) :
    k0_pay12 (F := Ideal) (piece q 512 0) (piece q 1536 512) (piece q 512 2048) (piece q 128 2560) (ix2 r k) = q r k.val := by
  pointwise [k0_pay12]
  unfold piece
  have hk := k.isLt
  split
  · exact congrArg (q r) (Nat.zero_add _)
  split
  · exact congrArg (q r) (by show 512 + (k.val - 512) = k.val; omega)
  split
  · exact congrArg (q r) (by show 2048 + (k.val - 512 - 1536) = k.val; omega)
  · exact congrArg (q r) (by show 2560 + (k.val - 512 - 1536 - 512) = k.val; omega)

/-- the cotangent of the normalised, scaled row -/
theorem dxn_at (r : Fin 512) (l : Fin 1024) :
    k0_pay13 (F := Ideal) (piece q 512 0) (piece q 1536 512) (piece q 512 2048) (piece q 128 2560) w (ix2 r l)
      = ∑ k : Fin 2688, q r k.val * w (ix2 k l) := by
  pointwise [k0_pay13, pieces_at]

/-- what a point adds to the matrix' gradient -/
theorem dw_at (v : Vec Ideal S2688x1024 .f32) (k : Fin 2688) (l : Fin 1024) :
    k0_pay5 (k0_pay11 g h) (k0_pay12 (F := Ideal) (piece q 512 0) (piece q 1536 512) (piece q 512 2048) (piece q 128 2560)) v (ix2 k l)
      = v (ix2 k l) + ∑ r : Fin 512, q r k.val * (h (ix2 r l) * rs (fun k => h (ix2 r k)) * g (ix2 0 l)) := by
  pointwise [k0_pay5, k0_pay11, k0_pay10, k0_pay9, k0_pay8, k0_pay7, pieces_at]
  simp only [word_1024, word_eps]
  rfl

/-- the hidden state's gradient block -/
theorem dh_at (r : Fin 512) (l : Fin 1024) :
    k0_pay1 (k0_pay14 (F := Ideal) g h (piece q 512 0) (piece q 1536 512) (piece q 512 2048) (piece q 128 2560) w) (k0_pay15 h) e (ix2 r l)
      = e (ix2 r l) + rowGrad (fun k => h (ix2 r k)) (fun l => (∑ k : Fin 2688, q r k.val * w (ix2 k l)) * g (ix2 0 l)) l := by
  pointwise [k0_pay1, k0_pay14, k0_pay15, k0_pay10, k0_pay9, k0_pay8, k0_pay7, dxn_at]
  simp only [word_1024, word_eps]
  rfl

/-- what a point adds to the gain's gradient -/
theorem dgain_at (v : Vec Ideal S1x1024 .f32) (z : Fin 1) (l : Fin 1024) :
    k0_pay3 (k0_pay10 h) (k0_pay13 (F := Ideal) (piece q 512 0) (piece q 1536 512) (piece q 512 2048) (piece q 128 2560) w) v (ix2 z l)
      = v (ix2 z l) + ∑ r : Fin 512, (∑ k : Fin 2688, q r k.val * w (ix2 k l)) * (h (ix2 r l) * rs fun k => h (ix2 r k)) := by
  pointwise [k0_pay3, k0_pay10, k0_pay9, k0_pay8, dxn_at]
  simp only [word_1024, word_eps]
  rfl

end Cert.InAbBwdIdeal.Value
-- ==== Proof.InAbArrays.lean ====
module

public import proofs.«01_k».proof.Proof.InAbPoint
public import proofs.«01_k».proof.Proof.AccRow
public import proofs.«01_k».proof.Proof.Gen.InAbBwdIdeal.Value
public import Idealize.ShloMosaic.Lib.StableHlo.ReadAt

/-! # The result arrays of the input projection's gradient, even layers -/

@[expose] public section

noncomputable section

open Idealize.ShloMosaic Idealize.ShloMosaic.TcCoe Idealize.SL.Sem

namespace Cert.InAbBwdIdeal.Value
open Cert.InAbBwdIdeal Cert.InAbBwdIdeal.Gen Cert.Grad

/-- every window's block index at every point -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![0, 0] ∧ win0_8.index t = ![t.val, 0] ∧ win0_9.index t = ![0, 0] ∧ win0_10.index t = ![0, 0] :=
  (by decide +kernel : ∀ t : Fin grid0.N, _)

/-- sixteen points of 512 rows -/
theorem rows : cfg0.N * 512 = 8192 := by rw [show cfg0.N = 16 from N_0]

variable (m : (ℓ : Loc nD τ sig) → Buf (Elt Ideal) ℓ) (c : Dev nD)

/-- the hidden state on device `c` -/
abbrev argH : S4x2048x1024.Idx → EReal := m ((c : Thread nD τ).loc main_arg0)
/-- the gain on device `c` -/
abbrev argG : S1024.Idx → EReal := m ((c : Thread nD τ).loc main_arg1)
/-- the matrix on device `c` -/
abbrev argW : S1024x2568.Idx → EReal := m ((c : Thread nD τ).loc main_arg2)
/-- the cotangent of the projection on device `c` -/
abbrev argD : S4x2048x2568.Idx → EReal := m ((c : Thread nD τ).loc main_arg3)
/-- the cotangent of the hidden state on device `c` -/
abbrev argE : S4x2048x1024.Idx → EReal := m ((c : Thread nD τ).loc main_arg4)

/-- the sequence of row `r` of point `p` -/
abbrev bOf (p : Fin cfg0.N) (r : Fin 512) : Fin 4 := seq (p.val * 512 + r.val) (row_lt rows p r)
/-- its place there -/
abbrev sOf (p : Fin cfg0.N) (r : Fin 512) : Fin 2048 := pos (p.val * 512 + r.val)

/-- the cotangent's rows at point `p`, zeros past column 2568 -/
def dRow (p : Fin cfg0.N) (r : Fin 512) (k : ℕ) : EReal := padRow (rowAt (argD m c) (bOf p r) (sOf p r)) k

/-- the hidden state's rows at point `p` -/
theorem blk_h (p : Fin cfg0.N) : iblk m c 0 p = fun i : S512x1024.Idx => rowAt (argH m c) (bOf p (i 0)) (sOf p (i 0)) (i 1) := by
  funext i
  blk_simp [iblk]
  unfold_abbrev_sides
  simp only [hostOps0, hostOps0_1, hostOps0_2, hostOps0_3, hostOps0_4, List.flatten, List.append]
  after_reads_at
  blk_ext [idx p, seq, pos]

/-- its cotangent's rows -/
theorem blk_e (p : Fin cfg0.N) : iblk m c 6 p = fun i : S512x1024.Idx => rowAt (argE m c) (bOf p (i 0)) (sOf p (i 0)) (i 1) := by
  funext i
  blk_simp [iblk]
  unfold_abbrev_sides
  simp only [hostOps0, hostOps0_1, hostOps0_2, hostOps0_3, hostOps0_4, List.flatten, List.append]
  after_reads_at
  blk_ext [idx p, seq, pos]

/-- the gain -/
theorem blk_g (p : Fin cfg0.N) : iblk m c 1 p = fun i : S1x1024.Idx => argG m c (ix1 (i 1)) := by
  funext i
  blk_simp [iblk]
  unfold_abbrev_sides
  simp only [hostOps0, hostOps0_1, hostOps0_2, hostOps0_3, hostOps0_4, List.flatten, List.append]
  after_reads_at
  blk_ext [idx p]

/-- the matrix, its columns as rows and rows of zeros below -/
theorem blk_w (p : Fin cfg0.N) :
    iblk m c 7 p = fun i : S2688x1024.Idx => padRow (fun k => argW m c (ix2 (i 1) k)) (i 0).val := by
  funext i
  blk_simp [iblk]
  unfold_abbrev_sides
  simp only [hostOps0, hostOps0_1, hostOps0_2, hostOps0_3, hostOps0_4, List.flatten, List.append]
  after_reads_at
  have e : (((View.whole main_v2).slice (win0_7.rect p)).emb i 0).val = (i 0).val := by
    show win0_7.index p (0 : Fin 2) * 2688 + 1 * (i 0).val = (i 0).val
    rw [(idx p).2.2.2.2.2.2.2.1]
    show 0 * 2688 + 1 * (i 0).val = (i 0).val
    omega
  unfold padRow
  by_cases hk : (i 0).val < 2568
  · rw [dif_pos hk, dif_pos (e ▸ hk)]
    show _ = m ((c : Thread nD τ).loc main_arg2) (ix2 (i 1) ⟨(i 0).val, hk⟩)
    blk_ext [idx p]
  · rw [dif_neg hk, dif_neg (fun h => hk (e ▸ h)), sitofp_zero]

/-- the cotangent's columns from 0 on -/
theorem blk_a (p : Fin cfg0.N) : iblk m c 2 p = piece (dRow m c p) 512 0 := by
  funext i
  blk_simp [iblk]
  unfold_abbrev_sides
  simp only [hostOps0, hostOps0_1, hostOps0_2, hostOps0_3, hostOps0_4, List.flatten, List.append]
  after_reads_at
  have hk : 0 + (i 1).val < 2568 := by have h1 : (i 1).val < 512 := (i 1).isLt; omega
  refine Eq.trans ?_ (dif_pos hk).symm
  show _ = m ((c : Thread nD τ).loc main_arg3) (ix3 (bOf p (i 0)) (sOf p (i 0)) ⟨0 + (i 1).val, hk⟩)
  blk_ext [idx p, seq, pos]

/-- the cotangent's columns from 512 on -/
theorem blk_qkv (p : Fin cfg0.N) : iblk m c 3 p = piece (dRow m c p) 1536 512 := by
  funext i
  blk_simp [iblk]
  unfold_abbrev_sides
  simp only [hostOps0, hostOps0_1, hostOps0_2, hostOps0_3, hostOps0_4, List.flatten, List.append]
  after_reads_at
  have hk : 512 + (i 1).val < 2568 := by have h1 : (i 1).val < 1536 := (i 1).isLt; omega
  refine Eq.trans ?_ (dif_pos hk).symm
  show _ = m ((c : Thread nD τ).loc main_arg3) (ix3 (bOf p (i 0)) (sOf p (i 0)) ⟨512 + (i 1).val, hk⟩)
  blk_ext [idx p, seq, pos]

/-- the cotangent's columns from 2048 on -/
theorem blk_z (p : Fin cfg0.N) : iblk m c 4 p = piece (dRow m c p) 512 2048 := by
  funext i
  blk_simp [iblk]
  unfold_abbrev_sides
  simp only [hostOps0, hostOps0_1, hostOps0_2, hostOps0_3, hostOps0_4, List.flatten, List.append]
  after_reads_at
  have hk : 2048 + (i 1).val < 2568 := by have h1 : (i 1).val < 512 := (i 1).isLt; omega
  refine Eq.trans ?_ (dif_pos hk).symm
  show _ = m ((c : Thread nD τ).loc main_arg3) (ix3 (bOf p (i 0)) (sOf p (i 0)) ⟨2048 + (i 1).val, hk⟩)
  blk_ext [idx p, seq, pos]

/-- the cotangent's last columns and zeros -/
theorem blk_bg (p : Fin cfg0.N) : iblk m c 5 p = piece (dRow m c p) 128 2560 := by
  funext i
  blk_simp [iblk]
  unfold_abbrev_sides
  simp only [hostOps0, hostOps0_1, hostOps0_2, hostOps0_3, hostOps0_4, List.flatten, List.append]
  after_reads_at
  have e : (((View.whole main_v12).slice (win0_5.rect p)).emb i 1).val = (i 1).val := by
    show win0_5.index p (1 : Fin 2) * 128 + 1 * (i 1).val = (i 1).val
    rw [(idx p).2.2.2.2.2.1]
    show 0 * 128 + 1 * (i 1).val = (i 1).val
    omega
  by_cases hk : 2560 + (i 1).val < 2568
  · refine (dif_pos (by omega)).trans (Eq.trans ?_ (dif_pos hk).symm)
    show _ = m ((c : Thread nD τ).loc main_arg3) (ix3 (bOf p (i 0)) (sOf p (i 0)) ⟨2560 + (i 1).val, hk⟩)
    blk_ext [idx p, seq, pos]
  · refine (dif_neg (by omega)).trans (Eq.trans ?_ (dif_neg hk).symm)
    exact sitofp_zero _

/-- the cotangent of the normalised, scaled row -/
theorem dxn_eq (p : Fin cfg0.N) (r : Fin 512) (l : Fin 1024) :
    (∑ k : Fin 2688, dRow m c p r k.val * padRow (fun k => argW m c (ix2 l k)) k.val)
      = dxnAt (argW m c) (argD m c) (bOf p r) (sOf p r) l :=
  sum_padRow (by omega) _ _

theorem dh_term (p : Fin cfg0.N) (r : Fin 512) (l : Fin 1024) :
    k0_pay1 (k0_pay14 (iblk m c 1 p) (iblk m c 0 p) (iblk m c 2 p) (iblk m c 3 p) (iblk m c 4 p) (iblk m c 5 p) (iblk m c 7 p))
      (k0_pay15 (iblk m c 0 p)) (iblk m c 6 p) (ix2 r l)
      = inDh (argH m c) (argG m c) (argW m c) (argD m c) (argE m c) (bOf p r) (sOf p r) l := by
  rw [blk_h, blk_g, blk_a, blk_qkv, blk_z, blk_bg, blk_w, blk_e]
  refine (dh_at _ _ _ _ _ r l).trans (congrArg (rowAt (argE m c) (bOf p r) (sOf p r) l + rowGrad (rowAt (argH m c) (bOf p r) (sOf p r)) · l) ?_)
  funext k
  exact congrArg (· * _) (dxn_eq m c p r k)

/-- the array of the hidden state's gradient -/
def dhOut (i : S8192x1024.Idx) : EReal :=
  inDh (argH m c) (argG m c) (argW m c) (argD m c) (argE m c) (seq (i 0).val (i 0).isLt) (pos (i 0).val) (i 1)

/-- the first result: the hidden state's gradient -/
theorem final_dh : (dats m 0 c).arrAt 8 cfg0.N = dhOut m c := by
  refine (dats m 0 c).arrAt_eq_of_covers 8 _ (by decide +kernel) fun p _ y => ?_
  blk_simp
  rw [after0_8]
  have hc : (outsAt0 m c p.val p.isLt).1 = k0_pay1 (k0_pay14 (iblk m c 1 p) (iblk m c 0 p) (iblk m c 2 p) (iblk m c 3 p) (iblk m c 4 p)
      (iblk m c 5 p) (iblk m c 7 p)) (k0_pay15 (iblk m c 0 p)) (iblk m c 6 p) := by
    by_cases h0 : p.val % 16 = 0
    · rw [outsAt0_A m c p h0 h0 (by omega)]; frame_out
    · by_cases h2 : p.val % 16 = 15
      · rw [outsAt0_C m c p h0 h0 h2]; frame_out
      · rw [outsAt0_B m c p h0 h0 h2]; frame_out
  rw [hc]
  refine ((congrArg _ (eq_ix2 y)).trans (dh_term m c p (y 0) (y 1))).trans
    (congrArg (dhOut m c) (a₁ := ix2 ⟨p.val * 512 + (y 0).val, row_lt rows p (y 0)⟩ (y 1)) ?_)
  blk_ext [idx p]

/-- what point `p` adds to row 0 of the gain's gradient -/
def dgRow (p : Fin cfg0.N) (l : Fin 1024) : EReal :=
  ∑ r : Fin 512, inDgain (argH m c) (argW m c) (argD m c) l (bOf p r) (sOf p r)

theorem dgain_term (p : Fin cfg0.N) (v : Vec Ideal S1x1024 .f32) (l : Fin 1024) :
    k0_pay3 (k0_pay10 (iblk m c 0 p)) (k0_pay13 (iblk m c 2 p) (iblk m c 3 p) (iblk m c 4 p) (iblk m c 5 p) (iblk m c 7 p)) v (ix2 (0 : Fin 1) l)
      = v (ix2 0 l) + dgRow m c p l := by
  rw [blk_h, blk_a, blk_qkv, blk_z, blk_bg, blk_w]
  refine (dgain_at _ _ _ v 0 l).trans (congrArg (v (ix2 0 l) + ·) (Finset.sum_congr rfl fun r _ => ?_))
  exact congrArg (· * _) (dxn_eq m c p r l)

/-- the second result: row 0 is the gain's gradient, the other rows are zero -/
theorem final_dg :
    (dats m 0 c).arrAt 9 cfg0.N = fun i : S8x1024.Idx => top (fun l => ∑ p : Fin cfg0.N, dgRow m c p l) (i 0) (i 1) := by
  refine (dats m 0 c).arrAt_eq_of_after_last 9 t0_15 (by decide +kernel) _ fun j => ?_
  blk_simp
  rw [after0_9, Pipeline.eq_sum_fin_of_reset_step_apply_last (fun n h => (outsAt0 m c n h).2.1) 16 (fun _ => 0)
    (fun p j => top (dgRow m c p) (j 0) (j 1)) (fun p h0 j => ?_) (fun p h0 j => ?_) (le_of_eq N_0) t0_15 rfl j]
  · exact sum_top _ (j 0) (j 1)
  · rw [outsAt0_A m c p h0 h0 (by omega)]
    frame_out
    idx_vars j
    refine top_first _ _ _ _ (dgRow m c p) j0 j1 ((dgain_term m c p _ j1).trans ((congrArg (· + _) (readCov_row0 _ _ _ _ _)).trans ?_)) ?_
    · pointwise [k0_pay2]
    · pointwise [k0_pay2]
  · by_cases h2 : p.val % 16 = 15
    · rw [outsAt0_C m c p h0 h0 h2]
      frame_out
      idx_vars j
      refine top_next _ _ _ _ _ (dgRow m c p) j0 j1 ((dgain_term m c p _ j1).trans ?_)
      pointwise
    · rw [outsAt0_B m c p h0 h0 h2]
      frame_out
      idx_vars j
      refine top_next _ _ _ _ _ (dgRow m c p) j0 j1 ((dgain_term m c p _ j1).trans ?_)
      pointwise

/-- what point `p` adds to the matrix' gradient -/
def dwPart (p : Fin cfg0.N) (k : Fin 2688) (l : Fin 1024) : EReal :=
  ∑ r : Fin 512, dRow m c p r k.val * (rowAt (argH m c) (bOf p r) (sOf p r) l * rs (rowAt (argH m c) (bOf p r) (sOf p r)) * argG m c (ix1 l))

theorem dw_term (p : Fin cfg0.N) (v : Vec Ideal S2688x1024 .f32) (k : Fin 2688) (l : Fin 1024) :
    k0_pay5 (k0_pay11 (iblk m c 1 p) (iblk m c 0 p)) (k0_pay12 (iblk m c 2 p) (iblk m c 3 p) (iblk m c 4 p) (iblk m c 5 p)) v (ix2 k l)
      = v (ix2 k l) + dwPart m c p k l := by
  rw [blk_h, blk_g, blk_a, blk_qkv, blk_z, blk_bg]
  exact dw_at _ _ _ v k l

/-- the third result: the matrix' gradient, its columns as rows -/
theorem final_dw : (dats m 0 c).arrAt 10 cfg0.N = fun i : S2688x1024.Idx => ∑ p : Fin cfg0.N, dwPart m c p (i 0) (i 1) := by
  refine (dats m 0 c).arrAt_eq_of_after_last 10 t0_15 (by decide +kernel) _ fun j => ?_
  blk_simp
  have hl : (outsAt0 m c t0_15.val t0_15.isLt).2.2.1 = k0_pay6 (F := Ideal) (outsAt0 m c t0_15.val t0_15.isLt).2.2.2 := by
    rw [outsAt0_C m c t0_15 (by decide) (by decide) rfl]
    frame_out
  rw [after0_10, hl]
  show (outsAt0 m c t0_15.val t0_15.isLt).2.2.2 j = _
  rw [Pipeline.eq_sum_fin_of_reset_step_apply_last (fun n h => (outsAt0 m c n h).2.2.2) 16 (fun _ => 0)
    (fun p j => dwPart m c p (j 0) (j 1)) (fun p h0 j => ?_) (fun p h0 j => ?_) (le_of_eq N_0) t0_15 rfl j]
  · exact zero_add (∑ p : Fin cfg0.N, dwPart m c p (j 0) (j 1))
  · rw [outsAt0_A m c p h0 h0 (by omega)]
    frame_out
    idx_vars j
    refine (dw_term m c p _ j0 j1).trans ?_
    pointwise [k0_pay4]
  · by_cases h2 : p.val % 16 = 15
    · rw [outsAt0_C m c p h0 h0 h2]
      frame_out
      idx_vars j
      exact (dw_term m c p _ j0 j1).trans (congrArg (· + _) (congrFun (Memref.IsWhole.read_unread _ _) _))
    · rw [outsAt0_B m c p h0 h0 h2]
      frame_out
      idx_vars j
      exact (dw_term m c p _ j0 j1).trans (congrArg (· + _) (congrFun (Memref.IsWhole.read_unread _ _) _))

end Cert.InAbBwdIdeal.Value
-- ==== Proof.InAbRef.lean ====
module

public import proofs.«01_k».proof.Proof.InProj
public import proofs.«01_k».proof.Proof.LeadSum
public import proofs.«01_k».proof.Proof.Gen.InAbBwdRefIdeal.Read

/-! # The reference's results: the input projection's gradient, even layers -/

@[expose] public section

noncomputable section

open Idealize.ShloMosaic Idealize.ShloMosaic.TcCoe Idealize.SL.Sem

namespace Cert.InAbBwdRefIdeal.Value
open Cert.InAbBwdRefIdeal Cert.InAbBwdRefIdeal.Gen Cert.InAbBwdRefIdeal.Read Cert.Grad

variable (h : S4x2048x1024.Idx → EReal) (g : S1024.Idx → EReal) (w : S1024x2568.Idx → EReal) (d : S4x2048x2568.Idx → EReal)
  (e : S4x2048x1024.Idx → EReal)

theorem v6_eq : val_main_v6 (F := Ideal) h = fun i => ms (rowAt h (i 0) (i 1)) := by
  funext i
  idx_vars i
  pointwise [val_main_v6, val_main_v5, val_main_v4, val_main_v3, val_main_v2, val_main_v1, val_main_v0, val_main_cst, val_main_cst_0, val_main_cst_1]
  simp only [word_1024, word_eps]
  rfl

theorem v7_eq : val_main_v7 (F := Ideal) h = fun i => rs (rowAt h (i 0) (i 1)) := by
  funext i
  idx_vars i
  pointwise [val_main_v7, v6_eq]
  rfl

/-- the normalised rows -/
theorem v12_eq : val_main_v12 (F := Ideal) h = fun i => rowAt h (i 0) (i 1) (i 2) * rs (rowAt h (i 0) (i 1)) := by
  funext i
  idx_vars i
  pointwise [val_main_v12, val_main_v11, v7_eq]
  rfl

/-- the cotangent of the normalised, scaled rows -/
theorem v19_eq : val_main_v19 (F := Ideal) w d = fun i => dxnAt w d (i 0) (i 1) (i 2) := by
  funext i
  idx_vars i
  pointwise [val_main_v19]
  rfl

/-- the first result: the hidden state's gradient, rows flattened -/
theorem v41_at (i : S8192x1024.Idx) :
    val_main_v41 (F := Ideal) h g w d e i = inDh h g w d e (seq (i 0).val (i 0).isLt) (pos (i 0).val) (i 1) := by
  idx_vars i
  show _ = inDh h g w d e (seq i0.val i0.isLt) (pos i0.val) i1
  unfold inDh
  rw [← rowGrad_eq, ← add_assoc, ← add_assoc]
  pointwise [val_main_v41, val_main_v40, val_main_v39, val_main_v38, val_main_v37, val_main_v36, val_main_v35, val_main_v34,
    val_main_v33, val_main_v32, val_main_v31, val_main_v30, val_main_v29, val_main_v28, val_main_v27, val_main_v26, val_main_v24,
    val_main_v23, val_main_v13, val_main_v10, val_main_v9, val_main_v8, val_main_cst_2, val_main_cst_5, val_main_cst_6,
    val_main_cst_7, v7_eq, v6_eq, v19_eq]
  simp only [word_1024, word_neg_half, Fin.sum_univ_one]
  rfl

/-- the second result: the gain's gradient in row 0 -/
theorem v43_at (i : S8x1024.Idx) : val_main_v43 (F := Ideal) h w d i
    = if ((i 0).val : ℕ) = 0 then ∑ b : Fin 4, ∑ s : Fin 2048, inDgain h w d (i 1) b s else 0 := by
  idx_vars i
  show _ = if (i0 : ℕ) = 0 then ∑ b : Fin 4, ∑ s : Fin 2048, inDgain h w d i1 b s else 0
  pointwise [val_main_v43, val_main_v42, val_main_v25, val_main_cst_4, val_main_call0_v0, val_main_c]
  by_cases h0 : (i0 : ℕ) = 0
  · rw [dif_pos (by omega), hostReduceAdd_lead]
    pointwise [val_main_v22, val_main_v21, val_main_cst_3]
    rw [hostReduceAdd_lead]
    pointwise [val_main_v20, v12_eq, v19_eq]
    rw [if_pos h0]
    simp only [Fin.sum_univ_one]
    refine Finset.sum_congr rfl fun b _ => Finset.sum_congr rfl fun s _ => ?_
    exact mul_comm _ _
  · rw [dif_neg (by omega), if_neg h0]
    exact sitofp_zero _

/-- the third result: the matrix' gradient, its columns as rows and rows of zeros below -/
theorem v46_at (i : S2688x1024.Idx) : val_main_v46 (F := Ideal) h g d i
    = padRow (fun k => ∑ b : Fin 4, ∑ s : Fin 2048, inDw h g d k (i 1) b s) (i 0).val := by
  idx_vars i
  show _ = padRow (fun k => ∑ b : Fin 4, ∑ s : Fin 2048, inDw h g d k i1 b s) i0.val
  unfold padRow
  pointwise [val_main_v46, val_main_v45, val_main_v44, val_main_v18, val_main_v17, val_main_v15, val_main_v14, val_main_v13,
    v12_eq, val_main_call1_v0, val_main_c_8]
  by_cases h0 : (i0 : ℕ) < 2568
  · rw [dif_pos h0, dif_pos h0]
    rfl
  · rw [dif_neg h0, dif_neg h0]
    exact sitofp_zero _

end Cert.InAbBwdRefIdeal.Value
-- ==== Proof.InAbEq.lean ====
module

public import proofs.«01_k».proof.Proof.InAbArrays
public import proofs.«01_k».proof.Proof.InAbRef
public import proofs.«01_k».proof.Defs

/-! # The input projection's gradient, even layers: the kernel's results are the reference's -/

@[expose] public section

noncomputable section

open Idealize.ShloMosaic Idealize.ShloMosaic.TcCoe Idealize.SL.Sem

namespace Cert.InAbBwdIdeal.Value
open Cert.InAbBwdIdeal Cert.InAbBwdIdeal.Gen Cert.Grad

variable (m : (ℓ : Loc nD τ sig) → Buf (Elt Ideal) ℓ) (c : Dev nD)

/-- the kernel's gradient of the hidden state is the reference's -/
theorem dh_eq : dhOut m c
    = Cert.InAbBwdRefIdeal.Read.val_main_v41 (F := Ideal) (argH m c) (argG m c) (argW m c) (argD m c) (argE m c) := by
  funext i
  rw [Cert.InAbBwdRefIdeal.Value.v41_at]
  rfl

/-- the kernel's gradient of the gain is the reference's -/
theorem dg_eq : (fun i : S8x1024.Idx => top (fun l => ∑ p : Fin cfg0.N, dgRow m c p l) (i 0) (i 1))
    = Cert.InAbBwdRefIdeal.Read.val_main_v43 (F := Ideal) (argH m c) (argW m c) (argD m c) := by
  funext i
  rw [Cert.InAbBwdRefIdeal.Value.v43_at]
  exact ite_congr rfl (fun _ => sum_rows 4 rows rfl (inDgain (argH m c) (argW m c) (argD m c) (i 1))) fun _ => rfl

/-- the kernel's gradient of the matrix is the reference's -/
theorem dw_eq : (fun i : S2688x1024.Idx => ∑ p : Fin cfg0.N, dwPart m c p (i 0) (i 1))
    = Cert.InAbBwdRefIdeal.Read.val_main_v46 (F := Ideal) (argH m c) (argG m c) (argD m c) := by
  funext i
  rw [Cert.InAbBwdRefIdeal.Value.v46_at]
  show ∑ p : Fin cfg0.N, dwPart m c p (i 0) (i 1) = _
  unfold dwPart dRow padRow
  by_cases hk : (i 0).val < 2568
  · simp only [dif_pos hk]
    exact sum_rows 4 rows rfl (inDw (argH m c) (argG m c) (argD m c) ⟨(i 0).val, hk⟩ (i 1))
  · simp only [dif_neg hk, zero_mul, Finset.sum_const_zero]

end Cert.InAbBwdIdeal.Value

namespace Cert.Proof
open Cert.InAbBwdIdeal.Value Cert.Grad

/-- the two programs of the input projection's gradient, even layers, compute the same three arrays -/
theorem in_ab : Cert.algebraic_InAbBwdIdeal_InAbBwdRefIdeal := by
  intro m ρ m' ρ' _ ha
  refine ⟨fun c => (Cert.InAbBwdIdeal.Gen.dats m 0 c).arrAt 8 Cert.InAbBwdIdeal.cfg0.N, fun c => (Cert.InAbBwdIdeal.Gen.dats m 0 c).arrAt 9 Cert.InAbBwdIdeal.cfg0.N,
    fun c => (Cert.InAbBwdIdeal.Gen.dats m 0 c).arrAt 10 Cert.InAbBwdIdeal.cfg0.N, Cert.InAbBwdIdeal.Value.run_blocks m ρ, ?_⟩
  refine (θ_run _ _ _).mono (fun r hr c => ?_) (Cert.InAbBwdRefIdeal.Value.run m' ρ')
  obtain ⟨r0, r1, r2, k⟩ := hr c
  obtain ⟨a0, a1, a2, a3, a4⟩ := ha c
  open Cert.InAbBwdRefIdeal.Read in
  refine ⟨r0.trans ((val_main_v41_eq _ _).trans ?_), r1.trans ((val_main_v43_eq _ _ _).trans ?_),
    r2.trans ((val_main_v46_eq _ _ _).trans ?_), k⟩
  · rw [a0, a1, a2, a3, a4]; exact ((final_dh m c).trans (dh_eq m c)).symm
  · rw [a0, a2, a3]; exact ((final_dg m c).trans (dg_eq m c)).symm
  · rw [a0, a1, a3]; exact ((final_dw m c).trans (dw_eq m c)).symm

end Cert.Proof
-- ==== Proof.InCdPoint.lean ====
module

public import proofs.«01_k».proof.Proof.InProj
public import proofs.«01_k».proof.Proof.Gen.InCdBwdIdeal.Skeleton

/-! # The block arithmetic of the input projection's gradient, odd layers

What the body stores, read at an index; the five pieces of the projection's cotangent are one row `q`. -/

@[expose] public section

noncomputable section

open Idealize.ShloMosaic Idealize.ShloMosaic.TcCoe Idealize.SL.Sem

namespace Cert.InCdBwdIdeal.Value
open Cert.InCdBwdIdeal Cert.InCdBwdIdeal.Gen Cert.Grad

variable (q : Fin 512 → ℕ → EReal) (g : Vec Ideal S1x1024 .f32) (h e : Vec Ideal S512x1024 .f32) (w : Vec Ideal S8x320x1024 .bf16)

/-- the 512 columns of the cotangent from column `o` on -/
def piece (o : ℕ) (i : S512x512.Idx) : EReal := q (i 0) (o + (i 1).val)

/-- the matrix' column `k`, at row `l`: the blocks of 320 columns one after the other -/
def colAt (k : Fin 2560) (l : Fin 1024) : EReal := w (ix3 ⟨k.val / 320, by omega⟩ ⟨k.val % 320, by omega⟩ l)

/-- the five pieces side by side are the row -/
theorem pieces_at (r : Fin 512) (k : Fin 2560) : k0_pay6 (F := Ideal) (piece q 0) (piece q 512) (piece q 1024) (piece q 1536) (piece q 2048) (ix2 r k) = q r k.val := by
  pointwise [k0_pay6]
  unfold piece
  have hk := k.isLt
  split
  · exact congrArg (q r) (Nat.zero_add _)
  split
  · exact congrArg (q r) (by show 512 + (k.val - 512) = k.val; omega)
  split
  · exact congrArg (q r) (by show 1024 + (k.val - 512 - 512) = k.val; omega)
  split
  · exact congrArg (q r) (by show 1536 + (k.val - 512 - 512 - 512) = k.val; omega)
  · exact congrArg (q r) (by show 2048 + (k.val - 512 - 512 - 512 - 512) = k.val; omega)

/-- the cotangent of the normalised, scaled row -/
theorem dxn_at (r : Fin 512) (l : Fin 1024) :
    k0_pay7 (F := Ideal) (piece q 0) (piece q 512) (piece q 1024) (piece q 1536) (piece q 2048) w (ix2 r l)
      = ∑ k : Fin 2560, q r k.val * colAt w k l := by
  pointwise [k0_pay7, pieces_at]
  rfl

/-- what a point adds to the matrix' gradient -/
theorem dw_at (v : Vec Ideal S2560x1024 .f32) (k : Fin 2560) (l : Fin 1024) :
    k0_pay14 (k0_pay5 g h) (k0_pay6 (F := Ideal) (piece q 0) (piece q 512) (piece q 1024) (piece q 1536) (piece q 2048)) v (ix2 k l)
      = v (ix2 k l) + ∑ r : Fin 512, q r k.val * (h (ix2 r l) * rs (fun k => h (ix2 r k)) * g (ix2 0 l)) := by
  pointwise [k0_pay14, k0_pay5, k0_pay4, k0_pay3, k0_pay2, k0_pay1, pieces_at]
  simp only [word_1024, word_eps]
  rfl

/-- the hidden state's gradient block -/
theorem dh_at (r : Fin 512) (l : Fin 1024) :
    k0_pay10 (k0_pay3 h) (k0_pay4 h) (k0_pay8 (F := Ideal) g (piece q 0) (piece q 512) (piece q 1024) (piece q 1536) (piece q 2048) w)
      (k0_pay9 g h (piece q 0) (piece q 512) (piece q 1024) (piece q 1536) (piece q 2048) w) (Scalar.ofBits .f32 0x44800000#32) e (ix2 r l)
      = e (ix2 r l) + rowGrad (fun k => h (ix2 r k)) (fun l => (∑ k : Fin 2560, q r k.val * colAt w k l) * g (ix2 0 l)) l := by
  pointwise [k0_pay10, k0_pay9, k0_pay8, k0_pay4, k0_pay3, k0_pay2, k0_pay1, dxn_at]
  simp only [word_1024, word_eps]
  rfl

/-- what a point adds to the gain's gradient -/
theorem dgain_at (v : Vec Ideal S1x1024 .f32) (z : Fin 1) (l : Fin 1024) :
    k0_pay12 (k0_pay4 h) (k0_pay7 (F := Ideal) (piece q 0) (piece q 512) (piece q 1024) (piece q 1536) (piece q 2048) w) v (ix2 z l)
      = v (ix2 z l) + ∑ r : Fin 512, (∑ k : Fin 2560, q r k.val * colAt w k l) * (h (ix2 r l) * rs fun k => h (ix2 r k)) := by
  pointwise [k0_pay12, k0_pay4, k0_pay3, k0_pay2, dxn_at]
  simp only [word_1024, word_eps]
  rfl

end Cert.InCdBwdIdeal.Value
-- ==== Proof.InCdArrays.lean ====
module

public import proofs.«01_k».proof.Proof.InCdPoint
public import proofs.«01_k».proof.Proof.AccRow
public import proofs.«01_k».proof.Proof.Gen.InCdBwdIdeal.Value
public import Idealize.ShloMosaic.Lib.StableHlo.ReadAt

/-! # The result arrays of the input projection's gradient, odd layers -/

@[expose] public section

noncomputable section

open Idealize.ShloMosaic Idealize.ShloMosaic.TcCoe Idealize.SL.Sem

namespace Cert.InCdBwdIdeal.Value
open Cert.InCdBwdIdeal Cert.InCdBwdIdeal.Gen Cert.Grad

/-- every window's block index at every point -/
theorem idx : ∀ t : Fin cfg0.N, win0_0.index t = ![t.val, 0] ∧ win0_1.index t = ![0, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0]
    ∧ win0_8.index t = ![0, 0, 0] ∧ win0_9.index t = ![t.val, 0] ∧ win0_10.index t = ![0, 0] ∧ win0_11.index t = ![0, 0] :=
  (by decide +kernel : ∀ t : Fin grid0.N, _)

/-- sixteen points of 512 rows -/
theorem rows : cfg0.N * 512 = 8192 := by rw [show cfg0.N = 16 from N_0]

variable (m : (ℓ : Loc nD τ sig) → Buf (Elt Ideal) ℓ) (c : Dev nD)

/-- the hidden state on device `c` -/
abbrev argH : S4x2048x1024.Idx → EReal := m ((c : Thread nD τ).loc main_arg0)
/-- the gain on device `c` -/
abbrev argG : S1024.Idx → EReal := m ((c : Thread nD τ).loc main_arg1)
/-- the matrix on device `c` -/
abbrev argW : S1024x2560.Idx → EReal := m ((c : Thread nD τ).loc main_arg2)
/-- the cotangent of the projection on device `c` -/
abbrev argD : S4x2048x2560.Idx → EReal := m ((c : Thread nD τ).loc main_arg3)
/-- the cotangent of the hidden state on device `c` -/
abbrev argE : S4x2048x1024.Idx → EReal := m ((c : Thread nD τ).loc main_arg4)

/-- the sequence of row `r` of point `p` -/
abbrev bOf (p : Fin cfg0.N) (r : Fin 512) : Fin 4 := seq (p.val * 512 + r.val) (row_lt rows p r)
/-- its place there -/
abbrev sOf (p : Fin cfg0.N) (r : Fin 512) : Fin 2048 := pos (p.val * 512 + r.val)

/-- the cotangent's rows at point `p` -/
def dRow (p : Fin cfg0.N) (r : Fin 512) (k : ℕ) : EReal := padRow (rowAt (argD m c) (bOf p r) (sOf p r)) k

/-- the hidden state's rows at point `p` -/
theorem blk_h (p : Fin cfg0.N) : iblk m c 0 p = fun i : S512x1024.Idx => rowAt (argH m c) (bOf p (i 0)) (sOf p (i 0)) (i 1) := by
  funext i
  blk_simp [iblk]
  unfold_abbrev_sides
  simp only [hostOps0, List.flatten_singleton]
  after_reads_at
  blk_ext [idx p, seq, pos]

/-- its cotangent's rows -/
theorem blk_e (p : Fin cfg0.N) : iblk m c 7 p = fun i : S512x1024.Idx => rowAt (argE m c) (bOf p (i 0)) (sOf p (i 0)) (i 1) := by
  funext i
  blk_simp [iblk]
  unfold_abbrev_sides
  simp only [hostOps0, List.flatten_singleton]
  after_reads_at
  blk_ext [idx p, seq, pos]

/-- the gain -/
theorem blk_g (p : Fin cfg0.N) : iblk m c 1 p = fun i : S1x1024.Idx => argG m c (ix1 (i 1)) := by
  funext i
  blk_simp [iblk]
  unfold_abbrev_sides
  simp only [hostOps0, List.flatten_singleton]
  after_reads_at
  blk_ext [idx p]

/-- the matrix, its columns as rows in blocks of 320 -/
theorem blk_w (p : Fin cfg0.N) : iblk m c 8 p
    = fun i : S8x320x1024.Idx => argW m c (ix2 (i 2) ⟨(i 0).val * 320 + (i 1).val, by
        have h0 : (i 0).val < 8 := (i 0).isLt
        have h1 : (i 1).val < 320 := (i 1).isLt
        omega⟩) := by
  funext i
  blk_simp [iblk]
  unfold_abbrev_sides
  simp only [hostOps0, List.flatten_singleton]
  after_reads_at
  have h0 : (i 0).val < 8 := (i 0).isLt
  have h1 : (i 1).val < 320 := (i 1).isLt
  show _ = m ((c : Thread nD τ).loc main_arg2) (ix2 (i 2) ⟨(i 0).val * 320 + (i 1).val, by omega⟩)
  blk_ext [idx p]

/-- column `k` of the matrix -/
theorem col_eq (p : Fin cfg0.N) (k : Fin 2560) (l : Fin 1024) : colAt (iblk m c 8 p) k l = argW m c (ix2 l k) := by
  rw [blk_w]
  show argW m c (ix2 l ⟨k.val / 320 * 320 + k.val % 320, _⟩) = _
  exact congrArg (argW m c) (congrArg (ix2 l) (Fin.ext (by show k.val / 320 * 320 + k.val % 320 = k.val; omega)))

/-- the cotangent's 512 columns from 0 on -/
theorem blk_0 (p : Fin cfg0.N) : iblk m c 2 p = piece (dRow m c p) 0 := by
  funext i
  blk_simp [iblk]
  unfold_abbrev_sides
  simp only [hostOps0, List.flatten_singleton]
  after_reads_at
  have hk : 0 + (i 1).val < 2560 := by have h1 : (i 1).val < 512 := (i 1).isLt; omega
  refine Eq.trans ?_ (dif_pos hk).symm
  show _ = m ((c : Thread nD τ).loc main_arg3) (ix3 (bOf p (i 0)) (sOf p (i 0)) ⟨0 + (i 1).val, hk⟩)
  blk_ext [idx p, seq, pos]

/-- the cotangent's 512 columns from 512 on -/
theorem blk_1 (p : Fin cfg0.N) : iblk m c 3 p = piece (dRow m c p) 512 := by
  funext i
  blk_simp [iblk]
  unfold_abbrev_sides
  simp only [hostOps0, List.flatten_singleton]
  after_reads_at
  have hk : 512 + (i 1).val < 2560 := by have h1 : (i 1).val < 512 := (i 1).isLt; omega
  refine Eq.trans ?_ (dif_pos hk).symm
  show _ = m ((c : Thread nD τ).loc main_arg3) (ix3 (bOf p (i 0)) (sOf p (i 0)) ⟨512 + (i 1).val, hk⟩)
  blk_ext [idx p, seq, pos]

/-- the cotangent's 512 columns from 1024 on -/
theorem blk_2 (p : Fin cfg0.N) : iblk m c 4 p = piece (dRow m c p) 1024 := by
  funext i
  blk_simp [iblk]
  unfold_abbrev_sides
  simp only [hostOps0, List.flatten_singleton]
  after_reads_at
  have hk : 1024 + (i 1).val < 2560 := by have h1 : (i 1).val < 512 := (i 1).isLt; omega
  refine Eq.trans ?_ (dif_pos hk).symm
  show _ = m ((c : Thread nD τ).loc main_arg3) (ix3 (bOf p (i 0)) (sOf p (i 0)) ⟨1024 + (i 1).val, hk⟩)
  blk_ext [idx p, seq, pos]

/-- the cotangent's 512 columns from 1536 on -/
theorem blk_3 (p : Fin cfg0.N) : iblk m c 5 p = piece (dRow m c p) 1536 := by
  funext i
  blk_simp [iblk]
  unfold_abbrev_sides
  simp only [hostOps0, List.flatten_singleton]
  after_reads_at
  have hk : 1536 + (i 1).val < 2560 := by have h1 : (i 1).val < 512 := (i 1).isLt; omega
  refine Eq.trans ?_ (dif_pos hk).symm
  show _ = m ((c : Thread nD τ).loc main_arg3) (ix3 (bOf p (i 0)) (sOf p (i 0)) ⟨1536 + (i 1).val, hk⟩)
  blk_ext [idx p, seq, pos]

/-- the cotangent's 512 columns from 2048 on -/
theorem blk_4 (p : Fin cfg0.N) : iblk m c 6 p = piece (dRow m c p) 2048 := by
  funext i
  blk_simp [iblk]
  unfold_abbrev_sides
  simp only [hostOps0, List.flatten_singleton]
  after_reads_at
  have hk : 2048 + (i 1).val < 2560 := by have h1 : (i 1).val < 512 := (i 1).isLt; omega
  refine Eq.trans ?_ (dif_pos hk).symm
  show _ = m ((c : Thread nD τ).loc main_arg3) (ix3 (bOf p (i 0)) (sOf p (i 0)) ⟨2048 + (i 1).val, hk⟩)
  blk_ext [idx p, seq, pos]

/-- the cotangent of the normalised, scaled row -/
theorem dxn_eq (p : Fin cfg0.N) (r : Fin 512) (l : Fin 1024) :
    (∑ k : Fin 2560, dRow m c p r k.val * colAt (iblk m c 8 p) k l) = dxnAt (argW m c) (argD m c) (bOf p r) (sOf p r) l :=
  Finset.sum_congr rfl fun k _ => congrArg₂ (· * ·) (dif_pos k.isLt) (col_eq m c p k l)

theorem dh_term (p : Fin cfg0.N) (r : Fin 512) (l : Fin 1024) :
    k0_pay10 (k0_pay3 (iblk m c 0 p)) (k0_pay4 (iblk m c 0 p)) (k0_pay8 (iblk m c 1 p) (iblk m c 2 p) (iblk m c 3 p) (iblk m c 4 p) (iblk m c 5 p) (iblk m c 6 p) (iblk m c 8 p))
      (k0_pay9 (iblk m c 1 p) (iblk m c 0 p) (iblk m c 2 p) (iblk m c 3 p) (iblk m c 4 p) (iblk m c 5 p) (iblk m c 6 p) (iblk m c 8 p)) (Scalar.ofBits .f32 0x44800000#32) (iblk m c 7 p) (ix2 r l)
      = inDh (argH m c) (argG m c) (argW m c) (argD m c) (argE m c) (bOf p r) (sOf p r) l := by
  rw [blk_h, blk_g, blk_0, blk_1, blk_2, blk_3, blk_4, blk_e]
  refine (dh_at _ _ _ _ _ r l).trans (congrArg (rowAt (argE m c) (bOf p r) (sOf p r) l + rowGrad (rowAt (argH m c) (bOf p r) (sOf p r)) · l) ?_)
  funext k
  exact congrArg (· * _) (dxn_eq m c p r k)

/-- the array of the hidden state's gradient -/
def dhOut (i : S8192x1024.Idx) : EReal :=
  inDh (argH m c) (argG m c) (argW m c) (argD m c) (argE m c) (seq (i 0).val (i 0).isLt) (pos (i 0).val) (i 1)

/-- the first result: the hidden state's gradient -/
theorem final_dh : (dats m 0 c).arrAt 9 cfg0.N = dhOut m c := by
  refine (dats m 0 c).arrAt_eq_of_covers 9 _ (by decide +kernel) fun p _ y => ?_
  blk_simp
  rw [after0_9]
  have hc : (outsAt0 m c p.val p.isLt).1 = k0_pay10 (k0_pay3 (iblk m c 0 p)) (k0_pay4 (iblk m c 0 p)) (k0_pay8 (iblk m c 1 p) (iblk m c 2 p) (iblk m c 3 p) (iblk m c 4 p) (iblk m c 5 p) (iblk m c 6 p) (iblk m c 8 p))
      (k0_pay9 (iblk m c 1 p) (iblk m c 0 p) (iblk m c 2 p) (iblk m c 3 p) (iblk m c 4 p) (iblk m c 5 p) (iblk m c 6 p) (iblk m c 8 p)) (Scalar.ofBits .f32 0x44800000#32) (iblk m c 7 p) := by
    by_cases h0 : p.val % 16 = 0
    · rw [outsAt0_A m c p h0 h0 (by omega)]; frame_out
    · by_cases h2 : p.val % 16 = 15
      · rw [outsAt0_C m c p h0 h0 h2]; frame_out
      · rw [outsAt0_B m c p h0 h0 h2]; frame_out
  rw [hc]
  refine ((congrArg _ (eq_ix2 y)).trans (dh_term m c p (y 0) (y 1))).trans
    (congrArg (dhOut m c) (a₁ := ix2 ⟨p.val * 512 + (y 0).val, row_lt rows p (y 0)⟩ (y 1)) ?_)
  blk_ext [idx p]

/-- what point `p` adds to row 0 of the gain's gradient -/
def dgRow (p : Fin cfg0.N) (l : Fin 1024) : EReal :=
  ∑ r : Fin 512, inDgain (argH m c) (argW m c) (argD m c) l (bOf p r) (sOf p r)

theorem dgain_term (p : Fin cfg0.N) (v : Vec Ideal S1x1024 .f32) (l : Fin 1024) :
    k0_pay12 (k0_pay4 (iblk m c 0 p)) (k0_pay7 (iblk m c 2 p) (iblk m c 3 p) (iblk m c 4 p) (iblk m c 5 p) (iblk m c 6 p) (iblk m c 8 p)) v (ix2 (0 : Fin 1) l)
      = v (ix2 0 l) + dgRow m c p l := by
  rw [blk_h, blk_0, blk_1, blk_2, blk_3, blk_4]
  refine (dgain_at _ _ _ v 0 l).trans (congrArg (v (ix2 0 l) + ·) (Finset.sum_congr rfl fun r _ => ?_))
  exact congrArg (· * _) (dxn_eq m c p r l)

/-- the second result: row 0 is the gain's gradient, the other rows are zero -/
theorem final_dg :
    (dats m 0 c).arrAt 10 cfg0.N = fun i : S8x1024.Idx => top (fun l => ∑ p : Fin cfg0.N, dgRow m c p l) (i 0) (i 1) := by
  refine (dats m 0 c).arrAt_eq_of_after_last 10 t0_15 (by decide +kernel) _ fun j => ?_
  blk_simp
  rw [after0_10, Pipeline.eq_sum_fin_of_reset_step_apply_last (fun n h => (outsAt0 m c n h).2.1) 16 (fun _ => 0)
    (fun p j => top (dgRow m c p) (j 0) (j 1)) (fun p h0 j => ?_) (fun p h0 j => ?_) (le_of_eq N_0) t0_15 rfl j]
  · exact sum_top _ (j 0) (j 1)
  · rw [outsAt0_A m c p h0 h0 (by omega)]
    frame_out
    idx_vars j
    refine top_first _ _ _ _ (dgRow m c p) j0 j1 ((dgain_term m c p _ j1).trans ((congrArg (· + _) (readCov_row0 _ _ _ _ _)).trans ?_)) ?_
    · pointwise [k0_pay11]
    · pointwise [k0_pay11]
  · by_cases h2 : p.val % 16 = 15
    · rw [outsAt0_C m c p h0 h0 h2]
      frame_out
      idx_vars j
      refine top_next _ _ _ _ _ (dgRow m c p) j0 j1 ((dgain_term m c p _ j1).trans ?_)
      pointwise
    · rw [outsAt0_B m c p h0 h0 h2]
      frame_out
      idx_vars j
      refine top_next _ _ _ _ _ (dgRow m c p) j0 j1 ((dgain_term m c p _ j1).trans ?_)
      pointwise

/-- what point `p` adds to the matrix' gradient -/
def dwPart (p : Fin cfg0.N) (k : Fin 2560) (l : Fin 1024) : EReal :=
  ∑ r : Fin 512, dRow m c p r k.val * (rowAt (argH m c) (bOf p r) (sOf p r) l * rs (rowAt (argH m c) (bOf p r) (sOf p r)) * argG m c (ix1 l))

theorem dw_term (p : Fin cfg0.N) (v : Vec Ideal S2560x1024 .f32) (k : Fin 2560) (l : Fin 1024) :
    k0_pay14 (k0_pay5 (iblk m c 1 p) (iblk m c 0 p)) (k0_pay6 (iblk m c 2 p) (iblk m c 3 p) (iblk m c 4 p) (iblk m c 5 p) (iblk m c 6 p)) v (ix2 k l)
      = v (ix2 k l) + dwPart m c p k l := by
  rw [blk_h, blk_g, blk_0, blk_1, blk_2, blk_3, blk_4]
  exact dw_at _ _ _ v k l

/-- the third result: the matrix' gradient, its columns as rows -/
theorem final_dw : (dats m 0 c).arrAt 11 cfg0.N = fun i : S2560x1024.Idx => ∑ p : Fin cfg0.N, dwPart m c p (i 0) (i 1) := by
  refine (dats m 0 c).arrAt_eq_of_after_last 11 t0_15 (by decide +kernel) _ fun j => ?_
  blk_simp
  have hl : (outsAt0 m c t0_15.val t0_15.isLt).2.2.1 = k0_pay15 (F := Ideal) (outsAt0 m c t0_15.val t0_15.isLt).2.2.2 := by
    rw [outsAt0_C m c t0_15 (by decide) (by decide) rfl]
    frame_out
  rw [after0_11, hl]
  show (outsAt0 m c t0_15.val t0_15.isLt).2.2.2 j = _
  rw [Pipeline.eq_sum_fin_of_reset_step_apply_last (fun n h => (outsAt0 m c n h).2.2.2) 16 (fun _ => 0)
    (fun p j => dwPart m c p (j 0) (j 1)) (fun p h0 j => ?_) (fun p h0 j => ?_) (le_of_eq N_0) t0_15 rfl j]
  · exact zero_add (∑ p : Fin cfg0.N, dwPart m c p (j 0) (j 1))
  · rw [outsAt0_A m c p h0 h0 (by omega)]
    frame_out
    idx_vars j
    refine (dw_term m c p _ j0 j1).trans ?_
    pointwise [k0_pay13]
  · by_cases h2 : p.val % 16 = 15
    · rw [outsAt0_C m c p h0 h0 h2]
      frame_out
      idx_vars j
      exact (dw_term m c p _ j0 j1).trans (congrArg (· + _) (congrFun (Memref.IsWhole.read_unread _ _) _))
    · rw [outsAt0_B m c p h0 h0 h2]
      frame_out
      idx_vars j
      exact (dw_term m c p _ j0 j1).trans (congrArg (· + _) (congrFun (Memref.IsWhole.read_unread _ _) _))

end Cert.InCdBwdIdeal.Value
-- ==== Proof.InCdRef.lean ====
module

public import proofs.«01_k».proof.Proof.InProj
public import proofs.«01_k».proof.Proof.LeadSum
public import proofs.«01_k».proof.Proof.Gen.InCdBwdRefIdeal.Read

/-! # The reference's results: the input projection's gradient, odd layers -/

@[expose] public section

noncomputable section

open Idealize.ShloMosaic Idealize.ShloMosaic.TcCoe Idealize.SL.Sem

namespace Cert.InCdBwdRefIdeal.Value
open Cert.InCdBwdRefIdeal Cert.InCdBwdRefIdeal.Gen Cert.InCdBwdRefIdeal.Read Cert.Grad

variable (h : S4x2048x1024.Idx → EReal) (g : S1024.Idx → EReal) (w : S1024x2560.Idx → EReal) (d : S4x2048x2560.Idx → EReal)
  (e : S4x2048x1024.Idx → EReal)

theorem v6_eq : val_main_v6 (F := Ideal) h = fun i => ms (rowAt h (i 0) (i 1)) := by
  funext i
  idx_vars i
  pointwise [val_main_v6, val_main_v5, val_main_v4, val_main_v3, val_main_v2, val_main_v1, val_main_v0, val_main_cst, val_main_cst_0, val_main_cst_1]
  simp only [word_1024, word_eps]
  rfl

theorem v7_eq : val_main_v7 (F := Ideal) h = fun i => rs (rowAt h (i 0) (i 1)) := by
  funext i
  idx_vars i
  pointwise [val_main_v7, v6_eq]
  rfl

/-- the normalised rows -/
theorem v12_eq : val_main_v12 (F := Ideal) h = fun i => rowAt h (i 0) (i 1) (i 2) * rs (rowAt h (i 0) (i 1)) := by
  funext i
  idx_vars i
  pointwise [val_main_v12, val_main_v11, v7_eq]
  rfl

/-- the cotangent of the normalised, scaled rows -/
theorem v19_eq : val_main_v19 (F := Ideal) w d = fun i => dxnAt w d (i 0) (i 1) (i 2) := by
  funext i
  idx_vars i
  pointwise [val_main_v19]
  rfl

/-- the first result: the hidden state's gradient, rows flattened -/
theorem v41_at (i : S8192x1024.Idx) :
    val_main_v41 (F := Ideal) h g w d e i = inDh h g w d e (seq (i 0).val (i 0).isLt) (pos (i 0).val) (i 1) := by
  idx_vars i
  show _ = inDh h g w d e (seq i0.val i0.isLt) (pos i0.val) i1
  unfold inDh
  rw [← rowGrad_eq, ← add_assoc, ← add_assoc]
  pointwise [val_main_v41, val_main_v40, val_main_v39, val_main_v38, val_main_v37, val_main_v36, val_main_v35, val_main_v34,
    val_main_v33, val_main_v32, val_main_v31, val_main_v30, val_main_v29, val_main_v28, val_main_v27, val_main_v26, val_main_v24,
    val_main_v23, val_main_v13, val_main_v10, val_main_v9, val_main_v8, val_main_cst_2, val_main_cst_5, val_main_cst_6,
    val_main_cst_7, v7_eq, v6_eq, v19_eq]
  simp only [word_1024, word_neg_half, Fin.sum_univ_one]
  rfl

/-- the second result: the gain's gradient in row 0 -/
theorem v43_at (i : S8x1024.Idx) : val_main_v43 (F := Ideal) h w d i
    = if ((i 0).val : ℕ) = 0 then ∑ b : Fin 4, ∑ s : Fin 2048, inDgain h w d (i 1) b s else 0 := by
  idx_vars i
  show _ = if (i0 : ℕ) = 0 then ∑ b : Fin 4, ∑ s : Fin 2048, inDgain h w d i1 b s else 0
  pointwise [val_main_v43, val_main_v42, val_main_v25, val_main_cst_4, val_main_call0_v0, val_main_c]
  by_cases h0 : (i0 : ℕ) = 0
  · rw [dif_pos (by omega), hostReduceAdd_lead]
    pointwise [val_main_v22, val_main_v21, val_main_cst_3]
    rw [hostReduceAdd_lead]
    pointwise [val_main_v20, v12_eq, v19_eq]
    rw [if_pos h0]
    simp only [Fin.sum_univ_one]
    refine Finset.sum_congr rfl fun b _ => Finset.sum_congr rfl fun s _ => ?_
    exact mul_comm _ _
  · rw [dif_neg (by omega), if_neg h0]
    exact sitofp_zero _

/-- the third result: the matrix' gradient, its columns as rows -/
theorem v45_at (i : S2560x1024.Idx) : val_main_v45 (F := Ideal) h g d i = ∑ b : Fin 4, ∑ s : Fin 2048, inDw h g d (i 0) (i 1) b s := by
  idx_vars i
  pointwise [val_main_v45, val_main_v44, val_main_v18, val_main_v17, val_main_v15, val_main_v14, val_main_v13, v12_eq]
  rfl

end Cert.InCdBwdRefIdeal.Value
-- ==== Proof.InCdEq.lean ====
module

public import proofs.«01_k».proof.Proof.InCdArrays
public import proofs.«01_k».proof.Proof.InCdRef
public import proofs.«01_k».proof.Defs

/-! # The input projection's gradient, odd layers: the kernel's results are the reference's -/

@[expose] public section

noncomputable section

open Idealize.ShloMosaic Idealize.ShloMosaic.TcCoe Idealize.SL.Sem

namespace Cert.InCdBwdIdeal.Value
open Cert.InCdBwdIdeal Cert.InCdBwdIdeal.Gen Cert.Grad

variable (m : (ℓ : Loc nD τ sig) → Buf (Elt Ideal) ℓ) (c : Dev nD)

/-- the kernel's gradient of the hidden state is the reference's -/
theorem dh_eq : dhOut m c
    = Cert.InCdBwdRefIdeal.Read.val_main_v41 (F := Ideal) (argH m c) (argG m c) (argW m c) (argD m c) (argE m c) := by
  funext i
  rw [Cert.InCdBwdRefIdeal.Value.v41_at]
  rfl

/-- the kernel's gradient of the gain is the reference's -/
theorem dg_eq : (fun i : S8x1024.Idx => top (fun l => ∑ p : Fin cfg0.N, dgRow m c p l) (i 0) (i 1))
    = Cert.InCdBwdRefIdeal.Read.val_main_v43 (F := Ideal) (argH m c) (argW m c) (argD m c) := by
  funext i
  rw [Cert.InCdBwdRefIdeal.Value.v43_at]
  exact ite_congr rfl (fun _ => sum_rows 4 rows rfl (inDgain (argH m c) (argW m c) (argD m c) (i 1))) fun _ => rfl

/-- the kernel's gradient of the matrix is the reference's -/
theorem dw_eq : (fun i : S2560x1024.Idx => ∑ p : Fin cfg0.N, dwPart m c p (i 0) (i 1))
    = Cert.InCdBwdRefIdeal.Read.val_main_v45 (F := Ideal) (argH m c) (argG m c) (argD m c) := by
  funext i
  rw [Cert.InCdBwdRefIdeal.Value.v45_at]
  refine (Finset.sum_congr rfl fun p _ => Finset.sum_congr rfl fun r _ => ?_).trans
    (sum_rows 4 rows rfl (inDw (argH m c) (argG m c) (argD m c) (i 0) (i 1)))
  exact congrArg (· * _) (dif_pos (show (i 0).val < 2560 from (i 0).isLt))

end Cert.InCdBwdIdeal.Value

namespace Cert.Proof
open Cert.InCdBwdIdeal.Value Cert.Grad

/-- the two programs of the input projection's gradient, odd layers, compute the same three arrays -/
theorem in_cd : Cert.algebraic_InCdBwdIdeal_InCdBwdRefIdeal := by
  intro m ρ m' ρ' _ ha
  refine ⟨fun c => (Cert.InCdBwdIdeal.Gen.dats m 0 c).arrAt 9 Cert.InCdBwdIdeal.cfg0.N, fun c => (Cert.InCdBwdIdeal.Gen.dats m 0 c).arrAt 10 Cert.InCdBwdIdeal.cfg0.N,
    fun c => (Cert.InCdBwdIdeal.Gen.dats m 0 c).arrAt 11 Cert.InCdBwdIdeal.cfg0.N, Cert.InCdBwdIdeal.Value.run_blocks m ρ, ?_⟩
  refine (θ_run _ _ _).mono (fun r hr c => ?_) (Cert.InCdBwdRefIdeal.Value.run m' ρ')
  obtain ⟨r0, r1, r2, k⟩ := hr c
  obtain ⟨a0, a1, a2, a3, a4⟩ := ha c
  open Cert.InCdBwdRefIdeal.Read in
  refine ⟨r0.trans ((val_main_v41_eq _ _).trans ?_), r1.trans ((val_main_v43_eq _ _ _).trans ?_),
    r2.trans ((val_main_v45_eq _ _ _).trans ?_), k⟩
  · rw [a0, a1, a2, a3, a4]; exact ((final_dh m c).trans (dh_eq m c)).symm
  · rw [a0, a2, a3]; exact ((final_dg m c).trans (dg_eq m c)).symm
  · rw [a0, a1, a3]; exact ((final_dw m c).trans (dw_eq m c)).symm

end Cert.Proof
-- ==== Proof.Shift.lean ====
module

public import proofs.«01_k».proof.Proof.Rows

/-! # Shifts along a sequence of 2048 rows

The kernels shift a column by a rotation whose wrapped rows are set to zero, the references by padding and slicing. -/

@[expose] public section

noncomputable section

namespace Cert.Grad
open Idealize.ShloMosaic

/-- the row `k` places before, zero in front of the sequence -/
def back (k : ℕ) (f : Fin 2048 → EReal) (t : Fin 2048) : EReal :=
  if t.val < k then 0 else f ⟨t.val - k, by omega⟩

/-- the row `k` places after, zero behind the sequence -/
def ahead (k : ℕ) (f : Fin 2048 → EReal) (t : Fin 2048) : EReal :=
  if h : t.val + k < 2048 then f ⟨t.val + k, h⟩ else 0

theorem toInt_ofNat_small (n : ℕ) (h : n < 4096) : (BitVec.ofNat 32 n).toInt = n := by
  rw [BitVec.toInt_eq_toNat_cond, BitVec.toNat_ofNat, Nat.mod_eq_of_lt (by omega), if_pos (by omega)]

/-- a rotation by `k` whose first `k` rows are set to zero is the shift back -/
theorem roll_back (k : ℕ) (hk : k < 2048) (f : Fin 2048 → EReal) (t : Fin 2048) :
    Scalar.select (IntOp.cmpi .sge (BitVec.ofNat 32 t.val) (BitVec.ofNat 32 k)) (f ⟨(t.val + 2048 - k) % 2048, Nat.mod_lt _ (by omega)⟩) 0 = back k f t := by
  have ht := t.isLt
  unfold back
  by_cases h : t.val < k
  · rw [if_pos h]
    have e : IntOp.cmpi .sge (BitVec.ofNat 32 t.val) (BitVec.ofNat 32 k) = 0#1 := by
      simp only [IntOp.cmpi, BitVec.sle, toInt_ofNat_small t.val (by omega), toInt_ofNat_small k (by omega)]
      rw [decide_eq_false (by omega)]; rfl
    rw [e]; rfl
  · rw [if_neg h]
    have e : IntOp.cmpi .sge (BitVec.ofNat 32 t.val) (BitVec.ofNat 32 k) = 1#1 := by
      simp only [IntOp.cmpi, BitVec.sle, toInt_ofNat_small t.val (by omega), toInt_ofNat_small k (by omega)]
      rw [decide_eq_true (by omega)]; rfl
    rw [e]
    exact congrArg f (Fin.ext (by show (t.val + 2048 - k) % 2048 = t.val - k; omega))

/-- a rotation by `2048 - k` whose last `k` rows are set to zero is the shift ahead -/
theorem roll_ahead (k n : ℕ) (hk : k + n = 2048) (hn : n < 2048) (f : Fin 2048 → EReal) (t : Fin 2048) :
    Scalar.select (IntOp.cmpi .slt (BitVec.ofNat 32 t.val) (BitVec.ofNat 32 n)) (f ⟨(t.val + 2048 - n) % 2048, Nat.mod_lt _ (by omega)⟩) 0 = ahead k f t := by
  have ht := t.isLt
  unfold ahead
  by_cases h : t.val + k < 2048
  · rw [dif_pos h]
    have e : IntOp.cmpi .slt (BitVec.ofNat 32 t.val) (BitVec.ofNat 32 n) = 1#1 := by
      simp only [IntOp.cmpi, BitVec.slt, toInt_ofNat_small t.val (by omega), toInt_ofNat_small n (by omega)]
      rw [decide_eq_true (by omega)]; rfl
    rw [e]
    exact congrArg f (Fin.ext (by show (t.val + 2048 - n) % 2048 = t.val + k; omega))
  · rw [dif_neg h]
    have e : IntOp.cmpi .slt (BitVec.ofNat 32 t.val) (BitVec.ofNat 32 n) = 0#1 := by
      simp only [IntOp.cmpi, BitVec.slt, toInt_ofNat_small t.val (by omega), toInt_ofNat_small n (by omega)]
      rw [decide_eq_false (by omega)]; rfl
    rw [e]; rfl

theorem back_zero (f : Fin 2048 → EReal) : back 0 f = f := by
  funext t
  exact if_neg (Nat.not_lt_zero _)

/-- a sequence padded with `K` zeros in front, read `d` rows on, is the shift back by `K - d` -/
theorem pad_back (k d : ℕ) (f : Fin 2048 → EReal) (t : Fin 2048) :
    (if h : d + t.val < d + k then 0 else f ⟨d + t.val - (d + k), by omega⟩) = back k f t := by
  unfold back
  by_cases h : t.val < k
  · rw [dif_pos (by omega), if_pos h]
  · rw [dif_neg (by omega), if_neg h]
    exact congrArg f (Fin.ext (by show d + t.val - (d + k) = t.val - k; omega))

/-- a sequence with `d` zeros in front, read `d + k` rows on, is the shift ahead by `k` -/
theorem pad_ahead (k d : ℕ) (f : Fin 2048 → EReal) (t : Fin 2048) :
    (if h : d ≤ d + k + t.val ∧ d + k + t.val - d < 2048 then f ⟨d + k + t.val - d, h.2⟩ else 0) = ahead k f t := by
  unfold ahead
  by_cases h : t.val + k < 2048
  · rw [dif_pos (by omega), dif_pos h]
    exact congrArg f (Fin.ext (by show d + k + t.val - d = t.val + k; omega))
  · rw [dif_neg (by omega), dif_neg h]

/-- the same with no zeros in front -/
theorem pad_ahead_zero (k : ℕ) (f : Fin 2048 → EReal) (t : Fin 2048) :
    (if h : k + t.val < 2048 then f ⟨k + t.val, h⟩ else 0) = ahead k f t := by
  unfold ahead
  by_cases h : t.val + k < 2048
  · rw [dif_pos (by omega), dif_pos h]
    exact congrArg f (Fin.ext (Nat.add_comm _ _))
  · rw [dif_neg (by omega), dif_neg h]

/-- the convolution with three taps, the last one on the row itself -/
def conv3 (w : Fin 3 → EReal) (f : Fin 2048 → EReal) (t : Fin 2048) : EReal := back 2 f t * w 0 + back 1 f t * w 1 + f t * w 2

/-- its gradient in the sequence, from the cotangent `g` -/
def conv3T (w : Fin 3 → EReal) (g : Fin 2048 → EReal) (t : Fin 2048) : EReal :=
  ahead 2 (fun u => g u * w 0) t + ahead 1 (fun u => g u * w 1) t + g t * w 2

/-- what row `t` gives to its gradient in tap `x` -/
def conv3W (f g : Fin 2048 → EReal) (x : Fin 3) (t : Fin 2048) : EReal := back (2 - x.val) f t * g t

/-- an array of rows of four sequences, one sequence after another -/
def seqRows {N : ℕ} (f : Fin 4 → Fin 2048 → Fin N → EReal) (i : (⟨2, ![8192, N]⟩ : Shape).Idx) : EReal :=
  f (seq (i 0).val (i 0).isLt) (pos (i 0).val) (i 1)

/-- its entry in sequence `b`, row `t` -/
theorem seqRows_at {N : ℕ} (f : Fin 4 → Fin 2048 → Fin N → EReal) (j : (⟨2, ![8192, N]⟩ : Shape).Idx) (b : Fin 4) (t : Fin 2048) (l : Fin N)
    (h0 : (j 0).val = b.val * 2048 + t.val) (h1 : (j 1).val = l.val) : seqRows f j = f b t l := by
  have ht := t.isLt
  unfold seqRows
  exact congr (congr (congrArg f (Fin.ext (by show (j 0).val / 2048 = b.val; omega))) (Fin.ext (by show (j 0).val % 2048 = t.val; omega))) (Fin.ext h1)

/-- channel `l` of sequence `b` of a product of two arrays -/
def chanMul {N : ℕ} (x y : (⟨3, ![4, 2048, N]⟩ : Shape).Idx → EReal) (b : Fin 4) (l : Fin N) (t : Fin 2048) : EReal := x (ix3 b t l) * y (ix3 b t l)

end Cert.Grad
-- ==== Proof.ScPoint.lean ====
module

public import proofs.«01_k».proof.Proof.Shift
public import proofs.«01_k».proof.Proof.Gen.ScConvBwdIdeal.Skeleton

/-! # The block arithmetic of the short convolution's gradient

What the body stores, read at an index. -/

@[expose] public section

set_option maxRecDepth 16384

noncomputable section

open Idealize.ShloMosaic Idealize.ShloMosaic.TcCoe Idealize.SL.Sem

namespace Cert.ScConvBwdIdeal.Value
open Cert.ScConvBwdIdeal Cert.ScConvBwdIdeal.Gen Cert.Grad

variable (w : Vec Ideal S3x128 .f32) (cg bg xd ct : Vec Ideal S2048x128 .f32)

/-- column `l` of a product of two blocks -/
def colMul (x y : Vec Ideal S2048x128 .f32) (l : Fin 128) (t : Fin 2048) : EReal := x (ix2 t l) * y (ix2 t l)
/-- column `l` of the taps -/
def taps (l : Fin 128) (k : Fin 3) : EReal := w (ix2 k l)

theorem gated_at (t : Fin 2048) (l : Fin 128) : k0_pay6 cg xd (ix2 t l) = colMul xd cg l t := by
  pointwise [k0_pay6, k0_pay5, k0_pay4]; rfl
theorem dconv_at (t : Fin 2048) (l : Fin 128) : k0_pay13 bg ct (ix2 t l) = colMul bg ct l t := by
  pointwise [k0_pay13, k0_pay12]; rfl
theorem back2_at (t : Fin 2048) (l : Fin 128) : k0_pay8 cg xd (ix2 t l) = back 2 (colMul xd cg l) t := by
  pointwise [k0_pay8, gated_at]
  exact roll_back 2 (by omega) _ _
theorem back1_at (t : Fin 2048) (l : Fin 128) : k0_pay10 cg xd (ix2 t l) = back 1 (colMul xd cg l) t := by
  pointwise [k0_pay10, gated_at]
  exact roll_back 1 (by omega) _ _

/-- the gate's gradient -/
theorem dbg_at (t : Fin 2048) (l : Fin 128) : k0_pay2 (k0_pay14 w cg xd ct) (ix2 t l) = ct (ix2 t l) * conv3 (taps w l) (colMul xd cg l) t := by
  pointwise [k0_pay2, k0_pay14, k0_pay12, k0_pay7, k0_pay9, k0_pay11, gated_at, back2_at, back1_at]
  unfold conv3 taps
  exact congrArg (ct (ix2 t l) * ·) ((add_assoc _ _ _).trans (add_comm _ _))

/-- the gradient of the convolved product -/
theorem dx_at (t : Fin 2048) (l : Fin 128) :
    k0_pay17 (k0_pay7 w) (k0_pay9 w) (k0_pay13 bg ct) (k0_pay16 w bg ct) (ix2 t l) = conv3T (taps w l) (colMul bg ct l) t := by
  pointwise [k0_pay17, k0_pay7, k0_pay9, k0_pay11, k0_pay16, dconv_at]
  unfold conv3T
  rw [← roll_ahead 1 2047 rfl (by omega), ← roll_ahead 2 2046 rfl (by omega)]
  unfold taps
  ac_rfl

theorem dcg_at (t : Fin 2048) (l : Fin 128) :
    k0_pay1 (k0_pay18 (k0_pay5 xd) (k0_pay7 w) (k0_pay9 w) (k0_pay13 bg ct) (k0_pay16 w bg ct)) (ix2 t l)
      = xd (ix2 t l) * conv3T (taps w l) (colMul bg ct l) t := by
  pointwise [k0_pay1, k0_pay18, k0_pay5, dx_at]

theorem dxd_at (t : Fin 2048) (l : Fin 128) :
    k0_pay3 (k0_pay19 (k0_pay4 cg) (k0_pay7 w) (k0_pay9 w) (k0_pay13 bg ct) (k0_pay16 w bg ct)) (ix2 t l)
      = conv3T (taps w l) (colMul bg ct l) t * cg (ix2 t l) := by
  pointwise [k0_pay3, k0_pay19, k0_pay4, dx_at]

theorem row1_at (l : Fin 128) (i : Fin 1) : k0_pay15 cg bg xd ct (ix2 i l) = ∑ t, back 1 (colMul xd cg l) t * colMul bg ct l t := by
  pointwise [k0_pay15, back1_at, dconv_at]

/-- what a point adds to the taps' gradient -/
theorem dw_at (v : Vec Ideal S3x128 .f32) (x : Fin 3) (l : Fin 128) :
    k0_pay21 (k0_pay6 cg xd) (k0_pay8 cg xd) (k0_pay13 bg ct) (k0_pay15 cg bg xd ct) (Scalar.ofBits .f32 0x00000000#32) v (ix2 x l)
      = v (ix2 x l) + ∑ t, conv3W (colMul xd cg l) (colMul bg ct l) x t := by
  pointwise [k0_pay21, gated_at, back2_at, dconv_at, row1_at]
  refine congrArg (v (ix2 x l) + ·) ?_
  unfold conv3W
  match x with
  | ⟨0, _⟩ => simp
  | ⟨1, _⟩ => simp
  | ⟨2, _⟩ => simp [back_zero]

end Cert.ScConvBwdIdeal.Value
-- ==== Proof.ScMath.lean ====
module

public import proofs.«01_k».proof.Proof.Shift

/-! # The short convolution's gradient over whole arrays

`cg` gates the convolved sequence `xd`, `bg` the convolution's output, `w` are the taps, `ct` is the cotangent. -/

@[expose] public section

noncomputable section

namespace Cert.Grad
open Idealize.ShloMosaic

/-- an array of four sequences -/
abbrev Seqs (N : ℕ) := (⟨3, ![4, 2048, N]⟩ : Shape).Idx → EReal
/-- three taps for each channel -/
abbrev Taps3 (N : ℕ) := (⟨2, ![3, N]⟩ : Shape).Idx → EReal

variable {N : ℕ} (cg bg xd : Seqs N) (w : Taps3 N) (ct : Seqs N)

/-- the three taps of channel `l` -/
def tap3 (l : Fin N) (k : Fin 3) : EReal := w (ix2 k l)

/-- the gradient of the first gate -/
def scDcg (b : Fin 4) (t : Fin 2048) (l : Fin N) : EReal := xd (ix3 b t l) * conv3T (tap3 w l) (chanMul bg ct b l) t
/-- the gradient of the second gate -/
def scDbg (b : Fin 4) (t : Fin 2048) (l : Fin N) : EReal := ct (ix3 b t l) * conv3 (tap3 w l) (chanMul xd cg b l) t
/-- the gradient of the convolved sequence -/
def scDxd (b : Fin 4) (t : Fin 2048) (l : Fin N) : EReal := conv3T (tap3 w l) (chanMul bg ct b l) t * cg (ix3 b t l)
/-- what sequence `b` gives to the gradient of tap `x` of channel `l` -/
def scDw (b : Fin 4) (x : Fin 3) (l : Fin N) : EReal := ∑ t, conv3W (chanMul xd cg b l) (chanMul bg ct b l) x t

end Cert.Grad
-- ==== Proof.ScArrays.lean ====
module

public import proofs.«01_k».proof.Proof.ScPoint
public import proofs.«01_k».proof.Proof.ScMath
public import proofs.«01_k».proof.Proof.AccRow
public import proofs.«01_k».proof.Proof.Gen.ScConvBwdIdeal.Value
public import Idealize.ShloMosaic.Lib.StableHlo.ReadAt

/-! # The result arrays of the short convolution's gradient

Point `p` works on 128 channels of one sequence: channels from `128 * (p / 4)` on, sequence `p % 4`. -/

@[expose] public section

noncomputable section

open Idealize.ShloMosaic Idealize.ShloMosaic.TcCoe Idealize.SL.Sem

namespace Cert.ScConvBwdIdeal.Value
open Cert.ScConvBwdIdeal Cert.ScConvBwdIdeal.Gen Cert.Grad

/-- every window's block index at every point -/
theorem idx : ∀ t : Fin cfg0.N, win0_0.index t = ![0, t.val / 4] ∧ win0_1.index t = ![t.val % 4, t.val / 4] ∧ win0_2.index t = ![t.val % 4, t.val / 4]
    ∧ win0_3.index t = ![t.val % 4, t.val / 4] ∧ win0_4.index t = ![t.val % 4, t.val / 4] ∧ win0_5.index t = ![t.val % 4, t.val / 4]
    ∧ win0_6.index t = ![t.val % 4, t.val / 4] ∧ win0_7.index t = ![t.val % 4, t.val / 4] ∧ win0_8.index t = ![0, t.val / 4] :=
  (by decide +kernel : ∀ t : Fin grid0.N, _)

/-- sixteen points -/
theorem lt16 (p : Fin cfg0.N) : p.val < 16 := lt_of_lt_of_eq p.isLt N_0

variable (m : (ℓ : Loc nD τ sig) → Buf (Elt Ideal) ℓ) (c : Dev nD)

/-- the gate in front of the convolution, on device `c` -/
abbrev argC : S4x2048x512.Idx → EReal := m ((c : Thread nD τ).loc main_arg0)
/-- the gate behind it -/
abbrev argB : S4x2048x512.Idx → EReal := m ((c : Thread nD τ).loc main_arg1)
/-- the convolved sequence -/
abbrev argX : S4x2048x512.Idx → EReal := m ((c : Thread nD τ).loc main_arg2)
/-- the taps -/
abbrev argW : S3x512.Idx → EReal := m ((c : Thread nD τ).loc main_arg3)
/-- the cotangent -/
abbrev argD : S4x2048x512.Idx → EReal := m ((c : Thread nD τ).loc main_arg4)

/-- the sequence of point `p` -/
abbrev bOf (p : Fin cfg0.N) : Fin 4 := ⟨p.val % 4, Nat.mod_lt _ (by omega)⟩
/-- channel `l` of point `p` -/
abbrev lOf (p : Fin cfg0.N) (l : Fin 128) : Fin 512 := ⟨p.val / 4 * 128 + l.val, by have := lt16 p; omega⟩

/-- the block of point `p` of an array -/
def blkOf (x : S4x2048x512.Idx → EReal) (p : Fin cfg0.N) (i : S2048x128.Idx) : EReal := x (ix3 (bOf p) (i 0) (lOf p (i 1)))

theorem blk_w (p : Fin cfg0.N) : iblk m c 0 p = fun i : S3x128.Idx => argW m c (ix2 (i 0) (lOf p (i 1))) := by
  funext i
  blk_simp [iblk]
  unfold_abbrev_sides
  simp only [hostOps0, List.flatten_singleton]
  after_reads_at
  blk_ext [idx p]

theorem blk_c (p : Fin cfg0.N) : iblk m c 1 p = blkOf (argC m c) p := by
  funext i
  unfold blkOf
  blk_simp [iblk]
  unfold_abbrev_sides
  simp only [hostOps0, List.flatten_singleton]
  after_reads_at
  blk_ext [idx p]

theorem blk_b (p : Fin cfg0.N) : iblk m c 2 p = blkOf (argB m c) p := by
  funext i
  unfold blkOf
  blk_simp [iblk]
  unfold_abbrev_sides
  simp only [hostOps0, List.flatten_singleton]
  after_reads_at
  blk_ext [idx p]

theorem blk_x (p : Fin cfg0.N) : iblk m c 3 p = blkOf (argX m c) p := by
  funext i
  unfold blkOf
  blk_simp [iblk]
  unfold_abbrev_sides
  simp only [hostOps0, List.flatten_singleton]
  after_reads_at
  blk_ext [idx p]

theorem blk_d (p : Fin cfg0.N) : iblk m c 4 p = blkOf (argD m c) p := by
  funext i
  unfold blkOf
  blk_simp [iblk]
  unfold_abbrev_sides
  simp only [hostOps0, List.flatten_singleton]
  after_reads_at
  blk_ext [idx p]

/-- the three rows of results: the gradients of the two gates and of the convolved sequence -/
abbrev dcgAt := scDcg (argB m c) (argX m c) (argW m c) (argD m c)
abbrev dbgAt := scDbg (argC m c) (argX m c) (argW m c) (argD m c)
abbrev dxdAt := scDxd (argC m c) (argB m c) (argW m c) (argD m c)
/-- what sequence `b` gives to the gradient of tap `x` -/
abbrev dwAt := scDw (argC m c) (argB m c) (argX m c) (argD m c)

theorem final_dcg : (dats m 0 c).arrAt 5 cfg0.N = seqRows (dcgAt m c) := by
  refine (dats m 0 c).arrAt_eq_of_covers 5 _ (by decide +kernel) fun p _ y => ?_
  have hp := lt16 p
  blk_simp
  rw [after0_5]
  have hc : (outsAt0 m c p.val p.isLt).1 = k0_pay1 (k0_pay18 (k0_pay5 (iblk m c 3 p)) (k0_pay7 (iblk m c 0 p)) (k0_pay9 (iblk m c 0 p)) (k0_pay13 (iblk m c 2 p) (iblk m c 4 p))
      (k0_pay16 (iblk m c 0 p) (iblk m c 2 p) (iblk m c 4 p))) := by
    by_cases h0 : p.val % 4 = 0
    · rw [outsAt0_A m c p h0]; frame_out
    · rw [outsAt0_B m c p h0]; frame_out
  rw [hc, blk_w, blk_b, blk_x, blk_d]
  refine Eq.trans ?_ (seqRows_at _ _ (bOf p) (y 0) (lOf p (y 1)) ?_ ?_).symm
  · exact (congrArg _ (eq_ix2 y)).trans (dcg_at _ _ _ _ (y 0) (y 1))
  all_goals blk_ext [idx p]

theorem final_dbg : (dats m 0 c).arrAt 6 cfg0.N = seqRows (dbgAt m c) := by
  refine (dats m 0 c).arrAt_eq_of_covers 6 _ (by decide +kernel) fun p _ y => ?_
  have hp := lt16 p
  blk_simp
  rw [after0_6]
  have hc : (outsAt0 m c p.val p.isLt).2.1 = k0_pay2 (k0_pay14 (iblk m c 0 p) (iblk m c 1 p) (iblk m c 3 p) (iblk m c 4 p)) := by
    by_cases h0 : p.val % 4 = 0
    · rw [outsAt0_A m c p h0]; frame_out
    · rw [outsAt0_B m c p h0]; frame_out
  rw [hc, blk_w, blk_c, blk_x, blk_d]
  refine Eq.trans ?_ (seqRows_at _ _ (bOf p) (y 0) (lOf p (y 1)) ?_ ?_).symm
  · exact (congrArg _ (eq_ix2 y)).trans (dbg_at _ _ _ _ (y 0) (y 1))
  all_goals blk_ext [idx p]

theorem final_dxd : (dats m 0 c).arrAt 7 cfg0.N = seqRows (dxdAt m c) := by
  refine (dats m 0 c).arrAt_eq_of_covers 7 _ (by decide +kernel) fun p _ y => ?_
  have hp := lt16 p
  blk_simp
  rw [after0_7]
  have hc : (outsAt0 m c p.val p.isLt).2.2.1 = k0_pay3 (k0_pay19 (k0_pay4 (iblk m c 1 p)) (k0_pay7 (iblk m c 0 p)) (k0_pay9 (iblk m c 0 p)) (k0_pay13 (iblk m c 2 p) (iblk m c 4 p))
      (k0_pay16 (iblk m c 0 p) (iblk m c 2 p) (iblk m c 4 p))) := by
    by_cases h0 : p.val % 4 = 0
    · rw [outsAt0_A m c p h0]; frame_out
    · rw [outsAt0_B m c p h0]; frame_out
  rw [hc, blk_w, blk_c, blk_b, blk_d]
  refine Eq.trans ?_ (seqRows_at _ _ (bOf p) (y 0) (lOf p (y 1)) ?_ ?_).symm
  · exact (congrArg _ (eq_ix2 y)).trans (dxd_at _ _ _ _ (y 0) (y 1))
  all_goals blk_ext [idx p]

theorem dw_term (p : Fin cfg0.N) (v : Vec Ideal S3x128 .f32) (x : Fin 3) (l : Fin 128) :
    k0_pay21 (k0_pay6 (iblk m c 1 p) (iblk m c 3 p)) (k0_pay8 (iblk m c 1 p) (iblk m c 3 p)) (k0_pay13 (iblk m c 2 p) (iblk m c 4 p))
      (k0_pay15 (iblk m c 1 p) (iblk m c 2 p) (iblk m c 3 p) (iblk m c 4 p)) (Scalar.ofBits .f32 0x00000000#32) v (ix2 x l)
      = v (ix2 x l) + dwAt m c (bOf p) x (lOf p l) := by
  rw [blk_c, blk_b, blk_x, blk_d]
  exact dw_at _ _ _ _ v x l

theorem flush8 : ∀ p : Fin cfg0.N, (cfg0.win 8).flush p = true → p.val % 4 = 4 - 1 :=
  (by decide +kernel : ∀ t : Fin grid0.N, _)

/-- the gradient of the taps: the four sequences' shares -/
theorem final_dw : (dats m 0 c).arrAt 8 cfg0.N = fun i : S3x512.Idx => ∑ b, dwAt m c b (i 0) (i 1) := by
  refine (dats m 0 c).arrAt_eq_of_covers 8 _ (by decide +kernel) fun p hf y => ?_
  have hp := lt16 p
  blk_simp
  rw [after0_8, Pipeline.eq_sum_fin_of_reset_step_apply_of_flush (fun n h => (outsAt0 m c n h).2.2.2) 4 (fun _ => 0)
    (fun p j => dwAt m c (bOf p) (j 0) (lOf p (j 1))) (fun p h0 j => ?_) (fun p h0 j => ?_) p (flush8 p hf) y]
  · refine (zero_add (∑ s : Fin 4, _ : EReal)).trans (Finset.sum_congr rfl fun b _ => ?_)
    have hb := b.isLt
    refine congr (congr (congrArg (dwAt m c) (Fin.ext ?_)) (Fin.ext ?_)) (Fin.ext ?_)
    · show (4 * (p.val / 4) + b.val) % 4 = b.val
      omega
    · blk_ext [idx p]
    · refine Eq.trans (b := p.val / 4 * 128 + (y 1).val) ?_ ?_
      · show (4 * (p.val / 4) + b.val) / 4 * 128 + _ = _
        omega
      · blk_ext [idx p]
  · rw [outsAt0_A m c p h0]
    frame_out
    idx_vars j
    refine (dw_term m c p _ j0 j1).trans ?_
    pointwise [k0_pay20]
  · rw [outsAt0_B m c p h0]
    frame_out
    idx_vars j
    exact dw_term m c p _ j0 j1

end Cert.ScConvBwdIdeal.Value
-- ==== Proof.ScRef.lean ====
module

public import proofs.«01_k».proof.Proof.ScMath
public import proofs.«01_k».proof.Proof.LeadSum
public import proofs.«01_k».proof.Proof.Gen.ScConvBwdRefIdeal.Read

/-! # The reference's results: the short convolution's gradient -/

@[expose] public section

noncomputable section

open Idealize.ShloMosaic Idealize.ShloMosaic.TcCoe Idealize.SL.Sem

namespace Cert.ScConvBwdRefIdeal.Value
open Cert.ScConvBwdRefIdeal Cert.ScConvBwdRefIdeal.Gen Cert.ScConvBwdRefIdeal.Read Cert.Grad

variable (cg bg xd : S4x2048x512.Idx → EReal) (w : S3x512.Idx → EReal) (ct : S4x2048x512.Idx → EReal)

theorem v4_eq : val_main_v4 (F := Ideal) cg xd = fun i => back 2 (chanMul xd cg (i 0) (i 2)) (i 1) := by
  funext i
  idx_vars i
  pointwise [val_main_v4, val_main_v2, val_main_v1, val_main_v0, val_main_cst]
  rfl

theorem v12_eq : val_main_v12 (F := Ideal) cg xd = fun i => back 1 (chanMul xd cg (i 0) (i 2)) (i 1) := by
  funext i
  idx_vars i
  pointwise [val_main_v12, val_main_v2, val_main_v1, val_main_v0, val_main_cst]
  exact pad_back 1 1 (chanMul xd cg i0 i2) i1

theorem v19_eq : val_main_v19 (F := Ideal) cg xd = fun i => chanMul xd cg (i 0) (i 2) (i 1) := by
  funext i
  idx_vars i
  pointwise [val_main_v19, val_main_v2, val_main_v1, val_main_v0, val_main_cst]
  rfl

/-- the gradient of the second gate -/
theorem v28_eq : val_main_v28 (F := Ideal) cg xd w ct = fun i => scDbg cg xd w ct (i 0) (i 1) (i 2) := by
  funext i
  idx_vars i
  pointwise [val_main_v28, val_main_v25, val_main_v24, val_main_v23, val_main_v22, val_main_v21, val_main_v20, val_main_v18, val_main_v17,
    val_main_v16, val_main_v15, val_main_v14, val_main_v13, val_main_v11, val_main_v10, val_main_cst_1, val_main_v9, val_main_v8, val_main_v7,
    val_main_v6, val_main_v5, v4_eq, v12_eq, v19_eq]
  rfl

theorem v27_eq : val_main_v27 (F := Ideal) bg ct = fun i => chanMul bg ct (i 0) (i 2) (i 1) := by
  funext i
  idx_vars i
  pointwise [val_main_v27]
  rfl

/-- the gradient of the product that is convolved -/
theorem v61_eq : val_main_v61 (F := Ideal) bg w ct = fun i => conv3T (tap3 w (i 2)) (chanMul bg ct (i 0) (i 2)) (i 1) := by
  funext i
  idx_vars i
  pointwise [val_main_v61, val_main_v59, val_main_v58, val_main_v53, val_main_v52, val_main_v48, val_main_v47, val_main_v42, val_main_v41, val_main_v37,
    val_main_v33, val_main_v32, val_main_v22, val_main_v21, val_main_v20, val_main_v15, val_main_v14, val_main_v13, val_main_v7, val_main_v6, val_main_v5,
    v27_eq, val_main_cst_5, val_main_cst_9, val_main_cst_13]
  unfold conv3T
  rw [← pad_ahead_zero 2, ← pad_ahead 1 1]
  exact (add_comm (_ : EReal) _).trans ((congrArg (_ + ·) (add_comm (_ : EReal) _)).trans (add_assoc (_ : EReal) _ _).symm)

/-- the taps' gradients, one row each -/
theorem v34_at (l : Fin 512) : val_main_v34 (F := Ideal) cg bg xd ct (ix1 l) = ∑ b, scDw cg bg xd ct b 2 l := by
  pointwise [val_main_v34, val_main_cst_3]
  rw [hostReduceAdd_lead]
  pointwise [val_main_v31, val_main_v30, val_main_cst_2]
  rw [hostReduceAdd_lead]
  pointwise [val_main_v29, v19_eq, v27_eq]
  simp only [Fin.sum_univ_one, scDw, conv3W]
  exact Finset.sum_congr rfl fun b _ => Finset.sum_congr rfl fun t _ => congrArg (· * _) (congrFun (back_zero _) _).symm

theorem v43_at (l : Fin 512) : val_main_v43 (F := Ideal) cg bg xd ct (ix1 l) = ∑ b, scDw cg bg xd ct b 1 l := by
  pointwise [val_main_v43, val_main_cst_7]
  rw [hostReduceAdd_lead]
  pointwise [val_main_v40, val_main_v39, val_main_cst_6]
  rw [hostReduceAdd_lead]
  pointwise [val_main_v38, v12_eq, v27_eq]
  simp only [Fin.sum_univ_one]
  rfl

theorem v54_at (l : Fin 512) : val_main_v54 (F := Ideal) cg bg xd ct (ix1 l) = ∑ b, scDw cg bg xd ct b 0 l := by
  pointwise [val_main_v54, val_main_cst_11]
  rw [hostReduceAdd_lead]
  pointwise [val_main_v51, val_main_v50, val_main_cst_10]
  rw [hostReduceAdd_lead]
  pointwise [val_main_v49, v4_eq, v27_eq]
  simp only [Fin.sum_univ_one]
  rfl

/-- the taps' gradient -/
theorem v57_eq : val_main_v57 (F := Ideal) cg bg xd ct = fun i => ∑ b, scDw cg bg xd ct b (i 0) (i 1) := by
  funext i
  idx_vars i
  pointwise [val_main_v57, val_main_v56, val_main_v55, val_main_v46, val_main_v45, val_main_v44, val_main_v36, val_main_v35, v34_at, v43_at, v54_at,
    val_main_cst_4, val_main_cst_8, val_main_cst_12]
  match i0 with
  | ⟨0, _⟩ => simp
  | ⟨1, _⟩ => simp
  | ⟨2, _⟩ => simp

theorem v65_eq : val_main_v65 (F := Ideal) bg xd w ct = seqRows (scDcg bg xd w ct) := by
  funext i
  idx_vars i
  pointwise [val_main_v65, val_main_v64, val_main_v62, v61_eq]
  rfl

theorem v67_eq : val_main_v67 (F := Ideal) cg xd w ct = seqRows (scDbg cg xd w ct) := by
  funext i
  idx_vars i
  pointwise [val_main_v67, val_main_v66, v28_eq]
  rfl

theorem v69_eq : val_main_v69 (F := Ideal) cg bg w ct = seqRows (scDxd cg bg w ct) := by
  funext i
  idx_vars i
  pointwise [val_main_v69, val_main_v68, val_main_v63, v61_eq]
  rfl

end Cert.ScConvBwdRefIdeal.Value
-- ==== Proof.ScEq.lean ====
module

public import proofs.«01_k».proof.Proof.ScArrays
public import proofs.«01_k».proof.Proof.ScRef
public import proofs.«01_k».proof.Defs

/-! # The short convolution's gradient: the kernel's results are the reference's -/

@[expose] public section

noncomputable section

open Idealize.ShloMosaic Idealize.ShloMosaic.TcCoe Idealize.SL.Sem

namespace Cert.Proof
open Cert.ScConvBwdIdeal.Value Cert.ScConvBwdRefIdeal.Value Cert.Grad

/-- the two programs of the short convolution's gradient compute the same four arrays -/
theorem sc_conv : Cert.algebraic_ScConvBwdIdeal_ScConvBwdRefIdeal := by
  intro m ρ m' ρ' _ ha
  refine ⟨fun c => (Cert.ScConvBwdIdeal.Gen.dats m 0 c).arrAt 5 Cert.ScConvBwdIdeal.cfg0.N, fun c => (Cert.ScConvBwdIdeal.Gen.dats m 0 c).arrAt 6 Cert.ScConvBwdIdeal.cfg0.N,
    fun c => (Cert.ScConvBwdIdeal.Gen.dats m 0 c).arrAt 7 Cert.ScConvBwdIdeal.cfg0.N, fun c => (Cert.ScConvBwdIdeal.Gen.dats m 0 c).arrAt 8 Cert.ScConvBwdIdeal.cfg0.N,
    Cert.ScConvBwdIdeal.Value.run_blocks m ρ, ?_⟩
  refine (θ_run _ _ _).mono (fun r hr c => ?_) (Cert.ScConvBwdRefIdeal.Value.run m' ρ')
  obtain ⟨r0, r1, r2, r3, k⟩ := hr c
  obtain ⟨a0, a1, a2, a3, a4⟩ := ha c
  open Cert.ScConvBwdRefIdeal.Read in
  refine ⟨r0.trans ((val_main_v65_eq _ _ _ _).trans ?_), r1.trans ((val_main_v67_eq _ _ _ _).trans ?_),
    r2.trans ((val_main_v69_eq _ _ _ _).trans ?_), r3.trans ((val_main_v57_eq _ _ _ _).trans ?_), k⟩
  · rw [a1, a2, a3, a4]; exact ((final_dcg m c).trans (v65_eq _ _ _ _).symm).symm
  · rw [a0, a2, a3, a4]; exact ((final_dbg m c).trans (v67_eq _ _ _ _).symm).symm
  · rw [a0, a1, a3, a4]; exact ((final_dxd m c).trans (v69_eq _ _ _ _).symm).symm
  · rw [a0, a1, a2, a4]; exact ((final_dw m c).trans (v57_eq _ _ _ _).symm).symm

end Cert.Proof
-- ==== Proof.DnMath.lean ====
module

public import proofs.«01_k».proof.Proof.ScMath

/-! # The gradient of the convolution with silu over whole arrays

`x` is the convolved sequence, `w` are the four taps of each channel, `ct` is the cotangent of the silu. -/

@[expose] public section

noncomputable section

namespace Cert.Grad
open Idealize.ShloMosaic

/-- four taps for each channel -/
abbrev Taps4 (N : ℕ) := (⟨2, ![4, N]⟩ : Shape).Idx → EReal

/-- the convolution with four taps, the last one on the row itself -/
def conv4 (w : Fin 4 → EReal) (f : Fin 2048 → EReal) (t : Fin 2048) : EReal :=
  back 3 f t * w 0 + back 2 f t * w 1 + back 1 f t * w 2 + f t * w 3

/-- its gradient in the sequence, from the cotangent `g` -/
def conv4T (w : Fin 4 → EReal) (g : Fin 2048 → EReal) (t : Fin 2048) : EReal :=
  ahead 3 (fun u => g u * w 0) t + ahead 2 (fun u => g u * w 1) t + ahead 1 (fun u => g u * w 2) t + g t * w 3

/-- what row `t` gives to its gradient in tap `k` -/
def conv4W (f g : Fin 2048 → EReal) (k : Fin 4) (t : Fin 2048) : EReal := back (3 - k.val) f t * g t

/-- silu's gradient at `a`, from the cotangent `g` -/
def siluD (a g : EReal) : EReal := g * Ideal.logistic a + a * g * (Ideal.logistic a * (1 - Ideal.logistic a))

variable {N : ℕ} (x : Seqs N) (w : Taps4 N) (ct : Seqs N)

/-- the four taps of channel `l` -/
def tap4 (l : Fin N) (k : Fin 4) : EReal := w (ix2 k l)
/-- channel `l` of sequence `b` -/
def chan (b : Fin 4) (l : Fin N) (t : Fin 2048) : EReal := x (ix3 b t l)
/-- the cotangent of the convolution -/
def dnCot (b : Fin 4) (l : Fin N) (t : Fin 2048) : EReal := siluD (conv4 (tap4 w l) (chan x b l) t) (ct (ix3 b t l))
/-- the gradient of the convolved sequence -/
def dnDx (b : Fin 4) (t : Fin 2048) (l : Fin N) : EReal := conv4T (tap4 w l) (dnCot x w ct b l) t
/-- what sequence `b` gives to the gradient of tap `k` of channel `l` -/
def dnDw (b : Fin 4) (k : Fin 4) (l : Fin N) : EReal := ∑ t, conv4W (chan x b l) (dnCot x w ct b l) k t

end Cert.Grad
-- ==== Proof.DnPoint.lean ====
module

public import proofs.«01_k».proof.Proof.DnMath
public import proofs.«01_k».proof.Proof.Gen.DnConvBwdIdeal.Skeleton

/-! # The block arithmetic of the gradient of the convolution with silu

What the body stores, read at an index. -/

@[expose] public section

set_option maxRecDepth 16384

noncomputable section

open Idealize.ShloMosaic Idealize.ShloMosaic.TcCoe Idealize.SL.Sem

namespace Cert.DnConvBwdIdeal.Value
open Cert.DnConvBwdIdeal Cert.DnConvBwdIdeal.Gen Cert.Grad

variable (w : Vec Ideal S4x128 .f32) (x ct : Vec Ideal S2048x128 .f32)

/-- column `l` of a block -/
def col (x : Vec Ideal S2048x128 .f32) (l : Fin 128) (t : Fin 2048) : EReal := x (ix2 t l)
/-- column `l` of the taps -/
def taps (l : Fin 128) (k : Fin 4) : EReal := w (ix2 k l)
/-- column `l` of the convolution's cotangent -/
def cot (l : Fin 128) (t : Fin 2048) : EReal := siluD (conv4 (taps w l) (col x l) t) (ct (ix2 t l))

theorem x_at (t : Fin 2048) (l : Fin 128) : k0_pay4 x (ix2 t l) = col x l t := by
  pointwise [k0_pay4]; rfl
theorem back3_at (t : Fin 2048) (l : Fin 128) : k0_pay6 x (ix2 t l) = back 3 (col x l) t := by
  pointwise [k0_pay6, x_at]
  exact roll_back 3 (by omega) _ _
theorem back2_at (t : Fin 2048) (l : Fin 128) : k0_pay8 x (ix2 t l) = back 2 (col x l) t := by
  pointwise [k0_pay8, x_at]
  exact roll_back 2 (by omega) _ _
theorem back1_at (t : Fin 2048) (l : Fin 128) : k0_pay10 x (ix2 t l) = back 1 (col x l) t := by
  pointwise [k0_pay10, x_at]
  exact roll_back 1 (by omega) _ _

/-- the convolution -/
theorem conv_at (t : Fin 2048) (l : Fin 128) : k0_pay12 w x (ix2 t l) = conv4 (taps w l) (col x l) t := by
  pointwise [k0_pay12, k0_pay5, k0_pay7, k0_pay9, k0_pay11, x_at, back3_at, back2_at, back1_at]
  unfold conv4 taps
  exact (add_assoc _ _ _).trans ((add_assoc _ _ _).trans ((add_comm _ _).trans (congrArg (· + _) (add_assoc _ _ _).symm)))

/-- the convolution's cotangent -/
theorem cot_at (t : Fin 2048) (l : Fin 128) :
    k0_pay16 (k0_pay12 w x) (k0_pay13 w x) (k0_pay14 w x) (k0_pay15 ct) (ix2 t l) = cot w x ct l t := by
  pointwise [k0_pay16, k0_pay14, k0_pay13, k0_pay15, conv_at]
  rfl

/-- the sequence's gradient -/
theorem dx_at (t : Fin 2048) (l : Fin 128) :
    k0_pay3 (k0_pay5 w) (k0_pay16 (k0_pay12 w x) (k0_pay13 w x) (k0_pay14 w x) (k0_pay15 ct))
      (k0_pay17 (k0_pay9 w) (k0_pay11 w) (k0_pay12 w x) (k0_pay13 w x) (k0_pay14 w x) (k0_pay15 ct))
      (k0_pay18 (k0_pay7 w) (k0_pay12 w x) (k0_pay13 w x) (k0_pay14 w x) (k0_pay15 ct)) k0_pay20 (ix2 t l)
      = conv4T (taps w l) (cot w x ct l) t := by
  pointwise [k0_pay3, k0_pay5, k0_pay7, k0_pay9, k0_pay11, k0_pay17, k0_pay18, k0_pay20, cot_at]
  unfold conv4T
  rw [← roll_ahead 1 2047 rfl (by omega), ← roll_ahead 2 2046 rfl (by omega), ← roll_ahead 3 2045 rfl (by omega)]
  unfold taps
  refine congrArg (· + _) ?_
  exact (congrArg (· + _) (add_comm _ _)).trans ((add_comm _ _).trans (add_assoc _ _ _).symm)

/-- what a point adds to the taps' gradient -/
theorem dw_at (v : Vec Ideal S4x128 .f32) (k : Fin 4) (l : Fin 128) :
    k0_pay2 (k0_pay4 x) (k0_pay16 (k0_pay12 w x) (k0_pay13 w x) (k0_pay14 w x) (k0_pay15 ct))
      (k0_pay19 (k0_pay6 x) (k0_pay8 x) (k0_pay10 x) (k0_pay12 w x) (k0_pay13 w x) (k0_pay14 w x) (k0_pay15 ct)) v (ix2 k l)
      = v (ix2 k l) + ∑ t, conv4W (col x l) (cot w x ct l) k t := by
  pointwise [k0_pay2, k0_pay19, x_at, back1_at, back2_at, back3_at, cot_at]
  refine congrArg (v (ix2 k l) + ·) ?_
  unfold conv4W
  match k with
  | ⟨0, _⟩ => simp
  | ⟨1, _⟩ => simp
  | ⟨2, _⟩ => simp
  | ⟨3, _⟩ => simp [back_zero]

end Cert.DnConvBwdIdeal.Value
-- ==== Proof.DnArrays.lean ====
module

public import proofs.«01_k».proof.Proof.DnPoint
public import proofs.«01_k».proof.Proof.AccRow
public import proofs.«01_k».proof.Proof.Gen.DnConvBwdIdeal.Value
public import Idealize.ShloMosaic.Lib.StableHlo.ReadAt

/-! # The result arrays of the gradient of the convolution with silu

Point `p` works on 128 channels of one sequence: channels from `128 * (p / 4)` on, sequence `p % 4`. -/

@[expose] public section

noncomputable section

open Idealize.ShloMosaic Idealize.ShloMosaic.TcCoe Idealize.SL.Sem

namespace Cert.DnConvBwdIdeal.Value
open Cert.DnConvBwdIdeal Cert.DnConvBwdIdeal.Gen Cert.Grad

/-- every window's block index at every point -/
theorem idx : ∀ t : Fin cfg0.N, win0_0.index t = ![0, t.val / 4] ∧ win0_1.index t = ![t.val % 4, t.val / 4] ∧ win0_2.index t = ![t.val % 4, t.val / 4]
    ∧ win0_3.index t = ![t.val % 4, t.val / 4] ∧ win0_4.index t = ![0, t.val / 4] :=
  (by decide +kernel : ∀ t : Fin grid0.N, _)

/-- forty-eight points -/
theorem lt48 (p : Fin cfg0.N) : p.val < 48 := lt_of_lt_of_eq p.isLt N_0

variable (m : (ℓ : Loc nD τ sig) → Buf (Elt Ideal) ℓ) (c : Dev nD)

/-- the convolved sequence on device `c` -/
abbrev argX : S4x2048x1536.Idx → EReal := m ((c : Thread nD τ).loc main_arg0)
/-- the taps -/
abbrev argW : S4x1536.Idx → EReal := m ((c : Thread nD τ).loc main_arg1)
/-- the cotangent -/
abbrev argD : S4x2048x1536.Idx → EReal := m ((c : Thread nD τ).loc main_arg2)

/-- the sequence of point `p` -/
abbrev bOf (p : Fin cfg0.N) : Fin 4 := ⟨p.val % 4, Nat.mod_lt _ (by omega)⟩
/-- channel `l` of point `p` -/
abbrev lOf (p : Fin cfg0.N) (l : Fin 128) : Fin 1536 := ⟨p.val / 4 * 128 + l.val, by have := lt48 p; omega⟩

/-- the block of point `p` of an array -/
def blkOf (x : S4x2048x1536.Idx → EReal) (p : Fin cfg0.N) (i : S2048x128.Idx) : EReal := x (ix3 (bOf p) (i 0) (lOf p (i 1)))

theorem blk_w (p : Fin cfg0.N) : iblk m c 0 p = fun i : S4x128.Idx => argW m c (ix2 (i 0) (lOf p (i 1))) := by
  funext i
  blk_simp [iblk]
  unfold_abbrev_sides
  simp only [hostOps0, List.flatten_singleton]
  after_reads_at
  blk_ext [idx p]

theorem blk_x (p : Fin cfg0.N) : iblk m c 1 p = blkOf (argX m c) p := by
  funext i
  unfold blkOf
  blk_simp [iblk]
  unfold_abbrev_sides
  simp only [hostOps0, List.flatten_singleton]
  after_reads_at
  blk_ext [idx p]

theorem blk_d (p : Fin cfg0.N) : iblk m c 2 p = blkOf (argD m c) p := by
  funext i
  unfold blkOf
  blk_simp [iblk]
  unfold_abbrev_sides
  simp only [hostOps0, List.flatten_singleton]
  after_reads_at
  blk_ext [idx p]

abbrev dxAt := dnDx (argX m c) (argW m c) (argD m c)
abbrev dwAt := dnDw (argX m c) (argW m c) (argD m c)

/-- the sequence's gradient -/
theorem final_dx : (dats m 0 c).arrAt 3 cfg0.N = seqRows (dxAt m c) := by
  refine (dats m 0 c).arrAt_eq_of_covers 3 _ (by decide +kernel) fun p _ y => ?_
  have hp := lt48 p
  blk_simp
  rw [after0_3]
  have hc : (outsAt0 m c p.val p.isLt).1 = k0_pay3 (k0_pay5 (iblk m c 0 p))
      (k0_pay16 (k0_pay12 (iblk m c 0 p) (iblk m c 1 p)) (k0_pay13 (iblk m c 0 p) (iblk m c 1 p)) (k0_pay14 (iblk m c 0 p) (iblk m c 1 p)) (k0_pay15 (iblk m c 2 p)))
      (k0_pay17 (k0_pay9 (iblk m c 0 p)) (k0_pay11 (iblk m c 0 p)) (k0_pay12 (iblk m c 0 p) (iblk m c 1 p)) (k0_pay13 (iblk m c 0 p) (iblk m c 1 p))
        (k0_pay14 (iblk m c 0 p) (iblk m c 1 p)) (k0_pay15 (iblk m c 2 p)))
      (k0_pay18 (k0_pay7 (iblk m c 0 p)) (k0_pay12 (iblk m c 0 p) (iblk m c 1 p)) (k0_pay13 (iblk m c 0 p) (iblk m c 1 p)) (k0_pay14 (iblk m c 0 p) (iblk m c 1 p))
        (k0_pay15 (iblk m c 2 p))) k0_pay20 := by
    by_cases h0 : p.val % 4 = 0
    · rw [outsAt0_A m c p h0]; frame_out
    · rw [outsAt0_B m c p h0]; frame_out
  rw [hc, blk_w, blk_x, blk_d]
  refine Eq.trans ?_ (seqRows_at _ _ (bOf p) (y 0) (lOf p (y 1)) ?_ ?_).symm
  · exact (congrArg _ (eq_ix2 y)).trans (dx_at _ _ _ (y 0) (y 1))
  all_goals blk_ext [idx p]

theorem dw_term (p : Fin cfg0.N) (v : Vec Ideal S4x128 .f32) (k : Fin 4) (l : Fin 128) :
    k0_pay2 (k0_pay4 (iblk m c 1 p))
      (k0_pay16 (k0_pay12 (iblk m c 0 p) (iblk m c 1 p)) (k0_pay13 (iblk m c 0 p) (iblk m c 1 p)) (k0_pay14 (iblk m c 0 p) (iblk m c 1 p)) (k0_pay15 (iblk m c 2 p)))
      (k0_pay19 (k0_pay6 (iblk m c 1 p)) (k0_pay8 (iblk m c 1 p)) (k0_pay10 (iblk m c 1 p)) (k0_pay12 (iblk m c 0 p) (iblk m c 1 p))
        (k0_pay13 (iblk m c 0 p) (iblk m c 1 p)) (k0_pay14 (iblk m c 0 p) (iblk m c 1 p)) (k0_pay15 (iblk m c 2 p))) v (ix2 k l)
      = v (ix2 k l) + dwAt m c (bOf p) k (lOf p l) := by
  rw [blk_w, blk_x, blk_d]
  exact dw_at _ _ _ v k l

theorem flush4 : ∀ p : Fin cfg0.N, (cfg0.win 4).flush p = true → p.val % 4 = 4 - 1 :=
  (by decide +kernel : ∀ t : Fin grid0.N, _)

/-- the gradient of the taps: the four sequences' shares -/
theorem final_dw : (dats m 0 c).arrAt 4 cfg0.N = fun i : S4x1536.Idx => ∑ b, dwAt m c b (i 0) (i 1) := by
  refine (dats m 0 c).arrAt_eq_of_covers 4 _ (by decide +kernel) fun p hf y => ?_
  have hp := lt48 p
  blk_simp
  rw [after0_4, Pipeline.eq_sum_fin_of_reset_step_apply_of_flush (fun n h => (outsAt0 m c n h).2) 4 (fun _ => 0)
    (fun p j => dwAt m c (bOf p) (j 0) (lOf p (j 1))) (fun p h0 j => ?_) (fun p h0 j => ?_) p (flush4 p hf) y]
  · refine (zero_add (∑ s : Fin 4, _ : EReal)).trans (Finset.sum_congr rfl fun b _ => ?_)
    have hb := b.isLt
    refine congr (congr (congrArg (dwAt m c) (Fin.ext ?_)) (Fin.ext ?_)) (Fin.ext ?_)
    · show (4 * (p.val / 4) + b.val) % 4 = b.val
      omega
    · blk_ext [idx p]
    · refine Eq.trans (b := p.val / 4 * 128 + (y 1).val) ?_ ?_
      · show (4 * (p.val / 4) + b.val) / 4 * 128 + _ = _
        omega
      · blk_ext [idx p]
  · rw [outsAt0_A m c p h0]
    frame_out
    idx_vars j
    refine (dw_term m c p _ j0 j1).trans ?_
    pointwise [k0_pay1]
  · rw [outsAt0_B m c p h0]
    frame_out
    idx_vars j
    exact dw_term m c p _ j0 j1

end Cert.DnConvBwdIdeal.Value
-- ==== Proof.DnRef.lean ====
module

public import proofs.«01_k».proof.Proof.DnMath
public import proofs.«01_k».proof.Proof.LeadSum
public import proofs.«01_k».proof.Proof.Gen.DnConvBwdRefIdeal.Read

/-! # The reference's results: the gradient of the convolution with silu -/

@[expose] public section

noncomputable section

open Idealize.ShloMosaic Idealize.ShloMosaic.TcCoe Idealize.SL.Sem

namespace Cert.DnConvBwdRefIdeal.Value
open Cert.DnConvBwdRefIdeal Cert.DnConvBwdRefIdeal.Gen Cert.DnConvBwdRefIdeal.Read Cert.Grad

variable (x : S4x2048x1536.Idx → EReal) (w : S4x1536.Idx → EReal) (ct : S4x2048x1536.Idx → EReal)

theorem v3_eq : val_main_v3 (F := Ideal) x = fun i => back 3 (chan x (i 0) (i 2)) (i 1) := by
  funext i
  idx_vars i
  pointwise [val_main_v3, val_main_v1, val_main_v0, val_main_cst]
  rfl

theorem v11_eq : val_main_v11 (F := Ideal) x = fun i => back 2 (chan x (i 0) (i 2)) (i 1) := by
  funext i
  idx_vars i
  pointwise [val_main_v11, val_main_v1, val_main_v0, val_main_cst]
  exact pad_back 2 1 (chan x i0 i2) i1

theorem v18_eq : val_main_v18 (F := Ideal) x = fun i => back 1 (chan x (i 0) (i 2)) (i 1) := by
  funext i
  idx_vars i
  pointwise [val_main_v18, val_main_v1, val_main_v0, val_main_cst]
  exact pad_back 1 2 (chan x i0 i2) i1

theorem v25_eq : val_main_v25 (F := Ideal) x = fun i => chan x (i 0) (i 2) (i 1) := by
  funext i
  idx_vars i
  pointwise [val_main_v25, val_main_v1, val_main_v0, val_main_cst]
  rfl

/-- the convolution -/
theorem v31_eq : val_main_v31 (F := Ideal) x w = fun i => conv4 (tap4 w (i 2)) (chan x (i 0) (i 2)) (i 1) := by
  funext i
  idx_vars i
  pointwise [val_main_v31, val_main_v30, val_main_v29, val_main_v28, val_main_v27, val_main_v26, val_main_v24, val_main_v23, val_main_v22, val_main_v21,
    val_main_v20, val_main_v19, val_main_v17, val_main_v16, val_main_v15, val_main_v14, val_main_v13, val_main_v12, val_main_v10, val_main_v9, val_main_v8,
    val_main_v7, val_main_v6, val_main_v5, val_main_v4, val_main_cst_1, v3_eq, v11_eq, v18_eq, v25_eq]
  rfl

/-- the convolution's cotangent -/
theorem v33_eq : val_main_v33 (F := Ideal) x w ct = fun i => dnCot x w ct (i 0) (i 2) (i 1) := by
  funext i
  idx_vars i
  pointwise [val_main_v33, val_main_call1_v2, val_main_call1_v1, val_main_call1_v0, val_main_v32_1, val_main_call0_v7, val_main_call0_v6, val_main_call0_cst_1,
    val_main_v32_2, val_main_call0_v4, val_main_call0_cst_0, val_main_call0_v3, val_main_call0_v2, val_main_call0_cst, val_main_call0_v1, val_main_call0_v0, v31_eq]
  rfl

/-- the sequence's gradient -/
theorem v77_eq : val_main_v77 (F := Ideal) x w ct = fun i => dnDx x w ct (i 0) (i 1) (i 2) := by
  funext i
  idx_vars i
  pointwise [val_main_v77, val_main_v75, val_main_v74, val_main_v69, val_main_v68, val_main_v64, val_main_v63, val_main_v58, val_main_v57, val_main_v53, val_main_v52,
    val_main_v47, val_main_v46, val_main_v42, val_main_v38, val_main_v37, val_main_v28, val_main_v27, val_main_v26, val_main_v21, val_main_v20, val_main_v19,
    val_main_v14, val_main_v13, val_main_v12, val_main_v6, val_main_v5, val_main_v4, val_main_cst_5, val_main_cst_9, val_main_cst_13, val_main_cst_17, v33_eq]
  unfold dnDx conv4T
  rw [← pad_ahead_zero 3, ← pad_ahead 2 1, ← pad_ahead 1 2]
  refine (add_comm (_ : EReal) _).trans ((congrArg (_ + ·) ((add_comm (_ : EReal) _).trans (congrArg (_ + ·) (add_comm (_ : EReal) _)))).trans ?_)
  exact ((congrArg (_ + ·) (add_assoc (_ : EReal) _ _).symm).trans (add_assoc (_ : EReal) _ _).symm).trans (congrArg (· + _) (add_assoc (_ : EReal) _ _).symm)

/-- the taps' gradients, one row each -/
theorem v39_at (l : Fin 1536) : val_main_v39 (F := Ideal) x w ct (ix1 l) = ∑ b, dnDw x w ct b 3 l := by
  pointwise [val_main_v39, val_main_cst_3]
  rw [hostReduceAdd_lead]
  pointwise [val_main_v36, val_main_v35, val_main_cst_2]
  rw [hostReduceAdd_lead]
  pointwise [val_main_v34, v25_eq, v33_eq]
  simp only [Fin.sum_univ_one, dnDw, conv4W]
  exact Finset.sum_congr rfl fun b _ => Finset.sum_congr rfl fun t _ => congrArg (· * _) (congrFun (back_zero _) _).symm

theorem v48_at (l : Fin 1536) : val_main_v48 (F := Ideal) x w ct (ix1 l) = ∑ b, dnDw x w ct b 2 l := by
  pointwise [val_main_v48, val_main_cst_7]
  rw [hostReduceAdd_lead]
  pointwise [val_main_v45, val_main_v44, val_main_cst_6]
  rw [hostReduceAdd_lead]
  pointwise [val_main_v43, v18_eq, v33_eq]
  simp only [Fin.sum_univ_one]
  rfl

theorem v59_at (l : Fin 1536) : val_main_v59 (F := Ideal) x w ct (ix1 l) = ∑ b, dnDw x w ct b 1 l := by
  pointwise [val_main_v59, val_main_cst_11]
  rw [hostReduceAdd_lead]
  pointwise [val_main_v56, val_main_v55, val_main_cst_10]
  rw [hostReduceAdd_lead]
  pointwise [val_main_v54, v11_eq, v33_eq]
  simp only [Fin.sum_univ_one]
  rfl

theorem v70_at (l : Fin 1536) : val_main_v70 (F := Ideal) x w ct (ix1 l) = ∑ b, dnDw x w ct b 0 l := by
  pointwise [val_main_v70, val_main_cst_15]
  rw [hostReduceAdd_lead]
  pointwise [val_main_v67, val_main_v66, val_main_cst_14]
  rw [hostReduceAdd_lead]
  pointwise [val_main_v65, v3_eq, v33_eq]
  simp only [Fin.sum_univ_one]
  rfl

/-- the taps' gradient -/
theorem v73_eq : val_main_v73 (F := Ideal) x w ct = fun i => ∑ b, dnDw x w ct b (i 0) (i 1) := by
  funext i
  idx_vars i
  pointwise [val_main_v73, val_main_v72, val_main_v71, val_main_v62, val_main_v61, val_main_v60, val_main_v51, val_main_v50, val_main_v49, val_main_v41, val_main_v40,
    v39_at, v48_at, v59_at, v70_at, val_main_cst_4, val_main_cst_8, val_main_cst_12, val_main_cst_16]
  match i0 with
  | ⟨0, _⟩ => simp
  | ⟨1, _⟩ => simp
  | ⟨2, _⟩ => simp
  | ⟨3, _⟩ => simp

theorem v79_eq : val_main_v79 (F := Ideal) x w ct = seqRows (dnDx x w ct) := by
  funext i
  idx_vars i
  pointwise [val_main_v79, val_main_v78, v77_eq]
  rfl

end Cert.DnConvBwdRefIdeal.Value
-- ==== Proof.DnEq.lean ====
module

public import proofs.«01_k».proof.Proof.DnArrays
public import proofs.«01_k».proof.Proof.DnRef
public import proofs.«01_k».proof.Defs

/-! # The gradient of the convolution with silu: the kernel's results are the reference's -/

@[expose] public section

noncomputable section

open Idealize.ShloMosaic Idealize.ShloMosaic.TcCoe Idealize.SL.Sem

namespace Cert.Proof
open Cert.DnConvBwdIdeal.Value Cert.DnConvBwdRefIdeal.Value Cert.Grad

/-- the two programs of the gradient of the convolution with silu compute the same two arrays -/
theorem dn_conv : Cert.algebraic_DnConvBwdIdeal_DnConvBwdRefIdeal := by
  intro m ρ m' ρ' _ ha
  refine ⟨fun c => (Cert.DnConvBwdIdeal.Gen.dats m 0 c).arrAt 3 Cert.DnConvBwdIdeal.cfg0.N, fun c => (Cert.DnConvBwdIdeal.Gen.dats m 0 c).arrAt 4 Cert.DnConvBwdIdeal.cfg0.N,
    Cert.DnConvBwdIdeal.Value.run_blocks m ρ, ?_⟩
  refine (θ_run _ _ _).mono (fun r hr c => ?_) (Cert.DnConvBwdRefIdeal.Value.run m' ρ')
  obtain ⟨r0, r1, k⟩ := hr c
  obtain ⟨a0, a1, a2⟩ := ha c
  open Cert.DnConvBwdRefIdeal.Read in
  refine ⟨r0.trans ((val_main_v79_eq _ _).trans ?_), r1.trans ((val_main_v73_eq _ _).trans ?_), k⟩
  · rw [a0, a1, a2]; exact ((final_dx m c).trans (v79_eq _ _ _).symm).symm
  · rw [a0, a1, a2]; exact ((final_dw m c).trans (v73_eq _ _ _).symm).symm

end Cert.Proof
-- ==== Proof.Slots.lean ====
module

public import proofs.«01_k».proof.Proof.AccRow

/-! # A block written piece by piece

A rectangle stored over others, read at an index inside it or outside it. -/

@[expose] public section

noncomputable section

namespace Cert.Grad

open Idealize.ShloMosaic Idealize.SL.Sem

variable {Val : EltTy → Type} {e : EltTy} {s : Shape}

/-- the index of a rectangle, seen in the block -/
theorem emb_unit {off size : Fin s.rank → ℕ} (inb : ∀ a, off a + size a ≤ s.size a) (y : s.Idx) (x : (Rect.unit off size inb).shape.Idx)
    (h : ∀ a, (y a).val = off a + (x a).val) : (Rect.unit off size inb).emb x = y := by
  funext a
  refine Fin.ext ?_
  show off a + 1 * (x a).val = (y a).val
  rw [h a, one_mul]

/-- inside the last piece -/
theorem canon_hit [∀ e, Nonempty (Val e)] {off size : Fin s.rank → ℕ} (inb : ∀ a, off a + size a ≤ s.size a)
    (w : (Rect.unit off size inb).shape.Idx → Val e) (L : List (View.Piece Val s e)) (y : s.Idx) (x : (Rect.unit off size inb).shape.Idx)
    (h : ∀ a, (y a).val = off a + (x a).val) : View.canon (⟨Rect.unit off size inb, w⟩ :: L) y = w x := by
  rw [← emb_unit inb y x h]
  exact View.canon_cons_emb _ w _ _

/-- outside the last piece -/
theorem canon_miss [∀ e, Nonempty (Val e)] {off size : Fin s.rank → ℕ} (inb : ∀ a, off a + size a ≤ s.size a)
    (w : (Rect.unit off size inb).shape.Idx → Val e) (L : List (View.Piece Val s e)) (y : s.Idx) (a : Fin s.rank)
    (h : (y a).val < off a ∨ off a + size a ≤ (y a).val) : View.canon (⟨Rect.unit off size inb, w⟩ :: L) y = View.canon L y := by
  rw [View.canon_cons_of_not_mem]
  rw [Rect.mem_set_unit]
  intro hall
  have := hall a
  omega

/-- a rectangle of what was stored, read back -/
theorem readCov_at [∀ e, Nonempty (Val e)] {sig : RefSig} {κ : Kind} {sp : Space} (v : View sig κ sp s e) {off size : Fin s.rank → ℕ}
    (inb : ∀ a, off a + size a ≤ s.size a) (L : List (View.Piece Val s e)) (y : s.Idx) (x : (Rect.unit off size inb).shape.Idx)
    (h : ∀ a, (y a).val = off a + (x a).val) : v.readCov L (Rect.unit off size inb).toLoadRect x = View.canon L y := by
  rw [View.readCov_eq_canon']
  exact congrArg (View.canon L) (emb_unit inb y x h)

/-- a store over a block that held something, read inside the store -/
theorem read_hit {sig : RefSig} {κ : Kind} {sp : Space} {s : Shape} {e : EltTy} {Val : EltTy → Type} (v : View sig κ sp s e) (buf) {off size : Fin s.rank → ℕ}
    (inb) (w : (⟨s.rank, size⟩ : Shape).Idx → Val e) (L) (y : s.Idx) (x : (⟨s.rank, size⟩ : Shape).Idx) (h : ∀ a, (y a).val = off a + (x a).val) :
    v.read Val (v.writes Val buf (⟨Rect.unit off size inb, w⟩ :: L)) y = w x :=
  View.read_writes_cons_unit_of_mem v _ inb w L _ x rfl h

/-- and outside it -/
theorem read_miss {sig : RefSig} {κ : Kind} {sp : Space} {s : Shape} {e : EltTy} {Val : EltTy → Type} (v : View sig κ sp s e) (buf) {off size : Fin s.rank → ℕ}
    (inb) (w : (⟨s.rank, size⟩ : Shape).Idx → Val e) (L) (y : s.Idx) (a : Fin s.rank) (h : (y a).val < off a ∨ off a + size a ≤ (y a).val) :
    v.read Val (v.writes Val buf (⟨Rect.unit off size inb, w⟩ :: L)) y = v.read Val (v.writes Val buf L) y :=
  View.read_writes_cons_unit_of_not_mem v _ inb w L _ rfl a h

/-- what holds for four holds for all four -/
theorem four {P : Fin 4 → Prop} (h0 : P 0) (h1 : P 1) (h2 : P 2) (h3 : P 3) : ∀ g, P g
  | 0 => h0
  | 1 => h1
  | 2 => h2
  | 3 => h3

/-- channel `l` of group `g` -/
def chanOf (g : Fin 4) (l : Fin 128) : Fin 512 := ⟨g.val * 128 + l.val, by omega⟩

/-- every channel is a channel of a group -/
theorem chan_split (n : Fin 512) : ∃ g l, n = chanOf g l :=
  ⟨⟨n.val / 128, by omega⟩, ⟨n.val % 128, by omega⟩, Fin.ext (by show _ = n.val / 128 * 128 + n.val % 128; omega)⟩

end Cert.Grad

end
-- ==== Proof.PoolMath.lean ====
module

public import proofs.«01_k».proof.Proof.Shift
public import proofs.«01_k».proof.Proof.Slots

/-! # Trailing means of a sequence

The sum of the last `w` rows of a sequence and its transpose, the sum of the next `w` rows: by doubling shifts, and as
differences of running sums. -/

@[expose] public section

noncomputable section

open Idealize.ShloMosaic

namespace Cert.Grad

/-- the sum of the last `w` rows -/
def win (w : ℕ) (f : Fin 2048 → EReal) (t : Fin 2048) : EReal := ∑ i ∈ Finset.range w, back i f t

/-- the sum of `n` rows from `t` on, `s` apart -/
def comb (s n : ℕ) (f : Fin 2048 → EReal) (t : Fin 2048) : EReal := ∑ i ∈ Finset.range n, ahead (s * i) f t

theorem back_back (j k : ℕ) (f : Fin 2048 → EReal) (t : Fin 2048) : back k (back j f) t = back (k + j) f t := by
  unfold back
  by_cases h : t.val < k
  · rw [if_pos h, if_pos (by omega)]
  · rw [if_neg h]
    by_cases h2 : t.val - k < j
    · rw [if_pos h2, if_pos (by omega)]
    · rw [if_neg h2, if_neg (by omega)]
      exact congrArg f (Fin.ext (by show t.val - k - j = t.val - (k + j); omega))

theorem ahead_ahead (j k : ℕ) (f : Fin 2048 → EReal) (t : Fin 2048) : ahead k (ahead j f) t = ahead (j + k) f t := by
  unfold ahead
  by_cases h : t.val + k < 2048
  · rw [dif_pos h]
    by_cases h2 : t.val + k + j < 2048
    · rw [dif_pos h2, dif_pos (by omega)]
      exact congrArg f (Fin.ext (by show t.val + k + j = t.val + (j + k); omega))
    · rw [dif_neg h2, dif_neg (by omega)]
  · rw [dif_neg h, dif_neg (by omega)]

theorem back_sum (k n : ℕ) (g : ℕ → Fin 2048 → EReal) (t : Fin 2048) :
    back k (fun u => ∑ i ∈ Finset.range n, g i u) t = ∑ i ∈ Finset.range n, back k (g i) t := by
  unfold back
  by_cases h : t.val < k
  · simp only [if_pos h, Finset.sum_const_zero]
  · simp only [if_neg h]

theorem ahead_sum (k n : ℕ) (g : ℕ → Fin 2048 → EReal) (t : Fin 2048) :
    ahead k (fun u => ∑ i ∈ Finset.range n, g i u) t = ∑ i ∈ Finset.range n, ahead k (g i) t := by
  unfold ahead
  by_cases h : t.val + k < 2048
  · simp only [dif_pos h]
  · simp only [dif_neg h, Finset.sum_const_zero]

theorem back_ge (k : ℕ) (hk : 2048 ≤ k) (f : Fin 2048 → EReal) (t : Fin 2048) : back k f t = 0 := if_pos (by omega)
theorem ahead_ge (k : ℕ) (hk : 2048 ≤ k) (f : Fin 2048 → EReal) (t : Fin 2048) : ahead k f t = 0 := dif_neg (by omega)

theorem ahead_zero (f : Fin 2048 → EReal) : ahead 0 f = f := by
  funext t
  exact dif_pos t.isLt

theorem win_one (f : Fin 2048 → EReal) : win 1 f = f := by
  funext t
  simp [win, back_zero]

theorem comb_one (s : ℕ) (f : Fin 2048 → EReal) : comb s 1 f = f := by
  funext t
  simp [comb, ahead_zero]

/-- a window and the window before it -/
theorem win_double (k : ℕ) (f : Fin 2048 → EReal) (t : Fin 2048) : win k f t + back k (win k f) t = win (k + k) f t := by
  have h : back k (win k f) t = ∑ i ∈ Finset.range k, back (k + i) f t :=
    (back_sum k k (fun i => back i f) t).trans (Finset.sum_congr rfl fun i _ => back_back i k f t)
  rw [h]
  exact (Finset.sum_range_add (fun i => back i f t) k k).symm

/-- two combs, one `s` rows on -/
theorem comb_double (s n : ℕ) (f : Fin 2048 → EReal) (t : Fin 2048) :
    comb (s + s) n f t + ahead s (comb (s + s) n f) t = comb s (n + n) f t := by
  have h : ahead s (comb (s + s) n f) t = ∑ i ∈ Finset.range n, ahead ((s + s) * i + s) f t :=
    (ahead_sum s n (fun i => ahead ((s + s) * i) f) t).trans (Finset.sum_congr rfl fun i _ => ahead_ahead _ s f t)
  rw [h]
  unfold comb
  induction n with
  | zero => simp
  | succ n ih =>
    have e : n + 1 + (n + 1) = n + n + 1 + 1 := by omega
    rw [e, Finset.sum_range_succ _ (n + n + 1), Finset.sum_range_succ _ (n + n), ← ih ((ahead_sum s n (fun i => ahead ((s + s) * i) f) t).trans
      (Finset.sum_congr rfl fun i _ => ahead_ahead _ s f t)), Finset.sum_range_succ, Finset.sum_range_succ]
    have e1 : (s + s) * n = s * (n + n) := by ring
    have e2 : (s + s) * n + s = s * (n + n + 1) := by ring
    rw [← e1, ← e2]
    exact (add_add_add_comm _ _ _ _).trans (add_assoc _ _ _).symm

/-- the sum of all rows so far -/
def run (f : Fin 2048 → EReal) (t : Fin 2048) : EReal := win 2048 f t
/-- the sum of all rows from here on -/
def rest (f : Fin 2048 → EReal) (t : Fin 2048) : EReal := comb 1 2048 f t

theorem back_real (k : ℕ) (f : Fin 2048 → ℝ) (t : Fin 2048) : ∃ r : ℝ, back k (fun u => (f u : EReal)) t = r := by
  unfold back
  by_cases h : t.val < k
  · exact ⟨0, if_pos h⟩
  · exact ⟨_, if_neg h⟩

theorem ahead_real (k : ℕ) (f : Fin 2048 → ℝ) (t : Fin 2048) : ∃ r : ℝ, ahead k (fun u => (f u : EReal)) t = r := by
  unfold ahead
  by_cases h : t.val + k < 2048
  · exact ⟨_, dif_pos h⟩
  · exact ⟨0, dif_neg h⟩

theorem real_sum {ι : Type*} (s : Finset ι) (f : ι → EReal) (h : ∀ i, ∃ r : ℝ, f i = r) : ∃ r : ℝ, ∑ i ∈ s, f i = r := by
  choose g hg using h
  exact ⟨∑ i ∈ s, g i, by rw [← coe_sum]; exact Finset.sum_congr rfl fun i _ => hg i⟩

theorem add_sub_real (a b : EReal) (h : ∃ r : ℝ, b = r) : a + b - b = a := by
  obtain ⟨r, rfl⟩ := h
  exact EReal.add_sub_cancel_right

/-- a window is a difference of running sums -/
theorem run_sub (w : ℕ) (hw : w ≤ 2048) (f : Fin 2048 → ℝ) (t : Fin 2048) :
    run (fun u => (f u : EReal)) t - back w (run fun u => (f u : EReal)) t = win w (fun u => (f u : EReal)) t := by
  have h : back w (run fun u => (f u : EReal)) t = ∑ i ∈ Finset.range (2048 - w), back (w + i) (fun u => (f u : EReal)) t := by
    refine ((back_sum w 2048 (fun i => back i fun u => (f u : EReal)) t).trans (Finset.sum_congr rfl fun i _ => back_back i w _ t)).trans ?_
    refine (Finset.sum_subset (fun i hi => ?_) fun i _ hi => ?_).symm
    · rw [Finset.mem_range] at hi ⊢; omega
    · rw [Finset.mem_range] at hi; exact back_ge _ (by omega) _ _
  have hs : run (fun u => (f u : EReal)) t = win w (fun u => (f u : EReal)) t + ∑ i ∈ Finset.range (2048 - w), back (w + i) (fun u => (f u : EReal)) t := by
    unfold run win
    rw [← Finset.sum_range_add (fun i => back i (fun u => (f u : EReal)) t), show w + (2048 - w) = 2048 by omega]
  rw [h, hs]
  exact add_sub_real _ _ (real_sum _ _ fun i => back_real _ _ _)

/-- its transpose: the rest's sum of a difference -/
theorem rest_sub (w : ℕ) (hw : w ≤ 2048) (f : Fin 2048 → ℝ) (t : Fin 2048) :
    rest (fun u => (f u : EReal) + ahead w (fun v => -(f v : EReal)) u) t = comb 1 w (fun u => (f u : EReal)) t := by
  choose g hg using fun k => ahead_real k f
  have hn : ∀ u, ahead w (fun v => -(f v : EReal)) u = ((-(g w u) : ℝ) : EReal) := by
    intro u
    rw [EReal.coe_neg, ← hg]
    unfold ahead
    by_cases h : u.val + w < 2048
    · rw [dif_pos h, dif_pos h]
    · rw [dif_neg h, dif_neg h, neg_zero]
  have ha : ∀ k, ahead k (fun u => (f u : EReal) + ahead w (fun v => -(f v : EReal)) u) t = ((g k t - g (w + k) t : ℝ) : EReal) := by
    intro k
    have e : ahead k (fun u => ((g w u : ℝ) : EReal)) t = ((g (w + k) t : ℝ) : EReal) := by
      rw [← hg, ← ahead_ahead]
      exact congrArg (fun z => ahead k z t) (funext fun u => (hg w u).symm)
    simp only [hn]
    have hk := hg k t
    unfold ahead at e hk ⊢
    by_cases h : t.val + k < 2048
    · rw [dif_pos h] at e hk ⊢
      dsimp only at e hk ⊢
      rw [← EReal.coe_add, ← sub_eq_add_neg]
      rw [EReal.coe_eq_coe_iff] at e hk
      rw [e, hk]
    · rw [dif_neg h] at e hk ⊢
      have e1 : (0 : ℝ) = _ := EReal.coe_eq_coe_iff.mp (EReal.coe_zero.trans e)
      have e2 : (0 : ℝ) = _ := EReal.coe_eq_coe_iff.mp (EReal.coe_zero.trans hk)
      rw [← e1, ← e2, sub_zero, EReal.coe_zero]
  have h0 : ∀ k, 2048 ≤ k → g k t = 0 := fun k hk => by
    have := hg k t
    rw [ahead_ge k hk] at this
    exact (EReal.coe_eq_coe_iff.mp (EReal.coe_zero.trans this)).symm
  unfold rest comb
  simp only [one_mul]
  rw [Finset.sum_congr rfl fun i _ => ha i, Finset.sum_congr rfl fun i _ => hg i t, coe_sum, coe_sum, Finset.sum_sub_distrib]
  refine congrArg _ ?_
  have h1 := Finset.sum_range_add (fun i => g i t) w (2048 - w)
  rw [show w + (2048 - w) = 2048 by omega] at h1
  have h2 : ∑ i ∈ Finset.range 2048, g (w + i) t = ∑ i ∈ Finset.range (2048 - w), g (w + i) t := by
    refine (Finset.sum_subset (fun i hi => ?_) fun i _ hi => ?_).symm
    · rw [Finset.mem_range] at hi ⊢; omega
    · rw [Finset.mem_range] at hi; exact h0 _ (by omega)
  rw [h1, h2]
  ring

/-- how many rows a window of `w` holds at row `t`, as the programs count them -/
def count (w : BitVec 32) (t : Fin 2048) : EReal :=
  FloatOps.sitofp (F := Ideal) .f32 (IntOp.minsi (IntOp.addi (BitVec.ofNat 32 t.val) 1#32) w)

/-- that count is a positive real -/
theorem count_real (w : ℕ) (h0 : 0 < w) (hw : w < 4096) (t : Fin 2048) : ∃ r : ℝ, r ≠ 0 ∧ count (BitVec.ofNat 32 w) t = r := by
  have ht := t.isLt
  have hadd : IntOp.addi (BitVec.ofNat 32 t.val) 1#32 = BitVec.ofNat 32 (t.val + 1) := (BitVec.ofNat_add _ _).symm
  unfold count
  rw [hadd]
  have h1 : ∀ n : ℕ, 0 < n → n < 4096 → ∃ r : ℝ, r ≠ 0 ∧ FloatOps.sitofp (F := Ideal) .f32 (BitVec.ofNat 32 n) = (r : EReal) := fun n hn hl =>
    ⟨(n : ℝ), by exact_mod_cast hn.ne', by
      show ((((BitVec.ofNat 32 n).toInt : ℤ) : ℝ) : EReal) = _
      rw [toInt_ofNat_small n hl]; norm_cast⟩
  unfold IntOp.minsi
  split
  · exact h1 _ (by omega) (by omega)
  · exact h1 _ h0 hw

/-- the pooled sequence: the window's mean less the row -/
def pooled (w : ℕ) (f : Fin 2048 → EReal) (t : Fin 2048) : EReal := Ideal.div (win w f t) (count (BitVec.ofNat 32 w) t) - f t

/-- the sequence's gradient from the pooled sequence's -/
def pooledT (w : ℕ) (g : Fin 2048 → EReal) (t : Fin 2048) : EReal :=
  -g t + comb 1 w (fun u => Ideal.div (g u) (count (BitVec.ofNat 32 w) u)) t

/-- the width of each group's window -/
def wd : Fin 4 → ℕ := ![2, 4, 8, 16]

section
variable (a : (⟨3, ![4, 2048, 512]⟩ : Shape).Idx → EReal) (w : (⟨3, ![4, 128, 128]⟩ : Shape).Idx → EReal) (s : (⟨1, ![512]⟩ : Shape).Idx → EReal)
  (dy : (⟨3, ![4, 2048, 512]⟩ : Shape).Idx → EReal)

/-- the pooled channel `k` of group `g` in sequence `b` -/
def poolAt (b g : Fin 4) (k : Fin 128) (t : Fin 2048) : EReal := pooled (wd g) (fun u => a (ix3 b u (chanOf g k))) t
/-- its gradient -/
def dPoolAt (b g : Fin 4) (k : Fin 128) (t : Fin 2048) : EReal :=
  ∑ l : Fin 128, dy (ix3 b t (chanOf g l)) * s (ix1 (chanOf g l)) * w (ix3 g k l)
/-- the gradient of the channel itself -/
def dChan (b g : Fin 4) (k : Fin 128) (t : Fin 2048) : EReal := pooledT (wd g) (dPoolAt w s dy b g k) t
/-- what sequence `b` gives to the gradient of a group's matrix -/
def dMat (b g : Fin 4) (k l : Fin 128) : EReal :=
  ∑ t : Fin 2048, poolAt a b g k t * (dy (ix3 b t (chanOf g l)) * s (ix1 (chanOf g l)))
/-- what sequence `b` gives to the gradient of a scale -/
def dScale (b g : Fin 4) (l : Fin 128) : EReal :=
  ∑ t : Fin 2048, (∑ k : Fin 128, poolAt a b g k t * w (ix3 g k l)) * dy (ix3 b t (chanOf g l))

/-- the group of a channel -/
def grpOf (n : Fin 512) : Fin 4 := ⟨n.val / 128, by omega⟩
/-- its place there -/
def inGrp (n : Fin 512) : Fin 128 := ⟨n.val % 128, by omega⟩

theorem grpOf_chan (g : Fin 4) (l : Fin 128) : grpOf (chanOf g l) = g := Fin.ext (by show (g.val * 128 + l.val) / 128 = g.val; omega)
theorem inGrp_chan (g : Fin 4) (l : Fin 128) : inGrp (chanOf g l) = l := Fin.ext (by show (g.val * 128 + l.val) % 128 = l.val; omega)
end

end Cert.Grad

end
-- ==== Proof.PoolPoint.lean ====
module

public import proofs.«01_k».proof.Proof.PoolMath
public import proofs.«01_k».proof.Proof.Gen.PoolBwdIdeal.Skeleton

/-! # The block arithmetic of the pooling's gradient

What the body stores for one group of channels, read at an index. -/

@[expose] public section

set_option maxRecDepth 16384

noncomputable section

open Idealize.ShloMosaic Idealize.ShloMosaic.TcCoe Idealize.SL.Sem

namespace Cert.PoolBwdIdeal.Value
open Cert.PoolBwdIdeal Cert.PoolBwdIdeal.Gen Cert.Grad

/-- a block of one group's channels -/
abbrev Grp := FVec Ideal S2048x128 .f32

/-- the rows' numbers -/
abbrev rowNo : IVec S2048x128 32 := iota .tc S2048x128 32 [0] iota_S2048x128_d0_w32
/-- the rows' numbers, as a column -/
abbrev rowCol : IVec S2048x1 32 := iota .tc S2048x1 32 [0] iota_S2048x1_d0_w32
/-- zeros in place of a block -/
abbrev zeros : Grp := broadcast S2048x128 (FloatOps.ofBits (F := Ideal) .f32 0x00000000#32)

/-- a block by its columns -/
def cols (f : Fin 128 → Fin 2048 → EReal) : Grp := fun i => f (i 1) (i 0)
/-- column `l` of a block -/
def col (x : Grp) (l : Fin 128) (t : Fin 2048) : EReal := x (ix2 t l)

theorem cols_col (x : Grp) : cols (col x) = x := by
  funext i
  exact congrArg x (eq_ix2 i).symm

theorem cols_add (f g : Fin 128 → Fin 2048 → EReal) : addf (cols f) (cols g) = cols fun l t => f l t + g l t := rfl

theorem roll1 (f : Fin 128 → Fin 2048 → EReal) : select (cmpi .sge rowNo (broadcast S2048x128 1#32)) (dynamicRotate 0 1#32 none (cols f) rotates_S2048x128_d0) zeros
    = cols fun l => back 1 (f l) := by
  funext i; idx_vars i; pointwise [cols]; exact roll_back 1 (by omega) _ _
theorem roll2 (f : Fin 128 → Fin 2048 → EReal) : select (cmpi .sge rowNo (broadcast S2048x128 2#32)) (dynamicRotate 0 2#32 none (cols f) rotates_S2048x128_d0) zeros
    = cols fun l => back 2 (f l) := by
  funext i; idx_vars i; pointwise [cols]; exact roll_back 2 (by omega) _ _
theorem roll4 (f : Fin 128 → Fin 2048 → EReal) : select (cmpi .sge rowNo (broadcast S2048x128 4#32)) (dynamicRotate 0 4#32 none (cols f) rotates_S2048x128_d0) zeros
    = cols fun l => back 4 (f l) := by
  funext i; idx_vars i; pointwise [cols]; exact roll_back 4 (by omega) _ _
theorem roll8 (f : Fin 128 → Fin 2048 → EReal) : select (cmpi .sge rowNo (broadcast S2048x128 8#32)) (dynamicRotate 0 8#32 none (cols f) rotates_S2048x128_d0) zeros
    = cols fun l => back 8 (f l) := by
  funext i; idx_vars i; pointwise [cols]; exact roll_back 8 (by omega) _ _
theorem turn1 (f : Fin 128 → Fin 2048 → EReal) : select (cmpi .slt rowNo (broadcast S2048x128 2047#32)) (dynamicRotate 0 2047#32 none (cols f) rotates_S2048x128_d0) zeros
    = cols fun l => ahead 1 (f l) := by
  funext i; idx_vars i; pointwise [cols]; exact roll_ahead 1 2047 rfl (by omega) _ _
theorem turn2 (f : Fin 128 → Fin 2048 → EReal) : select (cmpi .slt rowNo (broadcast S2048x128 2046#32)) (dynamicRotate 0 2046#32 none (cols f) rotates_S2048x128_d0) zeros
    = cols fun l => ahead 2 (f l) := by
  funext i; idx_vars i; pointwise [cols]; exact roll_ahead 2 2046 rfl (by omega) _ _
theorem turn4 (f : Fin 128 → Fin 2048 → EReal) : select (cmpi .slt rowNo (broadcast S2048x128 2044#32)) (dynamicRotate 0 2044#32 none (cols f) rotates_S2048x128_d0) zeros
    = cols fun l => ahead 4 (f l) := by
  funext i; idx_vars i; pointwise [cols]; exact roll_ahead 4 2044 rfl (by omega) _ _
theorem turn8 (f : Fin 128 → Fin 2048 → EReal) : select (cmpi .slt rowNo (broadcast S2048x128 2040#32)) (dynamicRotate 0 2040#32 none (cols f) rotates_S2048x128_d0) zeros
    = cols fun l => ahead 8 (f l) := by
  funext i; idx_vars i; pointwise [cols]; exact roll_ahead 8 2040 rfl (by omega) _ _

theorem grow1 (f : Fin 128 → Fin 2048 → EReal) : addf (cols f) (cols fun l => back 1 (f l)) = cols fun l => win 2 (f l) := by
  rw [cols_add]
  refine congrArg cols (funext fun l => funext fun t => ?_)
  conv_lhs => rw [← win_one (f l)]
  exact win_double 1 _ _
theorem grow2 (f : Fin 128 → Fin 2048 → EReal) : addf (cols fun l => win 2 (f l)) (cols fun l => back 2 (win 2 (f l))) = cols fun l => win 4 (f l) := by
  rw [cols_add]; exact congrArg cols (funext fun l => funext fun t => win_double 2 _ _)
theorem grow4 (f : Fin 128 → Fin 2048 → EReal) : addf (cols fun l => win 4 (f l)) (cols fun l => back 4 (win 4 (f l))) = cols fun l => win 8 (f l) := by
  rw [cols_add]; exact congrArg cols (funext fun l => funext fun t => win_double 4 _ _)
theorem grow8 (f : Fin 128 → Fin 2048 → EReal) : addf (cols fun l => win 8 (f l)) (cols fun l => back 8 (win 8 (f l))) = cols fun l => win 16 (f l) := by
  rw [cols_add]; exact congrArg cols (funext fun l => funext fun t => win_double 8 _ _)

/-- one step of the transposed doubling -/
theorem shrink (s n : ℕ) (f : Fin 128 → Fin 2048 → EReal) :
    addf (cols fun l => comb (s + s) n (f l)) (cols fun l => ahead s (comb (s + s) n (f l))) = cols fun l => comb s (n + n) (f l) := by
  rw [cols_add]; exact congrArg cols (funext fun l => funext fun t => comb_double s n _ _)

theorem cols_comb (s : ℕ) (f : Fin 128 → Fin 2048 → EReal) : cols f = cols fun l => comb s 1 (f l) :=
  congrArg cols (funext fun l => (comb_one s (f l)).symm)

variable (x : Grp) (W : Vec Ideal S1x128x128 .f32) (s : Vec Ideal S1x128 .f32) (dy : Grp)

/-- the pooled block of each group -/
theorem pool2_at : k0_pay8 x = cols fun l => pooled 2 (col x l) := by
  have hx : shapeCast S2048x128 x shapeCasts_S2048x128_S2048x128 = cols (col x) := by
    funext i; idx_vars i; pointwise []; rfl
  unfold k0_pay8
  dsimp only
  erw [hx, roll1, grow1]
  funext i; idx_vars i
  pointwise [k0_pay7, cols]
  rfl
theorem pool4_at : k0_pay21 x rowCol = cols fun l => pooled 4 (col x l) := by
  conv_lhs => rw [← cols_col x]
  unfold k0_pay21
  dsimp only
  erw [roll1, grow1, roll2, grow2]
  funext i; idx_vars i
  pointwise [k0_pay20, cols]
  rfl
theorem pool8_at : k0_pay37 x rowCol rowNo = cols fun l => pooled 8 (col x l) := by
  conv_lhs => rw [← cols_col x]
  unfold k0_pay37
  dsimp only
  erw [roll1, grow1, roll2, grow2, roll4, grow4]
  funext i; idx_vars i
  pointwise [k0_pay36, cols]
  rfl
theorem pool16_at : k0_pay53 (k0_pay47 x) rowCol (k0_pay50 x) k0_pay51 = cols fun l => pooled 16 (col x l) := by
  have hx : k0_pay47 x = cols (col x) := by
    funext i; idx_vars i; pointwise [k0_pay47]; rfl
  unfold k0_pay53 k0_pay50
  dsimp only
  erw [hx, roll1, grow1, roll2, grow2, roll4, grow4, roll8, grow8]
  funext i; idx_vars i
  pointwise [k0_pay52, k0_pay51, cols]
  rfl

/-- the pooled block's gradient -/
def dPool (W : Vec Ideal S1x128x128 .f32) (s : Vec Ideal S1x128 .f32) (dy : Grp) (k : Fin 128) (t : Fin 2048) : EReal :=
  ∑ l : Fin 128, dy (ix2 t l) * s (ix2 0 l) * W (ix3 0 k l)

theorem dPool2_at : k0_pay12 W s dy = cols (dPool W s dy) := by
  funext i; idx_vars i; pointwise [k0_pay12, k0_pay11, k0_pay9, k0_pay6, cols]; rfl
theorem dPool4_at : k0_pay25 (k0_pay18 W) (k0_pay19 s) dy = cols (dPool W s dy) := by
  funext i; idx_vars i; pointwise [k0_pay25, k0_pay24, k0_pay22, k0_pay18, k0_pay19, cols]; rfl
theorem dPool8_at : k0_pay41 (k0_pay34 W) (k0_pay35 s) dy = cols (dPool W s dy) := by
  funext i; idx_vars i; pointwise [k0_pay41, k0_pay40, k0_pay38, k0_pay34, k0_pay35, cols]; rfl
theorem dPool16_at : k0_pay57 (k0_pay48 W) (k0_pay49 s) dy = cols (dPool W s dy) := by
  funext i; idx_vars i; pointwise [k0_pay57, k0_pay56, k0_pay54, k0_pay48, k0_pay49, cols]; rfl

/-- each row's part of the pooled gradient -/
def part (w : ℕ) (g : Fin 128 → Fin 2048 → EReal) (l : Fin 128) (t : Fin 2048) : EReal := Ideal.div (g l t) (count (BitVec.ofNat 32 w) t)

/-- the last step, with what the row itself loses -/
theorem finish (w n : ℕ) (hn : n + n = w) (g : Fin 128 → Fin 2048 → EReal) :
    truncf (F := Ideal) .bf16 (addf (addf (subf (broadcast S2048x128 (FloatOps.ofBits (F := Ideal) .f32 0x00000000#32)) (cols g))
      (cols fun l => comb 2 n (part w g l))) (cols fun l => ahead 1 (comb 2 n (part w g l)))) bitsLt_bf16_f32 = cols fun l => pooledT w (g l) := by
  subst hn
  funext i; idx_vars i; pointwise [cols]
  show 0 - g i1 i0 + comb (1 + 1) n (part (n + n) g i1) i0 + ahead 1 (comb (1 + 1) n (part (n + n) g i1)) i0 = _
  rw [zero_sub, add_assoc, comb_double]
  rfl

/-- the rows' gradient of each group -/
theorem da2_at : k0_pay16 k0_pay7 (k0_pay12 W s dy) = cols fun l => pooledT 2 (dPool W s dy l) := by
  have hq : divf (k0_pay12 W s dy) (broadcastTo S2048x128 (k0_pay7 (F := Ideal)) broadcasts_S2048x1_S2048x128)
      = cols fun l => comb 2 1 (part 2 (dPool W s dy) l) := by
    rw [dPool2_at, ← cols_comb]; funext i; idx_vars i; pointwise [k0_pay7, cols]; rfl
  unfold k0_pay16
  dsimp only
  erw [hq, turn1, dPool2_at]
  exact finish 2 1 rfl _
theorem da4_at : k0_pay32 (k0_pay27 (k0_pay18 W) (k0_pay19 s) dy) (k0_pay28 (k0_pay18 W) (k0_pay19 s) rowCol dy) rowNo k0_pay29
    = cols fun l => pooledT 4 (dPool W s dy l) := by
  have hq : k0_pay28 (k0_pay18 W) (k0_pay19 s) rowCol dy = cols fun l => comb 4 1 (part 4 (dPool W s dy) l) := by
    unfold k0_pay28; rw [dPool4_at, ← cols_comb]; funext i; idx_vars i; pointwise [k0_pay20, cols]; rfl
  unfold k0_pay32 k0_pay27 k0_pay29
  dsimp only
  erw [hq, turn2, shrink 2, turn1, dPool4_at]
  exact finish 4 2 rfl _
theorem da8_at : k0_pay46 (k0_pay36 rowCol) (k0_pay41 (k0_pay34 W) (k0_pay35 s) dy) = cols fun l => pooledT 8 (dPool W s dy l) := by
  have hq : divf (k0_pay41 (k0_pay34 W) (k0_pay35 s) dy) (broadcastTo S2048x128 (k0_pay36 (F := Ideal) rowCol) broadcasts_S2048x1_S2048x128)
      = cols fun l => comb 8 1 (part 8 (dPool W s dy) l) := by
    rw [dPool8_at, ← cols_comb]; funext i; idx_vars i; pointwise [k0_pay36, cols]; rfl
  unfold k0_pay46
  dsimp only
  erw [hq, turn4, shrink 4, turn2, shrink 2, turn1, dPool8_at]
  exact finish 8 4 rfl _
theorem da16_at : k0_pay3 (k0_pay59 (k0_pay48 W) (k0_pay49 s) dy) (k0_pay60 (k0_pay48 W) (k0_pay49 s) rowCol k0_pay51 dy) k0_pay61 2046#32
    = cols fun l => pooledT 16 (dPool W s dy l) := by
  have hq : divf (k0_pay57 (k0_pay48 W) (k0_pay49 s) dy) (broadcastTo S2048x128 (k0_pay52 (F := Ideal) rowCol k0_pay51) broadcasts_S2048x1_S2048x128)
      = cols fun l => comb 16 1 (part 16 (dPool W s dy) l) := by
    rw [dPool16_at, ← cols_comb]; funext i; idx_vars i; pointwise [k0_pay52, k0_pay51, cols]; rfl
  unfold k0_pay3 k0_pay59 k0_pay60 k0_pay61
  dsimp only
  erw [hq, turn8, shrink 8, turn4, shrink 4, turn2, shrink 2, turn1, dPool16_at]
  exact finish 16 8 rfl _

/-- what a point adds to a group's matrix -/
def wPart (w : ℕ) (x : Grp) (s : Vec Ideal S1x128 .f32) (dy : Grp) (k l : Fin 128) : EReal :=
  ∑ t : Fin 2048, pooled w (col x k) t * (dy (ix2 t l) * s (ix2 0 l))

variable (v : Vec Ideal S1x128x128 .f32) (u : Vec Ideal S1x128 .f32)

theorem dw2_at (k l : Fin 128) : k0_pay14 (k0_pay11 s dy) (k0_pay13 x) v (ix3 0 k l) = v (ix3 0 k l) + wPart 2 x s dy k l := by
  pointwise [k0_pay14, k0_pay13, k0_pay11, k0_pay9, pool2_at, cols]; rfl
theorem dw4_at (k l : Fin 128) : k0_pay30 (k0_pay26 x (k0_pay19 s) rowCol dy) v (ix3 0 k l) = v (ix3 0 k l) + wPart 4 x s dy k l := by
  pointwise [k0_pay30, k0_pay26, k0_pay24, k0_pay22, k0_pay19, pool4_at, cols]; rfl
theorem dw8_at (k l : Fin 128) : k0_pay44 (k0_pay42 x rowCol rowNo) (k0_pay43 (k0_pay35 s) dy) (constant S128x128 .f32 0x00000000#32) v (ix3 0 k l)
    = v (ix3 0 k l) + wPart 8 x s dy k l := by
  pointwise [k0_pay44, k0_pay42, k0_pay43, k0_pay40, k0_pay38, k0_pay35, pool8_at, cols]; rfl
theorem dw16_at (k l : Fin 128) : k0_pay1 (k0_pay58 (k0_pay47 x) (k0_pay49 s) rowCol (k0_pay50 x) k0_pay51 dy) v (ix3 0 k l)
    = v (ix3 0 k l) + wPart 16 x s dy k l := by
  pointwise [k0_pay1, k0_pay58, k0_pay56, k0_pay54, k0_pay49, pool16_at, cols]; rfl

/-- what a point adds to a group's scales -/
def sPart (w : ℕ) (x : Grp) (W : Vec Ideal S1x128x128 .f32) (dy : Grp) (l : Fin 128) : EReal :=
  ∑ t : Fin 2048, (∑ k : Fin 128, pooled w (col x k) t * W (ix3 0 k l)) * dy (ix2 t l)

theorem ds2_at (l : Fin 128) : k0_pay15 (k0_pay10 x W dy) u (ix2 0 l) = u (ix2 0 l) + sPart 2 x W dy l := by
  pointwise [k0_pay15, k0_pay10, k0_pay9, k0_pay6, pool2_at, cols]; rfl
theorem ds4_at (l : Fin 128) : k0_pay31 (k0_pay23 x (k0_pay18 W) rowCol dy) u (ix2 0 l) = u (ix2 0 l) + sPart 4 x W dy l := by
  pointwise [k0_pay31, k0_pay23, k0_pay22, k0_pay18, pool4_at, cols]; rfl
theorem ds8_at (l : Fin 128) : k0_pay45 (k0_pay39 x (k0_pay34 W) rowCol rowNo dy) u (ix2 0 l) = u (ix2 0 l) + sPart 8 x W dy l := by
  pointwise [k0_pay45, k0_pay39, k0_pay38, k0_pay34, pool8_at, cols]; rfl
theorem ds16_at (l : Fin 128) : k0_pay2 (k0_pay55 (k0_pay47 x) (k0_pay48 W) rowCol (k0_pay50 x) k0_pay51 dy) u (ix2 0 l)
    = u (ix2 0 l) + sPart 16 x W dy l := by
  pointwise [k0_pay2, k0_pay55, k0_pay54, k0_pay48, pool16_at, cols]; rfl

/-- the blocks as the later groups load them -/
theorem load_at : k0_pay17 x = x ∧ k0_pay33 x = x := by
  constructor <;> (funext i; idx_vars i; pointwise [k0_pay17, k0_pay33])

end Cert.PoolBwdIdeal.Value

end
-- ==== Proof.PoolArrays.lean ====
module

public import proofs.«01_k».proof.Proof.PoolPoint
public import proofs.«01_k».proof.Proof.Gen.PoolBwdIdeal.Value
public import Idealize.ShloMosaic.Lib.StableHlo.ReadAt

/-! # The result arrays of the pooling's gradient -/

@[expose] public section

noncomputable section

open Idealize.ShloMosaic Idealize.ShloMosaic.TcCoe Idealize.SL.Sem

namespace Cert.PoolBwdIdeal.Value
open Cert.PoolBwdIdeal Cert.PoolBwdIdeal.Gen Cert.Grad

/-- every window's block index at every point -/
theorem idx : ∀ t : Fin cfg0.N, win0_0.index t = ![t.val, 0] ∧ win0_1.index t = ![0, 0, 0] ∧ win0_2.index t = ![0, 0]
    ∧ win0_3.index t = ![t.val, 0] ∧ win0_4.index t = ![t.val, 0] ∧ win0_5.index t = ![0, 0, 0] ∧ win0_6.index t = ![0, 0] :=
  (by decide +kernel : ∀ t : Fin grid0.N, _)

variable (m : (ℓ : Loc nD τ sig) → Buf (Elt Ideal) ℓ) (c : Dev nD)

/-- the sequences on device `c` -/
abbrev argA : S4x2048x512.Idx → EReal := m ((c : Thread nD τ).loc main_arg0)
/-- the groups' matrices on device `c` -/
abbrev argW : S4x128x128.Idx → EReal := m ((c : Thread nD τ).loc main_arg1)
/-- the scales on device `c` -/
abbrev argS : S512.Idx → EReal := m ((c : Thread nD τ).loc main_arg2)
/-- the cotangent on device `c` -/
abbrev argD : S4x2048x512.Idx → EReal := m ((c : Thread nD τ).loc main_arg3)

/-- the sequence of point `p` -/
abbrev bOf (p : Fin cfg0.N) : Fin 4 := ⟨p.val, lt_of_lt_of_eq p.isLt N_0⟩

theorem blk_a (p : Fin cfg0.N) : iblk m c 0 p = fun i : S2048x512.Idx => argA m c (ix3 (bOf p) (i 0) (i 1)) := by
  funext i
  blk_simp [iblk]
  unfold_abbrev_sides
  simp only [hostOps0, List.flatten_singleton]
  after_reads_at
  blk_ext [idx p]

theorem blk_d (p : Fin cfg0.N) : iblk m c 3 p = fun i : S2048x512.Idx => argD m c (ix3 (bOf p) (i 0) (i 1)) := by
  funext i
  blk_simp [iblk]
  unfold_abbrev_sides
  simp only [hostOps0, List.flatten_singleton]
  after_reads_at
  blk_ext [idx p]

theorem blk_w (p : Fin cfg0.N) : iblk m c 1 p = argW m c := by
  funext i
  blk_simp [iblk]
  unfold_abbrev_sides
  simp only [hostOps0, List.flatten_singleton]
  after_reads_at
  blk_ext [idx p]

theorem blk_s (p : Fin cfg0.N) : iblk m c 2 p = fun i : S1x512.Idx => argS m c (ix1 (i 1)) := by
  funext i
  blk_simp [iblk]
  unfold_abbrev_sides
  simp only [hostOps0, List.flatten_singleton]
  after_reads_at
  blk_ext [idx p]

/-- a group's channels of a block of rows -/
abbrev grp (x : Vec Ideal S2048x512 .f32) (g : Fin 4) : Grp := fun i => x (ix2 (i 0) (chanOf g (i 1)))
/-- a group's scales -/
abbrev grpS (x : Vec Ideal S1x512 .f32) (g : Fin 4) : Vec Ideal S1x128 .f32 := fun i => x (ix2 (i 0) (chanOf g (i 1)))
/-- a group's matrix -/
abbrev grpW (x : Vec Ideal S4x128x128 .f32) (g : Fin 4) : Vec Ideal S1x128x128 .f32 := fun i => x (ix3 g (i 1) (i 2))

theorem ld_grp (g : Fin 4) (o : ℕ) (ho : o = g.val * 128) (x : Vec Ideal S2048x512 .f32) (inb) :
    View.ld x (Rect.unit ![0, o] ![2048, 128] inb) = grp x g := by
  funext i
  refine congrArg x (emb_unit inb _ i fun a => ?_)
  subst ho
  fin_cases a
  · exact (zero_add _).symm
  · rfl

theorem ld_grpS (g : Fin 4) (o : ℕ) (ho : o = g.val * 128) (x : Vec Ideal S1x512 .f32) (inb) :
    View.ld x (Rect.unit ![0, o] ![1, 128] inb) = grpS x g := by
  funext i
  refine congrArg x (emb_unit inb _ i fun a => ?_)
  subst ho
  fin_cases a
  · exact (zero_add _).symm
  · rfl

theorem ld_grpW (g : Fin 4) (o : ℕ) (ho : o = g.val) (x : Vec Ideal S4x128x128 .f32) (inb) :
    View.ld x (Rect.unit ![o, 0, 0] ![1, 128, 128] inb) = grpW x g := by
  funext i
  refine congrArg x (emb_unit inb _ i fun a => ?_)
  subst ho
  have h0 : (i 0).val < 1 := (i 0).isLt
  fin_cases a
  · show g.val = g.val + (i 0).val
    omega
  · exact (zero_add _).symm
  · exact (zero_add _).symm

/-- channel `l` of group `g` lies in the piece of columns from `o` on -/
theorem in_cols {n : ℕ} (t : Fin n) (r : Fin n) (l : Fin 128) (g : Fin 4) (o : ℕ) (ho : o = g.val * 128) (ht : r = t) :
    ∀ a, ((ix2 t (chanOf g l) : (⟨2, ![n, 512]⟩ : Shape).Idx) a).val = (![0, o] : Fin 2 → ℕ) a + ((ix2 r l : (⟨2, ![n, 128]⟩ : Shape).Idx) a).val := by
  subst ho ht
  intro a
  fin_cases a
  · exact (zero_add _).symm
  · rfl

/-- and outside another's -/
theorem off_cols {n : ℕ} (t : Fin n) (l : Fin 128) (g : Fin 4) (o : ℕ) (ho : (g.val + 1) * 128 ≤ o) :
    ((ix2 t (chanOf g l) : (⟨2, ![n, 512]⟩ : Shape).Idx) 1).val < (![0, o] : Fin 2 → ℕ) 1
      ∨ (![0, o] : Fin 2 → ℕ) 1 + (![n, 128] : Fin 2 → ℕ) 1 ≤ ((ix2 t (chanOf g l) : (⟨2, ![n, 512]⟩ : Shape).Idx) 1).val := by
  refine Or.inl ?_
  show g.val * 128 + l.val < o
  omega

theorem t0_lt (p : Fin cfg0.N) : p.val < 4 := lt_of_lt_of_eq p.isLt N_0

set_option maxHeartbeats 1000000 in
/-- the channels' gradient at point `p` -/
theorem da_slots (p : Fin cfg0.N) (t : Fin 2048) : ∀ (g : Fin 4) (l : Fin 128), (outsAt0 m c p.val p.isLt).1 (ix2 t (chanOf g l))
    = dChan (argW m c) (argS m c) (argD m c) (bOf p) g l t := by
  have hc : ∀ (g : Fin 4) (l : Fin 128), pooledT (wd g) (dPool (grpW (iblk m c 1 p) g) (grpS (iblk m c 2 p) g) (grp (iblk m c 3 p) g) l) t
      = dChan (argW m c) (argS m c) (argD m c) (bOf p) g l t := fun g l => by rw [blk_w, blk_s, blk_d]; rfl
  refine four (fun l => ?_) (fun l => ?_) (fun l => ?_) (fun l => ?_)
  all_goals
    refine Eq.trans ?_ (hc _ l)
    by_cases h0 : p.val % 4 = 0
  any_goals rw [outsAt0_A m c p h0]; frame_out
  any_goals rw [outsAt0_B m c p h0]; frame_out
  all_goals rw [ld_grpW 0 0 rfl, ld_grpW 1 1 rfl, ld_grpW 2 2 rfl, ld_grpW 3 3 rfl, ld_grp 0 0 rfl, ld_grp 1 128 rfl, ld_grp 2 256 rfl, ld_grp 3 384 rfl,
    ld_grpS 0 0 rfl, ld_grpS 1 128 rfl, ld_grpS 2 256 rfl, ld_grpS 3 384 rfl, da2_at, da4_at, da8_at, da16_at]
  · iterate 3 rw [canon_miss _ _ _ _ 1 (off_cols t l _ _ (by decide))]
    rw [canon_hit _ _ _ _ (ix2 t l) (in_cols t t l 0 _ rfl rfl)]
    rfl
  · iterate 3 rw [canon_miss _ _ _ _ 1 (off_cols t l _ _ (by decide))]
    rw [canon_hit _ _ _ _ (ix2 t l) (in_cols t t l 0 _ rfl rfl)]
    rfl
  · iterate 2 rw [canon_miss _ _ _ _ 1 (off_cols t l _ _ (by decide))]
    rw [canon_hit _ _ _ _ (ix2 t l) (in_cols t t l 1 _ rfl rfl)]
    rfl
  · iterate 2 rw [canon_miss _ _ _ _ 1 (off_cols t l _ _ (by decide))]
    rw [canon_hit _ _ _ _ (ix2 t l) (in_cols t t l 1 _ rfl rfl)]
    rfl
  · iterate 1 rw [canon_miss _ _ _ _ 1 (off_cols t l _ _ (by decide))]
    rw [canon_hit _ _ _ _ (ix2 t l) (in_cols t t l 2 _ rfl rfl)]
    rfl
  · iterate 1 rw [canon_miss _ _ _ _ 1 (off_cols t l _ _ (by decide))]
    rw [canon_hit _ _ _ _ (ix2 t l) (in_cols t t l 2 _ rfl rfl)]
    rfl
  · rw [canon_hit _ _ _ _ (ix2 t l) (in_cols t t l 3 _ rfl rfl)]
    rfl
  · rw [canon_hit _ _ _ _ (ix2 t l) (in_cols t t l 3 _ rfl rfl)]
    rfl

/-- the gradient with respect to the channels -/
theorem final_da : (dats m 0 c).arrAt 4 cfg0.N
    = seqRows (fun b t n => dChan (argW m c) (argS m c) (argD m c) b (grpOf n) (inGrp n) t) := by
  refine (dats m 0 c).arrAt_eq_of_covers 4 _ (by decide +kernel) fun p _ y => ?_
  have hp := t0_lt p
  blk_simp
  rw [after0_4]
  refine Eq.trans ?_ (seqRows_at _ _ (bOf p) (y 0) (y 1) ?_ ?_).symm
  · refine (congrArg _ (eq_ix2 y)).trans ?_
    obtain ⟨g, l, h⟩ := chan_split (y 1)
    refine (congrArg _ (congrArg (ix2 (y 0)) h)).trans ((da_slots m c p (y 0) g l).trans ?_)
    have hg : grpOf (y 1) = g := (congrArg grpOf h).trans (grpOf_chan g l)
    have hl : inGrp (y 1) = l := (congrArg inGrp h).trans (inGrp_chan g l)
    exact congr (congr (congrArg (dChan _ _ _ _) hg.symm) hl.symm) rfl
  all_goals blk_ext [idx p]

/-- the plane `g` of the matrices lies in the piece of plane `o` -/
theorem in_plane (k l : Fin 128) (g : Fin 4) (o : ℕ) (ho : o = g.val) :
    ∀ a, ((ix3 g k l : (⟨3, ![4, 128, 128]⟩ : Shape).Idx) a).val = (![o, 0, 0] : Fin 3 → ℕ) a + ((ix3 0 k l : (⟨3, ![1, 128, 128]⟩ : Shape).Idx) a).val := by
  subst ho
  intro a
  fin_cases a
  · rfl
  · exact (zero_add _).symm
  · exact (zero_add _).symm

/-- and outside another's -/
theorem off_plane (k l : Fin 128) (g : Fin 4) (o : ℕ) (ho : g.val < o ∨ o < g.val) :
    ((ix3 g k l : (⟨3, ![4, 128, 128]⟩ : Shape).Idx) 0).val < (![o, 0, 0] : Fin 3 → ℕ) 0
      ∨ (![o, 0, 0] : Fin 3 → ℕ) 0 + (![1, 128, 128] : Fin 3 → ℕ) 0 ≤ ((ix3 g k l : (⟨3, ![4, 128, 128]⟩ : Shape).Idx) 0).val := by
  refine ho.imp id (fun h => ?_)
  show o + 1 ≤ g.val
  omega

/-- every plane lies in the piece that fills the whole block -/
theorem in_all (k l : Fin 128) (g : Fin 4) :
    ∀ a, ((ix3 g k l : (⟨3, ![4, 128, 128]⟩ : Shape).Idx) a).val = (![0, 0, 0] : Fin 3 → ℕ) a + ((ix3 g k l : (⟨3, ![4, 128, 128]⟩ : Shape).Idx) a).val := by
  intro a
  fin_cases a <;> exact (zero_add _).symm

theorem dw_fill (i) : k0_pay4 (F := Ideal) i = 0 := by
  pointwise [k0_pay4]

/-- a point's part of the matrices' gradient -/
theorem dw_part (p : Fin cfg0.N) (g : Fin 4) (k l : Fin 128) : wPart (wd g) (grp (iblk m c 0 p) g) (grpS (iblk m c 2 p) g) (grp (iblk m c 3 p) g) k l
    = dMat (argA m c) (argS m c) (argD m c) (bOf p) g k l := by
  rw [blk_a, blk_s, blk_d]; rfl

/-- the matrices' gradient after a later point: one more sequence's part -/
theorem dw_next (p : Fin cfg0.N) (h0 : p.val % 4 ≠ 0) (k l : Fin 128) : ∀ g : Fin 4, (outsAt0 m c p.val p.isLt).2.1 (ix3 g k l)
    = (outsAt0 m c (p.val - 1) (lt_of_le_of_lt (Nat.sub_le _ _) p.isLt)).2.1 (ix3 g k l) + dMat (argA m c) (argS m c) (argD m c) (bOf p) g k l := by
  rw [outsAt0_B m c p h0]
  refine four ?_ ?_ ?_ ?_
  all_goals
    rw [← dw_part]
    frame_out
    simp only [ld_grpW 0 0 rfl, ld_grpW 1 1 rfl, ld_grpW 2 2 rfl, ld_grpW 3 3 rfl, ld_grp 0 0 rfl, ld_grp 1 128 rfl, ld_grp 2 256 rfl, ld_grp 3 384 rfl,
      ld_grpS 0 0 rfl, ld_grpS 1 128 rfl, ld_grpS 2 256 rfl, ld_grpS 3 384 rfl, (load_at _).1, (load_at _).2]
  · rw [canon_miss _ _ _ _ 0 (off_plane k l _ _ (by decide)), canon_miss _ _ _ _ 0 (off_plane k l _ _ (by decide)), canon_miss _ _ _ _ 0 (off_plane k l _ _ (by decide))]
    rw [canon_hit _ _ _ _ (ix3 0 k l) (in_plane k l _ _ rfl), dw2_at]
    rfl
  · rw [canon_miss _ _ _ _ 0 (off_plane k l _ _ (by decide)), canon_miss _ _ _ _ 0 (off_plane k l _ _ (by decide))]
    rw [canon_hit _ _ _ _ (ix3 0 k l) (in_plane k l _ _ rfl), dw4_at]
    rfl
  · rw [canon_miss _ _ _ _ 0 (off_plane k l _ _ (by decide))]
    rw [canon_hit _ _ _ _ (ix3 0 k l) (in_plane k l _ _ rfl), dw8_at]
    rfl
  · rw [canon_hit _ _ _ _ (ix3 0 k l) (in_plane k l _ _ rfl), dw16_at]
    rfl

set_option maxHeartbeats 1000000 in
/-- the matrices' gradient after the first point: its sequence's part -/
theorem dw_first (p : Fin cfg0.N) (h0 : p.val % 4 = 0) (k l : Fin 128) : ∀ g : Fin 4, (outsAt0 m c p.val p.isLt).2.1 (ix3 g k l)
    = 0 + dMat (argA m c) (argS m c) (argD m c) (bOf p) g k l := by
  rw [outsAt0_A m c p h0]
  refine four ?_ ?_ ?_ ?_
  all_goals
    rw [← dw_part]
    frame_out
    simp only [ld_grp 0 0 rfl, ld_grp 1 128 rfl, ld_grp 2 256 rfl, ld_grp 3 384 rfl,
      ld_grpS 0 0 rfl, ld_grpS 1 128 rfl, ld_grpS 2 256 rfl, ld_grpS 3 384 rfl, (load_at _).1, (load_at _).2]
  · rw [canon_miss _ _ _ _ 0 (off_plane k l _ _ (by decide)), canon_miss _ _ _ _ 0 (off_plane k l _ _ (by decide)), canon_miss _ _ _ _ 0 (off_plane k l _ _ (by decide))]
    rw [canon_hit _ _ _ _ (ix3 0 k l) (in_plane k l _ _ rfl), dw2_at]
    refine congrArg (fun z : EReal => z + _) ?_
    refine (readCov_at _ _ _ (ix3 0 k l) (ix3 0 k l) (in_plane k l 0 0 rfl)).trans ?_
    exact (canon_hit _ _ _ _ _ (in_all k l _)).trans (dw_fill _)
  · rw [canon_miss _ _ _ _ 0 (off_plane k l _ _ (by decide)), canon_miss _ _ _ _ 0 (off_plane k l _ _ (by decide))]
    rw [canon_hit _ _ _ _ (ix3 0 k l) (in_plane k l _ _ rfl), dw4_at]
    refine congrArg (fun z : EReal => z + _) ?_
    refine (readCov_at _ _ _ (ix3 1 k l) (ix3 0 k l) (in_plane k l 1 1 rfl)).trans ?_
    rw [canon_miss _ _ _ _ 0 (off_plane k l _ _ (by decide))]
    exact (canon_hit _ _ _ _ _ (in_all k l _)).trans (dw_fill _)
  · rw [canon_miss _ _ _ _ 0 (off_plane k l _ _ (by decide))]
    rw [canon_hit _ _ _ _ (ix3 0 k l) (in_plane k l _ _ rfl), dw8_at]
    refine congrArg (fun z : EReal => z + _) ?_
    refine (readCov_at _ _ _ (ix3 2 k l) (ix3 0 k l) (in_plane k l 2 2 rfl)).trans ?_
    rw [canon_miss _ _ _ _ 0 (off_plane k l _ _ (by decide)), canon_miss _ _ _ _ 0 (off_plane k l _ _ (by decide))]
    exact (canon_hit _ _ _ _ _ (in_all k l _)).trans (dw_fill _)
  · rw [canon_hit _ _ _ _ (ix3 0 k l) (in_plane k l _ _ rfl), dw16_at]
    refine congrArg (fun z : EReal => z + _) ?_
    refine (readCov_at _ _ _ (ix3 3 k l) (ix3 0 k l) (in_plane k l 3 3 rfl)).trans ?_
    rw [canon_miss _ _ _ _ 0 (off_plane k l _ _ (by decide)), canon_miss _ _ _ _ 0 (off_plane k l _ _ (by decide)), canon_miss _ _ _ _ 0 (off_plane k l _ _ (by decide))]
    exact (canon_hit _ _ _ _ _ (in_all k l _)).trans (dw_fill _)

/-- row 0 of the block lies in a group's piece of that row -/
theorem in_row (r : Fin 1) (l : Fin 128) (g : Fin 4) (o : ℕ) (ho : o = g.val * 128) :
    ∀ a, ((ix2 0 (chanOf g l) : S8x512.Idx) a).val = (![0, o] : Fin 2 → ℕ) a + ((ix2 0 l : (⟨2, ![1, 128]⟩ : Shape).Idx) a).val := by
  subst ho
  intro a
  fin_cases a <;> rfl

/-- another group's piece of row 0 is elsewhere -/
theorem off_row (i : Fin 8) (l : Fin 128) (g : Fin 4) (o : ℕ) (ho : (g.val + 1) * 128 ≤ o ∨ o + 128 ≤ g.val * 128) :
    ((ix2 i (chanOf g l) : S8x512.Idx) 1).val < (![0, o] : Fin 2 → ℕ) 1
      ∨ (![0, o] : Fin 2 → ℕ) 1 + (![1, 128] : Fin 2 → ℕ) 1 ≤ ((ix2 i (chanOf g l) : S8x512.Idx) 1).val := by
  refine ho.imp (fun h => ?_) (fun h => ?_)
  · show g.val * 128 + l.val < o
    omega
  · show o + 128 ≤ g.val * 128 + l.val
    omega

/-- the other rows lie in no piece of row 0 -/
theorem off_rows (i : Fin 8) (hi : (i : ℕ) ≠ 0) (n : Fin 512) (o : ℕ) :
    ((ix2 i n : S8x512.Idx) 0).val < (![0, o] : Fin 2 → ℕ) 0
      ∨ (![0, o] : Fin 2 → ℕ) 0 + (![1, 128] : Fin 2 → ℕ) 0 ≤ ((ix2 i n : S8x512.Idx) 0).val := by
  refine Or.inr ?_
  show 0 + 1 ≤ i.val
  omega

/-- every index lies in the piece that fills the whole block -/
theorem in_block (i : Fin 8) (n : Fin 512) :
    ∀ a, ((ix2 i n : S8x512.Idx) a).val = (![0, 0] : Fin 2 → ℕ) a + ((ix2 i n : (⟨2, ![8, 512]⟩ : Shape).Idx) a).val := by
  intro a
  fin_cases a <;> exact (zero_add _).symm

/-- a group's piece of row 0, as it is loaded -/
theorem ld_row (x : Vec Ideal S8x512 .f32) (g : Fin 4) (o : ℕ) (ho : o = g.val * 128) (l : Fin 128) (inb) :
    View.ld x (Rect.unit (s := S8x512) ![0, o] ![1, 128] inb) (ix2 0 l) = x (ix2 0 (chanOf g l)) :=
  congrArg x (emb_unit inb _ (ix2 0 l) (in_row 0 l g o ho))

theorem ds_fill (i) : k0_pay5 (F := Ideal) i = 0 := by
  pointwise [k0_pay5]

/-- a point's part of the scales' gradient -/
theorem ds_part (p : Fin cfg0.N) (g : Fin 4) (l : Fin 128) : sPart (wd g) (grp (iblk m c 0 p) g) (grpW (iblk m c 1 p) g) (grp (iblk m c 3 p) g) l
    = dScale (argA m c) (argW m c) (argD m c) (bOf p) g l := by
  rw [blk_a, blk_w, blk_d]; rfl

/-- the scales' gradient after a later point: one more sequence's part in row 0 -/
theorem ds_next (p : Fin cfg0.N) (h0 : p.val % 4 ≠ 0) (i : Fin 8) (l : Fin 128) : ∀ g : Fin 4, (outsAt0 m c p.val p.isLt).2.2 (ix2 i (chanOf g l))
    = (outsAt0 m c (p.val - 1) (lt_of_le_of_lt (Nat.sub_le _ _) p.isLt)).2.2 (ix2 i (chanOf g l))
      + top (fun n => dScale (argA m c) (argW m c) (argD m c) (bOf p) (grpOf n) (inGrp n)) i (chanOf g l) := by
  rw [outsAt0_B m c p h0]
  unfold top
  by_cases hi : (i : ℕ) = 0
  · obtain rfl : i = 0 := Fin.ext hi
    simp only [hi, if_true, grpOf_chan, inGrp_chan]
    refine four ?_ ?_ ?_ ?_
    all_goals
      rw [← ds_part]
      frame_out
      simp only [ld_grpW 0 0 rfl, ld_grpW 1 1 rfl, ld_grpW 2 2 rfl, ld_grpW 3 3 rfl, ld_grp 0 0 rfl, ld_grp 1 128 rfl, ld_grp 2 256 rfl, ld_grp 3 384 rfl,
        (load_at _).1, (load_at _).2]
    · iterate 3 rw [read_miss _ _ _ _ _ _ 1 (off_row 0 l _ _ (by decide))]
      rw [read_hit _ _ _ _ _ _ (ix2 0 l) (in_row 0 l _ _ rfl), ds2_at, ld_row _ 0 0 rfl]
      rfl
    · iterate 2 rw [read_miss _ _ _ _ _ _ 1 (off_row 0 l _ _ (by decide))]
      rw [read_hit _ _ _ _ _ _ (ix2 0 l) (in_row 0 l _ _ rfl), ds4_at, ld_row _ 1 128 rfl]
      rfl
    · rw [read_miss _ _ _ _ _ _ 1 (off_row 0 l _ _ (by decide))]
      rw [read_hit _ _ _ _ _ _ (ix2 0 l) (in_row 0 l _ _ rfl), ds8_at, ld_row _ 2 256 rfl]
      rfl
    · rw [read_hit _ _ _ _ _ _ (ix2 0 l) (in_row 0 l _ _ rfl), ds16_at, ld_row _ 3 384 rfl]
      rfl
  · simp only [hi, if_false, add_zero]
    intro g
    frame_out
    iterate 4 rw [read_miss _ _ _ _ _ _ 0 (off_rows i hi _ _)]
    rw [View.writes_nil, Memref.IsWhole.read_unread]

/-- the scales' gradient after the first point: its sequence's part in row 0 -/
theorem ds_first (p : Fin cfg0.N) (h0 : p.val % 4 = 0) (i : Fin 8) (l : Fin 128) : ∀ g : Fin 4, (outsAt0 m c p.val p.isLt).2.2 (ix2 i (chanOf g l))
    = 0 + top (fun n => dScale (argA m c) (argW m c) (argD m c) (bOf p) (grpOf n) (inGrp n)) i (chanOf g l) := by
  rw [outsAt0_A m c p h0]
  unfold top
  by_cases hi : (i : ℕ) = 0
  · obtain rfl : i = 0 := Fin.ext hi
    simp only [hi, if_true, grpOf_chan, inGrp_chan]
    refine four ?_ ?_ ?_ ?_
    all_goals
      rw [← ds_part]
      frame_out
      simp only [ld_grpW 0 0 rfl, ld_grpW 1 1 rfl, ld_grpW 2 2 rfl, ld_grpW 3 3 rfl, ld_grp 0 0 rfl, ld_grp 1 128 rfl, ld_grp 2 256 rfl, ld_grp 3 384 rfl,
        (load_at _).1, (load_at _).2]
    · iterate 3 rw [canon_miss _ _ _ _ 1 (off_row 0 l _ _ (by decide))]
      rw [canon_hit _ _ _ _ (ix2 0 l) (in_row 0 l _ _ rfl), ds2_at]
      refine congrArg (fun z : EReal => z + _) ?_
      refine (readCov_at _ _ _ (ix2 0 (chanOf 0 l)) _ (in_row 0 l _ _ rfl)).trans ?_
      exact (canon_hit _ _ _ _ _ (in_block 0 _)).trans (ds_fill _)
    · iterate 2 rw [canon_miss _ _ _ _ 1 (off_row 0 l _ _ (by decide))]
      rw [canon_hit _ _ _ _ (ix2 0 l) (in_row 0 l _ _ rfl), ds4_at]
      refine congrArg (fun z : EReal => z + _) ?_
      refine (readCov_at _ _ _ (ix2 0 (chanOf 1 l)) _ (in_row 0 l _ _ rfl)).trans ?_
      rw [canon_miss _ _ _ _ 1 (off_row 0 l _ _ (by decide))]
      exact (canon_hit _ _ _ _ _ (in_block 0 _)).trans (ds_fill _)
    · rw [canon_miss _ _ _ _ 1 (off_row 0 l _ _ (by decide))]
      rw [canon_hit _ _ _ _ (ix2 0 l) (in_row 0 l _ _ rfl), ds8_at]
      refine congrArg (fun z : EReal => z + _) ?_
      refine (readCov_at _ _ _ (ix2 0 (chanOf 2 l)) _ (in_row 0 l _ _ rfl)).trans ?_
      iterate 2 rw [canon_miss _ _ _ _ 1 (off_row 0 l _ _ (by decide))]
      exact (canon_hit _ _ _ _ _ (in_block 0 _)).trans (ds_fill _)
    · rw [canon_hit _ _ _ _ (ix2 0 l) (in_row 0 l _ _ rfl), ds16_at]
      refine congrArg (fun z : EReal => z + _) ?_
      refine (readCov_at _ _ _ (ix2 0 (chanOf 3 l)) _ (in_row 0 l _ _ rfl)).trans ?_
      iterate 3 rw [canon_miss _ _ _ _ 1 (off_row 0 l _ _ (by decide))]
      exact (canon_hit _ _ _ _ _ (in_block 0 _)).trans (ds_fill _)
  · simp only [hi, if_false, add_zero]
    intro g
    frame_out
    iterate 4 rw [canon_miss _ _ _ _ 0 (off_rows i hi _ _)]
    exact (canon_hit _ _ _ _ _ (in_block i _)).trans (ds_fill _)

theorem flush5 : ∀ p : Fin cfg0.N, (cfg0.win 5).flush p = true → p.val % 4 = 4 - 1 :=
  (by decide +kernel : ∀ t : Fin grid0.N, _)
theorem flush6 : ∀ p : Fin cfg0.N, (cfg0.win 6).flush p = true → p.val % 4 = 4 - 1 :=
  (by decide +kernel : ∀ t : Fin grid0.N, _)

/-- the gradient with respect to the groups' matrices -/
theorem final_dw : (dats m 0 c).arrAt 5 cfg0.N
    = fun i : S4x128x128.Idx => ∑ b, dMat (argA m c) (argS m c) (argD m c) b (i 0) (i 1) (i 2) := by
  refine (dats m 0 c).arrAt_eq_of_covers 5 _ (by decide +kernel) fun p hf y => ?_
  have hp := t0_lt p
  blk_simp
  rw [after0_5, Pipeline.eq_sum_fin_of_reset_step_apply_of_flush (fun n h => (outsAt0 m c n h).2.1) 4 (fun _ => 0)
    (fun p j => dMat (argA m c) (argS m c) (argD m c) (bOf p) (j 0) (j 1) (j 2)) (fun p h0 j => ?_) (fun p h0 j => ?_) p (flush5 p hf) y]
  · refine (zero_add (∑ s : Fin 4, _ : EReal)).trans (Finset.sum_congr rfl fun b _ => ?_)
    have hb := b.isLt
    have h3 := flush5 p hf
    refine congr (congr (congr (congrArg (dMat _ _ _) (Fin.ext ?_)) (Fin.ext ?_)) (Fin.ext ?_)) (Fin.ext ?_)
    · show 4 * (p.val / 4) + b.val = b.val
      omega
    all_goals blk_ext [idx p]
  · exact (congrArg _ (eq_ix3 j)).trans (dw_first m c p h0 (j 1) (j 2) (j 0))
  · exact (congrArg _ (eq_ix3 j)).trans ((dw_next m c p h0 (j 1) (j 2) (j 0)).trans (congrArg (fun z : EReal => z + _) (congrArg _ (eq_ix3 j).symm)))

/-- the gradient with respect to the scales, in row 0 of eight -/
theorem final_ds : (dats m 0 c).arrAt 6 cfg0.N
    = fun i : S8x512.Idx => top (fun n => ∑ b, dScale (argA m c) (argW m c) (argD m c) b (grpOf n) (inGrp n)) (i 0) (i 1) := by
  refine (dats m 0 c).arrAt_eq_of_covers 6 _ (by decide +kernel) fun p hf y => ?_
  have hp := t0_lt p
  blk_simp
  rw [after0_6, Pipeline.eq_sum_fin_of_reset_step_apply_of_flush (fun n h => (outsAt0 m c n h).2.2) 4 (fun _ => 0)
    (fun p j => top (fun n => dScale (argA m c) (argW m c) (argD m c) (bOf p) (grpOf n) (inGrp n)) (j 0) (j 1)) (fun p h0 j => ?_) (fun p h0 j => ?_) p (flush6 p hf) y]
  · refine (sum_top (fun s : Fin 4 => _) (y 0) (y 1)).trans ?_
    have h3 := flush6 p hf
    refine congr (congr (congrArg top (funext fun n => Finset.sum_congr rfl fun b _ => ?_)) (Fin.ext ?_)) (Fin.ext ?_)
    · have hb := b.isLt
      refine congr (congr (congrArg (dScale _ _ _) (Fin.ext ?_)) rfl) rfl
      show 4 * (p.val / 4) + b.val = b.val
      omega
    all_goals blk_ext [idx p]
  · obtain ⟨g, l, h⟩ := chan_split (j 1)
    refine (congrArg _ (eq_ix2 j)).trans ?_
    rw [h]
    exact ds_first m c p h0 (j 0) l g
  · obtain ⟨g, l, h⟩ := chan_split (j 1)
    have e : j = ix2 (j 0) (chanOf g l) := by rw [← h]; exact eq_ix2 j
    refine (congrArg _ e).trans ((ds_next m c p h0 (j 0) l g).trans ?_)
    exact congr (congrArg (fun z w : EReal => z + w) (congrArg _ e.symm)) (congrArg _ h.symm)

end Cert.PoolBwdIdeal.Value

end
-- ==== Proof.PoolSum.lean ====
module

public import proofs.«01_k».proof.Proof.PoolMath

/-! # A window's sum as wide as the sequence is the running sum -/

@[expose] public section

noncomputable section

open Idealize.ShloMosaic

namespace Cert.Grad

theorem fold_sum {ι : Type} (f : ι → EReal) (L : List ι) : ∀ v : EReal, L.foldl (fun r n => r + f n) v = v + (L.map f).sum := by
  induction L with
  | nil => intro v; simp
  | cons a L ih => intro v; rw [List.foldl_cons, ih, List.map_cons, List.sum_cons, add_assoc]

/-- a window's sum of zero-padded rows -/
theorem window_sum {s t u : Shape} (window strides lo hi : Fin s.rank → ℕ) (x : s.Idx → EReal) (init : u.Idx → EReal)
    (h : s.ReduceWindows window strides lo hi t) (hu : 0 < u.numel) (h0 : init (Shape.Idx.first hu) = 0) (j : t.Idx) :
    Host.reduceWindowAdd (F := Ideal) (φ := .f32) window strides lo hi x init h hu j
      = ∑ w : (⟨s.rank, window⟩ : Shape).Idx, if hin : ∀ a, lo a ≤ (j (a.cast h.1.symm)).val * strides a + (w a).val
        ∧ (j (a.cast h.1.symm)).val * strides a + (w a).val - lo a < s.size a
        then x (fun a => ⟨(j (a.cast h.1.symm)).val * strides a + (w a).val - lo a, (hin a).2⟩) else 0 := by
  refine Eq.trans ?_ (Equiv.sum_comp (⟨s.rank, window⟩ : Shape).rowMajor.symm _)
  rw [Fin.sum_univ_def]
  refine Eq.trans ?_ (zero_add (_ : EReal))
  refine Eq.trans ?_ (fold_sum _ _ 0)
  unfold Host.reduceWindowAdd
  rw [h0]
  show Ideal.hostReduceWindowAdd window strides lo hi h x 0 j = _
  unfold Ideal.hostReduceWindowAdd Host.reduceWindow
  dsimp only
  refine congrArg (fun f => List.foldl f (0 : EReal) _) (funext fun r => funext fun n => congrArg (fun z : EReal => r + z) ?_)
  by_cases hin : ∀ a, lo a ≤ (j (a.cast h.1.symm)).val * strides a + ((⟨s.rank, window⟩ : Shape).rowMajor.symm n a).val
      ∧ (j (a.cast h.1.symm)).val * strides a + ((⟨s.rank, window⟩ : Shape).rowMajor.symm n a).val - lo a < s.size a
  · rw [dif_pos hin, dif_pos hin]
  · rw [dif_neg hin, dif_neg hin]

/-- the grouped channels' shape -/
abbrev Grouped : Shape := ⟨4, ![4, 2048, 4, 128]⟩
/-- a window over a whole sequence -/
abbrev Whole : Shape := ⟨4, ![1, 2048, 1, 1]⟩

/-- the rows of the window -/
def wholeRows : Fin 2048 ≃ Whole.Idx where
  toFun k := ix4 0 k 0 0
  invFun i := i 1
  left_inv _ := rfl
  right_inv i := by
    funext a
    match a with
    | ⟨0, _⟩ => exact (Subsingleton.elim (α := Fin 1) _ _)
    | ⟨1, _⟩ => rfl
    | ⟨2, _⟩ => exact (Subsingleton.elim (α := Fin 1) _ _)
    | ⟨3, _⟩ => exact (Subsingleton.elim (α := Fin 1) _ _)

theorem run_rows (f : Fin 2048 → EReal) (t : Fin 2048) : ∑ k : Fin 2048, back (2047 - k.val) f t = run f t := by
  rw [Fin.sum_univ_eq_sum_range (fun k => back (2047 - k) f t) 2048]
  exact Finset.sum_range_reflect (fun k => back k f t) 2048

theorem rest_rows (f : Fin 2048 → EReal) (t : Fin 2048) : ∑ k : Fin 2048, ahead k.val f t = rest f t := by
  rw [Fin.sum_univ_eq_sum_range (fun k => ahead k f t) 2048]
  simp only [rest, comb, one_mul]

variable {u : Shape} (x : Grouped.Idx → EReal) (init : u.Idx → EReal) (b : Fin 4) (t : Fin 2048) (g : Fin 4) (k : Fin 128)

/-- the sum from the first row on -/
theorem sum_run (h : Grouped.ReduceWindows ![1, 2048, 1, 1] ![1, 1, 1, 1] ![0, 2047, 0, 0] ![0, 0, 0, 0] Grouped) (hu : 0 < u.numel)
    (h0 : init (Shape.Idx.first hu) = 0) :
    Host.reduceWindowAdd (F := Ideal) (φ := .f32) (s := Grouped) (t := Grouped) ![1, 2048, 1, 1] ![1, 1, 1, 1] ![0, 2047, 0, 0] ![0, 0, 0, 0] x init h hu (ix4 b t g k)
      = run (fun v => x (ix4 b v g k)) t := by
  rw [window_sum _ _ _ _ _ _ _ _ h0, ← run_rows]
  refine (Equiv.sum_comp wholeRows _).symm.trans ?_
  refine Finset.sum_congr rfl fun n _ => ?_
  unfold back
  by_cases hn : t.val < 2047 - n.val
  · rw [if_pos hn]
    refine dif_neg fun hin => ?_
    have := (hin 1).1
    change 2047 ≤ t.val * 1 + n.val at this
    omega
  · rw [if_neg hn]
    have hin : ∀ a : Fin Grouped.rank, (![0, 2047, 0, 0] : Fin 4 → ℕ) a
        ≤ ((ix4 b t g k : Grouped.Idx) a).val * (![1, 1, 1, 1] : Fin 4 → ℕ) a + (wholeRows n a).val
        ∧ ((ix4 b t g k : Grouped.Idx) a).val * (![1, 1, 1, 1] : Fin 4 → ℕ) a + (wholeRows n a).val - (![0, 2047, 0, 0] : Fin 4 → ℕ) a < Grouped.size a := by
      intro a
      match a with
      | ⟨0, _⟩ => change 0 ≤ b.val * 1 + 0 ∧ b.val * 1 + 0 - 0 < 4; omega
      | ⟨1, _⟩ => change 2047 ≤ t.val * 1 + n.val ∧ t.val * 1 + n.val - 2047 < 2048; omega
      | ⟨2, _⟩ => change 0 ≤ g.val * 1 + 0 ∧ g.val * 1 + 0 - 0 < 4; omega
      | ⟨3, _⟩ => change 0 ≤ k.val * 1 + 0 ∧ k.val * 1 + 0 - 0 < 128; omega
    refine (dif_pos hin).trans (congrArg x (funext fun a => Fin.ext ?_))
    match a with
    | ⟨0, _⟩ => change b.val * 1 + 0 - 0 = b.val; omega
    | ⟨1, _⟩ => change t.val * 1 + n.val - 2047 = t.val - (2047 - n.val); omega
    | ⟨2, _⟩ => change g.val * 1 + 0 - 0 = g.val; omega
    | ⟨3, _⟩ => change k.val * 1 + 0 - 0 = k.val; omega

/-- the sum up to the last row -/
theorem sum_rest (h : Grouped.ReduceWindows ![1, 2048, 1, 1] ![1, 1, 1, 1] ![0, 0, 0, 0] ![0, 2047, 0, 0] Grouped) (hu : 0 < u.numel)
    (h0 : init (Shape.Idx.first hu) = 0) :
    Host.reduceWindowAdd (F := Ideal) (φ := .f32) (s := Grouped) (t := Grouped) ![1, 2048, 1, 1] ![1, 1, 1, 1] ![0, 0, 0, 0] ![0, 2047, 0, 0] x init h hu (ix4 b t g k)
      = rest (fun v => x (ix4 b v g k)) t := by
  rw [window_sum _ _ _ _ _ _ _ _ h0, ← rest_rows]
  refine (Equiv.sum_comp wholeRows _).symm.trans ?_
  refine Finset.sum_congr rfl fun n _ => ?_
  unfold ahead
  by_cases hn : t.val + n.val < 2048
  · rw [dif_pos hn]
    have hin : ∀ a : Fin Grouped.rank, (![0, 0, 0, 0] : Fin 4 → ℕ) a
        ≤ ((ix4 b t g k : Grouped.Idx) a).val * (![1, 1, 1, 1] : Fin 4 → ℕ) a + (wholeRows n a).val
        ∧ ((ix4 b t g k : Grouped.Idx) a).val * (![1, 1, 1, 1] : Fin 4 → ℕ) a + (wholeRows n a).val - (![0, 0, 0, 0] : Fin 4 → ℕ) a < Grouped.size a := by
      intro a
      match a with
      | ⟨0, _⟩ => change 0 ≤ b.val * 1 + 0 ∧ b.val * 1 + 0 - 0 < 4; omega
      | ⟨1, _⟩ => change 0 ≤ t.val * 1 + n.val ∧ t.val * 1 + n.val - 0 < 2048; omega
      | ⟨2, _⟩ => change 0 ≤ g.val * 1 + 0 ∧ g.val * 1 + 0 - 0 < 4; omega
      | ⟨3, _⟩ => change 0 ≤ k.val * 1 + 0 ∧ k.val * 1 + 0 - 0 < 128; omega
    refine (dif_pos hin).trans (congrArg x (funext fun a => Fin.ext ?_))
    match a with
    | ⟨0, _⟩ => change b.val * 1 + 0 - 0 = b.val; omega
    | ⟨1, _⟩ => change t.val * 1 + n.val - 0 = t.val + n.val; omega
    | ⟨2, _⟩ => change g.val * 1 + 0 - 0 = g.val; omega
    | ⟨3, _⟩ => change k.val * 1 + 0 - 0 = k.val; omega
  · rw [dif_neg hn]
    refine dif_neg fun hin => ?_
    have := (hin 1).2
    change t.val * 1 + n.val - 0 < 2048 at this
    omega

end Cert.Grad

end
-- ==== Proof.PoolRef.lean ====
module

public import proofs.«01_k».proof.Proof.PoolSum
public import proofs.«01_k».proof.Proof.LeadSum
public import proofs.«01_k».proof.Proof.Gen.PoolBwdRefIdeal.Read

/-! # The reference's results: the pooling mixer's gradient -/

@[expose] public section

noncomputable section

open Idealize.ShloMosaic Idealize.ShloMosaic.TcCoe Idealize.SL.Sem

namespace Cert.PoolBwdRefIdeal.Value
open Cert.PoolBwdRefIdeal Cert.PoolBwdRefIdeal.Gen Cert.PoolBwdRefIdeal.Read Cert.Grad

variable (a : S4x2048x512.Idx → EReal) (w : S4x128x128.Idx → EReal) (s : S512.Idx → EReal) (dy : S4x2048x512.Idx → EReal)

/-- a sequence read `k` rows on, with `k` zeros behind, is the shift ahead -/
theorem pad_ahead_lt (k n : ℕ) (hk : k + n = 2048) (f : Fin 2048 → EReal) (t : Fin 2048) :
    (if h : t.val < n then f ⟨k + t.val, by omega⟩ else 0) = ahead k f t := by
  unfold ahead
  by_cases h : t.val < n
  · rw [dif_pos h, dif_pos (by omega)]
    exact congrArg f (Fin.ext (Nat.add_comm _ _))
  · rw [dif_neg h, dif_neg (by omega)]

theorem wd_le : ∀ g : Fin 4, wd g ≤ 2048 := by decide

/-- channel `k` of group `g` in sequence `b` -/
abbrev chan (b g : Fin 4) (k : Fin 128) : Fin 2048 → EReal := fun u => a (ix3 b u (chanOf g k))

theorem v0_eq : val_main_v0 (F := Ideal) a = fun i => chan a (i 0) (i 2) (i 3) (i 1) := by
  funext i
  idx_vars i
  pointwise [val_main_v0]
  rfl

theorem v1_eq : val_main_v1 (F := Ideal) a = fun i => Cert.Grad.run (chan a (i 0) (i 2) (i 3)) (i 1) := by
  funext i
  idx_vars i
  unfold val_main_v1
  refine (sum_run _ _ i0 i1 i2 i3 _ _ ?_).trans ?_
  · pointwise [val_main_call0_call0_v0, val_main_call0_call0_cst]
  · rw [v0_eq]; rfl

theorem v4_eq : val_main_v4 (F := Ideal) a = fun i => Cert.Grad.run (chan a (i 0) 0 (i 2)) (i 1) := by
  funext i
  idx_vars i
  pointwise [val_main_v4, val_main_v3, v1_eq]

theorem v22_eq : val_main_v22 (F := Ideal) a = fun i => Cert.Grad.run (chan a (i 0) 1 (i 2)) (i 1) := by
  funext i
  idx_vars i
  pointwise [val_main_v22, val_main_v21, v1_eq]

theorem v40_eq : val_main_v40 (F := Ideal) a = fun i => Cert.Grad.run (chan a (i 0) 2 (i 2)) (i 1) := by
  funext i
  idx_vars i
  pointwise [val_main_v40, val_main_v39, v1_eq]

theorem v58_eq : val_main_v58 (F := Ideal) a = fun i => Cert.Grad.run (chan a (i 0) 3 (i 2)) (i 1) := by
  funext i
  idx_vars i
  pointwise [val_main_v58, val_main_v57, v1_eq]

theorem v7_eq : val_main_v7 (F := Ideal) a = fun i => back 2 (Cert.Grad.run (chan a (i 0) 0 (i 2))) (i 1) := by
  funext i
  idx_vars i
  pointwise [val_main_v7, val_main_v6, val_main_v5, val_main_cst, v4_eq]
  rfl

theorem v14_eq : val_main_v14 (F := Ideal) = fun i => count 2 (i 1) := by
  funext i
  idx_vars i
  pointwise [val_main_v14, val_main_v13, val_main_v12, val_main_v11, val_main_v10, val_main_v9, val_main_v2, val_main_c, val_main_c_1]
  rfl

theorem v20_eq (r : S4x2048x512.Idx → ℝ) (ha : a = fun i => (r i : EReal)) :
    val_main_v20 (F := Ideal) a = fun i => poolAt a (i 0) 0 (i 2) (i 1) := by
  funext i
  idx_vars i
  pointwise [val_main_v20, val_main_v19, val_main_v18, val_main_v17, val_main_v16, val_main_v15, v0_eq, v4_eq, v7_eq, v14_eq]
  subst ha
  refine congrArg (fun z : EReal => Ideal.div z (count 2 i1) - _) (run_sub 2 (by decide) _ i1)

theorem v25_eq : val_main_v25 (F := Ideal) a = fun i => back 4 (Cert.Grad.run (chan a (i 0) 1 (i 2))) (i 1) := by
  funext i
  idx_vars i
  pointwise [val_main_v25, val_main_v24, val_main_v23, val_main_cst_2, v22_eq]
  rfl

theorem v32_eq : val_main_v32 (F := Ideal) = fun i => count 4 (i 1) := by
  funext i
  idx_vars i
  pointwise [val_main_v32, val_main_v31, val_main_v30, val_main_v29, val_main_v28, val_main_v27, val_main_v2, val_main_c_4, val_main_c_5]
  rfl

theorem v38_eq (r : S4x2048x512.Idx → ℝ) (ha : a = fun i => (r i : EReal)) :
    val_main_v38 (F := Ideal) a = fun i => poolAt a (i 0) 1 (i 2) (i 1) := by
  funext i
  idx_vars i
  pointwise [val_main_v38, val_main_v37, val_main_v36, val_main_v35, val_main_v34, val_main_v33, v0_eq, v22_eq, v25_eq, v32_eq]
  subst ha
  refine congrArg (fun z : EReal => Ideal.div z (count 4 i1) - _) (run_sub 4 (by decide) _ i1)

theorem v43_eq : val_main_v43 (F := Ideal) a = fun i => back 8 (Cert.Grad.run (chan a (i 0) 2 (i 2))) (i 1) := by
  funext i
  idx_vars i
  pointwise [val_main_v43, val_main_v42, val_main_v41, val_main_cst_6, v40_eq]
  rfl

theorem v50_eq : val_main_v50 (F := Ideal) = fun i => count 8 (i 1) := by
  funext i
  idx_vars i
  pointwise [val_main_v50, val_main_v49, val_main_v48, val_main_v47, val_main_v46, val_main_v45, val_main_v2, val_main_c_8, val_main_c_9]
  rfl

theorem v56_eq (r : S4x2048x512.Idx → ℝ) (ha : a = fun i => (r i : EReal)) :
    val_main_v56 (F := Ideal) a = fun i => poolAt a (i 0) 2 (i 2) (i 1) := by
  funext i
  idx_vars i
  pointwise [val_main_v56, val_main_v55, val_main_v54, val_main_v53, val_main_v52, val_main_v51, v0_eq, v40_eq, v43_eq, v50_eq]
  subst ha
  refine congrArg (fun z : EReal => Ideal.div z (count 8 i1) - _) (run_sub 8 (by decide) _ i1)

theorem v61_eq : val_main_v61 (F := Ideal) a = fun i => back 16 (Cert.Grad.run (chan a (i 0) 3 (i 2))) (i 1) := by
  funext i
  idx_vars i
  pointwise [val_main_v61, val_main_v60, val_main_v59, val_main_cst_10, v58_eq]
  rfl

theorem v68_eq : val_main_v68 (F := Ideal) = fun i => count 16 (i 1) := by
  funext i
  idx_vars i
  pointwise [val_main_v68, val_main_v67, val_main_v66, val_main_v65, val_main_v64, val_main_v63, val_main_v2, val_main_c_12, val_main_c_13]
  rfl

theorem v74_eq (r : S4x2048x512.Idx → ℝ) (ha : a = fun i => (r i : EReal)) :
    val_main_v74 (F := Ideal) a = fun i => poolAt a (i 0) 3 (i 2) (i 1) := by
  funext i
  idx_vars i
  pointwise [val_main_v74, val_main_v73, val_main_v72, val_main_v71, val_main_v70, val_main_v69, v0_eq, v58_eq, v61_eq, v68_eq]
  subst ha
  refine congrArg (fun z : EReal => Ideal.div z (count 16 i1) - _) (run_sub 16 (by decide) _ i1)

/-- the pooled channels -/
theorem v79_eq (r : S4x2048x512.Idx → ℝ) (ha : a = fun i => (r i : EReal)) :
    val_main_v79 (F := Ideal) a = fun i => poolAt a (i 0) (i 2) (i 3) (i 1) := by
  funext i
  idx_vars i
  pointwise [val_main_v79, val_main_v78, val_main_v77, val_main_v76, val_main_v75, v20_eq a r ha, v38_eq a r ha, v56_eq a r ha, v74_eq a r ha]
  match i2 with
  | ⟨0, _⟩ => simp <;> rfl
  | ⟨1, _⟩ => simp <;> rfl
  | ⟨2, _⟩ => simp <;> rfl
  | ⟨3, _⟩ => simp <;> rfl

/-- the pooled channels through the groups' matrices -/
theorem v82_eq (r : S4x2048x512.Idx → ℝ) (ha : a = fun i => (r i : EReal)) :
    val_main_v82 (F := Ideal) a w = fun i => ∑ k : Fin 128, poolAt a (i 0) (grpOf (i 2)) k (i 1) * w (ix3 (grpOf (i 2)) k (inGrp (i 2))) := by
  funext i
  idx_vars i
  pointwise [val_main_v82, val_main_v81, val_main_v80, v79_eq a r ha]
  refine Finset.sum_congr rfl fun k _ => ?_
  rw [mul_comm]
  rfl

/-- the scales' gradient -/
theorem v91_eq (r : S4x2048x512.Idx → ℝ) (ha : a = fun i => (r i : EReal)) :
    val_main_v91 (F := Ideal) a w dy = fun i => ∑ b, dScale a w dy b (grpOf (i 0)) (inGrp (i 0)) := by
  funext i
  idx_vars i
  pointwise [val_main_v91, val_main_cst_15]
  rw [hostReduceAdd_lead]
  pointwise [val_main_v88, val_main_v87, val_main_cst_14]
  rw [hostReduceAdd_lead]
  pointwise [val_main_v86, v82_eq a w r ha]
  simp only [Fin.sum_univ_one]
  obtain ⟨g, l, rfl⟩ := chan_split i0
  rw [grpOf_chan, inGrp_chan]
  rfl

theorem v166_eq (r : S4x2048x512.Idx → ℝ) (ha : a = fun i => (r i : EReal)) :
    val_main_v166 (F := Ideal) a w dy = fun i => top (fun n => ∑ b, dScale a w dy b (grpOf n) (inGrp n)) (i 0) (i 1) := by
  funext i
  idx_vars i
  pointwise [val_main_v166, val_main_v165, val_main_call2_v0, val_main_c_28, v91_eq a w dy r ha]
  unfold top
  by_cases h : (i0 : ℕ) = 0
  · rw [dif_pos (by omega), if_pos h]
  · rw [dif_neg (by omega), if_neg h]
    show (((0#32 : BitVec 32).toInt : ℝ) : EReal) = 0
    norm_num

/-- the groups' matrices' gradient -/
theorem v97_eq (r : S4x2048x512.Idx → ℝ) (ha : a = fun i => (r i : EReal)) :
    val_main_v97 (F := Ideal) a s dy = fun i => ∑ b, dMat a s dy b (i 0) (i 1) (i 2) := by
  funext i
  idx_vars i
  pointwise [val_main_v97, val_main_v96, val_main_v93, val_main_v92, val_main_v90, val_main_v89, val_main_v83, v79_eq a r ha]
  exact Finset.sum_congr rfl fun b _ => Finset.sum_congr rfl fun t _ => mul_comm (_ : EReal) _

/-- the pooled channels' gradient -/
theorem v95_eq : val_main_v95 (F := Ideal) w s dy = fun i => dPoolAt w s dy (i 0) (i 2) (i 3) (i 1) := by
  funext i
  idx_vars i
  pointwise [val_main_v95, val_main_v94, val_main_v93, val_main_v92, val_main_v90, val_main_v89, val_main_v83]
  rfl

theorem v99_eq : val_main_v99 (F := Ideal) w s dy = fun i => dPoolAt w s dy (i 0) 0 (i 2) (i 1) := by
  funext i
  idx_vars i
  pointwise [val_main_v99, val_main_v98, v95_eq]

theorem v151_eq : val_main_v151 (F := Ideal) w s dy = fun i => Ideal.div (dPoolAt w s dy (i 0) 0 (i 2) (i 1)) (count 2 (i 1)) := by
  funext i
  idx_vars i
  pointwise [val_main_v151, val_main_v150, v99_eq, v14_eq]

theorem v156_eq : val_main_v156 (F := Ideal) w s dy = fun i => Ideal.div (dPoolAt w s dy (i 0) 0 (i 2) (i 1)) (count 2 (i 1))
    + ahead 2 (fun v => -Ideal.div (dPoolAt w s dy (i 0) 0 (i 2) v) (count 2 v)) (i 1) := by
  funext i
  idx_vars i
  pointwise [val_main_v156, val_main_v155, val_main_v154, val_main_v152, val_main_cst_26, v151_eq]
  exact congrArg (fun z : EReal => Ideal.div (dPoolAt w s dy i0 0 i2 i1) (count 2 i1) + z)
    (pad_ahead_lt 2 2046 rfl (fun v => -Ideal.div (dPoolAt w s dy i0 0 i2 v) (count 2 v)) i1)

theorem v101_eq : val_main_v101 (F := Ideal) w s dy = fun i => dPoolAt w s dy (i 0) 1 (i 2) (i 1) := by
  funext i
  idx_vars i
  pointwise [val_main_v101, val_main_v100, v95_eq]

theorem v137_eq : val_main_v137 (F := Ideal) w s dy = fun i => Ideal.div (dPoolAt w s dy (i 0) 1 (i 2) (i 1)) (count 4 (i 1)) := by
  funext i
  idx_vars i
  pointwise [val_main_v137, val_main_v136, v101_eq, v32_eq]

theorem v142_eq : val_main_v142 (F := Ideal) w s dy = fun i => Ideal.div (dPoolAt w s dy (i 0) 1 (i 2) (i 1)) (count 4 (i 1))
    + ahead 4 (fun v => -Ideal.div (dPoolAt w s dy (i 0) 1 (i 2) v) (count 4 v)) (i 1) := by
  funext i
  idx_vars i
  pointwise [val_main_v142, val_main_v141, val_main_v140, val_main_v138, val_main_cst_23, v137_eq]
  exact congrArg (fun z : EReal => Ideal.div (dPoolAt w s dy i0 1 i2 i1) (count 4 i1) + z)
    (pad_ahead_lt 4 2044 rfl (fun v => -Ideal.div (dPoolAt w s dy i0 1 i2 v) (count 4 v)) i1)

theorem v103_eq : val_main_v103 (F := Ideal) w s dy = fun i => dPoolAt w s dy (i 0) 2 (i 2) (i 1) := by
  funext i
  idx_vars i
  pointwise [val_main_v103, val_main_v102, v95_eq]

theorem v123_eq : val_main_v123 (F := Ideal) w s dy = fun i => Ideal.div (dPoolAt w s dy (i 0) 2 (i 2) (i 1)) (count 8 (i 1)) := by
  funext i
  idx_vars i
  pointwise [val_main_v123, val_main_v122, v103_eq, v50_eq]

theorem v128_eq : val_main_v128 (F := Ideal) w s dy = fun i => Ideal.div (dPoolAt w s dy (i 0) 2 (i 2) (i 1)) (count 8 (i 1))
    + ahead 8 (fun v => -Ideal.div (dPoolAt w s dy (i 0) 2 (i 2) v) (count 8 v)) (i 1) := by
  funext i
  idx_vars i
  pointwise [val_main_v128, val_main_v127, val_main_v126, val_main_v124, val_main_cst_20, v123_eq]
  exact congrArg (fun z : EReal => Ideal.div (dPoolAt w s dy i0 2 i2 i1) (count 8 i1) + z)
    (pad_ahead_lt 8 2040 rfl (fun v => -Ideal.div (dPoolAt w s dy i0 2 i2 v) (count 8 v)) i1)

theorem v105_eq : val_main_v105 (F := Ideal) w s dy = fun i => dPoolAt w s dy (i 0) 3 (i 2) (i 1) := by
  funext i
  idx_vars i
  pointwise [val_main_v105, val_main_v104, v95_eq]

theorem v110_eq : val_main_v110 (F := Ideal) w s dy = fun i => Ideal.div (dPoolAt w s dy (i 0) 3 (i 2) (i 1)) (count 16 (i 1)) := by
  funext i
  idx_vars i
  pointwise [val_main_v110, val_main_v109, v105_eq, v68_eq]

theorem v115_eq : val_main_v115 (F := Ideal) w s dy = fun i => Ideal.div (dPoolAt w s dy (i 0) 3 (i 2) (i 1)) (count 16 (i 1))
    + ahead 16 (fun v => -Ideal.div (dPoolAt w s dy (i 0) 3 (i 2) v) (count 16 v)) (i 1) := by
  funext i
  idx_vars i
  pointwise [val_main_v115, val_main_v114, val_main_v113, val_main_v111, val_main_cst_17, v110_eq]
  exact congrArg (fun z : EReal => Ideal.div (dPoolAt w s dy i0 3 i2 i1) (count 16 i1) + z)
    (pad_ahead_lt 16 2032 rfl (fun v => -Ideal.div (dPoolAt w s dy i0 3 i2 v) (count 16 v)) i1)

/-- minus the pooled channels' gradient, group by group -/
theorem v149_eq : val_main_v149 (F := Ideal) w s dy = fun i => -dPoolAt w s dy (i 0) (i 2) (i 3) (i 1) := by
  funext i
  idx_vars i
  pointwise [val_main_v149, val_main_v148, val_main_v147, val_main_v146, val_main_v135, val_main_v134, val_main_v133, val_main_v132, val_main_v121,
    val_main_v120, val_main_v119, val_main_v118, val_main_v108, val_main_v107, val_main_v106, val_main_cst_16, val_main_cst_19, val_main_cst_22, val_main_cst_25,
    v99_eq, v101_eq, v103_eq, v105_eq]
  match i2 with
  | ⟨0, _⟩ => simp <;> rfl
  | ⟨1, _⟩ => simp <;> rfl
  | ⟨2, _⟩ => simp <;> rfl
  | ⟨3, _⟩ => simp <;> rfl

/-- the differences of the running sums of the means' gradients -/
theorem v159_eq : val_main_v159 (F := Ideal) w s dy = fun i => Ideal.div (dPoolAt w s dy (i 0) (i 2) (i 3) (i 1)) (count (BitVec.ofNat 32 (wd (i 2))) (i 1))
    + ahead (wd (i 2)) (fun v => -Ideal.div (dPoolAt w s dy (i 0) (i 2) (i 3) v) (count (BitVec.ofNat 32 (wd (i 2))) v)) (i 1) := by
  funext i
  idx_vars i
  pointwise [val_main_v159, val_main_v158, val_main_v157, val_main_v145, val_main_v144, val_main_v143, val_main_v131, val_main_v130, val_main_v129,
    val_main_v117, val_main_v116, val_main_cst_27, val_main_cst_24, val_main_cst_21, val_main_cst_18,
    v156_eq, v142_eq, v128_eq, v115_eq]
  match i2 with
  | ⟨0, _⟩ => simp <;> rfl
  | ⟨1, _⟩ => simp <;> rfl
  | ⟨2, _⟩ => simp <;> rfl
  | ⟨3, _⟩ => simp <;> rfl

/-- the channels' gradient -/
theorem v161_eq (rq : Fin 4 → Fin 4 → Fin 128 → Fin 2048 → ℝ)
    (hq : ∀ b g k t, Ideal.div (dPoolAt w s dy b g k t) (count (BitVec.ofNat 32 (wd g)) t) = (rq b g k t : EReal)) :
    val_main_v161 (F := Ideal) w s dy = fun i => dChan w s dy (i 0) (i 2) (i 3) (i 1) := by
  funext i
  idx_vars i
  pointwise [val_main_v161, v149_eq]
  refine congrArg (fun z : EReal => -dPoolAt w s dy i0 i2 i3 i1 + z) ?_
  unfold val_main_v160
  refine (sum_rest _ _ i0 i1 i2 i3 _ _ ?_).trans ?_
  · pointwise [val_main_call1_call0_v0, val_main_call1_call0_cst]
  · have e : (fun v => val_main_v159 (F := Ideal) w s dy (ix4 i0 v i2 i3)) = fun v => (rq i0 i2 i3 v : EReal) + ahead (wd i2) (fun u => -(rq i0 i2 i3 u : EReal)) v := by
      funext v
      rw [v159_eq]
      show Ideal.div (dPoolAt w s dy i0 i2 i3 v) (count (BitVec.ofNat 32 (wd i2)) v)
        + ahead (wd i2) (fun v => -Ideal.div (dPoolAt w s dy i0 i2 i3 v) (count (BitVec.ofNat 32 (wd i2)) v)) v = _
      simp only [hq]
    rw [e]
    simp only [hq]
    exact rest_sub (wd i2) (wd_le i2) _ i1

theorem v164_eq (rq : Fin 4 → Fin 4 → Fin 128 → Fin 2048 → ℝ)
    (hq : ∀ b g k t, Ideal.div (dPoolAt w s dy b g k t) (count (BitVec.ofNat 32 (wd g)) t) = (rq b g k t : EReal)) :
    val_main_v164 (F := Ideal) w s dy = seqRows (fun b t n => dChan w s dy b (grpOf n) (inGrp n) t) := by
  funext i
  idx_vars i
  pointwise [val_main_v164, val_main_v163, val_main_v162, v161_eq w s dy rq hq]
  rfl

end Cert.PoolBwdRefIdeal.Value

end
-- ==== Proof.PoolEq.lean ====
module

public import proofs.«01_k».proof.Proof.PoolArrays
public import proofs.«01_k».proof.Proof.PoolRef
public import proofs.«01_k».proof.Proof.FiniteArg
public import proofs.«01_k».proof.Proof.Gen.Pre_finite_pool
public import proofs.«01_k».proof.Defs

/-! # The pooling mixer's gradient: the kernel's results are the reference's -/

@[expose] public section

noncomputable section

open Idealize.ShloMosaic Idealize.ShloMosaic.TcCoe Idealize.SL.Sem

namespace Cert.Proof
open Cert.PoolBwdIdeal.Value Cert.PoolBwdRefIdeal.Value Cert.Grad

theorem wd_bounds : ∀ g : Fin 4, 0 < wd g ∧ wd g < 4096 := by decide

/-- from finite arguments the means' gradients are reals -/
theorem pool_real (w : (⟨3, ![4, 128, 128]⟩ : Shape).Idx → ℝ) (s : (⟨1, ![512]⟩ : Shape).Idx → ℝ) (dy : (⟨3, ![4, 2048, 512]⟩ : Shape).Idx → ℝ)
    (b g : Fin 4) (k : Fin 128) (t : Fin 2048) :
    ∃ r : ℝ, Ideal.div (dPoolAt (fun i => (w i : EReal)) (fun i => (s i : EReal)) (fun i => (dy i : EReal)) b g k t) (count (BitVec.ofNat 32 (wd g)) t) = r := by
  have hd : ∃ r : ℝ, dPoolAt (fun i => (w i : EReal)) (fun i => (s i : EReal)) (fun i => (dy i : EReal)) b g k t = r :=
    real_sum _ _ fun l => ⟨dy (ix3 b t (chanOf g l)) * s (ix1 (chanOf g l)) * w (ix3 g k l), by push_cast; rfl⟩
  obtain ⟨x, hx⟩ := hd
  have hw := wd_bounds g
  obtain ⟨y, hy, hc⟩ := count_real (wd g) hw.1 hw.2 t
  rw [hx, hc]
  exact ⟨x * (1 / y), by rw [Ideal.div_coe hy]; push_cast; rfl⟩

/-- the two programs of the pooling mixer's gradient compute the same three arrays, from finite arguments -/
theorem pool : Cert.algebraic_PoolBwdIdeal_PoolBwdRefIdeal_pre_finite_pool := by
  intro m ρ m' ρ' hp ha
  refine ⟨fun c => (Cert.PoolBwdIdeal.Gen.dats m 0 c).arrAt 4 Cert.PoolBwdIdeal.cfg0.N, fun c => (Cert.PoolBwdIdeal.Gen.dats m 0 c).arrAt 5 Cert.PoolBwdIdeal.cfg0.N,
    fun c => (Cert.PoolBwdIdeal.Gen.dats m 0 c).arrAt 6 Cert.PoolBwdIdeal.cfg0.N,
    Cert.PoolBwdIdeal.Value.run_blocks m ρ, ?_⟩
  refine (θ_run _ _ _).mono (fun r hr c => ?_) (Cert.PoolBwdRefIdeal.Value.run m' ρ')
  obtain ⟨r0, r1, r2, k⟩ := hr c
  obtain ⟨a0, a1, a2, a3⟩ := ha c
  obtain ⟨p0, p1, p2, p3⟩ := hp c
  obtain ⟨x0, h0⟩ := real_of_finite _ _ p0
  obtain ⟨x1, h1⟩ := real_of_finite _ _ p1
  obtain ⟨x2, h2⟩ := real_of_finite _ _ p2
  obtain ⟨x3, h3⟩ := real_of_finite _ _ p3
  have hq := fun b g k t => pool_real x1 x2 x3 b g k t
  choose rq hq using hq
  rw [← h1, ← h2, ← h3] at hq
  open Cert.PoolBwdRefIdeal.Read in
  refine ⟨r0.trans ((val_main_v164_eq _).trans ?_), r1.trans ((val_main_v97_eq _).trans ?_),
    r2.trans ((val_main_v166_eq _).trans ?_), k⟩
  · show Cert.PoolBwdRefIdeal.Read.val_main_v164 (m' (c.tc.loc Cert.PoolBwdRefIdeal.main_arg1)) (m' (c.tc.loc Cert.PoolBwdRefIdeal.main_arg2)) (m' (c.tc.loc Cert.PoolBwdRefIdeal.main_arg3)) = _
    rw [a1, a2, a3]; exact ((final_da m c).trans (v164_eq _ _ _ rq hq).symm).symm
  · show Cert.PoolBwdRefIdeal.Read.val_main_v97 (m' (c.tc.loc Cert.PoolBwdRefIdeal.main_arg0)) (m' (c.tc.loc Cert.PoolBwdRefIdeal.main_arg2)) (m' (c.tc.loc Cert.PoolBwdRefIdeal.main_arg3)) = _
    rw [a0, a2, a3]; exact ((final_dw m c).trans (v97_eq _ _ _ x0 h0).symm).symm
  · show Cert.PoolBwdRefIdeal.Read.val_main_v166 (m' (c.tc.loc Cert.PoolBwdRefIdeal.main_arg0)) (m' (c.tc.loc Cert.PoolBwdRefIdeal.main_arg1)) (m' (c.tc.loc Cert.PoolBwdRefIdeal.main_arg3)) = _
    rw [a0, a1, a3]; exact ((final_ds m c).trans (v166_eq _ _ _ x0 h0).symm).symm

end Cert.Proof

end
-- ==== Proof.SguMath.lean ====
module

public import proofs.«01_k».proof.Proof.Slots
public import proofs.«01_k».proof.Proof.Shift

/-! # The spatial gating's gradient: the mathematics

A block of 128 rows is read by its entries.  The gelu and its derivative, the layer norm of a row and its gradient, and the
mixing of a block's rows by lower-triangular matrices, over the extended reals. -/

@[expose] public section

noncomputable section

namespace Cert.Grad.Sgu

open Idealize.ShloMosaic Idealize.SL.Sem

/-- a rounded constant of the programs -/
abbrev lit (w : BitVec 32) : EReal := FloatOps.ofBits (F := Ideal) .f32 w

/-- the hyperbolic tangent in the gelu -/
def th (x : EReal) : EReal := Ideal.tanh (lit 0x3F4C422A#32 * (x + lit 0x3D372713#32 * (x * (x * x))))
/-- the gelu's factor -/
def half (x : EReal) : EReal := lit 0x3F000000#32 * (1 + th x)
/-- the gelu -/
def gelu (x : EReal) : EReal := x * half x
/-- the tangent's derivative -/
def steep (x : EReal) : EReal := (1 + th x) * (1 - th x)
/-- the derivative through the tangent -/
def thru (g x : EReal) : EReal := lit 0x3F4C422A#32 * (lit 0x3F000000#32 * (x * g) * steep x)
/-- the gelu's gradient -/
def dgelu (g x : EReal) : EReal := g * half x + thru g x + lit 0x3D372713#32 * thru g x * (lit 0x40400000#32 * (x * x))

/-- a row of channels -/
abbrev Row := Fin 512 → EReal

/-- a row's activations without their mean -/
def cen (y : Row) (l : Fin 512) : EReal := gelu (y l) - Ideal.div (∑ j, gelu (y j)) (lit 0x44000000#32)
/-- a row's variance -/
def var (y : Row) : EReal := Ideal.div (∑ l, cen y l * cen y l) (lit 0x44000000#32) + lit 0x358637BD#32
/-- its inverse square root -/
def rs (y : Row) : EReal := Ideal.rsqrt (var y)
/-- the derivative of the root -/
def rsl (y : Row) : EReal := lit 0xBF000000#32 * Ideal.div (rs y) (var y)
/-- the normal row -/
def xh (y : Row) (l : Fin 512) : EReal := cen y l * rs y
/-- the layer norm -/
def vn (g b : Row) (y : Row) (l : Fin 512) : EReal := xh y l * g l + b l

/-- the norm's gradient: the variance's part -/
def dvar (g d y : Row) : EReal := Ideal.div ((∑ l, cen y l * (d l * g l)) * rsl y) (lit 0x44000000#32)
/-- the gradient of the row without its mean -/
def dcen (g d y : Row) (l : Fin 512) : EReal := d l * g l * rs y + cen y l * dvar g d y + dvar g d y * cen y l
/-- the gradient of the row's activations -/
def dact (g d y : Row) (l : Fin 512) : EReal := dcen g d y l + Ideal.div (∑ j, -dcen g d y j) (lit 0x44000000#32)
/-- the gradient of the row -/
def drow (g d y : Row) (l : Fin 512) : EReal := dgelu (dact g d y l) (y l)

/-- a block of 128 rows -/
abbrev Blk := Fin 128 → Row

/-- the heads' matrices -/
abbrev Mats := Fin 4 → Fin 128 → Fin 128 → EReal

/-- a head's matrix below the diagonal -/
def low (w : Mats) (h : Fin 4) (i j : Fin 128) : EReal := if j ≤ i then w h i j else 0

/-- the group of a channel -/
def grp (c : Fin 512) : Fin 4 := ⟨c.val / 128, by omega⟩

/-- its place in the group -/
def inn (c : Fin 512) : Fin 128 := ⟨c.val % 128, by omega⟩

theorem chan_grp (c : Fin 512) : chanOf (grp c) (inn c) = c := Fin.ext (by show c.val / 128 * 128 + c.val % 128 = c.val; omega)

/-- four groups of channels side by side -/
theorem pieces (M : Fin 512 → EReal) (c : Fin 512) : (if h : c.val < 128 then M (chanOf 0 ⟨c.val, h⟩)
    else if h : c.val - 128 < 128 then M (chanOf 1 ⟨c.val - 128, h⟩)
    else if h : c.val - 128 - 128 < 128 then M (chanOf 2 ⟨c.val - 128 - 128, h⟩)
    else M (chanOf 3 ⟨c.val - 128 - 128 - 128, by omega⟩)) = M c := by
  split_ifs
  all_goals refine congrArg M (Fin.ext ?_)
  · show 0 * 128 + c.val = c.val; omega
  · show 1 * 128 + (c.val - 128) = c.val; omega
  · show 2 * 128 + (c.val - 128 - 128) = c.val; omega
  · show 3 * 128 + (c.val - 128 - 128 - 128) = c.val; omega

/-- four groups of channels, each with zeros for the others, added up -/
theorem padded (M : Fin 512 → EReal) (c : Fin 512) : (((if h : c.val < 384 then 0 else M (chanOf 3 ⟨c.val - 384, by omega⟩))
    + if h : c.val < 384 then if h : c.val < 256 then 0 else M (chanOf 2 ⟨c.val - 256, by omega⟩) else 0)
    + if h : c.val < 256 then if h : c.val < 128 then 0 else M (chanOf 1 ⟨c.val - 128, by omega⟩) else 0)
    + (if h : c.val < 128 then M (chanOf 0 ⟨c.val, h⟩) else 0) = M c := by
  by_cases h0 : c.val < 128
  · rw [dif_pos (by omega), dif_pos (by omega), dif_pos (by omega), dif_pos (by omega), dif_pos h0, dif_pos h0, zero_add, zero_add, zero_add]
    exact congrArg M (Fin.ext (by show 0 * 128 + c.val = c.val; omega))
  · by_cases h1 : c.val < 256
    · rw [dif_pos (by omega), dif_pos (by omega), dif_pos h1, dif_pos h1, dif_neg h0, dif_neg h0, add_zero, zero_add, zero_add]
      exact congrArg M (Fin.ext (by show 1 * 128 + (c.val - 128) = c.val; omega))
    · by_cases h2 : c.val < 384
      · rw [dif_pos h2, dif_pos h2, dif_neg h1, dif_neg h1, dif_neg h0, add_zero, add_zero, zero_add]
        exact congrArg M (Fin.ext (by show 2 * 128 + (c.val - 256) = c.val; omega))
      · rw [dif_neg h2, dif_neg h2, dif_neg h1, dif_neg h0, add_zero, add_zero, add_zero]
        exact congrArg M (Fin.ext (by show 3 * 128 + (c.val - 384) = c.val; omega))

/-- four heads' values, each with zeros for the others, added up -/
theorem heads (M : Fin 4 → EReal) : ∀ h : Fin 4, (((if h.val < 3 then 0 else M 3) + if h.val < 3 then if h.val < 2 then 0 else M 2 else 0)
    + if h.val < 2 then if h.val < 1 then 0 else M 1 else 0) + (if h.val < 1 then M 0 else 0) = M h :=
  four (by simp) (by simp) (by simp) (by simp)

/-- the comparison of two rows' numbers -/
theorem sge_rows (i j : Fin 128) : IntOp.cmpi .sge (BitVec.ofNat 32 i.val) (BitVec.ofNat 32 j.val) = if j ≤ i then 1#1 else 0#1 := by
  have hi := i.isLt
  have hj := j.isLt
  simp only [IntOp.cmpi, BitVec.sle, toInt_ofNat_small i.val (by omega), toInt_ofNat_small j.val (by omega)]
  by_cases h : j ≤ i
  · rw [if_pos h, decide_eq_true (by exact_mod_cast h)]; rfl
  · rw [if_neg h, decide_eq_false (by exact_mod_cast h)]; rfl

/-- a choice by that comparison -/
theorem pick_low (i j : Fin 128) (x : EReal) :
    Scalar.select (IntOp.cmpi .sge (BitVec.ofNat 32 i.val) (BitVec.ofNat 32 j.val)) x 0 = if j ≤ i then x else 0 := by
  rw [sge_rows]
  by_cases h : j ≤ i
  · rw [if_pos h, if_pos h]; rfl
  · rw [if_neg h, if_neg h]; rfl

/-- the mixed rows -/
def mixed (g b : Row) (w : Mats) (bias : Fin 4 → Fin 128 → EReal) (V : Blk) (i : Fin 128) (c : Fin 512) : EReal :=
  (∑ j, low w (grp c) i j * vn g b (V j) c) + bias (grp c) i
/-- the cotangent of the mixed rows -/
def dm (U D : Blk) (i : Fin 128) (c : Fin 512) : EReal := gelu (U i c) * D i c
/-- the cotangent of the normed rows -/
def dn (w : Mats) (U D : Blk) (j : Fin 128) (c : Fin 512) : EReal := ∑ i, low w (grp c) i j * dm U D i c

/-- the gradient of the gate's rows -/
def dU (g b : Row) (w : Mats) (bias : Fin 4 → Fin 128 → EReal) (U V D : Blk) (i : Fin 128) (c : Fin 512) : EReal :=
  dgelu (D i c * mixed g b w bias V i c) (U i c)
/-- the gradient of the mixed rows' source -/
def dV (g : Row) (w : Mats) (U V D : Blk) (i : Fin 128) (c : Fin 512) : EReal := drow g (dn w U D i) (V i) c
/-- a block's part of the gain's gradient -/
def pg (w : Mats) (U V D : Blk) (c : Fin 512) (i : Fin 128) : EReal := xh (V i) c * dn w U D i c
/-- a block's part of a matrix's gradient -/
def pw (g b : Row) (U V D : Blk) (h : Fin 4) (i j : Fin 128) : EReal := ∑ l : Fin 128, dm U D i (chanOf h l) * vn g b (V j) (chanOf h l)
/-- a block's part of a bias's gradient -/
def pb (U D : Blk) (h : Fin 4) (i : Fin 128) : EReal := ∑ l : Fin 128, dm U D i (chanOf h l)

theorem grp_chan (h : Fin 4) (l : Fin 128) : grp (chanOf h l) = h := Fin.ext (by show (h.val * 128 + l.val) / 128 = h.val; omega)

theorem inn_chan (h : Fin 4) (l : Fin 128) : inn (chanOf h l) = l := Fin.ext (by show (h.val * 128 + l.val) % 128 = l.val; omega)

theorem mixed_chan (g b : Row) (w : Mats) (bias : Fin 4 → Fin 128 → EReal) (V : Blk) (i : Fin 128) (h : Fin 4) (l : Fin 128) :
    mixed g b w bias V i (chanOf h l) = (∑ j, low w h i j * vn g b (V j) (chanOf h l)) + bias h i := by
  unfold mixed
  rw [grp_chan]

theorem dn_chan (w : Mats) (U D : Blk) (j : Fin 128) (h : Fin 4) (l : Fin 128) :
    dn w U D j (chanOf h l) = ∑ i, low w h i j * dm U D i (chanOf h l) := by
  unfold dn
  rw [grp_chan]

end Cert.Grad.Sgu

end
-- ==== Proof.SguPoint.lean ====
module

public import proofs.«01_k».proof.Proof.SguMath
public import proofs.«01_k».proof.Proof.LeadSum
public import proofs.«01_k».proof.Proof.Gen.SguBwdIdeal.Skeleton

/-! # The block arithmetic of the spatial gating's gradient -/

@[expose] public section

noncomputable section

open Idealize.ShloMosaic Idealize.ShloMosaic.TcCoe Idealize.SL.Sem

namespace Cert.SguBwdIdeal.Value
open Cert.SguBwdIdeal Cert.SguBwdIdeal.Gen Cert.Grad Cert.Grad.Sgu

/-- four blocks of 128 rows -/
abbrev Tile := Vec Ideal S512x512 .f32
/-- a row of a tile -/
abbrev row (x : Tile) (r : Fin 512) : Row := fun l => x (ix2 r l)
/-- block `n` of a tile -/
abbrev blkAt (x : Tile) (n : Fin 4) : Blk := fun i => row x (chanOf n i)
/-- the rows' numbers -/
abbrev rowNo : IVec S128x128 32 := iota .tc S128x128 32 [0] iota_S128x128_d0_w32
/-- the columns' numbers -/
abbrev colNo : IVec S128x128 32 := iota .tc S128x128 32 [1] iota_S128x128_d1_w32
/-- a gain or a shift -/
abbrev lane (g : Vec Ideal S1x512 .f32) : Row := fun l => g (ix2 0 l)
/-- the heads' matrices -/
abbrev mats (w : Vec Ideal S4x128x128 .f32) : Mats := fun h i j => w (ix3 h i j)
/-- the heads' biases -/
abbrev biases (a : Vec Ideal S4x128x1 .f32) : Fin 4 → Fin 128 → EReal := fun h i => a (ix3 h i 0)

variable (x y d : Tile) (g b : Vec Ideal S1x512 .f32) (w : Vec Ideal S4x128x128 .f32) (a : Vec Ideal S4x128x1 .f32)

theorem chan_zero (l : Fin 128) : (⟨l.val, by omega⟩ : Fin 512) = chanOf 0 l := Fin.ext (by show l.val = 0 * 128 + l.val; omega)

/-- the blocks as they are loaded -/
theorem load_at : k0_pay6 y = y ∧ k0_pay7 g = g ∧ k0_pay8 b = b ∧ k0_pay9 a = a := by
  refine ⟨?_, ?_, ?_, ?_⟩
  · funext i; idx_vars i; pointwise [k0_pay6]
  · funext i; idx_vars i; pointwise [k0_pay7]
  · funext i; idx_vars i; pointwise [k0_pay8]
  · funext i; idx_vars i; pointwise [k0_pay9]

theorem sq3_at (r l : Fin 512) : k0_pay10 (F := Ideal) x (ix2 r l) = lit 0x40400000#32 * (x (ix2 r l) * x (ix2 r l)) := by pointwise [k0_pay10, k0_pay5]
theorem th_at (r l : Fin 512) : k0_pay11 (F := Ideal) x (ix2 r l) = th (x (ix2 r l)) := by pointwise [k0_pay11, k0_pay5]; rfl
theorem steep_at (r l : Fin 512) : k0_pay12 (F := Ideal) x (ix2 r l) = steep (x (ix2 r l)) := by pointwise [k0_pay12, th_at]; rfl
theorem half_at (r l : Fin 512) : k0_pay13 (F := Ideal) x (ix2 r l) = half (x (ix2 r l)) := by pointwise [k0_pay13, th_at]; rfl
theorem gelu_at (r l : Fin 512) : k0_pay14 (F := Ideal) x (ix2 r l) = gelu (x (ix2 r l)) := by pointwise [k0_pay14, half_at, k0_pay5]; rfl

theorem vth_at (r l : Fin 512) : k0_pay17 (F := Ideal) y (k0_pay15 y) (ix2 r l) = th (y (ix2 r l)) := by pointwise [k0_pay17, k0_pay15, k0_pay6]; rfl
theorem vsq3_at (r l : Fin 512) : k0_pay16 (F := Ideal) y (ix2 r l) = lit 0x40400000#32 * (y (ix2 r l) * y (ix2 r l)) := by pointwise [k0_pay16, k0_pay6]
theorem vsteep_at (r l : Fin 512) : k0_pay18 (F := Ideal) y (k0_pay15 y) (ix2 r l) = steep (y (ix2 r l)) := by pointwise [k0_pay18, vth_at]; rfl
theorem vhalf_at (r l : Fin 512) : k0_pay19 (F := Ideal) y (k0_pay15 y) (ix2 r l) = half (y (ix2 r l)) := by pointwise [k0_pay19, vth_at]; rfl
theorem cen_at (r l : Fin 512) : k0_pay20 (F := Ideal) y (k0_pay15 y) (ix2 r l) = cen (row y r) l := by pointwise [k0_pay20, vhalf_at, k0_pay6]; rfl
theorem var_at (r : Fin 512) (o : Fin 1) : k0_pay21 (F := Ideal) y (k0_pay15 y) (ix2 r o) = var (row y r) := by pointwise [k0_pay21, cen_at]; rfl
theorem rs_at (r : Fin 512) (o : Fin 1) : k0_pay22 (F := Ideal) y (k0_pay15 y) (ix2 r o) = rs (row y r) := by pointwise [k0_pay22, var_at]; rfl
theorem rsl_at (r : Fin 512) (o : Fin 1) : k0_pay23 (F := Ideal) y (k0_pay15 y) (ix2 r o) = rsl (row y r) := by pointwise [k0_pay23, rs_at, var_at]; rfl
theorem xh_at (r l : Fin 512) : k0_pay24 (F := Ideal) y (k0_pay15 y) (ix2 r l) = xh (row y r) l := by pointwise [k0_pay24, rs_at, cen_at]; rfl

/-- the normed rows -/
abbrev normed : FVec Ideal S512x512 .f32 := k0_pay25 y g b (k0_pay15 y)
theorem vn_at (r l : Fin 512) : normed y g b (ix2 r l) = vn (lane g) (lane b) (row y r) l := by
  pointwise [normed, k0_pay25, xh_at, k0_pay7, k0_pay8]; rfl

theorem src0_at (n : Fin 4) (i l : Fin 128) : k0_pay26 (F := Ideal) y g b (k0_pay15 y) (ix3 n i l) = vn (lane g) (lane b) (blkAt y n i) (chanOf 0 l) := by
  pointwise [k0_pay26]; refine (vn_at y g b _ _).trans ?_; exact congrArg (vn _ _ _) (chan_zero l)
theorem src1_at (n : Fin 4) (i l : Fin 128) : k0_pay32 (F := Ideal) (normed y g b) (ix3 n i l) = vn (lane g) (lane b) (blkAt y n i) (chanOf 1 l) := by
  pointwise [k0_pay32]; refine (vn_at y g b _ _).trans ?_; rfl
theorem src2_at (n : Fin 4) (i l : Fin 128) : k0_pay36 (F := Ideal) (normed y g b) (ix3 n i l) = vn (lane g) (lane b) (blkAt y n i) (chanOf 2 l) := by
  pointwise [k0_pay36]; refine (vn_at y g b _ _).trans ?_; rfl
theorem src3_at (n : Fin 4) (i l : Fin 128) : k0_pay40 (F := Ideal) (normed y g b) (ix3 n i l) = vn (lane g) (lane b) (blkAt y n i) (chanOf 3 l) := by
  pointwise [k0_pay40]; refine (vn_at y g b _ _).trans ?_; rfl

theorem dm0_at (n : Fin 4) (i l : Fin 128) : k0_pay62 (F := Ideal) (k0_pay47 (k0_pay14 x) d) (ix3 n i l) = dm (blkAt x n) (blkAt d n) i (chanOf 0 l) := by
  pointwise [k0_pay62, k0_pay47, k0_pay45, k0_pay44, gelu_at];
  exact congrArg (dm (blkAt x n) (blkAt d n) i) (chan_zero l)
theorem dm1_at (n : Fin 4) (i l : Fin 128) : k0_pay58 (F := Ideal) (k0_pay48 (k0_pay14 x) d) (ix3 n i l) = dm (blkAt x n) (blkAt d n) i (chanOf 1 l) := by
  pointwise [k0_pay58, k0_pay48, k0_pay45, k0_pay44, gelu_at]; rfl
theorem dm2_at (n : Fin 4) (i l : Fin 128) : k0_pay54 (F := Ideal) (k0_pay49 (k0_pay14 x) d) (ix3 n i l) = dm (blkAt x n) (blkAt d n) i (chanOf 2 l) := by
  pointwise [k0_pay54, k0_pay49, k0_pay45, k0_pay44, gelu_at]; rfl
theorem dm3_at (n : Fin 4) (i l : Fin 128) : k0_pay50 (F := Ideal) (k0_pay14 x) d (ix3 n i l) = dm (blkAt x n) (blkAt d n) i (chanOf 3 l) := by
  pointwise [k0_pay50, k0_pay45, k0_pay44, gelu_at]; rfl

theorem low0_at (n : Fin 4) (i j : Fin 128) : k0_pay30 (F := Ideal) k0_pay27 (k0_pay28 w) k0_pay29 (ix3 n i j) = low (mats w) 0 i j := by
  pointwise [k0_pay30, k0_pay27, k0_pay28, k0_pay29]; exact pick_low _ _ _
theorem low1_at (n : Fin 4) (i j : Fin 128) : k0_pay34 (F := Ideal) w rowNo colNo (ix3 n i j) = low (mats w) 1 i j := by
  pointwise [k0_pay34, k0_pay33]; exact pick_low _ _ _
theorem low2_at (n : Fin 4) (i j : Fin 128) : k0_pay38 (F := Ideal) w rowNo colNo (ix3 n i j) = low (mats w) 2 i j := by
  pointwise [k0_pay38, k0_pay37]; exact pick_low _ _ _
theorem low3_at (n : Fin 4) (i j : Fin 128) : k0_pay43 (F := Ideal) (k0_pay41 rowNo colNo) (k0_pay42 w) (ix3 n i j) = low (mats w) 3 i j := by
  pointwise [k0_pay43, k0_pay41, k0_pay42]; exact pick_low _ _ _

/-- the mixed rows of one head -/
abbrev mixedAt (r : Fin 512) (c : Fin 512) : EReal := mixed (lane g) (lane b) (mats w) (biases a) (blkAt y (grp r)) (inn r) c

theorem mix0_at (r : Fin 512) (l : Fin 128) : k0_pay31 (F := Ideal) a (k0_pay26 y g b (k0_pay15 y)) k0_pay27 (k0_pay28 w) k0_pay29 (ix2 r l)
    = mixedAt y g b w a r (chanOf 0 l) := by
  pointwise [k0_pay31, low0_at, src0_at, k0_pay9]
  exact (mixed_chan (lane g) (lane b) (mats w) (biases a) _ _ _ _).symm
theorem mix1_at (r : Fin 512) (l : Fin 128) : k0_pay35 (F := Ideal) w a (normed y g b) rowNo colNo (ix2 r l) = mixedAt y g b w a r (chanOf 1 l) := by
  pointwise [k0_pay35, low1_at, src1_at, k0_pay9]
  exact (mixed_chan (lane g) (lane b) (mats w) (biases a) _ _ _ _).symm
theorem mix2_at (r : Fin 512) (l : Fin 128) : k0_pay39 (F := Ideal) w a (normed y g b) rowNo colNo (ix2 r l) = mixedAt y g b w a r (chanOf 2 l) := by
  pointwise [k0_pay39, low2_at, src2_at, k0_pay9]
  exact (mixed_chan (lane g) (lane b) (mats w) (biases a) _ _ _ _).symm
theorem gate_at (r : Fin 512) (c : Fin 512) : k0_pay46 (F := Ideal) a (k0_pay31 a (k0_pay26 y g b (k0_pay15 y)) k0_pay27 (k0_pay28 w) k0_pay29)
    (k0_pay35 w a (normed y g b) rowNo colNo) (k0_pay39 w a (normed y g b) rowNo colNo) (k0_pay40 (normed y g b)) (k0_pay41 rowNo colNo) (k0_pay42 w) d (ix2 r c)
    = d (ix2 r c) * mixedAt y g b w a r c := by
  pointwise [k0_pay46, mix0_at, mix1_at, mix2_at, low3_at, src3_at, k0_pay9, k0_pay44]
  refine congrArg (d (ix2 r c) * ·) (Eq.trans ?_ (pieces (mixedAt y g b w a r) c))
  simp only [mixed_chan]
  rfl

/-- the normed rows' cotangent, head by head -/
abbrev dnAll : FVec Ideal S512x512 .f32 := k0_pay61 (k0_pay34 w rowNo colNo)
  (k0_pay57 (k0_pay38 w rowNo colNo) (k0_pay49 (k0_pay14 x) d) (k0_pay53 (k0_pay14 x) (k0_pay41 rowNo colNo) (k0_pay42 w) d)) (k0_pay58 (k0_pay48 (k0_pay14 x) d))
/-- the first head's -/
abbrev dnHead : FVec Ideal S4x128x128 .f32 := k0_pay64 (k0_pay30 k0_pay27 (k0_pay28 w) k0_pay29) (k0_pay47 (k0_pay14 x) d)

/-- the normed rows' cotangent of one row -/
abbrev dnAt (r : Fin 512) (c : Fin 512) : EReal := dn (mats w) (blkAt x (grp r)) (blkAt d (grp r)) (inn r) c

theorem dn_at (r c : Fin 512) : k0_pay67 (F := Ideal) (dnAll x d w) (dnHead x d w) (ix2 r c) = dnAt x d w r c := by
  pointwise [k0_pay67, dnAll, dnHead, k0_pay61, k0_pay64, k0_pay57, k0_pay53, low0_at, low1_at, low2_at, low3_at, dm0_at, dm1_at, dm2_at, dm3_at]
  refine Eq.trans ?_ (padded (dnAt x d w r) c)
  simp only [dn_chan]
  rfl

theorem db_at (h : Fin 4) (i : Fin 128) (o : Fin 1) : k0_pay63 (F := Ideal) (k0_pay47 (k0_pay14 x) d) (k0_pay55 (k0_pay49 (k0_pay14 x) d) (k0_pay51 (k0_pay14 x) d)) (k0_pay59 (k0_pay48 (k0_pay14 x) d)) (ix3 h i o)
    = ∑ n, pb (blkAt x n) (blkAt d n) h i := by
  pointwise [k0_pay63, k0_pay55, k0_pay51, k0_pay59, dm0_at, dm1_at, dm2_at, dm3_at]
  simp only [reduceAdd_ends]
  pointwise [dm0_at, dm1_at, dm2_at, dm3_at]
  simp only [reduceAdd_ends, Fin.sum_univ_one]
  refine Eq.trans ?_ (heads (fun h => ∑ n, pb (blkAt x n) (blkAt d n) h i) h)
  simp only [dm0_at, dm1_at, dm2_at, dm3_at, dite_eq_ite]
  rfl

theorem dw_at (h : Fin 4) (i j : Fin 128) : k0_pay66 (F := Ideal) (k0_pay60 (k0_pay32 (normed y g b)) (k0_pay33 rowNo colNo) (k0_pay56 (k0_pay36 (normed y g b)) (k0_pay37 rowNo colNo) (k0_pay49 (k0_pay14 x) d)
    (k0_pay52 (k0_pay14 x) (k0_pay40 (normed y g b)) (k0_pay41 rowNo colNo) d)) (k0_pay58 (k0_pay48 (k0_pay14 x) d))) (k0_pay65 (k0_pay26 y g b (k0_pay15 y)) k0_pay27 (k0_pay47 (k0_pay14 x) d)) (ix3 h i j)
    = if j ≤ i then ∑ n, pw (lane g) (lane b) (blkAt x n) (blkAt y n) (blkAt d n) h i j else 0 := by
  pointwise [k0_pay66, k0_pay60, k0_pay56, k0_pay52, k0_pay65, k0_pay33, k0_pay37, k0_pay41, k0_pay27, src0_at, src1_at, src2_at, src3_at, dm0_at, dm1_at, dm2_at, dm3_at]
  refine Eq.trans ?_ (heads (fun h => if j ≤ i then ∑ n, pw (lane g) (lane b) (blkAt x n) (blkAt y n) (blkAt d n) h i j else 0) h)
  simp only [pick_low, dite_eq_ite, Finset.sum_const, Finset.card_univ, Fintype.card_fin, one_smul]
  rfl

/-- the gate's gradient -/
theorem du_at (z : FVec Ideal S512x512 .f32) (r c : Fin 512) : k0_pay73 (F := Ideal) (k0_pay5 x) (k0_pay10 x) (k0_pay12 x) (k0_pay13 x) z (ix2 r c) = dgelu (z (ix2 r c)) (x (ix2 r c)) := by
  pointwise [k0_pay73, sq3_at, steep_at, half_at, k0_pay5]
  rfl

variable (z : FVec Ideal S512x512 .f32) (e : FVec Ideal S4x128x128 .f32) (q : Row)

theorem dact_at (r : Fin 512) (hq : ∀ c, k0_pay67 (F := Ideal) z e (ix2 r c) = q c) (c : Fin 512) :
    k0_pay70 (F := Ideal) g (k0_pay20 y (k0_pay15 y)) (k0_pay22 y (k0_pay15 y)) (k0_pay23 y (k0_pay15 y)) z e (ix2 r c) = dact (lane g) q (row y r) c := by
  pointwise [k0_pay70, hq, cen_at, rs_at, rsl_at]
  simp only [Finset.sum_const, Finset.card_univ, Fintype.card_fin, one_smul, zero_sub]
  rfl

theorem thru_at (r : Fin 512) (hq : ∀ c, k0_pay67 (F := Ideal) z e (ix2 r c) = q c) (c : Fin 512) :
    k0_pay71 (F := Ideal) y g (k0_pay18 y (k0_pay15 y)) (k0_pay20 y (k0_pay15 y)) (k0_pay22 y (k0_pay15 y)) (k0_pay23 y (k0_pay15 y)) z e (ix2 r c) = thru (dact (lane g) q (row y r) c) (y (ix2 r c)) := by
  pointwise [k0_pay71, dact_at y g z e q r hq, vsteep_at]
  rfl

theorem dv_at (r : Fin 512) (hq : ∀ c, k0_pay67 (F := Ideal) z e (ix2 r c) = q c) (c : Fin 512) :
    k0_pay74 (F := Ideal) (k0_pay16 y) (k0_pay71 y g (k0_pay18 y (k0_pay15 y)) (k0_pay20 y (k0_pay15 y)) (k0_pay22 y (k0_pay15 y)) (k0_pay23 y (k0_pay15 y)) z e)
      (k0_pay72 y g (k0_pay18 y (k0_pay15 y)) (k0_pay19 y (k0_pay15 y)) (k0_pay20 y (k0_pay15 y)) (k0_pay22 y (k0_pay15 y)) (k0_pay23 y (k0_pay15 y)) z e) (ix2 r c) = drow (lane g) q (row y r) c := by
  pointwise [k0_pay74, k0_pay72, thru_at y g z e q r hq, dact_at y g z e q r hq, vsq3_at, vhalf_at]
  rfl

theorem sumb_at (c : Fin 512) : k0_pay68 (F := Ideal) z e (ix2 0 c) = ∑ r, k0_pay67 (F := Ideal) z e (ix2 r c) := by
  pointwise [k0_pay68]
theorem sumg_at (c : Fin 512) : k0_pay69 (F := Ideal) (k0_pay24 y (k0_pay15 y)) z e (ix2 0 c) = ∑ r, xh (row y r) c * k0_pay67 (F := Ideal) z e (ix2 r c) := by
  pointwise [k0_pay69, xh_at]

end Cert.SguBwdIdeal.Value

end
-- ==== Proof.SguBlocks.lean ====
module

public import proofs.«01_k».proof.Proof.SguMath

/-! # The blocks of 128 rows of an array, and sums over all of them -/

@[expose] public section

noncomputable section

open Idealize.ShloMosaic

namespace Cert.Grad.Sgu

abbrev Arr := (⟨3, ![4, 2048, 512]⟩ : Shape).Idx → EReal

/-- row `i` of block `k` of a sequence -/
abbrev tOf (k : Fin 16) (i : Fin 128) : Fin 2048 := ⟨k.val * 128 + i.val, by omega⟩
/-- the block of a row -/
abbrev kOf (t : Fin 2048) : Fin 16 := ⟨t.val / 128, by omega⟩
/-- its number there -/
abbrev iOf (t : Fin 2048) : Fin 128 := ⟨t.val % 128, by omega⟩

/-- block `k` of sequence `b` -/
def blkOf (x : Arr) (b : Fin 4) (k : Fin 16) : Blk := fun i l => x (ix3 b (tOf k i) l)

/-- sums over a tile's rows are sums over its blocks' rows -/
theorem sum_tile (f : Fin 512 → EReal) : ∑ r, f r = ∑ n : Fin 4, ∑ i : Fin 128, f (chanOf n i) := by
  rw [← Fintype.sum_prod_type', ← Equiv.sum_comp (finProdFinEquiv : Fin 4 × Fin 128 ≃ Fin (4 * 128))]
  refine Finset.sum_congr rfl fun q _ => congrArg f (Fin.ext ?_)
  show q.2.val + 128 * q.1.val = q.1.val * 128 + q.2.val
  omega

/-- sums over the points' blocks are sums over the sequences' blocks -/
theorem sum_blocks {N : ℕ} (hN : N = 16) (f : Fin 4 → Fin 16 → EReal) :
    ∑ p : Fin N, ∑ n : Fin 4, f ⟨p.val / 4, by omega⟩ ⟨p.val % 4 * 4 + n.val, by omega⟩ = ∑ b, ∑ k, f b k := by
  refine Fin.sum_points_lanes_congr 4 (hN := by omega) (hL := by norm_num) fun p r ha hl => congrArg₂ f (Fin.ext ?_) (Fin.ext ?_)
  · rfl
  · rfl

end Cert.Grad.Sgu

end
-- ==== Proof.SguArrays.lean ====
module

public import proofs.«01_k».proof.Proof.SguPoint
public import proofs.«01_k».proof.Proof.SguBlocks
public import proofs.«01_k».proof.Proof.Gen.SguBwdIdeal.Value
public import Idealize.ShloMosaic.Lib.StableHlo.ReadAt

/-! # The result arrays of the spatial gating's gradient

Point `p` works on 512 rows of one sequence: rows from `512 * (p % 4)` on, sequence `p / 4`. -/

@[expose] public section

noncomputable section

open Idealize.ShloMosaic Idealize.ShloMosaic.TcCoe Idealize.SL.Sem

namespace Cert.SguBwdIdeal.Value
open Cert.SguBwdIdeal Cert.SguBwdIdeal.Gen Cert.Grad Cert.Grad.Sgu

/-- every window's block index at every point -/
theorem idx : ∀ t : Fin cfg0.N, win0_0.index t = ![t.val, 0] ∧ win0_1.index t = ![t.val, 0] ∧ win0_2.index t = ![0, 0]
    ∧ win0_3.index t = ![0, 0] ∧ win0_4.index t = ![0, 0, 0] ∧ win0_5.index t = ![0, 0, 0] ∧ win0_6.index t = ![t.val, 0]
    ∧ win0_7.index t = ![t.val, 0] ∧ win0_8.index t = ![t.val, 0] ∧ win0_9.index t = ![0, 0] ∧ win0_10.index t = ![0, 0]
    ∧ win0_11.index t = ![0, 0, 0] ∧ win0_12.index t = ![0, 0, 0] :=
  (by decide +kernel : ∀ t : Fin grid0.N, _)

/-- sixteen points -/
theorem lt16 (p : Fin cfg0.N) : p.val < 16 := lt_of_lt_of_eq p.isLt N_0

variable (m : (ℓ : Loc nD τ sig) → Buf (Elt Ideal) ℓ) (c : Dev nD)

abbrev argU : S4x2048x512.Idx → EReal := m ((c : Thread nD τ).loc main_arg0)
abbrev argV : S4x2048x512.Idx → EReal := m ((c : Thread nD τ).loc main_arg1)
abbrev argG : S512.Idx → EReal := m ((c : Thread nD τ).loc main_arg2)
abbrev argB : S512.Idx → EReal := m ((c : Thread nD τ).loc main_arg3)
abbrev argW : S4x128x128.Idx → EReal := m ((c : Thread nD τ).loc main_arg4)
abbrev argA : S4x128.Idx → EReal := m ((c : Thread nD τ).loc main_arg5)
abbrev argD : S4x2048x512.Idx → EReal := m ((c : Thread nD τ).loc main_arg6)

/-- the sequence of point `p` -/
abbrev bOf (p : Fin cfg0.N) : Fin 4 := ⟨p.val / 4, by have := lt16 p; omega⟩
/-- row `r` of point `p` -/
abbrev rOf (p : Fin cfg0.N) (r : Fin 512) : Fin 2048 := ⟨p.val % 4 * 512 + r.val, by omega⟩

/-- the rows of point `p` of an array -/
def tileOf (x : S4x2048x512.Idx → EReal) (p : Fin cfg0.N) (i : S512x512.Idx) : EReal := x (ix3 (bOf p) (rOf p (i 0)) (i 1))

theorem blk_u (p : Fin cfg0.N) : iblk m c 0 p = tileOf (argU m c) p := by
  funext i
  unfold tileOf
  blk_simp [iblk]
  unfold_abbrev_sides
  simp only [hostOps0, List.flatten_singleton]
  after_reads_at
  blk_ext [idx p]

theorem blk_v (p : Fin cfg0.N) : iblk m c 1 p = tileOf (argV m c) p := by
  funext i
  unfold tileOf
  blk_simp [iblk]
  unfold_abbrev_sides
  simp only [hostOps0, List.flatten_singleton]
  after_reads_at
  blk_ext [idx p]

theorem blk_g (p : Fin cfg0.N) : iblk m c 2 p = fun i : S1x512.Idx => argG m c (ix1 (i 1)) := by
  funext i
  blk_simp [iblk]
  unfold_abbrev_sides
  simp only [hostOps0, List.flatten_singleton]
  after_reads_at
  blk_ext [idx p]

theorem blk_b (p : Fin cfg0.N) : iblk m c 3 p = fun i : S1x512.Idx => argB m c (ix1 (i 1)) := by
  funext i
  blk_simp [iblk]
  unfold_abbrev_sides
  simp only [hostOps0, List.flatten_singleton]
  after_reads_at
  blk_ext [idx p]

theorem blk_w (p : Fin cfg0.N) : iblk m c 4 p = argW m c := by
  funext i
  blk_simp [iblk]
  unfold_abbrev_sides
  simp only [hostOps0, List.flatten_singleton]
  after_reads_at
  blk_ext [idx p]

theorem blk_a (p : Fin cfg0.N) : iblk m c 5 p = fun i : S4x128x1.Idx => argA m c (ix2 (i 0) (i 1)) := by
  funext i
  blk_simp [iblk]
  unfold_abbrev_sides
  simp only [hostOps0, List.flatten_singleton]
  after_reads_at
  blk_ext [idx p]

theorem blk_d (p : Fin cfg0.N) : iblk m c 6 p = tileOf (argD m c) p := by
  funext i
  unfold tileOf
  blk_simp [iblk]
  unfold_abbrev_sides
  simp only [hostOps0, List.flatten_singleton]
  after_reads_at
  blk_ext [idx p]

theorem load6 (y : Tile) : k0_pay6 (F := Ideal) y = y := (load_at y (fun _ => 0) (fun _ => 0) (fun _ => 0)).1
theorem load7 (g : Vec Ideal S1x512 .f32) : k0_pay7 (F := Ideal) g = g := (load_at (fun _ => 0) g g (fun _ => 0)).2.1
theorem load8 (g : Vec Ideal S1x512 .f32) : k0_pay8 (F := Ideal) g = g := (load_at (fun _ => 0) g g (fun _ => 0)).2.2.1
theorem load9 (a : Vec Ideal S4x128x1 .f32) : k0_pay9 (F := Ideal) a = a := (load_at (fun _ => 0) (fun _ => 0) (fun _ => 0) a).2.2.2

/-- the gain, the shift, the matrices and the biases -/
abbrev rG : Row := fun l => argG m c (ix1 l)
abbrev rB : Row := fun l => argB m c (ix1 l)
abbrev rW : Mats := fun h i j => argW m c (ix3 h i j)
abbrev rA : Fin 4 → Fin 128 → EReal := fun h i => argA m c (ix2 h i)

/-- the block of sequence `bOf p` that is block `n` of point `p` -/
abbrev kAt (p : Fin cfg0.N) (n : Fin 4) : Fin 16 := ⟨p.val % 4 * 4 + n.val, by omega⟩

theorem blk_tile (x : S4x2048x512.Idx → EReal) (p : Fin cfg0.N) (n : Fin 4) : blkAt (tileOf x p) n = blkOf x (bOf p) (kAt p n) := by
  funext i l
  refine congrArg x ?_
  refine congrArg (fun t => ix3 (bOf p) t l) (Fin.ext ?_)
  show p.val % 4 * 512 + (n.val * 128 + i.val) = (p.val % 4 * 4 + n.val) * 128 + i.val
  omega

theorem k_row (p : Fin cfg0.N) (r : Fin 512) : kAt p (grp r) = kOf (rOf p r) :=
  Fin.ext (by show p.val % 4 * 4 + r.val / 128 = (p.val % 4 * 512 + r.val) / 128; omega)
theorem i_row (p : Fin cfg0.N) (r : Fin 512) : inn r = iOf (rOf p r) :=
  Fin.ext (by show r.val % 128 = (p.val % 4 * 512 + r.val) % 128; omega)

theorem blk_row (x : S4x2048x512.Idx → EReal) (p : Fin cfg0.N) (r : Fin 512) : blkAt (tileOf x p) (grp r) = blkOf x (bOf p) (kOf (rOf p r)) :=
  (blk_tile x p (grp r)).trans (congrArg (blkOf x (bOf p)) (k_row p r))

/-- a row of a tile is a row of its block -/
theorem row_blk (x : Tile) (r : Fin 512) : row x r = blkAt x (grp r) (inn r) := by
  show row x r = row x (chanOf (grp r) (inn r))
  rw [chan_grp]

/-- the gradient of the gates, of a row and a channel -/
abbrev duAt (b : Fin 4) (t : Fin 2048) (l : Fin 512) : EReal :=
  dU (rG m c) (rB m c) (rW m c) (rA m c) (blkOf (argU m c) b (kOf t)) (blkOf (argV m c) b (kOf t)) (blkOf (argD m c) b (kOf t)) (iOf t) l

theorem du_out (p : Fin cfg0.N) (r l : Fin 512) : (outsAt0 m c p.val p.isLt).1 (ix2 r l) = duAt m c (bOf p) (rOf p r) l := by
  have e : dgelu (tileOf (argD m c) p (ix2 r l) * mixedAt (tileOf (argV m c) p) (iblk m c 2 p) (iblk m c 3 p) (iblk m c 4 p) (iblk m c 5 p) r l)
      (tileOf (argU m c) p (ix2 r l)) = duAt m c (bOf p) (rOf p r) l := by
    show dgelu (row (tileOf (argD m c) p) r l * mixedAt (tileOf (argV m c) p) (iblk m c 2 p) (iblk m c 3 p) (iblk m c 4 p) (iblk m c 5 p) r l)
      (row (tileOf (argU m c) p) r l) = _
    rw [row_blk, row_blk, blk_row, blk_row]
    unfold mixedAt
    rw [blk_row, i_row p r, blk_g, blk_b, blk_w, blk_a]
    rfl
  refine Eq.trans ?_ e
  rw [← blk_u, ← blk_v, ← blk_d]
  by_cases h0 : p.val % 16 = 0
  · rw [outsAt0_A m c p h0 h0 h0]
    frame_out
    simp only [load6, load7, load8, load9]
    refine (du_at _ _ r l).trans ?_
    rw [gate_at]
  · rw [outsAt0_B m c p h0 h0 h0]
    frame_out
    simp only [load6, load7, load8, load9]
    refine (du_at _ _ r l).trans ?_
    rw [gate_at]

/-- the first result -/
theorem final_du : (dats m 0 c).arrAt 7 cfg0.N = seqRows (duAt m c) := by
  refine (dats m 0 c).arrAt_eq_of_covers 7 _ (by decide +kernel) fun p _ y => ?_
  have hp := lt16 p
  blk_simp
  rw [after0_7]
  refine Eq.trans ?_ (seqRows_at _ _ (bOf p) (rOf p (y 0)) (y 1) ?_ ?_).symm
  · exact (congrArg _ (eq_ix2 y)).trans (du_out m c p (y 0) (y 1))
  · refine Eq.trans (b := p.val * 512 + (y 0).val) (by blk_ext [idx p]) ?_
    show _ = p.val / 4 * 2048 + (p.val % 4 * 512 + (y 0).val)
    omega
  · blk_ext [idx p]

/-- the gradient of the mixed rows' source, of a row and a channel -/
abbrev dvAt (b : Fin 4) (t : Fin 2048) (l : Fin 512) : EReal :=
  dV (rG m c) (rW m c) (blkOf (argU m c) b (kOf t)) (blkOf (argV m c) b (kOf t)) (blkOf (argD m c) b (kOf t)) (iOf t) l

theorem dv_out (p : Fin cfg0.N) (r l : Fin 512) : (outsAt0 m c p.val p.isLt).2.1 (ix2 r l) = dvAt m c (bOf p) (rOf p r) l := by
  have e : drow (lane (iblk m c 2 p)) (dnAt (tileOf (argU m c) p) (tileOf (argD m c) p) (iblk m c 4 p) r) (row (tileOf (argV m c) p) r) l
      = dvAt m c (bOf p) (rOf p r) l := by
    unfold dnAt
    rw [row_blk, blk_row, blk_row, blk_row, i_row p r, blk_g, blk_w]
    rfl
  refine Eq.trans ?_ e
  rw [← blk_u, ← blk_v, ← blk_d]
  by_cases h0 : p.val % 16 = 0
  · rw [outsAt0_A m c p h0 h0 h0]
    frame_out
    simp only [load6, load7, load8, load9]
    exact dv_at _ _ _ _ _ r (dn_at _ _ _ r) l
  · rw [outsAt0_B m c p h0 h0 h0]
    frame_out
    simp only [load6, load7, load8, load9]
    exact dv_at _ _ _ _ _ r (dn_at _ _ _ r) l

/-- the second result -/
theorem final_dv : (dats m 0 c).arrAt 8 cfg0.N = seqRows (dvAt m c) := by
  refine (dats m 0 c).arrAt_eq_of_covers 8 _ (by decide +kernel) fun p _ y => ?_
  have hp := lt16 p
  blk_simp
  rw [after0_8]
  refine Eq.trans ?_ (seqRows_at _ _ (bOf p) (rOf p (y 0)) (y 1) ?_ ?_).symm
  · exact (congrArg _ (eq_ix2 y)).trans (dv_out m c p (y 0) (y 1))
  · refine Eq.trans (b := p.val * 512 + (y 0).val) (by blk_ext [idx p]) ?_
    show _ = p.val / 4 * 2048 + (p.val % 4 * 512 + (y 0).val)
    omega
  · blk_ext [idx p]

/-- the normed rows' cotangent, of a block -/
abbrev dnOf (b : Fin 4) (k : Fin 16) (i : Fin 128) (l : Fin 512) : EReal := dn (rW m c) (blkOf (argU m c) b k) (blkOf (argD m c) b k) i l

theorem dn_tile (p : Fin cfg0.N) (n : Fin 4) (i : Fin 128) (l : Fin 512) :
    dnAt (iblk m c 0 p) (iblk m c 6 p) (iblk m c 4 p) (chanOf n i) l = dnOf m c (bOf p) (kAt p n) i l := by
  rw [blk_u, blk_d, blk_w]
  unfold dnAt
  rw [grp_chan, blk_tile, blk_tile, inn_chan]

/-- what a point adds to the gain's gradient -/
def gRow (p : Fin cfg0.N) (l : Fin 512) : EReal :=
  ∑ n : Fin 4, ∑ i, pg (rW m c) (blkOf (argU m c) (bOf p) (kAt p n)) (blkOf (argV m c) (bOf p) (kAt p n)) (blkOf (argD m c) (bOf p) (kAt p n)) l i
/-- and to the shift's -/
def bRow (p : Fin cfg0.N) (l : Fin 512) : EReal := ∑ n : Fin 4, ∑ i, dnOf m c (bOf p) (kAt p n) i l

theorem g_term (p : Fin cfg0.N) (v : Vec Ideal S1x512 .f32) (l : Fin 512) :
    k0_pay76 (k0_pay69 (k0_pay24 (iblk m c 1 p) (k0_pay15 (iblk m c 1 p))) (dnAll (iblk m c 0 p) (iblk m c 6 p) (iblk m c 4 p)) (dnHead (iblk m c 0 p) (iblk m c 6 p) (iblk m c 4 p))) v (ix2 (0 : Fin 1) l)
      = v (ix2 0 l) + gRow m c p l := by
  pointwise [k0_pay76]
  refine congrArg (v (ix2 0 l) + ·) ((sumg_at _ _ _ l).trans ((sum_tile _).trans (Finset.sum_congr rfl fun n _ => Finset.sum_congr rfl fun i _ => ?_)))
  rw [dn_at, dn_tile, blk_v]
  show xh (blkAt (tileOf (argV m c) p) n i) l * _ = _
  rw [blk_tile]
  rfl

theorem b_term (p : Fin cfg0.N) (v : Vec Ideal S1x512 .f32) (l : Fin 512) :
    k0_pay78 (k0_pay68 (dnAll (iblk m c 0 p) (iblk m c 6 p) (iblk m c 4 p)) (dnHead (iblk m c 0 p) (iblk m c 6 p) (iblk m c 4 p))) v (ix2 (0 : Fin 1) l)
      = v (ix2 0 l) + bRow m c p l := by
  pointwise [k0_pay78]
  refine congrArg (v (ix2 0 l) + ·) ((sumb_at _ _ l).trans ((sum_tile _).trans (Finset.sum_congr rfl fun n _ => Finset.sum_congr rfl fun i _ => ?_)))
  rw [dn_at, dn_tile]

/-- the third result: row 0 is the gain's gradient, the other rows are zero -/
theorem final_dg :
    (dats m 0 c).arrAt 9 cfg0.N = fun i : S8x512.Idx => top (fun l => ∑ p : Fin cfg0.N, gRow m c p l) (i 0) (i 1) := by
  refine (dats m 0 c).arrAt_eq_of_after_last 9 t0_15 (by decide +kernel) _ fun j => ?_
  blk_simp
  rw [after0_9, Pipeline.eq_sum_fin_of_reset_step_apply_last (fun n h => (outsAt0 m c n h).2.2.1) 16 (fun _ => 0)
    (fun p j => top (gRow m c p) (j 0) (j 1)) (fun p h0 j => ?_) (fun p h0 j => ?_) (le_of_eq N_0) t0_15 rfl j]
  · exact sum_top _ (j 0) (j 1)
  · rw [outsAt0_A m c p h0 h0 h0]
    frame_out
    simp only [load6, load7, load8, load9]
    idx_vars j
    refine top_first _ _ _ _ (gRow m c p) j0 j1 ((g_term m c p _ j1).trans ((congrArg (· + _) (readCov_row0 _ _ _ _ _)).trans ?_)) ?_
    · pointwise [k0_pay75]
    · pointwise [k0_pay75]
  · rw [outsAt0_B m c p h0 h0 h0]
    frame_out
    simp only [load6, load7, load8, load9]
    idx_vars j
    refine top_next _ _ _ _ _ (gRow m c p) j0 j1 ((g_term m c p _ j1).trans ?_)
    pointwise

/-- the fourth result: row 0 is the shift's gradient, the other rows are zero -/
theorem final_db :
    (dats m 0 c).arrAt 10 cfg0.N = fun i : S8x512.Idx => top (fun l => ∑ p : Fin cfg0.N, bRow m c p l) (i 0) (i 1) := by
  refine (dats m 0 c).arrAt_eq_of_after_last 10 t0_15 (by decide +kernel) _ fun j => ?_
  blk_simp
  rw [after0_10, Pipeline.eq_sum_fin_of_reset_step_apply_last (fun n h => (outsAt0 m c n h).2.2.2.1) 16 (fun _ => 0)
    (fun p j => top (bRow m c p) (j 0) (j 1)) (fun p h0 j => ?_) (fun p h0 j => ?_) (le_of_eq N_0) t0_15 rfl j]
  · exact sum_top _ (j 0) (j 1)
  · rw [outsAt0_A m c p h0 h0 h0]
    frame_out
    idx_vars j
    refine top_first _ _ _ _ (bRow m c p) j0 j1 ((b_term m c p _ j1).trans ((congrArg (· + _) (readCov_row0 _ _ _ _ _)).trans ?_)) ?_
    · pointwise [k0_pay77]
    · pointwise [k0_pay77]
  · rw [outsAt0_B m c p h0 h0 h0]
    frame_out
    idx_vars j
    refine top_next _ _ _ _ _ (bRow m c p) j0 j1 ((b_term m c p _ j1).trans ?_)
    pointwise

/-- what a point adds to a matrix's gradient -/
def wPart (p : Fin cfg0.N) (h : Fin 4) (i j : Fin 128) : EReal :=
  if j ≤ i then ∑ n : Fin 4, pw (rG m c) (rB m c) (blkOf (argU m c) (bOf p) (kAt p n)) (blkOf (argV m c) (bOf p) (kAt p n)) (blkOf (argD m c) (bOf p) (kAt p n)) h i j else 0
/-- and to a bias's -/
def aPart (p : Fin cfg0.N) (h : Fin 4) (i : Fin 128) : EReal :=
  ∑ n : Fin 4, pb (blkOf (argU m c) (bOf p) (kAt p n)) (blkOf (argD m c) (bOf p) (kAt p n)) h i

theorem w_part (p : Fin cfg0.N) (h : Fin 4) (i j : Fin 128) :
    (if j ≤ i then ∑ n, pw (lane (iblk m c 2 p)) (lane (iblk m c 3 p)) (blkAt (iblk m c 0 p) n) (blkAt (iblk m c 1 p) n) (blkAt (iblk m c 6 p) n) h i j else 0)
      = wPart m c p h i j := by
  rw [blk_g, blk_b, blk_u, blk_v, blk_d]
  simp only [blk_tile]
  rfl

theorem a_part (p : Fin cfg0.N) (h : Fin 4) (i : Fin 128) :
    ∑ n, pb (blkAt (iblk m c 0 p) n) (blkAt (iblk m c 6 p) n) h i = aPart m c p h i := by
  rw [blk_u, blk_d]
  simp only [blk_tile]
  rfl

/-- the fifth result: the matrices' gradient -/
theorem final_dw : (dats m 0 c).arrAt 11 cfg0.N = fun i : S4x128x128.Idx => ∑ p : Fin cfg0.N, wPart m c p (i 0) (i 1) (i 2) := by
  refine (dats m 0 c).arrAt_eq_of_after_last 11 t0_15 (by decide +kernel) _ fun j => ?_
  blk_simp
  rw [after0_11, Pipeline.eq_sum_fin_of_reset_step_apply_last (fun n h => (outsAt0 m c n h).2.2.2.2.1) 16 (fun _ => 0)
    (fun p j => wPart m c p (j 0) (j 1) (j 2)) (fun p h0 j => ?_) (fun p h0 j => ?_) (le_of_eq N_0) t0_15 rfl j]
  · exact zero_add (_ : EReal)
  · rw [outsAt0_A m c p h0 h0 h0]
    frame_out
    simp only [load6, load7, load8, load9]
    idx_vars j
    pointwise [k0_pay3, k0_pay1]
    exact (dw_at _ _ _ _ _ j0 j1 j2).trans (w_part m c p j0 j1 j2)
  · rw [outsAt0_B m c p h0 h0 h0]
    frame_out
    simp only [load6, load7, load8, load9]
    idx_vars j
    pointwise [k0_pay3]
    exact congrArg (_ + ·) ((dw_at _ _ _ _ _ j0 j1 j2).trans (w_part m c p j0 j1 j2))

/-- the sixth result: the biases' gradient -/
theorem final_da : (dats m 0 c).arrAt 12 cfg0.N = fun i : S4x128x1.Idx => ∑ p : Fin cfg0.N, aPart m c p (i 0) (i 1) := by
  refine (dats m 0 c).arrAt_eq_of_after_last 12 t0_15 (by decide +kernel) _ fun j => ?_
  blk_simp
  rw [after0_12, Pipeline.eq_sum_fin_of_reset_step_apply_last (fun n h => (outsAt0 m c n h).2.2.2.2.2) 16 (fun _ => 0)
    (fun p j => aPart m c p (j 0) (j 1)) (fun p h0 j => ?_) (fun p h0 j => ?_) (le_of_eq N_0) t0_15 rfl j]
  · exact zero_add (_ : EReal)
  · rw [outsAt0_A m c p h0 h0 h0]
    frame_out
    idx_vars j
    pointwise [k0_pay4, k0_pay2]
    exact (db_at _ _ j0 j1 _).trans (a_part m c p j0 j1)
  · rw [outsAt0_B m c p h0 h0 h0]
    frame_out
    idx_vars j
    pointwise [k0_pay4]
    exact congrArg (_ + ·) ((db_at _ _ j0 j1 _).trans (a_part m c p j0 j1))

end Cert.SguBwdIdeal.Value

end
-- ==== Proof.SguRef.lean ====
module

public import proofs.«01_k».proof.Proof.SguBlocks
public import proofs.«01_k».proof.Proof.LeadSum
public import proofs.«01_k».proof.Proof.Gen.SguBwdRefIdeal.Read

/-! # The reference's results: the gradient of the spatial gating -/

@[expose] public section

noncomputable section

open Idealize.ShloMosaic Idealize.ShloMosaic.TcCoe Idealize.SL.Sem

namespace Cert.SguBwdRefIdeal.Value
open Cert.SguBwdRefIdeal Cert.SguBwdRefIdeal.Gen Cert.SguBwdRefIdeal.Read Cert.Grad Cert.Grad.Sgu

variable (u v d : S4x2048x512.Idx → EReal) (g b : S512.Idx → EReal) (w : S4x128x128.Idx → EReal) (a : S4x128.Idx → EReal)

abbrev lane (g : S512.Idx → EReal) : Row := fun l => g (ix1 l)
abbrev mats (w : S4x128x128.Idx → EReal) : Mats := fun h i j => w (ix3 h i j)
abbrev biases (a : S4x128.Idx → EReal) : Fin 4 → Fin 128 → EReal := fun h i => a (ix2 h i)

theorem th_eq (x : EReal) : Ideal.tanh (lit 0x3F4C422A#32 * (x + lit 0x3D372713#32 * (x * x * x))) = th x := by
  unfold th
  rw [mul_assoc x x x]

theorem zero_fill : (id (constant (F := Ideal) S_ FTy.f32 0#32) ix0 : EReal) = 0 := by
  show (constant (F := Ideal) S_ FTy.f32 0#32) ix0 = (0 : EReal)
  pointwise

/-- the mask the host makes keeps the entries below the diagonal -/
theorem low_pick (i j : Fin 128) (x : EReal) :
    Scalar.select (Scalar.select (IntOp.cmpi CmpIPredicate.sge (IntOp.addi (BitVec.ofNat 32 i.val) 0#32) (BitVec.ofNat 32 j.val)) 1#1 0#1) x
      (id (constant (F := Ideal) S_ FTy.f32 0#32) ix0) = if j ≤ i then x else 0 := by
  rw [zero_fill]
  refine Eq.trans ?_ (pick_low i j x)
  congr 1
  have h : IntOp.addi (BitVec.ofNat 32 i.val) 0#32 = BitVec.ofNat 32 i.val := BitVec.add_zero _
  rw [h]
  generalize IntOp.cmpi CmpIPredicate.sge (BitVec.ofNat 32 i.val) (BitVec.ofNat 32 j.val) = q
  revert q
  decide

/-- a row is a row of its block -/
theorem row_blk (x : Arr) (b : Fin 4) (t : Fin 2048) : rowAt x b t = blkOf x b (kOf t) (iOf t) := by
  funext l
  refine congrArg (fun s => x (ix3 b s l)) (Fin.ext ?_)
  show t.val = t.val / 128 * 128 + t.val % 128
  omega

theorem blk_gate (g b : Row) (w : Mats) (a : Fin 4 → Fin 128 → EReal) (u v d : Arr) (q : Fin 4) (t : Fin 2048) (l : Fin 512) :
    dgelu (d (ix3 q t l) * mixed g b w a (blkOf v q (kOf t)) (iOf t) l) (u (ix3 q t l))
      = dU g b w a (blkOf u q (kOf t)) (blkOf v q (kOf t)) (blkOf d q (kOf t)) (iOf t) l := by
  unfold dU
  rw [← row_blk, ← row_blk]
  rfl

theorem blk_drow (g : Row) (w : Mats) (u v d : Arr) (q : Fin 4) (t : Fin 2048) (l : Fin 512) :
    drow g (dn w (blkOf u q (kOf t)) (blkOf d q (kOf t)) (iOf t)) (rowAt v q t) l
      = dV g w (blkOf u q (kOf t)) (blkOf v q (kOf t)) (blkOf d q (kOf t)) (iOf t) l := by
  unfold dV
  rw [row_blk]

theorem v10_eq : val_main_v10 (F := Ideal) u = fun i => th (u i) := by
  funext i
  idx_vars i
  pointwise [val_main_v10, val_main_v9, val_main_v8, val_main_v7, val_main_cst_1, val_main_v6, val_main_v5, val_main_v1, val_main_cst_0, val_main_v0]
  exact th_eq _

theorem v15_eq : val_main_v15 (F := Ideal) u = fun i => steep (u i) := by
  funext i
  idx_vars i
  pointwise [val_main_v15, val_main_v12, val_main_v14, val_main_v11, val_main_v13, val_main_cst_2, val_main_cst_3, v10_eq]
  rfl

theorem v19_eq : val_main_v19 (F := Ideal) u = fun i => half (u i) := by
  funext i
  idx_vars i
  pointwise [val_main_v19, val_main_v18, val_main_v17, val_main_cst_5, val_main_v16, val_main_cst_4, v10_eq]
  rfl

theorem v20_eq : val_main_v20 (F := Ideal) u = fun i => gelu (u i) := by
  funext i
  idx_vars i
  pointwise [val_main_v20, v19_eq]
  rfl

theorem v4_eq : val_main_v4 (F := Ideal) u = fun i => lit 0x40400000#32 * (u i * u i) := by
  funext i
  idx_vars i
  pointwise [val_main_v4, val_main_v3, val_main_v2, val_main_cst]

theorem v31_eq : val_main_v31 (F := Ideal) v = fun i => th (v i) := by
  funext i
  idx_vars i
  pointwise [val_main_v31, val_main_v30, val_main_v29, val_main_v28, val_main_cst_8, val_main_v27, val_main_v26, val_main_v22, val_main_cst_7, val_main_v21]
  exact th_eq _

theorem v36_eq : val_main_v36 (F := Ideal) v = fun i => steep (v i) := by
  funext i
  idx_vars i
  pointwise [val_main_v36, val_main_v33, val_main_v35, val_main_v32, val_main_v34, val_main_cst_9, val_main_cst_10, v31_eq]
  rfl

theorem v40_eq : val_main_v40 (F := Ideal) v = fun i => half (v i) := by
  funext i
  idx_vars i
  pointwise [val_main_v40, val_main_v39, val_main_v38, val_main_cst_12, val_main_v37, val_main_cst_11, v31_eq]
  rfl

theorem v41_eq : val_main_v41 (F := Ideal) v = fun i => gelu (v i) := by
  funext i
  idx_vars i
  pointwise [val_main_v41, v40_eq]
  rfl

theorem v25_eq : val_main_v25 (F := Ideal) v = fun i => lit 0x40400000#32 * (v i * v i) := by
  funext i
  idx_vars i
  pointwise [val_main_v25, val_main_v24, val_main_v23, val_main_cst_6]

theorem v47_eq : val_main_v47 (F := Ideal) v = fun i => cen (rowAt v (i 0) (i 1)) (i 2) := by
  funext i
  idx_vars i
  pointwise [val_main_v47, val_main_v46, val_main_v45, val_main_v43, val_main_v44, val_main_v42, val_main_cst_14, val_main_cst_13, v41_eq]
  rfl

theorem v54_eq : val_main_v54 (F := Ideal) v = fun i => var (rowAt v (i 0) (i 1)) := by
  funext i
  idx_vars i
  pointwise [val_main_v54, val_main_v52, val_main_v53, val_main_v50, val_main_v51, val_main_cst_17, val_main_v49, val_main_cst_16, val_main_v48, val_main_cst_15, v47_eq]
  rfl

theorem v55_eq : val_main_v55 (F := Ideal) v = fun i => rs (rowAt v (i 0) (i 1)) := by
  funext i
  idx_vars i
  pointwise [val_main_v55, v54_eq]
  rfl

theorem v58_eq : val_main_v58 (F := Ideal) v = fun i => rsl (rowAt v (i 0) (i 1)) := by
  funext i
  idx_vars i
  pointwise [val_main_v58, val_main_v57, val_main_v56, val_main_cst_18, v55_eq, v54_eq]
  rfl

theorem v60_eq : val_main_v60 (F := Ideal) v = fun i => xh (rowAt v (i 0) (i 1)) (i 2) := by
  funext i
  idx_vars i
  pointwise [val_main_v60, val_main_v59, v47_eq, v55_eq]
  rfl

theorem v66_eq : val_main_v66 (F := Ideal) v g b = fun i => vn (lane g) (lane b) (rowAt v (i 0) (i 1)) (i 2) := by
  funext i
  idx_vars i
  pointwise [val_main_v66, val_main_v63, val_main_v65, val_main_v62, val_main_v64, val_main_v61, v60_eq]
  rfl

theorem v67_eq : val_main_v67 (F := Ideal) v g b = fun i => vn (lane g) (lane b) (blkOf v (i 0) (i 1) (i 2)) (chanOf (i 3) (i 4)) := by
  funext i
  idx_vars i
  pointwise [val_main_v67, v66_eq]
  rfl

theorem v70_0_eq : val_main_v70_0 (F := Ideal) w = fun i => low (mats w) (i 0) (i 1) (i 2) := by
  funext i
  idx_vars i
  pointwise [val_main_v70_0, val_main_v70_1, val_main_call1_v2, val_main_v69, val_main_call1_v0, val_main_call0_v4, val_main_v68, val_main_call0_v5, val_main_cst_19, val_main_call0_v2, val_main_call0_v3, val_main_c, val_main_call0_c_0, val_main_call0_v0, val_main_call0_v1, val_main_call0_c]
  exact low_pick _ _ _

theorem v71_eq : val_main_v71 (F := Ideal) v g b w = fun i => ∑ j, low (mats w) (i 0) (i 4) j * vn (lane g) (lane b) (blkOf v (i 1) (i 2) j) (chanOf (i 0) (i 3)) := by
  funext i
  idx_vars i
  pointwise [val_main_v71, v67_eq, v70_0_eq]
  exact Finset.sum_congr rfl fun _ _ => mul_comm _ _

theorem v76_eq : val_main_v76 (F := Ideal) v g b w a = fun i => mixed (lane g) (lane b) (mats w) (biases a) (blkOf v (i 0) (i 1)) (i 2) (chanOf (i 3) (i 4)) := by
  funext i
  idx_vars i
  pointwise [val_main_v76, val_main_v72, val_main_v75, val_main_v74, val_main_v73, v71_eq]
  exact (mixed_chan (lane g) (lane b) (mats w) (biases a) _ _ _ _).symm

theorem v77_eq : val_main_v77 (F := Ideal) v g b w a = fun i => mixed (lane g) (lane b) (mats w) (biases a) (blkOf v (i 0) (kOf (i 1))) (iOf (i 1)) (i 2) := by
  funext i
  idx_vars i
  pointwise [val_main_v77, v76_eq]
  exact congrArg (mixed (lane g) (lane b) (mats w) (biases a) (blkOf v i0 (kOf i1)) (iOf i1)) (chan_grp i2)

theorem v81_eq : val_main_v81 (F := Ideal) u d = fun i => dm (blkOf u (i 0) (i 1)) (blkOf d (i 0) (i 1)) (i 2) (chanOf (i 3) (i 4)) := by
  funext i
  idx_vars i
  pointwise [val_main_v81, val_main_v79, v20_eq]
  rfl

theorem v80_eq : val_main_v80 (F := Ideal) v g b w a d = fun i => d i * mixed (lane g) (lane b) (mats w) (biases a) (blkOf v (i 0) (kOf (i 1))) (iOf (i 1)) (i 2) := by
  funext i
  idx_vars i
  pointwise [val_main_v80, v77_eq]

theorem v146_eq : val_main_v146 (F := Ideal) u v g b w a d = fun i => dgelu (d i * mixed (lane g) (lane b) (mats w) (biases a) (blkOf v (i 0) (kOf (i 1))) (iOf (i 1)) (i 2)) (u i) := by
  funext i
  idx_vars i
  pointwise [val_main_v146, val_main_v142, val_main_v145, val_main_v136, val_main_v141, val_main_v144, val_main_v140, val_main_v139, val_main_v143, val_main_cst_36, val_main_v138, val_main_cst_37, val_main_v137, val_main_v135, val_main_cst_35, v4_eq, v80_eq, v19_eq, v15_eq]
  rfl

theorem v91_eq : val_main_v91 (F := Ideal) u w d = fun i => dn (mats w) (blkOf u (i 0) (kOf (i 1))) (blkOf d (i 0) (kOf (i 1))) (iOf (i 1)) (i 2) := by
  funext i
  idx_vars i
  pointwise [val_main_v91, val_main_v89, val_main_v88, val_main_v86, v70_0_eq, v81_eq]
  refine Eq.trans ?_ (congrArg (dn (mats w) (blkOf u i0 (kOf i1)) (blkOf d i0 (kOf i1)) (iOf i1)) (chan_grp i2))
  rw [dn_chan]
  exact Finset.sum_congr rfl fun _ _ => mul_comm _ _

theorem v99_eq : val_main_v99 (F := Ideal) u g w d = fun i => dn (mats w) (blkOf u (i 0) (kOf (i 1))) (blkOf d (i 0) (kOf (i 1))) (iOf (i 1)) (i 2) * g (ix1 (i 2)) := by
  funext i
  idx_vars i
  pointwise [val_main_v99, val_main_v98, val_main_v61, v91_eq]

/-- the normed rows' cotangent, of a row -/
abbrev dnRow (b : Fin 4) (t : Fin 2048) : Row := dn (mats w) (blkOf u b (kOf t)) (blkOf d b (kOf t)) (iOf t)

theorem v108_eq : val_main_v108 (F := Ideal) u v g w d = fun i => dvar (lane g) (dnRow u d w (i 0) (i 1)) (rowAt v (i 0) (i 1)) := by
  funext i
  idx_vars i
  pointwise [val_main_v108, val_main_v106, val_main_v107, val_main_v103, val_main_cst_27, val_main_v102, val_main_v101, val_main_cst_26, v58_eq, v47_eq, v99_eq]
  rfl

theorem v114_eq : val_main_v114 (F := Ideal) u v g w d = fun i => dcen (lane g) (dnRow u d w (i 0) (i 1)) (rowAt v (i 0) (i 1)) (i 2) := by
  funext i
  idx_vars i
  pointwise [val_main_v114, val_main_v112, val_main_v113, val_main_v105, val_main_v111, val_main_v110, val_main_v104, val_main_v109, val_main_cst_28, v47_eq, v99_eq, v55_eq, v108_eq]
  simp only [Finset.sum_const, Finset.card_univ, Fintype.card_fin, one_smul]
  rfl

theorem v122_eq : val_main_v122 (F := Ideal) u v g w d = fun i => dact (lane g) (dnRow u d w (i 0) (i 1)) (rowAt v (i 0) (i 1)) (i 2) := by
  funext i
  idx_vars i
  pointwise [val_main_v122, val_main_v121, val_main_v120, val_main_v119, val_main_cst_31, val_main_v117, val_main_v118, val_main_v116, val_main_cst_30, val_main_v115, val_main_cst_29, v114_eq]
  simp only [Finset.sum_const, Finset.card_univ, Fintype.card_fin, one_smul]
  rfl

theorem v134_eq : val_main_v134 (F := Ideal) u v g w d = fun i => drow (lane g) (dnRow u d w (i 0) (i 1)) (rowAt v (i 0) (i 1)) (i 2) := by
  funext i
  idx_vars i
  pointwise [val_main_v134, val_main_v130, val_main_v133, val_main_v124, val_main_v129, val_main_v132, val_main_v128, val_main_v127, val_main_v131, val_main_cst_33, val_main_v126, val_main_cst_34, val_main_v125, val_main_v123, val_main_cst_32, v25_eq, v122_eq, v40_eq, v36_eq]
  rfl

theorem v148_eq : val_main_v148 (F := Ideal) u v g b w a d = seqRows fun b' t l => dU (lane g) (lane b) (mats w) (biases a) (blkOf u b' (kOf t)) (blkOf v b' (kOf t)) (blkOf d b' (kOf t)) (iOf t) l := by
  funext i
  idx_vars i
  pointwise [val_main_v148, val_main_v147, v146_eq]
  exact blk_gate _ _ _ _ _ _ _ _ _ _

theorem v150_eq : val_main_v150 (F := Ideal) u v g w d = seqRows fun b t l => dV (lane g) (mats w) (blkOf u b (kOf t)) (blkOf v b (kOf t)) (blkOf d b (kOf t)) (iOf t) l := by
  funext i
  idx_vars i
  pointwise [val_main_v150, val_main_v149, v134_eq]
  exact blk_drow _ _ _ _ _ _ _ _

theorem v95_eq : val_main_v95 (F := Ideal) u v w d = fun i => xh (rowAt v (i 0) (i 1)) (i 2) * dnRow u d w (i 0) (i 1) (i 2) := by
  funext i
  idx_vars i
  pointwise [val_main_v95, v60_eq, v91_eq]

/-- sums over the rows are sums over the blocks' rows -/
theorem sum_seq (f : Fin 2048 → EReal) : ∑ t, f t = ∑ k : Fin 16, ∑ i : Fin 128, f (tOf k i) := by
  rw [← Fintype.sum_prod_type', ← Equiv.sum_comp (finProdFinEquiv : Fin 16 × Fin 128 ≃ Fin (16 * 128))]
  refine Finset.sum_congr rfl fun q _ => congrArg f (Fin.ext ?_)
  show q.2.val + 128 * q.1.val = q.1.val * 128 + q.2.val
  omega

theorem dn_row (b : Fin 4) (k : Fin 16) (i : Fin 128) : dnRow u d w b (tOf k i) = dn (mats w) (blkOf u b k) (blkOf d b k) i := by
  have hk : kOf (tOf k i) = k := Fin.ext (by show (k.val * 128 + i.val) / 128 = k.val; omega)
  have hi : iOf (tOf k i) = i := Fin.ext (by show (k.val * 128 + i.val) % 128 = i.val; omega)
  unfold dnRow
  rw [hk, hi]

theorem v100_eq : val_main_v100 (F := Ideal) u v w d = fun i => ∑ b, ∑ k, ∑ j, pg (mats w) (blkOf u b k) (blkOf v b k) (blkOf d b k) (i 0) j := by
  funext i
  idx_vars i
  pointwise [val_main_v100, val_main_cst_25]
  rw [hostReduceAdd_lead]
  pointwise [val_main_v97, val_main_v96, val_main_cst_24]
  rw [hostReduceAdd_lead]
  pointwise [v95_eq]
  simp only [Fin.sum_univ_one]
  simp only [sum_seq, dn_row]
  rfl

theorem v94_eq : val_main_v94 (F := Ideal) u w d = fun i => ∑ b, ∑ k, ∑ j, dn (mats w) (blkOf u b k) (blkOf d b k) j (i 0) := by
  funext i
  idx_vars i
  pointwise [val_main_v94, val_main_cst_23]
  rw [hostReduceAdd_lead]
  pointwise [val_main_v93, val_main_v92, val_main_cst_22]
  rw [hostReduceAdd_lead]
  pointwise [v91_eq]
  simp only [Fin.sum_univ_one]
  show ∑ b, ∑ t, dnRow u d w b t i0 = _
  simp only [sum_seq, dn_row]

/-- a row padded with zeros -/
theorem pad_top (f : Fin 512 → EReal) (r : Fin 8) (l : Fin 512) : (if h : r.val < 1 then f l else FloatOps.sitofp (F := Ideal) FTy.f32 0#32) = top f r l := by
  have hz : (FloatOps.sitofp (F := Ideal) FTy.f32 0#32 : EReal) = 0 := by
    show (((0#32 : BitVec 32).toInt : ℝ) : EReal) = 0
    norm_num
  unfold top
  rw [hz]
  by_cases h : r.val = 0
  · rw [dif_pos (by omega), if_pos h]
  · rw [dif_neg (by omega), if_neg h]

theorem v152_eq : val_main_v152 (F := Ideal) u v w d
    = fun i => top (fun l => ∑ b, ∑ k, ∑ j, pg (mats w) (blkOf u b k) (blkOf v b k) (blkOf d b k) l j) (i 0) (i 1) := by
  funext i
  idx_vars i
  pointwise [val_main_v152, val_main_v151, val_main_call3_v0, val_main_c_38, v100_eq]
  exact pad_top (fun l => ∑ b, ∑ k, ∑ j, pg (mats w) (blkOf u b k) (blkOf v b k) (blkOf d b k) l j) i0 i1

theorem v154_eq : val_main_v154 (F := Ideal) u w d
    = fun i => top (fun l => ∑ b, ∑ k, ∑ j, dn (mats w) (blkOf u b k) (blkOf d b k) j l) (i 0) (i 1) := by
  funext i
  idx_vars i
  pointwise [val_main_v154, val_main_v153, val_main_call4_v0, val_main_c_39, v94_eq]
  exact pad_top (fun l => ∑ b, ∑ k, ∑ j, dn (mats w) (blkOf u b k) (blkOf d b k) j l) i0 i1

/-- the axes a matrix's gradient is summed over -/
def cells : Fin 4 × Fin 16 × Fin 128 ≃ dot_S4x4x16x128x128_S4x16x128x4x128_S4x128x128_123_014_4_2_0_3.contr.Idx where
  toFun q a := match a with
    | ⟨0, _⟩ => q.1
    | ⟨1, _⟩ => q.2.1
    | ⟨2, _⟩ => q.2.2
  invFun k := (k ⟨0, by decide⟩, k ⟨1, by decide⟩, k ⟨2, by decide⟩)
  left_inv _ := rfl
  right_inv k := by
    funext a
    match a with
    | ⟨0, _⟩ => rfl
    | ⟨1, _⟩ => rfl
    | ⟨2, _⟩ => rfl

theorem v86_eq : val_main_v86 (F := Ideal) u d = fun i => dm (blkOf u (i 1) (i 2)) (blkOf d (i 1) (i 2)) (i 4) (chanOf (i 0) (i 3)) := by
  funext i
  idx_vars i
  pointwise [val_main_v86, v81_eq]

theorem v87_eq : val_main_v87 (F := Ideal) u v g b d
    = fun i => ∑ q, ∑ k, pw (lane g) (lane b) (blkOf u q k) (blkOf v q k) (blkOf d q k) (i 0) (i 1) (i 2) := by
  funext i
  unfold val_main_v87
  simp only [Host.dotGeneral]
  rw [Ideal.dotGeneral_apply, ← Equiv.sum_comp cells, v86_eq, v67_eq]
  simp only [Fintype.sum_prod_type]
  refine Finset.sum_congr rfl fun q _ => Finset.sum_congr rfl fun k _ => ?_
  unfold pw
  refine Finset.sum_congr rfl fun l _ => ?_
  rfl

theorem v90_eq : val_main_v90 (F := Ideal) u v g b d
    = fun i => if i 2 ≤ i 1 then ∑ q, ∑ k, pw (lane g) (lane b) (blkOf u q k) (blkOf v q k) (blkOf d q k) (i 0) (i 1) (i 2) else 0 := by
  funext i
  idx_vars i
  pointwise [val_main_v90, val_main_v70_1, val_main_call2_v0, val_main_v69, val_main_call2_cst, val_main_call0_v4, val_main_v68, val_main_call0_v5, val_main_call0_v2, val_main_call0_v3, val_main_c, val_main_call0_c_0, val_main_call0_v0, val_main_call0_v1, val_main_call0_c, v87_eq]
  exact (congrArg (Scalar.select _ _) zero_fill.symm).trans (low_pick _ _ _)

theorem v155_eq : val_main_v155 (F := Ideal) u d = fun i => ∑ b, ∑ k, pb (blkOf u b k) (blkOf d b k) (i 0) (i 1) := by
  funext i
  idx_vars i
  pointwise [val_main_v155, val_main_v85, val_main_v84, val_main_cst_21]
  rw [hostReduceAdd_outer]
  pointwise [val_main_v83, val_main_v82, val_main_cst_20]
  rw [hostReduceAdd_outer]
  pointwise [v81_eq]
  simp only [Fin.sum_univ_one]
  rfl

end Cert.SguBwdRefIdeal.Value

end
-- ==== Proof.SguEq.lean ====
module

public import proofs.«01_k».proof.Proof.SguArrays
public import proofs.«01_k».proof.Proof.SguRef
public import proofs.«01_k».proof.Defs

/-! # The spatial gating's gradient: the two programs compute the same six arrays -/

@[expose] public section

noncomputable section

open Idealize.ShloMosaic Idealize.ShloMosaic.TcCoe Idealize.SL.Sem

namespace Cert.SguBwdIdeal.Value
open Cert.SguBwdIdeal Cert.SguBwdIdeal.Gen Cert.Grad Cert.Grad.Sgu

variable (m : (ℓ : Loc nD τ sig) → Buf (Elt Ideal) ℓ) (c : Dev nD)

theorem gRow_sum (l : Fin 512) : ∑ p, gRow m c p l = ∑ q, ∑ k, ∑ j, pg (rW m c) (blkOf (argU m c) q k) (blkOf (argV m c) q k) (blkOf (argD m c) q k) l j :=
  sum_blocks N_0 fun q k => ∑ j, pg (rW m c) (blkOf (argU m c) q k) (blkOf (argV m c) q k) (blkOf (argD m c) q k) l j

theorem bRow_sum (l : Fin 512) : ∑ p, bRow m c p l = ∑ q, ∑ k, ∑ j, dn (rW m c) (blkOf (argU m c) q k) (blkOf (argD m c) q k) j l :=
  sum_blocks N_0 fun q k => ∑ j, dn (rW m c) (blkOf (argU m c) q k) (blkOf (argD m c) q k) j l

theorem wPart_sum (h : Fin 4) (i j : Fin 128) : ∑ p, wPart m c p h i j
    = if j ≤ i then ∑ q, ∑ k, pw (rG m c) (rB m c) (blkOf (argU m c) q k) (blkOf (argV m c) q k) (blkOf (argD m c) q k) h i j else 0 := by
  unfold wPart
  by_cases hji : j ≤ i
  · simp only [if_pos hji]
    exact sum_blocks N_0 fun q k => pw (rG m c) (rB m c) (blkOf (argU m c) q k) (blkOf (argV m c) q k) (blkOf (argD m c) q k) h i j
  · simp only [if_neg hji, Finset.sum_const_zero]

theorem aPart_sum (h : Fin 4) (i : Fin 128) : ∑ p, aPart m c p h i = ∑ q, ∑ k, pb (blkOf (argU m c) q k) (blkOf (argD m c) q k) h i :=
  sum_blocks N_0 fun q k => pb (blkOf (argU m c) q k) (blkOf (argD m c) q k) h i

end Cert.SguBwdIdeal.Value

namespace Cert.Proof
open Cert.SguBwdIdeal.Value Cert.SguBwdRefIdeal.Value Cert.Grad Cert.Grad.Sgu

/-- the two programs of the spatial gating's gradient compute the same six arrays -/
theorem sgu : Cert.algebraic_SguBwdIdeal_SguBwdRefIdeal := by
  intro m ρ m' ρ' _ ha
  refine ⟨fun c => (Cert.SguBwdIdeal.Gen.dats m 0 c).arrAt 7 Cert.SguBwdIdeal.cfg0.N, fun c => (Cert.SguBwdIdeal.Gen.dats m 0 c).arrAt 8 Cert.SguBwdIdeal.cfg0.N,
    fun c => (Cert.SguBwdIdeal.Gen.dats m 0 c).arrAt 9 Cert.SguBwdIdeal.cfg0.N, fun c => (Cert.SguBwdIdeal.Gen.dats m 0 c).arrAt 10 Cert.SguBwdIdeal.cfg0.N,
    fun c => (Cert.SguBwdIdeal.Gen.dats m 0 c).arrAt 11 Cert.SguBwdIdeal.cfg0.N, fun c => (Cert.SguBwdIdeal.Gen.dats m 0 c).arrAt 12 Cert.SguBwdIdeal.cfg0.N,
    Cert.SguBwdIdeal.Value.run_blocks m ρ, ?_⟩
  refine (θ_run _ _ _).mono (fun r hr c => ?_) (Cert.SguBwdRefIdeal.Value.run m' ρ')
  obtain ⟨r0, r1, r2, r3, r4, r5, k⟩ := hr c
  obtain ⟨a0, a1, a2, a3, a4, a5, a6⟩ := ha c
  open Cert.SguBwdRefIdeal.Read in
  refine ⟨r0.trans ((val_main_v148_eq _).trans ?_), r1.trans ((val_main_v150_eq _).trans ?_), r2.trans ((val_main_v152_eq _).trans ?_),
    r3.trans ((val_main_v154_eq _).trans ?_), r4.trans ((val_main_v90_eq _).trans ?_), r5.trans ((val_main_v155_eq _).trans ?_), k⟩
  · show Cert.SguBwdRefIdeal.Read.val_main_v148 (m' (c.tc.loc Cert.SguBwdRefIdeal.main_arg0)) (m' (c.tc.loc Cert.SguBwdRefIdeal.main_arg1)) (m' (c.tc.loc Cert.SguBwdRefIdeal.main_arg2)) (m' (c.tc.loc Cert.SguBwdRefIdeal.main_arg3)) (m' (c.tc.loc Cert.SguBwdRefIdeal.main_arg4)) (m' (c.tc.loc Cert.SguBwdRefIdeal.main_arg5)) (m' (c.tc.loc Cert.SguBwdRefIdeal.main_arg6)) = _
    rw [a0, a1, a2, a3, a4, a5, a6]; exact ((final_du m c).trans (v148_eq _ _ _ _ _ _ _).symm).symm
  · show Cert.SguBwdRefIdeal.Read.val_main_v150 (m' (c.tc.loc Cert.SguBwdRefIdeal.main_arg0)) (m' (c.tc.loc Cert.SguBwdRefIdeal.main_arg1)) (m' (c.tc.loc Cert.SguBwdRefIdeal.main_arg2)) (m' (c.tc.loc Cert.SguBwdRefIdeal.main_arg4)) (m' (c.tc.loc Cert.SguBwdRefIdeal.main_arg6)) = _
    rw [a0, a1, a2, a4, a6]; exact ((final_dv m c).trans (v150_eq _ _ _ _ _).symm).symm
  · show Cert.SguBwdRefIdeal.Read.val_main_v152 (m' (c.tc.loc Cert.SguBwdRefIdeal.main_arg0)) (m' (c.tc.loc Cert.SguBwdRefIdeal.main_arg1)) (m' (c.tc.loc Cert.SguBwdRefIdeal.main_arg4)) (m' (c.tc.loc Cert.SguBwdRefIdeal.main_arg6)) = _
    rw [a0, a1, a4, a6]
    refine (((final_dg m c).trans ?_).trans (v152_eq _ _ _ _).symm).symm
    funext i
    exact congrArg (fun f => top f (i 0) (i 1)) (funext fun l => gRow_sum m c l)
  · show Cert.SguBwdRefIdeal.Read.val_main_v154 (m' (c.tc.loc Cert.SguBwdRefIdeal.main_arg0)) (m' (c.tc.loc Cert.SguBwdRefIdeal.main_arg4)) (m' (c.tc.loc Cert.SguBwdRefIdeal.main_arg6)) = _
    rw [a0, a4, a6]
    refine (((final_db m c).trans ?_).trans (v154_eq _ _ _).symm).symm
    funext i
    exact congrArg (fun f => top f (i 0) (i 1)) (funext fun l => bRow_sum m c l)
  · show Cert.SguBwdRefIdeal.Read.val_main_v90 (m' (c.tc.loc Cert.SguBwdRefIdeal.main_arg0)) (m' (c.tc.loc Cert.SguBwdRefIdeal.main_arg1)) (m' (c.tc.loc Cert.SguBwdRefIdeal.main_arg2)) (m' (c.tc.loc Cert.SguBwdRefIdeal.main_arg3)) (m' (c.tc.loc Cert.SguBwdRefIdeal.main_arg6)) = _
    rw [a0, a1, a2, a3, a6]
    refine (((final_dw m c).trans ?_).trans (v90_eq _ _ _ _ _).symm).symm
    funext i
    exact wPart_sum m c (i 0) (i 1) (i 2)
  · show Cert.SguBwdRefIdeal.Read.val_main_v155 (m' (c.tc.loc Cert.SguBwdRefIdeal.main_arg0)) (m' (c.tc.loc Cert.SguBwdRefIdeal.main_arg6)) = _
    rw [a0, a6]
    refine (((final_da m c).trans ?_).trans (v155_eq _ _).symm).symm
    funext i
    exact aPart_sum m c (i 0) (i 1)

end Cert.Proof

end
-- ==== Proof.Delta.lean ====
module

public import proofs.«01_k».proof.Proof.Finite

/-! # The delta rule's recurrence over the chunks of one head -/

@[expose] public section

noncomputable section

open Idealize.ShloMosaic

namespace Cert.Grad.Delta

/-- a head's state -/
abbrev St := Fin 128 → Fin 128 → EReal
/-- one chunk of a stream of rows -/
abbrev Chunk := Fin 64 → Fin 128 → EReal

/-- the streams of one head, chunk by chunk -/
structure Head where
  /-- the values to write -/
  u : ℕ → Chunk
  /-- the keys read with -/
  w : ℕ → Chunk
  /-- the queries, decayed -/
  q : ℕ → Chunk
  /-- the scores within a chunk -/
  a : ℕ → Fin 64 → Fin 64 → EReal
  /-- the keys written with, decayed -/
  k : ℕ → Chunk
  /-- the decay over a whole chunk -/
  l : ℕ → Fin 128 → EReal

/-- what a chunk writes: its values less what the state already answers -/
def fresh (s : St) (u w : Chunk) : Chunk := fun r e => u r e - ∑ d, w r d * s d e
/-- what a chunk reads: the state's answer and the chunk's own -/
def read (s : St) (u w q : Chunk) (a : Fin 64 → Fin 64 → EReal) : Chunk :=
  fun r e => (∑ d, q r d * s d e) + ∑ j, a r j * fresh s u w j e
/-- the state after a chunk -/
def next (s : St) (u w k : Chunk) (l : Fin 128 → EReal) : St :=
  fun d e => s d e * l e + ∑ r, k r d * fresh s u w r e

/-- the state before chunk `n` -/
def state (x : Head) : ℕ → St
  | 0 => fun _ _ => 0
  | n + 1 => next (state x n) (x.u n) (x.w n) (x.k n) (x.l n)

/-- what chunk `n` reads -/
def out (x : Head) (n : ℕ) : Chunk := read (state x n) (x.u n) (x.w n) (x.q n) (x.a n)

/-- the reciprocal root mean square of a row -/
def scale (o : Fin 128 → EReal) : EReal :=
  Ideal.rsqrt (Ideal.div (∑ x, o x * o x) (FloatOps.ofBits (F := Ideal) .f32 0x43000000#32) + FloatOps.ofBits (F := Ideal) .f32 0x358637BD#32)

/-- a row normalised, with its gain and its gate -/
def gated (o gain z : Fin 128 → EReal) (l : Fin 128) : EReal := o l * scale o * gain l * (z l * Ideal.logistic (z l))

/-- channel `l` of head `h` -/
abbrev chan (h : Fin 4) (l : Fin 128) : Fin 512 := ⟨h.val * 128 + l.val, by omega⟩

/-- an array of chunks: sequence, head, chunk, row, channel -/
abbrev Chunks (A B : ℕ) := (⟨5, ![4, 4, 32, A, B]⟩ : Shape).Idx → EReal
/-- the heads of every sequence -/
abbrev Heads := Fin 4 → Fin 4 → Head

/-- the heads, out of the arrays of their chunks -/
def heads (u w q : Chunks 64 128) (a : Chunks 64 64) (k : Chunks 64 128) (l : (⟨4, ![4, 4, 32, 128]⟩ : Shape).Idx → EReal) : Heads := fun b h =>
  { u := fun n r e => u (ix5 b h (Fin.ofNat 32 n) r e)
    w := fun n r e => w (ix5 b h (Fin.ofNat 32 n) r e)
    q := fun n r e => q (ix5 b h (Fin.ofNat 32 n) r e)
    a := fun n i j => a (ix5 b h (Fin.ofNat 32 n) i j)
    k := fun n r e => k (ix5 b h (Fin.ofNat 32 n) r e)
    l := fun n e => l (ix4 b h (Fin.ofNat 32 n) e) }

variable (x : Heads)

/-- the states before every chunk of every sequence -/
def statesArr (i : (⟨4, ![128, 4, 128, 128]⟩ : Shape).Idx) : EReal :=
  state (x ⟨(i 0).val / 32, by have := (i 0).isLt; change (i 0).val < 128 at this; omega⟩ (i 1)) ((i 0).val % 32) (i 2) (i 3)
/-- what every chunk of every sequence reads -/
def outsArr (i : (⟨4, ![128, 4, 64, 128]⟩ : Shape).Idx) : EReal :=
  out (x ⟨(i 0).val / 32, by have := (i 0).isLt; change (i 0).val < 128 at this; omega⟩ (i 1)) ((i 0).val % 32) (i 2) (i 3)
/-- the rows, normalised and gated -/
def yAt (gain : (⟨1, ![128]⟩ : Shape).Idx → EReal) (z : (⟨3, ![4, 2048, 512]⟩ : Shape).Idx → EReal) (b : Fin 4) (t : Fin 2048) (y : Fin 512) : EReal :=
  gated (out (x b ⟨y.val / 128, by omega⟩) (t.val / 64) ⟨t.val % 64, by omega⟩) (fun l => gain (ix1 l))
    (fun l => z (ix3 b t (chan ⟨y.val / 128, by omega⟩ l))) ⟨y.val % 128, by omega⟩

theorem statesArr_at (i : (⟨4, ![128, 4, 128, 128]⟩ : Shape).Idx) (b : Fin 4) (j : Fin 32) (h : Fin 4) (d e : Fin 128)
    (h0 : (i 0).val = b.val * 32 + j.val) (h1 : (i 1).val = h.val) (h2 : (i 2).val = d.val) (h3 : (i 3).val = e.val) :
    statesArr x i = state (x b h) j.val d e := by
  have hj := j.isLt
  unfold statesArr
  have a0 : (i 0).val / 32 = b.val := by omega
  have a1 : (i 0).val % 32 = j.val := by omega
  rw [a1, show i 1 = h from Fin.ext h1, show i 2 = d from Fin.ext h2, show i 3 = e from Fin.ext h3,
    show (⟨(i 0).val / 32, _⟩ : Fin 4) = b from Fin.ext a0]

theorem outsArr_at (i : (⟨4, ![128, 4, 64, 128]⟩ : Shape).Idx) (b : Fin 4) (j : Fin 32) (h : Fin 4) (r : Fin 64) (e : Fin 128)
    (h0 : (i 0).val = b.val * 32 + j.val) (h1 : (i 1).val = h.val) (h2 : (i 2).val = r.val) (h3 : (i 3).val = e.val) :
    outsArr x i = out (x b h) j.val r e := by
  have hj := j.isLt
  unfold outsArr
  have a0 : (i 0).val / 32 = b.val := by omega
  have a1 : (i 0).val % 32 = j.val := by omega
  rw [a1, show i 1 = h from Fin.ext h1, show i 2 = r from Fin.ext h2, show i 3 = e from Fin.ext h3,
    show (⟨(i 0).val / 32, _⟩ : Fin 4) = b from Fin.ext a0]

theorem yAt_chan (gain : (⟨1, ![128]⟩ : Shape).Idx → EReal) (z : (⟨3, ![4, 2048, 512]⟩ : Shape).Idx → EReal) (b : Fin 4) (t : Fin 2048) (h : Fin 4)
    (l : Fin 128) : yAt x gain z b t (chan h l)
    = gated (out (x b h) (t.val / 64) ⟨t.val % 64, by omega⟩) (fun l => gain (ix1 l)) (fun l => z (ix3 b t (chan h l))) l := by
  have hh : (⟨(chan h l).val / 128, by omega⟩ : Fin 4) = h := Fin.ext (by show (h.val * 128 + l.val) / 128 = h.val; omega)
  have hl : (⟨(chan h l).val % 128, by omega⟩ : Fin 128) = l := Fin.ext (by show (h.val * 128 + l.val) % 128 = l.val; omega)
  unfold yAt
  rw [hh, hl]

end Cert.Grad.Delta
-- ==== Proof.DnRecurPoint.lean ====
module

public import proofs.«01_k».proof.Proof.Delta
public import proofs.«01_k».proof.Proof.LeadSum
public import proofs.«01_k».proof.Proof.Gen.DnRecurFwdIdeal.Frame
public import Idealize.ShloMosaic.Lib.WholeRead

/-! # The block arithmetic of the delta rule's forward pass -/

@[expose] public section

noncomputable section

open Idealize.ShloMosaic Idealize.ShloMosaic.TcCoe Idealize.SL.Sem

namespace Cert.DnRecurFwdIdeal.Value
open Cert.DnRecurFwdIdeal Cert.DnRecurFwdIdeal.Gen Cert.Grad Cert.Grad.Delta

/-- the state of four heads -/
abbrev Acc := FVec Ideal S4x128x128 .f32
/-- one head's state -/
abbrev stOf (s : Acc) (h : Fin 4) : St := fun d e => s (ix3 h d e)
/-- one head's rows of a chunk -/
abbrev rowsOf (x : S1x4x64x128.Idx → EReal) (h : Fin 4) : Chunk := fun r e => x (ix4 0 h r e)

variable (s : Acc) (u : Vec Ideal S1x4x64x128 .f32) (w q k : Vec Ideal S1x4x64x128 .bf16) (a : Vec Ideal S1x4x64x64 .bf16)
  (l : Vec Ideal S1x4x1x128 .f32)

theorem fresh_at (h : Fin 4) (r : Fin 64) (e : Fin 128) :
    k0_pay5 s u w (ix3 h r e) = fresh (stOf s h) (rowsOf u h) (rowsOf w h) r e := by
  pointwise [k0_pay5]; rfl
theorem read_at (h : Fin 4) (r : Fin 64) (e : Fin 128) :
    k0_pay6 s u w q a (ix3 h r e) = read (stOf s h) (rowsOf u h) (rowsOf w h) (rowsOf q h) (fun i j => a (ix4 0 h i j)) r e := by
  pointwise [k0_pay6, fresh_at]; rfl
theorem next_at (h : Fin 4) (d e : Fin 128) :
    k0_pay11 (k0_pay4 k) (k0_pay7 s l) (k0_pay8 s u w) (ix3 h d e)
      = next (stOf s h) (rowsOf u h) (rowsOf w h) (rowsOf k h) (fun e => l (ix4 0 h 0 e)) d e := by
  pointwise [k0_pay11, k0_pay4, k0_pay7, k0_pay8, fresh_at]; rfl
theorem store_at (h : Fin 4) (d e : Fin 128) : k0_pay3 s (ix4 0 h d e) = s (ix3 h d e) := by pointwise [k0_pay3]
theorem put_at (o : FVec Ideal S4x64x128 .f32) (h : Fin 4) (r : Fin 64) (e : Fin 128) : k0_pay12 o (ix4 0 h r e) = o (ix3 h r e) := by
  pointwise [k0_pay12]
theorem start_at (h : Fin 4) (d e : Fin 128) : k0_pay10 (F := Ideal) (ix3 h d e) = 0 := by pointwise [k0_pay10]

/-- what a grid point is given: its buffers and what they hold -/
structure Given where
  c : Dev nD
  i : grid0.Coords
  arg2 : Memref sig .tc .vmem S32x4x64x128 .f32
  h2 : arg2.IsWhole
  arg3 : Memref sig .tc .vmem S32x4x64x128 .bf16
  h3 : arg3.IsWhole
  arg4 : Memref sig .tc .vmem S32x4x64x128 .bf16
  h4 : arg4.IsWhole
  arg5 : Memref sig .tc .vmem S32x4x64x128 .bf16
  h5 : arg5.IsWhole
  arg6 : Memref sig .tc .vmem S32x4x64x64 .bf16
  h6 : arg6.IsWhole
  arg7 : Memref sig .tc .vmem S32x4x1x128 .f32
  h7 : arg7.IsWhole
  arg8 : Memref sig .tc .vmem S2048x512 .f32
  h8 : arg8.IsWhole
  arg9 : Memref sig .tc .vmem S1x128 .f32
  h9 : arg9.IsWhole
  arg10 : Memref sig .tc .vmem S2048x512 .bf16
  h10 : arg10.IsWhole
  arg11 : Memref sig .tc .vmem S32x4x128x128 .bf16
  h11 : arg11.IsWhole
  arg12 : Memref sig .tc .vmem S32x4x64x128 .f32
  h12 : arg12.IsWhole
  x0 : Vec Ideal S32x4x64x128 .f32
  x1 : Vec Ideal S32x4x64x128 .bf16
  x2 : Vec Ideal S32x4x64x128 .bf16
  x3 : Vec Ideal S32x4x64x128 .bf16
  x4 : Vec Ideal S32x4x64x64 .bf16
  x5 : Vec Ideal S32x4x1x128 .f32
  x6 : Vec Ideal S2048x512 .f32
  x7 : Vec Ideal S1x128 .f32

variable (g : Given)

/-- one trip of the point's loop -/
abbrev Given.trip (n : Fin k0_t1_loop.trips) :=
  trip_k0_t1 (F := Ideal) Variants.none g.c none g.i g.arg2 g.h2 g.arg3 g.h3 g.arg4 g.h4 g.arg5 g.h5 g.arg6 g.h6 g.arg7 g.h7 g.arg8 g.h8
    g.arg9 g.h9 g.arg10 g.h10 g.arg11 g.h11 g.arg12 g.h12 (g.h2.unread g.x0) (g.h3.unread g.x1) (g.h4.unread g.x2) (g.h5.unread g.x3)
    (g.h6.unread g.x4) (g.h7.unread g.x5) n

theorem trips : k0_t1_loop.trips = 32 := by decide
/-- the chunk of a trip -/
abbrev chunkOf (n : Fin k0_t1_loop.trips) : Fin 32 := ⟨n.val, lt_of_lt_of_eq n.isLt trips⟩

theorem chunk_nat (n : Fin k0_t1_loop.trips) : chunkOf n = Fin.ofNat 32 n.val :=
  Fin.ext (Nat.mod_eq_of_lt (lt_of_lt_of_eq n.isLt trips)).symm

theorem off1 : ∀ (n : Fin k0_t1_loop.trips) (i : Fin 4), k0_off1 n i = (![n.val, 0, 0, 0] : Fin 4 → ℕ) i := by decide
theorem off2 : ∀ (n : Fin k0_t1_loop.trips) (i : Fin 4), k0_off2 n i = (![n.val, 0, 0, 0] : Fin 4 → ℕ) i := by decide
theorem off3 : ∀ (n : Fin k0_t1_loop.trips) (i : Fin 4), k0_off3 n i = (![n.val, 0, 0, 0] : Fin 4 → ℕ) i := by decide
theorem off4 : ∀ (n : Fin k0_t1_loop.trips) (i : Fin 4), k0_off4 n i = (![n.val, 0, 0, 0] : Fin 4 → ℕ) i := by decide

/-- a chunk read out of a whole buffer -/
theorem chunk_read {A B : ℕ} {e : EltTy} (M : Memref sig .tc .vmem ⟨4, ![32, 4, A, B]⟩ e) (hM : M.IsWhole)
    (X : (⟨4, ![32, 4, A, B]⟩ : Shape).Idx → Elt Ideal e) (off : Fin 4 → ℕ) (n : Fin k0_t1_loop.trips)
    (hoff : ∀ i, off i = (![n.val, 0, 0, 0] : Fin 4 → ℕ) i) (inb) (h : Fin 4) (r : Fin A) (l : Fin B) :
    M.view.readAt (Elt Ideal) (Rect.unit (s := ⟨4, ![32, 4, A, B]⟩) off ![1, 4, A, B] inb).toLoadRect (hM.unread X) (ix4 0 h r l)
      = X (ix4 (Fin.ofNat 32 n.val) h r l) := by
  rw [← chunk_nat, Memref.IsWhole.readAt_unread]
  refine congrArg X (funext fun i => Fin.ext ?_)
  show off i + 1 * ((ix4 (0 : Fin 1) h r l) i).val = _
  rw [hoff i]
  match i with
  | 0 => show n.val + 1 * 0 = n.val; omega
  | 1 => show 0 + 1 * h.val = h.val; omega
  | 2 => show 0 + 1 * r.val = r.val; omega
  | 3 => show 0 + 1 * l.val = l.val; omega

/-- the streams of a head, as the point is given them -/
def Given.head (h : Fin 4) : Head where
  u n r e := g.x0 (ix4 (Fin.ofNat 32 n) h r e)
  w n r e := g.x1 (ix4 (Fin.ofNat 32 n) h r e)
  q n r e := g.x2 (ix4 (Fin.ofNat 32 n) h r e)
  k n r e := g.x3 (ix4 (Fin.ofNat 32 n) h r e)
  a n i j := g.x4 (ix4 (Fin.ofNat 32 n) h i j)
  l n e := g.x5 (ix4 (Fin.ofNat 32 n) h 0 e)

theorem trip_next (n : Fin k0_t1_loop.trips) (s : Acc) (h : Fin 4) (d e : Fin 128) : (g.trip n).1 s (ix3 h d e)
    = next (stOf s h) ((g.head h).u n) ((g.head h).w n) ((g.head h).k n) ((g.head h).l n) d e := by
  unfold Given.trip trip_k0_t1
  dsimp only
  unfold trip_k0_t1.sl.r trip_k0_t1.sl.r_2 trip_k0_t1.sl.r_3
  rw [next_at]
  congr 1
  · funext r e; exact chunk_read g.arg2 g.h2 g.x0 _ n (off2 n) _ h r e
  · funext r e; exact chunk_read g.arg3 g.h3 g.x1 _ n (off2 n) _ h r e
  · funext r e; exact chunk_read g.arg5 g.h5 g.x3 _ n (off2 n) _ h r e
  · funext e; exact chunk_read g.arg7 g.h7 g.x5 _ n (off4 n) _ h 0 e

/-- a store of one chunk over earlier stores, read at that chunk and at another -/
theorem canon_chunk {A B : ℕ} {e : EltTy} (off : Fin 4 → ℕ) (n : Fin k0_t1_loop.trips)
    (hoff : ∀ i, off i = (![n.val, 0, 0, 0] : Fin 4 → ℕ) i) (inb) (v : (⟨4, ![1, 4, A, B]⟩ : Shape).Idx → Elt Ideal e)
    (T : List (View.Piece (Elt Ideal) ⟨4, ![32, 4, A, B]⟩ e)) (j : Fin 32) (h : Fin 4) (r : Fin A) (l : Fin B) :
    View.canon (⟨Rect.unit (s := ⟨4, ![32, 4, A, B]⟩) off ![1, 4, A, B] inb, v⟩ :: T) (ix4 j h r l)
      = if (j : ℕ) = n.val then v (ix4 0 h r l) else View.canon T (ix4 j h r l) := by
  by_cases hj : (j : ℕ) = n.val
  · rw [if_pos hj]
    refine Eq.trans (congrArg _ ?_) (View.canon_cons_emb (Rect.unit (s := ⟨4, ![32, 4, A, B]⟩) off ![1, 4, A, B] inb) v T
      (ix4 0 h r l))
    refine funext fun i => Fin.ext ?_
    show _ = off i + 1 * ((ix4 (0 : Fin 1) h r l) i).val
    rw [hoff i]
    match i with
    | 0 => show j.val = n.val + 1 * 0; omega
    | 1 => show h.val = 0 + 1 * h.val; omega
    | 2 => show r.val = 0 + 1 * r.val; omega
    | 3 => show l.val = 0 + 1 * l.val; omega
  · rw [if_neg hj, View.canon_cons_of_not_mem]
    rw [Rect.mem_set_unit]
    intro hall
    have h0 := hall 0
    rw [hoff 0] at h0
    have h1 : n.val ≤ (j : ℕ) := h0.1
    have h2 : (j : ℕ) < n.val + 1 := h0.2
    omega

theorem trip_state (n : Fin k0_t1_loop.trips) (s : Acc) (T) (j : Fin 32) (h : Fin 4) (d e : Fin 128) :
    View.canon ((g.trip n).2.1 s ++ T) (ix4 j h d e) = if (j : ℕ) = n.val then s (ix3 h d e) else View.canon T (ix4 j h d e) := by
  unfold Given.trip trip_k0_t1
  dsimp only
  refine (canon_chunk (k0_off1 n) n (off1 n) _ (k0_pay3 s) T j h d e).trans ?_
  rw [store_at]

theorem trip_out (n : Fin k0_t1_loop.trips) (s : Acc) (T) (j : Fin 32) (h : Fin 4) (r : Fin 64) (e : Fin 128) :
    View.canon ((g.trip n).2.2.1 s ++ T) (ix4 j h r e) = if (j : ℕ) = n.val then
      read (stOf s h) ((g.head h).u n) ((g.head h).w n) ((g.head h).q n) ((g.head h).a n) r e else View.canon T (ix4 j h r e) := by
  unfold Given.trip trip_k0_t1
  dsimp only
  unfold trip_k0_t1.sl.r_1
  refine (canon_chunk (k0_off2 n) n (off2 n) _ _ T j h r e).trans ?_
  rw [put_at, read_at]
  refine if_congr Iff.rfl ?_ rfl
  congr 1
  · funext r e; exact chunk_read g.arg2 g.h2 g.x0 _ n (off2 n) _ h r e
  · funext r e; exact chunk_read g.arg3 g.h3 g.x1 _ n (off2 n) _ h r e
  · funext r e; exact chunk_read g.arg4 g.h4 g.x2 _ n (off2 n) _ h r e
  · funext r e; exact chunk_read g.arg6 g.h6 g.x4 _ n (off3 n) _ h r e

/-- the loop's value and stores before a trip -/
abbrev Given.st (n : ℕ) :=
  st_k0_t1 (F := Ideal) Variants.none g.c none g.i g.arg2 g.h2 g.arg3 g.h3 g.arg4 g.h4 g.arg5 g.h5 g.arg6 g.h6 g.arg7 g.h7 g.arg8 g.h8
    g.arg9 g.h9 g.arg10 g.h10 g.arg11 g.h11 g.arg12 g.h12 (g.h2.unread g.x0) (g.h3.unread g.x1) (g.h4.unread g.x2) (g.h5.unread g.x3)
    (g.h6.unread g.x4) (g.h7.unread g.x5) k0_pay10 n

theorem st_next (n : Fin k0_t1_loop.trips) : g.st (n.val + 1)
    = ((g.trip n).1 (g.st n).1, (g.trip n).2.1 (g.st n).1 ++ (g.st n).2.1, (g.trip n).2.2.1 (g.st n).1 ++ (g.st n).2.2) :=
  st_k0_t1_succ ..

/-- the value carried by the loop is the recurrence's -/
theorem st_acc (h : Fin 4) (n : ℕ) (hn : n ≤ 32) : stOf (g.st n).1 h = state (g.head h) n := by
  induction n with
  | zero => funext d e; exact start_at h d e
  | succ n ih =>
    funext d e
    have hs := st_next g ⟨n, lt_of_lt_of_eq hn trips.symm⟩
    rw [show g.st (n + 1) = _ from hs]
    refine (trip_next g ⟨n, lt_of_lt_of_eq hn trips.symm⟩ _ h d e).trans ?_
    rw [ih (by omega)]; rfl

/-- the states stored before a trip -/
theorem st_states (T) (n : ℕ) (hn : n ≤ 32) (j : Fin 32) (hj : (j : ℕ) < n) (h : Fin 4) (d e : Fin 128) :
    View.canon ((g.st n).2.1 ++ T) (ix4 j h d e) = state (g.head h) j d e := by
  induction n with
  | zero => omega
  | succ n ih =>
    have hs := st_next g ⟨n, lt_of_lt_of_eq hn trips.symm⟩
    rw [show g.st (n + 1) = _ from hs]
    dsimp only
    rw [List.append_assoc, trip_state]
    split
    · rename_i hq
      rw [hq]; exact congrFun (congrFun (st_acc g h n (by omega)) d) e
    · rename_i hq
      exact ih (by omega) (by have : (j : ℕ) ≠ n := hq; omega)

/-- the rows stored before a trip -/
theorem st_outs (T) (n : ℕ) (hn : n ≤ 32) (j : Fin 32) (hj : (j : ℕ) < n) (h : Fin 4) (r : Fin 64) (e : Fin 128) :
    View.canon ((g.st n).2.2 ++ T) (ix4 j h r e) = out (g.head h) j r e := by
  induction n with
  | zero => omega
  | succ n ih =>
    have hs := st_next g ⟨n, lt_of_lt_of_eq hn trips.symm⟩
    rw [show g.st (n + 1) = _ from hs]
    dsimp only
    rw [List.append_assoc, trip_out]
    split
    · rename_i hq
      rw [hq, st_acc g h n (by omega)]; rfl
    · rename_i hq
      exact ih (by omega) (by have : (j : ℕ) ≠ n := hq; omega)

theorem outs_at (h : Fin 4) (j : Fin 32) (r : Fin 64) (e : Fin 128) :
    out0_A_10 (F := Ideal) g.c g.i g.arg2 g.h2 g.arg3 g.h3 g.arg4 g.h4 g.arg5 g.h5 g.arg6 g.h6 g.arg7 g.h7 g.arg8 g.h8
      g.arg9 g.h9 g.arg10 g.h10 g.arg11 g.h11 g.arg12 g.h12 g.x0 g.x1 g.x2 g.x3 g.x4 g.x5 g.x6 g.x7 (ix4 j h r e) = out (g.head h) j r e := by
  unfold out0_A_10
  rw [View.read_writes_eq_canon _ _ _ (fun _ => cover0_A_10 ..)]
  unfold kernelRun0_A
  dsimp only
  exact st_outs g _ 32 le_rfl j j.isLt h r e
theorem states_at (h : Fin 4) (j : Fin 32) (d e : Fin 128) :
    out0_A_9 (F := Ideal) g.c g.i g.arg2 g.h2 g.arg3 g.h3 g.arg4 g.h4 g.arg5 g.h5 g.arg6 g.h6 g.arg7 g.h7 g.arg8 g.h8
      g.arg9 g.h9 g.arg10 g.h10 g.arg11 g.h11 g.arg12 g.h12 g.x0 g.x1 g.x2 g.x3 g.x4 g.x5 g.x6 g.x7 (ix4 j h d e) = state (g.head h) j d e := by
  unfold out0_A_9
  rw [View.read_writes_eq_canon _ _ _ (fun _ => cover0_A_9 ..)]
  unfold kernelRun0_A
  dsimp only
  have := st_states g [] 32 le_rfl j j.isLt h d e
  rw [List.append_nil] at this
  exact this

variable (o : Vec Ideal S32x1x64x128 .f32) (z : Vec Ideal S2048x128 .f32) (gain : Vec Ideal S1x128 .f32)

/-- the rows of a head's chunks, one after another -/
abbrev rowOf (r : Fin 2048) : Fin 128 → EReal := fun l => o (ix4 ⟨r.val / 64, by omega⟩ 0 ⟨r.val % 64, by omega⟩ l)

theorem y0_at (r : Fin 2048) (l : Fin 128) :
    k0_pay13 o z gain (ix2 r l) = gated (rowOf o r) (fun l => gain (ix2 0 l)) (fun l => z (ix2 r l)) l := by
  pointwise [k0_pay13]; rfl
theorem y1_at (r : Fin 2048) (l : Fin 128) :
    k0_pay14 o z gain (ix2 r l) = gated (rowOf o r) (fun l => gain (ix2 0 l)) (fun l => z (ix2 r l)) l := by
  pointwise [k0_pay14]; rfl
theorem y2_at (r : Fin 2048) (l : Fin 128) : k0_pay1 (k0_pay15 o) (k0_pay16 z) (k0_pay17 gain) (k0_pay18 o) (ix2 r l)
    = gated (rowOf o r) (fun l => gain (ix2 0 l)) (fun l => z (ix2 r l)) l := by
  pointwise [k0_pay1, k0_pay15, k0_pay16, k0_pay17, k0_pay18]; rfl
theorem y3_at (r : Fin 2048) (l : Fin 128) :
    k0_pay2 o z gain (ix2 r l) = gated (rowOf o r) (fun l => gain (ix2 0 l)) (fun l => z (ix2 r l)) l := by
  pointwise [k0_pay2]; rfl

/-- a head's rows, read back from the stores of the loop -/
theorem back_at {sig : RefSig} {κ : Kind} {sp : Space} (v : View sig κ sp S32x4x64x128 .f32) (T) (h : Fin 4) (off : Fin 4 → ℕ)
    (hoff : ∀ i, off i = (![0, h.val, 0, 0] : Fin 4 → ℕ) i) (inb) (r : Fin 2048) :
    rowOf (v.readCov ((g.st 32).2.2 ++ T) (Rect.unit (s := S32x4x64x128) off ![32, 1, 64, 128] inb).toLoadRect) r
      = out (g.head h) (r.val / 64) ⟨r.val % 64, by omega⟩ := by
  funext l
  unfold rowOf
  rw [View.readCov_eq_canon']
  refine (congrArg _ (funext fun i => Fin.ext ?_)).trans
    (st_outs g T 32 le_rfl (⟨r.val / 64, by omega⟩ : Fin 32) (by show r.val / 64 < 32; omega) h ⟨r.val % 64, by omega⟩ l)
  show off i + 1 * ((ix4 (⟨r.val / 64, by omega⟩ : Fin 32) (0 : Fin 1) (⟨r.val % 64, by omega⟩ : Fin 64) l) i).val = _
  rw [hoff i]
  match i with
  | 0 => show 0 + 1 * (r.val / 64) = r.val / 64; omega
  | 1 => show h.val + 1 * 0 = h.val; omega
  | 2 => show 0 + 1 * (r.val % 64) = r.val % 64; omega
  | 3 => show 0 + 1 * l.val = l.val; omega

/-- a head's columns, read out of the block of channels -/
theorem cols_read (h : Fin 4) (off : Fin 2 → ℕ) (hoff : ∀ i, off i = (![0, h.val * 128] : Fin 2 → ℕ) i) (inb) (r : Fin 2048) (l : Fin 128) :
    g.arg8.view.readAt (Elt Ideal) (Rect.unit (s := S2048x512) off ![2048, 128] inb).toLoadRect (g.h8.unread g.x6) (ix2 r l)
      = g.x6 (ix2 r (chan h l)) := by
  rw [Memref.IsWhole.readAt_unread]
  refine congrArg g.x6 (funext fun i => Fin.ext ?_)
  show off i + 1 * ((ix2 r l) i).val = _
  rw [hoff i]
  match i with
  | 0 => show 0 + 1 * r.val = r.val; omega
  | 1 => show h.val * 128 + 1 * l.val = h.val * 128 + l.val; omega

/-- the gain as it is read -/
theorem gain_read (inb) (l : Fin 128) :
    g.arg9.view.readAt (Elt Ideal) (Rect.unit (s := S1x128) ![0, 0] ![1, 128] inb).toLoadRect (g.h9.unread g.x7) (ix2 0 l)
      = g.x7 (ix2 0 l) := by
  rw [Memref.IsWhole.readAt_unread]
  refine congrArg g.x7 (funext fun i => Fin.ext ?_)
  show (![0, 0] : Fin 2 → ℕ) i + 1 * ((ix2 (0 : Fin 1) l) i).val = _
  match i with
  | 0 => rfl
  | 1 => show 0 + 1 * l.val = l.val; omega

/-- a store of a head's columns, read at that head and at another -/
theorem canon_cols (h j : Fin 4) (off : Fin 2 → ℕ) (hoff : ∀ i, off i = (![0, h.val * 128] : Fin 2 → ℕ) i) (inb)
    (v : S2048x128.Idx → Elt Ideal .bf16) (T : List (View.Piece (Elt Ideal) S2048x512 .bf16)) (r : Fin 2048) (l : Fin 128) :
    View.canon (⟨Rect.unit (s := S2048x512) off ![2048, 128] inb, v⟩ :: T) (ix2 r (chan j l))
      = if j = h then v (ix2 r l) else View.canon T (ix2 r (chan j l)) := by
  by_cases hj : j = h
  · subst hj
    rw [if_pos rfl]
    refine Eq.trans (congrArg _ ?_) (View.canon_cons_emb (Rect.unit (s := S2048x512) off ![2048, 128] inb) v T (ix2 r l))
    refine funext fun i => Fin.ext ?_
    show _ = off i + 1 * ((ix2 r l) i).val
    rw [hoff i]
    match i with
    | 0 => show r.val = 0 + 1 * r.val; omega
    | 1 => show j.val * 128 + l.val = j.val * 128 + 1 * l.val; omega
  · rw [if_neg hj, View.canon_cons_of_not_mem]
    rw [Rect.mem_set_unit]
    intro hall
    have h0 := hall 1
    rw [hoff 1] at h0
    have h1 : h.val * 128 ≤ j.val * 128 + l.val := h0.1
    have h2 : j.val * 128 + l.val < h.val * 128 + 128 := h0.2
    exact hj (Fin.ext (by omega))

/-- the rows the point writes -/
def Given.rows : Vec Ideal S2048x512 .bf16 :=
    out0_A_8 (F := Ideal) g.c g.i g.arg2 g.h2 g.arg3 g.h3 g.arg4 g.h4 g.arg5 g.h5 g.arg6 g.h6 g.arg7 g.h7 g.arg8 g.h8
      g.arg9 g.h9 g.arg10 g.h10 g.arg11 g.h11 g.arg12 g.h12 g.x0 g.x1 g.x2 g.x3 g.x4 g.x5 g.x6 g.x7

/-- they are normalised and gated -/
theorem y_at (h : Fin 4) (r : Fin 2048) (l : Fin 128) :
    g.rows (ix2 r (chan h l))
      = gated (out (g.head h) (r.val / 64) ⟨r.val % 64, by omega⟩) (fun l => g.x7 (ix2 0 l)) (fun l => g.x6 (ix2 r (chan h l))) l := by
  unfold Given.rows out0_A_8
  rw [View.read_writes_eq_canon _ _ _ (fun _ => cover0_A_8 ..)]
  unfold kernelRun0_A
  dsimp only
  have e3 : ∀ i, (![0, 384] : Fin 2 → ℕ) i = (![0, (3 : Fin 4).val * 128] : Fin 2 → ℕ) i := by decide
  have e2 : ∀ i, (![0, 256] : Fin 2 → ℕ) i = (![0, (2 : Fin 4).val * 128] : Fin 2 → ℕ) i := by decide
  have e1 : ∀ i, (![0, 128] : Fin 2 → ℕ) i = (![0, (1 : Fin 4).val * 128] : Fin 2 → ℕ) i := by decide
  have e0 : ∀ i, (![0, 0] : Fin 2 → ℕ) i = (![0, (0 : Fin 4).val * 128] : Fin 2 → ℕ) i := by decide
  have f3 : ∀ i, (![0, 3, 0, 0] : Fin 4 → ℕ) i = (![0, (3 : Fin 4).val, 0, 0] : Fin 4 → ℕ) i := by decide
  have f2 : ∀ i, (![0, 2, 0, 0] : Fin 4 → ℕ) i = (![0, (2 : Fin 4).val, 0, 0] : Fin 4 → ℕ) i := by decide
  have f1 : ∀ i, (![0, 1, 0, 0] : Fin 4 → ℕ) i = (![0, (1 : Fin 4).val, 0, 0] : Fin 4 → ℕ) i := by decide
  have f0 : ∀ i, (![0, 0, 0, 0] : Fin 4 → ℕ) i = (![0, (0 : Fin 4).val, 0, 0] : Fin 4 → ℕ) i := by decide
  refine (canon_cols 3 h _ e3 _ _ _ r l).trans ?_
  by_cases h3 : h = 3
  · subst h3
    rw [if_pos rfl, y3_at]
    congr 1
    · exact back_at g _ _ 3 _ f3 _ r
    · funext l; exact gain_read g _ l
    · funext l; exact cols_read g 3 _ e3 _ r l
  rw [if_neg h3]
  refine (canon_cols 2 h _ e2 _ _ _ r l).trans ?_
  by_cases h2 : h = 2
  · subst h2
    rw [if_pos rfl]
    refine (y2_at _ _ _ r l).trans ?_
    congr 1
    · exact back_at g _ _ 2 _ f2 _ r
    · funext l; exact gain_read g _ l
    · funext l; exact cols_read g 2 _ e2 _ r l
  rw [if_neg h2]
  refine (canon_cols 1 h _ e1 _ _ _ r l).trans ?_
  by_cases h1 : h = 1
  · subst h1
    rw [if_pos rfl, y1_at]
    congr 1
    · exact back_at g _ _ 1 _ f1 _ r
    · funext l; exact gain_read g _ l
    · funext l; exact cols_read g 1 _ e1 _ r l
  rw [if_neg h1]
  refine (canon_cols 0 h _ e0 _ _ _ r l).trans ?_
  obtain rfl : h = 0 := by omega
  rw [if_pos rfl, y0_at]
  congr 1
  · exact back_at g _ _ 0 _ f0 _ r
  · funext l; exact gain_read g _ l
  · funext l; exact cols_read g 0 _ e0 _ r l
end Cert.DnRecurFwdIdeal.Value
-- ==== Proof.DnRecurArrays.lean ====
module

public import proofs.«01_k».proof.Proof.DnRecurPoint
public import proofs.«01_k».proof.Proof.Shift
public import proofs.«01_k».proof.Proof.Gen.DnRecurFwdIdeal.Value
public import Idealize.ShloMosaic.Lib.StableHlo.ReadAt

/-! # The result arrays of the delta rule's forward pass

Point `p` works on the sequence `p`. -/

@[expose] public section

noncomputable section

open Idealize.ShloMosaic Idealize.ShloMosaic.TcCoe Idealize.SL.Sem

namespace Cert.DnRecurFwdIdeal.Value
open Cert.DnRecurFwdIdeal Cert.DnRecurFwdIdeal.Gen Cert.Grad Cert.Grad.Delta

/-- every window's block index at every point -/
theorem idx : ∀ t : Fin cfg0.N, win0_0.index t = ![t.val, 0, 0, 0] ∧ win0_1.index t = ![t.val, 0, 0, 0]
    ∧ win0_2.index t = ![t.val, 0, 0, 0] ∧ win0_3.index t = ![t.val, 0, 0, 0] ∧ win0_4.index t = ![t.val, 0, 0, 0]
    ∧ win0_5.index t = ![t.val, 0, 0, 0] ∧ win0_6.index t = ![t.val, 0] ∧ win0_7.index t = ![0, 0] ∧ win0_8.index t = ![t.val, 0]
    ∧ win0_9.index t = ![t.val, 0, 0, 0] ∧ win0_10.index t = ![t.val, 0, 0, 0] :=
  (by decide +kernel : ∀ t : Fin grid0.N, _)

/-- four points -/
theorem lt4 (p : Fin cfg0.N) : p.val < 4 := lt_of_lt_of_eq p.isLt N_0
/-- the sequence of a point -/
abbrev bOf (p : Fin cfg0.N) : Fin 4 := ⟨p.val, lt4 p⟩

variable (m : (ℓ : Loc nD τ sig) → Buf (Elt Ideal) ℓ) (c : Dev nD)

abbrev argU : S4x4x32x64x128.Idx → EReal := m ((c : Thread nD τ).loc main_arg0)
abbrev argW : S4x4x32x64x128.Idx → EReal := m ((c : Thread nD τ).loc main_arg1)
abbrev argQ : S4x4x32x64x128.Idx → EReal := m ((c : Thread nD τ).loc main_arg2)
abbrev argA : S4x4x32x64x64.Idx → EReal := m ((c : Thread nD τ).loc main_arg3)
abbrev argK : S4x4x32x64x128.Idx → EReal := m ((c : Thread nD τ).loc main_arg4)
abbrev argL : S4x4x32x128.Idx → EReal := m ((c : Thread nD τ).loc main_arg5)
abbrev argZ : S4x2048x512.Idx → EReal := m ((c : Thread nD τ).loc main_arg6)
abbrev argG : S128.Idx → EReal := m ((c : Thread nD τ).loc main_arg7)

/-- a row of the stacked chunks, in its sequence and chunk -/
theorem stacked {A B : ℕ} (x : (⟨5, ![4, 4, 32, A, B]⟩ : Shape).Idx → EReal) (i : (⟨4, ![128, 4, A, B]⟩ : Shape).Idx) (b : Fin 4) (j : Fin 32)
    (h : Fin 4) (r : Fin A) (l : Fin B) (h0 : (i 0).val = b.val * 32 + j.val) (h1 : (i 1).val = h.val) (h2 : (i 2).val = r.val)
    (h3 : (i 3).val = l.val) (q0 q1) : x (ix5 (⟨(i 0).val / 32, q0⟩ : Fin 4) (i 1) (⟨(i 0).val % 32, q1⟩ : Fin 32) (i 2) (i 3)) = x (ix5 b h j r l) := by
  have hj := j.isLt
  refine congrArg x (funext fun a => Fin.ext ?_)
  match a with
  | 0 => show (i 0).val / 32 = b.val; omega
  | 1 => exact h1
  | 2 => show (i 0).val % 32 = j.val; omega
  | 3 => exact h2
  | 4 => exact h3

theorem blk_u (p : Fin cfg0.N) (j : Fin 32) (h : Fin 4) (r : Fin 64) (l : Fin 128) :
    (iblk m c 0 p : S32x4x64x128.Idx → EReal) (ix4 j h r l) = argU m c (ix5 (bOf p) h j r l) := by
  blk_simp [iblk]
  unfold_abbrev_sides
  simp only [hostOps0, List.flatten_singleton]
  after_reads_at
  exact stacked (argU m c) _ (bOf p) j h r l (by blk_ext [idx p]) (by blk_ext [idx p]) (by blk_ext [idx p]) (by blk_ext [idx p]) _ _

theorem blk_w (p : Fin cfg0.N) (j : Fin 32) (h : Fin 4) (r : Fin 64) (l : Fin 128) :
    (iblk m c 1 p : S32x4x64x128.Idx → EReal) (ix4 j h r l) = argW m c (ix5 (bOf p) h j r l) := by
  blk_simp [iblk]
  unfold_abbrev_sides
  simp only [hostOps0, List.flatten_singleton]
  after_reads_at
  exact stacked (argW m c) _ (bOf p) j h r l (by blk_ext [idx p]) (by blk_ext [idx p]) (by blk_ext [idx p]) (by blk_ext [idx p]) _ _

theorem blk_q (p : Fin cfg0.N) (j : Fin 32) (h : Fin 4) (r : Fin 64) (l : Fin 128) :
    (iblk m c 2 p : S32x4x64x128.Idx → EReal) (ix4 j h r l) = argQ m c (ix5 (bOf p) h j r l) := by
  blk_simp [iblk]
  unfold_abbrev_sides
  simp only [hostOps0, List.flatten_singleton]
  after_reads_at
  exact stacked (argQ m c) _ (bOf p) j h r l (by blk_ext [idx p]) (by blk_ext [idx p]) (by blk_ext [idx p]) (by blk_ext [idx p]) _ _

theorem blk_k (p : Fin cfg0.N) (j : Fin 32) (h : Fin 4) (r : Fin 64) (l : Fin 128) :
    (iblk m c 3 p : S32x4x64x128.Idx → EReal) (ix4 j h r l) = argK m c (ix5 (bOf p) h j r l) := by
  blk_simp [iblk]
  unfold_abbrev_sides
  simp only [hostOps0, List.flatten_singleton]
  after_reads_at
  exact stacked (argK m c) _ (bOf p) j h r l (by blk_ext [idx p]) (by blk_ext [idx p]) (by blk_ext [idx p]) (by blk_ext [idx p]) _ _

theorem blk_a (p : Fin cfg0.N) (j : Fin 32) (h : Fin 4) (r : Fin 64) (l : Fin 64) :
    (iblk m c 4 p : S32x4x64x64.Idx → EReal) (ix4 j h r l) = argA m c (ix5 (bOf p) h j r l) := by
  blk_simp [iblk]
  unfold_abbrev_sides
  simp only [hostOps0, List.flatten_singleton]
  after_reads_at
  exact stacked (argA m c) _ (bOf p) j h r l (by blk_ext [idx p]) (by blk_ext [idx p]) (by blk_ext [idx p]) (by blk_ext [idx p]) _ _

theorem blk_l (p : Fin cfg0.N) (j : Fin 32) (h : Fin 4) (l : Fin 128) :
    (iblk m c 5 p : S32x4x1x128.Idx → EReal) (ix4 j h 0 l) = argL m c (ix4 (bOf p) h j l) := by
  blk_simp [iblk]
  unfold_abbrev_sides
  simp only [hostOps0, List.flatten_singleton]
  after_reads_at
  exact stacked (A := 1) (B := 128) (fun i : (⟨5, ![4, 4, 32, 1, 128]⟩ : Shape).Idx => argL m c (ix4 (i 0) (i 1) (i 2) (i 4))) _ (bOf p) j h 0 l (by blk_ext [idx p]) (by blk_ext [idx p])
    (by blk_ext [idx p]) (by blk_ext [idx p]) _ _

theorem blk_z (p : Fin cfg0.N) (r : Fin 2048) (l : Fin 512) :
    (iblk m c 6 p : S2048x512.Idx → EReal) (ix2 r l) = argZ m c (ix3 (bOf p) r l) := by
  blk_simp [iblk]
  unfold_abbrev_sides
  simp only [hostOps0, List.flatten_singleton]
  after_reads_at
  blk_ext [idx p]

theorem blk_g (p : Fin cfg0.N) (l : Fin 128) : (iblk m c 7 p : S1x128.Idx → EReal) (ix2 0 l) = argG m c (ix1 l) := by
  blk_simp [iblk]
  unfold_abbrev_sides
  simp only [hostOps0, List.flatten_singleton]
  after_reads_at
  blk_ext [idx p]

/-- the heads of every sequence, out of the program's arguments -/
abbrev hds : Heads := heads (argU m c) (argW m c) (argQ m c) (argA m c) (argK m c) (argL m c)

/-- what point `p` is given -/
abbrev given (p : Fin cfg0.N) : Given := ⟨c, grid0.coords p, ms0_0 p, hs0_0 p, ms0_1 p, hs0_1 p, ms0_2 p, hs0_2 p, ms0_3 p, hs0_3 p,
  ms0_4 p, hs0_4 p, ms0_5 p, hs0_5 p, ms0_6 p, hs0_6 p, ms0_7 p, hs0_7 p, ms0_8 p, hs0_8 p, ms0_9 p, hs0_9 p, ms0_10 p, hs0_10 p,
  iblk m c 0 p, iblk m c 1 p, iblk m c 2 p, iblk m c 3 p, iblk m c 4 p, iblk m c 5 p, iblk m c 6 p, iblk m c 7 p⟩

theorem given_head (p : Fin cfg0.N) (h : Fin 4) : (given m c p).head h = hds m c (bOf p) h := by
  unfold Given.head hds heads
  simp only [Head.mk.injEq]
  refine ⟨?_, ?_, ?_, ?_, ?_, ?_⟩
  · funext n r e; exact blk_u m c p _ h r e
  · funext n r e; exact blk_w m c p _ h r e
  · funext n r e; exact blk_q m c p _ h r e
  · funext n r e; exact blk_a m c p _ h r e
  · funext n r e; exact blk_k m c p _ h r e
  · funext n e; exact blk_l m c p _ h e

/-- the second result -/
theorem final_states : (dats m 0 c).arrAt 9 cfg0.N = statesArr (hds m c) := by
  refine (dats m 0 c).arrAt_eq_of_covers 9 _ (by decide +kernel) fun p _ y => ?_
  blk_simp
  rw [after0_9]
  refine Eq.trans ?_ (statesArr_at (hds m c) _ (bOf p) (y 0) (y 1) (y 2) (y 3) (by blk_ext [idx p]) (by blk_ext [idx p]) (by blk_ext [idx p]) (by blk_ext [idx p])).symm
  refine (congrArg _ (eq_ix4 y)).trans ((states_at (given m c p) (y 1) (y 0) (y 2) (y 3)).trans ?_)
  exact congrArg (fun x => state x (y 0).val (y 2) (y 3)) (given_head m c p (y 1))

/-- the third result -/
theorem final_outs : (dats m 0 c).arrAt 10 cfg0.N = outsArr (hds m c) := by
  refine (dats m 0 c).arrAt_eq_of_covers 10 _ (by decide +kernel) fun p _ y => ?_
  blk_simp
  rw [after0_10]
  refine Eq.trans ?_ (outsArr_at (hds m c) _ (bOf p) (y 0) (y 1) (y 2) (y 3) (by blk_ext [idx p]) (by blk_ext [idx p]) (by blk_ext [idx p]) (by blk_ext [idx p])).symm
  refine (congrArg _ (eq_ix4 y)).trans ((outs_at (given m c p) (y 1) (y 0) (y 2) (y 3)).trans ?_)
  exact congrArg (fun x => out x (y 0).val (y 2) (y 3)) (given_head m c p (y 1))

theorem y_out (p : Fin cfg0.N) (r : Fin 2048) (h : Fin 4) (l : Fin 128) :
    (outsAt0 m c p).1 (ix2 r (chan h l)) = yAt (hds m c) (argG m c) (argZ m c) (bOf p) r (chan h l) := by
  rw [yAt_chan, ← given_head]
  have e : (outsAt0 m c p).1 = (given m c p).rows := by
    unfold outsAt0 Given.rows
    dsimp only [given]
  rw [e, y_at]
  congr 1
  · funext l; exact blk_g m c p l
  · funext l; exact blk_z m c p r _

/-- the first result -/
theorem final_y : (dats m 0 c).arrAt 8 cfg0.N = seqRows (yAt (hds m c) (argG m c) (argZ m c)) := by
  refine (dats m 0 c).arrAt_eq_of_covers 8 _ (by decide +kernel) fun p _ y => ?_
  blk_simp
  rw [after0_8]
  refine Eq.trans ?_ (seqRows_at _ _ (bOf p) (y 0) (y 1) (by blk_ext [idx p]) (by blk_ext [idx p])).symm
  obtain ⟨h, l, hx⟩ : ∃ h l, (y 1 : Fin 512) = chan h l := by
    have hy : (y 1).val < 512 := (y 1).isLt
    exact ⟨⟨(y 1).val / 128, by omega⟩, ⟨(y 1).val % 128, by omega⟩, Fin.ext (by show (y 1).val = (y 1).val / 128 * 128 + (y 1).val % 128; omega)⟩
  have e : y = ix2 (y 0) (chan h l) := (eq_ix2 y).trans (congrArg (ix2 (y 0)) hx)
  refine (congrArg _ e).trans ((y_out m c p (y 0) h l).trans ?_)
  exact congrArg (yAt (hds m c) (argG m c) (argZ m c) (bOf p) (y 0)) hx.symm

end Cert.DnRecurFwdIdeal.Value
-- ==== Proof.DnRecurRef.lean ====
module

public import proofs.«01_k».proof.Proof.Delta
public import proofs.«01_k».proof.Proof.LeadSum
public import proofs.«01_k».proof.Proof.Shift
public import proofs.«01_k».proof.Proof.Gen.DnRecurFwdRefIdeal.Run
public import proofs.«01_k».proof.Proof.Gen.DnRecurFwdRefIdeal.Step
public import Idealize.ShloMosaic.Lib.WordCmp

/-! # The delta rule's reference: its scan, chunk by chunk -/

@[expose] public section

noncomputable section

open Idealize.ShloMosaic Idealize.ShloMosaic.TcCoe Idealize.SL.Sem

namespace Cert.DnRecurFwdRefIdeal.Value
open Cert.DnRecurFwdRefIdeal Cert.DnRecurFwdRefIdeal.Gen Cert.DnRecurFwdRefIdeal.Step Idealize.ShloMosaic.StableHlo Idealize.ShloMosaic.WordCmp Cert.Grad Cert.Grad.Delta

section Run
variable {F : FTy → Type} [FloatOps F] (V : Valuation τ sig (Elt F))

/-- the state a valuation holds in the loop's buffers -/
def stOf : State F where
  main_v9_7 := V (Proc.devRef .tc main_v9_7)
  main_v9_8 := V (Proc.devRef .tc main_v9_8)
  main_v9_9 := V (Proc.devRef .tc main_v9_9)
  main_v9_0 := V (Proc.devRef .tc main_v9_0)
  main_v9_1 := V (Proc.devRef .tc main_v9_1)
  main_v9_2 := V (Proc.devRef .tc main_v9_2)
  main_v9_3 := V (Proc.devRef .tc main_v9_3)
  main_v9_4 := V (Proc.devRef .tc main_v9_4)
  main_v9_5 := V (Proc.devRef .tc main_v9_5)

variable {V} {j : ℕ} (hn : V (Proc.devRef .tc main_v9_6) = constantI S_ 32 (BitVec.ofNat 32 j))
include hn

theorem trip7 : step_main_v9_7 V = b44 j (stOf V) := by
  unfold step_main_v9_7 res_main_while0b_v43
  rw [hn]; rfl
theorem trip8 : step_main_v9_8 V = b50 j (stOf V) := by
  unfold step_main_v9_8
  rw [hn]; rfl
theorem trip9 : step_main_v9_9 V = b56 j (stOf V) := by
  unfold step_main_v9_9 res_main_while0b_v43
  rw [hn]; rfl
theorem trip6 : step_main_v9_6 V = constantI S_ 32 (BitVec.ofNat 32 (j + 1)) := by
  unfold step_main_v9_6
  rw [hn]
  funext i
  show BitVec.ofNat 32 j + 1#32 = BitVec.ofNat 32 (j + 1)
  simp only [BitVec.ofNat_add]

/-- one trip of the loop is one step of the state -/
theorem trip_step : stOf (STEP V) = step j (stOf V) := by
  unfold step stOf
  rw [STEP_main_v9_7, STEP_main_v9_8, STEP_main_v9_9, STEP_main_v9_0, STEP_main_v9_1, STEP_main_v9_2, STEP_main_v9_3, STEP_main_v9_4, STEP_main_v9_5,
    trip7 hn, trip8 hn, trip9 hn]
  rfl
end Run

section Entry
variable {F : FTy → Type} [FloatOps F] (m : (ℓ : Loc nD τ sig) → Buf (Elt F) ℓ) (c : Dev nD)

/-- the valuation before trip `n` -/
abbrev valAt (n : ℕ) : Valuation τ sig (Elt F) := STEP^[n] (entryContents preI m c)

/-- the state before trip `n` -/
abbrev stAt (n : ℕ) : State F := stOf (valAt m c n)

/-- the state the loop starts from -/
abbrev start : State F := init (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4)) (m ((c.tc : Thread nD τ).loc main_arg5))

set_option maxRecDepth 65536 in
set_option maxHeartbeats 400000 in
theorem entry_st : stAt m c 0 = start m c := by
  unfold stAt stOf start init valAt
  simp only [State.mk.injEq, Function.iterate_zero, id_eq]
  refine ⟨?_, ?_, ?_, ?_, ?_, ?_, ?_, ?_, ?_⟩ <;> (simp only [entryContents, afterL_cons, afterL_nil]; after_reads_simp) <;> rfl

theorem count_at : ∀ n, valAt m c n (Proc.devRef .tc main_v9_6) = constantI S_ 32 (BitVec.ofNat 32 n)
  | 0 => by
    unfold valAt
    simp only [Function.iterate_zero, id_eq, entryContents, afterL_cons, afterL_nil]
    after_reads_simp
    rfl
  | n + 1 => by
    show (STEP^[n + 1] _) _ = _
    rw [Function.iterate_succ_apply']
    exact (STEP_main_v9_6 _).trans (trip6 (count_at n))

theorem next_st (n : ℕ) : stAt m c (n + 1) = step n (stAt m c n) := by
  show stOf (STEP^[n + 1] _) = _
  rw [Function.iterate_succ_apply']
  exact trip_step (count_at m c n)

end Entry

/-- a chunk sliced out of the stacked chunks -/
theorem slice_at {A B : ℕ} (x : (⟨5, ![32, 4, 4, A, B]⟩ : Shape).Idx → EReal) (start : Fin 5 → Int) (fits) (j : Fin 32)
    (e : ∀ a, start a = ((![j.val, 0, 0, 0, 0] : Fin 5 → ℕ) a : Int)) (b h : Fin 4) (r : Fin A) (l : Fin B) :
    Host.dynamicSlice (s := ⟨5, ![32, 4, 4, A, B]⟩) ⟨5, ![1, 4, 4, A, B]⟩ x start fits (ix5 0 b h r l) = x (ix5 j b h r l) := by
  have hj := j.isLt
  rw [dynamicSlice_eq_extract (s := ⟨5, ![32, 4, 4, A, B]⟩) ⟨5, ![1, 4, 4, A, B]⟩ x start fits ![j.val, 0, 0, 0, 0]
    ⟨rfl, fun a => by
      match a with
      | 0 => show j.val + 1 ≤ 32; omega
      | 1 => show 0 + 4 ≤ 4; omega
      | 2 => show 0 + 4 ≤ 4; omega
      | 3 => show 0 + A ≤ A; omega
      | 4 => show 0 + B ≤ B; omega⟩ e]
  unfold extractStridedSlice
  refine congrArg x (funext fun a => Fin.ext ?_)
  match a with
  | 0 => show j.val + 0 = j.val; omega
  | 1 => show 0 + b.val = b.val; omega
  | 2 => show 0 + h.val = h.val; omega
  | 3 => show 0 + r.val = r.val; omega
  | 4 => show 0 + l.val = l.val; omega

/-- a row sliced out of the stacked rows -/
theorem slice_row {B : ℕ} (x : (⟨4, ![32, 4, 4, B]⟩ : Shape).Idx → EReal) (start : Fin 4 → Int) (fits) (j : Fin 32)
    (e : ∀ a, start a = ((![j.val, 0, 0, 0] : Fin 4 → ℕ) a : Int)) (b h : Fin 4) (l : Fin B) :
    Host.dynamicSlice (s := ⟨4, ![32, 4, 4, B]⟩) ⟨4, ![1, 4, 4, B]⟩ x start fits (ix4 0 b h l) = x (ix4 j b h l) := by
  have hj := j.isLt
  rw [dynamicSlice_eq_extract (s := ⟨4, ![32, 4, 4, B]⟩) ⟨4, ![1, 4, 4, B]⟩ x start fits ![j.val, 0, 0, 0]
    ⟨rfl, fun a => by
      match a with
      | 0 => show j.val + 1 ≤ 32; omega
      | 1 => show 0 + 4 ≤ 4; omega
      | 2 => show 0 + 4 ≤ 4; omega
      | 3 => show 0 + B ≤ B; omega⟩ e]
  unfold extractStridedSlice
  refine congrArg x (funext fun a => Fin.ext ?_)
  match a with
  | 0 => show j.val + 0 = j.val; omega
  | 1 => show 0 + b.val = b.val; omega
  | 2 => show 0 + h.val = h.val; omega
  | 3 => show 0 + l.val = l.val; omega

/-- a chunk put into the stacked chunks -/
theorem put_at {A B : ℕ} (x : (⟨5, ![32, 4, 4, A, B]⟩ : Shape).Idx → EReal) (v : (⟨5, ![1, 4, 4, A, B]⟩ : Shape).Idx → EReal) (start : Fin 5 → Int) (fits)
    (j : Fin 32) (e : ∀ a, start a = ((![j.val, 0, 0, 0, 0] : Fin 5 → ℕ) a : Int)) (i : Fin 32) (b h : Fin 4) (r : Fin A) (l : Fin B) :
    Host.dynamicUpdateSlice (s := ⟨5, ![32, 4, 4, A, B]⟩) (u := ⟨5, ![1, 4, 4, A, B]⟩) x v start fits (ix5 i b h r l)
      = if (i : ℕ) = j.val then v (ix5 0 b h r l) else x (ix5 i b h r l) := by
  have hj := j.isLt
  rw [dynamicUpdateSlice_eq_update (s := ⟨5, ![32, 4, 4, A, B]⟩) (u := ⟨5, ![1, 4, 4, A, B]⟩) x v start fits ![j.val, 0, 0, 0, 0]
    ⟨rfl, fun a => by
      match a with
      | 0 => show j.val + 1 ≤ 32; omega
      | 1 => show 0 + 4 ≤ 4; omega
      | 2 => show 0 + 4 ≤ 4; omega
      | 3 => show 0 + A ≤ A; omega
      | 4 => show 0 + B ≤ B; omega⟩ e]
  unfold updateSlice
  by_cases hi : (i : ℕ) = j.val
  · rw [if_pos hi, dif_pos]
    · refine congrArg v (funext fun a => Fin.ext ?_)
      match a with
      | 0 => show i.val - j.val = 0; omega
      | 1 => show b.val - 0 = b.val; omega
      | 2 => show h.val - 0 = h.val; omega
      | 3 => show r.val - 0 = r.val; omega
      | 4 => show l.val - 0 = l.val; omega
    · intro a
      match a with
      | 0 => show j.val ≤ i.val ∧ i.val < j.val + 1; omega
      | 1 => show 0 ≤ b.val ∧ b.val < 0 + 4; omega
      | 2 => show 0 ≤ h.val ∧ h.val < 0 + 4; omega
      | 3 => show 0 ≤ r.val ∧ r.val < 0 + A; omega
      | 4 => show 0 ≤ l.val ∧ l.val < 0 + B; omega
  · rw [if_neg hi, dif_neg]
    intro hall
    have h0 : j.val ≤ i.val ∧ i.val < j.val + 1 := hall 0
    omega

theorem start_nat (j : Fin 32) : (BitVec.ofNat 32 j.val).toInt = (j.val : Int) :=
  toInt_ofNat_of_lt (by have := j.isLt; omega)

theorem starts5 (j : Fin 32) (a : Fin 5) : ((![constantI S_ 32 (BitVec.ofNat 32 j.val), constantI S_ 32 0#32, constantI S_ 32 0#32, constantI S_ 32 0#32,
    constantI S_ 32 0#32] : Fin 5 → (⟨S_, .i32⟩ : BufTy).Contents (Elt Ideal)) a (Shape.Idx.first h_S_)).toInt = ((![j.val, 0, 0, 0, 0] : Fin 5 → ℕ) a : Int) := by
  match a with
  | 0 => exact start_nat j
  | 1 => rfl
  | 2 => rfl
  | 3 => rfl
  | 4 => rfl

theorem starts4 (j : Fin 32) (a : Fin 4) : ((![constantI S_ 32 (BitVec.ofNat 32 j.val), constantI S_ 32 0#32, constantI S_ 32 0#32,
    constantI S_ 32 0#32] : Fin 4 → (⟨S_, .i32⟩ : BufTy).Contents (Elt Ideal)) a (Shape.Idx.first h_S_)).toInt = ((![j.val, 0, 0, 0] : Fin 4 → ℕ) a : Int) := by
  match a with
  | 0 => exact start_nat j
  | 1 => rfl
  | 2 => rfl
  | 3 => rfl

/-- the streams the loop slices are those of the heads -/
structure Streams (s : State Ideal) (x : Heads) : Prop where
  u : ∀ (j : Fin 32) b h r l, s.main_v9_0 (ix5 j b h r l) = (x b h).u j.val r l
  w : ∀ (j : Fin 32) b h r l, s.main_v9_1 (ix5 j b h r l) = (x b h).w j.val r l
  q : ∀ (j : Fin 32) b h r l, s.main_v9_2 (ix5 j b h r l) = (x b h).q j.val r l
  a : ∀ (j : Fin 32) b h r l, s.main_v9_3 (ix5 j b h r l) = (x b h).a j.val r l
  k : ∀ (j : Fin 32) b h r l, s.main_v9_4 (ix5 j b h r l) = (x b h).k j.val r l
  l : ∀ (j : Fin 32) b h l, s.main_v9_5 (ix4 j b h l) = (x b h).l j.val l

section Trip
variable (j : Fin 32) (s : State Ideal) (x : Heads) (hs : Streams s x) (b h : Fin 4)

/-- the state of one head -/
abbrev held (s : State Ideal) (b h : Fin 4) : St := fun d e => s.main_v9_7 (ix4 b h d e)

include hs

theorem u_at (r : Fin 64) (l : Fin 128) : b5 j.val s (ix4 b h r l) = (x b h).u j.val r l := by
  have e : b4 j.val s (ix5 0 b h r l) = _ := (slice_at _ _ _ j (starts5 j) b h r l).trans (hs.u j b h r l)
  pointwise [b5, e]
theorem w_at (r : Fin 64) (l : Fin 128) : b11 j.val s (ix4 b h r l) = (x b h).w j.val r l := by
  have e : b10 j.val s (ix5 0 b h r l) = _ := (slice_at _ _ _ j (starts5 j) b h r l).trans (hs.w j b h r l)
  pointwise [b11, e]
theorem q_at (r : Fin 64) (l : Fin 128) : b17 j.val s (ix4 b h r l) = (x b h).q j.val r l := by
  have e : b16 j.val s (ix5 0 b h r l) = _ := (slice_at _ _ _ j (starts5 j) b h r l).trans (hs.q j b h r l)
  pointwise [b17, e]
theorem a_at (r : Fin 64) (l : Fin 64) : b23 j.val s (ix4 b h r l) = (x b h).a j.val r l := by
  have e : b22 j.val s (ix5 0 b h r l) = _ := (slice_at _ _ _ j (starts5 j) b h r l).trans (hs.a j b h r l)
  pointwise [b23, e]
theorem k_at (r : Fin 64) (l : Fin 128) : b29 j.val s (ix4 b h r l) = (x b h).k j.val r l := by
  have e : b28 j.val s (ix5 0 b h r l) = _ := (slice_at _ _ _ j (starts5 j) b h r l).trans (hs.k j b h r l)
  pointwise [b29, e]
theorem l_at (l : Fin 128) : b34 j.val s (ix3 b h l) = (x b h).l j.val l := by
  have e : b33 j.val s (ix4 0 b h l) = _ := (slice_row _ _ _ j (starts4 j) b h l).trans (hs.l j b h l)
  pointwise [b34, e]

theorem fresh_at (r : Fin 64) (e : Fin 128) : b36 j.val s (ix4 b h r e) = fresh (held s b h) ((x b h).u j.val) ((x b h).w j.val) r e := by
  pointwise [b36, b35, u_at j s x hs, w_at j s x hs]
  rfl

theorem read_at (r : Fin 64) (e : Fin 128) : b39 j.val s (ix4 b h r e)
    = read (held s b h) ((x b h).u j.val) ((x b h).w j.val) ((x b h).q j.val) ((x b h).a j.val) r e := by
  pointwise [b39, b37, b38, q_at j s x hs, a_at j s x hs, fresh_at j s x hs]
  rfl

theorem state_next (d e : Fin 128) : b44 j.val s (ix4 b h d e)
    = next (held s b h) ((x b h).u j.val) ((x b h).w j.val) ((x b h).k j.val) ((x b h).l j.val) d e := by
  pointwise [b44, b42, b43, b41, b40, k_at j s x hs, l_at j s x hs, fresh_at j s x hs]
  rfl

omit hs in
theorem states_put (i : Fin 32) (d e : Fin 128) : b50 j.val s (ix5 i b h d e)
    = if (i : ℕ) = j.val then held s b h d e else s.main_v9_8 (ix5 i b h d e) := by
  have f : b45 j.val s (ix5 0 b h d e) = held s b h d e := by pointwise [b45]
  exact (put_at _ _ _ _ j (starts5 j) i b h d e).trans (by rw [f])

theorem outs_put (i : Fin 32) (r : Fin 64) (e : Fin 128) : b56 j.val s (ix5 i b h r e)
    = if (i : ℕ) = j.val then read (held s b h) ((x b h).u j.val) ((x b h).w j.val) ((x b h).q j.val) ((x b h).a j.val) r e
      else s.main_v9_9 (ix5 i b h r e) := by
  have f : b51 j.val s (ix5 0 b h r e) = b39 j.val s (ix4 b h r e) := by pointwise [b51]
  exact (put_at _ _ _ _ j (starts5 j) i b h r e).trans (by rw [f, read_at j s x hs])
end Trip

section Loop
variable (m : (ℓ : Loc nD τ sig) → Buf (Elt Ideal) ℓ) (c : Dev nD)

/-- the heads of the arguments -/
abbrev hds : Heads := heads (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4)) (m ((c.tc : Thread nD τ).loc main_arg5))

/-- the streams sliced are those of the arguments, on every trip -/
theorem streams_at (n : ℕ) : Streams (stAt m c n) (hds m c) := by
  induction n with
  | zero =>
    rw [entry_st]
    constructor
    · intro j b h r l; pointwise [start, init, A_main_v0, hds, heads, Fin.ofNat_val_eq_self]
    · intro j b h r l; pointwise [start, init, A_main_v1, hds, heads, Fin.ofNat_val_eq_self]
    · intro j b h r l; pointwise [start, init, A_main_v2, hds, heads, Fin.ofNat_val_eq_self]
    · intro j b h r l; pointwise [start, init, A_main_v3, hds, heads, Fin.ofNat_val_eq_self]
    · intro j b h r l; pointwise [start, init, A_main_v4, hds, heads, Fin.ofNat_val_eq_self]
    · intro j b h l; pointwise [start, init, A_main_v5, hds, heads, Fin.ofNat_val_eq_self]
  | succ n ih =>
    rw [next_st]
    exact ⟨ih.u, ih.w, ih.q, ih.a, ih.k, ih.l⟩

/-- the state before trip `n` is the delta rule's -/
theorem held_at (b h : Fin 4) : ∀ n, n ≤ 32 → held (stAt m c n) b h = state (hds m c b h) n
  | 0, _ => by
    rw [entry_st]
    funext d e
    show (start m c).main_v9_7 (ix4 b h d e) = 0
    pointwise [start, init, K_main_v6, K_main_cst]
  | n + 1, hn => by
    rw [next_st]
    funext d e
    have t := state_next ⟨n, hn⟩ (stAt m c n) (hds m c) (streams_at m c n) b h d e
    rw [held_at b h n (by omega)] at t
    exact t

/-- the states kept after `n` trips -/
theorem kept_at (b h : Fin 4) (i : Fin 32) (d e : Fin 128) : ∀ n, n ≤ 32 → i.val < n →
    (stAt m c n).main_v9_8 (ix5 i b h d e) = state (hds m c b h) i.val d e
  | 0, _, hi => absurd hi (Nat.not_lt_zero _)
  | n + 1, hn, hi => by
    rw [next_st]
    refine (states_put ⟨n, hn⟩ (stAt m c n) b h i d e).trans ?_
    by_cases g : i.val = n
    · rw [if_pos g, held_at m c b h n (by omega), g]
    · rw [if_neg g]; exact kept_at b h i d e n (by omega) (by omega)

/-- what the chunks read, after `n` trips -/
theorem outs_at (b h : Fin 4) (i : Fin 32) (r : Fin 64) (e : Fin 128) : ∀ n, n ≤ 32 → i.val < n →
    (stAt m c n).main_v9_9 (ix5 i b h r e) = out (hds m c b h) i.val r e
  | 0, _, hi => absurd hi (Nat.not_lt_zero _)
  | n + 1, hn, hi => by
    rw [next_st]
    refine (outs_put ⟨n, hn⟩ (stAt m c n) (hds m c) (streams_at m c n) b h i r e).trans ?_
    by_cases g : i.val = n
    · rw [if_pos g, held_at m c b h n (by omega), g]; rfl
    · rw [if_neg g]; exact outs_at b h i r e n (by omega) (by omega)

/-- the rows, normalised and gated, of a loop's last state -/
theorem gated_at (s : State Ideal) (z : (⟨S4x2048x512, .f32⟩ : BufTy).Contents (Elt Ideal)) (gain : (⟨S128, .f32⟩ : BufTy).Contents (Elt Ideal))
    (r : Fin 8192) (y : Fin 512) : R_main_v30 s z gain (ix2 r y)
    = gated (fun l => s.main_v9_9 (ix5 ⟨r.val % 2048 / 64, by omega⟩ ⟨r.val / 2048, by omega⟩ ⟨y.val / 128, by omega⟩ ⟨r.val % 2048 % 64, by omega⟩ l))
      (fun l => gain (ix1 l)) (fun l => z (ix3 ⟨r.val / 2048, by omega⟩ ⟨r.val % 2048, by omega⟩ (chan ⟨y.val / 128, by omega⟩ l))) ⟨y.val % 128, by omega⟩ := by
  have e : chan ⟨y.val / 128, by omega⟩ ⟨y.val % 128, by omega⟩ = y := Fin.ext (by show y.val / 128 * 128 + y.val % 128 = y.val; omega)
  pointwise [R_main_v30, gated, scale, e]
  rfl

theorem y_eq : R_main_v30 (stAt m c 32) (m ((c.tc : Thread nD τ).loc main_arg6)) (m ((c.tc : Thread nD τ).loc main_arg7))
    = seqRows (yAt (hds m c) (m ((c.tc : Thread nD τ).loc main_arg7)) (m ((c.tc : Thread nD τ).loc main_arg6))) := by
  funext i
  refine (congrArg _ (show i = ix2 (i 0) (i 1) by idx_vars i; rfl)).trans ((gated_at _ _ _ (i 0) (i 1)).trans ?_)
  generalize hr : i 0 = r
  generalize hy : i 1 = y
  change Fin 8192 at r
  change Fin 512 at y
  refine Eq.trans ?_ (seqRows_at _ _ ⟨r.val / 2048, by omega⟩ ⟨r.val % 2048, by omega⟩ y (by rw [hr]; show r.val = r.val / 2048 * 2048 + r.val % 2048; omega) (by rw [hy])).symm
  unfold yAt
  exact congrArg (fun o => gated o _ _ _) (funext fun l => outs_at m c _ _ _ _ l 32 le_rfl (Fin.isLt _))

theorem states_eq : R_main_v33 (stAt m c 32) = statesArr (hds m c) := by
  funext i
  idx_vars i
  pointwise [R_main_v33]
  exact kept_at m c _ _ _ _ _ 32 le_rfl (Fin.isLt _)

theorem outs_eq : R_main_v35 (stAt m c 32) = outsArr (hds m c) := by
  funext i
  idx_vars i
  pointwise [R_main_v35]
  exact outs_at m c _ _ _ _ _ 32 le_rfl (Fin.isLt _)

/-- the results, of the loop's last state -/
theorem res30 (V : Valuation τ sig (Elt Ideal)) : out_main_v30 V = R_main_v30 (stOf V) (V (Proc.devRef .tc main_arg6)) (V (Proc.devRef .tc main_arg7)) := rfl
theorem res33 (V : Valuation τ sig (Elt Ideal)) : out_main_v33 V = R_main_v33 (stOf V) := rfl
theorem res35 (V : Valuation τ sig (Elt Ideal)) : out_main_v35 V = R_main_v35 (stOf V) := rfl

/-- the results of the run -/
theorem results : out_main_v30 (valAt m c 32) = seqRows (yAt (hds m c) (m ((c.tc : Thread nD τ).loc main_arg7)) (m ((c.tc : Thread nD τ).loc main_arg6)))
    ∧ out_main_v33 (valAt m c 32) = statesArr (hds m c) ∧ out_main_v35 (valAt m c 32) = outsArr (hds m c) := by
  have e6 : valAt m c 32 (Proc.devRef .tc main_arg6) = _ := iter_main_arg6 m c 32
  have e7 : valAt m c 32 (Proc.devRef .tc main_arg7) = _ := iter_main_arg7 m c 32
  rw [res30, res33, res35, e6, e7]
  exact ⟨y_eq m c, states_eq m c, outs_eq m c⟩
end Loop

end Cert.DnRecurFwdRefIdeal.Value
-- ==== Proof.DnRecurEq.lean ====
module

public import proofs.«01_k».proof.Proof.DnRecurArrays
public import proofs.«01_k».proof.Proof.DnRecurRef
public import proofs.«01_k».proof.Defs

/-! # The delta rule's recurrence: the two programs compute the same three arrays -/

@[expose] public section

noncomputable section

open Idealize.ShloMosaic Idealize.ShloMosaic.TcCoe Idealize.SL.Sem

namespace Cert.Proof
open Cert.DnRecurFwdIdeal.Value Cert.DnRecurFwdRefIdeal.Value Cert.Grad Cert.Grad.Delta

/-- the two programs of the recurrence compute the same three arrays -/
theorem dn_recur : Cert.algebraic_DnRecurFwdIdeal_DnRecurFwdRefIdeal := by
  intro m ρ m' ρ' _ ha
  refine ⟨fun c => (Cert.DnRecurFwdIdeal.Gen.dats m 0 c).arrAt 8 Cert.DnRecurFwdIdeal.cfg0.N, fun c => (Cert.DnRecurFwdIdeal.Gen.dats m 0 c).arrAt 9 Cert.DnRecurFwdIdeal.cfg0.N,
    fun c => (Cert.DnRecurFwdIdeal.Gen.dats m 0 c).arrAt 10 Cert.DnRecurFwdIdeal.cfg0.N, Cert.DnRecurFwdIdeal.Value.run_blocks m ρ, ?_⟩
  refine (θ_run _ _ _).mono (fun r hr c => ?_) (Cert.DnRecurFwdRefIdeal.Value.run m' ρ')
  obtain ⟨r0, r1, r2, k⟩ := hr c
  obtain ⟨a0, a1, a2, a3, a4, a5, a6, a7⟩ := ha c
  obtain ⟨e0, e1, e2⟩ := Cert.DnRecurFwdRefIdeal.Value.results m' c
  have hh : Cert.DnRecurFwdRefIdeal.Value.hds m' c = Cert.DnRecurFwdIdeal.Value.hds m c := by
    unfold Cert.DnRecurFwdRefIdeal.Value.hds Cert.DnRecurFwdIdeal.Value.hds
    rw [a0, a1, a2, a3, a4, a5]
  rw [hh, a6, a7] at e0
  rw [hh] at e1 e2
  exact ⟨r0.trans (e0.trans (final_y m c).symm), r1.trans (e1.trans (final_states m c).symm), r2.trans (e2.trans (final_outs m c).symm), k⟩

end Cert.Proof
-- ==== Proof.ScFwd.lean ====
module

public import proofs.«01_k».proof.Proof.ScMath
public import proofs.«01_k».proof.Proof.Gen.ScConvFwdIdeal.Value
public import proofs.«01_k».proof.Proof.Gen.ScConvFwdRefIdeal.Read
public import proofs.«01_k».proof.Defs
public import Idealize.ShloMosaic.Lib.StableHlo.ReadAt

/-! # The gated short convolution's forward call: the kernel's result is the reference's

Point `p` works on 128 channels of one sequence: channels from `128 * (p / 4)` on, sequence `p % 4`. -/

@[expose] public section

noncomputable section

open Idealize.ShloMosaic Idealize.ShloMosaic.TcCoe Idealize.SL.Sem

namespace Cert.Grad

/-- the second gate times the convolution of the gated sequence -/
def scOut {N : ℕ} (cg bg xd : Seqs N) (w : Taps3 N) (b : Fin 4) (t : Fin 2048) (l : Fin N) : EReal :=
  bg (ix3 b t l) * conv3 (tap3 w l) (chanMul xd cg b l) t

/-- a column rotated by `k` rows and multiplied by a tap, its first `k` rows then set to zero -/
def rolled (k : ℕ) (f : Fin 2048 → EReal) (w : EReal) (t : Fin 2048) : EReal :=
  Scalar.select (IntOp.cmpi .sge (BitVec.ofNat 32 t.val) (BitVec.ofNat 32 k)) (f ⟨(t.val + 2048 - k) % 2048, Nat.mod_lt _ (by omega)⟩ * w) 0

theorem rolled_eq (k : ℕ) (hk : k < 2048) (f : Fin 2048 → EReal) (w : EReal) (t : Fin 2048) : rolled k f w t = back k f t * w := by
  refine (roll_back k hk (fun u => f u * w) t).trans ?_
  unfold back
  split
  · exact (zero_mul _).symm
  · rfl

end Cert.Grad

namespace Cert.ScConvFwdIdeal.Value
open Cert.ScConvFwdIdeal Cert.ScConvFwdIdeal.Gen Cert.Grad

/-- column `l` of a product of two blocks -/
def colMul (x y : Vec Ideal S2048x128 .f32) (l : Fin 128) (t : Fin 2048) : EReal := x (ix2 t l) * y (ix2 t l)
/-- column `l` of the taps -/
def taps (w : Vec Ideal S3x128 .f32) (l : Fin 128) (k : Fin 3) : EReal := w (ix2 k l)

/-- what the body stores, at an index -/
theorem out_at (w : Vec Ideal S3x128 .f32) (cg bg xd : Vec Ideal S2048x128 .f32) (t : Fin 2048) (l : Fin 128) :
    k0_pay1 w cg bg xd (ix2 t l) = bg (ix2 t l) * conv3 (taps w l) (colMul xd cg l) t := by
  pointwise [k0_pay1]
  refine Eq.trans (b := bg (ix2 t l) * (xd (ix2 t l) * cg (ix2 t l) * w (ix2 2 l)
    + rolled 2 (colMul xd cg l) (w (ix2 0 l)) t + rolled 1 (colMul xd cg l) (w (ix2 1 l)) t)) rfl ?_
  rw [rolled_eq 2 (by omega), rolled_eq 1 (by omega)]
  exact congrArg (bg (ix2 t l) * ·) ((add_assoc _ _ _).trans (add_comm _ _))

/-- every window's block index at every point -/
theorem idx : ∀ t : Fin cfg0.N, win0_0.index t = ![0, t.val / 4] ∧ win0_1.index t = ![t.val % 4, t.val / 4] ∧ win0_2.index t = ![t.val % 4, t.val / 4]
    ∧ win0_3.index t = ![t.val % 4, t.val / 4] ∧ win0_4.index t = ![t.val % 4, t.val / 4] :=
  (by decide +kernel : ∀ t : Fin grid0.N, _)

/-- sixteen points -/
theorem lt16 (p : Fin cfg0.N) : p.val < 16 := lt_of_lt_of_eq p.isLt N_0

variable (m : (ℓ : Loc nD τ sig) → Buf (Elt Ideal) ℓ) (c : Dev nD)

/-- the gate in front of the convolution, on device `c` -/
abbrev argC : S4x2048x512.Idx → EReal := m ((c : Thread nD τ).loc main_arg0)
/-- the gate behind it -/
abbrev argB : S4x2048x512.Idx → EReal := m ((c : Thread nD τ).loc main_arg1)
/-- the convolved sequence -/
abbrev argX : S4x2048x512.Idx → EReal := m ((c : Thread nD τ).loc main_arg2)
/-- the taps -/
abbrev argW : S3x512.Idx → EReal := m ((c : Thread nD τ).loc main_arg3)

/-- the sequence of point `p` -/
abbrev bOf (p : Fin cfg0.N) : Fin 4 := ⟨p.val % 4, Nat.mod_lt _ (by omega)⟩
/-- channel `l` of point `p` -/
abbrev lOf (p : Fin cfg0.N) (l : Fin 128) : Fin 512 := ⟨p.val / 4 * 128 + l.val, by have := lt16 p; omega⟩

/-- the block of point `p` of an array -/
def blkOf (x : S4x2048x512.Idx → EReal) (p : Fin cfg0.N) (i : S2048x128.Idx) : EReal := x (ix3 (bOf p) (i 0) (lOf p (i 1)))

theorem blk_w (p : Fin cfg0.N) : iblk m c 0 p = fun i : S3x128.Idx => argW m c (ix2 (i 0) (lOf p (i 1))) := by
  funext i
  blk_simp [iblk]
  unfold_abbrev_sides
  simp only [hostOps0, List.flatten_singleton]
  after_reads_at
  blk_ext [idx p]

theorem blk_c (p : Fin cfg0.N) : iblk m c 1 p = blkOf (argC m c) p := by
  funext i
  unfold blkOf
  blk_simp [iblk]
  unfold_abbrev_sides
  simp only [hostOps0, List.flatten_singleton]
  after_reads_at
  blk_ext [idx p]

theorem blk_b (p : Fin cfg0.N) : iblk m c 2 p = blkOf (argB m c) p := by
  funext i
  unfold blkOf
  blk_simp [iblk]
  unfold_abbrev_sides
  simp only [hostOps0, List.flatten_singleton]
  after_reads_at
  blk_ext [idx p]

theorem blk_x (p : Fin cfg0.N) : iblk m c 3 p = blkOf (argX m c) p := by
  funext i
  unfold blkOf
  blk_simp [iblk]
  unfold_abbrev_sides
  simp only [hostOps0, List.flatten_singleton]
  after_reads_at
  blk_ext [idx p]

/-- the kernel's result array -/
theorem final : (dats m 0 c).arrAt 4 cfg0.N = seqRows (scOut (argC m c) (argB m c) (argX m c) (argW m c)) := by
  refine (dats m 0 c).arrAt_eq_of_covers 4 _ (by decide +kernel) fun p _ y => ?_
  have hp := lt16 p
  blk_simp
  rw [after0_4]
  have hc : out0_4 (iblk m c 0 p) (iblk m c 1 p) (iblk m c 2 p) (iblk m c 3 p) = k0_pay1 (iblk m c 0 p) (iblk m c 1 p) (iblk m c 2 p) (iblk m c 3 p) := by
    frame_out
  rw [hc, blk_w, blk_c, blk_b, blk_x]
  refine Eq.trans ?_ (seqRows_at _ _ (bOf p) (y 0) (lOf p (y 1)) ?_ ?_).symm
  · exact (congrArg _ (eq_ix2 y)).trans (out_at _ _ _ _ (y 0) (y 1))
  all_goals blk_ext [idx p]

end Cert.ScConvFwdIdeal.Value

namespace Cert.ScConvFwdRefIdeal.Value
open Cert.ScConvFwdRefIdeal Cert.ScConvFwdRefIdeal.Gen Cert.ScConvFwdRefIdeal.Read Cert.Grad

variable (cg bg xd : S4x2048x512.Idx → EReal) (w : S3x512.Idx → EReal)

theorem v3_eq : val_main_v3 (F := Ideal) cg xd = fun i => back 2 (chanMul xd cg (i 0) (i 2)) (i 1) := by
  funext i
  idx_vars i
  pointwise [val_main_v3, val_main_v2, val_main_v1, val_main_v0, val_main_cst]
  rfl

theorem v11_eq : val_main_v11 (F := Ideal) cg xd = fun i => back 1 (chanMul xd cg (i 0) (i 2)) (i 1) := by
  funext i
  idx_vars i
  pointwise [val_main_v11, val_main_v2, val_main_v1, val_main_v0, val_main_cst]
  exact pad_back 1 1 (chanMul xd cg i0 i2) i1

theorem v18_eq : val_main_v18 (F := Ideal) cg xd = fun i => chanMul xd cg (i 0) (i 2) (i 1) := by
  funext i
  idx_vars i
  pointwise [val_main_v18, val_main_v2, val_main_v1, val_main_v0, val_main_cst]
  rfl

/-- the reference's result array -/
theorem v27_eq : val_main_v27 (F := Ideal) cg bg xd w = seqRows (scOut cg bg xd w) := by
  funext i
  idx_vars i
  pointwise [val_main_v27, val_main_v26, val_main_v25, val_main_v24, val_main_v23, val_main_v22, val_main_v21, val_main_v20, val_main_v19, val_main_v17,
    val_main_v16, val_main_v15, val_main_v14, val_main_v13, val_main_v12, val_main_v10, val_main_v9, val_main_v8, val_main_v7, val_main_v6, val_main_v5,
    val_main_v4, val_main_cst_0, v3_eq, v11_eq, v18_eq]
  rfl

end Cert.ScConvFwdRefIdeal.Value

namespace Cert.Proof
open Cert.ScConvFwdIdeal.Value Cert.ScConvFwdRefIdeal.Value Cert.Grad

/-- the two programs of the gated short convolution compute the same array -/
theorem sc_conv_fwd : Cert.algebraic_ScConvFwdIdeal_ScConvFwdRefIdeal := by
  intro m ρ m' ρ' _ ha
  refine ⟨fun c => (Cert.ScConvFwdIdeal.Gen.dats m 0 c).arrAt 4 Cert.ScConvFwdIdeal.cfg0.N, Cert.ScConvFwdIdeal.Value.run_blocks m ρ, ?_⟩
  refine (θ_run _ _ _).mono (fun r hr c => ?_) (Cert.ScConvFwdRefIdeal.Value.run m' ρ')
  obtain ⟨r0, k⟩ := hr c
  obtain ⟨a0, a1, a2, a3⟩ := ha c
  refine ⟨r0.trans ((Cert.ScConvFwdRefIdeal.Read.val_main_v27_eq _ _ _ _).trans ?_), k⟩
  rw [a0, a1, a2, a3]
  exact ((final m c).trans (v27_eq _ _ _ _).symm).symm

end Cert.Proof
-- ==== Proof.DnFwd.lean ====
module

public import proofs.«01_k».proof.Proof.DnMath
public import proofs.«01_k».proof.Proof.ScFwd
public import proofs.«01_k».proof.Proof.Gen.DnConvFwdIdeal.Value
public import proofs.«01_k».proof.Proof.Gen.DnConvFwdRefIdeal.Read

/-! # The convolution with silu, forward: the kernel's result is the reference's

Point `p` works on 128 channels of one sequence: channels from `128 * (p / 4)` on, sequence `p % 4`. -/

@[expose] public section

noncomputable section

open Idealize.ShloMosaic Idealize.ShloMosaic.TcCoe Idealize.SL.Sem

namespace Cert.Grad

/-- `a` times its logistic value -/
def silu (a : EReal) : EReal := a * Ideal.logistic a

/-- silu of the convolution -/
def dnOut {N : ℕ} (x : Seqs N) (w : Taps4 N) (b : Fin 4) (t : Fin 2048) (l : Fin N) : EReal := silu (conv4 (tap4 w l) (chan x b l) t)

end Cert.Grad

namespace Cert.DnConvFwdIdeal.Value
open Cert.DnConvFwdIdeal Cert.DnConvFwdIdeal.Gen Cert.Grad

/-- column `l` of a block -/
def col (x : Vec Ideal S2048x128 .f32) (l : Fin 128) (t : Fin 2048) : EReal := x (ix2 t l)
/-- column `l` of the taps -/
def taps (w : Vec Ideal S4x128 .f32) (l : Fin 128) (k : Fin 4) : EReal := w (ix2 k l)

/-- what the body stores, at an index -/
theorem out_at (w : Vec Ideal S4x128 .f32) (x : Vec Ideal S2048x128 .f32) (t : Fin 2048) (l : Fin 128) :
    k0_pay1 w x (ix2 t l) = silu (conv4 (taps w l) (col x l) t) := by
  pointwise [k0_pay1]
  have e : x (ix2 t l) * w (ix2 3 l) + rolled 3 (col x l) (w (ix2 0 l)) t + rolled 2 (col x l) (w (ix2 1 l)) t
      + rolled 1 (col x l) (w (ix2 2 l)) t = conv4 (taps w l) (col x l) t := by
    rw [rolled_eq 3 (by omega), rolled_eq 2 (by omega), rolled_eq 1 (by omega)]
    exact (add_assoc _ _ _).trans ((add_assoc _ _ _).trans ((add_comm _ _).trans (congrArg (· + _) (add_assoc _ _ _).symm)))
  rw [← e]
  rfl

/-- every window's block index at every point -/
theorem idx : ∀ t : Fin cfg0.N, win0_0.index t = ![0, t.val / 4] ∧ win0_1.index t = ![t.val % 4, t.val / 4] ∧ win0_2.index t = ![t.val % 4, t.val / 4]
 :=
  (by decide +kernel : ∀ t : Fin grid0.N, _)

/-- forty-eight points -/
theorem lt48 (p : Fin cfg0.N) : p.val < 48 := lt_of_lt_of_eq p.isLt N_0

variable (m : (ℓ : Loc nD τ sig) → Buf (Elt Ideal) ℓ) (c : Dev nD)

/-- the convolved sequence -/
abbrev argX : S4x2048x1536.Idx → EReal := m ((c : Thread nD τ).loc main_arg0)
/-- the taps -/
abbrev argW : S4x1536.Idx → EReal := m ((c : Thread nD τ).loc main_arg1)

/-- the sequence of point `p` -/
abbrev bOf (p : Fin cfg0.N) : Fin 4 := ⟨p.val % 4, Nat.mod_lt _ (by omega)⟩
/-- channel `l` of point `p` -/
abbrev lOf (p : Fin cfg0.N) (l : Fin 128) : Fin 1536 := ⟨p.val / 4 * 128 + l.val, by have := lt48 p; omega⟩

/-- the block of point `p` of an array -/
def blkOf (x : S4x2048x1536.Idx → EReal) (p : Fin cfg0.N) (i : S2048x128.Idx) : EReal := x (ix3 (bOf p) (i 0) (lOf p (i 1)))

theorem blk_w (p : Fin cfg0.N) : iblk m c 0 p = fun i : S4x128.Idx => argW m c (ix2 (i 0) (lOf p (i 1))) := by
  funext i
  blk_simp [iblk]
  unfold_abbrev_sides
  simp only [hostOps0, List.flatten_singleton]
  after_reads_at
  blk_ext [idx p]

theorem blk_x (p : Fin cfg0.N) : iblk m c 1 p = blkOf (argX m c) p := by
  funext i
  unfold blkOf
  blk_simp [iblk]
  unfold_abbrev_sides
  simp only [hostOps0, List.flatten_singleton]
  after_reads_at
  blk_ext [idx p]

/-- the kernel's result array -/
theorem final : (dats m 0 c).arrAt 2 cfg0.N = seqRows (dnOut (argX m c) (argW m c)) := by
  refine (dats m 0 c).arrAt_eq_of_covers 2 _ (by decide +kernel) fun p _ y => ?_
  have hp := lt48 p
  blk_simp
  rw [after0_2]
  have hc : out0_2 (iblk m c 0 p) (iblk m c 1 p) = k0_pay1 (iblk m c 0 p) (iblk m c 1 p) := by
    frame_out
  rw [hc, blk_w, blk_x]
  refine Eq.trans ?_ (seqRows_at _ _ (bOf p) (y 0) (lOf p (y 1)) ?_ ?_).symm
  · exact (congrArg _ (eq_ix2 y)).trans (out_at _ _ (y 0) (y 1))
  all_goals blk_ext [idx p]

end Cert.DnConvFwdIdeal.Value

namespace Cert.DnConvFwdRefIdeal.Value
open Cert.DnConvFwdRefIdeal Cert.DnConvFwdRefIdeal.Gen Cert.DnConvFwdRefIdeal.Read Cert.Grad

variable (x : S4x2048x1536.Idx → EReal) (w : S4x1536.Idx → EReal)

theorem v2_eq : val_main_v2 (F := Ideal) x = fun i => back 3 (chan x (i 0) (i 2)) (i 1) := by
  funext i
  idx_vars i
  pointwise [val_main_v2, val_main_v1, val_main_v0, val_main_cst]
  rfl

theorem v10_eq : val_main_v10 (F := Ideal) x = fun i => back 2 (chan x (i 0) (i 2)) (i 1) := by
  funext i
  idx_vars i
  pointwise [val_main_v10, val_main_v1, val_main_v0, val_main_cst]
  exact pad_back 2 1 (chan x i0 i2) i1

theorem v17_eq : val_main_v17 (F := Ideal) x = fun i => back 1 (chan x (i 0) (i 2)) (i 1) := by
  funext i
  idx_vars i
  pointwise [val_main_v17, val_main_v1, val_main_v0, val_main_cst]
  exact pad_back 1 2 (chan x i0 i2) i1

theorem v24_eq : val_main_v24 (F := Ideal) x = fun i => chan x (i 0) (i 2) (i 1) := by
  funext i
  idx_vars i
  pointwise [val_main_v24, val_main_v1, val_main_v0, val_main_cst]
  rfl

/-- the convolution -/
theorem v30_eq : val_main_v30 (F := Ideal) x w = fun i => conv4 (tap4 w (i 2)) (chan x (i 0) (i 2)) (i 1) := by
  funext i
  idx_vars i
  pointwise [val_main_v30, val_main_v29, val_main_v28, val_main_v27, val_main_v26, val_main_v25, val_main_v23, val_main_v22, val_main_v21, val_main_v20,
    val_main_v19, val_main_v18, val_main_v16, val_main_v15, val_main_v14, val_main_v13, val_main_v12, val_main_v11, val_main_v9, val_main_v8, val_main_v7,
    val_main_v6, val_main_v5, val_main_v4, val_main_v3, val_main_cst_0, v2_eq, v10_eq, v17_eq, v24_eq]
  rfl

/-- the reference's result array -/
theorem v32_eq : val_main_v32 (F := Ideal) x w = seqRows (dnOut x w) := by
  funext i
  idx_vars i
  pointwise [val_main_v32, val_main_v31, val_main_call0_v5, val_main_call0_v4, val_main_call0_cst_0, val_main_call0_v3, val_main_call0_v2, val_main_call0_cst,
    val_main_call0_v1, val_main_call0_v0, v30_eq]
  rfl

end Cert.DnConvFwdRefIdeal.Value

namespace Cert.Proof
open Cert.DnConvFwdIdeal.Value Cert.DnConvFwdRefIdeal.Value Cert.Grad

/-- the two programs of the convolution with silu compute the same array -/
theorem dn_conv_fwd : Cert.algebraic_DnConvFwdIdeal_DnConvFwdRefIdeal := by
  intro m ρ m' ρ' _ ha
  refine ⟨fun c => (Cert.DnConvFwdIdeal.Gen.dats m 0 c).arrAt 2 Cert.DnConvFwdIdeal.cfg0.N, Cert.DnConvFwdIdeal.Value.run_blocks m ρ, ?_⟩
  refine (θ_run _ _ _).mono (fun r hr c => ?_) (Cert.DnConvFwdRefIdeal.Value.run m' ρ')
  obtain ⟨r0, k⟩ := hr c
  obtain ⟨a0, a1⟩ := ha c
  refine ⟨r0.trans ((Cert.DnConvFwdRefIdeal.Read.val_main_v32_eq _ _).trans ?_), k⟩
  rw [a0, a1]
  exact ((final m c).trans (v32_eq _ _).symm).symm

end Cert.Proof
-- ==== Proof.PoolFwd.lean ====
module

public import proofs.«01_k».proof.Proof.PoolArrays
public import proofs.«01_k».proof.Proof.PoolRef
public import proofs.«01_k».proof.Proof.FiniteArg
public import proofs.«01_k».proof.Proof.Gen.Pre_finite_pool_fwd
public import proofs.«01_k».proof.Proof.Gen.PoolFwdIdeal.Value
public import proofs.«01_k».proof.Proof.Gen.PoolFwdRefIdeal.Read
public import proofs.«01_k».proof.Defs

/-! # The pooling mixer

Each group of channels less its trailing mean, through the group's matrix, scaled: the kernel sums a window by doubling
shifts, the reference takes a difference of running sums. -/

@[expose] public section

noncomputable section

open Idealize.ShloMosaic Idealize.ShloMosaic.TcCoe Idealize.SL.Sem

namespace Cert.Grad

/-- the pooled channels through the groups' matrices, scaled -/
def poolOut (a : (⟨3, ![4, 2048, 512]⟩ : Shape).Idx → EReal) (w : (⟨3, ![4, 128, 128]⟩ : Shape).Idx → EReal) (s : (⟨1, ![512]⟩ : Shape).Idx → EReal)
    (b : Fin 4) (t : Fin 2048) (n : Fin 512) : EReal :=
  (∑ k : Fin 128, poolAt a b (grpOf n) k t * w (ix3 (grpOf n) k (inGrp n))) * s (ix1 n)

end Cert.Grad

namespace Cert.PoolFwdIdeal.Value
open Cert.PoolFwdIdeal Cert.PoolFwdIdeal.Gen Cert.Grad
open Cert.PoolBwdIdeal.Value (Grp cols col cols_col roll1 roll2 roll4 roll8 grow1 grow2 grow4 grow8 rowCol grp grpS grpW ld_grp ld_grpS ld_grpW in_cols off_cols)

/-- one group's output at a row and a channel -/
def grpOut (w : ℕ) (x : Grp) (W : Vec Ideal S1x128x128 .f32) (s : Vec Ideal S1x128 .f32) (t : Fin 2048) (l : Fin 128) : EReal :=
  (∑ k : Fin 128, pooled w (col x k) t * W (ix3 0 k l)) * s (ix2 0 l)

variable (x : Grp) (W : Vec Ideal S1x128x128 .f32) (s : Vec Ideal S1x128 .f32) (t : Fin 2048) (l : Fin 128)

theorem load_cols : shapeCast S2048x128 x shapeCasts_S2048x128_S2048x128 = cols (col x) := by
  funext i; idx_vars i; pointwise []; rfl

theorem out2_at : k0_pay1 (F := Ideal) x W s (ix2 t l) = grpOut 2 x W s t l := by
  unfold k0_pay1
  dsimp only
  erw [load_cols, roll1, grow1]
  pointwise [cols]
  rfl

theorem out4_at : k0_pay5 (F := Ideal) (k0_pay2 x) (k0_pay3 W) (k0_pay4 s) rowCol (ix2 t l) = grpOut 4 x W s t l := by
  have hx : k0_pay2 x = cols (col x) := load_cols x
  unfold k0_pay5
  dsimp only
  erw [hx, roll1, grow1, roll2, grow2]
  pointwise [cols, k0_pay3, k0_pay4]
  rfl

theorem out8_at : k0_pay10 (F := Ideal) (k0_pay6 x) (k0_pay7 W) (k0_pay8 s) rowCol k0_pay9 1#32 (ix2 t l) = grpOut 8 x W s t l := by
  have hx : k0_pay6 x = cols (col x) := load_cols x
  unfold k0_pay10 k0_pay9
  dsimp only
  erw [hx, roll1, grow1, roll2, grow2, roll4, grow4]
  pointwise [cols, k0_pay7, k0_pay8]
  rfl

theorem out16_at : k0_pay14 (F := Ideal) (k0_pay11 x) (k0_pay12 W) (k0_pay13 s) rowCol (ix2 t l) = grpOut 16 x W s t l := by
  have hx : k0_pay11 x = cols (col x) := load_cols x
  unfold k0_pay14
  dsimp only
  erw [hx, roll1, grow1, roll2, grow2, roll4, grow4, roll8, grow8]
  pointwise [cols, k0_pay12, k0_pay13]
  rfl

/-- every window's block index at every point -/
theorem idx : ∀ t : Fin cfg0.N, win0_0.index t = ![t.val, 0] ∧ win0_1.index t = ![0, 0, 0] ∧ win0_2.index t = ![0, 0] ∧ win0_3.index t = ![t.val, 0] :=
  (by decide +kernel : ∀ t : Fin grid0.N, _)

theorem lt4 (p : Fin cfg0.N) : p.val < 4 := lt_of_lt_of_eq p.isLt N_0

variable (m : (ℓ : Loc nD τ sig) → Buf (Elt Ideal) ℓ) (c : Dev nD)

/-- the sequences on device `c` -/
abbrev argA : S4x2048x512.Idx → EReal := m ((c : Thread nD τ).loc main_arg0)
/-- the groups' matrices on device `c` -/
abbrev argW : S4x128x128.Idx → EReal := m ((c : Thread nD τ).loc main_arg1)
/-- the scales on device `c` -/
abbrev argS : S512.Idx → EReal := m ((c : Thread nD τ).loc main_arg2)

/-- the sequence of point `p` -/
abbrev bOf (p : Fin cfg0.N) : Fin 4 := ⟨p.val, lt4 p⟩

theorem blk_a (p : Fin cfg0.N) : iblk m c 0 p = fun i : S2048x512.Idx => argA m c (ix3 (bOf p) (i 0) (i 1)) := by
  funext i
  blk_simp [iblk]
  unfold_abbrev_sides
  simp only [hostOps0, List.flatten_singleton]
  after_reads_at
  blk_ext [idx p]

theorem blk_w (p : Fin cfg0.N) : iblk m c 1 p = argW m c := by
  funext i
  blk_simp [iblk]
  unfold_abbrev_sides
  simp only [hostOps0, List.flatten_singleton]
  after_reads_at
  blk_ext [idx p]

theorem blk_s (p : Fin cfg0.N) : iblk m c 2 p = fun i : S1x512.Idx => argS m c (ix1 (i 1)) := by
  funext i
  blk_simp [iblk]
  unfold_abbrev_sides
  simp only [hostOps0, List.flatten_singleton]
  after_reads_at
  blk_ext [idx p]

/-- what point `p` leaves in the output's buffer, of a row and a channel of a group -/
theorem out_slots (p : Fin cfg0.N) (t : Fin 2048) : ∀ (g : Fin 4) (l : Fin 128),
    out0_3 (iblk m c 0 p) (iblk m c 1 p) (iblk m c 2 p) (ix2 t (chanOf g l)) = poolOut (argA m c) (argW m c) (argS m c) (bOf p) t (chanOf g l) := by
  have hc : ∀ (g : Fin 4) (l : Fin 128), grpOut (wd g) (grp (iblk m c 0 p) g) (grpW (iblk m c 1 p) g) (grpS (iblk m c 2 p) g) t l
      = poolOut (argA m c) (argW m c) (argS m c) (bOf p) t (chanOf g l) := fun g l => by
    rw [blk_a, blk_w, blk_s]
    unfold poolOut
    rw [grpOf_chan, inGrp_chan]
    rfl
  refine four (fun l => ?_) (fun l => ?_) (fun l => ?_) (fun l => ?_)
  all_goals
    refine Eq.trans ?_ (hc _ l)
    unfold out0_3
    rw [ld_grpW 0 0 rfl, ld_grpW 1 1 rfl, ld_grpW 2 2 rfl, ld_grpW 3 3 rfl, ld_grp 0 0 rfl, ld_grp 1 128 rfl, ld_grp 2 256 rfl, ld_grp 3 384 rfl,
      ld_grpS 0 0 rfl, ld_grpS 1 128 rfl, ld_grpS 2 256 rfl, ld_grpS 3 384 rfl]
  · iterate 3 rw [canon_miss _ _ _ _ 1 (off_cols t l _ _ (by decide))]
    rw [canon_hit _ _ _ _ (ix2 t l) (in_cols t t l 0 _ rfl rfl)]
    exact out2_at _ _ _ t l
  · iterate 2 rw [canon_miss _ _ _ _ 1 (off_cols t l _ _ (by decide))]
    rw [canon_hit _ _ _ _ (ix2 t l) (in_cols t t l 1 _ rfl rfl)]
    exact out4_at _ _ _ t l
  · iterate 1 rw [canon_miss _ _ _ _ 1 (off_cols t l _ _ (by decide))]
    rw [canon_hit _ _ _ _ (ix2 t l) (in_cols t t l 2 _ rfl rfl)]
    exact out8_at _ _ _ t l
  · rw [canon_hit _ _ _ _ (ix2 t l) (in_cols t t l 3 _ rfl rfl)]
    exact out16_at _ _ _ t l

/-- the kernel's result array -/
theorem final : (dats m 0 c).arrAt 3 cfg0.N = seqRows (poolOut (argA m c) (argW m c) (argS m c)) := by
  refine (dats m 0 c).arrAt_eq_of_covers 3 _ (by decide +kernel) fun p _ y => ?_
  have hp := lt4 p
  blk_simp
  rw [after0_3]
  refine Eq.trans ?_ (seqRows_at _ _ (bOf p) (y 0) (y 1) ?_ ?_).symm
  · refine (congrArg _ (eq_ix2 y)).trans ?_
    obtain ⟨g, l, h⟩ := chan_split (y 1)
    refine (congrArg _ (congrArg (ix2 (y 0)) h)).trans ((out_slots m c p (y 0) g l).trans ?_)
    exact congrArg (poolOut _ _ _ _ _) h.symm
  all_goals blk_ext [idx p]

end Cert.PoolFwdIdeal.Value

namespace Cert.PoolFwdRefIdeal.Value
open Cert.PoolFwdRefIdeal Cert.PoolFwdRefIdeal.Gen Cert.PoolFwdRefIdeal.Read Cert.Grad
open Cert.PoolBwdRefIdeal.Value (chan)

variable (a : S4x2048x512.Idx → EReal) (w : S4x128x128.Idx → EReal) (s : S512.Idx → EReal)

theorem v0_eq : val_main_v0 (F := Ideal) a = fun i => chan a (i 0) (i 2) (i 3) (i 1) := by
  funext i
  idx_vars i
  pointwise [val_main_v0]
  rfl

theorem v1_eq : val_main_v1 (F := Ideal) a = fun i => Cert.Grad.run (chan a (i 0) (i 2) (i 3)) (i 1) := by
  funext i
  idx_vars i
  unfold val_main_v1
  refine (sum_run _ _ i0 i1 i2 i3 _ _ ?_).trans ?_
  · pointwise [val_main_call0_call0_v0, val_main_call0_call0_cst]
  · rw [v0_eq]; rfl

theorem v13_eq : val_main_v13 (F := Ideal) = fun i => count 2 (i 1) := by
  funext i
  idx_vars i
  pointwise [val_main_v13, val_main_v12, val_main_v11, val_main_v10, val_main_v9, val_main_v8, val_main_v2, val_main_c, val_main_c_0]
  rfl

theorem v19_eq (r : S4x2048x512.Idx → ℝ) (ha : a = fun i => (r i : EReal)) :
    val_main_v19 (F := Ideal) a = fun i => poolAt a (i 0) 0 (i 2) (i 1) := by
  funext i
  idx_vars i
  pointwise [val_main_v19, val_main_v18, val_main_v17, val_main_v16, val_main_v15, val_main_v14, val_main_v7, val_main_v6, val_main_v5, val_main_v4, val_main_v3,
    val_main_cst, v0_eq, v1_eq, v13_eq]
  subst ha
  refine congrArg (fun z : EReal => Ideal.div z (count 2 i1) - _) (run_sub 2 (by decide) _ i1)

theorem v30_eq : val_main_v30 (F := Ideal) = fun i => count 4 (i 1) := by
  funext i
  idx_vars i
  pointwise [val_main_v30, val_main_v29, val_main_v28, val_main_v27, val_main_v26, val_main_v25, val_main_v2, val_main_c_2, val_main_c_3]
  rfl

theorem v36_eq (r : S4x2048x512.Idx → ℝ) (ha : a = fun i => (r i : EReal)) :
    val_main_v36 (F := Ideal) a = fun i => poolAt a (i 0) 1 (i 2) (i 1) := by
  funext i
  idx_vars i
  pointwise [val_main_v36, val_main_v35, val_main_v34, val_main_v33, val_main_v32, val_main_v31, val_main_v24, val_main_v23, val_main_v22, val_main_v21, val_main_v20,
    val_main_cst_1, v0_eq, v1_eq, v30_eq]
  subst ha
  refine congrArg (fun z : EReal => Ideal.div z (count 4 i1) - _) (run_sub 4 (by decide) _ i1)

theorem v47_eq : val_main_v47 (F := Ideal) = fun i => count 8 (i 1) := by
  funext i
  idx_vars i
  pointwise [val_main_v47, val_main_v46, val_main_v45, val_main_v44, val_main_v43, val_main_v42, val_main_v2, val_main_c_5, val_main_c_6]
  rfl

theorem v53_eq (r : S4x2048x512.Idx → ℝ) (ha : a = fun i => (r i : EReal)) :
    val_main_v53 (F := Ideal) a = fun i => poolAt a (i 0) 2 (i 2) (i 1) := by
  funext i
  idx_vars i
  pointwise [val_main_v53, val_main_v52, val_main_v51, val_main_v50, val_main_v49, val_main_v48, val_main_v41, val_main_v40, val_main_v39, val_main_v38, val_main_v37,
    val_main_cst_4, v0_eq, v1_eq, v47_eq]
  subst ha
  refine congrArg (fun z : EReal => Ideal.div z (count 8 i1) - _) (run_sub 8 (by decide) _ i1)

theorem v64_eq : val_main_v64 (F := Ideal) = fun i => count 16 (i 1) := by
  funext i
  idx_vars i
  pointwise [val_main_v64, val_main_v63, val_main_v62, val_main_v61, val_main_v60, val_main_v59, val_main_v2, val_main_c_8, val_main_c_9]
  rfl

theorem v70_eq (r : S4x2048x512.Idx → ℝ) (ha : a = fun i => (r i : EReal)) :
    val_main_v70 (F := Ideal) a = fun i => poolAt a (i 0) 3 (i 2) (i 1) := by
  funext i
  idx_vars i
  pointwise [val_main_v70, val_main_v69, val_main_v68, val_main_v67, val_main_v66, val_main_v65, val_main_v58, val_main_v57, val_main_v56, val_main_v55, val_main_v54,
    val_main_cst_7, v0_eq, v1_eq, v64_eq]
  subst ha
  refine congrArg (fun z : EReal => Ideal.div z (count 16 i1) - _) (run_sub 16 (by decide) _ i1)

/-- the pooled channels -/
theorem v75_eq (r : S4x2048x512.Idx → ℝ) (ha : a = fun i => (r i : EReal)) :
    val_main_v75 (F := Ideal) a = fun i => poolAt a (i 0) (i 2) (i 3) (i 1) := by
  funext i
  idx_vars i
  pointwise [val_main_v75, val_main_v74, val_main_v73, val_main_v72, val_main_v71, v19_eq a r ha, v36_eq a r ha, v53_eq a r ha, v70_eq a r ha]
  match i2 with
  | ⟨0, _⟩ => simp <;> rfl
  | ⟨1, _⟩ => simp <;> rfl
  | ⟨2, _⟩ => simp <;> rfl
  | ⟨3, _⟩ => simp <;> rfl

/-- the pooled channels through the groups' matrices -/
theorem v78_eq (r : S4x2048x512.Idx → ℝ) (ha : a = fun i => (r i : EReal)) :
    val_main_v78 (F := Ideal) a w = fun i => ∑ k : Fin 128, poolAt a (i 0) (grpOf (i 2)) k (i 1) * w (ix3 (grpOf (i 2)) k (inGrp (i 2))) := by
  funext i
  idx_vars i
  pointwise [val_main_v78, val_main_v77, val_main_v76, v75_eq a r ha]
  refine Finset.sum_congr rfl fun k _ => ?_
  rw [mul_comm]
  rfl

/-- the reference's result array -/
theorem v83_eq (r : S4x2048x512.Idx → ℝ) (ha : a = fun i => (r i : EReal)) : val_main_v83 (F := Ideal) a w s = seqRows (poolOut a w s) := by
  funext i
  idx_vars i
  pointwise [val_main_v83, val_main_v82, val_main_v81, val_main_v80, val_main_v79, v78_eq a w r ha]
  rfl

end Cert.PoolFwdRefIdeal.Value

namespace Cert.Proof
open Cert.PoolFwdIdeal.Value Cert.PoolFwdRefIdeal.Value Cert.Grad

/-- the two programs of the pooling mixer compute the same array, from finite channels -/
theorem pool_fwd : Cert.algebraic_PoolFwdIdeal_PoolFwdRefIdeal_pre_finite_pool_fwd := by
  intro m ρ m' ρ' hp ha
  refine ⟨fun c => (Cert.PoolFwdIdeal.Gen.dats m 0 c).arrAt 3 Cert.PoolFwdIdeal.cfg0.N, Cert.PoolFwdIdeal.Value.run_blocks m ρ, ?_⟩
  refine (θ_run _ _ _).mono (fun r hr c => ?_) (Cert.PoolFwdRefIdeal.Value.run m' ρ')
  obtain ⟨r0, k⟩ := hr c
  obtain ⟨a0, a1, a2⟩ := ha c
  obtain ⟨x0, h0⟩ := real_of_finite _ _ (hp c)
  refine ⟨r0.trans ((Cert.PoolFwdRefIdeal.Read.val_main_v83_eq _ _).trans ?_), k⟩
  rw [a0, a1, a2]
  exact ((final m c).trans (v83_eq _ _ _ x0 h0).symm).symm

end Cert.Proof
-- ==== Proof.SguFwd.lean ====
module

public import proofs.«01_k».proof.Proof.SguRef
public import proofs.«01_k».proof.Proof.Gen.SguFwdIdeal.Value
public import proofs.«01_k».proof.Proof.Gen.SguFwdRefIdeal.Read
public import proofs.«01_k».proof.Defs
public import Idealize.ShloMosaic.Lib.StableHlo.ReadAt

/-! # The spatial gating

The layer norm of the activated half, mixed block by block by lower-triangular matrices, times the other activated half. -/

@[expose] public section

noncomputable section

open Idealize.ShloMosaic Idealize.ShloMosaic.TcCoe Idealize.SL.Sem

namespace Cert.Grad.Sgu

/-- a masked entry times a number is the lower entry times it -/
theorem low_mul (w : Mats) (h : Fin 4) (i j : Fin 128) (x : EReal) :
    Scalar.select (IntOp.cmpi CmpIPredicate.sge (BitVec.ofNat 32 i.val) (BitVec.ofNat 32 j.val)) (w h i j * x) 0 = low w h i j * x := by
  refine (pick_low i j _).trans ?_
  unfold low
  split_ifs
  · rfl
  · rw [zero_mul]

/-- the gated mixed rows -/
def sguOut (g b : Row) (w : Mats) (a : Fin 4 → Fin 128 → EReal) (u v : Arr) (q : Fin 4) (t : Fin 2048) (l : Fin 512) : EReal :=
  gelu (u (ix3 q t l)) * mixed g b w a (blkOf v q (kOf t)) (iOf t) l

end Cert.Grad.Sgu

namespace Cert.SguFwdIdeal.Value
open Cert.SguFwdIdeal Cert.SguFwdIdeal.Gen Cert.Grad Cert.Grad.Sgu

/-- four blocks of 128 rows -/
abbrev Tile := Vec Ideal S512x512 .f32
/-- a row of a tile -/
abbrev row (x : Tile) (r : Fin 512) : Row := fun l => x (ix2 r l)
/-- block `n` of a tile -/
abbrev blkAt (x : Tile) (n : Fin 4) : Blk := fun i => row x (chanOf n i)
/-- the rows' numbers -/
abbrev rowNo : IVec S128x128 32 := iota .tc S128x128 32 [0] iota_S128x128_d0_w32
/-- the columns' numbers -/
abbrev colNo : IVec S128x128 32 := iota .tc S128x128 32 [1] iota_S128x128_d1_w32
/-- a gain or a shift -/
abbrev lane (g : Vec Ideal S1x512 .f32) : Row := fun l => g (ix2 0 l)
/-- the heads' matrices -/
abbrev mats (w : Vec Ideal S4x128x128 .f32) : Mats := fun h i j => w (ix3 h i j)
/-- the heads' biases -/
abbrev biases (a : Vec Ideal S4x128x1 .f32) : Fin 4 → Fin 128 → EReal := fun h i => a (ix3 h i 0)

variable (x y : Tile) (g b : Vec Ideal S1x512 .f32) (w : Vec Ideal S4x128x128 .f32) (a : Vec Ideal S4x128x1 .f32)

theorem chan_zero (l : Fin 128) : (⟨l.val, by omega⟩ : Fin 512) = chanOf 0 l := Fin.ext (by show l.val = 0 * 128 + l.val; omega)

theorem load1 : k0_pay1 (F := Ideal) g = g := by funext i; idx_vars i; pointwise [k0_pay1]
theorem load2 : k0_pay2 (F := Ideal) g = g := by funext i; idx_vars i; pointwise [k0_pay2]
theorem load3 : k0_pay3 (F := Ideal) a = a := by funext i; idx_vars i; pointwise [k0_pay3]

theorem gelu_u_at (r l : Fin 512) : k0_pay4 (F := Ideal) x (ix2 r l) = gelu (x (ix2 r l)) := by pointwise [k0_pay4]; rfl
theorem gelu_v_at (r l : Fin 512) : k0_pay5 (F := Ideal) y (ix2 r l) = gelu (y (ix2 r l)) := by pointwise [k0_pay5]; rfl
theorem vn_at (r l : Fin 512) : k0_pay6 (F := Ideal) g b (k0_pay5 y) (ix2 r l) = vn (lane g) (lane b) (row y r) l := by
  pointwise [k0_pay6, gelu_v_at]; rfl

/-- the mixed rows of one head -/
abbrev mixedAt (r : Fin 512) (c : Fin 512) : EReal := mixed (lane g) (lane b) (mats w) (biases a) (blkAt y (grp r)) (inn r) c

theorem mix0_at (r : Fin 512) (l : Fin 128) : k0_pay7 (F := Ideal) g b w a (k0_pay5 y) (ix2 r l) = mixedAt y g b w a r (chanOf 0 l) := by
  refine Eq.trans ?_ (mixed_chan (lane g) (lane b) (mats w) (biases a) _ _ _ _).symm
  simp only [← low_mul, ← chan_zero]
  pointwise [k0_pay7, vn_at]
  rfl

theorem src1_at (n : Fin 4) (i l : Fin 128) : k0_pay8 (F := Ideal) g b (k0_pay5 y) (ix3 n i l) = vn (lane g) (lane b) (blkAt y n i) (chanOf 1 l) := by
  pointwise [k0_pay8, vn_at]; rfl

theorem low1_at (n : Fin 4) (i j : Fin 128) : k0_pay9 (F := Ideal) w (ix3 n i j) = low (mats w) 1 i j := by
  pointwise [k0_pay9]; exact pick_low _ _ _

theorem out_at (r : Fin 512) (c : Fin 512) : k0_pay10 (F := Ideal) w a (k0_pay4 x) (k0_pay6 g b (k0_pay5 y)) rowNo colNo (k0_pay7 g b w a (k0_pay5 y))
    (k0_pay8 g b (k0_pay5 y)) (k0_pay9 w) (ix2 r c) = gelu (x (ix2 r c)) * mixedAt y g b w a r c := by
  pointwise [k0_pay10, gelu_u_at, mix0_at, src1_at, low1_at, vn_at]
  refine congrArg (gelu (x (ix2 r c)) * ·) (Eq.trans ?_ (pieces (mixedAt y g b w a r) c))
  simp only [mixed_chan, ← low_mul]
  rfl

/-- every window's block index at every point -/
theorem idx : ∀ t : Fin cfg0.N, win0_0.index t = ![t.val, 0] ∧ win0_1.index t = ![t.val, 0] ∧ win0_2.index t = ![0, 0]
    ∧ win0_3.index t = ![0, 0] ∧ win0_4.index t = ![0, 0, 0] ∧ win0_5.index t = ![0, 0, 0] ∧ win0_6.index t = ![t.val, 0] :=
  (by decide +kernel : ∀ t : Fin grid0.N, _)

/-- sixteen points -/
theorem lt16 (p : Fin cfg0.N) : p.val < 16 := lt_of_lt_of_eq p.isLt N_0

variable (m : (ℓ : Loc nD τ sig) → Buf (Elt Ideal) ℓ) (c : Dev nD)

abbrev argU : S4x2048x512.Idx → EReal := m ((c : Thread nD τ).loc main_arg0)
abbrev argV : S4x2048x512.Idx → EReal := m ((c : Thread nD τ).loc main_arg1)
abbrev argG : S512.Idx → EReal := m ((c : Thread nD τ).loc main_arg2)
abbrev argB : S512.Idx → EReal := m ((c : Thread nD τ).loc main_arg3)
abbrev argW : S4x128x128.Idx → EReal := m ((c : Thread nD τ).loc main_arg4)
abbrev argA : S4x128.Idx → EReal := m ((c : Thread nD τ).loc main_arg5)

/-- the sequence of point `p` -/
abbrev bOf (p : Fin cfg0.N) : Fin 4 := ⟨p.val / 4, by have := lt16 p; omega⟩
/-- row `r` of point `p` -/
abbrev rOf (p : Fin cfg0.N) (r : Fin 512) : Fin 2048 := ⟨p.val % 4 * 512 + r.val, by omega⟩

/-- the rows of point `p` of an array -/
def tileOf (x : S4x2048x512.Idx → EReal) (p : Fin cfg0.N) (i : S512x512.Idx) : EReal := x (ix3 (bOf p) (rOf p (i 0)) (i 1))

theorem blk_u (p : Fin cfg0.N) : iblk m c 0 p = tileOf (argU m c) p := by
  funext i
  unfold tileOf
  blk_simp [iblk]
  unfold_abbrev_sides
  simp only [hostOps0, List.flatten_singleton]
  after_reads_at
  blk_ext [idx p]

theorem blk_v (p : Fin cfg0.N) : iblk m c 1 p = tileOf (argV m c) p := by
  funext i
  unfold tileOf
  blk_simp [iblk]
  unfold_abbrev_sides
  simp only [hostOps0, List.flatten_singleton]
  after_reads_at
  blk_ext [idx p]

theorem blk_g (p : Fin cfg0.N) : iblk m c 2 p = fun i : S1x512.Idx => argG m c (ix1 (i 1)) := by
  funext i
  blk_simp [iblk]
  unfold_abbrev_sides
  simp only [hostOps0, List.flatten_singleton]
  after_reads_at
  blk_ext [idx p]

theorem blk_b (p : Fin cfg0.N) : iblk m c 3 p = fun i : S1x512.Idx => argB m c (ix1 (i 1)) := by
  funext i
  blk_simp [iblk]
  unfold_abbrev_sides
  simp only [hostOps0, List.flatten_singleton]
  after_reads_at
  blk_ext [idx p]

theorem blk_w (p : Fin cfg0.N) : iblk m c 4 p = argW m c := by
  funext i
  blk_simp [iblk]
  unfold_abbrev_sides
  simp only [hostOps0, List.flatten_singleton]
  after_reads_at
  blk_ext [idx p]

theorem blk_a (p : Fin cfg0.N) : iblk m c 5 p = fun i : S4x128x1.Idx => argA m c (ix2 (i 0) (i 1)) := by
  funext i
  blk_simp [iblk]
  unfold_abbrev_sides
  simp only [hostOps0, List.flatten_singleton]
  after_reads_at
  blk_ext [idx p]

/-- the gain, the shift, the matrices and the biases -/
abbrev rG : Row := fun l => argG m c (ix1 l)
abbrev rB : Row := fun l => argB m c (ix1 l)
abbrev rW : Mats := fun h i j => argW m c (ix3 h i j)
abbrev rA : Fin 4 → Fin 128 → EReal := fun h i => argA m c (ix2 h i)

/-- the block of sequence `bOf p` that is block `n` of point `p` -/
abbrev kAt (p : Fin cfg0.N) (n : Fin 4) : Fin 16 := ⟨p.val % 4 * 4 + n.val, by omega⟩

theorem blk_tile (x : S4x2048x512.Idx → EReal) (p : Fin cfg0.N) (n : Fin 4) : blkAt (tileOf x p) n = blkOf x (bOf p) (kAt p n) := by
  funext i l
  refine congrArg x ?_
  refine congrArg (fun t => ix3 (bOf p) t l) (Fin.ext ?_)
  show p.val % 4 * 512 + (n.val * 128 + i.val) = (p.val % 4 * 4 + n.val) * 128 + i.val
  omega

theorem k_row (p : Fin cfg0.N) (r : Fin 512) : kAt p (grp r) = kOf (rOf p r) :=
  Fin.ext (by show p.val % 4 * 4 + r.val / 128 = (p.val % 4 * 512 + r.val) / 128; omega)
theorem i_row (p : Fin cfg0.N) (r : Fin 512) : inn r = iOf (rOf p r) :=
  Fin.ext (by show r.val % 128 = (p.val % 4 * 512 + r.val) % 128; omega)

theorem blk_row (x : S4x2048x512.Idx → EReal) (p : Fin cfg0.N) (r : Fin 512) : blkAt (tileOf x p) (grp r) = blkOf x (bOf p) (kOf (rOf p r)) :=
  (blk_tile x p (grp r)).trans (congrArg (blkOf x (bOf p)) (k_row p r))

/-- a row of a tile is a row of its block -/
theorem row_blk (x : Tile) (r : Fin 512) : row x r = blkAt x (grp r) (inn r) := by
  show row x r = row x (chanOf (grp r) (inn r))
  rw [chan_grp]

/-- the result at a row and a channel -/
abbrev yAt (b : Fin 4) (t : Fin 2048) (l : Fin 512) : EReal := sguOut (rG m c) (rB m c) (rW m c) (rA m c) (argU m c) (argV m c) b t l

theorem out_row (p : Fin cfg0.N) (r l : Fin 512) : gelu (tileOf (argU m c) p (ix2 r l))
    * mixedAt (tileOf (argV m c) p) (iblk m c 2 p) (iblk m c 3 p) (iblk m c 4 p) (iblk m c 5 p) r l = yAt m c (bOf p) (rOf p r) l := by
  unfold mixedAt
  rw [blk_row, i_row p r, blk_g, blk_b, blk_w, blk_a]
  rfl

/-- the kernel's result array -/
theorem final : (dats m 0 c).arrAt 6 cfg0.N = seqRows (yAt m c) := by
  refine (dats m 0 c).arrAt_eq_of_covers 6 _ (by decide +kernel) fun p _ y => ?_
  have hp := lt16 p
  blk_simp
  rw [after0_6]
  have hc : out0_6 (iblk m c 0 p) (iblk m c 1 p) (iblk m c 2 p) (iblk m c 3 p) (iblk m c 4 p) (iblk m c 5 p)
      = k0_pay10 (iblk m c 4 p) (k0_pay3 (iblk m c 5 p)) (k0_pay4 (iblk m c 0 p)) (k0_pay6 (k0_pay1 (iblk m c 2 p)) (k0_pay2 (iblk m c 3 p)) (k0_pay5 (iblk m c 1 p))) rowNo colNo
        (k0_pay7 (k0_pay1 (iblk m c 2 p)) (k0_pay2 (iblk m c 3 p)) (iblk m c 4 p) (k0_pay3 (iblk m c 5 p)) (k0_pay5 (iblk m c 1 p)))
        (k0_pay8 (k0_pay1 (iblk m c 2 p)) (k0_pay2 (iblk m c 3 p)) (k0_pay5 (iblk m c 1 p))) (k0_pay9 (iblk m c 4 p)) := by
    unfold_out out0_6
    frame_out
  rw [hc]
  simp only [load1, load2, load3]
  refine Eq.trans ?_ (seqRows_at _ _ (bOf p) (rOf p (y 0)) (y 1) ?_ ?_).symm
  · refine (congrArg _ (eq_ix2 y)).trans ((out_at _ _ _ _ _ _ (y 0) (y 1)).trans ?_)
    rw [blk_u, blk_v]
    exact out_row m c p (y 0) (y 1)
  · refine Eq.trans (b := p.val * 512 + (y 0).val) (by blk_ext [idx p]) ?_
    show _ = p.val / 4 * 2048 + (p.val % 4 * 512 + (y 0).val)
    omega
  · blk_ext [idx p]

end Cert.SguFwdIdeal.Value

namespace Cert.SguFwdRefIdeal.Value
open Cert.SguFwdRefIdeal Cert.SguFwdRefIdeal.Gen Cert.SguFwdRefIdeal.Read Cert.Grad Cert.Grad.Sgu
open Cert.SguBwdRefIdeal.Value (lane mats biases th_eq low_pick)

variable (u v : S4x2048x512.Idx → EReal) (g b : S512.Idx → EReal) (w : S4x128x128.Idx → EReal) (a : S4x128.Idx → EReal)

theorem gelu_cube (x : EReal) : x * (lit 0x3F000000#32 * (1 + Ideal.tanh (lit 0x3F4C422A#32 * (x + lit 0x3D372713#32 * (x * x * x))))) = gelu x := by
  rw [th_eq]
  rfl

theorem v12_eq : val_main_v12 (F := Ideal) u = fun i => gelu (u i) := by
  funext i
  idx_vars i
  pointwise [val_main_v12, val_main_v11, val_main_v10, val_main_cst_2, val_main_v9, val_main_v8, val_main_cst_1, val_main_v7, val_main_v6, val_main_v5,
    val_main_cst_0, val_main_v4, val_main_v3, val_main_v2, val_main_cst, val_main_v1, val_main_v0]
  exact gelu_cube _

theorem v25_eq : val_main_v25 (F := Ideal) v = fun i => gelu (v i) := by
  funext i
  idx_vars i
  pointwise [val_main_v25, val_main_v24, val_main_v23, val_main_cst_6, val_main_v22, val_main_v21, val_main_cst_5, val_main_v20, val_main_v19, val_main_v18,
    val_main_cst_4, val_main_v17, val_main_v16, val_main_v15, val_main_cst_3, val_main_v14, val_main_v13]
  exact gelu_cube _

theorem v31_eq : val_main_v31 (F := Ideal) v = fun i => cen (rowAt v (i 0) (i 1)) (i 2) := by
  funext i
  idx_vars i
  pointwise [val_main_v31, val_main_v30, val_main_v29, val_main_v28, val_main_cst_8, val_main_v27, val_main_v26, val_main_cst_7, v25_eq]
  rfl

theorem v38_eq : val_main_v38 (F := Ideal) v = fun i => var (rowAt v (i 0) (i 1)) := by
  funext i
  idx_vars i
  pointwise [val_main_v38, val_main_v37, val_main_cst_11, val_main_v36, val_main_v35, val_main_cst_10, val_main_v34, val_main_v33, val_main_cst_9, val_main_v32, v31_eq]
  rfl

theorem v47_eq : val_main_v47 (F := Ideal) v g b = fun i => vn (lane g) (lane b) (rowAt v (i 0) (i 1)) (i 2) := by
  funext i
  idx_vars i
  pointwise [val_main_v47, val_main_v46, val_main_v45, val_main_v44, val_main_v43, val_main_v42, val_main_v41, val_main_v40, val_main_v39, v31_eq, v38_eq]
  rfl

theorem v48_eq : val_main_v48 (F := Ideal) v g b = fun i => vn (lane g) (lane b) (blkOf v (i 0) (i 1) (i 2)) (chanOf (i 3) (i 4)) := by
  funext i
  idx_vars i
  pointwise [val_main_v48, v47_eq]
  rfl

theorem v51_eq : val_main_v51 (F := Ideal) w = fun i => low (mats w) (i 0) (i 1) (i 2) := by
  funext i
  idx_vars i
  pointwise [val_main_v51, val_main_call1_v2, val_main_call1_v1, val_main_call1_v0, val_main_cst_12, val_main_v50, val_main_v49, val_main_c,
    val_main_call0_v5, val_main_call0_c_0, val_main_call0_v4, val_main_call0_v3, val_main_call0_v2, val_main_call0_v1, val_main_call0_c, val_main_call0_v0]
  exact low_pick _ _ _

theorem v52_eq : val_main_v52 (F := Ideal) v g b w = fun i => ∑ j, low (mats w) (i 0) (i 4) j * vn (lane g) (lane b) (blkOf v (i 1) (i 2) j) (chanOf (i 0) (i 3)) := by
  funext i
  idx_vars i
  pointwise [val_main_v52, v48_eq, v51_eq]
  exact Finset.sum_congr rfl fun _ _ => mul_comm _ _

theorem v57_eq : val_main_v57 (F := Ideal) v g b w a = fun i => mixed (lane g) (lane b) (mats w) (biases a) (blkOf v (i 0) (i 1)) (i 2) (chanOf (i 3) (i 4)) := by
  funext i
  idx_vars i
  pointwise [val_main_v57, val_main_v56, val_main_v55, val_main_v54, val_main_v53, v52_eq]
  exact (mixed_chan (lane g) (lane b) (mats w) (biases a) _ _ _ _).symm

theorem v58_eq : val_main_v58 (F := Ideal) v g b w a = fun i => mixed (lane g) (lane b) (mats w) (biases a) (blkOf v (i 0) (kOf (i 1))) (iOf (i 1)) (i 2) := by
  funext i
  idx_vars i
  pointwise [val_main_v58, v57_eq]
  exact congrArg (mixed (lane g) (lane b) (mats w) (biases a) (blkOf v i0 (kOf i1)) (iOf i1)) (chan_grp i2)

/-- the reference's result array -/
theorem v61_eq : val_main_v61 (F := Ideal) u v g b w a = seqRows (sguOut (lane g) (lane b) (mats w) (biases a) u v) := by
  funext i
  idx_vars i
  pointwise [val_main_v61, val_main_v60, val_main_v59, v12_eq, v58_eq]
  rfl

end Cert.SguFwdRefIdeal.Value

namespace Cert.Proof
open Cert.SguFwdIdeal.Value Cert.SguFwdRefIdeal.Value Cert.Grad

/-- the two programs of the spatial gating compute the same array -/
theorem sgu_fwd : Cert.algebraic_SguFwdIdeal_SguFwdRefIdeal := by
  intro m ρ m' ρ' _ ha
  refine ⟨fun c => (Cert.SguFwdIdeal.Gen.dats m 0 c).arrAt 6 Cert.SguFwdIdeal.cfg0.N, Cert.SguFwdIdeal.Value.run_blocks m ρ, ?_⟩
  refine (θ_run _ _ _).mono (fun r hr c => ?_) (Cert.SguFwdRefIdeal.Value.run m' ρ')
  obtain ⟨r0, k⟩ := hr c
  obtain ⟨a0, a1, a2, a3, a4, a5⟩ := ha c
  refine ⟨r0.trans ((Cert.SguFwdRefIdeal.Read.val_main_v61_eq _ _).trans ?_), k⟩
  rw [a0, a1, a2, a3, a4, a5]
  exact ((final m c).trans (v61_eq _ _ _ _ _ _).symm).symm

end Cert.Proof
-- ==== Proof.PrepMath.lean ====
module

public import proofs.«01_k».proof.Proof.Finite
public import Mathlib.LinearAlgebra.Matrix.Notation
public import Mathlib.Data.Matrix.Mul

/-! # The delta rule's chunk terms

The triangular system of a chunk, solved by doubling and solved a row at a time. -/

@[expose] public section

noncomputable section

open Idealize.ShloMosaic

namespace Cert.Grad.Prep

/-- a square of a chunk's steps -/
abbrev Sq := Fin 64 → Fin 64 → EReal
/-- rows of a chunk -/
abbrev Rows := Fin 64 → Fin 128 → EReal
/-- a real square -/
abbrev RSq := Matrix (Fin 64) (Fin 64) ℝ

/-- the product of two squares -/
def mul (X P : Sq) : Sq := fun i j => ∑ l, X i l * P l j
/-- a square and its product with another, the step of the doubling -/
def grow (X P : Sq) : Sq := fun i j => X i j + mul X P i j
/-- the unit square less a square -/
def less (L : Sq) : Sq := fun i j => (if i = j then 1 else 0) - L i j
/-- the unit plus a strictly lower square, inverted by doubling -/
def inv (L : Sq) : Sq :=
  grow (grow (grow (grow (grow (less L) (mul L L)) (mul (mul L L) (mul L L)))
    (mul (mul (mul L L) (mul L L)) (mul (mul L L) (mul L L))))
    (mul (mul (mul (mul L L) (mul L L)) (mul (mul L L) (mul L L))) (mul (mul (mul L L) (mul L L)) (mul (mul L L) (mul L L)))))
    (mul (mul (mul (mul (mul L L) (mul L L)) (mul (mul L L) (mul L L))) (mul (mul (mul L L) (mul L L)) (mul (mul L L) (mul L L))))
      (mul (mul (mul (mul L L) (mul L L)) (mul (mul L L) (mul L L))) (mul (mul (mul L L) (mul L L)) (mul (mul L L) (mul L L)))))

/-- a square of reals -/
def up (A : RSq) : Sq := fun i j => (A i j : EReal)

theorem mul_up (A B : RSq) : mul (up A) (up B) = up (A * B) := by
  funext i j
  unfold mul up
  simp only [← EReal.coe_mul, coe_sum, Matrix.mul_apply]

theorem grow_up (A B : RSq) : grow (up A) (up B) = up (A + A * B) := by
  funext i j
  unfold grow
  rw [mul_up]
  simp only [up, Matrix.add_apply, EReal.coe_add]

theorem less_up (A : RSq) : less (up A) = up (1 - A) := by
  funext i j
  unfold less up
  rw [Matrix.sub_apply, Matrix.one_apply, EReal.coe_sub]
  split_ifs <;> simp

theorem inv_up (A : RSq) : inv (up A) = up ((1 - A) * (1 + A ^ 2) * (1 + A ^ 4) * (1 + A ^ 8) * (1 + A ^ 16) * (1 + A ^ 32)) := by
  unfold inv
  simp only [less_up, mul_up, grow_up]
  refine congrArg up ?_
  noncomm_ring

/-- the powers of a strictly lower square move below the diagonal -/
theorem pow_low (A : RSq) (h : ∀ i j, i ≤ j → A i j = 0) : ∀ (n : ℕ) (i j : Fin 64), i.val < j.val + n → (A ^ n) i j = 0
  | 0, i, j, hn => by
    rw [pow_zero, Matrix.one_apply_ne]
    intro e
    rw [e] at hn
    omega
  | n + 1, i, j, hn => by
    rw [pow_succ, Matrix.mul_apply]
    refine Finset.sum_eq_zero fun l _ => ?_
    by_cases hl : l ≤ j
    · rw [h l j hl, mul_zero]
    · have : j.val < l.val := by simpa using hl
      rw [pow_low A h n i l (by omega), zero_mul]

/-- the doubled inverse, times the unit plus the square, is the unit -/
theorem unit_inv (A : RSq) (h : ∀ i j, i ≤ j → A i j = 0) :
    (1 + A) * ((1 - A) * (1 + A ^ 2) * (1 + A ^ 4) * (1 + A ^ 8) * (1 + A ^ 16) * (1 + A ^ 32)) = 1 := by
  have h64 : A ^ 64 = 0 := by
    ext i j
    exact pow_low A h 64 i j (by have := i.isLt; omega)
  have e1 : (1 + A) * (1 - A) = 1 - A ^ 2 := by noncomm_ring
  have e (n : ℕ) : (1 - A ^ n) * (1 + A ^ n) = 1 - A ^ (n + n) := by rw [pow_add]; noncomm_ring
  simp only [← mul_assoc]
  rw [e1, e 2, e 4, e 8, e 16, e 32, h64, sub_zero]

/-- a system's solution, a column of it -/
def Solves (L : Sq) (r x : Fin 64 → EReal) : Prop := ∀ i, x i = r i - ∑ j, L i j * x j

/-- the doubled inverse solves the system, on reals -/
theorem inv_solves (A : RSq) (h : ∀ i j, i ≤ j → A i j = 0) (r : Fin 64 → ℝ) :
    Solves (up A) (fun i => (r i : EReal)) (fun i => ∑ l, inv (up A) i l * (r l : EReal)) := by
  intro i
  rw [inv_up]
  generalize hN : (1 - A) * (1 + A ^ 2) * (1 + A ^ 4) * (1 + A ^ 8) * (1 + A ^ 16) * (1 + A ^ 32) = N
  have u := unit_inv A h
  rw [hN] at u
  simp only [up, ← EReal.coe_mul, coe_sum, ← EReal.coe_sub]
  refine congrArg _ ?_
  have e : (N.mulVec r) + A.mulVec (N.mulVec r) = r := by
    have := congrArg (fun M : RSq => M.mulVec r) u
    simpa [Matrix.add_mul, Matrix.add_mulVec, ← Matrix.mulVec_mulVec] using this
  have ei := congrFun e i
  simp only [Pi.add_apply, Matrix.mulVec, dotProduct] at ei
  linarith

/-- the rows solved before row `n`, the rest zero -/
def sub (L : Sq) (r : Fin 64 → EReal) : ℕ → Fin 64 → EReal
  | 0 => fun _ => 0
  | n + 1 => fun i => if i.val = n then r i - ∑ j, L i j * sub L r n j else sub L r n i

/-- solving a row at a time solves the system -/
theorem sub_eq (L : Sq) (h : ∀ i j, i ≤ j → L i j = 0) (r x : Fin 64 → EReal) (hx : Solves L r x) :
    ∀ (n : ℕ) (i : Fin 64), i.val < n → sub L r n i = x i
  | 0, _, hi => absurd hi (Nat.not_lt_zero _)
  | n + 1, i, hi => by
    unfold sub
    by_cases g : i.val = n
    · rw [if_pos g, hx i]
      refine congrArg (fun z => r i - z) (Finset.sum_congr rfl fun j _ => ?_)
      by_cases hj : i ≤ j
      · rw [h i j hj, zero_mul, zero_mul]
      · have : j.val < i.val := by simpa using hj
        rw [sub_eq L h r x hx n j (by omega)]
    · rw [if_neg g]
      exact sub_eq L h r x hx n i (by omega)

/-! ## The terms -/

/-- the root of a head's squares, inverted -/
def rt (x : Fin 128 → EReal) : EReal := Ideal.rsqrt ((∑ l, x l * x l) + ((eps : ℝ) : EReal))
/-- the word that scales the queries -/
def qs : EReal := Ideal.ofBits .f32 0x3DB504F3#32
/-- the softplus -/
def soft (x : EReal) : EReal := max x 0 + Ideal.log (1 + Ideal.exp (0 - max x (-x)))
/-- the log decay -/
def dec (a x : EReal) : EReal := (0 - Ideal.exp a) * soft x

/-- a chunk of a head: keys, queries, values, gates and log decays -/
structure Cell where
  q : Rows
  k : Rows
  v : Rows
  b : Fin 64 → EReal
  g : Fin 64 → EReal

variable (x : Cell)

/-- the log decays' running sum -/
def cum (i : Fin 64) : EReal := ∑ j, if j ≤ i then x.g j else 0
/-- the decays between two steps -/
def gam : Sq := fun i j => if j ≤ i then Ideal.exp (cum x i - cum x j) else 0
/-- the strictly lower square -/
def low : Sq := fun i j => if j < i then (∑ d, (x.k i d * x.b i) * x.k j d) * gam x i j else 0
/-- the gated values -/
def ru : Rows := fun i d => x.v i d * x.b i
/-- the gated decayed keys -/
def rw' : Rows := fun i d => x.k i d * x.b i * Ideal.exp (cum x i)
/-- rows, the inverse applied -/
def app (L : Sq) (r : Rows) : Rows := fun i d => ∑ l, inv L i l * r l d
/-- the pseudo values -/
def uOf : Rows := app (low x) (ru x)
/-- the pseudo keys -/
def wOf : Rows := app (low x) (rw' x)
/-- the decayed queries -/
def qdOf : Rows := fun i d => x.q i d * Ideal.exp (cum x i)
/-- the keys, decayed to the chunk's end -/
def kdOf : Rows := fun i d => x.k i d * Ideal.exp (cum x 63 - cum x i)
/-- the attention in the chunk -/
def aOf : Sq := fun i j => (∑ d, x.q i d * x.k j d) * gam x i j
/-- the chunk's decay -/
def lOf : EReal := Ideal.exp (cum x 63)

theorem low_zero (i j : Fin 64) (h : i ≤ j) : low x i j = 0 := if_neg (not_lt.2 h)

/-! ## Finite terms -/

/-- an extended real that is a real -/
def Fin' (z : EReal) : Prop := ∃ r : ℝ, z = r

theorem fin_coe (r : ℝ) : Fin' (r : EReal) := ⟨r, rfl⟩
theorem fin_zero : Fin' 0 := ⟨0, rfl⟩
theorem fin_add {a b : EReal} : Fin' a → Fin' b → Fin' (a + b) := fun ⟨r, h⟩ ⟨s, k⟩ => ⟨r + s, by rw [h, k, EReal.coe_add]⟩
theorem fin_sub {a b : EReal} : Fin' a → Fin' b → Fin' (a - b) := fun ⟨r, h⟩ ⟨s, k⟩ => ⟨r - s, by rw [h, k, EReal.coe_sub]⟩
theorem fin_mul {a b : EReal} : Fin' a → Fin' b → Fin' (a * b) := fun ⟨r, h⟩ ⟨s, k⟩ => ⟨r * s, by rw [h, k, EReal.coe_mul]⟩
theorem fin_exp {a : EReal} : Fin' a → Fin' (Ideal.exp a) := fun ⟨r, h⟩ => ⟨Real.exp r, by rw [h, Ideal.exp_coe]⟩
theorem fin_sum {ι : Type} [Fintype ι] {f : ι → EReal} (h : ∀ i, Fin' (f i)) : Fin' (∑ i, f i) := by
  choose g hg using h
  exact ⟨∑ i, g i, by rw [← coe_sum]; exact Finset.sum_congr rfl fun i _ => hg i⟩
theorem fin_ite {p : Prop} [Decidable p] {a b : EReal} (h : Fin' a) (k : Fin' b) : Fin' (if p then a else b) := by
  split_ifs
  · exact h
  · exact k

/-- a finite head's root is finite -/
theorem fin_rt {y : Fin 128 → EReal} (h : ∀ l, Fin' (y l)) : Fin' (rt y) := by
  choose g hg using h
  have e : (∑ l, y l * y l) + ((eps : ℝ) : EReal) = ((∑ l, g l * g l + eps : ℝ) : EReal) := by
    rw [EReal.coe_add, ← coe_sum]
    exact congrArg (· + _) (Finset.sum_congr rfl fun l _ => by rw [hg l, EReal.coe_mul])
  unfold rt
  rw [e, coe_rsqrt _ (add_pos_of_nonneg_of_pos (Finset.sum_nonneg fun l _ => mul_self_nonneg _) eps_pos)]
  exact fin_coe _

/-- the softplus of a real is a real -/
theorem fin_soft {y : EReal} : Fin' y → Fin' (soft y) := fun ⟨r, h⟩ => by
  have e1 : max (r : EReal) 0 = ((max r 0 : ℝ) : EReal) := EReal.coe_strictMono.monotone.map_max.symm
  have e2 : max (r : EReal) (-(r : EReal)) = ((max r (-r) : ℝ) : EReal) := by rw [← EReal.coe_neg]; exact EReal.coe_strictMono.monotone.map_max.symm
  have e3 : (0 : EReal) - ((max r (-r) : ℝ) : EReal) = ((0 - max r (-r) : ℝ) : EReal) := by rw [EReal.coe_sub]; rfl
  have e4 : (1 : EReal) + ((Real.exp (0 - max r (-r)) : ℝ) : EReal) = ((1 + Real.exp (0 - max r (-r)) : ℝ) : EReal) := by rw [EReal.coe_add]; rfl
  unfold soft
  rw [h, e1, e2, e3, Ideal.exp_coe, e4, Ideal.log_coe, if_neg (not_le.2 (by positivity))]
  exact fin_add (fin_coe _) (fin_coe _)

theorem fin_dec {a y : EReal} (h : Fin' a) (k : Fin' y) : Fin' (dec a y) :=
  fin_mul (fin_sub fin_zero (fin_exp h)) (fin_soft k)

theorem fin_logistic {a : EReal} : Fin' a → Fin' (Ideal.logistic a) := fun ⟨r, h⟩ => ⟨_, by rw [h, Ideal.logistic_coe]⟩

/-- a cell whose keys, values, gates and log decays are real -/
structure Finite : Prop where
  k : ∀ i d, Fin' (x.k i d)
  v : ∀ i d, Fin' (x.v i d)
  b : ∀ i, Fin' (x.b i)
  g : ∀ i, Fin' (x.g i)

variable {x} (hx : Finite x)
include hx

theorem fin_cum (i : Fin 64) : Fin' (cum x i) := fin_sum fun j => fin_ite (hx.g j) fin_zero
theorem fin_gam (i j : Fin 64) : Fin' (gam x i j) := fin_ite (fin_exp (fin_sub (fin_cum hx i) (fin_cum hx j))) fin_zero
theorem fin_low (i j : Fin 64) : Fin' (low x i j) :=
  fin_ite (fin_mul (fin_sum fun d => fin_mul (fin_mul (hx.k i d) (hx.b i)) (hx.k j d)) (fin_gam hx i j)) fin_zero

/-- the inverse solves a finite cell's system -/
theorem app_solves {r : Rows} (hr : ∀ i d, Fin' (r i d)) (d : Fin 128) : Solves (low x) (fun i => r i d) (fun i => app (low x) r i d) := by
  choose A hA using fin_low hx
  choose s hs using hr
  have e : low x = up A := by funext i j; exact hA i j
  have er : (fun i => r i d) = fun i => (s i d : EReal) := funext fun i => hs i d
  have h : ∀ i j, i ≤ j → A i j = 0 := fun i j hij => by
    have := (hA i j).symm.trans (low_zero x i j hij)
    exact_mod_cast this
  have t := inv_solves A h (fun i => s i d)
  unfold app
  rw [er]
  simp only [hs]
  rw [e]
  exact t

/-- the rows of the gated values, solved one at a time -/
theorem sub_u (i : Fin 64) (d : Fin 128) : sub (low x) (fun i => ru x i d) 64 i = uOf x i d :=
  sub_eq _ (low_zero x) _ _ (app_solves hx (fun i d => fin_mul (hx.v i d) (hx.b i)) d) 64 i i.isLt

/-- the rows of the gated keys, solved one at a time -/
theorem sub_w (i : Fin 64) (d : Fin 128) : sub (low x) (fun i => rw' x i d) 64 i = wOf x i d :=
  sub_eq _ (low_zero x) _ _ (app_solves hx (fun i d => fin_mul (fin_mul (hx.k i d) (hx.b i)) (fin_exp (fin_cum hx i))) d) 64 i i.isLt

/-! ## The cells of a call -/

/-- the column of a head's channel among the queries', keys' and values' columns -/
abbrev colOf (o : Fin 3) (h : Fin 4) (d : Fin 128) : Fin 1536 := ⟨o.val * 512 + h.val * 128 + d.val, by omega⟩
/-- the step of a chunk's row -/
abbrev stepOf (n : Fin 32) (i : Fin 64) : Fin 2048 := ⟨n.val * 64 + i.val, by omega⟩

/-- the cell of a sequence's chunk and head -/
def headCell (x : (⟨3, ![4, 2048, 1536]⟩ : Shape).Idx → EReal) (br gr : (⟨3, ![4, 2048, 4]⟩ : Shape).Idx → EReal) (al dt : (⟨1, ![4]⟩ : Shape).Idx → EReal)
    (b : Fin 4) (n : Fin 32) (h : Fin 4) : Cell where
  q i d := x (ix3 b (stepOf n i) (colOf 0 h d)) * rt (fun l => x (ix3 b (stepOf n i) (colOf 0 h l))) * qs
  k i d := x (ix3 b (stepOf n i) (colOf 1 h d)) * rt (fun l => x (ix3 b (stepOf n i) (colOf 1 h l)))
  v i d := x (ix3 b (stepOf n i) (colOf 2 h d))
  b i := Ideal.logistic (br (ix3 b (stepOf n i) h))
  g i := dec (al (ix1 h)) (gr (ix3 b (stepOf n i) h) + dt (ix1 h))

end Cert.Grad.Prep
-- ==== Proof.PrepPoint.lean ====
module

public import proofs.«01_k».proof.Proof.PrepMath
public import proofs.«01_k».proof.Proof.LeadSum
public import proofs.«01_k».proof.Proof.Shift
public import proofs.«01_k».proof.Proof.Gen.DnPrepFwdIdeal.Skeleton
public import Idealize.ShloMosaic.Lib.WordCmp

/-! # The delta rule's chunk terms: one point of the kernel -/

@[expose] public section

noncomputable section

open Idealize.ShloMosaic Idealize.ShloMosaic.TcCoe Idealize.SL.Sem

namespace Cert.Grad.Prep

/-- a mask of the steps not after another picks -/
theorem pick_ge {α : Type} (i j : Fin 64) (x y : α) :
    Scalar.select (IntOp.cmpi CmpIPredicate.sge (BitVec.ofNat 32 i.val) (BitVec.ofNat 32 j.val)) x y = if j ≤ i then x else y := by
  revert i j
  intro i j
  have h : IntOp.cmpi CmpIPredicate.sge (BitVec.ofNat 32 i.val) (BitVec.ofNat 32 j.val) = if j ≤ i then 1#1 else 0#1 := by
    revert i j; decide +kernel
  rw [h]
  split_ifs <;> rfl

/-- a mask of the steps before another picks -/
theorem pick_gt {α : Type} (i j : Fin 64) (x y : α) :
    Scalar.select (IntOp.cmpi CmpIPredicate.sgt (BitVec.ofNat 32 i.val) (BitVec.ofNat 32 j.val)) x y = if j < i then x else y := by
  have h : IntOp.cmpi CmpIPredicate.sgt (BitVec.ofNat 32 i.val) (BitVec.ofNat 32 j.val) = if j < i then 1#1 else 0#1 := by
    revert i j; decide +kernel
  rw [h]
  split_ifs <;> rfl

/-- a mask of the diagonal picks -/
theorem pick_eq {α : Type} (i j : Fin 64) (x y : α) :
    Scalar.select (IntOp.cmpi CmpIPredicate.eq (BitVec.ofNat 32 i.val) (BitVec.ofNat 32 j.val)) x y = if i = j then x else y := by
  have h : IntOp.cmpi CmpIPredicate.eq (BitVec.ofNat 32 i.val) (BitVec.ofNat 32 j.val) = if i = j then 1#1 else 0#1 := by
    revert i j; decide +kernel
  rw [h]
  split_ifs <;> rfl

end Cert.Grad.Prep

namespace Cert.DnPrepFwdIdeal.Value
open Cert.DnPrepFwdIdeal Cert.DnPrepFwdIdeal.Gen Cert.Grad Cert.Grad.Prep

/-- eight chunks of 64 rows -/
abbrev Tile := Vec Ideal S512x1536 .f32
/-- the row of a chunk -/
abbrev rowOf (c : Fin 8) (i : Fin 64) : Fin 512 := ⟨c.val * 64 + i.val, by omega⟩
/-- a head of a chunk -/
abbrev both (c : Fin 8) (h : Fin 4) : Fin 32 := ⟨c.val * 4 + h.val, by omega⟩

/-- the cell of a head of a chunk -/
def cellOf (x : Tile) (bg : Vec Ideal S512x128 .f32) (al dt : Vec Ideal S1x128 .f32) (c : Fin 8) (h : Fin 4) : Cell where
  q i d := x (ix2 (rowOf c i) (colOf 0 h d)) * rt (fun l => x (ix2 (rowOf c i) (colOf 0 h l))) * qs
  k i d := x (ix2 (rowOf c i) (colOf 1 h d)) * rt (fun l => x (ix2 (rowOf c i) (colOf 1 h l)))
  v i d := x (ix2 (rowOf c i) (colOf 2 h d))
  b i := Ideal.logistic (bg (ix2 (rowOf c i) ⟨h.val, by omega⟩))
  g i := dec (al (ix2 0 ⟨4 + h.val, by omega⟩)) (bg (ix2 (rowOf c i) ⟨4 + h.val, by omega⟩) + dt (ix2 0 ⟨4 + h.val, by omega⟩))

/-- the heads of the chunks, stacked -/
theorem stacked {α : Type} (a b c d : S8x1x64x128.Idx → α) (h) (t : Fin 8) (e : Fin 4) (i : Fin 64) (l : Fin 128) :
    shapeCast S32x64x128 (concatenate S8x4x64x128 1 [⟨S8x1x64x128, a⟩, ⟨S8x1x64x128, b⟩, ⟨S8x1x64x128, c⟩, ⟨S8x1x64x128, d⟩] h) shapeCasts_S8x4x64x128_S32x64x128
      (ix3 (both t e) i l) = (![a, b, c, d] e) (ix4 t 0 i l) := by
  refine (shapeCast_apply _ _ _ (ix4 t e i l) ?_).trans ?_
  · rw [Shape.rowMajor_val_four, Shape.rowMajor_val_three]; rfl
  · match e with
    | 0 => pointwise []
    | 1 => pointwise []
    | 2 => pointwise []
    | 3 => pointwise []

/-- rows as a chunk's head -/
theorem unit_at {α : Type} (y : S512x128.Idx → α) (t : Fin 8) (i : Fin 64) (l : Fin 128) :
    shapeCast S8x1x64x128 (shapeCast S8x64x128 y shapeCasts_S512x128_S8x64x128) shapeCasts_S8x64x128_S8x1x64x128 (ix4 t 0 i l) = y (ix2 (rowOf t i) l) := by
  pointwise []

/-- rows normalised -/
theorem norm_at (y : FVec Ideal S512x128 .f32) (r : Fin 512) (l : Fin 128) :
    mulf y (broadcastTo S512x128 (rsqrt (addf (shapeCast S512x1 (multiReduction .add [1] S512 (mulf y y) 0x00000000#32 reduces_S512x128_S512 (.inl rfl) rfl) shapeCasts_S512_S512x1)
      (broadcast S512x1 (Scalar.ofBits .f32 0x358637BD#32)))) broadcasts_S512x1_S512x128) (ix2 r l) = y (ix2 r l) * rt (fun l => y (ix2 r l)) := by
  pointwise []
  rw [word_eps]
  rfl

/-- the heads' columns of the chunks, stacked -/
theorem stacked_cols {α : Type} (a b c d : S512x128.Idx → α) (h) (t : Fin 8) (e : Fin 4) (i : Fin 64) (l : Fin 128) (z : Fin 4 → α)
    (h0 : a (ix2 (rowOf t i) l) = z 0) (h1 : b (ix2 (rowOf t i) l) = z 1) (h2 : c (ix2 (rowOf t i) l) = z 2) (h3 : d (ix2 (rowOf t i) l) = z 3) :
    shapeCast S32x64x128 (concatenate S8x4x64x128 1 [⟨S8x1x64x128, shapeCast S8x1x64x128 (shapeCast S8x64x128 a shapeCasts_S512x128_S8x64x128) shapeCasts_S8x64x128_S8x1x64x128⟩,
      ⟨S8x1x64x128, shapeCast S8x1x64x128 (shapeCast S8x64x128 b shapeCasts_S512x128_S8x64x128) shapeCasts_S8x64x128_S8x1x64x128⟩,
      ⟨S8x1x64x128, shapeCast S8x1x64x128 (shapeCast S8x64x128 c shapeCasts_S512x128_S8x64x128) shapeCasts_S8x64x128_S8x1x64x128⟩,
      ⟨S8x1x64x128, shapeCast S8x1x64x128 (shapeCast S8x64x128 d shapeCasts_S512x128_S8x64x128) shapeCasts_S8x64x128_S8x1x64x128⟩] h) shapeCasts_S8x4x64x128_S32x64x128
      (ix3 (both t e) i l) = z e := by
  refine (stacked _ _ _ _ h t e i l).trans ?_
  match e with
  | 0 => exact (unit_at a t i l).trans h0
  | 1 => exact (unit_at b t i l).trans h1
  | 2 => exact (unit_at c t i l).trans h2
  | 3 => exact (unit_at d t i l).trans h3

variable (x : Tile) (bg : Vec Ideal S512x128 .f32) (al dt : Vec Ideal S1x128 .f32) (c : Fin 8) (h : Fin 4)

/-- the keys of a tile -/
abbrev kx : FVec Ideal S32x64x128 .f32 := k0_pay15 (F := Ideal) x (k0_pay12 x) (k0_pay13 x) (k0_pay14 x)
/-- the queries of a tile -/
abbrev qx : FVec Ideal S32x64x128 .f32 := k0_pay11 (F := Ideal) x (k0_pay8 x) (k0_pay9 x) (k0_pay10 x) (Scalar.ofBits .f32 0x358637BD#32)
/-- the gates of a tile -/
abbrev bx : FVec Ideal S32x64x128 .f32 := k0_pay19 (F := Ideal) (k0_pay6 bg) (k0_pay17 (k0_pay6 bg)) (k0_pay18 (k0_pay6 bg))
/-- the running log decays of a tile -/
abbrev gx : FVec Ideal S32x64x128 .f32 := k0_pay24 (F := Ideal) (k0_pay7 bg al dt)

theorem load4 : k0_pay4 (F := Ideal) x = x := by funext i; idx_vars i; pointwise [k0_pay4]

theorem k_at (i : Fin 64) (d : Fin 128) : kx x (ix3 (both c h) i d) = (cellOf x bg al dt c h).k i d := by
  unfold kx k0_pay15 k0_pay12 k0_pay14
  refine stacked_cols _ _ _ _ _ c h i d (fun h => (cellOf x bg al dt c h).k i d) ?_ ?_ ?_ ?_
  · exact (norm_at _ _ d).trans (by pointwise []; rfl)
  · exact (norm_at _ _ d).trans (by pointwise [k0_pay13]; rfl)
  · exact (norm_at _ _ d).trans (by pointwise []; rfl)
  · exact (norm_at _ _ d).trans (by pointwise []; rfl)

theorem first_col (c : Fin 8) (i : Fin 64) (d : Fin 128) : x (ix2 (rowOf c i) (colOf 0 0 d)) * rt (fun l => x (ix2 (rowOf c i) (colOf 0 0 l)))
    = x (ix2 (rowOf c i) ⟨d.val, by omega⟩) * rt (fun l => x (ix2 (rowOf c i) ⟨l.val, by omega⟩)) := by
  have h (l : Fin 128) : colOf 0 0 l = (⟨l.val, by omega⟩ : Fin 1536) := Fin.ext (by simp)
  simp only [h]

/-- rows normalised and scaled -/
theorem scaled_at (y : FVec Ideal S512x128 .f32) (r : Fin 512) (l : Fin 128) :
    mulf y (broadcast S512x128 (Scalar.ofBits .f32 0x3DB504F3#32)) (ix2 r l) = y (ix2 r l) * qs := by
  pointwise []
  rfl

theorem q_at (i : Fin 64) (d : Fin 128) : qx x (ix3 (both c h) i d) = (cellOf x bg al dt c h).q i d := by
  unfold qx k0_pay11 k0_pay8 k0_pay10
  refine stacked_cols _ _ _ _ _ c h i d (fun h => (cellOf x bg al dt c h).q i d) ?_ ?_ ?_ ?_
  · exact (scaled_at _ _ d).trans (congrArg (· * qs) ((norm_at _ _ d).trans (by rw [load4]; pointwise []; exact (first_col x c i d).symm)))
  · exact (scaled_at _ _ d).trans (congrArg (· * qs) ((norm_at _ _ d).trans (by pointwise [k0_pay9, load4]; rfl)))
  · exact (scaled_at _ _ d).trans (congrArg (· * qs) ((norm_at _ _ d).trans (by pointwise []; rfl)))
  · exact (scaled_at _ _ d).trans (congrArg (· * qs) ((norm_at _ _ d).trans (by pointwise []; rfl)))

theorem v_at (i : Fin 64) (d : Fin 128) : k0_pay16 (F := Ideal) x (ix3 (both c h) i d) = (cellOf x bg al dt c h).v i d := by
  unfold k0_pay16
  refine stacked_cols _ _ _ _ _ c h i d (fun h => (cellOf x bg al dt c h).v i d) ?_ ?_ ?_ ?_ <;> (pointwise []; rfl)

theorem b_at (i : Fin 64) (d : Fin 128) : bx bg (ix3 (both c h) i d) = (cellOf x bg al dt c h).b i := by
  unfold bx k0_pay19 k0_pay17
  refine stacked_cols _ _ _ _ _ c h i d (fun h => (cellOf x bg al dt c h).b i) ?_ ?_ ?_ ?_
  · pointwise [k0_pay6, k0_pay5]; rfl
  · pointwise [k0_pay18, k0_pay6, k0_pay5]; rfl
  · pointwise [k0_pay6, k0_pay5]; rfl
  · pointwise [k0_pay6, k0_pay5]; rfl

theorem dec_at (r : Fin 512) (l : Fin 128) : k0_pay7 (F := Ideal) bg al dt (ix2 r l) = dec (al (ix2 0 l)) (bg (ix2 r l) + dt (ix2 0 l)) := by
  pointwise [k0_pay7, k0_pay5]
  rfl

/-- rows summed up to a step -/
theorem tri_at (z : FVec Ideal S32x64x128 .f32) (n : Fin 32) (i : Fin 64) (l : Fin 128) :
    matmul dot_S32x64x64_S32x64x128_S32x64x128_2_1_1_2_0_0 (some .bf16x3)
      (select (broadcastTo S32x64x64 (shapeCast S1x64x64 k0_pay20 shapeCasts_S1x64x64_S1x64x64) broadcasts_S1x64x64_S32x64x64) (k0_pay22 (F := Ideal))
        (broadcast S32x64x64 (Scalar.ofBits .f32 0x00000000#32))) z (constant S32x64x128 .f32 0x00000000#32) (ix3 n i l)
      = ∑ j, if j ≤ i then z (ix3 n j l) else 0 := by
  pointwise [k0_pay20, k0_pay22]
  refine Finset.sum_congr rfl fun j _ => ?_
  rw [pick_ge]

theorem g_at (i : Fin 64) (d : Fin 128) : gx bg al dt (ix3 (both c h) i d) = cum (cellOf x bg al dt c h) i := by
  unfold gx k0_pay24
  refine (tri_at _ (both c h) i d).trans (Finset.sum_congr rfl fun j _ => ?_)
  refine congrArg (fun z => if j ≤ i then z else 0) ?_
  refine stacked_cols _ _ _ _ _ c h j d (fun h => (cellOf x bg al dt c h).g j) ?_ ?_ ?_ ?_
  · pointwise [dec_at]; rfl
  · pointwise [dec_at]; rfl
  · pointwise [dec_at]; rfl
  · pointwise [dec_at]; rfl

/-- a square of a stack -/
def sqAt (n : Fin 32) (a : S32x64x64.Idx → EReal) : Sq := fun i j => a (ix3 n i j)
/-- the rows of a stack -/
def rowsAt (n : Fin 32) (a : S32x64x128.Idx → EReal) : Rows := fun i d => a (ix3 n i d)

/-- squares multiplied -/
theorem sq_mul (n : Fin 32) (a b : FVec Ideal S32x64x64 .f32) :
    sqAt n (matmul dot_S32x64x64_S32x64x64_S32x64x64_2_1_1_2_0_0 none (truncf .bf16 a bitsLt_bf16_f32) (truncf .bf16 b bitsLt_bf16_f32)
      (constant S32x64x64 .f32 0x00000000#32)) = Prep.mul (sqAt n a) (sqAt n b) := by
  funext i j
  unfold sqAt
  pointwise []
  rfl

/-- a step of the doubling -/
theorem sq_grow (n : Fin 32) (a b : FVec Ideal S32x64x64 .f32) :
    sqAt n (addf a (matmul dot_S32x64x64_S32x64x64_S32x64x64_2_1_1_2_0_0 none (truncf .bf16 a bitsLt_bf16_f32) (truncf .bf16 b bitsLt_bf16_f32)
      (constant S32x64x64 .f32 0x00000000#32))) = Prep.grow (sqAt n a) (sqAt n b) := by
  funext i j
  refine Eq.trans ?_ (congrArg (fun m : Sq => sqAt n a i j + m i j) (sq_mul n a b))
  rfl

section Square
variable (k b : FVec Ideal S32x64x128 .f32) (m m' : IVec S1x64x64 1) (o e g : FVec Ideal S32x64x64 .f32) (n : Fin 32)

theorem sq2 : sqAt n (k0_pay29 (F := Ideal) k b m m' o e g) = Prep.mul (sqAt n (k0_pay28 k b m m' o e g)) (sqAt n (k0_pay28 k b m m' o e g)) := sq_mul n _ _
theorem sq4 : sqAt n (k0_pay30 (F := Ideal) k b m m' o e g) = Prep.mul (sqAt n (k0_pay29 k b m m' o e g)) (sqAt n (k0_pay29 k b m m' o e g)) := sq_mul n _ _
theorem sq8 : sqAt n (k0_pay32 (F := Ideal) k b m m' o e g) = Prep.mul (sqAt n (k0_pay30 k b m m' o e g)) (sqAt n (k0_pay30 k b m m' o e g)) := sq_mul n _ _

/-- the unit square less a stack's -/
theorem sq_less (a : FVec Ideal S32x64x64 .f32) :
    sqAt n (subf (broadcastTo S32x64x64 (select (shapeCast S1x64x64 (cmpi .eq (iota .tc S64x64 32 [0] iota_S64x64_d0_w32) (iota .tc S64x64 32 [1] iota_S64x64_d1_w32)) shapeCasts_S64x64_S1x64x64)
      (broadcast S1x64x64 (Scalar.ofBits .f32 0x3F800000#32)) (broadcast S1x64x64 (Scalar.ofBits .f32 0x00000000#32))) broadcasts_S1x64x64_S32x64x64) a) = Prep.less (sqAt n a) := by
  funext i j
  unfold sqAt Prep.less
  pointwise []
  rw [pick_eq]

theorem sq_first : sqAt n (k0_pay31 (F := Ideal) k b m m' o e g)
    = grow (grow (Prep.less (sqAt n (k0_pay28 k b m m' o e g))) (sqAt n (k0_pay29 k b m m' o e g))) (sqAt n (k0_pay30 k b m m' o e g)) := by
  unfold k0_pay31
  exact (sq_grow n _ _).trans (congrArg (fun z => grow z _) ((sq_grow n _ _).trans (congrArg (fun z => grow z _) (sq_less n _))))

/-- the inverse of a stack's square -/
theorem sq_inv : sqAt n (k0_pay34 (F := Ideal) (k0_pay31 k b m m' o e g) (k0_pay32 k b m m' o e g) (k0_pay33 k b m m' o e g))
    = Prep.inv (sqAt n (k0_pay28 k b m m' o e g)) := by
  unfold k0_pay34 k0_pay33 Prep.inv
  refine (sq_grow n _ _).trans ?_
  rw [sq_mul, sq_mul, sq_grow, sq_grow, sq_mul, sq_first, sq8, sq4, sq2]

end Square

/-- the decays between the steps of a tile -/
abbrev mx : FVec Ideal S32x64x64 .f32 := k0_pay26 (F := Ideal) k0_pay20 (k0_pay22 (F := Ideal)) (k0_pay23 (F := Ideal)) (k0_pay25 (k0_pay7 bg al dt))

theorem m_at (i j : Fin 64) : mx bg al dt (ix3 (both c h) i j) = gam (cellOf x bg al dt c h) i j := by
  have hg (r l : Fin 64) : k0_pay25 (F := Ideal) (k0_pay7 bg al dt) (ix3 (both c h) r l) = cum (cellOf x bg al dt c h) r := by
    refine Eq.trans ?_ (g_at x bg al dt c h r ⟨l.val, by omega⟩)
    pointwise [k0_pay25]
  unfold mx
  pointwise [k0_pay26, k0_pay20, k0_pay22, k0_pay23, hg]
  simp only [pick_ge, pick_eq]
  rw [Finset.sum_ite_eq' Finset.univ j, if_pos (Finset.mem_univ j)]
  unfold gam
  split_ifs <;> rfl

/-- the strictly lower squares of a tile -/
abbrev sx : FVec Ideal S32x64x64 .f32 := k0_pay28 (F := Ideal) (kx x) (bx bg) k0_pay20 k0_pay21 (k0_pay22 (F := Ideal)) (k0_pay23 (F := Ideal)) (k0_pay25 (k0_pay7 bg al dt))

theorem kb_at (i : Fin 64) (d : Fin 128) : k0_pay27 (F := Ideal) (kx x) (bx bg) (ix3 (both c h) i d)
    = (cellOf x bg al dt c h).k i d * (cellOf x bg al dt c h).b i := by
  unfold k0_pay27
  exact congrArg₂ (· * ·) (k_at x bg al dt c h i d) (b_at x bg al dt c h i d)

theorem s_at (i j : Fin 64) : sx x bg al dt (ix3 (both c h) i j) = low (cellOf x bg al dt c h) i j := by
  unfold sx k0_pay28
  have hm := m_at x bg al dt c h i j
  unfold mx at hm
  pointwise [k0_pay21, hm, kb_at x bg al dt, k_at x bg al dt]
  rw [pick_gt]
  rfl

/-- the inverses of a tile's unit lower squares -/
abbrev ivx : FVec Ideal S32x64x64 .f32 := k0_pay34 (F := Ideal)
  (k0_pay31 (kx x) (bx bg) k0_pay20 k0_pay21 (k0_pay22 (F := Ideal)) (k0_pay23 (F := Ideal)) (k0_pay25 (k0_pay7 bg al dt)))
  (k0_pay32 (kx x) (bx bg) k0_pay20 k0_pay21 (k0_pay22 (F := Ideal)) (k0_pay23 (F := Ideal)) (k0_pay25 (k0_pay7 bg al dt)))
  (k0_pay33 (kx x) (bx bg) k0_pay20 k0_pay21 (k0_pay22 (F := Ideal)) (k0_pay23 (F := Ideal)) (k0_pay25 (k0_pay7 bg al dt)))

theorem iv_at (i j : Fin 64) : ivx x bg al dt (ix3 (both c h) i j) = Prep.inv (low (cellOf x bg al dt c h)) i j := by
  have hl : sqAt (both c h) (sx x bg al dt) = low (cellOf x bg al dt c h) := by
    funext i j
    exact s_at x bg al dt c h i j
  refine Eq.trans (congrFun (congrFun (sq_inv (kx x) (bx bg) k0_pay20 k0_pay21 (k0_pay22 (F := Ideal)) (k0_pay23 (F := Ideal)) (k0_pay25 (k0_pay7 bg al dt)) (both c h)) i) j) ?_
  rw [← hl]

/-- a narrower number is the number -/
theorem narrow_at {s : Shape} (y : FVec Ideal s .f32) (i : s.Idx) : truncf .bf16 y bitsLt_bf16_f32 i = y i := by
  pointwise []

/-- a stack's rows as the block's -/
theorem split_at {α : Type} (y : S32x64x128.Idx → α) (i : Fin 64) (d : Fin 128) :
    shapeCast S8x4x64x128 y shapeCasts_S32x64x128_S8x4x64x128 (ix4 c h i d) = y (ix3 (both c h) i d) := by
  refine shapeCast_apply _ _ _ (ix3 (both c h) i d) ?_
  rw [Shape.rowMajor_val_four, Shape.rowMajor_val_three]; rfl

theorem u_out (i : Fin 64) (d : Fin 128) :
    k0_pay37 (F := Ideal) (k0_pay16 x) (bx bg)
      (k0_pay31 (kx x) (bx bg) k0_pay20 k0_pay21 (k0_pay22 (F := Ideal)) (k0_pay23 (F := Ideal)) (k0_pay25 (k0_pay7 bg al dt)))
      (k0_pay32 (kx x) (bx bg) k0_pay20 k0_pay21 (k0_pay22 (F := Ideal)) (k0_pay23 (F := Ideal)) (k0_pay25 (k0_pay7 bg al dt)))
      (k0_pay33 (kx x) (bx bg) k0_pay20 k0_pay21 (k0_pay22 (F := Ideal)) (k0_pay23 (F := Ideal)) (k0_pay25 (k0_pay7 bg al dt))) (ix4 c h i d)
      = uOf (cellOf x bg al dt c h) i d := by
  unfold k0_pay37
  refine (split_at c h _ i d).trans ?_
  have hi := iv_at x bg al dt c h i
  unfold ivx at hi
  pointwise [hi, v_at x bg al dt, b_at x bg al dt]
  rfl

theorem w_out (i : Fin 64) (d : Fin 128) :
    k0_pay42 (F := Ideal) (gx bg al dt) (k0_pay27 (kx x) (bx bg))
      (k0_pay31 (kx x) (bx bg) k0_pay20 k0_pay21 (k0_pay22 (F := Ideal)) (k0_pay23 (F := Ideal)) (k0_pay25 (k0_pay7 bg al dt)))
      (k0_pay32 (kx x) (bx bg) k0_pay20 k0_pay21 (k0_pay22 (F := Ideal)) (k0_pay23 (F := Ideal)) (k0_pay25 (k0_pay7 bg al dt)))
      (k0_pay33 (kx x) (bx bg) k0_pay20 k0_pay21 (k0_pay22 (F := Ideal)) (k0_pay23 (F := Ideal)) (k0_pay25 (k0_pay7 bg al dt))) (ix4 c h i d)
      = wOf (cellOf x bg al dt c h) i d := by
  unfold k0_pay42
  refine (narrow_at _ _).trans ?_
  refine (split_at c h _ i d).trans ?_
  have hi := iv_at x bg al dt c h i
  unfold ivx at hi
  pointwise [hi, kb_at x bg al dt, k0_pay35, g_at x bg al dt]
  rfl

theorem qd_out (i : Fin 64) (d : Fin 128) : k0_pay1 (F := Ideal) (k0_pay38 (qx x) (gx bg al dt)) (ix4 c h i d) = qdOf (cellOf x bg al dt c h) i d := by
  unfold k0_pay1 k0_pay38
  refine (narrow_at _ _).trans ?_
  refine (split_at c h _ i d).trans ?_
  pointwise [q_at x bg al dt, k0_pay35, g_at x bg al dt]
  rfl

theorem kd_out (i : Fin 64) (d : Fin 128) : k0_pay2 (F := Ideal) (k0_pay39 (kx x) (gx bg al dt)) (ix4 c h i d) = kdOf (cellOf x bg al dt c h) i d := by
  unfold k0_pay2 k0_pay39
  refine (narrow_at _ _).trans ?_
  refine (split_at c h _ i d).trans ?_
  pointwise [k_at x bg al dt, k0_pay36, g_at x bg al dt]
  rfl

theorem a_out (i j : Fin 64) : k0_pay3 (F := Ideal) (k0_pay40 (qx x) (kx x) (mx bg al dt)) (ix4 c h i j) = aOf (cellOf x bg al dt c h) i j := by
  unfold k0_pay3 k0_pay40
  refine (narrow_at _ _).trans ?_
  refine (shapeCast_apply _ _ _ (ix3 (both c h) i j) ?_).trans ?_
  · rw [Shape.rowMajor_val_four, Shape.rowMajor_val_three]; rfl
  pointwise [q_at x bg al dt, k_at x bg al dt, m_at x bg al dt]
  rfl

theorem l_out (d : Fin 128) : k0_pay41 (F := Ideal) (gx bg al dt) (ix4 c h 0 d) = lOf (cellOf x bg al dt c h) := by
  unfold k0_pay41
  refine (shapeCast_apply _ _ _ (ix3 (both c h) 0 d) ?_).trans ?_
  · rw [Shape.rowMajor_val_four, Shape.rowMajor_val_three]; rfl
  pointwise [k0_pay36, g_at x bg al dt]
  rfl

end Cert.DnPrepFwdIdeal.Value
-- ==== Proof.PrepRef.lean ====
module

public import proofs.«01_k».proof.Proof.PrepMath
public import proofs.«01_k».proof.Proof.PoolSum
public import proofs.«01_k».proof.Proof.LeadSum
public import proofs.«01_k».proof.Proof.Gen.DnPrepFwdRefIdeal.Run
public import Idealize.ShloMosaic.Lib.StableHlo.ReadAt
public import Idealize.ShloMosaic.Lib.WordCmp

/-! # The delta rule's chunk terms: the reference before its solve -/

@[expose] public section

set_option maxRecDepth 65536

noncomputable section

open Idealize.ShloMosaic Idealize.ShloMosaic.TcCoe Idealize.SL.Sem

namespace Cert.DnPrepFwdRefIdeal.Value
open Cert.DnPrepFwdRefIdeal Cert.DnPrepFwdRefIdeal.Gen Idealize.ShloMosaic.StableHlo Cert.Grad Cert.Grad.Prep

variable (V : Valuation τ sig (Elt Ideal))

/-- the arguments a valuation holds -/
abbrev a0 : (⟨3, ![4, 2048, 1536]⟩ : Shape).Idx → EReal := V (Proc.devRef .tc main_arg0)
abbrev a1 : (⟨3, ![4, 2048, 4]⟩ : Shape).Idx → EReal := V (Proc.devRef .tc main_arg1)
abbrev a2 : (⟨3, ![4, 2048, 4]⟩ : Shape).Idx → EReal := V (Proc.devRef .tc main_arg2)
abbrev a3 : (⟨1, ![4]⟩ : Shape).Idx → EReal := V (Proc.devRef .tc main_arg3)
abbrev a4 : (⟨1, ![4]⟩ : Shape).Idx → EReal := V (Proc.devRef .tc main_arg4)

/-- an array per sequence, head, chunk and row -/
abbrev Per4 : Type := (⟨4, ![4, 4, 32, 64]⟩ : Shape).Idx → EReal
/-- an array per sequence, head, chunk, row and channel -/
abbrev Per5 (D : ℕ) : Type := (⟨5, ![4, 4, 32, 64, D]⟩ : Shape).Idx → EReal

theorem q_seg (b : Fin 4) (t : Fin 2048) (h : Fin 4) (d : Fin 128) : after hostOps0 V (Proc.devRef .tc main_v15) (ix4 b t h d)
    = a0 V (ix3 b t (colOf 0 h d)) * rt (fun l => a0 V (ix3 b t (colOf 0 h l))) * qs := by
  after_reads_at
  have e (l : Fin 128) : (⟨h.val * 128 + l.val, by omega⟩ : Fin 1536) = colOf 0 h l := Fin.ext (by simp)
  simp only [e]
  rw [word_eps]
  rfl

theorem k_seg (b : Fin 4) (t : Fin 2048) (h : Fin 4) (d : Fin 128) : after hostOps0 V (Proc.devRef .tc main_v23) (ix4 b t h d)
    = a0 V (ix3 b t (colOf 1 h d)) * rt (fun l => a0 V (ix3 b t (colOf 1 h l))) := by
  after_reads_at
  have e (l : Fin 128) : (⟨512 + (h.val * 128 + l.val), by omega⟩ : Fin 1536) = colOf 1 h l := Fin.ext (by show 512 + (h.val * 128 + l.val) = 1 * 512 + h.val * 128 + l.val; omega)
  simp only [e]
  rw [word_eps]
  rfl

theorem v_seg (b : Fin 4) (t : Fin 2048) (h : Fin 4) (d : Fin 128) : after hostOps0 V (Proc.devRef .tc main_v5) (ix4 b t h d)
    = a0 V (ix3 b t (colOf 2 h d)) := by
  after_reads_at
  have e (l : Fin 128) : (⟨1024 + (h.val * 128 + l.val), by omega⟩ : Fin 1536) = colOf 2 h l := Fin.ext (by show 1024 + (h.val * 128 + l.val) = 2 * 512 + h.val * 128 + l.val; omega)
  rw [e]

theorem b_seg (b : Fin 4) (t : Fin 2048) (h : Fin 4) : after hostOps0 V (Proc.devRef .tc main_v29) (ix3 b t h) = Ideal.logistic (a1 V (ix3 b t h)) := by
  after_reads_at
  rfl

/-- the softplus, spelt with a guard that never holds -/
theorem soft_eq (x : EReal) : (if x ≠ x then x else max x 0 + Ideal.log1p (Ideal.exp (-FloatOps.absf (F := Ideal) (φ := .f32) x))) = soft x := by
  rw [if_neg (not_not.2 rfl)]
  unfold soft
  rw [zero_sub]
  rfl

theorem g_seg (b : Fin 4) (t : Fin 2048) (h : Fin 4) : after hostOps0_2 (after hostOps0_1 (after hostOps0 V)) (Proc.devRef .tc main_v38) (ix3 b t h)
    = dec (a3 V (ix1 h)) (a2 V (ix3 b t h) + a4 V (ix1 h)) := by
  after_reads_at
  unfold dec
  rw [zero_sub]
  exact congrArg (_ * ·) (soft_eq _)

/-- the valuation once the heads are apart -/
abbrev headed : Valuation τ sig (Elt Ideal) := after hostOps0_2 (after hostOps0_1 (after hostOps0 V))

theorem q_heads (b h : Fin 4) (n : Fin 32) (i : Fin 64) (d : Fin 128) : headed V (Proc.devRef .tc main_v40) (ix5 b h n i d)
    = (headCell (a0 V) (a1 V) (a2 V) (a3 V) (a4 V) b n h).q i d := by
  refine Eq.trans ?_ (q_seg V b (stepOf n i) h d)
  unfold headed
  rw [← after_of_writes_sub (hostOps0_1 (F := Ideal)) (after (hostOps0 (F := Ideal)) V) hostOps0_1_writes (r := main_v15) (by decide)]
  generalize after (hostOps0_1 (F := Ideal)) _ = W
  after_reads_at

theorem k_heads (b h : Fin 4) (n : Fin 32) (i : Fin 64) (d : Fin 128) : headed V (Proc.devRef .tc main_v42) (ix5 b h n i d)
    = (headCell (a0 V) (a1 V) (a2 V) (a3 V) (a4 V) b n h).k i d := by
  refine Eq.trans ?_ (k_seg V b (stepOf n i) h d)
  unfold headed
  rw [← after_of_writes_sub (hostOps0_1 (F := Ideal)) (after (hostOps0 (F := Ideal)) V) hostOps0_1_writes (r := main_v23) (by decide)]
  generalize after (hostOps0_1 (F := Ideal)) _ = W
  after_reads_at

theorem v_heads (b h : Fin 4) (n : Fin 32) (i : Fin 64) (d : Fin 128) : headed V (Proc.devRef .tc main_v44) (ix5 b h n i d)
    = (headCell (a0 V) (a1 V) (a2 V) (a3 V) (a4 V) b n h).v i d := by
  refine Eq.trans ?_ (v_seg V b (stepOf n i) h d)
  unfold headed
  rw [← after_of_writes_sub (hostOps0_1 (F := Ideal)) (after (hostOps0 (F := Ideal)) V) hostOps0_1_writes (r := main_v5) (by decide)]
  generalize after (hostOps0_1 (F := Ideal)) _ = W
  after_reads_at

theorem b_heads (b h : Fin 4) (n : Fin 32) (i : Fin 64) : headed V (Proc.devRef .tc main_v46) (ix4 b h n i)
    = (headCell (a0 V) (a1 V) (a2 V) (a3 V) (a4 V) b n h).b i := by
  refine Eq.trans ?_ (b_seg V b (stepOf n i) h)
  unfold headed
  rw [← after_of_writes_sub (hostOps0_1 (F := Ideal)) (after (hostOps0 (F := Ideal)) V) hostOps0_1_writes (r := main_v29) (by decide)]
  generalize after (hostOps0_1 (F := Ideal)) _ = W
  after_reads_at

theorem g_heads (b h : Fin 4) (n : Fin 32) (i : Fin 64) : headed V (Proc.devRef .tc main_v48) (ix4 b h n i)
    = (headCell (a0 V) (a1 V) (a2 V) (a3 V) (a4 V) b n h).g i := by
  refine Eq.trans ?_ (g_seg V b (stepOf n i) h)
  unfold headed
  generalize after (hostOps0_1 (F := Ideal)) _ = W
  after_reads_at

/-- a window over a chunk -/
abbrev Chunk : Shape := ⟨4, ![1, 1, 1, 64]⟩

/-- the rows of the window -/
def chunkRows : Fin 64 ≃ Chunk.Idx where
  toFun k := ix4 0 0 0 k
  invFun i := i 3
  left_inv _ := rfl
  right_inv i := by
    funext a
    match a with
    | 0 => exact Subsingleton.elim (α := Fin 1) _ _
    | 1 => exact Subsingleton.elim (α := Fin 1) _ _
    | 2 => exact Subsingleton.elim (α := Fin 1) _ _
    | 3 => rfl

/-- the sum from the chunk's first row on -/
theorem sum_chunk {u : Shape} (x : Per4) (init : u.Idx → EReal) (h : (⟨4, ![4, 4, 32, 64]⟩ : Shape).ReduceWindows ![1, 1, 1, 64] ![1, 1, 1, 1] ![0, 0, 0, 63] ![0, 0, 0, 0] ⟨4, ![4, 4, 32, 64]⟩)
    (hu : 0 < u.numel) (h0 : init (Shape.Idx.first hu) = 0) (b g : Fin 4) (c : Fin 32) (t : Fin 64) :
    Host.reduceWindowAdd (F := Ideal) (φ := .f32) (s := ⟨4, ![4, 4, 32, 64]⟩) (t := ⟨4, ![4, 4, 32, 64]⟩) ![1, 1, 1, 64] ![1, 1, 1, 1] ![0, 0, 0, 63] ![0, 0, 0, 0] x init h hu (ix4 b g c t)
      = ∑ j : Fin 64, if j ≤ t then x (ix4 b g c j) else 0 := by
  rw [window_sum _ _ _ _ _ _ _ _ h0]
  refine (Equiv.sum_comp chunkRows _).symm.trans ?_
  have e : ∀ n : Fin 64, (if hin : ∀ a : Fin 4, (![0, 0, 0, 63] : Fin 4 → ℕ) a
        ≤ ((ix4 b g c t : (⟨4, ![4, 4, 32, 64]⟩ : Shape).Idx) a).val * (![1, 1, 1, 1] : Fin 4 → ℕ) a + (chunkRows n a).val
        ∧ ((ix4 b g c t : (⟨4, ![4, 4, 32, 64]⟩ : Shape).Idx) a).val * (![1, 1, 1, 1] : Fin 4 → ℕ) a + (chunkRows n a).val - (![0, 0, 0, 63] : Fin 4 → ℕ) a
          < (⟨4, ![4, 4, 32, 64]⟩ : Shape).size a
      then x (fun a => ⟨((ix4 b g c t : (⟨4, ![4, 4, 32, 64]⟩ : Shape).Idx) a).val * (![1, 1, 1, 1] : Fin 4 → ℕ) a + (chunkRows n a).val - (![0, 0, 0, 63] : Fin 4 → ℕ) a, (hin a).2⟩)
      else 0) = if hn : 63 ≤ t.val + n.val then x (ix4 b g c ⟨t.val + n.val - 63, by omega⟩) else 0 := by
    intro n
    by_cases hn : 63 ≤ t.val + n.val
    · rw [dif_pos hn]
      have hin : ∀ a : Fin 4, (![0, 0, 0, 63] : Fin 4 → ℕ) a
          ≤ ((ix4 b g c t : (⟨4, ![4, 4, 32, 64]⟩ : Shape).Idx) a).val * (![1, 1, 1, 1] : Fin 4 → ℕ) a + (chunkRows n a).val
          ∧ ((ix4 b g c t : (⟨4, ![4, 4, 32, 64]⟩ : Shape).Idx) a).val * (![1, 1, 1, 1] : Fin 4 → ℕ) a + (chunkRows n a).val - (![0, 0, 0, 63] : Fin 4 → ℕ) a
            < (⟨4, ![4, 4, 32, 64]⟩ : Shape).size a := by
        intro a
        match a with
        | 0 => change 0 ≤ b.val * 1 + 0 ∧ b.val * 1 + 0 - 0 < 4; omega
        | 1 => change 0 ≤ g.val * 1 + 0 ∧ g.val * 1 + 0 - 0 < 4; omega
        | 2 => change 0 ≤ c.val * 1 + 0 ∧ c.val * 1 + 0 - 0 < 32; omega
        | 3 => change 63 ≤ t.val * 1 + n.val ∧ t.val * 1 + n.val - 63 < 64; omega
      refine (dif_pos hin).trans (congrArg x (funext fun a => Fin.ext ?_))
      match a with
      | 0 => change b.val * 1 + 0 - 0 = b.val; omega
      | 1 => change g.val * 1 + 0 - 0 = g.val; omega
      | 2 => change c.val * 1 + 0 - 0 = c.val; omega
      | 3 => change t.val * 1 + n.val - 63 = t.val + n.val - 63; omega
    · rw [dif_neg hn]
      refine dif_neg fun hin => hn ?_
      have := (hin 3).1
      change 63 ≤ t.val * 1 + n.val at this
      omega
  refine (Finset.sum_congr rfl fun n _ => e n).trans ?_
  refine (Finset.sum_subset (Finset.subset_univ (Finset.univ.filter fun n : Fin 64 => 63 ≤ t.val + n.val)) fun n _ hn => dif_neg fun h => hn (Finset.mem_filter.2 ⟨Finset.mem_univ _, h⟩)).symm.trans ?_
  refine Eq.trans ?_ (Finset.sum_filter (fun j : Fin 64 => j ≤ t) (fun j => x (ix4 b g c j)))
  refine Finset.sum_nbij' (fun n => ⟨t.val + n.val - 63, by omega⟩) (fun j => ⟨(63 - t.val + j.val) % 64, by omega⟩) ?_ ?_ ?_ ?_ ?_
  · intro n hn
    refine Finset.mem_filter.2 ⟨Finset.mem_univ _, ?_⟩
    show t.val + n.val - 63 ≤ t.val
    omega
  · intro j hj
    have : j.val ≤ t.val := (Finset.mem_filter.1 hj).2
    refine Finset.mem_filter.2 ⟨Finset.mem_univ _, ?_⟩
    show 63 ≤ t.val + (63 - t.val + j.val) % 64
    omega
  · intro n hn
    have : 63 ≤ t.val + n.val := (Finset.mem_filter.1 hn).2
    refine Fin.ext ?_
    show (63 - t.val + (t.val + n.val - 63)) % 64 = n.val
    omega
  · intro j hj
    have : j.val ≤ t.val := (Finset.mem_filter.1 hj).2
    refine Fin.ext ?_
    show t.val + (63 - t.val + j.val) % 64 - 63 = j.val
    omega
  · intro n hn
    exact dif_pos (Finset.mem_filter.1 hn).2

/-- the arrays a valuation holds before the solve -/
abbrev p40 : Per5 128 := V (Proc.devRef .tc main_v40)
abbrev p42 : Per5 128 := V (Proc.devRef .tc main_v42)
abbrev p44 : Per5 128 := V (Proc.devRef .tc main_v44)
abbrev p46 : Per4 := V (Proc.devRef .tc main_v46)
abbrev p48 : Per4 := V (Proc.devRef .tc main_v48)
abbrev p49 : Per4 := V (Proc.devRef .tc main_v49)
abbrev p51 : (⟨2, ![64, 64]⟩ : Shape).Idx → BitVec 1 := V (Proc.devRef .tc main_v51)
abbrev p53 : (⟨2, ![64, 64]⟩ : Shape).Idx → BitVec 1 := V (Proc.devRef .tc main_v53)
abbrev p60 : Per5 64 := V (Proc.devRef .tc main_v60)
abbrev p66 : Per5 64 := V (Proc.devRef .tc main_v66)
abbrev pR : Per5 256 := V (Proc.devRef .tc main_v76_0)
abbrev pL : Per5 64 := V (Proc.devRef .tc main_v76_1)
abbrev pX : Per5 256 := V (Proc.devRef .tc main_v76_4)

theorem cum_seg (b h : Fin 4) (n : Fin 32) (i : Fin 64) : p49 (after hostOps0_3 V) (ix4 b h n i) = ∑ j : Fin 64, if j ≤ i then p48 V (ix4 b h n j) else 0 := by
  unfold p49 p48
  after_reads_simp
  simp -implicitDefEqProofs only [StableHlo.TRef.toBuf, StableHlo.TRef.ofBuf, cast_cast, cast_eq]
  refine sum_chunk _ _ _ _ ?_ b h n i
  pointwise []

/-- a mask of the steps not after another, spelt with a sum -/
theorem mask_le (i j : Fin 64) : IntOp.cmpi CmpIPredicate.sge (BitVec.ofNat 32 i.val + 0#32) (BitVec.ofNat 32 j.val) = if j ≤ i then 1#1 else 0#1 := by
  revert i j; decide +kernel
/-- a mask of the steps before another, spelt with a sum -/
theorem mask_lt (i j : Fin 64) : IntOp.cmpi CmpIPredicate.sge (BitVec.ofNat 32 i.val + 4294967295#32) (BitVec.ofNat 32 j.val) = if j < i then 1#1 else 0#1 := by
  revert i j; decide +kernel

theorem tril_seg (i j : Fin 64) : p51 (after hostOps0_5 (after hostOps0_4 V)) (ix2 i j) = if j ≤ i then 1#1 else 0#1 := by
  unfold p51
  after_reads_at
  show Scalar.select (IntOp.cmpi CmpIPredicate.sge (BitVec.ofNat 32 i.val + 0#32) (BitVec.ofNat 32 j.val)) 1#1 0#1 = _
  rw [mask_le]
  split_ifs <;> rfl

theorem strict_seg (i j : Fin 64) : p53 (after hostOps0_7 (after hostOps0_6 V)) (ix2 i j) = if j < i then 1#1 else 0#1 := by
  unfold p53
  after_reads_at
  show Scalar.select (IntOp.cmpi CmpIPredicate.sge (BitVec.ofNat 32 i.val + 4294967295#32) (BitVec.ofNat 32 j.val)) 1#1 0#1 = _
  rw [mask_lt]
  split_ifs <;> rfl

theorem gam_seg (hm : ∀ i j, p51 V (ix2 i j) = if j ≤ i then 1#1 else 0#1) (b h : Fin 4) (n : Fin 32) (i j : Fin 64) :
    p60 (after hostOps0_10 (after hostOps0_9 (after hostOps0_8 V))) (ix5 b h n i j) = if j ≤ i then Ideal.exp (p49 V (ix4 b h n i) - p49 V (ix4 b h n j)) else 0 := by
  unfold p60
  after_reads_at
  rw [show V (Proc.devRef .tc main_v51) (ix2 i j) = if j ≤ i then 1#1 else 0#1 from hm i j]
  split_ifs
  · rfl
  · show Ideal.exp (Ideal.ofBits .f32 0xFF800000#32) = 0
    rw [show Ideal.ofBits .f32 0xFF800000#32 = ⊥ by rfl]
    rfl

theorem low_seg (hm : ∀ i j, p53 V (ix2 i j) = if j < i then 1#1 else 0#1) (b h : Fin 4) (n : Fin 32) (i j : Fin 64) :
    p66 (after hostOps0_11 (after hostOps0_10 V)) (ix5 b h n i j)
      = if j < i then (∑ d, p42 V (ix5 b h n i d) * p46 V (ix4 b h n i) * p42 V (ix5 b h n j d)) * p60 (after hostOps0_10 V) (ix5 b h n i j) else 0 := by
  have e : p60 (after hostOps0_10 V) (ix5 b h n i j) = Ideal.exp ((V (Proc.devRef .tc main_v59) : Per5 64) (ix5 b h n i j)) := by
    unfold p60
    after_reads_at
  rw [e]
  unfold p66
  after_reads_at
  rw [show V (Proc.devRef .tc main_v53) (ix2 i j) = if j < i then 1#1 else 0#1 from hm i j]
  split_ifs
  · rfl
  · exact Ideal.ofBits_zero .f32

theorem pair_left (x y : Per5 128) (hc) (b h : Fin 4) (n : Fin 32) (i : Fin 64) (d : Fin 128) :
    concatenate S4x4x32x64x256 4 [⟨S4x4x32x64x128, x⟩, ⟨S4x4x32x64x128, y⟩] hc (ix5 b h n i ⟨d.val, by omega⟩) = x (ix5 b h n i d) := by
  refine concatenate_pair_apply_left (t := S4x4x32x64x256) (s₁ := S4x4x32x64x128) (s₂ := S4x4x32x64x128) 4 x y _ _ rfl (ix5 b h n i d) fun a => ?_
  match a with
  | 0 => rfl
  | 1 => rfl
  | 2 => rfl
  | 3 => rfl
  | 4 => rfl

theorem pair_right (x y : Per5 128) (hc) (b h : Fin 4) (n : Fin 32) (i : Fin 64) (d : Fin 128) :
    concatenate S4x4x32x64x256 4 [⟨S4x4x32x64x128, x⟩, ⟨S4x4x32x64x128, y⟩] hc (ix5 b h n i ⟨128 + d.val, by omega⟩) = y (ix5 b h n i d) := by
  refine concatenate_pair_apply_right (t := S4x4x32x64x256) (s₁ := S4x4x32x64x128) (s₂ := S4x4x32x64x128) 4 x y _ _ rfl rfl (ix5 b h n i d) (fun a ha => ?_) ?_
  · match a with
    | 0 => rfl
    | 1 => rfl
    | 2 => rfl
    | 3 => rfl
    | 4 => exact absurd rfl ha
  · show d.val + 128 = 128 + d.val
    omega

/-- the keys, gated, that a valuation holds -/
abbrev p63 : Per5 128 := V (Proc.devRef .tc main_v63)

theorem ru_seg (b h : Fin 4) (n : Fin 32) (i : Fin 64) (d : Fin 128) : pR (after hostOps0_12 V) (ix5 b h n i ⟨d.val, by omega⟩)
    = p44 V (ix5 b h n i d) * p46 V (ix4 b h n i) := by
  unfold pR
  after_reads_simp
  simp only [id_eq]
  refine (pair_left _ _ _ b h n i d).trans ?_
  after_reads_at

theorem rw_seg (b h : Fin 4) (n : Fin 32) (i : Fin 64) (d : Fin 128) : pR (after hostOps0_12 V) (ix5 b h n i ⟨128 + d.val, by omega⟩)
    = p63 V (ix5 b h n i d) * Ideal.exp (p49 V (ix4 b h n i)) := by
  unfold pR
  after_reads_simp
  simp only [id_eq]
  refine (pair_right _ _ _ b h n i d).trans ?_
  after_reads_at

theorem kb_seg (b h : Fin 4) (n : Fin 32) (i : Fin 64) (d : Fin 128) : p63 (after hostOps0_10 V) (ix5 b h n i d)
    = p42 V (ix5 b h n i d) * p46 V (ix4 b h n i) := by
  unfold p63
  after_reads_at

theorem low_entry (b h : Fin 4) (n : Fin 32) (i j : Fin 64) : pL (after hostOps0_12 V) (ix5 b h n i j) = p66 V (ix5 b h n i j) := by
  unfold pL
  after_reads_at
  rfl

theorem zero_entry (b h : Fin 4) (n : Fin 32) (i : Fin 64) (j : Fin 256) : pX (after hostOps0_12 V) (ix5 b h n i j) = 0 := by
  unfold pX
  after_reads_at
  exact Ideal.ofBits_zero .f32

end Cert.DnPrepFwdRefIdeal.Value
-- ==== Proof.PrepLoop.lean ====
module

public import proofs.«01_k».proof.Proof.PrepRef

/-! # The delta rule's chunk terms: the reference's solve, a row a trip -/

@[expose] public section

set_option maxRecDepth 65536

noncomputable section

open Idealize.ShloMosaic Idealize.ShloMosaic.TcCoe Idealize.SL.Sem

namespace Cert.DnPrepFwdRefIdeal.Value
open Cert.DnPrepFwdRefIdeal Cert.DnPrepFwdRefIdeal.Gen Idealize.ShloMosaic.StableHlo Idealize.ShloMosaic.WordCmp Cert.Grad Cert.Grad.Prep

section Entry
variable (V : Valuation τ sig (Elt Ideal))

/-- the valuation once the log decays are summed -/
abbrev summed : Valuation τ sig (Elt Ideal) := after hostOps0_3 (headed V)
/-- the valuation once the lower mask stands -/
abbrev masked : Valuation τ sig (Elt Ideal) := after hostOps0_5 (after hostOps0_4 (summed V))
/-- the valuation once the strictly lower mask stands -/
abbrev strict : Valuation τ sig (Elt Ideal) := after hostOps0_7 (after hostOps0_6 (masked V))
/-- the valuation once the decays are chosen -/
abbrev chosen : Valuation τ sig (Elt Ideal) := after hostOps0_9 (after hostOps0_8 (strict V))
/-- the valuation once the strictly lower square stands -/
abbrev lowered : Valuation τ sig (Elt Ideal) := after hostOps0_11 (after hostOps0_10 (chosen V))
/-- the valuation at the loop -/
abbrev entered : Valuation τ sig (Elt Ideal) := after hostOps0_12 (lowered V)

/-- a buffer the sum does not write -/
theorem keep_summed (r : Ref sig .tc) (h : r ∉ hostOps0_3_W) : summed V (Proc.devRef .tc r) = headed V (Proc.devRef .tc r) :=
  after_of_writes_sub (hostOps0_3 (F := Ideal)) _ hostOps0_3_writes h

/-- a buffer the lower mask's lines do not write -/
theorem keep_masked (r : Ref sig .tc) (h : r ∉ hostOps0_4_W ++ hostOps0_5_W) : masked V (Proc.devRef .tc r) = summed V (Proc.devRef .tc r) :=
  (after_of_writes_sub (hostOps0_5 (F := Ideal)) _ hostOps0_5_writes fun k => h (List.mem_append_right _ k)).trans
    (after_of_writes_sub (hostOps0_4 (F := Ideal)) _ hostOps0_4_writes fun k => h (List.mem_append_left _ k))

/-- a buffer the strictly lower mask's lines do not write -/
theorem keep_strict (r : Ref sig .tc) (h : r ∉ hostOps0_6_W ++ hostOps0_7_W) : strict V (Proc.devRef .tc r) = masked V (Proc.devRef .tc r) :=
  (after_of_writes_sub (hostOps0_7 (F := Ideal)) _ hostOps0_7_writes fun k => h (List.mem_append_right _ k)).trans
    (after_of_writes_sub (hostOps0_6 (F := Ideal)) _ hostOps0_6_writes fun k => h (List.mem_append_left _ k))

/-- a buffer the decays' lines do not write -/
theorem keep_chosen (r : Ref sig .tc) (h : r ∉ hostOps0_8_W ++ hostOps0_9_W) : chosen V (Proc.devRef .tc r) = strict V (Proc.devRef .tc r) :=
  (after_of_writes_sub (hostOps0_9 (F := Ideal)) _ hostOps0_9_writes fun k => h (List.mem_append_right _ k)).trans
    (after_of_writes_sub (hostOps0_8 (F := Ideal)) _ hostOps0_8_writes fun k => h (List.mem_append_left _ k))

/-- a buffer the strictly lower square's lines do not write -/
theorem keep_lowered (r : Ref sig .tc) (h : r ∉ hostOps0_10_W ++ hostOps0_11_W) : lowered V (Proc.devRef .tc r) = chosen V (Proc.devRef .tc r) :=
  (after_of_writes_sub (hostOps0_11 (F := Ideal)) _ hostOps0_11_writes fun k => h (List.mem_append_right _ k)).trans
    (after_of_writes_sub (hostOps0_10 (F := Ideal)) _ hostOps0_10_writes fun k => h (List.mem_append_left _ k))

/-- a buffer the last lines before the loop do not write -/
theorem keep_entered (r : Ref sig .tc) (h : r ∉ hostOps0_12_W) : entered V (Proc.devRef .tc r) = lowered V (Proc.devRef .tc r) :=
  after_of_writes_sub (hostOps0_12 (F := Ideal)) _ hostOps0_12_writes h

/-- a buffer nothing writes from the sum to the decays -/
theorem keep_mid (r : Ref sig .tc) (h4 : r ∉ hostOps0_4_W ++ hostOps0_5_W) (h6 : r ∉ hostOps0_6_W ++ hostOps0_7_W) (h8 : r ∉ hostOps0_8_W ++ hostOps0_9_W) :
    chosen V (Proc.devRef .tc r) = summed V (Proc.devRef .tc r) :=
  (keep_chosen V r h8).trans ((keep_strict V r h6).trans (keep_masked V r h4))

/-- the cell of a sequence's chunk and head, of the arguments a valuation holds -/
abbrev cel (b : Fin 4) (n : Fin 32) (h : Fin 4) : Cell := headCell (a0 V) (a1 V) (a2 V) (a3 V) (a4 V) b n h

variable (b h : Fin 4) (n : Fin 32) (i j : Fin 64) (d : Fin 128)

theorem q_chosen : p40 (chosen V) (ix5 b h n i d) = (cel V b n h).q i d :=
  (congrFun ((keep_mid V main_v40 (by decide) (by decide) (by decide)).trans (keep_summed V main_v40 (by decide))) _).trans (q_heads V b h n i d)
theorem k_chosen : p42 (chosen V) (ix5 b h n i d) = (cel V b n h).k i d :=
  (congrFun ((keep_mid V main_v42 (by decide) (by decide) (by decide)).trans (keep_summed V main_v42 (by decide))) _).trans (k_heads V b h n i d)
theorem v_chosen : p44 (chosen V) (ix5 b h n i d) = (cel V b n h).v i d :=
  (congrFun ((keep_mid V main_v44 (by decide) (by decide) (by decide)).trans (keep_summed V main_v44 (by decide))) _).trans (v_heads V b h n i d)
theorem b_chosen : p46 (chosen V) (ix4 b h n i) = (cel V b n h).b i :=
  (congrFun ((keep_mid V main_v46 (by decide) (by decide) (by decide)).trans (keep_summed V main_v46 (by decide))) _).trans (b_heads V b h n i)

theorem cum_summed : p49 (summed V) (ix4 b h n i) = cum (cel V b n h) i := by
  refine (cum_seg (headed V) b h n i).trans ?_
  unfold cum
  exact Finset.sum_congr rfl fun j _ => by rw [show p48 (headed V) (ix4 b h n j) = _ from g_heads V b h n j]
theorem cum_chosen : p49 (chosen V) (ix4 b h n i) = cum (cel V b n h) i :=
  (congrFun (keep_mid V main_v49 (by decide) (by decide) (by decide)) _).trans (cum_summed V b h n i)
theorem cum_strict : p49 (strict V) (ix4 b h n i) = cum (cel V b n h) i :=
  (congrFun ((keep_strict V main_v49 (by decide)).trans (keep_masked V main_v49 (by decide))) _).trans (cum_summed V b h n i)

/-- the decays, before the strictly lower square is taken -/
theorem gam_ten : p60 (after hostOps0_10 (chosen V)) (ix5 b h n i j) = gam (cel V b n h) i j := by
  refine (gam_seg (strict V) (fun i j => (congrFun (keep_strict V main_v51 (by decide)) _).trans (tril_seg (summed V) i j)) b h n i j).trans ?_
  rw [cum_strict, cum_strict]
  rfl

theorem gam_lowered : p60 (lowered V) (ix5 b h n i j) = gam (cel V b n h) i j :=
  (congrFun (after_of_writes_sub (hostOps0_11 (F := Ideal)) _ hostOps0_11_writes (r := main_v60) (by decide)) _).trans (gam_ten V b h n i j)

theorem low_lowered : p66 (lowered V) (ix5 b h n i j) = low (cel V b n h) i j := by
  refine (low_seg (chosen V) (fun i j => (congrFun (keep_chosen V main_v53 (by decide)) _).trans (strict_seg (masked V) i j)) b h n i j).trans ?_
  rw [gam_ten, b_chosen]
  exact if_congr Iff.rfl (congrArg (· * _) (Finset.sum_congr rfl fun d _ => by rw [k_chosen V b h n i d, k_chosen V b h n j d])) rfl

theorem kb_lowered : p63 (lowered V) (ix5 b h n i d) = (cel V b n h).k i d * (cel V b n h).b i := by
  refine (congrFun (after_of_writes_sub (hostOps0_11 (F := Ideal)) _ hostOps0_11_writes (r := main_v63) (by decide)) _).trans ((kb_seg (chosen V) b h n i d).trans ?_)
  rw [k_chosen, b_chosen]

/-! ## What the loop starts from -/

theorem q_entered : p40 (entered V) (ix5 b h n i d) = (cel V b n h).q i d :=
  (congrFun ((keep_entered V main_v40 (by decide)).trans (keep_lowered V main_v40 (by decide))) _).trans (q_chosen V b h n i d)
theorem k_entered : p42 (entered V) (ix5 b h n i d) = (cel V b n h).k i d :=
  (congrFun ((keep_entered V main_v42 (by decide)).trans (keep_lowered V main_v42 (by decide))) _).trans (k_chosen V b h n i d)
theorem cum_entered : p49 (entered V) (ix4 b h n i) = cum (cel V b n h) i :=
  (congrFun ((keep_entered V main_v49 (by decide)).trans (keep_lowered V main_v49 (by decide))) _).trans (cum_chosen V b h n i)
theorem gam_entered : p60 (entered V) (ix5 b h n i j) = gam (cel V b n h) i j :=
  (congrFun (keep_entered V main_v60 (by decide)) _).trans (gam_lowered V b h n i j)
theorem low_entered : pL (entered V) (ix5 b h n i j) = low (cel V b n h) i j :=
  (low_entry (lowered V) b h n i j).trans (low_lowered V b h n i j)
theorem ru_entered : pR (entered V) (ix5 b h n i ⟨d.val, by omega⟩) = ru (cel V b n h) i d := by
  refine (ru_seg (lowered V) b h n i d).trans ?_
  rw [show p44 (lowered V) (ix5 b h n i d) = _ from (congrFun (keep_lowered V main_v44 (by decide)) _).trans (v_chosen V b h n i d),
    show p46 (lowered V) (ix4 b h n i) = _ from (congrFun (keep_lowered V main_v46 (by decide)) _).trans (b_chosen V b h n i)]
  rfl
theorem rw_entered : pR (entered V) (ix5 b h n i ⟨128 + d.val, by omega⟩) = rw' (cel V b n h) i d := by
  refine (rw_seg (lowered V) b h n i d).trans ?_
  rw [kb_lowered, show p49 (lowered V) (ix4 b h n i) = _ from (congrFun (keep_lowered V main_v49 (by decide)) _).trans (cum_chosen V b h n i)]
  rfl
end Entry

/-! ## One trip -/

/-- a row sliced out of every chunk -/
theorem slice_row {D : ℕ} (x : Per5 D) (start : Fin 5 → Int) (fits) (j : Fin 64)
    (e : ∀ a, start a = ((![0, 0, 0, j.val, 0] : Fin 5 → ℕ) a : Int)) (b h : Fin 4) (n : Fin 32) (l : Fin D) :
    Host.dynamicSlice (s := ⟨5, ![4, 4, 32, 64, D]⟩) ⟨5, ![4, 4, 32, 1, D]⟩ x start fits (ix5 b h n 0 l) = x (ix5 b h n j l) := by
  have hj := j.isLt
  rw [dynamicSlice_eq_extract (s := ⟨5, ![4, 4, 32, 64, D]⟩) ⟨5, ![4, 4, 32, 1, D]⟩ x start fits ![0, 0, 0, j.val, 0]
    ⟨rfl, fun a => by
      match a with
      | 0 => show 0 + 4 ≤ 4; omega
      | 1 => show 0 + 4 ≤ 4; omega
      | 2 => show 0 + 32 ≤ 32; omega
      | 3 => show j.val + 1 ≤ 64; omega
      | 4 => show 0 + D ≤ D; omega⟩ e]
  unfold extractStridedSlice
  refine congrArg x (funext fun a => Fin.ext ?_)
  match a with
  | 0 => show 0 + b.val = b.val; omega
  | 1 => show 0 + h.val = h.val; omega
  | 2 => show 0 + n.val = n.val; omega
  | 3 => show j.val + 0 = j.val; omega
  | 4 => show 0 + l.val = l.val; omega

/-- a row put into every chunk -/
theorem put_row {D : ℕ} (x : Per5 D) (v : (⟨5, ![4, 4, 32, 1, D]⟩ : Shape).Idx → EReal) (start : Fin 5 → Int) (fits)
    (j : Fin 64) (e : ∀ a, start a = ((![0, 0, 0, j.val, 0] : Fin 5 → ℕ) a : Int)) (b h : Fin 4) (n : Fin 32) (i : Fin 64) (l : Fin D) :
    Host.dynamicUpdateSlice (s := ⟨5, ![4, 4, 32, 64, D]⟩) (u := ⟨5, ![4, 4, 32, 1, D]⟩) x v start fits (ix5 b h n i l)
      = if i.val = j.val then v (ix5 b h n 0 l) else x (ix5 b h n i l) := by
  have hj := j.isLt
  rw [dynamicUpdateSlice_eq_update (s := ⟨5, ![4, 4, 32, 64, D]⟩) (u := ⟨5, ![4, 4, 32, 1, D]⟩) x v start fits ![0, 0, 0, j.val, 0]
    ⟨rfl, fun a => by
      match a with
      | 0 => show 0 + 4 ≤ 4; omega
      | 1 => show 0 + 4 ≤ 4; omega
      | 2 => show 0 + 32 ≤ 32; omega
      | 3 => show j.val + 1 ≤ 64; omega
      | 4 => show 0 + D ≤ D; omega⟩ e]
  unfold updateSlice
  by_cases hi : i.val = j.val
  · rw [if_pos hi, dif_pos]
    · refine congrArg v (funext fun a => Fin.ext ?_)
      match a with
      | 0 => show b.val - 0 = b.val; omega
      | 1 => show h.val - 0 = h.val; omega
      | 2 => show n.val - 0 = n.val; omega
      | 3 => show i.val - j.val = 0; omega
      | 4 => show l.val - 0 = l.val; omega
    · intro a
      match a with
      | 0 => show 0 ≤ b.val ∧ b.val < 0 + 4; omega
      | 1 => show 0 ≤ h.val ∧ h.val < 0 + 4; omega
      | 2 => show 0 ≤ n.val ∧ n.val < 0 + 32; omega
      | 3 => show j.val ≤ i.val ∧ i.val < j.val + 1; omega
      | 4 => show 0 ≤ l.val ∧ l.val < 0 + D; omega
  · rw [if_neg hi, dif_neg]
    intro hall
    have h0 : j.val ≤ i.val ∧ i.val < j.val + 1 := hall 3
    omega

/-- the row a trip works on, as the loop spells it -/
theorem start_word : ∀ n : Fin 64, (Scalar.select (IntOp.cmpi .slt (BitVec.ofNat 32 n.val) 0#32) (BitVec.ofNat 32 n.val + 64#32) (BitVec.ofNat 32 n.val)).toInt = (n.val : Int) := by
  decide +kernel

/-- a row less what the rows solved give it -/
theorem row_new (r : (⟨5, ![4, 4, 32, 1, 256]⟩ : Shape).Idx → EReal) (l : (⟨5, ![4, 4, 32, 1, 64]⟩ : Shape).Idx → EReal) (x : Per5 256)
    (b h : Fin 4) (n : Fin 32) (j : Fin 256) :
    subf (F := Ideal) (φ := .f32) r (Host.dotGeneral (F := Ideal) (φ₁ := .f32) (φ₂ := .f32) dot_S4x4x32x1x64_S4x4x32x64x256_S4x4x32x1x256_4_3_3_4_012_012 none l x) (ix5 b h n 0 j)
      = r (ix5 b h n 0 j) - ∑ q : Fin 64, l (ix5 b h n 0 q) * x (ix5 b h n q j) := by
  pointwise []

section Loop
variable (m : (ℓ : Loc nD τ sig) → Buf (Elt Ideal) ℓ) (c : Dev nD)

/-- the contents at launch -/
abbrev V₀ : Valuation τ sig (Elt Ideal) := launchContents m c

/-- the valuation before trip `n` -/
abbrev valAt (n : ℕ) : Valuation τ sig (Elt Ideal) := STEP^[n] (entered (V₀ m c))

theorem count_at : ∀ n, valAt m c n (Proc.devRef .tc main_v76_3) = constantI S_ 32 (BitVec.ofNat 32 n)
  | 0 => by
    unfold valAt
    simp only [Function.iterate_zero, id_eq]
    unfold entered
    generalize lowered (V₀ m c) = W
    after_reads_simp
    rfl
  | n + 1 => by
    show (STEP^[n + 1] _) _ = _
    rw [Function.iterate_succ_apply']
    refine (STEP_main_v76_3 _).trans ?_
    unfold step_main_v76_3
    refine (congrArg (fun z : S_.Idx → BitVec 32 => id (addi z (constantI S_ 32 1#32))) (count_at n)).trans ?_
    funext i
    show BitVec.ofNat 32 n + 1#32 = BitVec.ofNat 32 (n + 1)
    simp only [BitVec.ofNat_add]

theorem right_at : ∀ n, pR (valAt m c n) = pR (entered (V₀ m c))
  | 0 => rfl
  | n + 1 => by
    show (STEP^[n + 1] _) _ = _
    rw [Function.iterate_succ_apply']
    exact (STEP_main_v76_0 _).trans (right_at n)

theorem low_at : ∀ n, pL (valAt m c n) = pL (entered (V₀ m c))
  | 0 => rfl
  | n + 1 => by
    show (STEP^[n + 1] _) _ = _
    rw [Function.iterate_succ_apply']
    exact (STEP_main_v76_1 _).trans (low_at n)

/-- a trip solves a row -/
theorem trip (n : Fin 64) (W : Valuation τ sig (Elt Ideal)) (hn : W (Proc.devRef .tc main_v76_3) = constantI S_ 32 (BitVec.ofNat 32 n.val))
    (b h : Fin 4) (k : Fin 32) (i : Fin 64) (j : Fin 256) :
    pX (STEP W) (ix5 b h k i j) = if i.val = n.val then pR W (ix5 b h k n j) - ∑ q : Fin 64, pL W (ix5 b h k n q) * pX W (ix5 b h k q j) else pX W (ix5 b h k i j) := by
  have e : ∀ a : Fin 5, ((![constantI S_ 32 0#32, constantI S_ 32 0#32, constantI S_ 32 0#32,
      select (cmpi .slt (constantI S_ 32 (BitVec.ofNat 32 n.val)) (constantI S_ 32 0#32)) (addi (id (constantI S_ 32 (BitVec.ofNat 32 n.val))) (constantI S_ 32 64#32)) (constantI S_ 32 (BitVec.ofNat 32 n.val)),
      constantI S_ 32 0#32] : Fin 5 → (⟨S_, .i32⟩ : BufTy).Contents (Elt Ideal)) a (Shape.Idx.first h_S_)).toInt = ((![0, 0, 0, n.val, 0] : Fin 5 → ℕ) a : Int) := by
    intro a
    match a with
    | 0 => rfl
    | 1 => rfl
    | 2 => rfl
    | 3 => exact start_word n
    | 4 => rfl
  refine (congrFun (STEP_main_v76_4 W) _).trans ?_
  unfold step_main_v76_4
  rw [hn]
  refine (put_row _ _ _ _ n e b h k i j).trans ?_
  refine if_congr Iff.rfl ?_ rfl
  refine (row_new _ _ _ b h k j).trans ?_
  exact congr (congrArg _ (slice_row _ _ _ n e b h k j)) (Finset.sum_congr rfl fun q _ => congrArg (· * _) (slice_row _ _ _ n e b h k q))

/-- the rows before trip `n` -/
theorem rows_at (b h : Fin 4) (k : Fin 32) (j : Fin 256) : ∀ n, n ≤ 64 → ∀ i : Fin 64, pX (valAt m c n) (ix5 b h k i j)
    = sub (fun i q => pL (entered (V₀ m c)) (ix5 b h k i q)) (fun i => pR (entered (V₀ m c)) (ix5 b h k i j)) n i
  | 0, _, i => zero_entry _ b h k i j
  | n + 1, hn, i => by
    have t := trip ⟨n, hn⟩ (valAt m c n) (count_at m c n) b h k i j
    rw [right_at, low_at] at t
    rw [show valAt m c (n + 1) = STEP (valAt m c n) from Function.iterate_succ_apply' _ _ _, t]
    unfold sub
    by_cases g : i.val = n
    · rw [if_pos g, if_pos g, show i = ⟨n, hn⟩ from Fin.ext g]
      exact congrArg _ (Finset.sum_congr rfl fun q _ => congrArg _ (rows_at b h k j n (by omega) q))
    · rw [if_neg g, if_neg g]
      exact rows_at b h k j n (by omega) i

/-- the pseudo values, after the last trip -/
theorem rows_u (b h : Fin 4) (k : Fin 32) (i : Fin 64) (d : Fin 128) (hx : Finite (cel (V₀ m c) b k h)) :
    pX (valAt m c 64) (ix5 b h k i ⟨d.val, by omega⟩) = uOf (cel (V₀ m c) b k h) i d := by
  rw [rows_at m c b h k _ 64 le_rfl i]
  rw [show (fun i q => pL (entered (V₀ m c)) (ix5 b h k i q)) = low (cel (V₀ m c) b k h) from funext fun i => funext fun q => low_entered _ b h k i q,
    show (fun i => pR (entered (V₀ m c)) (ix5 b h k i ⟨d.val, by omega⟩)) = fun i => ru (cel (V₀ m c) b k h) i d from funext fun i => ru_entered _ b h k i d]
  exact sub_u hx i d

/-- the pseudo keys, after the last trip -/
theorem rows_w (b h : Fin 4) (k : Fin 32) (i : Fin 64) (d : Fin 128) (hx : Finite (cel (V₀ m c) b k h)) :
    pX (valAt m c 64) (ix5 b h k i ⟨128 + d.val, by omega⟩) = wOf (cel (V₀ m c) b k h) i d := by
  rw [rows_at m c b h k _ 64 le_rfl i]
  rw [show (fun i q => pL (entered (V₀ m c)) (ix5 b h k i q)) = low (cel (V₀ m c) b k h) from funext fun i => funext fun q => low_entered _ b h k i q,
    show (fun i => pR (entered (V₀ m c)) (ix5 b h k i ⟨128 + d.val, by omega⟩)) = fun i => rw' (cel (V₀ m c) b k h) i d from funext fun i => rw_entered _ b h k i d]
  exact sub_w hx i d

/-- the valuation after the loop -/
abbrev left : Valuation τ sig (Elt Ideal) := after condOps (atK m 64 c)

theorem left_x : pX (left m c) = pX (valAt m c 64) :=
  (after_of_writes_sub (condOps (F := Ideal)) _ condOps_writes (r := main_v76_4) (by decide)).trans (atK_agree m c 64 main_v76_4 (by decide))

/-- a buffer the loop does not write -/
theorem kept_loop (r : Ref sig .tc) (h : r ∉ condOps_W ++ while0Ops0_W) : left m c (Proc.devRef .tc r) = entered (V₀ m c) (Proc.devRef .tc r) := by
  have hc : r ∉ condOps_W := fun k => h (List.mem_append_left _ k)
  refine (after_of_writes_sub (condOps (F := Ideal)) _ condOps_writes hc).trans ?_
  generalize 64 = k
  induction k with
  | zero => rfl
  | succ k ih =>
    refine Eq.trans ?_ ih
    show after while0Ops0 (after condOps (atK m k c)) _ = _
    exact (after_of_writes_sub (while0Ops0 (F := Ideal)) _ while0Ops0_writes fun k => h (List.mem_append_right _ k)).trans
      (after_of_writes_sub (condOps (F := Ideal)) _ condOps_writes hc)
end Loop

end Cert.DnPrepFwdRefIdeal.Value
-- ==== Proof.PrepRun.lean ====
module

public import proofs.«01_k».proof.Proof.PrepLoop

/-! # The delta rule's chunk terms: the reference's results -/

@[expose] public section

set_option maxRecDepth 65536

noncomputable section

open Idealize.ShloMosaic Idealize.ShloMosaic.TcCoe Idealize.SL.Sem

namespace Cert.Grad.Prep

/-- a result stacked by sequence and chunk -/
def stacked {A B : ℕ} (f : Fin 4 → Fin 32 → Fin 4 → Fin A → Fin B → EReal) : (⟨4, ![128, 4, A, B]⟩ : Shape).Idx → EReal :=
  fun i => f ⟨(i 0).val / 32, by have h : (i 0).val < 128 := (i 0).isLt; omega⟩ ⟨(i 0).val % 32, by omega⟩ (i 1) (i 2) (i 3)

/-- the sequence of a chunk -/
abbrev seqOf (c : Fin 128) : Fin 4 := ⟨c.val / 32, by omega⟩
/-- the place of a chunk in its sequence -/
abbrev chunkOf (c : Fin 128) : Fin 32 := ⟨c.val % 32, by omega⟩

end Cert.Grad.Prep

namespace Cert.DnPrepFwdRefIdeal.Value
open Cert.DnPrepFwdRefIdeal Cert.DnPrepFwdRefIdeal.Gen Idealize.ShloMosaic.StableHlo Cert.Grad Cert.Grad.Prep

section Post
variable (V : Valuation τ sig (Elt Ideal)) (c : Fin 128) (h : Fin 4) (i j : Fin 64) (d : Fin 128)

theorem u_post : after hostOps0_13 V (Proc.devRef .tc main_v98) (ix4 c h i d) = pX V (ix5 (seqOf c) h (chunkOf c) i ⟨d.val, by omega⟩) := by
  unfold pX
  after_reads_at
theorem w_post : after hostOps0_13 V (Proc.devRef .tc main_v101) (ix4 c h i d) = pX V (ix5 (seqOf c) h (chunkOf c) i ⟨128 + d.val, by omega⟩) := by
  unfold pX
  after_reads_at
theorem qd_post : after hostOps0_13 V (Proc.devRef .tc main_v104) (ix4 c h i d)
    = p40 V (ix5 (seqOf c) h (chunkOf c) i d) * Ideal.exp (p49 V (ix4 (seqOf c) h (chunkOf c) i)) := by
  unfold p40 p49
  after_reads_at
theorem kd_post : after hostOps0_13 V (Proc.devRef .tc main_v107) (ix4 c h i d)
    = p42 V (ix5 (seqOf c) h (chunkOf c) i d) * Ideal.exp (p49 V (ix4 (seqOf c) h (chunkOf c) 63) - p49 V (ix4 (seqOf c) h (chunkOf c) i)) := by
  unfold p42 p49
  after_reads_at
theorem a_post : after hostOps0_13 V (Proc.devRef .tc main_v110) (ix4 c h i j)
    = (∑ d, p40 V (ix5 (seqOf c) h (chunkOf c) i d) * p42 V (ix5 (seqOf c) h (chunkOf c) j d)) * p60 V (ix5 (seqOf c) h (chunkOf c) i j) := by
  unfold p40 p42 p60
  after_reads_at
theorem l_post : after hostOps0_13 V (Proc.devRef .tc main_v112) (ix4 c h 0 d) = Ideal.exp (p49 V (ix4 (seqOf c) h (chunkOf c) 63)) := by
  unfold p49
  after_reads_at
end Post

variable (m : (ℓ : Loc nD τ sig) → Buf (Elt Ideal) ℓ) (ρ : Dev nD → PrngReg) (c : Dev nD)

/-- the cells of the arguments -/
abbrev cells (b : Fin 4) (n : Fin 32) (h : Fin 4) : Cell := headCell (m ((c.tc : Thread nD τ).loc main_arg0)) (m ((c.tc : Thread nD τ).loc main_arg1))
  (m ((c.tc : Thread nD τ).loc main_arg2)) (m ((c.tc : Thread nD τ).loc main_arg3)) (m ((c.tc : Thread nD τ).loc main_arg4)) b n h

/-- the contents at the end -/
abbrev ended : Valuation τ sig (Elt Ideal) := after hostOps0_13 (left m c)

theorem left_q (b h : Fin 4) (n : Fin 32) (i : Fin 64) (d : Fin 128) : p40 (left m c) (ix5 b h n i d) = (cells m c b n h).q i d :=
  (congrFun (kept_loop m c main_v40 (by decide)) _).trans (q_entered _ b h n i d)
theorem left_k (b h : Fin 4) (n : Fin 32) (i : Fin 64) (d : Fin 128) : p42 (left m c) (ix5 b h n i d) = (cells m c b n h).k i d :=
  (congrFun (kept_loop m c main_v42 (by decide)) _).trans (k_entered _ b h n i d)
theorem left_cum (b h : Fin 4) (n : Fin 32) (i : Fin 64) : p49 (left m c) (ix4 b h n i) = cum (cells m c b n h) i :=
  (congrFun (kept_loop m c main_v49 (by decide)) _).trans (cum_entered _ b h n i)
theorem left_gam (b h : Fin 4) (n : Fin 32) (i j : Fin 64) : p60 (left m c) (ix5 b h n i j) = gam (cells m c b n h) i j :=
  (congrFun (kept_loop m c main_v60 (by decide)) _).trans (gam_entered _ b h n i j)

theorem u_end (hx : ∀ b n h, Finite (cells m c b n h)) : ended m c (Proc.devRef .tc main_v98) = stacked fun b n h i d => uOf (cells m c b n h) i d := by
  funext y
  idx_vars y
  refine (u_post _ y0 y1 y2 y3).trans ?_
  rw [left_x]
  exact rows_u m c _ _ _ _ _ (hx _ _ _)
theorem w_end (hx : ∀ b n h, Finite (cells m c b n h)) : ended m c (Proc.devRef .tc main_v101) = stacked fun b n h i d => wOf (cells m c b n h) i d := by
  funext y
  idx_vars y
  refine (w_post _ y0 y1 y2 y3).trans ?_
  rw [left_x]
  exact rows_w m c _ _ _ _ _ (hx _ _ _)
theorem qd_end : ended m c (Proc.devRef .tc main_v104) = stacked fun b n h i d => qdOf (cells m c b n h) i d := by
  funext y
  idx_vars y
  refine (qd_post _ y0 y1 y2 y3).trans ?_
  rw [left_q, left_cum]
  rfl
theorem kd_end : ended m c (Proc.devRef .tc main_v107) = stacked fun b n h i d => kdOf (cells m c b n h) i d := by
  funext y
  idx_vars y
  refine (kd_post _ y0 y1 y2 y3).trans ?_
  rw [left_k, left_cum, left_cum]
  rfl
theorem a_end : ended m c (Proc.devRef .tc main_v110) = stacked fun b n h i j => aOf (cells m c b n h) i j := by
  funext y
  idx_vars y
  refine (a_post _ y0 y1 y2 y3).trans ?_
  rw [left_gam]
  exact congrArg (· * _) (Finset.sum_congr rfl fun d _ => by rw [left_q, left_k]; rfl)
theorem l_end : ended m c (Proc.devRef .tc main_v112) = stacked (A := 1) (B := 128) fun b n h _ _ => lOf (cells m c b n h) := by
  funext y
  idx_vars y
  obtain rfl : y2 = 0 := Subsingleton.elim (α := Fin 1) _ _
  refine (l_post _ y0 y1 y3).trans ?_
  rw [left_cum]
  rfl

/-- what the lines after the loop write -/
abbrev postWrites : List (Ref sig .tc) := [main_v77, main_v78, main_v79, main_v80, main_v81, main_v82, main_v83, main_v84, main_v85, main_v86, main_v87, main_v88, main_v89, main_v90, main_v91, main_v92, main_v93, main_v94, main_v95, main_v96, main_v97, main_v98, main_v99, main_v100, main_v101, main_v102, main_v103, main_v104, main_v105, main_v106, main_v107, main_v108, main_v109, main_v110, main_v111, main_v112]
theorem post_writes : (hostOps0_13 : List (HloOp τ sig (Elt Ideal))).Forall fun op => op.writes ⊆ (postWrites.map (Proc.devRef (τ := τ) .tc)).toFinset :=
  StableHlo.forall_writes_sub_of_map rfl

/-- a buffer no line writes -/
theorem kept_end (r : Ref sig .tc) (h13 : r ∉ postWrites) (hl : r ∉ condOps_W ++ while0Ops0_W) (h12 : r ∉ hostOps0_12_W)
    (h10 : r ∉ hostOps0_10_W ++ hostOps0_11_W) (h4 : r ∉ hostOps0_4_W ++ hostOps0_5_W) (h6 : r ∉ hostOps0_6_W ++ hostOps0_7_W) (h8 : r ∉ hostOps0_8_W ++ hostOps0_9_W)
    (h3 : r ∉ hostOps0_3_W) (h2 : r ∉ hostOps0_2_W) (h1 : r ∉ hostOps0_1_W) (h0 : r ∉ hostOps0_W) :
    ended m c (Proc.devRef .tc r) = m ((c.tc : Thread nD τ).loc r) :=
  (after_of_writes_sub (hostOps0_13 (F := Ideal)) _ post_writes h13).trans <| (kept_loop m c r hl).trans <| (keep_entered _ r h12).trans <|
    (keep_lowered _ r h10).trans <| (keep_mid _ r h4 h6 h8).trans <| (keep_summed _ r h3).trans <|
    (after_of_writes_sub (hostOps0_2 (F := Ideal)) _ hostOps0_2_writes h2).trans <| (after_of_writes_sub (hostOps0_1 (F := Ideal)) _ hostOps0_1_writes h1).trans <|
    (after_of_writes_sub (hostOps0 (F := Ideal)) _ hostOps0_writes h0)

/-- the arguments on device `c` are what they were -/
abbrev argsKept (μ : (ℓ : Loc nD τ sig) → Buf (Elt Ideal) ℓ) (c : Dev nD) : Prop :=
    μ ((c.tc : Thread nD τ).loc main_arg0) = m ((c.tc : Thread nD τ).loc main_arg0)
    ∧ μ ((c.tc : Thread nD τ).loc main_arg1) = m ((c.tc : Thread nD τ).loc main_arg1)
    ∧ μ ((c.tc : Thread nD τ).loc main_arg2) = m ((c.tc : Thread nD τ).loc main_arg2)
    ∧ μ ((c.tc : Thread nD τ).loc main_arg3) = m ((c.tc : Thread nD τ).loc main_arg3)
    ∧ μ ((c.tc : Thread nD τ).loc main_arg4) = m ((c.tc : Thread nD τ).loc main_arg4)

/-- memory that holds what the lines leave holds the arguments -/
theorem args_end (μ : (ℓ : Loc nD τ sig) → Buf (Elt Ideal) ℓ)
    (h : ∀ a : Ref sig .tc, (Proc.devRef .tc a : DevRef τ sig).isScoped = false → μ ((c.tc : Thread nD τ).loc a) = ended m c (Proc.devRef .tc a)) : argsKept m μ c := by
  have k : ∀ a ∈ [main_arg0, main_arg1, main_arg2, main_arg3, main_arg4], ended m c (Proc.devRef .tc a) = m ((c.tc : Thread nD τ).loc a) := fun a ha => by
    simp only [List.mem_cons, List.not_mem_nil, or_false] at ha
    rcases ha with rfl | rfl | rfl | rfl | rfl <;>
      exact kept_end m c _ (by decide) (by decide) (by decide) (by decide) (by decide) (by decide) (by decide) (by decide) (by decide) (by decide) (by decide)
  exact ⟨(h _ rfl).trans (k _ (by decide)), (h _ rfl).trans (k _ (by decide)), (h _ rfl).trans (k _ (by decide)), (h _ rfl).trans (k _ (by decide)), (h _ rfl).trans (k _ (by decide))⟩

/-- every run ends with the chunk terms of the arguments' cells, the arguments unchanged -/
theorem run (hx : ∀ (c : Dev nD) b n h, Finite (cells m c b n h)) : θ_run (defs (F := Ideal)) (onTc (τ := τ) (main (F := Ideal))) ⟨m, fun _ => 0, ρ⟩ fun r => ∀ c : Dev nD,
    r.2.mem ((c.tc : Thread nD τ).loc main_v98) = (stacked fun b n h i d => uOf (cells m c b n h) i d)
    ∧ r.2.mem ((c.tc : Thread nD τ).loc main_v101) = (stacked fun b n h i d => wOf (cells m c b n h) i d)
    ∧ r.2.mem ((c.tc : Thread nD τ).loc main_v104) = (stacked fun b n h i d => qdOf (cells m c b n h) i d)
    ∧ r.2.mem ((c.tc : Thread nD τ).loc main_v107) = (stacked fun b n h i d => kdOf (cells m c b n h) i d)
    ∧ r.2.mem ((c.tc : Thread nD τ).loc main_v110) = (stacked fun b n h i j => aOf (cells m c b n h) i j)
    ∧ r.2.mem ((c.tc : Thread nD τ).loc main_v112) = (stacked (A := 1) (B := 128) fun b n h _ _ => lOf (cells m c b n h))
    ∧ argsKept m r.2.mem c := by
  refine (θ_run _ _ _).mono (fun r h c => ?_) (run_fold (F := Ideal) m ρ)
  exact ⟨(h c main_v98 (by decide)).trans (u_end m c (hx c)), (h c main_v101 (by decide)).trans (w_end m c (hx c)), (h c main_v104 (by decide)).trans (qd_end m c),
    (h c main_v107 (by decide)).trans (kd_end m c), (h c main_v110 (by decide)).trans (a_end m c), (h c main_v112 (by decide)).trans (l_end m c),
    args_end m c r.2.mem (h c)⟩

/-- every run ends with the arguments unchanged, whatever they hold -/
theorem run_args : θ_run (defs (F := Ideal)) (onTc (τ := τ) (main (F := Ideal))) ⟨m, fun _ => 0, ρ⟩ fun r => ∀ c : Dev nD, argsKept m r.2.mem c :=
  (θ_run _ _ _).mono (fun r h c => args_end m c r.2.mem (h c)) (run_fold (F := Ideal) m ρ)

end Cert.DnPrepFwdRefIdeal.Value
-- ==== Proof.PrepFwd.lean ====
module

public import proofs.«01_k».proof.Proof.PrepPoint
public import proofs.«01_k».proof.Proof.PrepRun
public import proofs.«01_k».proof.Proof.Gen.DnPrepFwdIdeal.Frame
public import Idealize.ShloMosaic.Lib.KernelVsHost

/-! # The delta rule's chunk terms: the kernel's results -/

@[expose] public section

noncomputable section

open Idealize.ShloMosaic Idealize.ShloMosaic.TcCoe Idealize.SL.Sem

namespace Cert.Grad.Prep

/-- a stacked result at a chunk, a head, a row and a channel -/
theorem stacked_val {A B : ℕ} (f : Fin 4 → Fin 32 → Fin 4 → Fin A → Fin B → EReal) (y : (⟨4, ![128, 4, A, B]⟩ : Shape).Idx) (b : Fin 4) (n : Fin 32) (h : Fin 4) (i : Fin A) (d : Fin B)
    (h0 : (y 0).val = b.val * 32 + n.val) (h1 : (y 1).val = h.val) (h2 : (y 2).val = i.val) (h3 : (y 3).val = d.val) : Prep.stacked f y = f b n h i d := by
  have hn := n.isLt
  unfold Prep.stacked
  exact congr (congr (congr (congr (congrArg f (Fin.ext (by show (y 0).val / 32 = b.val; omega))) (Fin.ext (by show (y 0).val % 32 = n.val; omega))) (Fin.ext h1)) (Fin.ext h2)) (Fin.ext h3)

end Cert.Grad.Prep

namespace Cert.DnPrepFwdIdeal.Value
open Cert.DnPrepFwdIdeal Cert.DnPrepFwdIdeal.Gen Cert.Grad Cert.Grad.Prep

/-- every window's block index at every point -/
theorem idx : ∀ t : Fin cfg0.N, win0_0.index t = ![t.val, 0] ∧ win0_1.index t = ![t.val, 0] ∧ win0_2.index t = ![0, 0] ∧ win0_3.index t = ![0, 0]
    ∧ win0_4.index t = ![t.val, 0, 0, 0] ∧ win0_5.index t = ![t.val, 0, 0, 0] ∧ win0_6.index t = ![t.val, 0, 0, 0]
    ∧ win0_7.index t = ![t.val, 0, 0, 0] ∧ win0_8.index t = ![t.val, 0, 0, 0] ∧ win0_9.index t = ![t.val, 0, 0, 0] :=
  (by decide +kernel : ∀ t : Fin grid0.N, _)

theorem lt16 (p : Fin cfg0.N) : p.val < 16 := lt_of_lt_of_eq p.isLt N_0

variable (m : (ℓ : Loc nD τ sig) → Buf (Elt Ideal) ℓ) (c : Dev nD)

/-- the arguments on device `c` -/
abbrev argX : S4x2048x1536.Idx → EReal := m ((c : Thread nD τ).loc main_arg0)
abbrev argB : S4x2048x4.Idx → EReal := m ((c : Thread nD τ).loc main_arg1)
abbrev argG : S4x2048x4.Idx → EReal := m ((c : Thread nD τ).loc main_arg2)
abbrev argA : S4.Idx → EReal := m ((c : Thread nD τ).loc main_arg3)
abbrev argD : S4.Idx → EReal := m ((c : Thread nD τ).loc main_arg4)

/-- the sequence of point `p` -/
abbrev bOf (p : Fin cfg0.N) : Fin 4 := ⟨p.val / 4, by have := lt16 p; omega⟩
/-- the chunk of its sequence that is chunk `n` of point `p` -/
abbrev nOf (p : Fin cfg0.N) (n : Fin 8) : Fin 32 := ⟨p.val % 4 * 8 + n.val, by omega⟩
/-- the step of its sequence that is row `r` of point `p` -/
abbrev rOf (p : Fin cfg0.N) (r : Fin 512) : Fin 2048 := ⟨p.val % 4 * 512 + r.val, by omega⟩

theorem row_step (p : Fin cfg0.N) (n : Fin 8) (i : Fin 64) : rOf p (rowOf n i) = stepOf (nOf p n) i :=
  Fin.ext (by show p.val % 4 * 512 + (n.val * 64 + i.val) = (p.val % 4 * 8 + n.val) * 64 + i.val; omega)

theorem blk_x (p : Fin cfg0.N) : iblk m c 0 p = fun i : S512x1536.Idx => argX m c (ix3 (bOf p) (rOf p (i 0)) (i 1)) := by
  funext i
  blk_simp [iblk]
  unfold_abbrev_sides
  simp only [hostOps0, hostOps0_1, hostOps0_2, hostOps0_3, hostOps0_4, hostOps0_5, List.flatten, List.append]
  after_reads_at
  blk_ext [idx p]

/-- the padded gates' first four columns are the raw gates -/
theorem flat_b (r : Fin 8192) (h : Fin 4) : V m c main_v2 (ix2 r ⟨h.val, by omega⟩) = argB m c (ix3 ⟨r.val / 2048, by omega⟩ ⟨r.val % 2048, by omega⟩ h) := by
  unfold_abbrev_sides
  simp only [hostOps0, hostOps0_1, hostOps0_2, hostOps0_3, hostOps0_4, hostOps0_5, List.flatten, List.append]
  after_reads_at
  rw [dif_pos (by first | omega | (show h.val < 8; omega))]
  exact congrFun (congrFun (StableHlo.upto_zero _ (fun b => m (c, b))) (Proc.devRef .tc main_arg1)) _

/-- the padded gates' next four columns are the raw decays -/
theorem flat_g (r : Fin 8192) (h : Fin 4) : V m c main_v2 (ix2 r ⟨4 + h.val, by omega⟩) = argG m c (ix3 ⟨r.val / 2048, by omega⟩ ⟨r.val % 2048, by omega⟩ h) := by
  unfold_abbrev_sides
  simp only [hostOps0, hostOps0_1, hostOps0_2, hostOps0_3, hostOps0_4, hostOps0_5, List.flatten, List.append]
  after_reads_at
  rw [dif_pos (by omega)]
  exact congrFun (congrFun (StableHlo.upto_zero _ (fun b => m (c, b))) (Proc.devRef .tc main_arg2)) _

/-- the padded rates' columns four to eight are the rates -/
theorem flat_al (h : Fin 4) : V m c main_v5 (ix2 0 ⟨4 + h.val, by omega⟩) = argA m c (ix1 h) := by
  unfold_abbrev_sides
  simp only [hostOps0, hostOps0_1, hostOps0_2, hostOps0_3, hostOps0_4, hostOps0_5, List.flatten, List.append]
  after_reads_at

theorem flat_dt (h : Fin 4) : V m c main_v7 (ix2 0 ⟨4 + h.val, by omega⟩) = argD m c (ix1 h) := by
  unfold_abbrev_sides
  simp only [hostOps0, hostOps0_1, hostOps0_2, hostOps0_3, hostOps0_4, hostOps0_5, List.flatten, List.append]
  after_reads_at

theorem row_ix (p : Fin cfg0.N) (r : Fin 512) (h : Fin 4) (h1 h2) :
    (ix3 (⟨(p.val * 512 + r.val) / 2048, h1⟩ : Fin 4) (⟨(p.val * 512 + r.val) % 2048, h2⟩ : Fin 2048) h : S4x2048x4.Idx) = ix3 (bOf p) (rOf p r) h := by
  have hp := lt16 p
  have e1 : (⟨(p.val * 512 + r.val) / 2048, h1⟩ : Fin 4) = bOf p := Fin.ext (by show (p.val * 512 + r.val) / 2048 = p.val / 4; omega)
  have e2 : (⟨(p.val * 512 + r.val) % 2048, h2⟩ : Fin 2048) = rOf p r := Fin.ext (by show (p.val * 512 + r.val) % 2048 = p.val % 4 * 512 + r.val; omega)
  rw [e1, e2]

theorem blk_b (p : Fin cfg0.N) (r : Fin 512) (h : Fin 4) : iblk m c 1 p (ix2 r ⟨h.val, by omega⟩) = argB m c (ix3 (bOf p) (rOf p r) h) := by
  have hp := lt16 p
  blk_simp [iblk]
  refine Eq.trans ?_ ((flat_b m c ⟨p.val * 512 + r.val, by omega⟩ h).trans ?_)
  · blk_ext [idx p]
  · exact congrArg (argB m c) (row_ix p r h _ _)

theorem blk_g (p : Fin cfg0.N) (r : Fin 512) (h : Fin 4) : iblk m c 1 p (ix2 r ⟨4 + h.val, by omega⟩) = argG m c (ix3 (bOf p) (rOf p r) h) := by
  have hp := lt16 p
  blk_simp [iblk]
  refine Eq.trans ?_ ((flat_g m c ⟨p.val * 512 + r.val, by omega⟩ h).trans ?_)
  · blk_ext [idx p]
  · exact congrArg (argG m c) (row_ix p r h _ _)

theorem blk_al (p : Fin cfg0.N) (h : Fin 4) : iblk m c 2 p (ix2 0 ⟨4 + h.val, by omega⟩) = argA m c (ix1 h) := by
  blk_simp [iblk]
  refine Eq.trans ?_ (flat_al m c h)
  blk_ext [idx p]

theorem blk_dt (p : Fin cfg0.N) (h : Fin 4) : iblk m c 3 p (ix2 0 ⟨4 + h.val, by omega⟩) = argD m c (ix1 h) := by
  blk_simp [iblk]
  refine Eq.trans ?_ (flat_dt m c h)
  blk_ext [idx p]

/-- the cell of a point's chunk and head is the arguments' -/
theorem cell_blk (p : Fin cfg0.N) (n : Fin 8) (h : Fin 4) : cellOf (iblk m c 0 p) (iblk m c 1 p) (iblk m c 2 p) (iblk m c 3 p) n h
    = headCell (argX m c) (argB m c) (argG m c) (argA m c) (argD m c) (bOf p) (nOf p n) h := by
  have ex : ∀ i (l : Fin 1536), iblk m c 0 p (ix2 (rowOf n i) l) = argX m c (ix3 (bOf p) (stepOf (nOf p n) i) l) := fun i l => by
    rw [blk_x m c p, ← row_step p n i]; rfl
  have eb : ∀ i, iblk m c 1 p (ix2 (rowOf n i) ⟨h.val, by omega⟩) = argB m c (ix3 (bOf p) (stepOf (nOf p n) i) h) := fun i => by
    rw [← row_step p n i]; exact blk_b m c p (rowOf n i) h
  have eg : ∀ i, iblk m c 1 p (ix2 (rowOf n i) ⟨4 + h.val, by omega⟩) = argG m c (ix3 (bOf p) (stepOf (nOf p n) i) h) := fun i => by
    rw [← row_step p n i]; exact blk_g m c p (rowOf n i) h
  unfold cellOf headCell
  simp only [ex, eb, eg, blk_al m c p h, blk_dt m c p h]

/-- the number of a point's chunk among all sequences' chunks -/
theorem chunk_no (p : Fin cfg0.N) (n : Fin 8) : p.val * 8 + n.val = (bOf p).val * 32 + (nOf p n).val := by
  show p.val * 8 + n.val = p.val / 4 * 32 + (p.val % 4 * 8 + n.val)
  omega

variable (x : Tile) (bg : Vec Ideal S512x128 .f32) (al dt : Vec Ideal S1x128 .f32)

theorem out4 : out0_4 x bg al dt = k0_pay37 (F := Ideal) (k0_pay16 x) (bx bg)
      (k0_pay31 (kx x) (bx bg) k0_pay20 k0_pay21 (k0_pay22 (F := Ideal)) (k0_pay23 (F := Ideal)) (k0_pay25 (k0_pay7 bg al dt)))
      (k0_pay32 (kx x) (bx bg) k0_pay20 k0_pay21 (k0_pay22 (F := Ideal)) (k0_pay23 (F := Ideal)) (k0_pay25 (k0_pay7 bg al dt)))
      (k0_pay33 (kx x) (bx bg) k0_pay20 k0_pay21 (k0_pay22 (F := Ideal)) (k0_pay23 (F := Ideal)) (k0_pay25 (k0_pay7 bg al dt))) := by
  unfold_out out0_4
  simp only [load4]
  frame_out

theorem out5 : out0_5 x bg al dt = k0_pay42 (F := Ideal) (gx bg al dt) (k0_pay27 (kx x) (bx bg))
      (k0_pay31 (kx x) (bx bg) k0_pay20 k0_pay21 (k0_pay22 (F := Ideal)) (k0_pay23 (F := Ideal)) (k0_pay25 (k0_pay7 bg al dt)))
      (k0_pay32 (kx x) (bx bg) k0_pay20 k0_pay21 (k0_pay22 (F := Ideal)) (k0_pay23 (F := Ideal)) (k0_pay25 (k0_pay7 bg al dt)))
      (k0_pay33 (kx x) (bx bg) k0_pay20 k0_pay21 (k0_pay22 (F := Ideal)) (k0_pay23 (F := Ideal)) (k0_pay25 (k0_pay7 bg al dt))) := by
  unfold_out out0_5
  simp only [load4]
  frame_out

theorem out6 : out0_6 x bg al dt = k0_pay1 (F := Ideal) (k0_pay38 (qx x) (gx bg al dt)) := by
  unfold_out out0_6
  simp only [load4]
  frame_out
theorem out7 : out0_7 x bg al dt = k0_pay2 (F := Ideal) (k0_pay39 (kx x) (gx bg al dt)) := by
  unfold_out out0_7
  simp only [load4]
  frame_out
theorem out8 : out0_8 x bg al dt = k0_pay3 (F := Ideal) (k0_pay40 (qx x) (kx x) (mx bg al dt)) := by
  unfold_out out0_8
  simp only [load4]
  frame_out
theorem out9 : out0_9 x bg al dt = k0_pay41 (F := Ideal) (gx bg al dt) := by
  unfold_out out0_9
  frame_out

/-! ## The result arrays -/

/-- the arguments' cells on device `c` -/
abbrev cells (b : Fin 4) (n : Fin 32) (h : Fin 4) : Cell := headCell (argX m c) (argB m c) (argG m c) (argA m c) (argD m c) b n h

variable (p : Fin cfg0.N) (n : Fin 8) (h : Fin 4) (i : Fin 64)

theorem point4 (d : Fin 128) : out0_4 (iblk m c 0 p) (iblk m c 1 p) (iblk m c 2 p) (iblk m c 3 p) (ix4 n h i d) = uOf (cells m c (bOf p) (nOf p n) h) i d := by
  rw [out4, u_out, cell_blk]

theorem point5 (d : Fin 128) : out0_5 (iblk m c 0 p) (iblk m c 1 p) (iblk m c 2 p) (iblk m c 3 p) (ix4 n h i d) = wOf (cells m c (bOf p) (nOf p n) h) i d := by
  rw [out5, w_out, cell_blk]

theorem point6 (d : Fin 128) : out0_6 (iblk m c 0 p) (iblk m c 1 p) (iblk m c 2 p) (iblk m c 3 p) (ix4 n h i d) = qdOf (cells m c (bOf p) (nOf p n) h) i d := by
  rw [out6, qd_out, cell_blk]

theorem point7 (d : Fin 128) : out0_7 (iblk m c 0 p) (iblk m c 1 p) (iblk m c 2 p) (iblk m c 3 p) (ix4 n h i d) = kdOf (cells m c (bOf p) (nOf p n) h) i d := by
  rw [out7, kd_out, cell_blk]

theorem point8 (j : Fin 64) : out0_8 (iblk m c 0 p) (iblk m c 1 p) (iblk m c 2 p) (iblk m c 3 p) (ix4 n h i j) = aOf (cells m c (bOf p) (nOf p n) h) i j := by
  rw [out8, a_out, cell_blk]

theorem point9 (z : Fin 1) (d : Fin 128) : out0_9 (iblk m c 0 p) (iblk m c 1 p) (iblk m c 2 p) (iblk m c 3 p) (ix4 n h z d) = lOf (cells m c (bOf p) (nOf p n) h) := by
  obtain rfl : z = 0 := Subsingleton.elim _ _
  rw [out9, l_out (iblk m c 0 p), cell_blk]

/-- the array of the pseudo values -/
theorem final4 : (dats m 0 c).arrAt 4 cfg0.N = (Prep.stacked fun b n h i d => uOf (cells m c b n h) i d) := by
  refine (dats m 0 c).arrAt_eq_of_covers 4 _ (by decide +kernel) fun p _ y => ?_
  blk_simp
  rw [after0_4]
  refine Eq.trans ?_ (stacked_val _ _ (bOf p) (nOf p (y 0)) (y 1) (y 2) (y 3) ?_ ?_ ?_ ?_).symm
  · exact (congrArg _ (eq_ix4 y)).trans (point4 m c p (y 0) (y 1) (y 2) (y 3))
  · exact Eq.trans (b := p.val * 8 + (y 0).val) (by blk_ext [idx p]) (chunk_no p (y 0))
  all_goals blk_ext [idx p]

/-- the array of the pseudo keys -/
theorem final5 : (dats m 0 c).arrAt 5 cfg0.N = (Prep.stacked fun b n h i d => wOf (cells m c b n h) i d) := by
  refine (dats m 0 c).arrAt_eq_of_covers 5 _ (by decide +kernel) fun p _ y => ?_
  blk_simp
  rw [after0_5]
  refine Eq.trans ?_ (stacked_val _ _ (bOf p) (nOf p (y 0)) (y 1) (y 2) (y 3) ?_ ?_ ?_ ?_).symm
  · exact (congrArg _ (eq_ix4 y)).trans (point5 m c p (y 0) (y 1) (y 2) (y 3))
  · exact Eq.trans (b := p.val * 8 + (y 0).val) (by blk_ext [idx p]) (chunk_no p (y 0))
  all_goals blk_ext [idx p]

/-- the array of the decayed queries -/
theorem final6 : (dats m 0 c).arrAt 6 cfg0.N = (Prep.stacked fun b n h i d => qdOf (cells m c b n h) i d) := by
  refine (dats m 0 c).arrAt_eq_of_covers 6 _ (by decide +kernel) fun p _ y => ?_
  blk_simp
  rw [after0_6]
  refine Eq.trans ?_ (stacked_val _ _ (bOf p) (nOf p (y 0)) (y 1) (y 2) (y 3) ?_ ?_ ?_ ?_).symm
  · exact (congrArg _ (eq_ix4 y)).trans (point6 m c p (y 0) (y 1) (y 2) (y 3))
  · exact Eq.trans (b := p.val * 8 + (y 0).val) (by blk_ext [idx p]) (chunk_no p (y 0))
  all_goals blk_ext [idx p]

/-- the array of the decayed keys -/
theorem final7 : (dats m 0 c).arrAt 7 cfg0.N = (Prep.stacked fun b n h i d => kdOf (cells m c b n h) i d) := by
  refine (dats m 0 c).arrAt_eq_of_covers 7 _ (by decide +kernel) fun p _ y => ?_
  blk_simp
  rw [after0_7]
  refine Eq.trans ?_ (stacked_val _ _ (bOf p) (nOf p (y 0)) (y 1) (y 2) (y 3) ?_ ?_ ?_ ?_).symm
  · exact (congrArg _ (eq_ix4 y)).trans (point7 m c p (y 0) (y 1) (y 2) (y 3))
  · exact Eq.trans (b := p.val * 8 + (y 0).val) (by blk_ext [idx p]) (chunk_no p (y 0))
  all_goals blk_ext [idx p]

/-- the array of the attention in the chunks -/
theorem final8 : (dats m 0 c).arrAt 8 cfg0.N = (Prep.stacked fun b n h i j => aOf (cells m c b n h) i j) := by
  refine (dats m 0 c).arrAt_eq_of_covers 8 _ (by decide +kernel) fun p _ y => ?_
  blk_simp
  rw [after0_8]
  refine Eq.trans ?_ (stacked_val _ _ (bOf p) (nOf p (y 0)) (y 1) (y 2) (y 3) ?_ ?_ ?_ ?_).symm
  · exact (congrArg _ (eq_ix4 y)).trans (point8 m c p (y 0) (y 1) (y 2) (y 3))
  · exact Eq.trans (b := p.val * 8 + (y 0).val) (by blk_ext [idx p]) (chunk_no p (y 0))
  all_goals blk_ext [idx p]

/-- the array of the chunks' decays -/
theorem final9 : (dats m 0 c).arrAt 9 cfg0.N = (Prep.stacked (A := 1) (B := 128) fun b n h _ _ => lOf (cells m c b n h)) := by
  refine (dats m 0 c).arrAt_eq_of_covers 9 _ (by decide +kernel) fun p _ y => ?_
  blk_simp
  rw [after0_9]
  refine Eq.trans ?_ (stacked_val _ _ (bOf p) (nOf p (y 0)) (y 1) (y 2) (y 3) ?_ ?_ ?_ ?_).symm
  · exact (congrArg _ (eq_ix4 y)).trans (point9 m c p (y 0) (y 1) (y 2) (y 3))
  · exact Eq.trans (b := p.val * 8 + (y 0).val) (by blk_ext [idx p]) (chunk_no p (y 0))
  all_goals blk_ext [idx p]

/-- every run ends with each result at what the pipeline leaves, the arguments unchanged -/
theorem run_blocks (ρ : Dev nD → PrngReg) : θ_run (defs (F := Ideal)) (onTc (τ := τ) (main (F := Ideal))) ⟨m, fun _ => 0, ρ⟩ fun r => ∀ c : Dev nD,
    r.2.mem ((c : Thread nD τ).loc main_v8_0) = (dats m 0 c).arrAt 4 cfg0.N
    ∧ r.2.mem ((c : Thread nD τ).loc main_v8_1) = (dats m 0 c).arrAt 5 cfg0.N
    ∧ r.2.mem ((c : Thread nD τ).loc main_v8_2) = (dats m 0 c).arrAt 6 cfg0.N
    ∧ r.2.mem ((c : Thread nD τ).loc main_v8_3) = (dats m 0 c).arrAt 7 cfg0.N
    ∧ r.2.mem ((c : Thread nD τ).loc main_v8_4) = (dats m 0 c).arrAt 8 cfg0.N
    ∧ r.2.mem ((c : Thread nD τ).loc main_v8_5) = (dats m 0 c).arrAt 9 cfg0.N
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  (θ_run defs _ _).mono (fun r h c => ⟨(h c).1 4, (h c).1 5, (h c).1 6, (h c).1 7, (h c).1 8, (h c).1 9,
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩)
    (run_main m ρ)

end Cert.DnPrepFwdIdeal.Value
-- ==== Proof.PrepFwdEq.lean ====
module

public import proofs.«01_k».proof.Proof.PrepFwd
public import proofs.«01_k».proof.Proof.FiniteArg
public import proofs.«01_k».proof.Proof.Gen.Pre_finite_prep
public import proofs.«01_k».proof.Defs

/-! # The delta rule's chunk terms: kernel and reference agree -/

@[expose] public section

noncomputable section

open Idealize.ShloMosaic Idealize.ShloMosaic.TcCoe Idealize.SL.Sem

namespace Cert.Grad.Prep

/-- the cells of arrays of reals are finite -/
theorem finite_head (x : (⟨3, ![4, 2048, 1536]⟩ : Shape).Idx → ℝ) (br gr : (⟨3, ![4, 2048, 4]⟩ : Shape).Idx → ℝ) (al dt : (⟨1, ![4]⟩ : Shape).Idx → ℝ) (b : Fin 4) (n : Fin 32) (h : Fin 4) :
    Finite (headCell (fun i => (x i : EReal)) (fun i => (br i : EReal)) (fun i => (gr i : EReal)) (fun i => (al i : EReal)) (fun i => (dt i : EReal)) b n h) where
  k _ _ := fin_mul (fin_coe _) (fin_rt fun _ => fin_coe _)
  v _ _ := fin_coe _
  b _ := fin_logistic (fin_coe _)
  g _ := fin_dec (fin_coe _) (fin_add (fin_coe _) (fin_coe _))

end Cert.Grad.Prep

namespace Cert.Proof
open Cert.Grad Cert.Grad.Prep

/-- the arguments' cells are finite where the arguments are -/
theorem finite_cells (m : (ℓ : Loc Cert.DnPrepFwdIdeal.nD Cert.DnPrepFwdIdeal.τ Cert.DnPrepFwdIdeal.sig) → Buf (Elt Ideal) ℓ) (hp : Cert.Pre_DnPrepFwdIdeal_finite_prep m)
    (c : Dev Cert.DnPrepFwdIdeal.nD) (b : Fin 4) (n : Fin 32) (h : Fin 4) : Finite (Cert.DnPrepFwdIdeal.Value.cells m c b n h) := by
  obtain ⟨x, hx⟩ := real_of_finite _ (Cert.DnPrepFwdIdeal.Value.argX m c) (hp c).1
  obtain ⟨br, hb⟩ := real_of_finite _ (Cert.DnPrepFwdIdeal.Value.argB m c) (hp c).2.1
  obtain ⟨gr, hg⟩ := real_of_finite _ (Cert.DnPrepFwdIdeal.Value.argG m c) (hp c).2.2.1
  obtain ⟨al, ha⟩ := real_of_finite _ (Cert.DnPrepFwdIdeal.Value.argA m c) (hp c).2.2.2.1
  obtain ⟨dt, hd⟩ := real_of_finite _ (Cert.DnPrepFwdIdeal.Value.argD m c) (hp c).2.2.2.2
  unfold Cert.DnPrepFwdIdeal.Value.cells
  rw [hx, hb, hg, ha, hd]
  exact finite_head x br gr al dt b n h

/-- where the arguments are finite, kernel and reference compute the same chunk terms -/
theorem dn_prep_fwd : Cert.algebraic_DnPrepFwdIdeal_DnPrepFwdRefIdeal_pre_finite_prep := by
  intro m ρ m' ρ' hp ha
  have hc : ∀ c, Cert.DnPrepFwdRefIdeal.Value.cells m' c = Cert.DnPrepFwdIdeal.Value.cells m c := fun c => by
    funext b n h
    obtain ⟨e0, e1, e2, e3, e4⟩ := ha c
    unfold Cert.DnPrepFwdRefIdeal.Value.cells
    rw [e0, e1, e2, e3, e4]
  refine ⟨fun c => (Cert.DnPrepFwdIdeal.Gen.dats m 0 c).arrAt 4 Cert.DnPrepFwdIdeal.cfg0.N, fun c => (Cert.DnPrepFwdIdeal.Gen.dats m 0 c).arrAt 5 Cert.DnPrepFwdIdeal.cfg0.N,
    fun c => (Cert.DnPrepFwdIdeal.Gen.dats m 0 c).arrAt 6 Cert.DnPrepFwdIdeal.cfg0.N, fun c => (Cert.DnPrepFwdIdeal.Gen.dats m 0 c).arrAt 7 Cert.DnPrepFwdIdeal.cfg0.N,
    fun c => (Cert.DnPrepFwdIdeal.Gen.dats m 0 c).arrAt 8 Cert.DnPrepFwdIdeal.cfg0.N, fun c => (Cert.DnPrepFwdIdeal.Gen.dats m 0 c).arrAt 9 Cert.DnPrepFwdIdeal.cfg0.N,
    Cert.DnPrepFwdIdeal.Value.run_blocks m ρ, ?_⟩
  refine (θ_run _ _ _).mono (fun r hr c => ?_) (Cert.DnPrepFwdRefIdeal.Value.run m' ρ' fun c b n h => by rw [hc c]; exact finite_cells m hp c b n h)
  obtain ⟨h0, h1, h2, h3, h4, h5, hk⟩ := hr c
  rw [hc c] at h0 h1 h2 h3 h4 h5
  exact ⟨h0.trans (Cert.DnPrepFwdIdeal.Value.final4 m c).symm, h1.trans (Cert.DnPrepFwdIdeal.Value.final5 m c).symm,
    h2.trans (Cert.DnPrepFwdIdeal.Value.final6 m c).symm, h3.trans (Cert.DnPrepFwdIdeal.Value.final7 m c).symm,
    h4.trans (Cert.DnPrepFwdIdeal.Value.final8 m c).symm, h5.trans (Cert.DnPrepFwdIdeal.Value.final9 m c).symm, hk⟩

end Cert.Proof
-- ==== Proof.InProjFwd.lean ====
module

public import proofs.«01_k».proof.Proof.InProj

/-! # A normalised row times a matrix

`y = (x · rs x · g) @ w` row by row, the rows of four sequences one after another and the columns cut into pieces. -/

@[expose] public section

noncomputable section

namespace Cert.Grad
open Idealize.ShloMosaic

variable {n : ℕ}

/-- the normalised, scaled row times the matrix -/
def projRow (h : (⟨3, ![4, 2048, 1024]⟩ : Shape).Idx → EReal) (g : (⟨1, ![1024]⟩ : Shape).Idx → EReal) (w : (⟨2, ![1024, n]⟩ : Shape).Idx → EReal)
    (b : Fin 4) (s : Fin 2048) (k : Fin n) : EReal := ∑ l : Fin 1024, rowAt h b s l * rs (rowAt h b s) * g (ix1 l) * w (ix2 l k)

/-- the columns from `o` on of the rows of four sequences, zeros past their end -/
def colsFrom (o : ℕ) {N : ℕ} (f : Fin 4 → Fin 2048 → Fin n → EReal) : (⟨2, ![8192, N]⟩ : Shape).Idx → EReal :=
  fun i => padRow (f (seq (i 0).val (i 0).isLt) (pos (i 0).val)) (o + (i 1).val)

/-- such columns at a row and a column -/
theorem colsFrom_val (o : ℕ) {N : ℕ} (f : Fin 4 → Fin 2048 → Fin n → EReal) (i : (⟨2, ![8192, N]⟩ : Shape).Idx) (R k : ℕ) (hR : R < 8192)
    (h0 : (i 0).val = R) (h1 : (i 1).val = k) : colsFrom o f i = padRow (f (seq R hR) (pos R)) (o + k) := by
  subst h0 h1
  rfl

/-- a row times columns padded with zeros is the padded row of the products -/
theorem sum_padCol (x : Fin 1024 → EReal) (w : Fin 1024 → Fin n → EReal) (k : ℕ) :
    ∑ l : Fin 1024, x l * padRow (w l) k = padRow (fun j => ∑ l : Fin 1024, x l * w l j) k := by
  unfold padRow
  by_cases hk : k < n
  · simp only [dif_pos hk]
  · simp only [dif_neg hk, mul_zero, Finset.sum_const_zero]

end Cert.Grad
-- ==== Proof.InAbFwd.lean ====
module

public import proofs.«01_k».proof.Proof.InProjFwd
public import proofs.«01_k».proof.Proof.LeadSum
public import proofs.«01_k».proof.Proof.Gen.InAbFwdIdeal.Value
public import proofs.«01_k».proof.Proof.Gen.InAbFwdRefIdeal.Read
public import proofs.«01_k».proof.Defs
public import Idealize.ShloMosaic.Lib.StableHlo.ReadAt

/-! # The input projection of the even layers -/

@[expose] public section

noncomputable section

open Idealize.ShloMosaic Idealize.ShloMosaic.TcCoe Idealize.SL.Sem

namespace Cert.InAbFwdIdeal.Value
open Cert.InAbFwdIdeal Cert.InAbFwdIdeal.Gen Cert.Grad

/-- the block's product of the normalised rows and the matrix -/
theorem prod_at (h : Vec Ideal S512x1024 .f32) (g : Vec Ideal S1x1024 .f32) (w : Vec Ideal S2688x1024 .bf16) (r : Fin 512) (k : Fin 2688) :
    k0_pay1 (F := Ideal) h g w (ix2 r k) = ∑ l : Fin 1024, h (ix2 r l) * rs (fun k => h (ix2 r k)) * g (ix2 0 l) * w (ix2 k l) := by
  pointwise [k0_pay1]
  simp only [word_1024, word_eps]
  rfl

/-- every window's block index at every point -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0] :=
  (by decide +kernel : ∀ t : Fin grid0.N, _)

/-- sixteen points of 512 rows -/
theorem rows : cfg0.N * 512 = 8192 := by rw [show cfg0.N = 16 from N_0]

variable (m : (ℓ : Loc nD τ sig) → Buf (Elt Ideal) ℓ) (c : Dev nD)

/-- the hidden state, the gain and the matrix on device `c` -/
abbrev argH : S4x2048x1024.Idx → EReal := m ((c : Thread nD τ).loc main_arg0)
abbrev argG : S1024.Idx → EReal := m ((c : Thread nD τ).loc main_arg1)
abbrev argW : S1024x2568.Idx → EReal := m ((c : Thread nD τ).loc main_arg2)

/-- the sequence of row `r` of point `p` and the row's place there -/
abbrev bOf (p : Fin cfg0.N) (r : Fin 512) : Fin 4 := seq (p.val * 512 + r.val) (row_lt rows p r)
abbrev sOf (p : Fin cfg0.N) (r : Fin 512) : Fin 2048 := pos (p.val * 512 + r.val)

theorem blk_h (p : Fin cfg0.N) : iblk m c 0 p = fun i : S512x1024.Idx => rowAt (argH m c) (bOf p (i 0)) (sOf p (i 0)) (i 1) := by
  funext i
  blk_simp [iblk]
  unfold_abbrev_sides
  simp only [hostOps0, hostOps0_1, hostOps0_2, List.flatten, List.append]
  after_reads_at
  blk_ext [idx p, seq, pos]

theorem blk_g (p : Fin cfg0.N) : iblk m c 1 p = fun i : S1x1024.Idx => argG m c (ix1 (i 1)) := by
  funext i
  blk_simp [iblk]
  unfold_abbrev_sides
  simp only [hostOps0, hostOps0_1, hostOps0_2, List.flatten, List.append]
  after_reads_at
  blk_ext [idx p]

/-- the matrix, its columns as rows and rows of zeros below -/
theorem blk_w (p : Fin cfg0.N) : iblk m c 2 p = fun i : S2688x1024.Idx => padRow (fun k => argW m c (ix2 (i 1) k)) (i 0).val := by
  funext i
  blk_simp [iblk]
  unfold_abbrev_sides
  simp only [hostOps0, hostOps0_1, hostOps0_2, List.flatten, List.append]
  after_reads_at
  have e : (((View.whole main_v2).slice (win0_2.rect p)).emb i 0).val = (i 0).val := by
    show win0_2.index p (0 : Fin 2) * 2688 + 1 * (i 0).val = (i 0).val
    rw [(idx p).2.2.1]
    show 0 * 2688 + 1 * (i 0).val = (i 0).val
    omega
  unfold padRow
  by_cases hk : (i 0).val < 2568
  · rw [dif_pos hk, dif_pos (e ▸ hk)]
    show _ = m ((c : Thread nD τ).loc main_arg2) (ix2 (i 1) ⟨(i 0).val, hk⟩)
    blk_ext [idx p]
  · rw [dif_neg hk, dif_neg (fun h => hk (e ▸ h))]
    exact Cert.Grad.sitofp_zero _

/-- the projection on device `c` -/
abbrev proj : Fin 4 → Fin 2048 → Fin 2568 → EReal := projRow (argH m c) (argG m c) (argW m c)

/-- a point's product is the projection's rows, zeros past their end -/
theorem prod_blk (p : Fin cfg0.N) (r : Fin 512) (k : Fin 2688) :
    k0_pay1 (F := Ideal) (iblk m c 0 p) (iblk m c 1 p) (iblk m c 2 p) (ix2 r k) = padRow (proj m c (bOf p r) (sOf p r)) k.val := by
  rw [prod_at, blk_h, blk_g, blk_w]
  exact sum_padCol _ (fun l k => argW m c (ix2 l k)) k.val

variable (p : Fin cfg0.N) (r : Fin 512)

/-- window 3 holds its columns of the product -/
theorem point3 (k : Fin 512) : out0_3 (iblk m c 0 p) (iblk m c 1 p) (iblk m c 2 p) (ix2 r k) = padRow (proj m c (bOf p r) (sOf p r)) (0 + k.val) := by
  refine Eq.trans ?_ (prod_blk m c p r ⟨0 + k.val, by omega⟩)
  have e : out0_3 (iblk m c 0 p) (iblk m c 1 p) (iblk m c 2 p) = k0_pay2 (F := Ideal) (iblk m c 0 p) (iblk m c 1 p) (iblk m c 2 p) := by
    unfold out0_3
    frame_out
  rw [e]
  pointwise [k0_pay2]

/-- window 4 holds its columns of the product -/
theorem point4 (k : Fin 1536) : out0_4 (iblk m c 0 p) (iblk m c 1 p) (iblk m c 2 p) (ix2 r k) = padRow (proj m c (bOf p r) (sOf p r)) (512 + k.val) := by
  refine Eq.trans ?_ (prod_blk m c p r ⟨512 + k.val, by omega⟩)
  have e : out0_4 (iblk m c 0 p) (iblk m c 1 p) (iblk m c 2 p) = k0_pay3 (F := Ideal) (iblk m c 0 p) (iblk m c 1 p) (iblk m c 2 p) := by
    unfold out0_4
    frame_out
  rw [e]
  pointwise [k0_pay3]

/-- window 5 holds its columns of the product -/
theorem point5 (k : Fin 512) : out0_5 (iblk m c 0 p) (iblk m c 1 p) (iblk m c 2 p) (ix2 r k) = padRow (proj m c (bOf p r) (sOf p r)) (2048 + k.val) := by
  refine Eq.trans ?_ (prod_blk m c p r ⟨2048 + k.val, by omega⟩)
  have e : out0_5 (iblk m c 0 p) (iblk m c 1 p) (iblk m c 2 p) = k0_pay4 (F := Ideal) (iblk m c 0 p) (iblk m c 1 p) (iblk m c 2 p) := by
    unfold out0_5
    frame_out
  rw [e]
  pointwise [k0_pay4]

/-- window 6 holds its columns of the product -/
theorem point6 (k : Fin 128) : out0_6 (iblk m c 0 p) (iblk m c 1 p) (iblk m c 2 p) (ix2 r k) = padRow (proj m c (bOf p r) (sOf p r)) (2560 + k.val) := by
  refine Eq.trans ?_ (prod_blk m c p r ⟨2560 + k.val, by omega⟩)
  have e : out0_6 (iblk m c 0 p) (iblk m c 1 p) (iblk m c 2 p) = k0_pay5 (F := Ideal) (iblk m c 0 p) (iblk m c 1 p) (iblk m c 2 p) := by
    unfold out0_6
    frame_out
  rw [e]
  pointwise [k0_pay5]

/-- the projection's first columns -/
theorem final3 : (dats m 0 c).arrAt 3 cfg0.N = colsFrom 0 (proj m c) := by
  refine (dats m 0 c).arrAt_eq_of_covers 3 _ (by decide +kernel) fun p _ y => ?_
  blk_simp
  rw [after0_3]
  exact ((congrArg _ (eq_ix2 y)).trans (point3 m c p (y 0) (y 1))).trans
    (colsFrom_val 0 (proj m c) _ _ _ (row_lt rows p (y 0)) (by blk_ext [idx p]) (by blk_ext [idx p])).symm

/-- the projection's columns from 512 on -/
theorem final4 : (dats m 0 c).arrAt 4 cfg0.N = colsFrom 512 (proj m c) := by
  refine (dats m 0 c).arrAt_eq_of_covers 4 _ (by decide +kernel) fun p _ y => ?_
  blk_simp
  rw [after0_4]
  exact ((congrArg _ (eq_ix2 y)).trans (point4 m c p (y 0) (y 1))).trans
    (colsFrom_val 512 (proj m c) _ _ _ (row_lt rows p (y 0)) (by blk_ext [idx p]) (by blk_ext [idx p])).symm

/-- the projection's columns from 2048 on -/
theorem final5 : (dats m 0 c).arrAt 5 cfg0.N = colsFrom 2048 (proj m c) := by
  refine (dats m 0 c).arrAt_eq_of_covers 5 _ (by decide +kernel) fun p _ y => ?_
  blk_simp
  rw [after0_5]
  exact ((congrArg _ (eq_ix2 y)).trans (point5 m c p (y 0) (y 1))).trans
    (colsFrom_val 2048 (proj m c) _ _ _ (row_lt rows p (y 0)) (by blk_ext [idx p]) (by blk_ext [idx p])).symm

/-- the projection's last columns, zeros after them -/
theorem final6 : (dats m 0 c).arrAt 6 cfg0.N = colsFrom 2560 (proj m c) := by
  refine (dats m 0 c).arrAt_eq_of_covers 6 _ (by decide +kernel) fun p _ y => ?_
  blk_simp
  rw [after0_6]
  exact ((congrArg _ (eq_ix2 y)).trans (point6 m c p (y 0) (y 1))).trans
    (colsFrom_val 2560 (proj m c) _ _ _ (row_lt rows p (y 0)) (by blk_ext [idx p]) (by blk_ext [idx p])).symm

end Cert.InAbFwdIdeal.Value

namespace Cert.InAbFwdRefIdeal.Value
open Cert.InAbFwdRefIdeal Cert.InAbFwdRefIdeal.Gen Cert.InAbFwdRefIdeal.Read Cert.Grad

variable (h : S4x2048x1024.Idx → EReal) (g : S1024.Idx → EReal) (w : S1024x2568.Idx → EReal)

theorem v7_eq : val_main_v7 (F := Ideal) h = fun i => rs (rowAt h (i 0) (i 1)) := by
  funext i
  idx_vars i
  pointwise [val_main_v7, val_main_v6, val_main_v5, val_main_v4, val_main_v3, val_main_v2, val_main_v1, val_main_v0, val_main_cst, val_main_cst_0, val_main_cst_1]
  simp only [word_1024, word_eps]
  rfl

/-- the projection -/
theorem v13_eq : val_main_v13 (F := Ideal) h g w = fun i => projRow h g w (i 0) (i 1) (i 2) := by
  funext i
  idx_vars i
  pointwise [val_main_v13, val_main_v12, val_main_v11, val_main_v10, val_main_v9, val_main_v8, v7_eq]
  rfl

/-- its rows, one after another -/
theorem v14_at (R : Fin 8192) (k : Fin 2568) : val_main_v14 (F := Ideal) h g w (ix2 R k) = projRow h g w (seq R.val R.isLt) (pos R.val) k := by
  pointwise [val_main_v14, v13_eq]
  rfl

theorem v15_eq : val_main_v15 (F := Ideal) h g w = colsFrom 0 (projRow h g w) := by
  funext i
  idx_vars i
  have hk := i1.isLt
  refine Eq.trans ?_ (dif_pos (show 0 + i1.val < 2568 by omega)).symm
  refine Eq.trans ?_ (v14_at h g w i0 _)
  pointwise [val_main_v15]

theorem v16_eq : val_main_v16 (F := Ideal) h g w = colsFrom 512 (projRow h g w) := by
  funext i
  idx_vars i
  have hk := i1.isLt
  refine Eq.trans ?_ (dif_pos (show 512 + i1.val < 2568 by omega)).symm
  refine Eq.trans ?_ (v14_at h g w i0 _)
  pointwise [val_main_v16]

theorem v17_eq : val_main_v17 (F := Ideal) h g w = colsFrom 2048 (projRow h g w) := by
  funext i
  idx_vars i
  have hk := i1.isLt
  refine Eq.trans ?_ (dif_pos (show 2048 + i1.val < 2568 by omega)).symm
  refine Eq.trans ?_ (v14_at h g w i0 _)
  pointwise [val_main_v17]

theorem v19_eq : val_main_v19 (F := Ideal) h g w = colsFrom 2560 (projRow h g w) := by
  funext i
  idx_vars i
  show _ = padRow (projRow h g w (seq i0.val i0.isLt) (pos i0.val)) (2560 + i1.val)
  unfold padRow
  pointwise [val_main_v19, val_main_v18, v14_at, val_main_call0_v0, val_main_c]
  by_cases hk : i1.val < 8
  · rw [dif_pos hk, dif_pos (show 2560 + i1.val < 2568 by omega)]
  · rw [dif_neg hk, dif_neg (show ¬2560 + i1.val < 2568 by omega)]
    exact sitofp_zero _

end Cert.InAbFwdRefIdeal.Value

namespace Cert.Proof
open Cert.InAbFwdIdeal.Value Cert.InAbFwdRefIdeal.Value Cert.Grad

/-- the two programs of the even layers' input projection compute the same arrays -/
theorem in_ab_fwd : Cert.algebraic_InAbFwdIdeal_InAbFwdRefIdeal := by
  intro m ρ m' ρ' _ ha
  refine ⟨fun c => (Cert.InAbFwdIdeal.Gen.dats m 0 c).arrAt 3 Cert.InAbFwdIdeal.cfg0.N, fun c => (Cert.InAbFwdIdeal.Gen.dats m 0 c).arrAt 4 Cert.InAbFwdIdeal.cfg0.N,
    fun c => (Cert.InAbFwdIdeal.Gen.dats m 0 c).arrAt 5 Cert.InAbFwdIdeal.cfg0.N, fun c => (Cert.InAbFwdIdeal.Gen.dats m 0 c).arrAt 6 Cert.InAbFwdIdeal.cfg0.N,
    Cert.InAbFwdIdeal.Value.run_blocks m ρ, ?_⟩
  refine (θ_run _ _ _).mono (fun r hr c => ?_) (Cert.InAbFwdRefIdeal.Value.run m' ρ')
  obtain ⟨r0, r1, r2, r3, k⟩ := hr c
  obtain ⟨a0, a1, a2⟩ := ha c
  refine ⟨r0.trans ((Cert.InAbFwdRefIdeal.Read.val_main_v15_eq _ _ _).trans ?_), r1.trans ((Cert.InAbFwdRefIdeal.Read.val_main_v16_eq _ _ _).trans ?_),
    r2.trans ((Cert.InAbFwdRefIdeal.Read.val_main_v17_eq _ _ _).trans ?_), r3.trans ((Cert.InAbFwdRefIdeal.Read.val_main_v19_eq _ _ _).trans ?_), k⟩ <;> rw [a0, a1, a2]
  · exact (v15_eq _ _ _).trans (final3 m c).symm
  · exact (v16_eq _ _ _).trans (final4 m c).symm
  · exact (v17_eq _ _ _).trans (final5 m c).symm
  · exact (v19_eq _ _ _).trans (final6 m c).symm

end Cert.Proof
-- ==== Proof.InCdFwd.lean ====
module

public import proofs.«01_k».proof.Proof.InProjFwd
public import proofs.«01_k».proof.Proof.LeadSum
public import proofs.«01_k».proof.Proof.Gen.InCdFwdIdeal.Value
public import proofs.«01_k».proof.Proof.Gen.InCdFwdRefIdeal.Read
public import proofs.«01_k».proof.Defs
public import Idealize.ShloMosaic.Lib.StableHlo.ReadAt

/-! # The input projection of the odd layers -/

@[expose] public section

noncomputable section

open Idealize.ShloMosaic Idealize.ShloMosaic.TcCoe Idealize.SL.Sem

namespace Cert.InCdFwdIdeal.Value
open Cert.InCdFwdIdeal Cert.InCdFwdIdeal.Gen Cert.Grad

/-- column `k` of the matrix, its columns as rows in eight blocks of 320 -/
def colAt (w : Vec Ideal S8x320x1024 .bf16) (k : Fin 2560) (l : Fin 1024) : EReal := w (ix3 ⟨k.val / 320, by omega⟩ ⟨k.val % 320, by omega⟩ l)

/-- the block's product of the normalised rows and the matrix -/
theorem prod_at (h : Vec Ideal S512x1024 .f32) (g : Vec Ideal S1x1024 .f32) (w : Vec Ideal S8x320x1024 .bf16) (r : Fin 512) (k : Fin 2560) :
    k0_pay1 (F := Ideal) h g w (ix2 r k) = ∑ l : Fin 1024, h (ix2 r l) * rs (fun k => h (ix2 r k)) * g (ix2 0 l) * colAt w k l := by
  pointwise [k0_pay1]
  simp only [word_1024, word_eps]
  rfl

/-- every window's block index at every point -/
theorem idx : ∀ t : Fin cfg0.N, win0_0.index t = ![t.val, 0] ∧ win0_1.index t = ![0, 0] ∧ win0_2.index t = ![0, 0, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- sixteen points of 512 rows -/
theorem rows : cfg0.N * 512 = 8192 := by rw [show cfg0.N = 16 from N_0]

variable (m : (ℓ : Loc nD τ sig) → Buf (Elt Ideal) ℓ) (c : Dev nD)

/-- the hidden state, the gain and the matrix on device `c` -/
abbrev argH : S4x2048x1024.Idx → EReal := m ((c : Thread nD τ).loc main_arg0)
abbrev argG : S1024.Idx → EReal := m ((c : Thread nD τ).loc main_arg1)
abbrev argW : S1024x2560.Idx → EReal := m ((c : Thread nD τ).loc main_arg2)

/-- the sequence of row `r` of point `p` and the row's place there -/
abbrev bOf (p : Fin cfg0.N) (r : Fin 512) : Fin 4 := seq (p.val * 512 + r.val) (row_lt rows p r)
abbrev sOf (p : Fin cfg0.N) (r : Fin 512) : Fin 2048 := pos (p.val * 512 + r.val)

theorem blk_h (p : Fin cfg0.N) : iblk m c 0 p = fun i : S512x1024.Idx => rowAt (argH m c) (bOf p (i 0)) (sOf p (i 0)) (i 1) := by
  funext i
  blk_simp [iblk]
  unfold_abbrev_sides
  simp only [hostOps0, List.flatten_singleton]
  after_reads_at
  blk_ext [idx p, seq, pos]

theorem blk_g (p : Fin cfg0.N) : iblk m c 1 p = fun i : S1x1024.Idx => argG m c (ix1 (i 1)) := by
  funext i
  blk_simp [iblk]
  unfold_abbrev_sides
  simp only [hostOps0, List.flatten_singleton]
  after_reads_at
  blk_ext [idx p]

/-- column `k` of the matrix, its columns as rows in eight blocks -/
theorem col_w (p : Fin cfg0.N) (k : Fin 2560) (l : Fin 1024) : colAt (iblk m c 2 p) k l = argW m c (ix2 l k) := by
  have e : iblk m c 2 p = fun i : S8x320x1024.Idx => argW m c (ix2 (i 2) ⟨(i 0).val * 320 + (i 1).val, by
      have h0 : (i 0).val < 8 := (i 0).isLt
      have h1 : (i 1).val < 320 := (i 1).isLt
      omega⟩) := by
    funext i
    blk_simp [iblk]
    unfold_abbrev_sides
    simp only [hostOps0, List.flatten_singleton]
    after_reads_at
    have h0 : (i 0).val < 8 := (i 0).isLt
    have h1 : (i 1).val < 320 := (i 1).isLt
    show _ = m ((c : Thread nD τ).loc main_arg2) (ix2 (i 2) ⟨(i 0).val * 320 + (i 1).val, by omega⟩)
    blk_ext [idx p]
  rw [e]
  exact congrArg (argW m c) (congrArg (ix2 l) (Fin.ext (by show k.val / 320 * 320 + k.val % 320 = k.val; omega)))

/-- the projection on device `c` -/
abbrev proj : Fin 4 → Fin 2048 → Fin 2560 → EReal := projRow (argH m c) (argG m c) (argW m c)

/-- a point's product is the projection's rows -/
theorem prod_blk (p : Fin cfg0.N) (r : Fin 512) (k : Fin 2560) :
    k0_pay1 (F := Ideal) (iblk m c 0 p) (iblk m c 1 p) (iblk m c 2 p) (ix2 r k) = padRow (proj m c (bOf p r) (sOf p r)) k.val := by
  rw [prod_at, blk_h, blk_g]
  unfold padRow
  rw [dif_pos k.isLt]
  refine Finset.sum_congr rfl fun l _ => ?_
  rw [col_w]
  rfl

variable (p : Fin cfg0.N) (r : Fin 512)

/-- window 3 holds its columns of the product -/
theorem point3 (k : Fin 512) : out0_3 (iblk m c 0 p) (iblk m c 1 p) (iblk m c 2 p) (ix2 r k) = padRow (proj m c (bOf p r) (sOf p r)) (0 + k.val) := by
  refine Eq.trans ?_ (prod_blk m c p r ⟨0 + k.val, by omega⟩)
  have e : out0_3 (iblk m c 0 p) (iblk m c 1 p) (iblk m c 2 p) = k0_pay2 (F := Ideal) (iblk m c 0 p) (iblk m c 1 p) (iblk m c 2 p) := by
    unfold out0_3
    frame_out
  rw [e]
  pointwise [k0_pay2]

/-- window 4 holds its columns of the product -/
theorem point4 (k : Fin 512) : out0_4 (iblk m c 0 p) (iblk m c 1 p) (iblk m c 2 p) (ix2 r k) = padRow (proj m c (bOf p r) (sOf p r)) (512 + k.val) := by
  refine Eq.trans ?_ (prod_blk m c p r ⟨512 + k.val, by omega⟩)
  have e : out0_4 (iblk m c 0 p) (iblk m c 1 p) (iblk m c 2 p) = k0_pay3 (F := Ideal) (iblk m c 0 p) (iblk m c 1 p) (iblk m c 2 p) := by
    unfold out0_4
    frame_out
  rw [e]
  pointwise [k0_pay3]

/-- window 5 holds its columns of the product -/
theorem point5 (k : Fin 512) : out0_5 (iblk m c 0 p) (iblk m c 1 p) (iblk m c 2 p) (ix2 r k) = padRow (proj m c (bOf p r) (sOf p r)) (1024 + k.val) := by
  refine Eq.trans ?_ (prod_blk m c p r ⟨1024 + k.val, by omega⟩)
  have e : out0_5 (iblk m c 0 p) (iblk m c 1 p) (iblk m c 2 p) = k0_pay4 (F := Ideal) (iblk m c 0 p) (iblk m c 1 p) (iblk m c 2 p) := by
    unfold out0_5
    frame_out
  rw [e]
  pointwise [k0_pay4]

/-- window 6 holds its columns of the product -/
theorem point6 (k : Fin 512) : out0_6 (iblk m c 0 p) (iblk m c 1 p) (iblk m c 2 p) (ix2 r k) = padRow (proj m c (bOf p r) (sOf p r)) (1536 + k.val) := by
  refine Eq.trans ?_ (prod_blk m c p r ⟨1536 + k.val, by omega⟩)
  have e : out0_6 (iblk m c 0 p) (iblk m c 1 p) (iblk m c 2 p) = k0_pay5 (F := Ideal) (iblk m c 0 p) (iblk m c 1 p) (iblk m c 2 p) := by
    unfold out0_6
    frame_out
  rw [e]
  pointwise [k0_pay5]

/-- window 7 holds its columns of the product -/
theorem point7 (k : Fin 512) : out0_7 (iblk m c 0 p) (iblk m c 1 p) (iblk m c 2 p) (ix2 r k) = padRow (proj m c (bOf p r) (sOf p r)) (2048 + k.val) := by
  refine Eq.trans ?_ (prod_blk m c p r ⟨2048 + k.val, by omega⟩)
  have e : out0_7 (iblk m c 0 p) (iblk m c 1 p) (iblk m c 2 p) = k0_pay6 (F := Ideal) (iblk m c 0 p) (iblk m c 1 p) (iblk m c 2 p) := by
    unfold out0_7
    frame_out
  rw [e]
  pointwise [k0_pay6]

/-- the projection's columns from 0 on -/
theorem final3 : (dats m 0 c).arrAt 3 cfg0.N = colsFrom 0 (proj m c) := by
  refine (dats m 0 c).arrAt_eq_of_covers 3 _ (by decide +kernel) fun p _ y => ?_
  blk_simp
  rw [after0_3]
  exact ((congrArg _ (eq_ix2 y)).trans (point3 m c p (y 0) (y 1))).trans
    (colsFrom_val 0 (proj m c) _ _ _ (row_lt rows p (y 0)) (by blk_ext [idx p]) (by blk_ext [idx p])).symm

/-- the projection's columns from 512 on -/
theorem final4 : (dats m 0 c).arrAt 4 cfg0.N = colsFrom 512 (proj m c) := by
  refine (dats m 0 c).arrAt_eq_of_covers 4 _ (by decide +kernel) fun p _ y => ?_
  blk_simp
  rw [after0_4]
  exact ((congrArg _ (eq_ix2 y)).trans (point4 m c p (y 0) (y 1))).trans
    (colsFrom_val 512 (proj m c) _ _ _ (row_lt rows p (y 0)) (by blk_ext [idx p]) (by blk_ext [idx p])).symm

/-- the projection's columns from 1024 on -/
theorem final5 : (dats m 0 c).arrAt 5 cfg0.N = colsFrom 1024 (proj m c) := by
  refine (dats m 0 c).arrAt_eq_of_covers 5 _ (by decide +kernel) fun p _ y => ?_
  blk_simp
  rw [after0_5]
  exact ((congrArg _ (eq_ix2 y)).trans (point5 m c p (y 0) (y 1))).trans
    (colsFrom_val 1024 (proj m c) _ _ _ (row_lt rows p (y 0)) (by blk_ext [idx p]) (by blk_ext [idx p])).symm

/-- the projection's columns from 1536 on -/
theorem final6 : (dats m 0 c).arrAt 6 cfg0.N = colsFrom 1536 (proj m c) := by
  refine (dats m 0 c).arrAt_eq_of_covers 6 _ (by decide +kernel) fun p _ y => ?_
  blk_simp
  rw [after0_6]
  exact ((congrArg _ (eq_ix2 y)).trans (point6 m c p (y 0) (y 1))).trans
    (colsFrom_val 1536 (proj m c) _ _ _ (row_lt rows p (y 0)) (by blk_ext [idx p]) (by blk_ext [idx p])).symm

/-- the projection's columns from 2048 on -/
theorem final7 : (dats m 0 c).arrAt 7 cfg0.N = colsFrom 2048 (proj m c) := by
  refine (dats m 0 c).arrAt_eq_of_covers 7 _ (by decide +kernel) fun p _ y => ?_
  blk_simp
  rw [after0_7]
  exact ((congrArg _ (eq_ix2 y)).trans (point7 m c p (y 0) (y 1))).trans
    (colsFrom_val 2048 (proj m c) _ _ _ (row_lt rows p (y 0)) (by blk_ext [idx p]) (by blk_ext [idx p])).symm

end Cert.InCdFwdIdeal.Value

namespace Cert.InCdFwdRefIdeal.Value
open Cert.InCdFwdRefIdeal Cert.InCdFwdRefIdeal.Gen Cert.InCdFwdRefIdeal.Read Cert.Grad

variable (h : S4x2048x1024.Idx → EReal) (g : S1024.Idx → EReal) (w : S1024x2560.Idx → EReal)

theorem v7_eq : val_main_v7 (F := Ideal) h = fun i => rs (rowAt h (i 0) (i 1)) := by
  funext i
  idx_vars i
  pointwise [val_main_v7, val_main_v6, val_main_v5, val_main_v4, val_main_v3, val_main_v2, val_main_v1, val_main_v0, val_main_cst, val_main_cst_0, val_main_cst_1]
  simp only [word_1024, word_eps]
  rfl

/-- the projection -/
theorem v13_eq : val_main_v13 (F := Ideal) h g w = fun i => projRow h g w (i 0) (i 1) (i 2) := by
  funext i
  idx_vars i
  pointwise [val_main_v13, val_main_v12, val_main_v11, val_main_v10, val_main_v9, val_main_v8, v7_eq]
  rfl

/-- its rows, one after another -/
theorem v14_at (R : Fin 8192) (k : Fin 2560) : val_main_v14 (F := Ideal) h g w (ix2 R k) = projRow h g w (seq R.val R.isLt) (pos R.val) k := by
  pointwise [val_main_v14, v13_eq]
  rfl

theorem v15_eq : val_main_v15 (F := Ideal) h g w = colsFrom 0 (projRow h g w) := by
  funext i
  idx_vars i
  have hk := i1.isLt
  refine Eq.trans ?_ (dif_pos (show 0 + i1.val < 2560 by omega)).symm
  refine Eq.trans ?_ (v14_at h g w i0 _)
  pointwise [val_main_v15]

theorem v16_eq : val_main_v16 (F := Ideal) h g w = colsFrom 512 (projRow h g w) := by
  funext i
  idx_vars i
  have hk := i1.isLt
  refine Eq.trans ?_ (dif_pos (show 512 + i1.val < 2560 by omega)).symm
  refine Eq.trans ?_ (v14_at h g w i0 _)
  pointwise [val_main_v16]

theorem v17_eq : val_main_v17 (F := Ideal) h g w = colsFrom 1024 (projRow h g w) := by
  funext i
  idx_vars i
  have hk := i1.isLt
  refine Eq.trans ?_ (dif_pos (show 1024 + i1.val < 2560 by omega)).symm
  refine Eq.trans ?_ (v14_at h g w i0 _)
  pointwise [val_main_v17]

theorem v18_eq : val_main_v18 (F := Ideal) h g w = colsFrom 1536 (projRow h g w) := by
  funext i
  idx_vars i
  have hk := i1.isLt
  refine Eq.trans ?_ (dif_pos (show 1536 + i1.val < 2560 by omega)).symm
  refine Eq.trans ?_ (v14_at h g w i0 _)
  pointwise [val_main_v18]

theorem v19_eq : val_main_v19 (F := Ideal) h g w = colsFrom 2048 (projRow h g w) := by
  funext i
  idx_vars i
  have hk := i1.isLt
  refine Eq.trans ?_ (dif_pos (show 2048 + i1.val < 2560 by omega)).symm
  refine Eq.trans ?_ (v14_at h g w i0 _)
  pointwise [val_main_v19]

end Cert.InCdFwdRefIdeal.Value

namespace Cert.Proof
open Cert.InCdFwdIdeal.Value Cert.InCdFwdRefIdeal.Value Cert.Grad

/-- the two programs of the odd layers' input projection compute the same arrays -/
theorem in_cd_fwd : Cert.algebraic_InCdFwdIdeal_InCdFwdRefIdeal := by
  intro m ρ m' ρ' _ ha
  refine ⟨fun c => (Cert.InCdFwdIdeal.Gen.dats m 0 c).arrAt 3 Cert.InCdFwdIdeal.cfg0.N,
    fun c => (Cert.InCdFwdIdeal.Gen.dats m 0 c).arrAt 4 Cert.InCdFwdIdeal.cfg0.N,
    fun c => (Cert.InCdFwdIdeal.Gen.dats m 0 c).arrAt 5 Cert.InCdFwdIdeal.cfg0.N,
    fun c => (Cert.InCdFwdIdeal.Gen.dats m 0 c).arrAt 6 Cert.InCdFwdIdeal.cfg0.N,
    fun c => (Cert.InCdFwdIdeal.Gen.dats m 0 c).arrAt 7 Cert.InCdFwdIdeal.cfg0.N,
    Cert.InCdFwdIdeal.Value.run_blocks m ρ, ?_⟩
  refine (θ_run _ _ _).mono (fun r hr c => ?_) (Cert.InCdFwdRefIdeal.Value.run m' ρ')
  obtain ⟨r0, r1, r2, r3, r4, k⟩ := hr c
  obtain ⟨a0, a1, a2⟩ := ha c
  refine ⟨r0.trans ((Cert.InCdFwdRefIdeal.Read.val_main_v15_eq _ _ _).trans ?_),
    r1.trans ((Cert.InCdFwdRefIdeal.Read.val_main_v16_eq _ _ _).trans ?_),
    r2.trans ((Cert.InCdFwdRefIdeal.Read.val_main_v17_eq _ _ _).trans ?_),
    r3.trans ((Cert.InCdFwdRefIdeal.Read.val_main_v18_eq _ _ _).trans ?_),
    r4.trans ((Cert.InCdFwdRefIdeal.Read.val_main_v19_eq _ _ _).trans ?_), k⟩ <;> rw [a0, a1, a2]
  · exact (v15_eq _ _ _).trans (final3 m c).symm
  · exact (v16_eq _ _ _).trans (final4 m c).symm
  · exact (v17_eq _ _ _).trans (final5 m c).symm
  · exact (v18_eq _ _ _).trans (final6 m c).symm
  · exact (v19_eq _ _ _).trans (final7 m c).symm

end Cert.Proof
-- ==== Proof.OutFwd.lean ====
module

public import proofs.«01_k».proof.Proof.Rows
public import proofs.«01_k».proof.Proof.LeadSum
public import proofs.«01_k».proof.Proof.Gen.OutFwdIdeal.Value
public import proofs.«01_k».proof.Proof.Gen.OutFwdRefIdeal.Read
public import proofs.«01_k».proof.Defs
public import Idealize.ShloMosaic.Lib.StableHlo.ReadAt

/-! # The output projection -/

@[expose] public section

noncomputable section

open Idealize.ShloMosaic Idealize.ShloMosaic.TcCoe Idealize.SL.Sem

namespace Cert.Grad

/-- a row of the output projection: the state's row and the products of both halves with the upper and the lower rows of the matrix -/
def outRow (h : Fin 1024 → EReal) (ya yb : Fin 512 → EReal) (w : Fin 1024 → Fin 1024 → EReal) (l : Fin 1024) : EReal :=
  h l + (∑ x : Fin 512, ya x * w ⟨x.val, by omega⟩ l + ∑ x : Fin 512, yb x * w ⟨512 + x.val, by omega⟩ l)

/-- the output projection, its rows one after another -/
def outRows (h : (⟨3, ![4, 2048, 1024]⟩ : Shape).Idx → EReal) (ya yb : (⟨3, ![4, 2048, 512]⟩ : Shape).Idx → EReal)
    (w : (⟨2, ![1024, 1024]⟩ : Shape).Idx → EReal) (i : (⟨2, ![8192, 1024]⟩ : Shape).Idx) : EReal :=
  outRow (rowAt h (seq (i 0).val (i 0).isLt) (pos (i 0).val)) (rowAt ya (seq (i 0).val (i 0).isLt) (pos (i 0).val))
    (rowAt yb (seq (i 0).val (i 0).isLt) (pos (i 0).val)) (fun k l => w (ix2 k l)) (i 1)

end Cert.Grad

namespace Cert.OutFwdIdeal.Value
open Cert.OutFwdIdeal Cert.OutFwdIdeal.Gen Cert.Grad

/-- row `k` of the matrix, its rows in eight blocks of 128 -/
def rowOf (w : Vec Ideal S8x128x1024 .bf16) (k l : Fin 1024) : EReal := w (ix3 ⟨k.val / 128, by omega⟩ ⟨k.val % 128, by omega⟩ l)

/-- a block's rows after the projection -/
theorem out_at (ya yb : Vec Ideal S512x512 .bf16) (h : Vec Ideal S512x1024 .f32) (w : Vec Ideal S8x128x1024 .bf16) (r : Fin 512) (l : Fin 1024) :
    k0_pay1 (F := Ideal) ya yb h w (ix2 r l)
      = outRow (fun k => h (ix2 r k)) (fun j => ya (ix2 r j)) (fun j => yb (ix2 r j)) (rowOf w) l := by
  pointwise [k0_pay1]
  rfl

/-- every window's block index at every point -/
theorem idx : ∀ t : Fin cfg0.N, win0_0.index t = ![t.val, 0] ∧ win0_1.index t = ![t.val, 0] ∧ win0_2.index t = ![t.val, 0]
    ∧ win0_3.index t = ![0, 0, 0] ∧ win0_4.index t = ![t.val, 0] :=
  (by decide +kernel : ∀ t : Fin grid0.N, _)

/-- sixteen points of 512 rows -/
theorem rows : cfg0.N * 512 = 8192 := by rw [show cfg0.N = 16 from N_0]

variable (m : (ℓ : Loc nD τ sig) → Buf (Elt Ideal) ℓ) (c : Dev nD)

/-- the hidden state, both halves and the matrix on device `c` -/
abbrev argH : S4x2048x1024.Idx → EReal := m ((c : Thread nD τ).loc main_arg0)
abbrev argA : S4x2048x512.Idx → EReal := m ((c : Thread nD τ).loc main_arg1)
abbrev argB : S4x2048x512.Idx → EReal := m ((c : Thread nD τ).loc main_arg2)
abbrev argW : S1024x1024.Idx → EReal := m ((c : Thread nD τ).loc main_arg3)

/-- the sequence of row `r` of point `p` and the row's place there -/
abbrev bOf (p : Fin cfg0.N) (r : Fin 512) : Fin 4 := seq (p.val * 512 + r.val) (row_lt rows p r)
abbrev sOf (p : Fin cfg0.N) (r : Fin 512) : Fin 2048 := pos (p.val * 512 + r.val)

theorem blk_h (p : Fin cfg0.N) : iblk m c 0 p = fun i : S512x1024.Idx => rowAt (argH m c) (bOf p (i 0)) (sOf p (i 0)) (i 1) := by
  funext i
  blk_simp [iblk]
  unfold_abbrev_sides
  simp only [hostOps0, List.flatten_singleton]
  after_reads_at
  blk_ext [idx p, seq, pos]

theorem blk_ya (p : Fin cfg0.N) : iblk m c 1 p = fun i : S512x512.Idx => rowAt (argA m c) (bOf p (i 0)) (sOf p (i 0)) (i 1) := by
  funext i
  blk_simp [iblk]
  unfold_abbrev_sides
  simp only [hostOps0, List.flatten_singleton]
  after_reads_at
  blk_ext [idx p, seq, pos]

theorem blk_yb (p : Fin cfg0.N) : iblk m c 2 p = fun i : S512x512.Idx => rowAt (argB m c) (bOf p (i 0)) (sOf p (i 0)) (i 1) := by
  funext i
  blk_simp [iblk]
  unfold_abbrev_sides
  simp only [hostOps0, List.flatten_singleton]
  after_reads_at
  blk_ext [idx p, seq, pos]

/-- row `k` of the matrix as the block holds it -/
theorem row_w (p : Fin cfg0.N) : rowOf (iblk m c 3 p) = fun k l => argW m c (ix2 k l) := by
  have e : iblk m c 3 p = fun i : S8x128x1024.Idx => argW m c (ix2 ⟨(i 0).val * 128 + (i 1).val, by
      have h0 : (i 0).val < 8 := (i 0).isLt
      have h1 : (i 1).val < 128 := (i 1).isLt
      omega⟩ (i 2)) := by
    funext i
    blk_simp [iblk]
    unfold_abbrev_sides
    simp only [hostOps0, List.flatten_singleton]
    after_reads_at
    have h0 : (i 0).val < 8 := (i 0).isLt
    have h1 : (i 1).val < 128 := (i 1).isLt
    show _ = m ((c : Thread nD τ).loc main_arg3) (ix2 ⟨(i 0).val * 128 + (i 1).val, by omega⟩ (i 2))
    blk_ext [idx p]
  rw [e]
  funext k l
  exact congrArg (argW m c) (congrArg (fun k => ix2 k l) (Fin.ext (by show k.val / 128 * 128 + k.val % 128 = k.val; omega)))

/-- the output window at a point -/
theorem point4 (p : Fin cfg0.N) (r : Fin 512) (l : Fin 1024) : out0_4 (iblk m c 0 p) (iblk m c 1 p) (iblk m c 2 p) (iblk m c 3 p) (ix2 r l)
    = outRow (rowAt (argH m c) (bOf p r) (sOf p r)) (rowAt (argA m c) (bOf p r) (sOf p r)) (rowAt (argB m c) (bOf p r) (sOf p r))
        (fun k l => argW m c (ix2 k l)) l := by
  have e : out0_4 (iblk m c 0 p) (iblk m c 1 p) (iblk m c 2 p) (iblk m c 3 p)
      = k0_pay1 (F := Ideal) (iblk m c 1 p) (iblk m c 2 p) (iblk m c 0 p) (iblk m c 3 p) := by
    unfold out0_4
    frame_out
  rw [e, out_at, row_w, blk_h, blk_ya, blk_yb]
  rfl

/-- the array after the run -/
theorem final4 : (dats m 0 c).arrAt 4 cfg0.N = outRows (argH m c) (argA m c) (argB m c) (argW m c) := by
  refine (dats m 0 c).arrAt_eq_of_covers 4 _ (by decide +kernel) fun p _ y => ?_
  blk_simp
  rw [after0_4]
  refine ((congrArg _ (eq_ix2 y)).trans (point4 m c p (y 0) (y 1))).trans ?_
  exact congrArg (outRows (argH m c) (argA m c) (argB m c) (argW m c)) (show ix2 ⟨p.val * 512 + (y 0).val, row_lt rows p (y 0)⟩ (y 1) = _ by blk_ext [idx p])

end Cert.OutFwdIdeal.Value

namespace Cert.OutFwdRefIdeal.Value
open Cert.OutFwdRefIdeal Cert.OutFwdRefIdeal.Gen Cert.OutFwdRefIdeal.Read Cert.Grad

variable (h : S4x2048x1024.Idx → EReal) (ya yb : S4x2048x512.Idx → EReal) (w : S1024x1024.Idx → EReal)

theorem v2_eq : val_main_v2 (F := Ideal) h ya yb w
    = fun i => outRow (rowAt h (i 0) (i 1)) (rowAt ya (i 0) (i 1)) (rowAt yb (i 0) (i 1)) (fun k l => w (ix2 k l)) (i 2) := by
  funext i
  idx_vars i
  pointwise [val_main_v2, val_main_v1, val_main_v0]
  rfl

theorem v3_eq : val_main_v3 (F := Ideal) h ya yb w = outRows h ya yb w := by
  funext i
  idx_vars i
  pointwise [val_main_v3, v2_eq]
  rfl

/-- the two programs of the output projection compute the same array -/
theorem _root_.Cert.Proof.out_fwd : Cert.algebraic_OutFwdIdeal_OutFwdRefIdeal := by
  intro m ρ m' ρ' _ ha
  refine ⟨_, Cert.OutFwdIdeal.Value.run_blocks m ρ, ?_⟩
  refine (θ_run _ _ _).mono (fun r hr c => ?_) (run m' ρ')
  obtain ⟨r0, k⟩ := hr c
  obtain ⟨a0, a1, a2, a3⟩ := ha c
  refine ⟨r0.trans ((val_main_v3_eq _ _ _ _).trans ?_), k⟩
  rw [a0, a1, a2, a3]
  exact (v3_eq _ _ _ _).trans (Cert.OutFwdIdeal.Value.final4 m c).symm

end Cert.OutFwdRefIdeal.Value
-- ==== Proof.OutBwd.lean ====
module

public import proofs.«01_k».proof.Proof.Rows
public import proofs.«01_k».proof.Proof.Gen.OutBwdIdeal.Value
public import proofs.«01_k».proof.Proof.Gen.OutBwdRefIdeal.Read
public import proofs.«01_k».proof.Defs
public import Idealize.ShloMosaic.Lib.StableHlo.ReadAt

/-! # The gradients of the output projection -/

@[expose] public section

noncomputable section

open Idealize.ShloMosaic Idealize.ShloMosaic.TcCoe Idealize.SL.Sem

namespace Cert.Grad

/-- the gradient of a projected row's entry `k`: the cotangent's row times row `k` of the matrix -/
def outDy (w : (⟨2, ![1024, 1024]⟩ : Shape).Idx → EReal) (d : (⟨3, ![4, 2048, 1024]⟩ : Shape).Idx → EReal) (b : Fin 4) (s : Fin 2048) (k : Fin 1024) : EReal :=
  ∑ l : Fin 1024, rowAt d b s l * w (ix2 k l)

/-- its 512 entries from `o` on, the rows one after another -/
def outDyFrom (o : ℕ) (ho : o ≤ 512) (w : (⟨2, ![1024, 1024]⟩ : Shape).Idx → EReal) (d : (⟨3, ![4, 2048, 1024]⟩ : Shape).Idx → EReal)
    (i : (⟨2, ![8192, 512]⟩ : Shape).Idx) : EReal :=
  outDy w d (seq (i 0).val (i 0).isLt) (pos (i 0).val) ⟨o + (i 1).val, by have h1 : (i 1).val < 512 := (i 1).isLt; omega⟩

/-- two halves of a row side by side -/
def halves (a b : Fin 512 → EReal) (k : Fin 1024) : EReal := if h : k.val < 512 then a ⟨k.val, h⟩ else b ⟨k.val - 512, by omega⟩

/-- a row's part of the gradient of the matrix -/
def outDw (ya yb : (⟨3, ![4, 2048, 512]⟩ : Shape).Idx → EReal) (d : (⟨3, ![4, 2048, 1024]⟩ : Shape).Idx → EReal) (k l : Fin 1024) (b : Fin 4) (s : Fin 2048) : EReal :=
  halves (rowAt ya b s) (rowAt yb b s) k * rowAt d b s l

end Cert.Grad

namespace Cert.OutBwdIdeal.Value
open Cert.OutBwdIdeal Cert.OutBwdIdeal.Gen Cert.Grad

/-- row `k` of the matrix, its rows in eight blocks of 128 -/
def rowOf (w : Vec Ideal S8x128x1024 .bf16) (k l : Fin 1024) : EReal := w (ix3 ⟨k.val / 128, by omega⟩ ⟨k.val % 128, by omega⟩ l)

/-- the first half's gradient in a block -/
theorem da_at (d : Vec Ideal S512x1024 .f32) (w : Vec Ideal S8x128x1024 .bf16) (r k : Fin 512) :
    k0_pay3 (F := Ideal) d w (ix2 r k) = ∑ l : Fin 1024, d (ix2 r l) * rowOf w ⟨k.val, by omega⟩ l := by
  pointwise [k0_pay3, k0_pay2, k0_pay1]
  rfl

/-- the second half's gradient in a block -/
theorem db_at (d : Vec Ideal S512x1024 .f32) (w : Vec Ideal S8x128x1024 .bf16) (r k : Fin 512) :
    k0_pay4 (F := Ideal) d w (ix2 r k) = ∑ l : Fin 1024, d (ix2 r l) * rowOf w ⟨512 + k.val, by omega⟩ l := by
  pointwise [k0_pay4, k0_pay2, k0_pay1]
  rfl

/-- what a block adds to the matrix' gradient -/
theorem dw_at (d : Vec Ideal S512x1024 .f32) (ya yb : Vec Ideal S512x512 .bf16) (v : Vec Ideal S1024x1024 .f32) (k l : Fin 1024) :
    k0_pay6 (F := Ideal) d ya yb v (ix2 k l)
      = v (ix2 k l) + ∑ r : Fin 512, halves (fun j => ya (ix2 r j)) (fun j => yb (ix2 r j)) k * d (ix2 r l) := by
  pointwise [k0_pay6, k0_pay1]
  rfl

/-- every window's block index at every point -/
theorem idx : ∀ t : Fin cfg0.N, win0_0.index t = ![t.val, 0] ∧ win0_1.index t = ![t.val, 0] ∧ win0_2.index t = ![t.val, 0]
    ∧ win0_3.index t = ![0, 0, 0] ∧ win0_4.index t = ![t.val, 0] ∧ win0_5.index t = ![t.val, 0] ∧ win0_6.index t = ![0, 0] :=
  (by decide +kernel : ∀ t : Fin grid0.N, _)

/-- sixteen points of 512 rows -/
theorem rows : cfg0.N * 512 = 8192 := by rw [show cfg0.N = 16 from N_0]

variable (m : (ℓ : Loc nD τ sig) → Buf (Elt Ideal) ℓ) (c : Dev nD)

/-- both halves, the matrix and the cotangent on device `c` -/
abbrev argA : S4x2048x512.Idx → EReal := m ((c : Thread nD τ).loc main_arg0)
abbrev argB : S4x2048x512.Idx → EReal := m ((c : Thread nD τ).loc main_arg1)
abbrev argW : S1024x1024.Idx → EReal := m ((c : Thread nD τ).loc main_arg2)
abbrev argD : S4x2048x1024.Idx → EReal := m ((c : Thread nD τ).loc main_arg3)

/-- the sequence of row `r` of point `p` and the row's place there -/
abbrev bOf (p : Fin cfg0.N) (r : Fin 512) : Fin 4 := seq (p.val * 512 + r.val) (row_lt rows p r)
abbrev sOf (p : Fin cfg0.N) (r : Fin 512) : Fin 2048 := pos (p.val * 512 + r.val)

theorem blk_d (p : Fin cfg0.N) : iblk m c 0 p = fun i : S512x1024.Idx => rowAt (argD m c) (bOf p (i 0)) (sOf p (i 0)) (i 1) := by
  funext i
  blk_simp [iblk]
  unfold_abbrev_sides
  simp only [hostOps0, List.flatten_singleton]
  after_reads_at
  blk_ext [idx p, seq, pos]

theorem blk_ya (p : Fin cfg0.N) : iblk m c 1 p = fun i : S512x512.Idx => rowAt (argA m c) (bOf p (i 0)) (sOf p (i 0)) (i 1) := by
  funext i
  blk_simp [iblk]
  unfold_abbrev_sides
  simp only [hostOps0, List.flatten_singleton]
  after_reads_at
  blk_ext [idx p, seq, pos]

theorem blk_yb (p : Fin cfg0.N) : iblk m c 2 p = fun i : S512x512.Idx => rowAt (argB m c) (bOf p (i 0)) (sOf p (i 0)) (i 1) := by
  funext i
  blk_simp [iblk]
  unfold_abbrev_sides
  simp only [hostOps0, List.flatten_singleton]
  after_reads_at
  blk_ext [idx p, seq, pos]

/-- row `k` of the matrix as the block holds it -/
theorem row_w (p : Fin cfg0.N) : rowOf (iblk m c 3 p) = fun k l => argW m c (ix2 k l) := by
  have e : iblk m c 3 p = fun i : S8x128x1024.Idx => argW m c (ix2 ⟨(i 0).val * 128 + (i 1).val, by
      have h0 : (i 0).val < 8 := (i 0).isLt
      have h1 : (i 1).val < 128 := (i 1).isLt
      omega⟩ (i 2)) := by
    funext i
    blk_simp [iblk]
    unfold_abbrev_sides
    simp only [hostOps0, List.flatten_singleton]
    after_reads_at
    have h0 : (i 0).val < 8 := (i 0).isLt
    have h1 : (i 1).val < 128 := (i 1).isLt
    show _ = m ((c : Thread nD τ).loc main_arg2) (ix2 ⟨(i 0).val * 128 + (i 1).val, by omega⟩ (i 2))
    blk_ext [idx p]
  rw [e]
  funext k l
  exact congrArg (argW m c) (congrArg (fun k => ix2 k l) (Fin.ext (by show k.val / 128 * 128 + k.val % 128 = k.val; omega)))

theorem da_term (p : Fin cfg0.N) (r k : Fin 512) : k0_pay3 (F := Ideal) (iblk m c 0 p) (iblk m c 3 p) (ix2 r k)
    = outDy (argW m c) (argD m c) (bOf p r) (sOf p r) ⟨0 + k.val, by omega⟩ := by
  rw [da_at, row_w, blk_d]
  exact congrArg (outDy (argW m c) (argD m c) (bOf p r) (sOf p r)) (Fin.ext (Nat.zero_add _).symm)

theorem db_term (p : Fin cfg0.N) (r k : Fin 512) : k0_pay4 (F := Ideal) (iblk m c 0 p) (iblk m c 3 p) (ix2 r k)
    = outDy (argW m c) (argD m c) (bOf p r) (sOf p r) ⟨512 + k.val, by omega⟩ := by
  rw [db_at, row_w, blk_d]
  rfl

/-- the first result: the first half's gradient -/
theorem final_da : (dats m 0 c).arrAt 4 cfg0.N = outDyFrom 0 (by omega) (argW m c) (argD m c) := by
  refine (dats m 0 c).arrAt_eq_of_covers 4 _ (by decide +kernel) fun p _ y => ?_
  blk_simp
  rw [after0_4]
  have hc : (outsAt0 m c p.val p.isLt).1 = k0_pay3 (F := Ideal) (iblk m c 0 p) (iblk m c 3 p) := by
    by_cases h0 : p.val % 16 = 0
    · rw [outsAt0_A m c p h0 (by omega)]; frame_out
    · by_cases h2 : p.val % 16 = 15
      · rw [outsAt0_C m c p h0 h2]; frame_out
      · rw [outsAt0_B m c p h0 h2]; frame_out
  rw [hc]
  refine ((congrArg _ (eq_ix2 y)).trans (da_term m c p (y 0) (y 1))).trans
    (congrArg (outDyFrom 0 (by omega) (argW m c) (argD m c)) (a₁ := ix2 ⟨p.val * 512 + (y 0).val, row_lt rows p (y 0)⟩ (y 1)) ?_)
  blk_ext [idx p]

/-- the second result: the second half's gradient -/
theorem final_db : (dats m 0 c).arrAt 5 cfg0.N = outDyFrom 512 (by omega) (argW m c) (argD m c) := by
  refine (dats m 0 c).arrAt_eq_of_covers 5 _ (by decide +kernel) fun p _ y => ?_
  blk_simp
  rw [after0_5]
  have hc : (outsAt0 m c p.val p.isLt).2.1 = k0_pay4 (F := Ideal) (iblk m c 0 p) (iblk m c 3 p) := by
    by_cases h0 : p.val % 16 = 0
    · rw [outsAt0_A m c p h0 (by omega)]; frame_out
    · by_cases h2 : p.val % 16 = 15
      · rw [outsAt0_C m c p h0 h2]; frame_out
      · rw [outsAt0_B m c p h0 h2]; frame_out
  rw [hc]
  refine ((congrArg _ (eq_ix2 y)).trans (db_term m c p (y 0) (y 1))).trans
    (congrArg (outDyFrom 512 (by omega) (argW m c) (argD m c)) (a₁ := ix2 ⟨p.val * 512 + (y 0).val, row_lt rows p (y 0)⟩ (y 1)) ?_)
  blk_ext [idx p]

/-- what point `p` adds to the matrix' gradient -/
def dwPart (p : Fin cfg0.N) (k l : Fin 1024) : EReal := ∑ r : Fin 512, outDw (argA m c) (argB m c) (argD m c) k l (bOf p r) (sOf p r)

theorem dw_term (p : Fin cfg0.N) (v : Vec Ideal S1024x1024 .f32) (k l : Fin 1024) :
    k0_pay6 (F := Ideal) (iblk m c 0 p) (iblk m c 1 p) (iblk m c 2 p) v (ix2 k l) = v (ix2 k l) + dwPart m c p k l := by
  rw [dw_at, blk_d, blk_ya, blk_yb]
  rfl

/-- the third result: the matrix' gradient -/
theorem final_dw : (dats m 0 c).arrAt 6 cfg0.N
    = fun i : S1024x1024.Idx => ∑ b : Fin 4, ∑ s : Fin 2048, outDw (argA m c) (argB m c) (argD m c) (i 0) (i 1) b s := by
  refine (dats m 0 c).arrAt_eq_of_after_last 6 t0_15 (by decide +kernel) _ fun j => ?_
  blk_simp
  have hl : (outsAt0 m c t0_15.val t0_15.isLt).2.2.1 = k0_pay7 (F := Ideal) (outsAt0 m c t0_15.val t0_15.isLt).2.2.2 := by
    rw [outsAt0_C m c t0_15 (by decide) rfl]
    frame_out
  rw [after0_6, hl]
  show (outsAt0 m c t0_15.val t0_15.isLt).2.2.2 j = _
  rw [Pipeline.eq_sum_fin_of_reset_step_apply_last (fun n h => (outsAt0 m c n h).2.2.2) 16 (fun _ => 0)
    (fun p j => dwPart m c p (j 0) (j 1)) (fun p h0 j => ?_) (fun p h0 j => ?_) (le_of_eq N_0) t0_15 rfl j]
  · exact (zero_add _).trans (sum_rows 4 rows rfl (outDw (argA m c) (argB m c) (argD m c) (j 0) (j 1)))
  · rw [outsAt0_A m c p h0 (by omega)]
    frame_out
    idx_vars j
    refine (dw_term m c p _ j0 j1).trans ?_
    pointwise [k0_pay5]
  · by_cases h2 : p.val % 16 = 15
    · rw [outsAt0_C m c p h0 h2]
      frame_out
      idx_vars j
      exact (dw_term m c p _ j0 j1).trans (congrArg (· + _) (congrFun (Memref.IsWhole.read_unread _ _) _))
    · rw [outsAt0_B m c p h0 h2]
      frame_out
      idx_vars j
      exact (dw_term m c p _ j0 j1).trans (congrArg (· + _) (congrFun (Memref.IsWhole.read_unread _ _) _))

end Cert.OutBwdIdeal.Value

namespace Cert.OutBwdRefIdeal.Value
open Cert.OutBwdRefIdeal Cert.OutBwdRefIdeal.Gen Cert.OutBwdRefIdeal.Read Cert.Grad

variable (ya yb : S4x2048x512.Idx → EReal) (w : S1024x1024.Idx → EReal) (d : S4x2048x1024.Idx → EReal)

theorem v4_eq : val_main_v4 (F := Ideal) w d = fun i => outDy w d (i 0) (i 1) (i 2) := by
  funext i
  idx_vars i
  pointwise [val_main_v4]
  rfl

/-- the first half's gradient -/
theorem v7_eq : val_main_v7 (F := Ideal) w d = outDyFrom 0 (by omega) w d := by
  funext i
  idx_vars i
  pointwise [val_main_v7, val_main_v5, v4_eq]
  exact congrArg (outDy w d _ _) (Fin.ext (Nat.zero_add _).symm)

/-- the second half's gradient -/
theorem v8_eq : val_main_v8 (F := Ideal) w d = outDyFrom 512 (by omega) w d := by
  funext i
  idx_vars i
  pointwise [val_main_v8, val_main_v6, v4_eq]
  rfl

/-- the matrix' gradient -/
theorem v9_eq : val_main_v9 (F := Ideal) ya yb d = fun i => ∑ b : Fin 4, ∑ s : Fin 2048, outDw ya yb d (i 0) (i 1) b s := by
  funext i
  idx_vars i
  pointwise [val_main_v9, val_main_v3, val_main_v2, val_main_v0]
  exact Finset.sum_congr rfl fun b _ => Finset.sum_congr rfl fun s _ => mul_comm _ _

/-- the two programs of the output projection's gradients compute the same three arrays -/
theorem _root_.Cert.Proof.out_bwd : Cert.algebraic_OutBwdIdeal_OutBwdRefIdeal := by
  intro m ρ m' ρ' _ ha
  refine ⟨_, _, _, Cert.OutBwdIdeal.Value.run_blocks m ρ, ?_⟩
  refine (θ_run _ _ _).mono (fun r hr c => ?_) (run m' ρ')
  obtain ⟨r0, r1, r2, k⟩ := hr c
  obtain ⟨a0, a1, a2, a3⟩ := ha c
  refine ⟨r0.trans ((val_main_v7_eq _ _).trans ?_), r1.trans ((val_main_v8_eq _ _).trans ?_),
    r2.trans ((val_main_v9_eq _ _ _).trans ?_), k⟩
  · rw [a2, a3]
    exact (v7_eq _ _).trans (Cert.OutBwdIdeal.Value.final_da m c).symm
  · rw [a2, a3]
    exact (v8_eq _ _).trans (Cert.OutBwdIdeal.Value.final_db m c).symm
  · rw [a0, a1, a3]
    exact (v9_eq _ _ _).trans (Cert.OutBwdIdeal.Value.final_dw m c).symm

end Cert.OutBwdRefIdeal.Value
-- ==== Proof.Wgrad.lean ====
module

public import proofs.«01_k».proof.Proof.Rows
public import proofs.«01_k».proof.Proof.Gen.WgradIdeal.Value
public import proofs.«01_k».proof.Proof.Gen.WgradRefIdeal.Read
public import proofs.«01_k».proof.Defs
public import Idealize.ShloMosaic.Lib.StableHlo.ReadAt

/-! # A weight's gradient: the product of the activations' columns and the cotangent's rows -/

@[expose] public section

noncomputable section

open Idealize.ShloMosaic Idealize.ShloMosaic.TcCoe Idealize.SL.Sem

namespace Cert.Grad

/-- a sequence's part of the gradient at row `k`, column `l` of the weight -/
def seqDw (a : (⟨3, ![4, 2048, 2816]⟩ : Shape).Idx → EReal) (d : (⟨3, ![4, 2048, 1024]⟩ : Shape).Idx → EReal) (b : Fin 4) (k : Fin 2816) (l : Fin 1024) : EReal :=
  ∑ s : Fin 2048, rowAt a b s k * rowAt d b s l

end Cert.Grad

namespace Cert.WgradIdeal.Value
open Cert.WgradIdeal Cert.WgradIdeal.Gen Cert.Grad

/-- what a block adds -/
theorem dw_at (v : Vec Ideal S1408x1024 .f32) (a : Vec Ideal S2048x1408 .bf16) (d : Vec Ideal S2048x1024 .bf16) (k : Fin 1408) (l : Fin 1024) :
    k0_pay2 (F := Ideal) v a d (ix2 k l) = v (ix2 k l) + ∑ s : Fin 2048, a (ix2 s k) * d (ix2 s l) := by
  pointwise [k0_pay2]

/-- every window's block index at every point: a sequence, and one of two halves of the weight's rows -/
theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

variable (m : (ℓ : Loc nD τ sig) → Buf (Elt Ideal) ℓ) (c : Dev nD)

/-- the activations and the cotangent on device `c` -/
abbrev argA : S4x2048x2816.Idx → EReal := m ((c : Thread nD τ).loc main_arg0)
abbrev argD : S4x2048x1024.Idx → EReal := m ((c : Thread nD τ).loc main_arg1)

/-- row `k` of half `C` -/
abbrev kOf (C : ℕ) (k : Fin 1408) : Fin 2816 := ⟨(C * 1408 + k.val) % 2816, Nat.mod_lt _ (by omega)⟩
/-- sequence `b` -/
abbrev bOf (b : ℕ) : Fin 4 := ⟨b % 4, Nat.mod_lt _ (by omega)⟩

theorem blk_a (p : Fin cfg0.N) : iblk m c 0 p = fun i : S2048x1408.Idx => rowAt (argA m c) (bOf (p.val % 4)) (i 0) (kOf (p.val / 4) (i 1)) := by
  funext i
  blk_simp [iblk]
  unfold_abbrev_sides
  simp only [hostOps0, List.flatten_singleton]
  after_reads_at
  have h0 : (i 0).val < 2048 := (i 0).isLt
  have h1 : (i 1).val < 1408 := (i 1).isLt
  have hp : p.val < 8 := lt_of_lt_of_eq p.isLt N_0
  show _ = m ((c : Thread nD τ).loc main_arg0) (ix3 (bOf (p.val % 4)) (i 0) (kOf (p.val / 4) (i 1)))
  blk_ext [idx p]

theorem blk_d (p : Fin cfg0.N) : iblk m c 1 p = fun i : S2048x1024.Idx => rowAt (argD m c) (bOf (p.val % 4)) (i 0) (i 1) := by
  funext i
  blk_simp [iblk]
  unfold_abbrev_sides
  simp only [hostOps0, List.flatten_singleton]
  after_reads_at
  have h0 : (i 0).val < 2048 := (i 0).isLt
  show _ = m ((c : Thread nD τ).loc main_arg1) (ix3 (bOf (p.val % 4)) (i 0) (i 1))
  blk_ext [idx p]

/-- what a point adds to its half -/
def part (C b : ℕ) (i : S1408x1024.Idx) : EReal := seqDw (argA m c) (argD m c) (bOf b) (kOf C (i 0)) (i 1)

theorem dw_term (p : Fin cfg0.N) (v : Vec Ideal S1408x1024 .f32) (k : Fin 1408) (l : Fin 1024) :
    k0_pay2 (F := Ideal) v (iblk m c 0 p) (iblk m c 1 p) (ix2 k l) = v (ix2 k l) + part m c (p.val / 4) (p.val % 4) (ix2 k l) := by
  rw [dw_at, blk_a, blk_d]
  rfl

/-- the gradient after the run -/
theorem final_dw : (dats m 0 c).arrAt 2 cfg0.N = fun i : S2816x1024.Idx => ∑ b : Fin 4, seqDw (argA m c) (argD m c) b (i 0) (i 1) := by
  refine (dats m 0 c).arrAt_eq_of_covers 2 _ (by decide +kernel) fun p hf y => ?_
  have h3 : p.val % 4 = 3 := (flush0_2 p).mp hf
  have hl : (outsAt0 m c p.val p.isLt).1 = k0_pay3 (F := Ideal) (outsAt0 m c p.val p.isLt).2 := by
    rw [outsAt0_C m c p (by omega) h3]
    frame_out
  blk_simp
  rw [after0_2, hl]
  show (outsAt0 m c p.val p.isLt).2 y = _
  rw [Pipeline.eq_sum_of_reset_step_apply_divmod (fun n h => (outsAt0 m c n h).2) 4 (fun _ => 0) (part m c)
    (fun p h0 j => ?_) (fun p h0 j => ?_) p y, h3, Finset.sum_range]
  · refine (zero_add _).trans (Finset.sum_congr rfl fun b _ => ?_)
    have hy : (y 0).val < 1408 := (y 0).isLt
    have hp : p.val < 8 := lt_of_lt_of_eq p.isLt N_0
    have hb : bOf b.val = b := Fin.ext (Nat.mod_eq_of_lt b.isLt)
    refine (congrArg (fun q => seqDw (argA m c) (argD m c) q (kOf (p.val / 4) (y 0)) (y 1)) hb).trans ?_
    refine congrArg₂ (seqDw (argA m c) (argD m c) b) (Fin.ext ?_) (Fin.ext ?_)
    · blk_simp [idx p]
      show (p.val / 4 * 1408 + (y 0).val) % 2816 = _
      omega
    · blk_simp [idx p]
  · rw [outsAt0_A m c p h0 (by omega)]
    frame_out
    idx_vars j
    refine (dw_term m c p _ j0 j1).trans ?_
    pointwise [k0_pay1]
  · by_cases h2 : p.val % 4 = 3
    · rw [outsAt0_C m c p h0 h2]
      frame_out
      idx_vars j
      exact (dw_term m c p _ j0 j1).trans (congrArg (· + _) (congrFun (Memref.IsWhole.read_unread _ _) _))
    · rw [outsAt0_B m c p h0 h2]
      frame_out
      idx_vars j
      exact (dw_term m c p _ j0 j1).trans (congrArg (· + _) (congrFun (Memref.IsWhole.read_unread _ _) _))

end Cert.WgradIdeal.Value

namespace Cert.WgradRefIdeal.Value
open Cert.WgradRefIdeal Cert.WgradRefIdeal.Gen Cert.WgradRefIdeal.Read Cert.Grad

variable (a : S4x2048x2816.Idx → EReal) (d : S4x2048x1024.Idx → EReal)

theorem v4_eq : val_main_v4 (F := Ideal) a d = fun i => ∑ b : Fin 4, seqDw a d b (i 0) (i 1) := by
  funext i
  idx_vars i
  pointwise [val_main_v4, val_main_v3, val_main_v2]
  exact Finset.sum_congr rfl fun b _ => Finset.sum_congr rfl fun s _ => mul_comm _ _

/-- the two programs of a weight's gradient compute the same array -/
theorem _root_.Cert.Proof.wgrad : Cert.algebraic_WgradIdeal_WgradRefIdeal := by
  intro m ρ m' ρ' _ ha
  refine ⟨_, Cert.WgradIdeal.Value.run_blocks m ρ, ?_⟩
  refine (θ_run _ _ _).mono (fun r hr c => ?_) (run m' ρ')
  obtain ⟨r0, k⟩ := hr c
  obtain ⟨a0, a1⟩ := ha c
  refine ⟨r0.trans ((val_main_v4_eq _ _).trans ?_), k⟩
  rw [a0, a1]
  exact (v4_eq _ _).trans (Cert.WgradIdeal.Value.final_dw m c).symm

end Cert.WgradRefIdeal.Value
-- ==== Proof.Optim.lean ====
module

public import proofs.«01_k».proof.Proof.LeadSum
public import proofs.«01_k».proof.Proof.Gen.AdamwIdeal.Value
public import proofs.«01_k».proof.Proof.Gen.AdamwRefIdeal.Read
public import proofs.«01_k».proof.Proof.Gen.Sum8Ideal.Value
public import proofs.«01_k».proof.Proof.Gen.Sum8RefIdeal.Read
public import proofs.«01_k».proof.Proof.Gen.SumSlotsIdeal.Value
public import proofs.«01_k».proof.Proof.Gen.SumSlotsRefIdeal.Read
public import proofs.«01_k».proof.Defs

/-! # The optimiser's step and the sums over eight parts -/

@[expose] public section

noncomputable section

open Idealize.ShloMosaic Idealize.ShloMosaic.TcCoe Idealize.SL.Sem

namespace Cert.AdamwRefIdeal.Value
open Cert.AdamwRefIdeal Cert.AdamwRefIdeal.Gen Cert.AdamwRefIdeal.Read

variable (w g m v : S4x352x1024.Idx → EReal)

/-- the first moment -/
theorem m_eq : val_main_v4 (F := Ideal) g m = Cert.AdamwIdeal.Value.G5 g m := by
  funext i
  pointwise [val_main_v4, val_main_v3, val_main_v2, val_main_v1, val_main_v0, val_main_cst, val_main_cst_0]

/-- the second moment -/
theorem v_eq : val_main_v10 (F := Ideal) g v = Cert.AdamwIdeal.Value.G6 g v := by
  funext i
  pointwise [val_main_v10, val_main_v9, val_main_v8, val_main_v7, val_main_v6, val_main_v5, val_main_cst_1, val_main_cst_2]

/-- the update -/
theorem delta_eq : val_main_v23 (F := Ideal) w g m v = Cert.AdamwIdeal.Value.G4 g m v w := by
  have hm := m_eq g m
  have hv := v_eq g v
  funext i
  pointwise [val_main_v23, val_main_v22, val_main_v21, val_main_v20, val_main_v19, val_main_v18, val_main_v17, val_main_v16, val_main_v15,
    val_main_v14, val_main_v13, val_main_v12, val_main_v11, val_main_cst_3, val_main_cst_4, val_main_cst_5, val_main_cst_6, val_main_cst_7, hm, hv]

/-- the two programs of the optimiser's step compute the same arrays -/
theorem _root_.Cert.Proof.adamw : Cert.algebraic_AdamwIdeal_AdamwRefIdeal := by
  intro m ρ m' ρ' _ ha
  refine ⟨_, _, _, Cert.AdamwIdeal.Value.run m ρ, ?_⟩
  refine (θ_run _ _ _).mono (fun r hr c => ?_) (run m' ρ')
  obtain ⟨r0, r1, r2, k⟩ := hr c
  obtain ⟨a0, a1, a2, a3⟩ := ha c
  refine ⟨r0.trans ((val_main_v23_eq _ _ _ _).trans ?_),
    r1.trans ((val_main_v4_eq _ _).trans ?_),
    r2.trans ((val_main_v10_eq _ _).trans ?_), k⟩
  · rw [a0, a1, a2, a3]
    exact delta_eq _ _ _ _
  · rw [a1, a2]
    exact m_eq _ _
  · rw [a1, a3]
    exact v_eq _ _

end Cert.AdamwRefIdeal.Value

/-- eight vectors' sum, one after another from zero, is the kernel's chain of seven additions -/
theorem Cert.Grad.sum_parts (f : Fin 8 → EReal) : ∑ p : Fin 8, f p = f 0 + f 1 + f 2 + f 3 + f 4 + f 5 + f 6 + f 7 := Fin.sum_univ_eight f

namespace Cert.Sum8RefIdeal.Value
open Cert.Sum8RefIdeal Cert.Sum8RefIdeal.Gen Cert.Sum8RefIdeal.Read

variable (x : S8x352x1024.Idx → EReal)

/-- the sum of the eight parts -/
theorem v1_eq : val_main_v1 (F := Ideal) x = Cert.Sum8Ideal.Value.G1 (F := Ideal) x := by
  funext i
  idx_vars i
  refine Eq.trans (b := ∑ p : Fin 8, x (ix3 p i0 i1)) ?_ ?_
  · pointwise [val_main_v1, val_main_v0, val_main_cst]
  · rw [Cert.Grad.sum_parts]
    pointwise [Cert.Sum8Ideal.Gen.k0_pay1]

/-- the two sums of eight parts of a gradient agree -/
theorem _root_.Cert.Proof.sum8 : Cert.algebraic_Sum8Ideal_Sum8RefIdeal := by
  intro m ρ m' ρ' _ ha
  refine ⟨_, Cert.Sum8Ideal.Value.run m ρ, ?_⟩
  refine (θ_run _ _ _).mono (fun r hr c => ?_) (run m' ρ')
  obtain ⟨r0, k⟩ := hr c
  refine ⟨r0.trans ((val_main_v1_eq _).trans ?_), k⟩
  rw [ha c]
  exact v1_eq _

end Cert.Sum8RefIdeal.Value

namespace Cert.SumSlotsRefIdeal.Value
open Cert.SumSlotsRefIdeal Cert.SumSlotsRefIdeal.Gen Cert.SumSlotsRefIdeal.Read

variable (x : S8x2328x128.Idx → EReal)

/-- the sum of the eight parts -/
theorem v0_eq : val_main_v0 (F := Ideal) x = Cert.SumSlotsIdeal.Value.G1 (F := Ideal) x := by
  funext i
  idx_vars i
  refine Eq.trans (b := ∑ p : Fin 8, x (ix3 p i0 i1)) ?_ ?_
  · pointwise [val_main_v0, val_main_cst]
  · rw [Cert.Grad.sum_parts]
    pointwise [Cert.SumSlotsIdeal.Gen.k0_pay1]

/-- the two sums of eight slots agree -/
theorem _root_.Cert.Proof.sum_slots : Cert.algebraic_SumSlotsIdeal_SumSlotsRefIdeal := by
  intro m ρ m' ρ' _ ha
  refine ⟨_, Cert.SumSlotsIdeal.Value.run m ρ, ?_⟩
  refine (θ_run _ _ _).mono (fun r hr c => ?_) (run m' ρ')
  obtain ⟨r0, k⟩ := hr c
  refine ⟨r0.trans ((val_main_v0_eq _).trans ?_), k⟩
  rw [ha c]
  exact v0_eq _

end Cert.SumSlotsRefIdeal.Value
-- ==== Proof.AdamwUp.lean ====
module

public import proofs.«01_k».proof.Proof.LeadSum
public import proofs.«01_k».proof.Proof.Gen.AdamwUpIdeal.Value
public import proofs.«01_k».proof.Proof.Gen.AdamwUpRefIdeal.Read
public import proofs.«01_k».proof.Defs
public import Idealize.ShloMosaic.Lib.StableHlo.ReadAt
public import Idealize.ShloMosaic.Lib.Pipeline.ValueKit

/-! # The optimiser's step of a feed-forward matrix, which the kernel holds transposed -/

@[expose] public section

noncomputable section

open Idealize.ShloMosaic Idealize.ShloMosaic.TcCoe Idealize.SL.Sem

namespace Cert.Grad

/-- the first moment of an entry after the step, of its gradient and its first moment -/
def stepM (g m : EReal) : EReal := Ideal.ofBits .f32 0x3F666666#32 * m + Ideal.ofBits .f32 0x3DCCCCCD#32 * g
/-- the second moment of an entry after the step, of its gradient and its second moment -/
def stepV (g v : EReal) : EReal := Ideal.ofBits .f32 0x3F7FBE77#32 * v + Ideal.ofBits .f32 0x3A83126F#32 * (g * g)
/-- an entry's step -/
def stepW (w g m v : EReal) : EReal := Ideal.ofBits .f32 0xBA83126F#32 *
  (Ideal.div (Ideal.div (stepM g m) (Ideal.ofBits .f32 0x3F26BD02#32))
      (Ideal.sqrt (Ideal.div (stepV g v) (Ideal.ofBits .f32 0x3C231ACC#32)) + Ideal.ofBits .f32 0x322BCC77#32)
    + Ideal.ofBits .f32 0x3C23D70A#32 * w)

end Cert.Grad

namespace Cert.AdamwUpIdeal.Value
open Cert.AdamwUpIdeal Cert.AdamwUpIdeal.Gen Cert.Grad

theorem m_at (g m : Vec Ideal S1x352x1024 .f32) (i : S1x352x1024.Idx) : k0_pay1 (F := Ideal) g m i = stepM (g i) (m i) := by
  pointwise [k0_pay1]
  rfl
theorem v_at (g v : Vec Ideal S1x352x1024 .f32) (i : S1x352x1024.Idx) : k0_pay2 (F := Ideal) g v i = stepV (g i) (v i) := by
  pointwise [k0_pay2]
  rfl
theorem w_at (w g m v : Vec Ideal S1x352x1024 .f32) (i : S1x352x1024.Idx) : k0_pay3 (F := Ideal) g m v w i = stepW (w i) (g i) (m i) (v i) := by
  pointwise [k0_pay3, m_at, v_at]
  rfl

/-- every window's block at a point is the point's layer -/
theorem idx : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0] ∧ win0_6.index t = ![t.val, 0, 0] :=
  (by decide +kernel : ∀ t : Fin grid0.N, _)

/-- an array with its matrices transposed -/
abbrev turned (r : S4x1024x352.Idx → EReal) : S4x352x1024.Idx → EReal := fun i => r (ix3 (i 0) (i 2) (i 1))

variable (m : (ℓ : Loc nD τ sig) → Buf (Elt Ideal) ℓ) (c : Dev nD)

abbrev argW : S4x352x1024.Idx → EReal := turned (m ((c : Thread nD τ).loc main_arg0))
abbrev argG : S4x352x1024.Idx → EReal := m ((c : Thread nD τ).loc main_arg1)
abbrev argM : S4x352x1024.Idx → EReal := turned (m ((c : Thread nD τ).loc main_arg2))
abbrev argV : S4x352x1024.Idx → EReal := turned (m ((c : Thread nD τ).loc main_arg3))
/-- the three arrays after the run -/
abbrev newW : S4x352x1024.Idx → EReal := fun i => stepW (argW m c i) (argG m c i) (argM m c i) (argV m c i)
abbrev newM : S4x352x1024.Idx → EReal := fun i => stepM (argG m c i) (argM m c i)
abbrev newV : S4x352x1024.Idx → EReal := fun i => stepV (argG m c i) (argV m c i)

/-- a point's layer of an array -/
abbrev layer (p : Fin cfg0.N) (a : S4x352x1024.Idx → EReal) : S1x352x1024.Idx → EReal :=
  fun i => a (ix3 ⟨p.val, lt_of_lt_of_eq p.isLt N_0⟩ (i 1) (i 2))

theorem blks (p : Fin cfg0.N) : iblk m c 0 p = layer p (argW m c) ∧ iblk m c 1 p = layer p (argG m c)
    ∧ iblk m c 2 p = layer p (argM m c) ∧ iblk m c 3 p = layer p (argV m c) := by
  refine ⟨?_, ?_, ?_, ?_⟩ <;> funext i <;> blk_simp [iblk] <;> unfold_abbrev_sides <;>
    simp only [hostOps0, List.flatten_singleton] <;> after_reads_at <;> blk_ext [idx p]

theorem finals : (dats m 0 c).arrAt 4 cfg0.N = newW m c ∧ (dats m 0 c).arrAt 5 cfg0.N = newM m c ∧ (dats m 0 c).arrAt 6 cfg0.N = newV m c := by
  refine ⟨(dats m 0 c).arrAt_eq_of_covers 4 _ (by decide +kernel) fun p _ y => ?_, (dats m 0 c).arrAt_eq_of_covers 5 _ (by decide +kernel) fun p _ y => ?_,
    (dats m 0 c).arrAt_eq_of_covers 6 _ (by decide +kernel) fun p _ y => ?_⟩ <;> obtain ⟨hw, hg, hm, hv⟩ := blks m c p <;> blk_simp
  · have e : ∀ w g m v, out0_4 w g m v = k0_pay3 (F := Ideal) g m v w := fun _ _ _ _ => by
      unfold out0_4
      frame_out
    rw [after0_4, e]
    refine (w_at _ _ _ _ y).trans ?_
    rw [hw, hg, hm, hv]
    refine congrArg (newW m c) ?_
    blk_ext [idx p]
  · have e : ∀ w g m v, out0_5 w g m v = k0_pay1 (F := Ideal) g m := fun _ _ _ _ => by
      unfold out0_5
      frame_out
    rw [after0_5, e]
    refine (m_at _ _ y).trans ?_
    rw [hg, hm]
    refine congrArg (newM m c) ?_
    blk_ext [idx p]
  · have e : ∀ w g m v, out0_6 w g m v = k0_pay2 (F := Ideal) g v := fun _ _ _ _ => by
      unfold out0_6
      frame_out
    rw [after0_6, e]
    refine (v_at _ _ y).trans ?_
    rw [hg, hv]
    refine congrArg (newV m c) ?_
    blk_ext [idx p]

end Cert.AdamwUpIdeal.Value

namespace Cert.AdamwUpRefIdeal.Value
open Cert.AdamwUpRefIdeal Cert.AdamwUpRefIdeal.Gen Cert.AdamwUpRefIdeal.Read Cert.Grad
open Cert.AdamwUpIdeal.Value (turned finals)

variable (w m v : S4x1024x352.Idx → EReal) (g : S4x352x1024.Idx → EReal)

theorem eqs : (val_main_v25 (F := Ideal) w g m v = fun i => stepW (turned w i) (g i) (turned m i) (turned v i))
    ∧ (val_main_v26 (F := Ideal) g m = fun i => stepM (g i) (turned m i)) ∧ val_main_v27 (F := Ideal) g v = fun i => stepV (g i) (turned v i) := by
  refine ⟨?_, ?_, ?_⟩ <;> funext i <;> idx_vars i <;>
    pointwise [val_main_v27, val_main_v26, val_main_v25, val_main_v24, val_main_v23, val_main_v22, val_main_v21, val_main_v20, val_main_v19, val_main_v18,
      val_main_v17, val_main_v16, val_main_v15, val_main_v14, val_main_v13, val_main_v12, val_main_v11, val_main_v10, val_main_v9, val_main_v8, val_main_v7,
      val_main_v6, val_main_v5, val_main_v4, val_main_v3, val_main_v2, val_main_v1, val_main_v0, val_main_cst, val_main_cst_0, val_main_cst_1,
      val_main_cst_2, val_main_cst_3, val_main_cst_4, val_main_cst_5, val_main_cst_6, val_main_cst_7] <;> rfl

/-- the two programs of the optimiser's step of a feed-forward matrix compute the same arrays -/
theorem _root_.Cert.Proof.adamw_up : Cert.algebraic_AdamwUpIdeal_AdamwUpRefIdeal := by
  intro m ρ m' ρ' _ ha
  refine ⟨_, _, _, Cert.AdamwUpIdeal.Value.run_blocks m ρ, (θ_run _ _ _).mono (fun r hr c => ?_) (run m' ρ')⟩
  obtain ⟨r0, r1, r2, k⟩ := hr c
  obtain ⟨a0, a1, a2, a3⟩ := ha c
  obtain ⟨f0, f1, f2⟩ := finals m c
  refine ⟨r0.trans ((val_main_v25_eq _ _ _ _).trans ?_), r1.trans ((val_main_v26_eq _ _).trans ?_), r2.trans ((val_main_v27_eq _ _).trans ?_), k⟩
  · rw [a0, a1, a2, a3]
    exact (eqs _ _ _ _).1.trans f0.symm
  · rw [a1, a2]
    exact (eqs 0 _ 0 _).2.1.trans f1.symm
  · rw [a1, a3]
    exact (eqs 0 0 _ _).2.2.trans f2.symm

end Cert.AdamwUpRefIdeal.Value
-- ==== Proof.AdamwCd.lean ====
module

public import proofs.«01_k».proof.Proof.AdamwUp
public import proofs.«01_k».proof.Proof.Gen.AdamwCdIdeal.Value
public import proofs.«01_k».proof.Proof.Gen.AdamwCdRefIdeal.Read

/-! # The optimiser's step of the second mixer's input matrix, which the kernel holds transposed -/

@[expose] public section

noncomputable section

open Idealize.ShloMosaic Idealize.ShloMosaic.TcCoe Idealize.SL.Sem

namespace Cert.AdamwCdIdeal.Value
open Cert.AdamwCdIdeal Cert.AdamwCdIdeal.Gen Cert.Grad

theorem m_at (g m : Vec Ideal S1x320x1024 .f32) (i : S1x320x1024.Idx) : k0_pay1 (F := Ideal) g m i = stepM (g i) (m i) := by
  pointwise [k0_pay1]
  rfl
theorem v_at (g v : Vec Ideal S1x320x1024 .f32) (i : S1x320x1024.Idx) : k0_pay2 (F := Ideal) g v i = stepV (g i) (v i) := by
  pointwise [k0_pay2]
  rfl
theorem w_at (w g m v : Vec Ideal S1x320x1024 .f32) (i : S1x320x1024.Idx) : k0_pay3 (F := Ideal) g m v w i = stepW (w i) (g i) (m i) (v i) := by
  pointwise [k0_pay3, m_at, v_at]
  rfl

/-- every window's block at a point is the point's layer -/
theorem idx : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0] ∧ win0_6.index t = ![t.val, 0, 0] :=
  (by decide +kernel : ∀ t : Fin grid0.N, _)

/-- an array with its matrices transposed -/
abbrev turned (r : S2x1024x320.Idx → EReal) : S2x320x1024.Idx → EReal := fun i => r (ix3 (i 0) (i 2) (i 1))

variable (m : (ℓ : Loc nD τ sig) → Buf (Elt Ideal) ℓ) (c : Dev nD)

abbrev argW : S2x320x1024.Idx → EReal := turned (m ((c : Thread nD τ).loc main_arg0))
abbrev argG : S2x320x1024.Idx → EReal := m ((c : Thread nD τ).loc main_arg1)
abbrev argM : S2x320x1024.Idx → EReal := turned (m ((c : Thread nD τ).loc main_arg2))
abbrev argV : S2x320x1024.Idx → EReal := turned (m ((c : Thread nD τ).loc main_arg3))
/-- the three arrays after the run -/
abbrev newW : S2x320x1024.Idx → EReal := fun i => stepW (argW m c i) (argG m c i) (argM m c i) (argV m c i)
abbrev newM : S2x320x1024.Idx → EReal := fun i => stepM (argG m c i) (argM m c i)
abbrev newV : S2x320x1024.Idx → EReal := fun i => stepV (argG m c i) (argV m c i)

/-- a point's layer of an array -/
abbrev layer (p : Fin cfg0.N) (a : S2x320x1024.Idx → EReal) : S1x320x1024.Idx → EReal :=
  fun i => a (ix3 ⟨p.val, lt_of_lt_of_eq p.isLt N_0⟩ (i 1) (i 2))

theorem blks (p : Fin cfg0.N) : iblk m c 0 p = layer p (argW m c) ∧ iblk m c 1 p = layer p (argG m c)
    ∧ iblk m c 2 p = layer p (argM m c) ∧ iblk m c 3 p = layer p (argV m c) := by
  refine ⟨?_, ?_, ?_, ?_⟩ <;> funext i <;> blk_simp [iblk] <;> unfold_abbrev_sides <;>
    simp only [hostOps0, List.flatten_singleton] <;> after_reads_at <;> blk_ext [idx p]

theorem finals : (dats m 0 c).arrAt 4 cfg0.N = newW m c ∧ (dats m 0 c).arrAt 5 cfg0.N = newM m c ∧ (dats m 0 c).arrAt 6 cfg0.N = newV m c := by
  refine ⟨(dats m 0 c).arrAt_eq_of_covers 4 _ (by decide +kernel) fun p _ y => ?_, (dats m 0 c).arrAt_eq_of_covers 5 _ (by decide +kernel) fun p _ y => ?_,
    (dats m 0 c).arrAt_eq_of_covers 6 _ (by decide +kernel) fun p _ y => ?_⟩ <;> obtain ⟨hw, hg, hm, hv⟩ := blks m c p <;> blk_simp
  · have e : ∀ w g m v, out0_4 w g m v = k0_pay3 (F := Ideal) g m v w := fun _ _ _ _ => by
      unfold out0_4
      frame_out
    rw [after0_4, e]
    refine (w_at _ _ _ _ y).trans ?_
    rw [hw, hg, hm, hv]
    refine congrArg (newW m c) ?_
    blk_ext [idx p]
  · have e : ∀ w g m v, out0_5 w g m v = k0_pay1 (F := Ideal) g m := fun _ _ _ _ => by
      unfold out0_5
      frame_out
    rw [after0_5, e]
    refine (m_at _ _ y).trans ?_
    rw [hg, hm]
    refine congrArg (newM m c) ?_
    blk_ext [idx p]
  · have e : ∀ w g m v, out0_6 w g m v = k0_pay2 (F := Ideal) g v := fun _ _ _ _ => by
      unfold out0_6
      frame_out
    rw [after0_6, e]
    refine (v_at _ _ y).trans ?_
    rw [hg, hv]
    refine congrArg (newV m c) ?_
    blk_ext [idx p]

end Cert.AdamwCdIdeal.Value

namespace Cert.AdamwCdRefIdeal.Value
open Cert.AdamwCdRefIdeal Cert.AdamwCdRefIdeal.Gen Cert.AdamwCdRefIdeal.Read Cert.Grad
open Cert.AdamwCdIdeal.Value (turned finals)

variable (w m v : S2x1024x320.Idx → EReal) (g : S2x320x1024.Idx → EReal)

theorem eqs : (val_main_v25 (F := Ideal) w g m v = fun i => stepW (turned w i) (g i) (turned m i) (turned v i))
    ∧ (val_main_v26 (F := Ideal) g m = fun i => stepM (g i) (turned m i)) ∧ val_main_v27 (F := Ideal) g v = fun i => stepV (g i) (turned v i) := by
  refine ⟨?_, ?_, ?_⟩ <;> funext i <;> idx_vars i <;>
    pointwise [val_main_v27, val_main_v26, val_main_v25, val_main_v24, val_main_v23, val_main_v22, val_main_v21, val_main_v20, val_main_v19, val_main_v18,
      val_main_v17, val_main_v16, val_main_v15, val_main_v14, val_main_v13, val_main_v12, val_main_v11, val_main_v10, val_main_v9, val_main_v8, val_main_v7,
      val_main_v6, val_main_v5, val_main_v4, val_main_v3, val_main_v2, val_main_v1, val_main_v0, val_main_cst, val_main_cst_0, val_main_cst_1,
      val_main_cst_2, val_main_cst_3, val_main_cst_4, val_main_cst_5, val_main_cst_6, val_main_cst_7] <;> rfl

/-- the two programs of the optimiser's step of the second mixer's input matrix compute the same arrays -/
theorem _root_.Cert.Proof.adamw_cd : Cert.algebraic_AdamwCdIdeal_AdamwCdRefIdeal := by
  intro m ρ m' ρ' _ ha
  refine ⟨_, _, _, Cert.AdamwCdIdeal.Value.run_blocks m ρ, (θ_run _ _ _).mono (fun r hr c => ?_) (run m' ρ')⟩
  obtain ⟨r0, r1, r2, k⟩ := hr c
  obtain ⟨a0, a1, a2, a3⟩ := ha c
  obtain ⟨f0, f1, f2⟩ := finals m c
  refine ⟨r0.trans ((val_main_v25_eq _ _ _ _).trans ?_), r1.trans ((val_main_v26_eq _ _).trans ?_), r2.trans ((val_main_v27_eq _ _).trans ?_), k⟩
  · rw [a0, a1, a2, a3]
    exact (eqs _ _ _ _).1.trans f0.symm
  · rw [a1, a2]
    exact (eqs 0 _ 0 _).2.1.trans f1.symm
  · rw [a1, a3]
    exact (eqs 0 0 _ _).2.2.trans f2.symm

end Cert.AdamwCdRefIdeal.Value
-- ==== Proof.AdamwAb.lean ====
module

public import proofs.«01_k».proof.Proof.AdamwUp
public import proofs.«01_k».proof.Proof.Gen.AdamwAbIdeal.Value
public import proofs.«01_k».proof.Proof.Gen.AdamwAbRefIdeal.Read

/-! # The optimiser's step of the first mixer's input matrix, which the kernel holds transposed -/

@[expose] public section

noncomputable section

open Idealize.ShloMosaic Idealize.ShloMosaic.TcCoe Idealize.SL.Sem

namespace Cert.AdamwAbIdeal.Value
open Cert.AdamwAbIdeal Cert.AdamwAbIdeal.Gen Cert.Grad

theorem m_at (g m : Vec Ideal S1x321x1024 .f32) (i : S1x321x1024.Idx) : k0_pay1 (F := Ideal) g m i = stepM (g i) (m i) := by
  pointwise [k0_pay1]
  rfl
theorem v_at (g v : Vec Ideal S1x321x1024 .f32) (i : S1x321x1024.Idx) : k0_pay2 (F := Ideal) g v i = stepV (g i) (v i) := by
  pointwise [k0_pay2]
  rfl
theorem w_at (w g m v : Vec Ideal S1x321x1024 .f32) (i : S1x321x1024.Idx) : k0_pay3 (F := Ideal) g m v w i = stepW (w i) (g i) (m i) (v i) := by
  pointwise [k0_pay3, m_at, v_at]
  rfl

/-- every window's block at a point is the point's layer -/
theorem idx : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0] ∧ win0_6.index t = ![t.val, 0, 0] :=
  (by decide +kernel : ∀ t : Fin grid0.N, _)

/-- an array with its matrices transposed -/
abbrev turned (r : S2x1024x321.Idx → EReal) : S2x321x1024.Idx → EReal := fun i => r (ix3 (i 0) (i 2) (i 1))

variable (m : (ℓ : Loc nD τ sig) → Buf (Elt Ideal) ℓ) (c : Dev nD)

abbrev argW : S2x321x1024.Idx → EReal := turned (m ((c : Thread nD τ).loc main_arg0))
abbrev argG : S2x321x1024.Idx → EReal := m ((c : Thread nD τ).loc main_arg1)
abbrev argM : S2x321x1024.Idx → EReal := turned (m ((c : Thread nD τ).loc main_arg2))
abbrev argV : S2x321x1024.Idx → EReal := turned (m ((c : Thread nD τ).loc main_arg3))
/-- the three arrays after the run -/
abbrev newW : S2x321x1024.Idx → EReal := fun i => stepW (argW m c i) (argG m c i) (argM m c i) (argV m c i)
abbrev newM : S2x321x1024.Idx → EReal := fun i => stepM (argG m c i) (argM m c i)
abbrev newV : S2x321x1024.Idx → EReal := fun i => stepV (argG m c i) (argV m c i)

/-- a point's layer of an array -/
abbrev layer (p : Fin cfg0.N) (a : S2x321x1024.Idx → EReal) : S1x321x1024.Idx → EReal :=
  fun i => a (ix3 ⟨p.val, lt_of_lt_of_eq p.isLt N_0⟩ (i 1) (i 2))

theorem blks (p : Fin cfg0.N) : iblk m c 0 p = layer p (argW m c) ∧ iblk m c 1 p = layer p (argG m c)
    ∧ iblk m c 2 p = layer p (argM m c) ∧ iblk m c 3 p = layer p (argV m c) := by
  refine ⟨?_, ?_, ?_, ?_⟩ <;> funext i <;> blk_simp [iblk] <;> unfold_abbrev_sides <;>
    simp only [hostOps0, List.flatten_singleton] <;> after_reads_at <;> blk_ext [idx p]

theorem finals : (dats m 0 c).arrAt 4 cfg0.N = newW m c ∧ (dats m 0 c).arrAt 5 cfg0.N = newM m c ∧ (dats m 0 c).arrAt 6 cfg0.N = newV m c := by
  refine ⟨(dats m 0 c).arrAt_eq_of_covers 4 _ (by decide +kernel) fun p _ y => ?_, (dats m 0 c).arrAt_eq_of_covers 5 _ (by decide +kernel) fun p _ y => ?_,
    (dats m 0 c).arrAt_eq_of_covers 6 _ (by decide +kernel) fun p _ y => ?_⟩ <;> obtain ⟨hw, hg, hm, hv⟩ := blks m c p <;> blk_simp
  · have e : ∀ w g m v, out0_4 w g m v = k0_pay3 (F := Ideal) g m v w := fun _ _ _ _ => by
      unfold out0_4
      frame_out
    rw [after0_4, e]
    refine (w_at _ _ _ _ y).trans ?_
    rw [hw, hg, hm, hv]
    refine congrArg (newW m c) ?_
    blk_ext [idx p]
  · have e : ∀ w g m v, out0_5 w g m v = k0_pay1 (F := Ideal) g m := fun _ _ _ _ => by
      unfold out0_5
      frame_out
    rw [after0_5, e]
    refine (m_at _ _ y).trans ?_
    rw [hg, hm]
    refine congrArg (newM m c) ?_
    blk_ext [idx p]
  · have e : ∀ w g m v, out0_6 w g m v = k0_pay2 (F := Ideal) g v := fun _ _ _ _ => by
      unfold out0_6
      frame_out
    rw [after0_6, e]
    refine (v_at _ _ y).trans ?_
    rw [hg, hv]
    refine congrArg (newV m c) ?_
    blk_ext [idx p]

end Cert.AdamwAbIdeal.Value

namespace Cert.AdamwAbRefIdeal.Value
open Cert.AdamwAbRefIdeal Cert.AdamwAbRefIdeal.Gen Cert.AdamwAbRefIdeal.Read Cert.Grad
open Cert.AdamwAbIdeal.Value (turned finals)

variable (w m v : S2x1024x321.Idx → EReal) (g : S2x321x1024.Idx → EReal)

theorem eqs : (val_main_v25 (F := Ideal) w g m v = fun i => stepW (turned w i) (g i) (turned m i) (turned v i))
    ∧ (val_main_v26 (F := Ideal) g m = fun i => stepM (g i) (turned m i)) ∧ val_main_v27 (F := Ideal) g v = fun i => stepV (g i) (turned v i) := by
  refine ⟨?_, ?_, ?_⟩ <;> funext i <;> idx_vars i <;>
    pointwise [val_main_v27, val_main_v26, val_main_v25, val_main_v24, val_main_v23, val_main_v22, val_main_v21, val_main_v20, val_main_v19, val_main_v18,
      val_main_v17, val_main_v16, val_main_v15, val_main_v14, val_main_v13, val_main_v12, val_main_v11, val_main_v10, val_main_v9, val_main_v8, val_main_v7,
      val_main_v6, val_main_v5, val_main_v4, val_main_v3, val_main_v2, val_main_v1, val_main_v0, val_main_cst, val_main_cst_0, val_main_cst_1,
      val_main_cst_2, val_main_cst_3, val_main_cst_4, val_main_cst_5, val_main_cst_6, val_main_cst_7] <;> rfl

/-- the two programs of the optimiser's step of the first mixer's input matrix compute the same arrays -/
theorem _root_.Cert.Proof.adamw_ab : Cert.algebraic_AdamwAbIdeal_AdamwAbRefIdeal := by
  intro m ρ m' ρ' _ ha
  refine ⟨_, _, _, Cert.AdamwAbIdeal.Value.run_blocks m ρ, (θ_run _ _ _).mono (fun r hr c => ?_) (run m' ρ')⟩
  obtain ⟨r0, r1, r2, k⟩ := hr c
  obtain ⟨a0, a1, a2, a3⟩ := ha c
  obtain ⟨f0, f1, f2⟩ := finals m c
  refine ⟨r0.trans ((val_main_v25_eq _ _ _ _).trans ?_), r1.trans ((val_main_v26_eq _ _).trans ?_), r2.trans ((val_main_v27_eq _ _).trans ?_), k⟩
  · rw [a0, a1, a2, a3]
    exact (eqs _ _ _ _).1.trans f0.symm
  · rw [a1, a2]
    exact (eqs 0 _ 0 _).2.1.trans f1.symm
  · rw [a1, a3]
    exact (eqs 0 0 _ _).2.2.trans f2.symm

end Cert.AdamwAbRefIdeal.Value
-- ==== Proof.AdamwOut.lean ====
module

public import proofs.«01_k».proof.Proof.LeadSum
public import proofs.«01_k».proof.Proof.Gen.AdamwOutIdeal.Value
public import proofs.«01_k».proof.Proof.Gen.AdamwOutRefIdeal.Read
public import proofs.«01_k».proof.Proof.Gen.AdamwPackIdeal.Value
public import proofs.«01_k».proof.Proof.Gen.AdamwPackRefIdeal.Read
public import proofs.«01_k».proof.Defs

/-! # The optimiser's step of the mixers' output matrices and of the packed small weights -/

@[expose] public section

noncomputable section

open Idealize.ShloMosaic Idealize.ShloMosaic.TcCoe Idealize.SL.Sem

namespace Cert.AdamwOutRefIdeal.Value
open Cert.AdamwOutRefIdeal Cert.AdamwOutRefIdeal.Gen Cert.AdamwOutRefIdeal.Read

variable (w g m v : S2x128x1024.Idx → EReal)

/-- the first moment -/
theorem m_eq : val_main_v4 (F := Ideal) g m = Cert.AdamwOutIdeal.Value.G5 g m := by
  funext i
  pointwise [val_main_v4, val_main_v3, val_main_v2, val_main_v1, val_main_v0, val_main_cst, val_main_cst_0]

/-- the second moment -/
theorem v_eq : val_main_v10 (F := Ideal) g v = Cert.AdamwOutIdeal.Value.G6 g v := by
  funext i
  pointwise [val_main_v10, val_main_v9, val_main_v8, val_main_v7, val_main_v6, val_main_v5, val_main_cst_1, val_main_cst_2]

/-- the update -/
theorem delta_eq : val_main_v23 (F := Ideal) w g m v = Cert.AdamwOutIdeal.Value.G4 g m v w := by
  have hm := m_eq g m
  have hv := v_eq g v
  funext i
  pointwise [val_main_v23, val_main_v22, val_main_v21, val_main_v20, val_main_v19, val_main_v18, val_main_v17, val_main_v16, val_main_v15,
    val_main_v14, val_main_v13, val_main_v12, val_main_v11, val_main_cst_3, val_main_cst_4, val_main_cst_5, val_main_cst_6, val_main_cst_7, hm, hv]

/-- the two programs of the optimiser's step of an output matrix compute the same arrays -/
theorem _root_.Cert.Proof.adamw_out : Cert.algebraic_AdamwOutIdeal_AdamwOutRefIdeal := by
  intro m ρ m' ρ' _ ha
  refine ⟨_, _, _, Cert.AdamwOutIdeal.Value.run m ρ, ?_⟩
  refine (θ_run _ _ _).mono (fun r hr c => ?_) (run m' ρ')
  obtain ⟨r0, r1, r2, k⟩ := hr c
  obtain ⟨a0, a1, a2, a3⟩ := ha c
  refine ⟨r0.trans ((val_main_v23_eq _ _ _ _).trans ?_),
    r1.trans ((val_main_v4_eq _ _).trans ?_),
    r2.trans ((val_main_v10_eq _ _).trans ?_), k⟩
  · rw [a0, a1, a2, a3]
    exact delta_eq _ _ _ _
  · rw [a1, a2]
    exact m_eq _ _
  · rw [a1, a3]
    exact v_eq _ _

end Cert.AdamwOutRefIdeal.Value

namespace Cert.AdamwPackRefIdeal.Value
open Cert.AdamwPackRefIdeal Cert.AdamwPackRefIdeal.Gen Cert.AdamwPackRefIdeal.Read

variable (w g m v : S2232x128.Idx → EReal)

/-- the first moment -/
theorem m_eq : val_main_v4 (F := Ideal) g m = Cert.AdamwPackIdeal.Value.G5 g m := by
  funext i
  pointwise [val_main_v4, val_main_v3, val_main_v2, val_main_v1, val_main_v0, val_main_cst, val_main_cst_0]

/-- the second moment -/
theorem v_eq : val_main_v10 (F := Ideal) g v = Cert.AdamwPackIdeal.Value.G6 g v := by
  funext i
  pointwise [val_main_v10, val_main_v9, val_main_v8, val_main_v7, val_main_v6, val_main_v5, val_main_cst_1, val_main_cst_2]

/-- the update -/
theorem delta_eq : val_main_v23 (F := Ideal) w g m v = Cert.AdamwPackIdeal.Value.G4 g m v w := by
  have hm := m_eq g m
  have hv := v_eq g v
  funext i
  pointwise [val_main_v23, val_main_v22, val_main_v21, val_main_v20, val_main_v19, val_main_v18, val_main_v17, val_main_v16, val_main_v15,
    val_main_v14, val_main_v13, val_main_v12, val_main_v11, val_main_cst_3, val_main_cst_4, val_main_cst_5, val_main_cst_6, val_main_cst_7, hm, hv]

/-- the two programs of the optimiser's step of the packed small weights compute the same arrays -/
theorem _root_.Cert.Proof.adamw_pack : Cert.algebraic_AdamwPackIdeal_AdamwPackRefIdeal := by
  intro m ρ m' ρ' _ ha
  refine ⟨_, _, _, Cert.AdamwPackIdeal.Value.run m ρ, ?_⟩
  refine (θ_run _ _ _).mono (fun r hr c => ?_) (run m' ρ')
  obtain ⟨r0, r1, r2, k⟩ := hr c
  obtain ⟨a0, a1, a2, a3⟩ := ha c
  refine ⟨r0.trans ((val_main_v23_eq _ _ _ _).trans ?_),
    r1.trans ((val_main_v4_eq _ _).trans ?_),
    r2.trans ((val_main_v10_eq _ _).trans ?_), k⟩
  · rw [a0, a1, a2, a3]
    exact delta_eq _ _ _ _
  · rw [a1, a2]
    exact m_eq _ _
  · rw [a1, a3]
    exact v_eq _ _

end Cert.AdamwPackRefIdeal.Value
-- ==== Proof.Sums.lean ====
module

public import proofs.«01_k».proof.Proof.Optim
public import proofs.«01_k».proof.Proof.Gen.Sum8CdIdeal.Value
public import proofs.«01_k».proof.Proof.Gen.Sum8CdRefIdeal.Read
public import proofs.«01_k».proof.Proof.Gen.Sum8AbIdeal.Value
public import proofs.«01_k».proof.Proof.Gen.Sum8AbRefIdeal.Read
public import proofs.«01_k».proof.Proof.Gen.Sum8OutIdeal.Value
public import proofs.«01_k».proof.Proof.Gen.Sum8OutRefIdeal.Read

/-! # The sums over eight parts of the mixers' matrices' gradients -/

@[expose] public section

noncomputable section

open Idealize.ShloMosaic Idealize.ShloMosaic.TcCoe Idealize.SL.Sem

namespace Cert.Sum8CdRefIdeal.Value
open Cert.Sum8CdRefIdeal Cert.Sum8CdRefIdeal.Gen Cert.Sum8CdRefIdeal.Read

variable (x : S8x320x1024.Idx → EReal)

/-- the sum of the eight parts -/
theorem v1_eq : val_main_v1 (F := Ideal) x = Cert.Sum8CdIdeal.Value.G1 (F := Ideal) x := by
  funext i
  idx_vars i
  refine Eq.trans (b := ∑ p : Fin 8, x (ix3 p i0 i1)) ?_ ?_
  · pointwise [val_main_v1, val_main_v0, val_main_cst]
  · rw [Cert.Grad.sum_parts]
    pointwise [Cert.Sum8CdIdeal.Gen.k0_pay1]

/-- the two sums of eight parts of the gradient of the second mixer's input matrix agree -/
theorem _root_.Cert.Proof.sum8_cd : Cert.algebraic_Sum8CdIdeal_Sum8CdRefIdeal := by
  intro m ρ m' ρ' _ ha
  refine ⟨_, Cert.Sum8CdIdeal.Value.run m ρ, ?_⟩
  refine (θ_run _ _ _).mono (fun r hr c => ?_) (run m' ρ')
  obtain ⟨r0, k⟩ := hr c
  refine ⟨r0.trans ((val_main_v1_eq _).trans ?_), k⟩
  rw [ha c]
  exact v1_eq _

end Cert.Sum8CdRefIdeal.Value

namespace Cert.Sum8AbRefIdeal.Value
open Cert.Sum8AbRefIdeal Cert.Sum8AbRefIdeal.Gen Cert.Sum8AbRefIdeal.Read

variable (x : S8x336x1024.Idx → EReal)

/-- the sum of the eight parts -/
theorem v1_eq : val_main_v1 (F := Ideal) x = Cert.Sum8AbIdeal.Value.G1 (F := Ideal) x := by
  funext i
  idx_vars i
  refine Eq.trans (b := ∑ p : Fin 8, x (ix3 p i0 i1)) ?_ ?_
  · pointwise [val_main_v1, val_main_v0, val_main_cst]
  · rw [Cert.Grad.sum_parts]
    pointwise [Cert.Sum8AbIdeal.Gen.k0_pay1]

/-- the two sums of eight parts of the gradient of the first mixer's input matrix agree -/
theorem _root_.Cert.Proof.sum8_ab : Cert.algebraic_Sum8AbIdeal_Sum8AbRefIdeal := by
  intro m ρ m' ρ' _ ha
  refine ⟨_, Cert.Sum8AbIdeal.Value.run m ρ, ?_⟩
  refine (θ_run _ _ _).mono (fun r hr c => ?_) (run m' ρ')
  obtain ⟨r0, k⟩ := hr c
  refine ⟨r0.trans ((val_main_v1_eq _).trans ?_), k⟩
  rw [ha c]
  exact v1_eq _

end Cert.Sum8AbRefIdeal.Value

namespace Cert.Sum8OutRefIdeal.Value
open Cert.Sum8OutRefIdeal Cert.Sum8OutRefIdeal.Gen Cert.Sum8OutRefIdeal.Read

variable (x : S8x128x1024.Idx → EReal)

/-- the sum of the eight parts -/
theorem v1_eq : val_main_v1 (F := Ideal) x = Cert.Sum8OutIdeal.Value.G1 (F := Ideal) x := by
  funext i
  idx_vars i
  refine Eq.trans (b := ∑ p : Fin 8, x (ix3 p i0 i1)) ?_ ?_
  · pointwise [val_main_v1, val_main_v0, val_main_cst]
  · rw [Cert.Grad.sum_parts]
    pointwise [Cert.Sum8OutIdeal.Gen.k0_pay1]

/-- the two sums of eight parts of the gradient of a mixer's output matrix agree -/
theorem _root_.Cert.Proof.sum8_out : Cert.algebraic_Sum8OutIdeal_Sum8OutRefIdeal := by
  intro m ρ m' ρ' _ ha
  refine ⟨_, Cert.Sum8OutIdeal.Value.run m ρ, ?_⟩
  refine (θ_run _ _ _).mono (fun r hr c => ?_) (run m' ρ')
  obtain ⟨r0, k⟩ := hr c
  refine ⟨r0.trans ((val_main_v1_eq _).trans ?_), k⟩
  rw [ha c]
  exact v1_eq _

end Cert.Sum8OutRefIdeal.Value
-- ==== Proof.lean ====
module

public import proofs.«01_k».proof.Proof.Gen.Loss.Frame
public import proofs.«01_k».proof.Proof.Gen.Ffn.Frame
public import proofs.«01_k».proof.Proof.Gen.InAbBwd.Frame
public import proofs.«01_k».proof.Proof.Gen.InCdBwd.Frame
public import proofs.«01_k».proof.Proof.Gen.ScConvBwd.Frame
public import proofs.«01_k».proof.Proof.Gen.DnConvBwd.Frame
public import proofs.«01_k».proof.Proof.Gen.PoolBwd.Frame
public import proofs.«01_k».proof.Proof.Gen.SguBwd.Frame
public import proofs.«01_k».proof.Proof.Gen.DnRecurFwd.Frame
public import proofs.«01_k».proof.Proof.LossEq
public import proofs.«01_k».proof.Proof.FfnEq
public import proofs.«01_k».proof.Proof.InAbEq
public import proofs.«01_k».proof.Proof.InCdEq
public import proofs.«01_k».proof.Proof.ScEq
public import proofs.«01_k».proof.Proof.DnEq
public import proofs.«01_k».proof.Proof.PoolEq
public import proofs.«01_k».proof.Proof.SguEq
public import proofs.«01_k».proof.Proof.DnRecurEq
public import proofs.«01_k».proof.Proof.Gen.ScConvFwd.Frame
public import proofs.«01_k».proof.Proof.Gen.DnConvFwd.Frame
public import proofs.«01_k».proof.Proof.Gen.PoolFwd.Frame
public import proofs.«01_k».proof.Proof.Gen.SguFwd.Frame
public import proofs.«01_k».proof.Proof.Gen.DnPrepFwd.Frame
public import proofs.«01_k».proof.Proof.DnFwd
public import proofs.«01_k».proof.Proof.PoolFwd
public import proofs.«01_k».proof.Proof.SguFwd
public import proofs.«01_k».proof.Proof.PrepFwdEq
public import proofs.«01_k».proof.Proof.Gen.InAbFwd.Frame
public import proofs.«01_k».proof.Proof.Gen.InCdFwd.Frame
public import proofs.«01_k».proof.Proof.Gen.OutFwd.Frame
public import proofs.«01_k».proof.Proof.Gen.OutBwd.Frame
public import proofs.«01_k».proof.Proof.Gen.Wgrad.Frame
public import proofs.«01_k».proof.Proof.Gen.Adamw.Frame
public import proofs.«01_k».proof.Proof.Gen.Sum8.Frame
public import proofs.«01_k».proof.Proof.Gen.SumSlots.Frame
public import proofs.«01_k».proof.Proof.Gen.AdamwUp.Frame
public import proofs.«01_k».proof.Proof.Gen.AdamwCd.Frame
public import proofs.«01_k».proof.Proof.Gen.AdamwAb.Frame
public import proofs.«01_k».proof.Proof.Gen.AdamwOut.Frame
public import proofs.«01_k».proof.Proof.Gen.AdamwPack.Frame
public import proofs.«01_k».proof.Proof.Gen.Sum8Cd.Frame
public import proofs.«01_k».proof.Proof.Gen.Sum8Ab.Frame
public import proofs.«01_k».proof.Proof.Gen.Sum8Out.Frame
public import proofs.«01_k».proof.Proof.InAbFwd
public import proofs.«01_k».proof.Proof.InCdFwd
public import proofs.«01_k».proof.Proof.OutFwd
public import proofs.«01_k».proof.Proof.OutBwd
public import proofs.«01_k».proof.Proof.Wgrad
public import proofs.«01_k».proof.Proof.Optim
public import proofs.«01_k».proof.Proof.AdamwCd
public import proofs.«01_k».proof.Proof.AdamwAb
public import proofs.«01_k».proof.Proof.AdamwOut
public import proofs.«01_k».proof.Proof.Sums

@[expose] public section

noncomputable section

namespace Cert.Proof

open Idealize.ShloMosaic Idealize.SL.Sem

/-! The frames of the references: each is its run, read at the arguments; none of them declares a semaphore. -/

theorem frame_loss_ref : Cert.quiescent_LossRefIdeal := fun m ρ _ =>
  (θ_run _ _ _).mono (fun r h => ⟨fun c => (h c).2.2.2, sem_eq_zero_of_no_sems (by decide) r.2⟩) (Cert.LossRefIdeal.Value.run m ρ)
theorem frame_ffn_ref : Cert.quiescent_FfnRefIdeal := fun m ρ _ =>
  (θ_run _ _ _).mono (fun r h => ⟨fun c => (h c).2.2.2.2.2.2.2.2.2.2, sem_eq_zero_of_no_sems (by decide) r.2⟩) (Cert.FfnRefIdeal.Value.run m ρ)
theorem frame_in_ab_ref : Cert.quiescent_InAbBwdRefIdeal := fun m ρ _ =>
  (θ_run _ _ _).mono (fun r h => ⟨fun c => (h c).2.2.2, sem_eq_zero_of_no_sems (by decide) r.2⟩) (Cert.InAbBwdRefIdeal.Value.run m ρ)
theorem frame_in_cd_ref : Cert.quiescent_InCdBwdRefIdeal := fun m ρ _ =>
  (θ_run _ _ _).mono (fun r h => ⟨fun c => (h c).2.2.2, sem_eq_zero_of_no_sems (by decide) r.2⟩) (Cert.InCdBwdRefIdeal.Value.run m ρ)
theorem frame_sc_conv_ref : Cert.quiescent_ScConvBwdRefIdeal := fun m ρ _ =>
  (θ_run _ _ _).mono (fun r h => ⟨fun c => (h c).2.2.2.2, sem_eq_zero_of_no_sems (by decide) r.2⟩) (Cert.ScConvBwdRefIdeal.Value.run m ρ)
theorem frame_dn_conv_ref : Cert.quiescent_DnConvBwdRefIdeal := fun m ρ _ =>
  (θ_run _ _ _).mono (fun r h => ⟨fun c => (h c).2.2, sem_eq_zero_of_no_sems (by decide) r.2⟩) (Cert.DnConvBwdRefIdeal.Value.run m ρ)
theorem frame_pool_ref : Cert.quiescent_PoolBwdRefIdeal := fun m ρ _ =>
  (θ_run _ _ _).mono (fun r h => ⟨fun c => (h c).2.2.2, sem_eq_zero_of_no_sems (by decide) r.2⟩) (Cert.PoolBwdRefIdeal.Value.run m ρ)
theorem frame_sgu_ref : Cert.quiescent_SguBwdRefIdeal := fun m ρ _ =>
  (θ_run _ _ _).mono (fun r h => ⟨fun c => (h c).2.2.2.2.2.2, sem_eq_zero_of_no_sems (by decide) r.2⟩) (Cert.SguBwdRefIdeal.Value.run m ρ)
theorem frame_dn_recur_ref : Cert.quiescent_DnRecurFwdRefIdeal := fun m ρ _ =>
  (θ_run _ _ _).mono (fun r h => ⟨fun c => (h c).2.2.2, sem_eq_zero_of_no_sems (by decide) r.2⟩) (Cert.DnRecurFwdRefIdeal.Value.run m ρ)
theorem frame_sc_conv_fwd_ref : Cert.quiescent_ScConvFwdRefIdeal := fun m ρ _ =>
  (θ_run _ _ _).mono (fun r h => ⟨fun c => (h c).2, sem_eq_zero_of_no_sems (by decide) r.2⟩) (Cert.ScConvFwdRefIdeal.Value.run m ρ)
theorem frame_dn_conv_fwd_ref : Cert.quiescent_DnConvFwdRefIdeal := fun m ρ _ =>
  (θ_run _ _ _).mono (fun r h => ⟨fun c => (h c).2, sem_eq_zero_of_no_sems (by decide) r.2⟩) (Cert.DnConvFwdRefIdeal.Value.run m ρ)
theorem frame_pool_fwd_ref : Cert.quiescent_PoolFwdRefIdeal := fun m ρ _ =>
  (θ_run _ _ _).mono (fun r h => ⟨fun c => (h c).2, sem_eq_zero_of_no_sems (by decide) r.2⟩) (Cert.PoolFwdRefIdeal.Value.run m ρ)
theorem frame_sgu_fwd_ref : Cert.quiescent_SguFwdRefIdeal := fun m ρ _ =>
  (θ_run _ _ _).mono (fun r h => ⟨fun c => (h c).2, sem_eq_zero_of_no_sems (by decide) r.2⟩) (Cert.SguFwdRefIdeal.Value.run m ρ)
theorem frame_dn_prep_fwd_ref : Cert.quiescent_DnPrepFwdRefIdeal := fun m ρ _ =>
  (θ_run _ _ _).mono (fun r h => ⟨fun c => h c, sem_eq_zero_of_no_sems (by decide) r.2⟩) (Cert.DnPrepFwdRefIdeal.Value.run_args m ρ)
theorem frame_in_ab_fwd_ref : Cert.quiescent_InAbFwdRefIdeal := fun m ρ _ =>
  (θ_run _ _ _).mono (fun r h => ⟨fun c => (h c).2.2.2.2, sem_eq_zero_of_no_sems (by decide) r.2⟩) (Cert.InAbFwdRefIdeal.Value.run m ρ)
theorem frame_in_cd_fwd_ref : Cert.quiescent_InCdFwdRefIdeal := fun m ρ _ =>
  (θ_run _ _ _).mono (fun r h => ⟨fun c => (h c).2.2.2.2.2, sem_eq_zero_of_no_sems (by decide) r.2⟩) (Cert.InCdFwdRefIdeal.Value.run m ρ)
theorem frame_out_fwd_ref : Cert.quiescent_OutFwdRefIdeal := fun m ρ _ =>
  (θ_run _ _ _).mono (fun r h => ⟨fun c => (h c).2, sem_eq_zero_of_no_sems (by decide) r.2⟩) (Cert.OutFwdRefIdeal.Value.run m ρ)
theorem frame_out_bwd_ref : Cert.quiescent_OutBwdRefIdeal := fun m ρ _ =>
  (θ_run _ _ _).mono (fun r h => ⟨fun c => (h c).2.2.2, sem_eq_zero_of_no_sems (by decide) r.2⟩) (Cert.OutBwdRefIdeal.Value.run m ρ)
theorem frame_wgrad_ref : Cert.quiescent_WgradRefIdeal := fun m ρ _ =>
  (θ_run _ _ _).mono (fun r h => ⟨fun c => (h c).2, sem_eq_zero_of_no_sems (by decide) r.2⟩) (Cert.WgradRefIdeal.Value.run m ρ)
theorem frame_adamw_ref : Cert.quiescent_AdamwRefIdeal := fun m ρ _ =>
  (θ_run _ _ _).mono (fun r h => ⟨fun c => (h c).2.2.2, sem_eq_zero_of_no_sems (by decide) r.2⟩) (Cert.AdamwRefIdeal.Value.run m ρ)
theorem frame_sum8_ref : Cert.quiescent_Sum8RefIdeal := fun m ρ _ =>
  (θ_run _ _ _).mono (fun r h => ⟨fun c => (h c).2, sem_eq_zero_of_no_sems (by decide) r.2⟩) (Cert.Sum8RefIdeal.Value.run m ρ)
theorem frame_sum_slots_ref : Cert.quiescent_SumSlotsRefIdeal := fun m ρ _ =>
  (θ_run _ _ _).mono (fun r h => ⟨fun c => (h c).2, sem_eq_zero_of_no_sems (by decide) r.2⟩) (Cert.SumSlotsRefIdeal.Value.run m ρ)
theorem frame_adamw_up_ref : Cert.quiescent_AdamwUpRefIdeal := fun m ρ _ =>
  (θ_run _ _ _).mono (fun r h => ⟨fun c => (h c).2.2.2, sem_eq_zero_of_no_sems (by decide) r.2⟩) (Cert.AdamwUpRefIdeal.Value.run m ρ)
theorem frame_adamw_cd_ref : Cert.quiescent_AdamwCdRefIdeal := fun m ρ _ =>
  (θ_run _ _ _).mono (fun r h => ⟨fun c => (h c).2.2.2, sem_eq_zero_of_no_sems (by decide) r.2⟩) (Cert.AdamwCdRefIdeal.Value.run m ρ)
theorem frame_adamw_ab_ref : Cert.quiescent_AdamwAbRefIdeal := fun m ρ _ =>
  (θ_run _ _ _).mono (fun r h => ⟨fun c => (h c).2.2.2, sem_eq_zero_of_no_sems (by decide) r.2⟩) (Cert.AdamwAbRefIdeal.Value.run m ρ)
theorem frame_adamw_out_ref : Cert.quiescent_AdamwOutRefIdeal := fun m ρ _ =>
  (θ_run _ _ _).mono (fun r h => ⟨fun c => (h c).2.2.2, sem_eq_zero_of_no_sems (by decide) r.2⟩) (Cert.AdamwOutRefIdeal.Value.run m ρ)
theorem frame_adamw_pack_ref : Cert.quiescent_AdamwPackRefIdeal := fun m ρ _ =>
  (θ_run _ _ _).mono (fun r h => ⟨fun c => (h c).2.2.2, sem_eq_zero_of_no_sems (by decide) r.2⟩) (Cert.AdamwPackRefIdeal.Value.run m ρ)
theorem frame_sum8_cd_ref : Cert.quiescent_Sum8CdRefIdeal := fun m ρ _ =>
  (θ_run _ _ _).mono (fun r h => ⟨fun c => (h c).2, sem_eq_zero_of_no_sems (by decide) r.2⟩) (Cert.Sum8CdRefIdeal.Value.run m ρ)
theorem frame_sum8_ab_ref : Cert.quiescent_Sum8AbRefIdeal := fun m ρ _ =>
  (θ_run _ _ _).mono (fun r h => ⟨fun c => (h c).2, sem_eq_zero_of_no_sems (by decide) r.2⟩) (Cert.Sum8AbRefIdeal.Value.run m ρ)
theorem frame_sum8_out_ref : Cert.quiescent_Sum8OutRefIdeal := fun m ρ _ =>
  (θ_run _ _ _).mono (fun r h => ⟨fun c => (h c).2, sem_eq_zero_of_no_sems (by decide) r.2⟩) (Cert.Sum8OutRefIdeal.Value.run m ρ)

theorem claim : Cert.Claim := ⟨Cert.Loss.Gen.facts, Cert.LossIdeal.Gen.facts, Cert.LossRefIdeal.Gen.facts,
  Cert.Ffn.Gen.facts, Cert.FfnIdeal.Gen.facts, Cert.FfnRefIdeal.Gen.facts,
  Cert.InAbBwd.Gen.facts, Cert.InAbBwdIdeal.Gen.facts, Cert.InAbBwdRefIdeal.Gen.facts,
  Cert.InCdBwd.Gen.facts, Cert.InCdBwdIdeal.Gen.facts, Cert.InCdBwdRefIdeal.Gen.facts,
  Cert.ScConvBwd.Gen.facts, Cert.ScConvBwdIdeal.Gen.facts, Cert.ScConvBwdRefIdeal.Gen.facts,
  Cert.DnConvBwd.Gen.facts, Cert.DnConvBwdIdeal.Gen.facts, Cert.DnConvBwdRefIdeal.Gen.facts,
  Cert.PoolBwd.Gen.facts, Cert.PoolBwdIdeal.Gen.facts, Cert.PoolBwdRefIdeal.Gen.facts,
  Cert.SguBwd.Gen.facts, Cert.SguBwdIdeal.Gen.facts, Cert.SguBwdRefIdeal.Gen.facts,
  Cert.DnRecurFwd.Gen.facts, Cert.DnRecurFwdIdeal.Gen.facts, Cert.DnRecurFwdRefIdeal.Gen.facts,
  Cert.ScConvFwd.Gen.facts, Cert.ScConvFwdIdeal.Gen.facts, Cert.ScConvFwdRefIdeal.Gen.facts,
  Cert.DnConvFwd.Gen.facts, Cert.DnConvFwdIdeal.Gen.facts, Cert.DnConvFwdRefIdeal.Gen.facts,
  Cert.PoolFwd.Gen.facts, Cert.PoolFwdIdeal.Gen.facts, Cert.PoolFwdRefIdeal.Gen.facts,
  Cert.SguFwd.Gen.facts, Cert.SguFwdIdeal.Gen.facts, Cert.SguFwdRefIdeal.Gen.facts,
  Cert.DnPrepFwd.Gen.facts, Cert.DnPrepFwdIdeal.Gen.facts, Cert.DnPrepFwdRefIdeal.Gen.facts,
  Cert.InAbFwd.Gen.facts, Cert.InAbFwdIdeal.Gen.facts, Cert.InAbFwdRefIdeal.Gen.facts,
  Cert.InCdFwd.Gen.facts, Cert.InCdFwdIdeal.Gen.facts, Cert.InCdFwdRefIdeal.Gen.facts,
  Cert.OutFwd.Gen.facts, Cert.OutFwdIdeal.Gen.facts, Cert.OutFwdRefIdeal.Gen.facts,
  Cert.OutBwd.Gen.facts, Cert.OutBwdIdeal.Gen.facts, Cert.OutBwdRefIdeal.Gen.facts,
  Cert.Wgrad.Gen.facts, Cert.WgradIdeal.Gen.facts, Cert.WgradRefIdeal.Gen.facts,
  Cert.Adamw.Gen.facts, Cert.AdamwIdeal.Gen.facts, Cert.AdamwRefIdeal.Gen.facts,
  Cert.Sum8.Gen.facts, Cert.Sum8Ideal.Gen.facts, Cert.Sum8RefIdeal.Gen.facts,
  Cert.SumSlots.Gen.facts, Cert.SumSlotsIdeal.Gen.facts, Cert.SumSlotsRefIdeal.Gen.facts,
  Cert.AdamwUp.Gen.facts, Cert.AdamwUpIdeal.Gen.facts, Cert.AdamwUpRefIdeal.Gen.facts,
  Cert.AdamwCd.Gen.facts, Cert.AdamwCdIdeal.Gen.facts, Cert.AdamwCdRefIdeal.Gen.facts,
  Cert.AdamwAb.Gen.facts, Cert.AdamwAbIdeal.Gen.facts, Cert.AdamwAbRefIdeal.Gen.facts,
  Cert.AdamwOut.Gen.facts, Cert.AdamwOutIdeal.Gen.facts, Cert.AdamwOutRefIdeal.Gen.facts,
  Cert.AdamwPack.Gen.facts, Cert.AdamwPackIdeal.Gen.facts, Cert.AdamwPackRefIdeal.Gen.facts,
  Cert.Sum8Cd.Gen.facts, Cert.Sum8CdIdeal.Gen.facts, Cert.Sum8CdRefIdeal.Gen.facts,
  Cert.Sum8Ab.Gen.facts, Cert.Sum8AbIdeal.Gen.facts, Cert.Sum8AbRefIdeal.Gen.facts,
  Cert.Sum8Out.Gen.facts, Cert.Sum8OutIdeal.Gen.facts, Cert.Sum8OutRefIdeal.Gen.facts,
  Cert.Pre_finite_ffn.Gen.facts, Cert.Pre_finite_pool.Gen.facts, Cert.Pre_finite_pool_fwd.Gen.facts,
  Cert.Pre_finite_prep.Gen.facts,
  fun m ρ _ => Cert.Loss.Gen.frame m ρ,
  fun m ρ _ => Cert.LossIdeal.Gen.frame m ρ,
  frame_loss_ref,
  fun m ρ _ => Cert.Ffn.Gen.frame m ρ,
  fun m ρ _ => Cert.FfnIdeal.Gen.frame m ρ,
  fun m ρ _ => Cert.FfnIdeal.Gen.frame m ρ,
  frame_ffn_ref,
  fun m ρ _ => frame_ffn_ref m ρ trivial,
  fun m ρ _ => Cert.InAbBwd.Gen.frame m ρ,
  fun m ρ _ => Cert.InAbBwdIdeal.Gen.frame m ρ,
  frame_in_ab_ref,
  fun m ρ _ => Cert.InCdBwd.Gen.frame m ρ,
  fun m ρ _ => Cert.InCdBwdIdeal.Gen.frame m ρ,
  frame_in_cd_ref,
  fun m ρ _ => Cert.ScConvBwd.Gen.frame m ρ,
  fun m ρ _ => Cert.ScConvBwdIdeal.Gen.frame m ρ,
  frame_sc_conv_ref,
  fun m ρ _ => Cert.DnConvBwd.Gen.frame m ρ,
  fun m ρ _ => Cert.DnConvBwdIdeal.Gen.frame m ρ,
  frame_dn_conv_ref,
  fun m ρ _ => Cert.PoolBwd.Gen.frame m ρ,
  fun m ρ _ => Cert.PoolBwdIdeal.Gen.frame m ρ,
  fun m ρ _ => Cert.PoolBwdIdeal.Gen.frame m ρ,
  frame_pool_ref,
  fun m ρ _ => frame_pool_ref m ρ trivial,
  fun m ρ _ => Cert.SguBwd.Gen.frame m ρ,
  fun m ρ _ => Cert.SguBwdIdeal.Gen.frame m ρ,
  frame_sgu_ref,
  fun m ρ _ => Cert.DnRecurFwd.Gen.frame m ρ,
  fun m ρ _ => Cert.DnRecurFwdIdeal.Gen.frame m ρ,
  frame_dn_recur_ref,
  fun m ρ _ => Cert.ScConvFwd.Gen.frame m ρ,
  fun m ρ _ => Cert.ScConvFwdIdeal.Gen.frame m ρ,
  frame_sc_conv_fwd_ref,
  fun m ρ _ => Cert.DnConvFwd.Gen.frame m ρ,
  fun m ρ _ => Cert.DnConvFwdIdeal.Gen.frame m ρ,
  frame_dn_conv_fwd_ref,
  fun m ρ _ => Cert.PoolFwd.Gen.frame m ρ,
  fun m ρ _ => Cert.PoolFwdIdeal.Gen.frame m ρ,
  fun m ρ _ => Cert.PoolFwdIdeal.Gen.frame m ρ,
  frame_pool_fwd_ref,
  fun m ρ _ => frame_pool_fwd_ref m ρ trivial,
  fun m ρ _ => Cert.SguFwd.Gen.frame m ρ,
  fun m ρ _ => Cert.SguFwdIdeal.Gen.frame m ρ,
  frame_sgu_fwd_ref,
  fun m ρ _ => Cert.DnPrepFwd.Gen.frame m ρ,
  fun m ρ _ => Cert.DnPrepFwdIdeal.Gen.frame m ρ,
  fun m ρ _ => Cert.DnPrepFwdIdeal.Gen.frame m ρ,
  frame_dn_prep_fwd_ref,
  fun m ρ _ => frame_dn_prep_fwd_ref m ρ trivial,
  fun m ρ _ => Cert.InAbFwd.Gen.frame m ρ,
  fun m ρ _ => Cert.InAbFwdIdeal.Gen.frame m ρ,
  frame_in_ab_fwd_ref,
  fun m ρ _ => Cert.InCdFwd.Gen.frame m ρ,
  fun m ρ _ => Cert.InCdFwdIdeal.Gen.frame m ρ,
  frame_in_cd_fwd_ref,
  fun m ρ _ => Cert.OutFwd.Gen.frame m ρ,
  fun m ρ _ => Cert.OutFwdIdeal.Gen.frame m ρ,
  frame_out_fwd_ref,
  fun m ρ _ => Cert.OutBwd.Gen.frame m ρ,
  fun m ρ _ => Cert.OutBwdIdeal.Gen.frame m ρ,
  frame_out_bwd_ref,
  fun m ρ _ => Cert.Wgrad.Gen.frame m ρ,
  fun m ρ _ => Cert.WgradIdeal.Gen.frame m ρ,
  frame_wgrad_ref,
  fun m ρ _ => Cert.Adamw.Gen.frame m ρ,
  fun m ρ _ => Cert.AdamwIdeal.Gen.frame m ρ,
  frame_adamw_ref,
  fun m ρ _ => Cert.Sum8.Gen.frame m ρ,
  fun m ρ _ => Cert.Sum8Ideal.Gen.frame m ρ,
  frame_sum8_ref,
  fun m ρ _ => Cert.SumSlots.Gen.frame m ρ,
  fun m ρ _ => Cert.SumSlotsIdeal.Gen.frame m ρ,
  frame_sum_slots_ref,
  fun m ρ _ => Cert.AdamwUp.Gen.frame m ρ,
  fun m ρ _ => Cert.AdamwUpIdeal.Gen.frame m ρ,
  frame_adamw_up_ref,
  fun m ρ _ => Cert.AdamwCd.Gen.frame m ρ,
  fun m ρ _ => Cert.AdamwCdIdeal.Gen.frame m ρ,
  frame_adamw_cd_ref,
  fun m ρ _ => Cert.AdamwAb.Gen.frame m ρ,
  fun m ρ _ => Cert.AdamwAbIdeal.Gen.frame m ρ,
  frame_adamw_ab_ref,
  fun m ρ _ => Cert.AdamwOut.Gen.frame m ρ,
  fun m ρ _ => Cert.AdamwOutIdeal.Gen.frame m ρ,
  frame_adamw_out_ref,
  fun m ρ _ => Cert.AdamwPack.Gen.frame m ρ,
  fun m ρ _ => Cert.AdamwPackIdeal.Gen.frame m ρ,
  frame_adamw_pack_ref,
  fun m ρ _ => Cert.Sum8Cd.Gen.frame m ρ,
  fun m ρ _ => Cert.Sum8CdIdeal.Gen.frame m ρ,
  frame_sum8_cd_ref,
  fun m ρ _ => Cert.Sum8Ab.Gen.frame m ρ,
  fun m ρ _ => Cert.Sum8AbIdeal.Gen.frame m ρ,
  frame_sum8_ab_ref,
  fun m ρ _ => Cert.Sum8Out.Gen.frame m ρ,
  fun m ρ _ => Cert.Sum8OutIdeal.Gen.frame m ρ,
  frame_sum8_out_ref,
  trivial, loss, trivial, ffn, trivial, in_ab, trivial, in_cd, trivial, sc_conv, trivial, dn_conv, trivial, pool, trivial, sgu, trivial, dn_recur, trivial, sc_conv_fwd, trivial, dn_conv_fwd, trivial, pool_fwd, trivial, sgu_fwd, trivial, dn_prep_fwd, trivial, in_ab_fwd, trivial, in_cd_fwd, trivial, out_fwd, trivial, out_bwd, trivial, wgrad, trivial, adamw, trivial, sum8, trivial, sum_slots, trivial, adamw_up, trivial, adamw_cd, trivial, adamw_ab, trivial, adamw_out, trivial, adamw_pack, trivial, sum8_cd, trivial, sum8_ab, trivial, sum8_out⟩

end Cert.Proof

end
